-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))).2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8))).2.2.2.2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8))).2.2.2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.2 = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_gmlp_finite [hPre_gmlp_finite : Cert.Pre_gmlp_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).1 = (fun _ => 1#1)
    ∧ (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.1 = (fun _ => 1#1)
    ∧ (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.1 = (fun _ => 1#1)
    ∧ (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.1 = (fun _ => 1#1)
    ∧ (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.1 = (fun _ => 1#1)
    ∧ (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.2 = (fun _ => 1#1)

def Pre_Inprojf (m : (ℓ : Loc Cert.Inprojf.nD Cert.Inprojf.τ Cert.Inprojf.sig) → Buf (Elt Bits) ℓ) : Prop :=
  True

def Pre_InprojfIdeal (m : (ℓ : Loc Cert.InprojfIdeal.nD Cert.InprojfIdeal.τ Cert.InprojfIdeal.sig) → Buf (Elt Ideal) ℓ) : Prop :=
  True

def Pre_InprojfRefIdeal (m : (ℓ : Loc Cert.InprojfRefIdeal.nD Cert.InprojfRefIdeal.τ Cert.InprojfRefIdeal.sig) → Buf (Elt Ideal) ℓ) : Prop :=
  True

def Pre_Plef (m : (ℓ : Loc Cert.Plef.nD Cert.Plef.τ Cert.Plef.sig) → Buf (Elt Bits) ℓ) : Prop :=
  True

def Pre_PlefIdeal (m : (ℓ : Loc Cert.PlefIdeal.nD Cert.PlefIdeal.τ Cert.PlefIdeal.sig) → Buf (Elt Ideal) ℓ) : Prop :=
  True

def Pre_PlefRefIdeal (m : (ℓ : Loc Cert.PlefRefIdeal.nD Cert.PlefRefIdeal.τ Cert.PlefRefIdeal.sig) → Buf (Elt Ideal) ℓ) : Prop :=
  True

def Pre_Mergef (m : (ℓ : Loc Cert.Mergef.nD Cert.Mergef.τ Cert.Mergef.sig) → Buf (Elt Bits) ℓ) : Prop :=
  True

def Pre_MergefIdeal (m : (ℓ : Loc Cert.MergefIdeal.nD Cert.MergefIdeal.τ Cert.MergefIdeal.sig) → Buf (Elt Ideal) ℓ) : Prop :=
  True

def Pre_MergefRefIdeal (m : (ℓ : Loc Cert.MergefRefIdeal.nD Cert.MergefRefIdeal.τ Cert.MergefRefIdeal.sig) → Buf (Elt Ideal) ℓ) : Prop :=
  True

def Pre_Mlpf (m : (ℓ : Loc Cert.Mlpf.nD Cert.Mlpf.τ Cert.Mlpf.sig) → Buf (Elt Bits) ℓ) : Prop :=
  True

def Pre_MlpfIdeal (m : (ℓ : Loc Cert.MlpfIdeal.nD Cert.MlpfIdeal.τ Cert.MlpfIdeal.sig) → Buf (Elt Ideal) ℓ) : Prop :=
  True

def Pre_MlpfRefIdeal (m : (ℓ : Loc Cert.MlpfRefIdeal.nD Cert.MlpfRefIdeal.τ Cert.MlpfRefIdeal.sig) → Buf (Elt Ideal) ℓ) : Prop :=
  True

def Pre_Ssmp (m : (ℓ : Loc Cert.Ssmp.nD Cert.Ssmp.τ Cert.Ssmp.sig) → Buf (Elt Bits) ℓ) : Prop :=
  True

def Pre_SsmpIdeal (m : (ℓ : Loc Cert.SsmpIdeal.nD Cert.SsmpIdeal.τ Cert.SsmpIdeal.sig) → Buf (Elt Ideal) ℓ) : Prop :=
  True

def Pre_SsmpIdeal_param_finite [hPre_param_finite : Cert.Pre_param_finite.Facts] (m : (ℓ : Loc Cert.SsmpIdeal.nD Cert.SsmpIdeal.τ Cert.SsmpIdeal.sig) → Buf (Elt Ideal) ℓ) : Prop :=
  ∀ c : Dev Cert.SsmpIdeal.nD,
    (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.2.2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.2.2.2.2.1 = (fun _ => 1#1)
    ∧ (Cert.Pre_param_finite.fn (F := Ideal) (m ((c.tc : Thread Cert.SsmpIdeal.nD Cert.SsmpIdeal.τ).loc Cert.SsmpIdeal.main_arg0)) (m ((c.tc : Thread Cert.SsmpIdeal.nD Cert.SsmpIdeal.τ).loc Cert.SsmpIdeal.main_arg1)) (m ((c.tc : Thread Cert.SsmpIdeal.nD Cert.SsmpIdeal.τ).loc Cert.SsmpIdeal.main_arg2)) (m ((c.tc : Thread Cert.SsmpIdeal.nD Cert.SsmpIdeal.τ).loc Cert.SsmpIdeal.main_arg3)) (m ((c.tc : Thread Cert.SsmpIdeal.nD Cert.SsmpIdeal.τ).loc Cert.SsmpIdeal.main_arg4)) (m ((c.tc : Thread Cert.SsmpIdeal.nD Cert.SsmpIdeal.τ).loc Cert.SsmpIdeal.main_arg5)) (m ((c.tc : Thread Cert.SsmpIdeal.nD Cert.SsmpIdeal.τ).loc Cert.SsmpIdeal.main_arg6)) (m ((c.tc : Thread Cert.SsmpIdeal.nD Cert.SsmpIdeal.τ).loc Cert.SsmpIdeal.main_arg7)) (m ((c.tc : Thread Cert.SsmpIdeal.nD Cert.SsmpIdeal.τ).loc Cert.SsmpIdeal.main_arg8)) (m ((c.tc : Thread Cert.SsmpIdeal.nD Cert.SsmpIdeal.τ).loc Cert.SsmpIdeal.main_arg9))).2.2.2.2.2.2.2.2 = (fun _ => 1#1)

def Pre_SsmpRefIdeal (m : (ℓ : Loc Cert.SsmpRefIdeal.nD Cert.SsmpRefIdeal.τ Cert.SsmpRefIdeal.sig) → Buf (Elt Ideal) ℓ) : Prop :=
  True

def Pre_SsmpRefIdeal_param_finite [hPre_param_finite : Cert.Pre_param_finite.Facts] (m : (ℓ : Loc Cert.SsmpRefIdeal.nD Cert.SsmpRefIdeal.τ Cert.SsmpRefIdeal.sig) → Buf (Elt Ideal) ℓ) : Prop :=
  ∀ c : Dev Cert.SsmpRefIdeal.nD,
    (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.2.2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.2.2.2.2.1 = (fun _ => 1#1)
    ∧ (Cert.Pre_param_finite.fn (F := Ideal) (m ((c.tc : Thread Cert.SsmpRefIdeal.nD Cert.SsmpRefIdeal.τ).loc Cert.SsmpRefIdeal.main_arg0)) (m ((c.tc : Thread Cert.SsmpRefIdeal.nD Cert.SsmpRefIdeal.τ).loc Cert.SsmpRefIdeal.main_arg1)) (m ((c.tc : Thread Cert.SsmpRefIdeal.nD Cert.SsmpRefIdeal.τ).loc Cert.SsmpRefIdeal.main_arg2)) (m ((c.tc : Thread Cert.SsmpRefIdeal.nD Cert.SsmpRefIdeal.τ).loc Cert.SsmpRefIdeal.main_arg3)) (m ((c.tc : Thread Cert.SsmpRefIdeal.nD Cert.SsmpRefIdeal.τ).loc Cert.SsmpRefIdeal.main_arg4)) (m ((c.tc : Thread Cert.SsmpRefIdeal.nD Cert.SsmpRefIdeal.τ).loc Cert.SsmpRefIdeal.main_arg5)) (m ((c.tc : Thread Cert.SsmpRefIdeal.nD Cert.SsmpRefIdeal.τ).loc Cert.SsmpRefIdeal.main_arg6)) (m ((c.tc : Thread Cert.SsmpRefIdeal.nD Cert.SsmpRefIdeal.τ).loc Cert.SsmpRefIdeal.main_arg7)) (m ((c.tc : Thread Cert.SsmpRefIdeal.nD Cert.SsmpRefIdeal.τ).loc Cert.SsmpRefIdeal.main_arg8)) (m ((c.tc : Thread Cert.SsmpRefIdeal.nD Cert.SsmpRefIdeal.τ).loc Cert.SsmpRefIdeal.main_arg9))).2.2.2.2.2.2.2.2 = (fun _ => 1#1)

def Pre_Gmlpf (m : (ℓ : Loc Cert.Gmlpf.nD Cert.Gmlpf.τ Cert.Gmlpf.sig) → Buf (Elt Bits) ℓ) : Prop :=
  True

def Pre_GmlpfIdeal (m : (ℓ : Loc Cert.GmlpfIdeal.nD Cert.GmlpfIdeal.τ Cert.GmlpfIdeal.sig) → Buf (Elt Ideal) ℓ) : Prop :=
  True

def Pre_GmlpfRefIdeal (m : (ℓ : Loc Cert.GmlpfRefIdeal.nD Cert.GmlpfRefIdeal.τ Cert.GmlpfRefIdeal.sig) → Buf (Elt Ideal) ℓ) : Prop :=
  True

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfIdeal_attnf_finite [hPre_attnf_finite : Cert.Pre_attnf_finite.Facts] (m : (ℓ : Loc Cert.AttnfIdeal.nD Cert.AttnfIdeal.τ Cert.AttnfIdeal.sig) → Buf (Elt Ideal) ℓ) : Prop :=
  ∀ c : Dev Cert.AttnfIdeal.nD,
    (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2)) (m ((c.tc : Thread Cert.AttnfIdeal.nD Cert.AttnfIdeal.τ).loc Cert.AttnfIdeal.main_arg3)) (m ((c.tc : Thread Cert.AttnfIdeal.nD Cert.AttnfIdeal.τ).loc Cert.AttnfIdeal.main_arg4))).1 = (fun _ => 1#1)
    ∧ (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2)) (m ((c.tc : Thread Cert.AttnfIdeal.nD Cert.AttnfIdeal.τ).loc Cert.AttnfIdeal.main_arg3)) (m ((c.tc : Thread Cert.AttnfIdeal.nD Cert.AttnfIdeal.τ).loc Cert.AttnfIdeal.main_arg4))).2.1 = (fun _ => 1#1)
    ∧ (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2)) (m ((c.tc : Thread Cert.AttnfIdeal.nD Cert.AttnfIdeal.τ).loc Cert.AttnfIdeal.main_arg3)) (m ((c.tc : Thread Cert.AttnfIdeal.nD Cert.AttnfIdeal.τ).loc Cert.AttnfIdeal.main_arg4))).2.2.1 = (fun _ => 1#1)
    ∧ (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2)) (m ((c.tc : Thread Cert.AttnfIdeal.nD Cert.AttnfIdeal.τ).loc Cert.AttnfIdeal.main_arg3)) (m ((c.tc : Thread Cert.AttnfIdeal.nD Cert.AttnfIdeal.τ).loc Cert.AttnfIdeal.main_arg4))).2.2.2 = (fun _ => 1#1)

def Pre_AttnfRefIdeal (m : (ℓ : Loc Cert.AttnfRefIdeal.nD Cert.AttnfRefIdeal.τ Cert.AttnfRefIdeal.sig) → Buf (Elt Ideal) ℓ) : Prop :=
  True

def Pre_AttnfRefIdeal_attnf_finite [hPre_attnf_finite : Cert.Pre_attnf_finite.Facts] (m : (ℓ : Loc Cert.AttnfRefIdeal.nD Cert.AttnfRefIdeal.τ Cert.AttnfRefIdeal.sig) → Buf (Elt Ideal) ℓ) : Prop :=
  ∀ c : Dev Cert.AttnfRefIdeal.nD,
    (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2)) (m ((c.tc : Thread Cert.AttnfRefIdeal.nD Cert.AttnfRefIdeal.τ).loc Cert.AttnfRefIdeal.main_arg3)) (m ((c.tc : Thread Cert.AttnfRefIdeal.nD Cert.AttnfRefIdeal.τ).loc Cert.AttnfRefIdeal.main_arg4))).1 = (fun _ => 1#1)
    ∧ (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2)) (m ((c.tc : Thread Cert.AttnfRefIdeal.nD Cert.AttnfRefIdeal.τ).loc Cert.AttnfRefIdeal.main_arg3)) (m ((c.tc : Thread Cert.AttnfRefIdeal.nD Cert.AttnfRefIdeal.τ).loc Cert.AttnfRefIdeal.main_arg4))).2.1 = (fun _ => 1#1)
    ∧ (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2)) (m ((c.tc : Thread Cert.AttnfRefIdeal.nD Cert.AttnfRefIdeal.τ).loc Cert.AttnfRefIdeal.main_arg3)) (m ((c.tc : Thread Cert.AttnfRefIdeal.nD Cert.AttnfRefIdeal.τ).loc Cert.AttnfRefIdeal.main_arg4))).2.2.1 = (fun _ => 1#1)
    ∧ (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2)) (m ((c.tc : Thread Cert.AttnfRefIdeal.nD Cert.AttnfRefIdeal.τ).loc Cert.AttnfRefIdeal.main_arg3)) (m ((c.tc : Thread Cert.AttnfRefIdeal.nD Cert.AttnfRefIdeal.τ).loc Cert.AttnfRefIdeal.main_arg4))).2.2.2 = (fun _ => 1#1)

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_gmlp_finite [hGmlpIdeal : Cert.GmlpIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_gmlp_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Inprojf [hInprojf : Cert.Inprojf.Facts] : Prop :=
  ∀ (m : (ℓ : Loc Cert.Inprojf.nD Cert.Inprojf.τ Cert.Inprojf.sig) → Buf (Elt Bits) ℓ) (g : Dev Cert.Inprojf.nD → PrngReg), Pre_Inprojf m →
    θ_run (Cert.Inprojf.defs (F := Bits)) (onTc (τ := Cert.Inprojf.τ) (Cert.Inprojf.main (F := Bits))) ⟨m, fun _ => 0, g⟩ (fun r => (∀ c : Dev Cert.Inprojf.nD,
      r.2.mem ((c.tc : Thread Cert.Inprojf.nD Cert.Inprojf.τ).loc Cert.Inprojf.main_arg0) = m ((c.tc : Thread Cert.Inprojf.nD Cert.Inprojf.τ).loc Cert.Inprojf.main_arg0)
      ∧ r.2.mem ((c.tc : Thread Cert.Inprojf.nD Cert.Inprojf.τ).loc Cert.Inprojf.main_arg1) = m ((c.tc : Thread Cert.Inprojf.nD Cert.Inprojf.τ).loc Cert.Inprojf.main_arg1)
      ∧ r.2.mem ((c.tc : Thread Cert.Inprojf.nD Cert.Inprojf.τ).loc Cert.Inprojf.main_arg2) = m ((c.tc : Thread Cert.Inprojf.nD Cert.Inprojf.τ).loc Cert.Inprojf.main_arg2))
      ∧ r.2.sem = fun _ => 0)

def quiescent_InprojfIdeal [hInprojfIdeal : Cert.InprojfIdeal.Facts] : Prop :=
  ∀ (m : (ℓ : Loc Cert.InprojfIdeal.nD Cert.InprojfIdeal.τ Cert.InprojfIdeal.sig) → Buf (Elt Ideal) ℓ) (g : Dev Cert.InprojfIdeal.nD → PrngReg), Pre_InprojfIdeal m →
    θ_run (Cert.InprojfIdeal.defs (F := Ideal)) (onTc (τ := Cert.InprojfIdeal.τ) (Cert.InprojfIdeal.main (F := Ideal))) ⟨m, fun _ => 0, g⟩ (fun r => (∀ c : Dev Cert.InprojfIdeal.nD,
      r.2.mem ((c.tc : Thread Cert.InprojfIdeal.nD Cert.InprojfIdeal.τ).loc Cert.InprojfIdeal.main_arg0) = m ((c.tc : Thread Cert.InprojfIdeal.nD Cert.InprojfIdeal.τ).loc Cert.InprojfIdeal.main_arg0)
      ∧ r.2.mem ((c.tc : Thread Cert.InprojfIdeal.nD Cert.InprojfIdeal.τ).loc Cert.InprojfIdeal.main_arg1) = m ((c.tc : Thread Cert.InprojfIdeal.nD Cert.InprojfIdeal.τ).loc Cert.InprojfIdeal.main_arg1)
      ∧ r.2.mem ((c.tc : Thread Cert.InprojfIdeal.nD Cert.InprojfIdeal.τ).loc Cert.InprojfIdeal.main_arg2) = m ((c.tc : Thread Cert.InprojfIdeal.nD Cert.InprojfIdeal.τ).loc Cert.InprojfIdeal.main_arg2))
      ∧ r.2.sem = fun _ => 0)

def quiescent_InprojfRefIdeal [hInprojfRefIdeal : Cert.InprojfRefIdeal.Facts] : Prop :=
  ∀ (m : (ℓ : Loc Cert.InprojfRefIdeal.nD Cert.InprojfRefIdeal.τ Cert.InprojfRefIdeal.sig) → Buf (Elt Ideal) ℓ) (g : Dev Cert.InprojfRefIdeal.nD → PrngReg), Pre_InprojfRefIdeal m →
    θ_run (Cert.InprojfRefIdeal.defs (F := Ideal)) (onTc (τ := Cert.InprojfRefIdeal.τ) (Cert.InprojfRefIdeal.main (F := Ideal))) ⟨m, fun _ => 0, g⟩ (fun r => (∀ c : Dev Cert.InprojfRefIdeal.nD,
      r.2.mem ((c.tc : Thread Cert.InprojfRefIdeal.nD Cert.InprojfRefIdeal.τ).loc Cert.InprojfRefIdeal.main_arg0) = m ((c.tc : Thread Cert.InprojfRefIdeal.nD Cert.InprojfRefIdeal.τ).loc Cert.InprojfRefIdeal.main_arg0)
      ∧ r.2.mem ((c.tc : Thread Cert.InprojfRefIdeal.nD Cert.InprojfRefIdeal.τ).loc Cert.InprojfRefIdeal.main_arg1) = m ((c.tc : Thread Cert.InprojfRefIdeal.nD Cert.InprojfRefIdeal.τ).loc Cert.InprojfRefIdeal.main_arg1)
      ∧ r.2.mem ((c.tc : Thread Cert.InprojfRefIdeal.nD Cert.InprojfRefIdeal.τ).loc Cert.InprojfRefIdeal.main_arg2) = m ((c.tc : Thread Cert.InprojfRefIdeal.nD Cert.InprojfRefIdeal.τ).loc Cert.InprojfRefIdeal.main_arg2))
      ∧ r.2.sem = fun _ => 0)

def quiescent_Plef [hPlef : Cert.Plef.Facts] : Prop :=
  ∀ (m : (ℓ : Loc Cert.Plef.nD Cert.Plef.τ Cert.Plef.sig) → Buf (Elt Bits) ℓ) (g : Dev Cert.Plef.nD → PrngReg), Pre_Plef m →
    θ_run (Cert.Plef.defs (F := Bits)) (onTc (τ := Cert.Plef.τ) (Cert.Plef.main (F := Bits))) ⟨m, fun _ => 0, g⟩ (fun r => (∀ c : Dev Cert.Plef.nD,
      r.2.mem ((c.tc : Thread Cert.Plef.nD Cert.Plef.τ).loc Cert.Plef.main_arg0) = m ((c.tc : Thread Cert.Plef.nD Cert.Plef.τ).loc Cert.Plef.main_arg0)
      ∧ r.2.mem ((c.tc : Thread Cert.Plef.nD Cert.Plef.τ).loc Cert.Plef.main_arg1) = m ((c.tc : Thread Cert.Plef.nD Cert.Plef.τ).loc Cert.Plef.main_arg1)
      ∧ r.2.mem ((c.tc : Thread Cert.Plef.nD Cert.Plef.τ).loc Cert.Plef.main_arg2) = m ((c.tc : Thread Cert.Plef.nD Cert.Plef.τ).loc Cert.Plef.main_arg2)
      ∧ r.2.mem ((c.tc : Thread Cert.Plef.nD Cert.Plef.τ).loc Cert.Plef.main_arg3) = m ((c.tc : Thread Cert.Plef.nD Cert.Plef.τ).loc Cert.Plef.main_arg3)
      ∧ r.2.mem ((c.tc : Thread Cert.Plef.nD Cert.Plef.τ).loc Cert.Plef.main_arg4) = m ((c.tc : Thread Cert.Plef.nD Cert.Plef.τ).loc Cert.Plef.main_arg4))
      ∧ r.2.sem = fun _ => 0)

def quiescent_PlefIdeal [hPlefIdeal : Cert.PlefIdeal.Facts] : Prop :=
  ∀ (m : (ℓ : Loc Cert.PlefIdeal.nD Cert.PlefIdeal.τ Cert.PlefIdeal.sig) → Buf (Elt Ideal) ℓ) (g : Dev Cert.PlefIdeal.nD → PrngReg), Pre_PlefIdeal m →
    θ_run (Cert.PlefIdeal.defs (F := Ideal)) (onTc (τ := Cert.PlefIdeal.τ) (Cert.PlefIdeal.main (F := Ideal))) ⟨m, fun _ => 0, g⟩ (fun r => (∀ c : Dev Cert.PlefIdeal.nD,
      r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
      ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
      ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
      ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
      ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ r.2.sem = fun _ => 0)

def quiescent_PlefRefIdeal [hPlefRefIdeal : Cert.PlefRefIdeal.Facts] : Prop :=
  ∀ (m : (ℓ : Loc Cert.PlefRefIdeal.nD Cert.PlefRefIdeal.τ Cert.PlefRefIdeal.sig) → Buf (Elt Ideal) ℓ) (g : Dev Cert.PlefRefIdeal.nD → PrngReg), Pre_PlefRefIdeal m →
    θ_run (Cert.PlefRefIdeal.defs (F := Ideal)) (onTc (τ := Cert.PlefRefIdeal.τ) (Cert.PlefRefIdeal.main (F := Ideal))) ⟨m, fun _ => 0, g⟩ (fun r => (∀ c : Dev Cert.PlefRefIdeal.nD,
      r.2.mem ((c.tc : Thread Cert.PlefRefIdeal.nD Cert.PlefRefIdeal.τ).loc Cert.PlefRefIdeal.main_arg0) = m ((c.tc : Thread Cert.PlefRefIdeal.nD Cert.PlefRefIdeal.τ).loc Cert.PlefRefIdeal.main_arg0)
      ∧ r.2.mem ((c.tc : Thread Cert.PlefRefIdeal.nD Cert.PlefRefIdeal.τ).loc Cert.PlefRefIdeal.main_arg1) = m ((c.tc : Thread Cert.PlefRefIdeal.nD Cert.PlefRefIdeal.τ).loc Cert.PlefRefIdeal.main_arg1)
      ∧ r.2.mem ((c.tc : Thread Cert.PlefRefIdeal.nD Cert.PlefRefIdeal.τ).loc Cert.PlefRefIdeal.main_arg2) = m ((c.tc : Thread Cert.PlefRefIdeal.nD Cert.PlefRefIdeal.τ).loc Cert.PlefRefIdeal.main_arg2)
      ∧ r.2.mem ((c.tc : Thread Cert.PlefRefIdeal.nD Cert.PlefRefIdeal.τ).loc Cert.PlefRefIdeal.main_arg3) = m ((c.tc : Thread Cert.PlefRefIdeal.nD Cert.PlefRefIdeal.τ).loc Cert.PlefRefIdeal.main_arg3)
      ∧ r.2.mem ((c.tc : Thread Cert.PlefRefIdeal.nD Cert.PlefRefIdeal.τ).loc Cert.PlefRefIdeal.main_arg4) = m ((c.tc : Thread Cert.PlefRefIdeal.nD Cert.PlefRefIdeal.τ).loc Cert.PlefRefIdeal.main_arg4))
      ∧ r.2.sem = fun _ => 0)

def quiescent_Mergef [hMergef : Cert.Mergef.Facts] : Prop :=
  ∀ (m : (ℓ : Loc Cert.Mergef.nD Cert.Mergef.τ Cert.Mergef.sig) → Buf (Elt Bits) ℓ) (g : Dev Cert.Mergef.nD → PrngReg), Pre_Mergef m →
    θ_run (Cert.Mergef.defs (F := Bits)) (onTc (τ := Cert.Mergef.τ) (Cert.Mergef.main (F := Bits))) ⟨m, fun _ => 0, g⟩ (fun r => (∀ c : Dev Cert.Mergef.nD,
      r.2.mem ((c.tc : Thread Cert.Mergef.nD Cert.Mergef.τ).loc Cert.Mergef.main_arg0) = m ((c.tc : Thread Cert.Mergef.nD Cert.Mergef.τ).loc Cert.Mergef.main_arg0)
      ∧ r.2.mem ((c.tc : Thread Cert.Mergef.nD Cert.Mergef.τ).loc Cert.Mergef.main_arg1) = m ((c.tc : Thread Cert.Mergef.nD Cert.Mergef.τ).loc Cert.Mergef.main_arg1)
      ∧ r.2.mem ((c.tc : Thread Cert.Mergef.nD Cert.Mergef.τ).loc Cert.Mergef.main_arg2) = m ((c.tc : Thread Cert.Mergef.nD Cert.Mergef.τ).loc Cert.Mergef.main_arg2)
      ∧ r.2.mem ((c.tc : Thread Cert.Mergef.nD Cert.Mergef.τ).loc Cert.Mergef.main_arg3) = m ((c.tc : Thread Cert.Mergef.nD Cert.Mergef.τ).loc Cert.Mergef.main_arg3)
      ∧ r.2.mem ((c.tc : Thread Cert.Mergef.nD Cert.Mergef.τ).loc Cert.Mergef.main_arg4) = m ((c.tc : Thread Cert.Mergef.nD Cert.Mergef.τ).loc Cert.Mergef.main_arg4)
      ∧ r.2.mem ((c.tc : Thread Cert.Mergef.nD Cert.Mergef.τ).loc Cert.Mergef.main_arg5) = m ((c.tc : Thread Cert.Mergef.nD Cert.Mergef.τ).loc Cert.Mergef.main_arg5))
      ∧ r.2.sem = fun _ => 0)

def quiescent_MergefIdeal [hMergefIdeal : Cert.MergefIdeal.Facts] : Prop :=
  ∀ (m : (ℓ : Loc Cert.MergefIdeal.nD Cert.MergefIdeal.τ Cert.MergefIdeal.sig) → Buf (Elt Ideal) ℓ) (g : Dev Cert.MergefIdeal.nD → PrngReg), Pre_MergefIdeal m →
    θ_run (Cert.MergefIdeal.defs (F := Ideal)) (onTc (τ := Cert.MergefIdeal.τ) (Cert.MergefIdeal.main (F := Ideal))) ⟨m, fun _ => 0, g⟩ (fun r => (∀ c : Dev Cert.MergefIdeal.nD,
      r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
      ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
      ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
      ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
      ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4)
      ∧ r.2.mem ((c.tc : Thread Cert.MergefIdeal.nD Cert.MergefIdeal.τ).loc Cert.MergefIdeal.main_arg5) = m ((c.tc : Thread Cert.MergefIdeal.nD Cert.MergefIdeal.τ).loc Cert.MergefIdeal.main_arg5))
      ∧ r.2.sem = fun _ => 0)

def quiescent_MergefRefIdeal [hMergefRefIdeal : Cert.MergefRefIdeal.Facts] : Prop :=
  ∀ (m : (ℓ : Loc Cert.MergefRefIdeal.nD Cert.MergefRefIdeal.τ Cert.MergefRefIdeal.sig) → Buf (Elt Ideal) ℓ) (g : Dev Cert.MergefRefIdeal.nD → PrngReg), Pre_MergefRefIdeal m →
    θ_run (Cert.MergefRefIdeal.defs (F := Ideal)) (onTc (τ := Cert.MergefRefIdeal.τ) (Cert.MergefRefIdeal.main (F := Ideal))) ⟨m, fun _ => 0, g⟩ (fun r => (∀ c : Dev Cert.MergefRefIdeal.nD,
      r.2.mem ((c.tc : Thread Cert.MergefRefIdeal.nD Cert.MergefRefIdeal.τ).loc Cert.MergefRefIdeal.main_arg0) = m ((c.tc : Thread Cert.MergefRefIdeal.nD Cert.MergefRefIdeal.τ).loc Cert.MergefRefIdeal.main_arg0)
      ∧ r.2.mem ((c.tc : Thread Cert.MergefRefIdeal.nD Cert.MergefRefIdeal.τ).loc Cert.MergefRefIdeal.main_arg1) = m ((c.tc : Thread Cert.MergefRefIdeal.nD Cert.MergefRefIdeal.τ).loc Cert.MergefRefIdeal.main_arg1)
      ∧ r.2.mem ((c.tc : Thread Cert.MergefRefIdeal.nD Cert.MergefRefIdeal.τ).loc Cert.MergefRefIdeal.main_arg2) = m ((c.tc : Thread Cert.MergefRefIdeal.nD Cert.MergefRefIdeal.τ).loc Cert.MergefRefIdeal.main_arg2)
      ∧ r.2.mem ((c.tc : Thread Cert.MergefRefIdeal.nD Cert.MergefRefIdeal.τ).loc Cert.MergefRefIdeal.main_arg3) = m ((c.tc : Thread Cert.MergefRefIdeal.nD Cert.MergefRefIdeal.τ).loc Cert.MergefRefIdeal.main_arg3)
      ∧ r.2.mem ((c.tc : Thread Cert.MergefRefIdeal.nD Cert.MergefRefIdeal.τ).loc Cert.MergefRefIdeal.main_arg4) = m ((c.tc : Thread Cert.MergefRefIdeal.nD Cert.MergefRefIdeal.τ).loc Cert.MergefRefIdeal.main_arg4)
      ∧ r.2.mem ((c.tc : Thread Cert.MergefRefIdeal.nD Cert.MergefRefIdeal.τ).loc Cert.MergefRefIdeal.main_arg5) = m ((c.tc : Thread Cert.MergefRefIdeal.nD Cert.MergefRefIdeal.τ).loc Cert.MergefRefIdeal.main_arg5))
      ∧ r.2.sem = fun _ => 0)

def quiescent_Mlpf [hMlpf : Cert.Mlpf.Facts] : Prop :=
  ∀ (m : (ℓ : Loc Cert.Mlpf.nD Cert.Mlpf.τ Cert.Mlpf.sig) → Buf (Elt Bits) ℓ) (g : Dev Cert.Mlpf.nD → PrngReg), Pre_Mlpf m →
    θ_run (Cert.Mlpf.defs (F := Bits)) (onTc (τ := Cert.Mlpf.τ) (Cert.Mlpf.main (F := Bits))) ⟨m, fun _ => 0, g⟩ (fun r => (∀ c : Dev Cert.Mlpf.nD,
      r.2.mem ((c.tc : Thread Cert.Mlpf.nD Cert.Mlpf.τ).loc Cert.Mlpf.main_arg0) = m ((c.tc : Thread Cert.Mlpf.nD Cert.Mlpf.τ).loc Cert.Mlpf.main_arg0)
      ∧ r.2.mem ((c.tc : Thread Cert.Mlpf.nD Cert.Mlpf.τ).loc Cert.Mlpf.main_arg1) = m ((c.tc : Thread Cert.Mlpf.nD Cert.Mlpf.τ).loc Cert.Mlpf.main_arg1)
      ∧ r.2.mem ((c.tc : Thread Cert.Mlpf.nD Cert.Mlpf.τ).loc Cert.Mlpf.main_arg2) = m ((c.tc : Thread Cert.Mlpf.nD Cert.Mlpf.τ).loc Cert.Mlpf.main_arg2)
      ∧ r.2.mem ((c.tc : Thread Cert.Mlpf.nD Cert.Mlpf.τ).loc Cert.Mlpf.main_arg3) = m ((c.tc : Thread Cert.Mlpf.nD Cert.Mlpf.τ).loc Cert.Mlpf.main_arg3))
      ∧ r.2.sem = fun _ => 0)

def quiescent_MlpfIdeal [hMlpfIdeal : Cert.MlpfIdeal.Facts] : Prop :=
  ∀ (m : (ℓ : Loc Cert.MlpfIdeal.nD Cert.MlpfIdeal.τ Cert.MlpfIdeal.sig) → Buf (Elt Ideal) ℓ) (g : Dev Cert.MlpfIdeal.nD → PrngReg), Pre_MlpfIdeal m →
    θ_run (Cert.MlpfIdeal.defs (F := Ideal)) (onTc (τ := Cert.MlpfIdeal.τ) (Cert.MlpfIdeal.main (F := Ideal))) ⟨m, fun _ => 0, g⟩ (fun r => (∀ c : Dev Cert.MlpfIdeal.nD,
      r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
      ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
      ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
      ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3))
      ∧ r.2.sem = fun _ => 0)

def quiescent_MlpfRefIdeal [hMlpfRefIdeal : Cert.MlpfRefIdeal.Facts] : Prop :=
  ∀ (m : (ℓ : Loc Cert.MlpfRefIdeal.nD Cert.MlpfRefIdeal.τ Cert.MlpfRefIdeal.sig) → Buf (Elt Ideal) ℓ) (g : Dev Cert.MlpfRefIdeal.nD → PrngReg), Pre_MlpfRefIdeal m →
    θ_run (Cert.MlpfRefIdeal.defs (F := Ideal)) (onTc (τ := Cert.MlpfRefIdeal.τ) (Cert.MlpfRefIdeal.main (F := Ideal))) ⟨m, fun _ => 0, g⟩ (fun r => (∀ c : Dev Cert.MlpfRefIdeal.nD,
      r.2.mem ((c.tc : Thread Cert.MlpfRefIdeal.nD Cert.MlpfRefIdeal.τ).loc Cert.MlpfRefIdeal.main_arg0) = m ((c.tc : Thread Cert.MlpfRefIdeal.nD Cert.MlpfRefIdeal.τ).loc Cert.MlpfRefIdeal.main_arg0)
      ∧ r.2.mem ((c.tc : Thread Cert.MlpfRefIdeal.nD Cert.MlpfRefIdeal.τ).loc Cert.MlpfRefIdeal.main_arg1) = m ((c.tc : Thread Cert.MlpfRefIdeal.nD Cert.MlpfRefIdeal.τ).loc Cert.MlpfRefIdeal.main_arg1)
      ∧ r.2.mem ((c.tc : Thread Cert.MlpfRefIdeal.nD Cert.MlpfRefIdeal.τ).loc Cert.MlpfRefIdeal.main_arg2) = m ((c.tc : Thread Cert.MlpfRefIdeal.nD Cert.MlpfRefIdeal.τ).loc Cert.MlpfRefIdeal.main_arg2)
      ∧ r.2.mem ((c.tc : Thread Cert.MlpfRefIdeal.nD Cert.MlpfRefIdeal.τ).loc Cert.MlpfRefIdeal.main_arg3) = m ((c.tc : Thread Cert.MlpfRefIdeal.nD Cert.MlpfRefIdeal.τ).loc Cert.MlpfRefIdeal.main_arg3))
      ∧ r.2.sem = fun _ => 0)

def quiescent_Ssmp [hSsmp : Cert.Ssmp.Facts] : Prop :=
  ∀ (m : (ℓ : Loc Cert.Ssmp.nD Cert.Ssmp.τ Cert.Ssmp.sig) → Buf (Elt Bits) ℓ) (g : Dev Cert.Ssmp.nD → PrngReg), Pre_Ssmp m →
    θ_run (Cert.Ssmp.defs (F := Bits)) (onTc (τ := Cert.Ssmp.τ) (Cert.Ssmp.main (F := Bits))) ⟨m, fun _ => 0, g⟩ (fun r => (∀ c : Dev Cert.Ssmp.nD,
      r.2.mem ((c.tc : Thread Cert.Ssmp.nD Cert.Ssmp.τ).loc Cert.Ssmp.main_arg0) = m ((c.tc : Thread Cert.Ssmp.nD Cert.Ssmp.τ).loc Cert.Ssmp.main_arg0)
      ∧ r.2.mem ((c.tc : Thread Cert.Ssmp.nD Cert.Ssmp.τ).loc Cert.Ssmp.main_arg1) = m ((c.tc : Thread Cert.Ssmp.nD Cert.Ssmp.τ).loc Cert.Ssmp.main_arg1)
      ∧ r.2.mem ((c.tc : Thread Cert.Ssmp.nD Cert.Ssmp.τ).loc Cert.Ssmp.main_arg2) = m ((c.tc : Thread Cert.Ssmp.nD Cert.Ssmp.τ).loc Cert.Ssmp.main_arg2)
      ∧ r.2.mem ((c.tc : Thread Cert.Ssmp.nD Cert.Ssmp.τ).loc Cert.Ssmp.main_arg3) = m ((c.tc : Thread Cert.Ssmp.nD Cert.Ssmp.τ).loc Cert.Ssmp.main_arg3)
      ∧ r.2.mem ((c.tc : Thread Cert.Ssmp.nD Cert.Ssmp.τ).loc Cert.Ssmp.main_arg4) = m ((c.tc : Thread Cert.Ssmp.nD Cert.Ssmp.τ).loc Cert.Ssmp.main_arg4)
      ∧ r.2.mem ((c.tc : Thread Cert.Ssmp.nD Cert.Ssmp.τ).loc Cert.Ssmp.main_arg5) = m ((c.tc : Thread Cert.Ssmp.nD Cert.Ssmp.τ).loc Cert.Ssmp.main_arg5)
      ∧ r.2.mem ((c.tc : Thread Cert.Ssmp.nD Cert.Ssmp.τ).loc Cert.Ssmp.main_arg6) = m ((c.tc : Thread Cert.Ssmp.nD Cert.Ssmp.τ).loc Cert.Ssmp.main_arg6)
      ∧ r.2.mem ((c.tc : Thread Cert.Ssmp.nD Cert.Ssmp.τ).loc Cert.Ssmp.main_arg7) = m ((c.tc : Thread Cert.Ssmp.nD Cert.Ssmp.τ).loc Cert.Ssmp.main_arg7)
      ∧ r.2.mem ((c.tc : Thread Cert.Ssmp.nD Cert.Ssmp.τ).loc Cert.Ssmp.main_arg8) = m ((c.tc : Thread Cert.Ssmp.nD Cert.Ssmp.τ).loc Cert.Ssmp.main_arg8)
      ∧ r.2.mem ((c.tc : Thread Cert.Ssmp.nD Cert.Ssmp.τ).loc Cert.Ssmp.main_arg9) = m ((c.tc : Thread Cert.Ssmp.nD Cert.Ssmp.τ).loc Cert.Ssmp.main_arg9))
      ∧ r.2.sem = fun _ => 0)

def quiescent_SsmpIdeal [hSsmpIdeal : Cert.SsmpIdeal.Facts] : Prop :=
  ∀ (m : (ℓ : Loc Cert.SsmpIdeal.nD Cert.SsmpIdeal.τ Cert.SsmpIdeal.sig) → Buf (Elt Ideal) ℓ) (g : Dev Cert.SsmpIdeal.nD → PrngReg), Pre_SsmpIdeal m →
    θ_run (Cert.SsmpIdeal.defs (F := Ideal)) (onTc (τ := Cert.SsmpIdeal.τ) (Cert.SsmpIdeal.main (F := Ideal))) ⟨m, fun _ => 0, g⟩ (fun r => (∀ c : Dev Cert.SsmpIdeal.nD,
      r.2.mem ((c.tc : Thread Cert.SsmpIdeal.nD Cert.SsmpIdeal.τ).loc Cert.SsmpIdeal.main_arg0) = m ((c.tc : Thread Cert.SsmpIdeal.nD Cert.SsmpIdeal.τ).loc Cert.SsmpIdeal.main_arg0)
      ∧ r.2.mem ((c.tc : Thread Cert.SsmpIdeal.nD Cert.SsmpIdeal.τ).loc Cert.SsmpIdeal.main_arg1) = m ((c.tc : Thread Cert.SsmpIdeal.nD Cert.SsmpIdeal.τ).loc Cert.SsmpIdeal.main_arg1)
      ∧ r.2.mem ((c.tc : Thread Cert.SsmpIdeal.nD Cert.SsmpIdeal.τ).loc Cert.SsmpIdeal.main_arg2) = m ((c.tc : Thread Cert.SsmpIdeal.nD Cert.SsmpIdeal.τ).loc Cert.SsmpIdeal.main_arg2)
      ∧ r.2.mem ((c.tc : Thread Cert.SsmpIdeal.nD Cert.SsmpIdeal.τ).loc Cert.SsmpIdeal.main_arg3) = m ((c.tc : Thread Cert.SsmpIdeal.nD Cert.SsmpIdeal.τ).loc Cert.SsmpIdeal.main_arg3)
      ∧ r.2.mem ((c.tc : Thread Cert.SsmpIdeal.nD Cert.SsmpIdeal.τ).loc Cert.SsmpIdeal.main_arg4) = m ((c.tc : Thread Cert.SsmpIdeal.nD Cert.SsmpIdeal.τ).loc Cert.SsmpIdeal.main_arg4)
      ∧ r.2.mem ((c.tc : Thread Cert.SsmpIdeal.nD Cert.SsmpIdeal.τ).loc Cert.SsmpIdeal.main_arg5) = m ((c.tc : Thread Cert.SsmpIdeal.nD Cert.SsmpIdeal.τ).loc Cert.SsmpIdeal.main_arg5)
      ∧ r.2.mem ((c.tc : Thread Cert.SsmpIdeal.nD Cert.SsmpIdeal.τ).loc Cert.SsmpIdeal.main_arg6) = m ((c.tc : Thread Cert.SsmpIdeal.nD Cert.SsmpIdeal.τ).loc Cert.SsmpIdeal.main_arg6)
      ∧ r.2.mem ((c.tc : Thread Cert.SsmpIdeal.nD Cert.SsmpIdeal.τ).loc Cert.SsmpIdeal.main_arg7) = m ((c.tc : Thread Cert.SsmpIdeal.nD Cert.SsmpIdeal.τ).loc Cert.SsmpIdeal.main_arg7)
      ∧ r.2.mem ((c.tc : Thread Cert.SsmpIdeal.nD Cert.SsmpIdeal.τ).loc Cert.SsmpIdeal.main_arg8) = m ((c.tc : Thread Cert.SsmpIdeal.nD Cert.SsmpIdeal.τ).loc Cert.SsmpIdeal.main_arg8)
      ∧ r.2.mem ((c.tc : Thread Cert.SsmpIdeal.nD Cert.SsmpIdeal.τ).loc Cert.SsmpIdeal.main_arg9) = m ((c.tc : Thread Cert.SsmpIdeal.nD Cert.SsmpIdeal.τ).loc Cert.SsmpIdeal.main_arg9))
      ∧ r.2.sem = fun _ => 0)

def quiescent_SsmpIdeal_pre_param_finite [hSsmpIdeal : Cert.SsmpIdeal.Facts] [hPre_param_finite : Cert.Pre_param_finite.Facts] : Prop :=
  ∀ (m : (ℓ : Loc Cert.SsmpIdeal.nD Cert.SsmpIdeal.τ Cert.SsmpIdeal.sig) → Buf (Elt Ideal) ℓ) (g : Dev Cert.SsmpIdeal.nD → PrngReg), Pre_SsmpIdeal_param_finite m →
    θ_run (Cert.SsmpIdeal.defs (F := Ideal)) (onTc (τ := Cert.SsmpIdeal.τ) (Cert.SsmpIdeal.main (F := Ideal))) ⟨m, fun _ => 0, g⟩ (fun r => (∀ c : Dev Cert.SsmpIdeal.nD,
      r.2.mem ((c.tc : Thread Cert.SsmpIdeal.nD Cert.SsmpIdeal.τ).loc Cert.SsmpIdeal.main_arg0) = m ((c.tc : Thread Cert.SsmpIdeal.nD Cert.SsmpIdeal.τ).loc Cert.SsmpIdeal.main_arg0)
      ∧ r.2.mem ((c.tc : Thread Cert.SsmpIdeal.nD Cert.SsmpIdeal.τ).loc Cert.SsmpIdeal.main_arg1) = m ((c.tc : Thread Cert.SsmpIdeal.nD Cert.SsmpIdeal.τ).loc Cert.SsmpIdeal.main_arg1)
      ∧ r.2.mem ((c.tc : Thread Cert.SsmpIdeal.nD Cert.SsmpIdeal.τ).loc Cert.SsmpIdeal.main_arg2) = m ((c.tc : Thread Cert.SsmpIdeal.nD Cert.SsmpIdeal.τ).loc Cert.SsmpIdeal.main_arg2)
      ∧ r.2.mem ((c.tc : Thread Cert.SsmpIdeal.nD Cert.SsmpIdeal.τ).loc Cert.SsmpIdeal.main_arg3) = m ((c.tc : Thread Cert.SsmpIdeal.nD Cert.SsmpIdeal.τ).loc Cert.SsmpIdeal.main_arg3)
      ∧ r.2.mem ((c.tc : Thread Cert.SsmpIdeal.nD Cert.SsmpIdeal.τ).loc Cert.SsmpIdeal.main_arg4) = m ((c.tc : Thread Cert.SsmpIdeal.nD Cert.SsmpIdeal.τ).loc Cert.SsmpIdeal.main_arg4)
      ∧ r.2.mem ((c.tc : Thread Cert.SsmpIdeal.nD Cert.SsmpIdeal.τ).loc Cert.SsmpIdeal.main_arg5) = m ((c.tc : Thread Cert.SsmpIdeal.nD Cert.SsmpIdeal.τ).loc Cert.SsmpIdeal.main_arg5)
      ∧ r.2.mem ((c.tc : Thread Cert.SsmpIdeal.nD Cert.SsmpIdeal.τ).loc Cert.SsmpIdeal.main_arg6) = m ((c.tc : Thread Cert.SsmpIdeal.nD Cert.SsmpIdeal.τ).loc Cert.SsmpIdeal.main_arg6)
      ∧ r.2.mem ((c.tc : Thread Cert.SsmpIdeal.nD Cert.SsmpIdeal.τ).loc Cert.SsmpIdeal.main_arg7) = m ((c.tc : Thread Cert.SsmpIdeal.nD Cert.SsmpIdeal.τ).loc Cert.SsmpIdeal.main_arg7)
      ∧ r.2.mem ((c.tc : Thread Cert.SsmpIdeal.nD Cert.SsmpIdeal.τ).loc Cert.SsmpIdeal.main_arg8) = m ((c.tc : Thread Cert.SsmpIdeal.nD Cert.SsmpIdeal.τ).loc Cert.SsmpIdeal.main_arg8)
      ∧ r.2.mem ((c.tc : Thread Cert.SsmpIdeal.nD Cert.SsmpIdeal.τ).loc Cert.SsmpIdeal.main_arg9) = m ((c.tc : Thread Cert.SsmpIdeal.nD Cert.SsmpIdeal.τ).loc Cert.SsmpIdeal.main_arg9))
      ∧ r.2.sem = fun _ => 0)

def quiescent_SsmpRefIdeal [hSsmpRefIdeal : Cert.SsmpRefIdeal.Facts] : Prop :=
  ∀ (m : (ℓ : Loc Cert.SsmpRefIdeal.nD Cert.SsmpRefIdeal.τ Cert.SsmpRefIdeal.sig) → Buf (Elt Ideal) ℓ) (g : Dev Cert.SsmpRefIdeal.nD → PrngReg), Pre_SsmpRefIdeal m →
    θ_run (Cert.SsmpRefIdeal.defs (F := Ideal)) (onTc (τ := Cert.SsmpRefIdeal.τ) (Cert.SsmpRefIdeal.main (F := Ideal))) ⟨m, fun _ => 0, g⟩ (fun r => (∀ c : Dev Cert.SsmpRefIdeal.nD,
      r.2.mem ((c.tc : Thread Cert.SsmpRefIdeal.nD Cert.SsmpRefIdeal.τ).loc Cert.SsmpRefIdeal.main_arg0) = m ((c.tc : Thread Cert.SsmpRefIdeal.nD Cert.SsmpRefIdeal.τ).loc Cert.SsmpRefIdeal.main_arg0)
      ∧ r.2.mem ((c.tc : Thread Cert.SsmpRefIdeal.nD Cert.SsmpRefIdeal.τ).loc Cert.SsmpRefIdeal.main_arg1) = m ((c.tc : Thread Cert.SsmpRefIdeal.nD Cert.SsmpRefIdeal.τ).loc Cert.SsmpRefIdeal.main_arg1)
      ∧ r.2.mem ((c.tc : Thread Cert.SsmpRefIdeal.nD Cert.SsmpRefIdeal.τ).loc Cert.SsmpRefIdeal.main_arg2) = m ((c.tc : Thread Cert.SsmpRefIdeal.nD Cert.SsmpRefIdeal.τ).loc Cert.SsmpRefIdeal.main_arg2)
      ∧ r.2.mem ((c.tc : Thread Cert.SsmpRefIdeal.nD Cert.SsmpRefIdeal.τ).loc Cert.SsmpRefIdeal.main_arg3) = m ((c.tc : Thread Cert.SsmpRefIdeal.nD Cert.SsmpRefIdeal.τ).loc Cert.SsmpRefIdeal.main_arg3)
      ∧ r.2.mem ((c.tc : Thread Cert.SsmpRefIdeal.nD Cert.SsmpRefIdeal.τ).loc Cert.SsmpRefIdeal.main_arg4) = m ((c.tc : Thread Cert.SsmpRefIdeal.nD Cert.SsmpRefIdeal.τ).loc Cert.SsmpRefIdeal.main_arg4)
      ∧ r.2.mem ((c.tc : Thread Cert.SsmpRefIdeal.nD Cert.SsmpRefIdeal.τ).loc Cert.SsmpRefIdeal.main_arg5) = m ((c.tc : Thread Cert.SsmpRefIdeal.nD Cert.SsmpRefIdeal.τ).loc Cert.SsmpRefIdeal.main_arg5)
      ∧ r.2.mem ((c.tc : Thread Cert.SsmpRefIdeal.nD Cert.SsmpRefIdeal.τ).loc Cert.SsmpRefIdeal.main_arg6) = m ((c.tc : Thread Cert.SsmpRefIdeal.nD Cert.SsmpRefIdeal.τ).loc Cert.SsmpRefIdeal.main_arg6)
      ∧ r.2.mem ((c.tc : Thread Cert.SsmpRefIdeal.nD Cert.SsmpRefIdeal.τ).loc Cert.SsmpRefIdeal.main_arg7) = m ((c.tc : Thread Cert.SsmpRefIdeal.nD Cert.SsmpRefIdeal.τ).loc Cert.SsmpRefIdeal.main_arg7)
      ∧ r.2.mem ((c.tc : Thread Cert.SsmpRefIdeal.nD Cert.SsmpRefIdeal.τ).loc Cert.SsmpRefIdeal.main_arg8) = m ((c.tc : Thread Cert.SsmpRefIdeal.nD Cert.SsmpRefIdeal.τ).loc Cert.SsmpRefIdeal.main_arg8)
      ∧ r.2.mem ((c.tc : Thread Cert.SsmpRefIdeal.nD Cert.SsmpRefIdeal.τ).loc Cert.SsmpRefIdeal.main_arg9) = m ((c.tc : Thread Cert.SsmpRefIdeal.nD Cert.SsmpRefIdeal.τ).loc Cert.SsmpRefIdeal.main_arg9))
      ∧ r.2.sem = fun _ => 0)

def quiescent_SsmpRefIdeal_pre_param_finite [hSsmpRefIdeal : Cert.SsmpRefIdeal.Facts] [hPre_param_finite : Cert.Pre_param_finite.Facts] : Prop :=
  ∀ (m : (ℓ : Loc Cert.SsmpRefIdeal.nD Cert.SsmpRefIdeal.τ Cert.SsmpRefIdeal.sig) → Buf (Elt Ideal) ℓ) (g : Dev Cert.SsmpRefIdeal.nD → PrngReg), Pre_SsmpRefIdeal_param_finite m →
    θ_run (Cert.SsmpRefIdeal.defs (F := Ideal)) (onTc (τ := Cert.SsmpRefIdeal.τ) (Cert.SsmpRefIdeal.main (F := Ideal))) ⟨m, fun _ => 0, g⟩ (fun r => (∀ c : Dev Cert.SsmpRefIdeal.nD,
      r.2.mem ((c.tc : Thread Cert.SsmpRefIdeal.nD Cert.SsmpRefIdeal.τ).loc Cert.SsmpRefIdeal.main_arg0) = m ((c.tc : Thread Cert.SsmpRefIdeal.nD Cert.SsmpRefIdeal.τ).loc Cert.SsmpRefIdeal.main_arg0)
      ∧ r.2.mem ((c.tc : Thread Cert.SsmpRefIdeal.nD Cert.SsmpRefIdeal.τ).loc Cert.SsmpRefIdeal.main_arg1) = m ((c.tc : Thread Cert.SsmpRefIdeal.nD Cert.SsmpRefIdeal.τ).loc Cert.SsmpRefIdeal.main_arg1)
      ∧ r.2.mem ((c.tc : Thread Cert.SsmpRefIdeal.nD Cert.SsmpRefIdeal.τ).loc Cert.SsmpRefIdeal.main_arg2) = m ((c.tc : Thread Cert.SsmpRefIdeal.nD Cert.SsmpRefIdeal.τ).loc Cert.SsmpRefIdeal.main_arg2)
      ∧ r.2.mem ((c.tc : Thread Cert.SsmpRefIdeal.nD Cert.SsmpRefIdeal.τ).loc Cert.SsmpRefIdeal.main_arg3) = m ((c.tc : Thread Cert.SsmpRefIdeal.nD Cert.SsmpRefIdeal.τ).loc Cert.SsmpRefIdeal.main_arg3)
      ∧ r.2.mem ((c.tc : Thread Cert.SsmpRefIdeal.nD Cert.SsmpRefIdeal.τ).loc Cert.SsmpRefIdeal.main_arg4) = m ((c.tc : Thread Cert.SsmpRefIdeal.nD Cert.SsmpRefIdeal.τ).loc Cert.SsmpRefIdeal.main_arg4)
      ∧ r.2.mem ((c.tc : Thread Cert.SsmpRefIdeal.nD Cert.SsmpRefIdeal.τ).loc Cert.SsmpRefIdeal.main_arg5) = m ((c.tc : Thread Cert.SsmpRefIdeal.nD Cert.SsmpRefIdeal.τ).loc Cert.SsmpRefIdeal.main_arg5)
      ∧ r.2.mem ((c.tc : Thread Cert.SsmpRefIdeal.nD Cert.SsmpRefIdeal.τ).loc Cert.SsmpRefIdeal.main_arg6) = m ((c.tc : Thread Cert.SsmpRefIdeal.nD Cert.SsmpRefIdeal.τ).loc Cert.SsmpRefIdeal.main_arg6)
      ∧ r.2.mem ((c.tc : Thread Cert.SsmpRefIdeal.nD Cert.SsmpRefIdeal.τ).loc Cert.SsmpRefIdeal.main_arg7) = m ((c.tc : Thread Cert.SsmpRefIdeal.nD Cert.SsmpRefIdeal.τ).loc Cert.SsmpRefIdeal.main_arg7)
      ∧ r.2.mem ((c.tc : Thread Cert.SsmpRefIdeal.nD Cert.SsmpRefIdeal.τ).loc Cert.SsmpRefIdeal.main_arg8) = m ((c.tc : Thread Cert.SsmpRefIdeal.nD Cert.SsmpRefIdeal.τ).loc Cert.SsmpRefIdeal.main_arg8)
      ∧ r.2.mem ((c.tc : Thread Cert.SsmpRefIdeal.nD Cert.SsmpRefIdeal.τ).loc Cert.SsmpRefIdeal.main_arg9) = m ((c.tc : Thread Cert.SsmpRefIdeal.nD Cert.SsmpRefIdeal.τ).loc Cert.SsmpRefIdeal.main_arg9))
      ∧ r.2.sem = fun _ => 0)

def quiescent_Gmlpf [hGmlpf : Cert.Gmlpf.Facts] : Prop :=
  ∀ (m : (ℓ : Loc Cert.Gmlpf.nD Cert.Gmlpf.τ Cert.Gmlpf.sig) → Buf (Elt Bits) ℓ) (g : Dev Cert.Gmlpf.nD → PrngReg), Pre_Gmlpf m →
    θ_run (Cert.Gmlpf.defs (F := Bits)) (onTc (τ := Cert.Gmlpf.τ) (Cert.Gmlpf.main (F := Bits))) ⟨m, fun _ => 0, g⟩ (fun r => (∀ c : Dev Cert.Gmlpf.nD,
      r.2.mem ((c.tc : Thread Cert.Gmlpf.nD Cert.Gmlpf.τ).loc Cert.Gmlpf.main_arg0) = m ((c.tc : Thread Cert.Gmlpf.nD Cert.Gmlpf.τ).loc Cert.Gmlpf.main_arg0)
      ∧ r.2.mem ((c.tc : Thread Cert.Gmlpf.nD Cert.Gmlpf.τ).loc Cert.Gmlpf.main_arg1) = m ((c.tc : Thread Cert.Gmlpf.nD Cert.Gmlpf.τ).loc Cert.Gmlpf.main_arg1)
      ∧ r.2.mem ((c.tc : Thread Cert.Gmlpf.nD Cert.Gmlpf.τ).loc Cert.Gmlpf.main_arg2) = m ((c.tc : Thread Cert.Gmlpf.nD Cert.Gmlpf.τ).loc Cert.Gmlpf.main_arg2)
      ∧ r.2.mem ((c.tc : Thread Cert.Gmlpf.nD Cert.Gmlpf.τ).loc Cert.Gmlpf.main_arg3) = m ((c.tc : Thread Cert.Gmlpf.nD Cert.Gmlpf.τ).loc Cert.Gmlpf.main_arg3)
      ∧ r.2.mem ((c.tc : Thread Cert.Gmlpf.nD Cert.Gmlpf.τ).loc Cert.Gmlpf.main_arg4) = m ((c.tc : Thread Cert.Gmlpf.nD Cert.Gmlpf.τ).loc Cert.Gmlpf.main_arg4))
      ∧ r.2.sem = fun _ => 0)

def quiescent_GmlpfIdeal [hGmlpfIdeal : Cert.GmlpfIdeal.Facts] : Prop :=
  ∀ (m : (ℓ : Loc Cert.GmlpfIdeal.nD Cert.GmlpfIdeal.τ Cert.GmlpfIdeal.sig) → Buf (Elt Ideal) ℓ) (g : Dev Cert.GmlpfIdeal.nD → PrngReg), Pre_GmlpfIdeal m →
    θ_run (Cert.GmlpfIdeal.defs (F := Ideal)) (onTc (τ := Cert.GmlpfIdeal.τ) (Cert.GmlpfIdeal.main (F := Ideal))) ⟨m, fun _ => 0, g⟩ (fun r => (∀ c : Dev Cert.GmlpfIdeal.nD,
      r.2.mem ((c.tc : Thread Cert.GmlpfIdeal.nD Cert.GmlpfIdeal.τ).loc Cert.GmlpfIdeal.main_arg0) = m ((c.tc : Thread Cert.GmlpfIdeal.nD Cert.GmlpfIdeal.τ).loc Cert.GmlpfIdeal.main_arg0)
      ∧ r.2.mem ((c.tc : Thread Cert.GmlpfIdeal.nD Cert.GmlpfIdeal.τ).loc Cert.GmlpfIdeal.main_arg1) = m ((c.tc : Thread Cert.GmlpfIdeal.nD Cert.GmlpfIdeal.τ).loc Cert.GmlpfIdeal.main_arg1)
      ∧ r.2.mem ((c.tc : Thread Cert.GmlpfIdeal.nD Cert.GmlpfIdeal.τ).loc Cert.GmlpfIdeal.main_arg2) = m ((c.tc : Thread Cert.GmlpfIdeal.nD Cert.GmlpfIdeal.τ).loc Cert.GmlpfIdeal.main_arg2)
      ∧ r.2.mem ((c.tc : Thread Cert.GmlpfIdeal.nD Cert.GmlpfIdeal.τ).loc Cert.GmlpfIdeal.main_arg3) = m ((c.tc : Thread Cert.GmlpfIdeal.nD Cert.GmlpfIdeal.τ).loc Cert.GmlpfIdeal.main_arg3)
      ∧ r.2.mem ((c.tc : Thread Cert.GmlpfIdeal.nD Cert.GmlpfIdeal.τ).loc Cert.GmlpfIdeal.main_arg4) = m ((c.tc : Thread Cert.GmlpfIdeal.nD Cert.GmlpfIdeal.τ).loc Cert.GmlpfIdeal.main_arg4))
      ∧ r.2.sem = fun _ => 0)

def quiescent_GmlpfRefIdeal [hGmlpfRefIdeal : Cert.GmlpfRefIdeal.Facts] : Prop :=
  ∀ (m : (ℓ : Loc Cert.GmlpfRefIdeal.nD Cert.GmlpfRefIdeal.τ Cert.GmlpfRefIdeal.sig) → Buf (Elt Ideal) ℓ) (g : Dev Cert.GmlpfRefIdeal.nD → PrngReg), Pre_GmlpfRefIdeal m →
    θ_run (Cert.GmlpfRefIdeal.defs (F := Ideal)) (onTc (τ := Cert.GmlpfRefIdeal.τ) (Cert.GmlpfRefIdeal.main (F := Ideal))) ⟨m, fun _ => 0, g⟩ (fun r => (∀ c : Dev Cert.GmlpfRefIdeal.nD,
      r.2.mem ((c.tc : Thread Cert.GmlpfRefIdeal.nD Cert.GmlpfRefIdeal.τ).loc Cert.GmlpfRefIdeal.main_arg0) = m ((c.tc : Thread Cert.GmlpfRefIdeal.nD Cert.GmlpfRefIdeal.τ).loc Cert.GmlpfRefIdeal.main_arg0)
      ∧ r.2.mem ((c.tc : Thread Cert.GmlpfRefIdeal.nD Cert.GmlpfRefIdeal.τ).loc Cert.GmlpfRefIdeal.main_arg1) = m ((c.tc : Thread Cert.GmlpfRefIdeal.nD Cert.GmlpfRefIdeal.τ).loc Cert.GmlpfRefIdeal.main_arg1)
      ∧ r.2.mem ((c.tc : Thread Cert.GmlpfRefIdeal.nD Cert.GmlpfRefIdeal.τ).loc Cert.GmlpfRefIdeal.main_arg2) = m ((c.tc : Thread Cert.GmlpfRefIdeal.nD Cert.GmlpfRefIdeal.τ).loc Cert.GmlpfRefIdeal.main_arg2)
      ∧ r.2.mem ((c.tc : Thread Cert.GmlpfRefIdeal.nD Cert.GmlpfRefIdeal.τ).loc Cert.GmlpfRefIdeal.main_arg3) = m ((c.tc : Thread Cert.GmlpfRefIdeal.nD Cert.GmlpfRefIdeal.τ).loc Cert.GmlpfRefIdeal.main_arg3)
      ∧ r.2.mem ((c.tc : Thread Cert.GmlpfRefIdeal.nD Cert.GmlpfRefIdeal.τ).loc Cert.GmlpfRefIdeal.main_arg4) = m ((c.tc : Thread Cert.GmlpfRefIdeal.nD Cert.GmlpfRefIdeal.τ).loc Cert.GmlpfRefIdeal.main_arg4))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1)
      ∧ r.2.mem ((c.tc : Thread Cert.Attnf.nD Cert.Attnf.τ).loc Cert.Attnf.main_arg2) = m ((c.tc : Thread Cert.Attnf.nD Cert.Attnf.τ).loc Cert.Attnf.main_arg2)
      ∧ r.2.mem ((c.tc : Thread Cert.Attnf.nD Cert.Attnf.τ).loc Cert.Attnf.main_arg3) = m ((c.tc : Thread Cert.Attnf.nD Cert.Attnf.τ).loc Cert.Attnf.main_arg3)
      ∧ r.2.mem ((c.tc : Thread Cert.Attnf.nD Cert.Attnf.τ).loc Cert.Attnf.main_arg4) = m ((c.tc : Thread Cert.Attnf.nD Cert.Attnf.τ).loc Cert.Attnf.main_arg4))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2)
      ∧ r.2.mem ((c.tc : Thread Cert.AttnfIdeal.nD Cert.AttnfIdeal.τ).loc Cert.AttnfIdeal.main_arg3) = m ((c.tc : Thread Cert.AttnfIdeal.nD Cert.AttnfIdeal.τ).loc Cert.AttnfIdeal.main_arg3)
      ∧ r.2.mem ((c.tc : Thread Cert.AttnfIdeal.nD Cert.AttnfIdeal.τ).loc Cert.AttnfIdeal.main_arg4) = m ((c.tc : Thread Cert.AttnfIdeal.nD Cert.AttnfIdeal.τ).loc Cert.AttnfIdeal.main_arg4))
      ∧ r.2.sem = fun _ => 0)

def quiescent_AttnfIdeal_pre_attnf_finite [hAttnfIdeal : Cert.AttnfIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal_attnf_finite m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2)
      ∧ r.2.mem ((c.tc : Thread Cert.AttnfIdeal.nD Cert.AttnfIdeal.τ).loc Cert.AttnfIdeal.main_arg3) = m ((c.tc : Thread Cert.AttnfIdeal.nD Cert.AttnfIdeal.τ).loc Cert.AttnfIdeal.main_arg3)
      ∧ r.2.mem ((c.tc : Thread Cert.AttnfIdeal.nD Cert.AttnfIdeal.τ).loc Cert.AttnfIdeal.main_arg4) = m ((c.tc : Thread Cert.AttnfIdeal.nD Cert.AttnfIdeal.τ).loc Cert.AttnfIdeal.main_arg4))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2)
      ∧ r.2.mem ((c.tc : Thread Cert.AttnfRefIdeal.nD Cert.AttnfRefIdeal.τ).loc Cert.AttnfRefIdeal.main_arg3) = m ((c.tc : Thread Cert.AttnfRefIdeal.nD Cert.AttnfRefIdeal.τ).loc Cert.AttnfRefIdeal.main_arg3)
      ∧ r.2.mem ((c.tc : Thread Cert.AttnfRefIdeal.nD Cert.AttnfRefIdeal.τ).loc Cert.AttnfRefIdeal.main_arg4) = m ((c.tc : Thread Cert.AttnfRefIdeal.nD Cert.AttnfRefIdeal.τ).loc Cert.AttnfRefIdeal.main_arg4))
      ∧ r.2.sem = fun _ => 0)

def quiescent_AttnfRefIdeal_pre_attnf_finite [hAttnfRefIdeal : Cert.AttnfRefIdeal.Facts] [hPre_attnf_finite : Cert.Pre_attnf_finite.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal_attnf_finite m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2)
      ∧ r.2.mem ((c.tc : Thread Cert.AttnfRefIdeal.nD Cert.AttnfRefIdeal.τ).loc Cert.AttnfRefIdeal.main_arg3) = m ((c.tc : Thread Cert.AttnfRefIdeal.nD Cert.AttnfRefIdeal.τ).loc Cert.AttnfRefIdeal.main_arg3)
      ∧ r.2.mem ((c.tc : Thread Cert.AttnfRefIdeal.nD Cert.AttnfRefIdeal.τ).loc Cert.AttnfRefIdeal.main_arg4) = m ((c.tc : Thread Cert.AttnfRefIdeal.nD Cert.AttnfRefIdeal.τ).loc Cert.AttnfRefIdeal.main_arg4))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)) (v4 : (c : Dev Cert.MergeIdeal.nD) → Buf (Elt Ideal) ((c.tc : Thread Cert.MergeIdeal.nD Cert.MergeIdeal.τ).loc Cert.MergeIdeal.main_v2_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_v2_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v121) = v0 c
          ∧ r.2.mem ((c.tc : Thread Cert.MergeRefIdeal.nD Cert.MergeRefIdeal.τ).loc Cert.MergeRefIdeal.main_v99) = v1 c
          ∧ r.2.mem ((c.tc : Thread Cert.MergeRefIdeal.nD Cert.MergeRefIdeal.τ).loc Cert.MergeRefIdeal.main_v78) = v2 c
          ∧ r.2.mem ((c.tc : Thread Cert.MergeRefIdeal.nD Cert.MergeRefIdeal.τ).loc Cert.MergeRefIdeal.main_v124) = v3 c
          ∧ r.2.mem ((c.tc : Thread Cert.MergeRefIdeal.nD Cert.MergeRefIdeal.τ).loc Cert.MergeRefIdeal.main_v125) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v46) = v0 c
          ∧ r.2.mem ((c.tc : Thread Cert.InprojRefIdeal.nD Cert.InprojRefIdeal.τ).loc Cert.InprojRefIdeal.main_v64) = v1 c
          ∧ r.2.mem ((c.tc : Thread Cert.InprojRefIdeal.nD Cert.InprojRefIdeal.τ).loc Cert.InprojRefIdeal.main_v65) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v21_0)) (v1 : (c : Dev Cert.PleIdeal.nD) → Buf (Elt Ideal) ((c.tc : Thread Cert.PleIdeal.nD Cert.PleIdeal.τ).loc Cert.PleIdeal.main_v21_1)) (v2 : (c : Dev Cert.PleIdeal.nD) → Buf (Elt Ideal) ((c.tc : Thread Cert.PleIdeal.nD Cert.PleIdeal.τ).loc Cert.PleIdeal.main_v21_2)) (v3 : (c : Dev Cert.PleIdeal.nD) → Buf (Elt Ideal) ((c.tc : Thread Cert.PleIdeal.nD Cert.PleIdeal.τ).loc Cert.PleIdeal.main_v21_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v21_0) = v0 c
          ∧ r.2.mem ((c.tc : Thread Cert.PleIdeal.nD Cert.PleIdeal.τ).loc Cert.PleIdeal.main_v21_1) = v1 c
          ∧ r.2.mem ((c.tc : Thread Cert.PleIdeal.nD Cert.PleIdeal.τ).loc Cert.PleIdeal.main_v21_2) = v2 c
          ∧ r.2.mem ((c.tc : Thread Cert.PleIdeal.nD Cert.PleIdeal.τ).loc Cert.PleIdeal.main_v21_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v60) = v0 c
          ∧ r.2.mem ((c.tc : Thread Cert.PleRefIdeal.nD Cert.PleRefIdeal.τ).loc Cert.PleRefIdeal.main_v61) = v1 c
          ∧ r.2.mem ((c.tc : Thread Cert.PleRefIdeal.nD Cert.PleRefIdeal.τ).loc Cert.PleRefIdeal.main_v79) = v2 c
          ∧ r.2.mem ((c.tc : Thread Cert.PleRefIdeal.nD Cert.PleRefIdeal.τ).loc Cert.PleRefIdeal.main_v80) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v22_0)) (v1 : (c : Dev Cert.MlpIdeal.nD) → Buf (Elt Ideal) ((c.tc : Thread Cert.MlpIdeal.nD Cert.MlpIdeal.τ).loc Cert.MlpIdeal.main_v22_1)) (v2 : (c : Dev Cert.MlpIdeal.nD) → Buf (Elt Ideal) ((c.tc : Thread Cert.MlpIdeal.nD Cert.MlpIdeal.τ).loc Cert.MlpIdeal.main_v22_2)) (v3 : (c : Dev Cert.MlpIdeal.nD) → Buf (Elt Ideal) ((c.tc : Thread Cert.MlpIdeal.nD Cert.MlpIdeal.τ).loc Cert.MlpIdeal.main_v22_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v22_0) = v0 c
          ∧ r.2.mem ((c.tc : Thread Cert.MlpIdeal.nD Cert.MlpIdeal.τ).loc Cert.MlpIdeal.main_v22_1) = v1 c
          ∧ r.2.mem ((c.tc : Thread Cert.MlpIdeal.nD Cert.MlpIdeal.τ).loc Cert.MlpIdeal.main_v22_2) = v2 c
          ∧ r.2.mem ((c.tc : Thread Cert.MlpIdeal.nD Cert.MlpIdeal.τ).loc Cert.MlpIdeal.main_v22_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v54) = v0 c
          ∧ r.2.mem ((c.tc : Thread Cert.MlpRefIdeal.nD Cert.MlpRefIdeal.τ).loc Cert.MlpRefIdeal.main_v55) = v1 c
          ∧ r.2.mem ((c.tc : Thread Cert.MlpRefIdeal.nD Cert.MlpRefIdeal.τ).loc Cert.MlpRefIdeal.main_v56) = v2 c
          ∧ r.2.mem ((c.tc : Thread Cert.MlpRefIdeal.nD Cert.MlpRefIdeal.τ).loc Cert.MlpRefIdeal.main_v57) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Gmlp_GmlpIdeal : Prop :=
  IdealRules.named_const.Statement Cert.GmlpIdeal.κ "gelu_a" .f32 0x3D372713#32 ((8943 / 200000 : ℝ) : EReal)
  ∧ IdealRules.named_const.Statement Cert.GmlpIdeal.κ "gelu_3a" .f32 0x3E095D4F#32 ((26829 / 200000 : ℝ) : EReal)

def algebraic_GmlpIdeal_GmlpRefIdeal_pre_gmlp_finite [hGmlpIdeal : Cert.GmlpIdeal.Facts] [hGmlpRefIdeal : Cert.GmlpRefIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_gmlp_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v11_0)) (v1 : (c : Dev Cert.GmlpIdeal.nD) → Buf (Elt Ideal) ((c.tc : Thread Cert.GmlpIdeal.nD Cert.GmlpIdeal.τ).loc Cert.GmlpIdeal.main_v11_1)) (v2 : (c : Dev Cert.GmlpIdeal.nD) → Buf (Elt Ideal) ((c.tc : Thread Cert.GmlpIdeal.nD Cert.GmlpIdeal.τ).loc Cert.GmlpIdeal.main_v11_2)) (v3 : (c : Dev Cert.GmlpIdeal.nD) → Buf (Elt Ideal) ((c.tc : Thread Cert.GmlpIdeal.nD Cert.GmlpIdeal.τ).loc Cert.GmlpIdeal.main_v11_3)) (v4 : (c : Dev Cert.GmlpIdeal.nD) → Buf (Elt Ideal) ((c.tc : Thread Cert.GmlpIdeal.nD Cert.GmlpIdeal.τ).loc Cert.GmlpIdeal.main_v11_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v11_0) = v0 c
          ∧ r.2.mem ((c.tc : Thread Cert.GmlpIdeal.nD Cert.GmlpIdeal.τ).loc Cert.GmlpIdeal.main_v11_1) = v1 c
          ∧ r.2.mem ((c.tc : Thread Cert.GmlpIdeal.nD Cert.GmlpIdeal.τ).loc Cert.GmlpIdeal.main_v11_2) = v2 c
          ∧ r.2.mem ((c.tc : Thread Cert.GmlpIdeal.nD Cert.GmlpIdeal.τ).loc Cert.GmlpIdeal.main_v11_3) = v3 c
          ∧ r.2.mem ((c.tc : Thread Cert.GmlpIdeal.nD Cert.GmlpIdeal.τ).loc Cert.GmlpIdeal.main_v11_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v124) = v0 c
          ∧ r.2.mem ((c.tc : Thread Cert.GmlpRefIdeal.nD Cert.GmlpRefIdeal.τ).loc Cert.GmlpRefIdeal.main_v77) = v1 c
          ∧ r.2.mem ((c.tc : Thread Cert.GmlpRefIdeal.nD Cert.GmlpRefIdeal.τ).loc Cert.GmlpRefIdeal.main_v127) = v2 c
          ∧ r.2.mem ((c.tc : Thread Cert.GmlpRefIdeal.nD Cert.GmlpRefIdeal.τ).loc Cert.GmlpRefIdeal.main_v131) = v3 c
          ∧ r.2.mem ((c.tc : Thread Cert.GmlpRefIdeal.nD Cert.GmlpRefIdeal.τ).loc Cert.GmlpRefIdeal.main_v135) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Inprojf_InprojfIdeal : Prop :=
  True

def algebraic_InprojfIdeal_InprojfRefIdeal [hInprojfIdeal : Cert.InprojfIdeal.Facts] [hInprojfRefIdeal : Cert.InprojfRefIdeal.Facts] : Prop :=
  ∀ (m : (ℓ : Loc Cert.InprojfIdeal.nD Cert.InprojfIdeal.τ Cert.InprojfIdeal.sig) → Buf (Elt Ideal) ℓ) (g : Dev Cert.InprojfIdeal.nD → PrngReg)
    (m' : (ℓ : Loc Cert.InprojfRefIdeal.nD Cert.InprojfRefIdeal.τ Cert.InprojfRefIdeal.sig) → Buf (Elt Ideal) ℓ) (g' : Dev Cert.InprojfRefIdeal.nD → PrngReg), Pre_InprojfIdeal m →
    (∀ c : Dev Cert.InprojfIdeal.nD,
      m' ((c.tc : Thread Cert.InprojfRefIdeal.nD Cert.InprojfRefIdeal.τ).loc Cert.InprojfRefIdeal.main_arg0) = m ((c.tc : Thread Cert.InprojfIdeal.nD Cert.InprojfIdeal.τ).loc Cert.InprojfIdeal.main_arg0)
      ∧ m' ((c.tc : Thread Cert.InprojfRefIdeal.nD Cert.InprojfRefIdeal.τ).loc Cert.InprojfRefIdeal.main_arg1) = m ((c.tc : Thread Cert.InprojfIdeal.nD Cert.InprojfIdeal.τ).loc Cert.InprojfIdeal.main_arg1)
      ∧ m' ((c.tc : Thread Cert.InprojfRefIdeal.nD Cert.InprojfRefIdeal.τ).loc Cert.InprojfRefIdeal.main_arg2) = m ((c.tc : Thread Cert.InprojfIdeal.nD Cert.InprojfIdeal.τ).loc Cert.InprojfIdeal.main_arg2)) →
    ∃ (v0 : (c : Dev Cert.InprojfIdeal.nD) → Buf (Elt Ideal) ((c.tc : Thread Cert.InprojfIdeal.nD Cert.InprojfIdeal.τ).loc Cert.InprojfIdeal.main_v2)),
      θ_run (Cert.InprojfIdeal.defs (F := Ideal)) (onTc (τ := Cert.InprojfIdeal.τ) (Cert.InprojfIdeal.main (F := Ideal))) ⟨m, fun _ => 0, g⟩ (fun r => ∀ c : Dev Cert.InprojfIdeal.nD,
          r.2.mem ((c.tc : Thread Cert.InprojfIdeal.nD Cert.InprojfIdeal.τ).loc Cert.InprojfIdeal.main_v2) = v0 c
          ∧ r.2.mem ((c.tc : Thread Cert.InprojfIdeal.nD Cert.InprojfIdeal.τ).loc Cert.InprojfIdeal.main_arg0) = m ((c.tc : Thread Cert.InprojfIdeal.nD Cert.InprojfIdeal.τ).loc Cert.InprojfIdeal.main_arg0)
          ∧ r.2.mem ((c.tc : Thread Cert.InprojfIdeal.nD Cert.InprojfIdeal.τ).loc Cert.InprojfIdeal.main_arg1) = m ((c.tc : Thread Cert.InprojfIdeal.nD Cert.InprojfIdeal.τ).loc Cert.InprojfIdeal.main_arg1)
          ∧ r.2.mem ((c.tc : Thread Cert.InprojfIdeal.nD Cert.InprojfIdeal.τ).loc Cert.InprojfIdeal.main_arg2) = m ((c.tc : Thread Cert.InprojfIdeal.nD Cert.InprojfIdeal.τ).loc Cert.InprojfIdeal.main_arg2))
      ∧ θ_run (Cert.InprojfRefIdeal.defs (F := Ideal)) (onTc (τ := Cert.InprojfRefIdeal.τ) (Cert.InprojfRefIdeal.main (F := Ideal))) ⟨m', fun _ => 0, g'⟩ (fun r => ∀ c : Dev Cert.InprojfRefIdeal.nD,
          r.2.mem ((c.tc : Thread Cert.InprojfRefIdeal.nD Cert.InprojfRefIdeal.τ).loc Cert.InprojfRefIdeal.main_v13) = v0 c
          ∧ r.2.mem ((c.tc : Thread Cert.InprojfRefIdeal.nD Cert.InprojfRefIdeal.τ).loc Cert.InprojfRefIdeal.main_arg0) = m' ((c.tc : Thread Cert.InprojfRefIdeal.nD Cert.InprojfRefIdeal.τ).loc Cert.InprojfRefIdeal.main_arg0)
          ∧ r.2.mem ((c.tc : Thread Cert.InprojfRefIdeal.nD Cert.InprojfRefIdeal.τ).loc Cert.InprojfRefIdeal.main_arg1) = m' ((c.tc : Thread Cert.InprojfRefIdeal.nD Cert.InprojfRefIdeal.τ).loc Cert.InprojfRefIdeal.main_arg1)
          ∧ r.2.mem ((c.tc : Thread Cert.InprojfRefIdeal.nD Cert.InprojfRefIdeal.τ).loc Cert.InprojfRefIdeal.main_arg2) = m' ((c.tc : Thread Cert.InprojfRefIdeal.nD Cert.InprojfRefIdeal.τ).loc Cert.InprojfRefIdeal.main_arg2))

def preserves_Plef_PlefIdeal : Prop :=
  True

def algebraic_PlefIdeal_PlefRefIdeal [hPlefIdeal : Cert.PlefIdeal.Facts] [hPlefRefIdeal : Cert.PlefRefIdeal.Facts] : Prop :=
  ∀ (m : (ℓ : Loc Cert.PlefIdeal.nD Cert.PlefIdeal.τ Cert.PlefIdeal.sig) → Buf (Elt Ideal) ℓ) (g : Dev Cert.PlefIdeal.nD → PrngReg)
    (m' : (ℓ : Loc Cert.PlefRefIdeal.nD Cert.PlefRefIdeal.τ Cert.PlefRefIdeal.sig) → Buf (Elt Ideal) ℓ) (g' : Dev Cert.PlefRefIdeal.nD → PrngReg), Pre_PlefIdeal m →
    (∀ c : Dev Cert.PlefIdeal.nD,
      m' ((c.tc : Thread Cert.PlefRefIdeal.nD Cert.PlefRefIdeal.τ).loc Cert.PlefRefIdeal.main_arg0) = m ((c.tc : Thread Cert.PlefIdeal.nD Cert.PlefIdeal.τ).loc Cert.PlefIdeal.main_arg0)
      ∧ m' ((c.tc : Thread Cert.PlefRefIdeal.nD Cert.PlefRefIdeal.τ).loc Cert.PlefRefIdeal.main_arg1) = m ((c.tc : Thread Cert.PlefIdeal.nD Cert.PlefIdeal.τ).loc Cert.PlefIdeal.main_arg1)
      ∧ m' ((c.tc : Thread Cert.PlefRefIdeal.nD Cert.PlefRefIdeal.τ).loc Cert.PlefRefIdeal.main_arg2) = m ((c.tc : Thread Cert.PlefIdeal.nD Cert.PlefIdeal.τ).loc Cert.PlefIdeal.main_arg2)
      ∧ m' ((c.tc : Thread Cert.PlefRefIdeal.nD Cert.PlefRefIdeal.τ).loc Cert.PlefRefIdeal.main_arg3) = m ((c.tc : Thread Cert.PlefIdeal.nD Cert.PlefIdeal.τ).loc Cert.PlefIdeal.main_arg3)
      ∧ m' ((c.tc : Thread Cert.PlefRefIdeal.nD Cert.PlefRefIdeal.τ).loc Cert.PlefRefIdeal.main_arg4) = m ((c.tc : Thread Cert.PlefIdeal.nD Cert.PlefIdeal.τ).loc Cert.PlefIdeal.main_arg4)) →
    ∃ (v0 : (c : Dev Cert.PlefIdeal.nD) → Buf (Elt Ideal) ((c.tc : Thread Cert.PlefIdeal.nD Cert.PlefIdeal.τ).loc Cert.PlefIdeal.main_v3_0)) (v1 : (c : Dev Cert.PlefIdeal.nD) → Buf (Elt Ideal) ((c.tc : Thread Cert.PlefIdeal.nD Cert.PlefIdeal.τ).loc Cert.PlefIdeal.main_v3_1)) (v2 : (c : Dev Cert.PlefIdeal.nD) → Buf (Elt Ideal) ((c.tc : Thread Cert.PlefIdeal.nD Cert.PlefIdeal.τ).loc Cert.PlefIdeal.main_v3_2)),
      θ_run (Cert.PlefIdeal.defs (F := Ideal)) (onTc (τ := Cert.PlefIdeal.τ) (Cert.PlefIdeal.main (F := Ideal))) ⟨m, fun _ => 0, g⟩ (fun r => ∀ c : Dev Cert.PlefIdeal.nD,
          r.2.mem ((c.tc : Thread Cert.PlefIdeal.nD Cert.PlefIdeal.τ).loc Cert.PlefIdeal.main_v3_0) = v0 c
          ∧ r.2.mem ((c.tc : Thread Cert.PlefIdeal.nD Cert.PlefIdeal.τ).loc Cert.PlefIdeal.main_v3_1) = v1 c
          ∧ r.2.mem ((c.tc : Thread Cert.PlefIdeal.nD Cert.PlefIdeal.τ).loc Cert.PlefIdeal.main_v3_2) = v2 c
          ∧ r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
          ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
          ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
          ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
          ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ θ_run (Cert.PlefRefIdeal.defs (F := Ideal)) (onTc (τ := Cert.PlefRefIdeal.τ) (Cert.PlefRefIdeal.main (F := Ideal))) ⟨m', fun _ => 0, g'⟩ (fun r => ∀ c : Dev Cert.PlefRefIdeal.nD,
          r.2.mem ((c.tc : Thread Cert.PlefRefIdeal.nD Cert.PlefRefIdeal.τ).loc Cert.PlefRefIdeal.main_v24) = v0 c
          ∧ r.2.mem ((c.tc : Thread Cert.PlefRefIdeal.nD Cert.PlefRefIdeal.τ).loc Cert.PlefRefIdeal.main_v25) = v1 c
          ∧ r.2.mem ((c.tc : Thread Cert.PlefRefIdeal.nD Cert.PlefRefIdeal.τ).loc Cert.PlefRefIdeal.main_v26) = v2 c
          ∧ r.2.mem ((c.tc : Thread Cert.PlefRefIdeal.nD Cert.PlefRefIdeal.τ).loc Cert.PlefRefIdeal.main_arg0) = m' ((c.tc : Thread Cert.PlefRefIdeal.nD Cert.PlefRefIdeal.τ).loc Cert.PlefRefIdeal.main_arg0)
          ∧ r.2.mem ((c.tc : Thread Cert.PlefRefIdeal.nD Cert.PlefRefIdeal.τ).loc Cert.PlefRefIdeal.main_arg1) = m' ((c.tc : Thread Cert.PlefRefIdeal.nD Cert.PlefRefIdeal.τ).loc Cert.PlefRefIdeal.main_arg1)
          ∧ r.2.mem ((c.tc : Thread Cert.PlefRefIdeal.nD Cert.PlefRefIdeal.τ).loc Cert.PlefRefIdeal.main_arg2) = m' ((c.tc : Thread Cert.PlefRefIdeal.nD Cert.PlefRefIdeal.τ).loc Cert.PlefRefIdeal.main_arg2)
          ∧ r.2.mem ((c.tc : Thread Cert.PlefRefIdeal.nD Cert.PlefRefIdeal.τ).loc Cert.PlefRefIdeal.main_arg3) = m' ((c.tc : Thread Cert.PlefRefIdeal.nD Cert.PlefRefIdeal.τ).loc Cert.PlefRefIdeal.main_arg3)
          ∧ r.2.mem ((c.tc : Thread Cert.PlefRefIdeal.nD Cert.PlefRefIdeal.τ).loc Cert.PlefRefIdeal.main_arg4) = m' ((c.tc : Thread Cert.PlefRefIdeal.nD Cert.PlefRefIdeal.τ).loc Cert.PlefRefIdeal.main_arg4))

def preserves_Mergef_MergefIdeal : Prop :=
  True

def algebraic_MergefIdeal_MergefRefIdeal [hMergefIdeal : Cert.MergefIdeal.Facts] [hMergefRefIdeal : Cert.MergefRefIdeal.Facts] : Prop :=
  ∀ (m : (ℓ : Loc Cert.MergefIdeal.nD Cert.MergefIdeal.τ Cert.MergefIdeal.sig) → Buf (Elt Ideal) ℓ) (g : Dev Cert.MergefIdeal.nD → PrngReg)
    (m' : (ℓ : Loc Cert.MergefRefIdeal.nD Cert.MergefRefIdeal.τ Cert.MergefRefIdeal.sig) → Buf (Elt Ideal) ℓ) (g' : Dev Cert.MergefRefIdeal.nD → PrngReg), Pre_MergefIdeal m →
    (∀ c : Dev Cert.MergefIdeal.nD,
      m' ((c.tc : Thread Cert.MergefRefIdeal.nD Cert.MergefRefIdeal.τ).loc Cert.MergefRefIdeal.main_arg0) = m ((c.tc : Thread Cert.MergefIdeal.nD Cert.MergefIdeal.τ).loc Cert.MergefIdeal.main_arg0)
      ∧ m' ((c.tc : Thread Cert.MergefRefIdeal.nD Cert.MergefRefIdeal.τ).loc Cert.MergefRefIdeal.main_arg1) = m ((c.tc : Thread Cert.MergefIdeal.nD Cert.MergefIdeal.τ).loc Cert.MergefIdeal.main_arg1)
      ∧ m' ((c.tc : Thread Cert.MergefRefIdeal.nD Cert.MergefRefIdeal.τ).loc Cert.MergefRefIdeal.main_arg2) = m ((c.tc : Thread Cert.MergefIdeal.nD Cert.MergefIdeal.τ).loc Cert.MergefIdeal.main_arg2)
      ∧ m' ((c.tc : Thread Cert.MergefRefIdeal.nD Cert.MergefRefIdeal.τ).loc Cert.MergefRefIdeal.main_arg3) = m ((c.tc : Thread Cert.MergefIdeal.nD Cert.MergefIdeal.τ).loc Cert.MergefIdeal.main_arg3)
      ∧ m' ((c.tc : Thread Cert.MergefRefIdeal.nD Cert.MergefRefIdeal.τ).loc Cert.MergefRefIdeal.main_arg4) = m ((c.tc : Thread Cert.MergefIdeal.nD Cert.MergefIdeal.τ).loc Cert.MergefIdeal.main_arg4)
      ∧ m' ((c.tc : Thread Cert.MergefRefIdeal.nD Cert.MergefRefIdeal.τ).loc Cert.MergefRefIdeal.main_arg5) = m ((c.tc : Thread Cert.MergefIdeal.nD Cert.MergefIdeal.τ).loc Cert.MergefIdeal.main_arg5)) →
    ∃ (v0 : (c : Dev Cert.MergefIdeal.nD) → Buf (Elt Ideal) ((c.tc : Thread Cert.MergefIdeal.nD Cert.MergefIdeal.τ).loc Cert.MergefIdeal.main_v2)),
      θ_run (Cert.MergefIdeal.defs (F := Ideal)) (onTc (τ := Cert.MergefIdeal.τ) (Cert.MergefIdeal.main (F := Ideal))) ⟨m, fun _ => 0, g⟩ (fun r => ∀ c : Dev Cert.MergefIdeal.nD,
          r.2.mem ((c.tc : Thread Cert.MergefIdeal.nD Cert.MergefIdeal.τ).loc Cert.MergefIdeal.main_v2) = v0 c
          ∧ r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
          ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
          ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
          ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
          ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4)
          ∧ r.2.mem ((c.tc : Thread Cert.MergefIdeal.nD Cert.MergefIdeal.τ).loc Cert.MergefIdeal.main_arg5) = m ((c.tc : Thread Cert.MergefIdeal.nD Cert.MergefIdeal.τ).loc Cert.MergefIdeal.main_arg5))
      ∧ θ_run (Cert.MergefRefIdeal.defs (F := Ideal)) (onTc (τ := Cert.MergefRefIdeal.τ) (Cert.MergefRefIdeal.main (F := Ideal))) ⟨m', fun _ => 0, g'⟩ (fun r => ∀ c : Dev Cert.MergefRefIdeal.nD,
          r.2.mem ((c.tc : Thread Cert.MergefRefIdeal.nD Cert.MergefRefIdeal.τ).loc Cert.MergefRefIdeal.main_v44) = v0 c
          ∧ r.2.mem ((c.tc : Thread Cert.MergefRefIdeal.nD Cert.MergefRefIdeal.τ).loc Cert.MergefRefIdeal.main_arg0) = m' ((c.tc : Thread Cert.MergefRefIdeal.nD Cert.MergefRefIdeal.τ).loc Cert.MergefRefIdeal.main_arg0)
          ∧ r.2.mem ((c.tc : Thread Cert.MergefRefIdeal.nD Cert.MergefRefIdeal.τ).loc Cert.MergefRefIdeal.main_arg1) = m' ((c.tc : Thread Cert.MergefRefIdeal.nD Cert.MergefRefIdeal.τ).loc Cert.MergefRefIdeal.main_arg1)
          ∧ r.2.mem ((c.tc : Thread Cert.MergefRefIdeal.nD Cert.MergefRefIdeal.τ).loc Cert.MergefRefIdeal.main_arg2) = m' ((c.tc : Thread Cert.MergefRefIdeal.nD Cert.MergefRefIdeal.τ).loc Cert.MergefRefIdeal.main_arg2)
          ∧ r.2.mem ((c.tc : Thread Cert.MergefRefIdeal.nD Cert.MergefRefIdeal.τ).loc Cert.MergefRefIdeal.main_arg3) = m' ((c.tc : Thread Cert.MergefRefIdeal.nD Cert.MergefRefIdeal.τ).loc Cert.MergefRefIdeal.main_arg3)
          ∧ r.2.mem ((c.tc : Thread Cert.MergefRefIdeal.nD Cert.MergefRefIdeal.τ).loc Cert.MergefRefIdeal.main_arg4) = m' ((c.tc : Thread Cert.MergefRefIdeal.nD Cert.MergefRefIdeal.τ).loc Cert.MergefRefIdeal.main_arg4)
          ∧ r.2.mem ((c.tc : Thread Cert.MergefRefIdeal.nD Cert.MergefRefIdeal.τ).loc Cert.MergefRefIdeal.main_arg5) = m' ((c.tc : Thread Cert.MergefRefIdeal.nD Cert.MergefRefIdeal.τ).loc Cert.MergefRefIdeal.main_arg5))

def preserves_Mlpf_MlpfIdeal : Prop :=
  True

def algebraic_MlpfIdeal_MlpfRefIdeal [hMlpfIdeal : Cert.MlpfIdeal.Facts] [hMlpfRefIdeal : Cert.MlpfRefIdeal.Facts] : Prop :=
  ∀ (m : (ℓ : Loc Cert.MlpfIdeal.nD Cert.MlpfIdeal.τ Cert.MlpfIdeal.sig) → Buf (Elt Ideal) ℓ) (g : Dev Cert.MlpfIdeal.nD → PrngReg)
    (m' : (ℓ : Loc Cert.MlpfRefIdeal.nD Cert.MlpfRefIdeal.τ Cert.MlpfRefIdeal.sig) → Buf (Elt Ideal) ℓ) (g' : Dev Cert.MlpfRefIdeal.nD → PrngReg), Pre_MlpfIdeal m →
    (∀ c : Dev Cert.MlpfIdeal.nD,
      m' ((c.tc : Thread Cert.MlpfRefIdeal.nD Cert.MlpfRefIdeal.τ).loc Cert.MlpfRefIdeal.main_arg0) = m ((c.tc : Thread Cert.MlpfIdeal.nD Cert.MlpfIdeal.τ).loc Cert.MlpfIdeal.main_arg0)
      ∧ m' ((c.tc : Thread Cert.MlpfRefIdeal.nD Cert.MlpfRefIdeal.τ).loc Cert.MlpfRefIdeal.main_arg1) = m ((c.tc : Thread Cert.MlpfIdeal.nD Cert.MlpfIdeal.τ).loc Cert.MlpfIdeal.main_arg1)
      ∧ m' ((c.tc : Thread Cert.MlpfRefIdeal.nD Cert.MlpfRefIdeal.τ).loc Cert.MlpfRefIdeal.main_arg2) = m ((c.tc : Thread Cert.MlpfIdeal.nD Cert.MlpfIdeal.τ).loc Cert.MlpfIdeal.main_arg2)
      ∧ m' ((c.tc : Thread Cert.MlpfRefIdeal.nD Cert.MlpfRefIdeal.τ).loc Cert.MlpfRefIdeal.main_arg3) = m ((c.tc : Thread Cert.MlpfIdeal.nD Cert.MlpfIdeal.τ).loc Cert.MlpfIdeal.main_arg3)) →
    ∃ (v0 : (c : Dev Cert.MlpfIdeal.nD) → Buf (Elt Ideal) ((c.tc : Thread Cert.MlpfIdeal.nD Cert.MlpfIdeal.τ).loc Cert.MlpfIdeal.main_v5_0)) (v1 : (c : Dev Cert.MlpfIdeal.nD) → Buf (Elt Ideal) ((c.tc : Thread Cert.MlpfIdeal.nD Cert.MlpfIdeal.τ).loc Cert.MlpfIdeal.main_v5_1)),
      θ_run (Cert.MlpfIdeal.defs (F := Ideal)) (onTc (τ := Cert.MlpfIdeal.τ) (Cert.MlpfIdeal.main (F := Ideal))) ⟨m, fun _ => 0, g⟩ (fun r => ∀ c : Dev Cert.MlpfIdeal.nD,
          r.2.mem ((c.tc : Thread Cert.MlpfIdeal.nD Cert.MlpfIdeal.τ).loc Cert.MlpfIdeal.main_v5_0) = v0 c
          ∧ r.2.mem ((c.tc : Thread Cert.MlpfIdeal.nD Cert.MlpfIdeal.τ).loc Cert.MlpfIdeal.main_v5_1) = v1 c
          ∧ r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
          ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
          ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
          ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3))
      ∧ θ_run (Cert.MlpfRefIdeal.defs (F := Ideal)) (onTc (τ := Cert.MlpfRefIdeal.τ) (Cert.MlpfRefIdeal.main (F := Ideal))) ⟨m', fun _ => 0, g'⟩ (fun r => ∀ c : Dev Cert.MlpfRefIdeal.nD,
          r.2.mem ((c.tc : Thread Cert.MlpfRefIdeal.nD Cert.MlpfRefIdeal.τ).loc Cert.MlpfRefIdeal.main_v17) = v0 c
          ∧ r.2.mem ((c.tc : Thread Cert.MlpfRefIdeal.nD Cert.MlpfRefIdeal.τ).loc Cert.MlpfRefIdeal.main_v18) = v1 c
          ∧ r.2.mem ((c.tc : Thread Cert.MlpfRefIdeal.nD Cert.MlpfRefIdeal.τ).loc Cert.MlpfRefIdeal.main_arg0) = m' ((c.tc : Thread Cert.MlpfRefIdeal.nD Cert.MlpfRefIdeal.τ).loc Cert.MlpfRefIdeal.main_arg0)
          ∧ r.2.mem ((c.tc : Thread Cert.MlpfRefIdeal.nD Cert.MlpfRefIdeal.τ).loc Cert.MlpfRefIdeal.main_arg1) = m' ((c.tc : Thread Cert.MlpfRefIdeal.nD Cert.MlpfRefIdeal.τ).loc Cert.MlpfRefIdeal.main_arg1)
          ∧ r.2.mem ((c.tc : Thread Cert.MlpfRefIdeal.nD Cert.MlpfRefIdeal.τ).loc Cert.MlpfRefIdeal.main_arg2) = m' ((c.tc : Thread Cert.MlpfRefIdeal.nD Cert.MlpfRefIdeal.τ).loc Cert.MlpfRefIdeal.main_arg2)
          ∧ r.2.mem ((c.tc : Thread Cert.MlpfRefIdeal.nD Cert.MlpfRefIdeal.τ).loc Cert.MlpfRefIdeal.main_arg3) = m' ((c.tc : Thread Cert.MlpfRefIdeal.nD Cert.MlpfRefIdeal.τ).loc Cert.MlpfRefIdeal.main_arg3))

def preserves_Ssmp_SsmpIdeal : Prop :=
  True

def algebraic_SsmpIdeal_SsmpRefIdeal_pre_param_finite [hSsmpIdeal : Cert.SsmpIdeal.Facts] [hSsmpRefIdeal : Cert.SsmpRefIdeal.Facts] [hPre_param_finite : Cert.Pre_param_finite.Facts] : Prop :=
  ∀ (m : (ℓ : Loc Cert.SsmpIdeal.nD Cert.SsmpIdeal.τ Cert.SsmpIdeal.sig) → Buf (Elt Ideal) ℓ) (g : Dev Cert.SsmpIdeal.nD → PrngReg)
    (m' : (ℓ : Loc Cert.SsmpRefIdeal.nD Cert.SsmpRefIdeal.τ Cert.SsmpRefIdeal.sig) → Buf (Elt Ideal) ℓ) (g' : Dev Cert.SsmpRefIdeal.nD → PrngReg), Pre_SsmpIdeal_param_finite m →
    (∀ c : Dev Cert.SsmpIdeal.nD,
      m' ((c.tc : Thread Cert.SsmpRefIdeal.nD Cert.SsmpRefIdeal.τ).loc Cert.SsmpRefIdeal.main_arg0) = m ((c.tc : Thread Cert.SsmpIdeal.nD Cert.SsmpIdeal.τ).loc Cert.SsmpIdeal.main_arg0)
      ∧ m' ((c.tc : Thread Cert.SsmpRefIdeal.nD Cert.SsmpRefIdeal.τ).loc Cert.SsmpRefIdeal.main_arg1) = m ((c.tc : Thread Cert.SsmpIdeal.nD Cert.SsmpIdeal.τ).loc Cert.SsmpIdeal.main_arg1)
      ∧ m' ((c.tc : Thread Cert.SsmpRefIdeal.nD Cert.SsmpRefIdeal.τ).loc Cert.SsmpRefIdeal.main_arg2) = m ((c.tc : Thread Cert.SsmpIdeal.nD Cert.SsmpIdeal.τ).loc Cert.SsmpIdeal.main_arg2)
      ∧ m' ((c.tc : Thread Cert.SsmpRefIdeal.nD Cert.SsmpRefIdeal.τ).loc Cert.SsmpRefIdeal.main_arg3) = m ((c.tc : Thread Cert.SsmpIdeal.nD Cert.SsmpIdeal.τ).loc Cert.SsmpIdeal.main_arg3)
      ∧ m' ((c.tc : Thread Cert.SsmpRefIdeal.nD Cert.SsmpRefIdeal.τ).loc Cert.SsmpRefIdeal.main_arg4) = m ((c.tc : Thread Cert.SsmpIdeal.nD Cert.SsmpIdeal.τ).loc Cert.SsmpIdeal.main_arg4)
      ∧ m' ((c.tc : Thread Cert.SsmpRefIdeal.nD Cert.SsmpRefIdeal.τ).loc Cert.SsmpRefIdeal.main_arg5) = m ((c.tc : Thread Cert.SsmpIdeal.nD Cert.SsmpIdeal.τ).loc Cert.SsmpIdeal.main_arg5)
      ∧ m' ((c.tc : Thread Cert.SsmpRefIdeal.nD Cert.SsmpRefIdeal.τ).loc Cert.SsmpRefIdeal.main_arg6) = m ((c.tc : Thread Cert.SsmpIdeal.nD Cert.SsmpIdeal.τ).loc Cert.SsmpIdeal.main_arg6)
      ∧ m' ((c.tc : Thread Cert.SsmpRefIdeal.nD Cert.SsmpRefIdeal.τ).loc Cert.SsmpRefIdeal.main_arg7) = m ((c.tc : Thread Cert.SsmpIdeal.nD Cert.SsmpIdeal.τ).loc Cert.SsmpIdeal.main_arg7)
      ∧ m' ((c.tc : Thread Cert.SsmpRefIdeal.nD Cert.SsmpRefIdeal.τ).loc Cert.SsmpRefIdeal.main_arg8) = m ((c.tc : Thread Cert.SsmpIdeal.nD Cert.SsmpIdeal.τ).loc Cert.SsmpIdeal.main_arg8)
      ∧ m' ((c.tc : Thread Cert.SsmpRefIdeal.nD Cert.SsmpRefIdeal.τ).loc Cert.SsmpRefIdeal.main_arg9) = m ((c.tc : Thread Cert.SsmpIdeal.nD Cert.SsmpIdeal.τ).loc Cert.SsmpIdeal.main_arg9)) →
    ∃ (v0 : (c : Dev Cert.SsmpIdeal.nD) → Buf (Elt Ideal) ((c.tc : Thread Cert.SsmpIdeal.nD Cert.SsmpIdeal.τ).loc Cert.SsmpIdeal.main_v12_0)) (v1 : (c : Dev Cert.SsmpIdeal.nD) → Buf (Elt Ideal) ((c.tc : Thread Cert.SsmpIdeal.nD Cert.SsmpIdeal.τ).loc Cert.SsmpIdeal.main_v12_1)) (v2 : (c : Dev Cert.SsmpIdeal.nD) → Buf (Elt Ideal) ((c.tc : Thread Cert.SsmpIdeal.nD Cert.SsmpIdeal.τ).loc Cert.SsmpIdeal.main_v12_2)) (v3 : (c : Dev Cert.SsmpIdeal.nD) → Buf (Elt Ideal) ((c.tc : Thread Cert.SsmpIdeal.nD Cert.SsmpIdeal.τ).loc Cert.SsmpIdeal.main_v12_3)) (v4 : (c : Dev Cert.SsmpIdeal.nD) → Buf (Elt Ideal) ((c.tc : Thread Cert.SsmpIdeal.nD Cert.SsmpIdeal.τ).loc Cert.SsmpIdeal.main_v12_4)) (v5 : (c : Dev Cert.SsmpIdeal.nD) → Buf (Elt Ideal) ((c.tc : Thread Cert.SsmpIdeal.nD Cert.SsmpIdeal.τ).loc Cert.SsmpIdeal.main_v12_5)) (v6 : (c : Dev Cert.SsmpIdeal.nD) → Buf (Elt Ideal) ((c.tc : Thread Cert.SsmpIdeal.nD Cert.SsmpIdeal.τ).loc Cert.SsmpIdeal.main_v12_6)),
      θ_run (Cert.SsmpIdeal.defs (F := Ideal)) (onTc (τ := Cert.SsmpIdeal.τ) (Cert.SsmpIdeal.main (F := Ideal))) ⟨m, fun _ => 0, g⟩ (fun r => ∀ c : Dev Cert.SsmpIdeal.nD,
          r.2.mem ((c.tc : Thread Cert.SsmpIdeal.nD Cert.SsmpIdeal.τ).loc Cert.SsmpIdeal.main_v12_0) = v0 c
          ∧ r.2.mem ((c.tc : Thread Cert.SsmpIdeal.nD Cert.SsmpIdeal.τ).loc Cert.SsmpIdeal.main_v12_1) = v1 c
          ∧ r.2.mem ((c.tc : Thread Cert.SsmpIdeal.nD Cert.SsmpIdeal.τ).loc Cert.SsmpIdeal.main_v12_2) = v2 c
          ∧ r.2.mem ((c.tc : Thread Cert.SsmpIdeal.nD Cert.SsmpIdeal.τ).loc Cert.SsmpIdeal.main_v12_3) = v3 c
          ∧ r.2.mem ((c.tc : Thread Cert.SsmpIdeal.nD Cert.SsmpIdeal.τ).loc Cert.SsmpIdeal.main_v12_4) = v4 c
          ∧ r.2.mem ((c.tc : Thread Cert.SsmpIdeal.nD Cert.SsmpIdeal.τ).loc Cert.SsmpIdeal.main_v12_5) = v5 c
          ∧ r.2.mem ((c.tc : Thread Cert.SsmpIdeal.nD Cert.SsmpIdeal.τ).loc Cert.SsmpIdeal.main_v12_6) = v6 c
          ∧ r.2.mem ((c.tc : Thread Cert.SsmpIdeal.nD Cert.SsmpIdeal.τ).loc Cert.SsmpIdeal.main_arg0) = m ((c.tc : Thread Cert.SsmpIdeal.nD Cert.SsmpIdeal.τ).loc Cert.SsmpIdeal.main_arg0)
          ∧ r.2.mem ((c.tc : Thread Cert.SsmpIdeal.nD Cert.SsmpIdeal.τ).loc Cert.SsmpIdeal.main_arg1) = m ((c.tc : Thread Cert.SsmpIdeal.nD Cert.SsmpIdeal.τ).loc Cert.SsmpIdeal.main_arg1)
          ∧ r.2.mem ((c.tc : Thread Cert.SsmpIdeal.nD Cert.SsmpIdeal.τ).loc Cert.SsmpIdeal.main_arg2) = m ((c.tc : Thread Cert.SsmpIdeal.nD Cert.SsmpIdeal.τ).loc Cert.SsmpIdeal.main_arg2)
          ∧ r.2.mem ((c.tc : Thread Cert.SsmpIdeal.nD Cert.SsmpIdeal.τ).loc Cert.SsmpIdeal.main_arg3) = m ((c.tc : Thread Cert.SsmpIdeal.nD Cert.SsmpIdeal.τ).loc Cert.SsmpIdeal.main_arg3)
          ∧ r.2.mem ((c.tc : Thread Cert.SsmpIdeal.nD Cert.SsmpIdeal.τ).loc Cert.SsmpIdeal.main_arg4) = m ((c.tc : Thread Cert.SsmpIdeal.nD Cert.SsmpIdeal.τ).loc Cert.SsmpIdeal.main_arg4)
          ∧ r.2.mem ((c.tc : Thread Cert.SsmpIdeal.nD Cert.SsmpIdeal.τ).loc Cert.SsmpIdeal.main_arg5) = m ((c.tc : Thread Cert.SsmpIdeal.nD Cert.SsmpIdeal.τ).loc Cert.SsmpIdeal.main_arg5)
          ∧ r.2.mem ((c.tc : Thread Cert.SsmpIdeal.nD Cert.SsmpIdeal.τ).loc Cert.SsmpIdeal.main_arg6) = m ((c.tc : Thread Cert.SsmpIdeal.nD Cert.SsmpIdeal.τ).loc Cert.SsmpIdeal.main_arg6)
          ∧ r.2.mem ((c.tc : Thread Cert.SsmpIdeal.nD Cert.SsmpIdeal.τ).loc Cert.SsmpIdeal.main_arg7) = m ((c.tc : Thread Cert.SsmpIdeal.nD Cert.SsmpIdeal.τ).loc Cert.SsmpIdeal.main_arg7)
          ∧ r.2.mem ((c.tc : Thread Cert.SsmpIdeal.nD Cert.SsmpIdeal.τ).loc Cert.SsmpIdeal.main_arg8) = m ((c.tc : Thread Cert.SsmpIdeal.nD Cert.SsmpIdeal.τ).loc Cert.SsmpIdeal.main_arg8)
          ∧ r.2.mem ((c.tc : Thread Cert.SsmpIdeal.nD Cert.SsmpIdeal.τ).loc Cert.SsmpIdeal.main_arg9) = m ((c.tc : Thread Cert.SsmpIdeal.nD Cert.SsmpIdeal.τ).loc Cert.SsmpIdeal.main_arg9))
      ∧ θ_run (Cert.SsmpRefIdeal.defs (F := Ideal)) (onTc (τ := Cert.SsmpRefIdeal.τ) (Cert.SsmpRefIdeal.main (F := Ideal))) ⟨m', fun _ => 0, g'⟩ (fun r => ∀ c : Dev Cert.SsmpRefIdeal.nD,
          r.2.mem ((c.tc : Thread Cert.SsmpRefIdeal.nD Cert.SsmpRefIdeal.τ).loc Cert.SsmpRefIdeal.main_v153) = v0 c
          ∧ r.2.mem ((c.tc : Thread Cert.SsmpRefIdeal.nD Cert.SsmpRefIdeal.τ).loc Cert.SsmpRefIdeal.main_v145) = v1 c
          ∧ r.2.mem ((c.tc : Thread Cert.SsmpRefIdeal.nD Cert.SsmpRefIdeal.τ).loc Cert.SsmpRefIdeal.main_v157) = v2 c
          ∧ r.2.mem ((c.tc : Thread Cert.SsmpRefIdeal.nD Cert.SsmpRefIdeal.τ).loc Cert.SsmpRefIdeal.main_v159) = v3 c
          ∧ r.2.mem ((c.tc : Thread Cert.SsmpRefIdeal.nD Cert.SsmpRefIdeal.τ).loc Cert.SsmpRefIdeal.main_v161) = v4 c
          ∧ r.2.mem ((c.tc : Thread Cert.SsmpRefIdeal.nD Cert.SsmpRefIdeal.τ).loc Cert.SsmpRefIdeal.main_v168) = v5 c
          ∧ r.2.mem ((c.tc : Thread Cert.SsmpRefIdeal.nD Cert.SsmpRefIdeal.τ).loc Cert.SsmpRefIdeal.main_v176) = v6 c
          ∧ r.2.mem ((c.tc : Thread Cert.SsmpRefIdeal.nD Cert.SsmpRefIdeal.τ).loc Cert.SsmpRefIdeal.main_arg0) = m' ((c.tc : Thread Cert.SsmpRefIdeal.nD Cert.SsmpRefIdeal.τ).loc Cert.SsmpRefIdeal.main_arg0)
          ∧ r.2.mem ((c.tc : Thread Cert.SsmpRefIdeal.nD Cert.SsmpRefIdeal.τ).loc Cert.SsmpRefIdeal.main_arg1) = m' ((c.tc : Thread Cert.SsmpRefIdeal.nD Cert.SsmpRefIdeal.τ).loc Cert.SsmpRefIdeal.main_arg1)
          ∧ r.2.mem ((c.tc : Thread Cert.SsmpRefIdeal.nD Cert.SsmpRefIdeal.τ).loc Cert.SsmpRefIdeal.main_arg2) = m' ((c.tc : Thread Cert.SsmpRefIdeal.nD Cert.SsmpRefIdeal.τ).loc Cert.SsmpRefIdeal.main_arg2)
          ∧ r.2.mem ((c.tc : Thread Cert.SsmpRefIdeal.nD Cert.SsmpRefIdeal.τ).loc Cert.SsmpRefIdeal.main_arg3) = m' ((c.tc : Thread Cert.SsmpRefIdeal.nD Cert.SsmpRefIdeal.τ).loc Cert.SsmpRefIdeal.main_arg3)
          ∧ r.2.mem ((c.tc : Thread Cert.SsmpRefIdeal.nD Cert.SsmpRefIdeal.τ).loc Cert.SsmpRefIdeal.main_arg4) = m' ((c.tc : Thread Cert.SsmpRefIdeal.nD Cert.SsmpRefIdeal.τ).loc Cert.SsmpRefIdeal.main_arg4)
          ∧ r.2.mem ((c.tc : Thread Cert.SsmpRefIdeal.nD Cert.SsmpRefIdeal.τ).loc Cert.SsmpRefIdeal.main_arg5) = m' ((c.tc : Thread Cert.SsmpRefIdeal.nD Cert.SsmpRefIdeal.τ).loc Cert.SsmpRefIdeal.main_arg5)
          ∧ r.2.mem ((c.tc : Thread Cert.SsmpRefIdeal.nD Cert.SsmpRefIdeal.τ).loc Cert.SsmpRefIdeal.main_arg6) = m' ((c.tc : Thread Cert.SsmpRefIdeal.nD Cert.SsmpRefIdeal.τ).loc Cert.SsmpRefIdeal.main_arg6)
          ∧ r.2.mem ((c.tc : Thread Cert.SsmpRefIdeal.nD Cert.SsmpRefIdeal.τ).loc Cert.SsmpRefIdeal.main_arg7) = m' ((c.tc : Thread Cert.SsmpRefIdeal.nD Cert.SsmpRefIdeal.τ).loc Cert.SsmpRefIdeal.main_arg7)
          ∧ r.2.mem ((c.tc : Thread Cert.SsmpRefIdeal.nD Cert.SsmpRefIdeal.τ).loc Cert.SsmpRefIdeal.main_arg8) = m' ((c.tc : Thread Cert.SsmpRefIdeal.nD Cert.SsmpRefIdeal.τ).loc Cert.SsmpRefIdeal.main_arg8)
          ∧ r.2.mem ((c.tc : Thread Cert.SsmpRefIdeal.nD Cert.SsmpRefIdeal.τ).loc Cert.SsmpRefIdeal.main_arg9) = m' ((c.tc : Thread Cert.SsmpRefIdeal.nD Cert.SsmpRefIdeal.τ).loc Cert.SsmpRefIdeal.main_arg9))

def preserves_Gmlpf_GmlpfIdeal : Prop :=
  IdealRules.named_const.Statement Cert.GmlpfIdeal.κ "gelu_a" .f32 0x3D372713#32 ((8943 / 200000 : ℝ) : EReal)

def algebraic_GmlpfIdeal_GmlpfRefIdeal [hGmlpfIdeal : Cert.GmlpfIdeal.Facts] [hGmlpfRefIdeal : Cert.GmlpfRefIdeal.Facts] : Prop :=
  ∀ (m : (ℓ : Loc Cert.GmlpfIdeal.nD Cert.GmlpfIdeal.τ Cert.GmlpfIdeal.sig) → Buf (Elt Ideal) ℓ) (g : Dev Cert.GmlpfIdeal.nD → PrngReg)
    (m' : (ℓ : Loc Cert.GmlpfRefIdeal.nD Cert.GmlpfRefIdeal.τ Cert.GmlpfRefIdeal.sig) → Buf (Elt Ideal) ℓ) (g' : Dev Cert.GmlpfRefIdeal.nD → PrngReg), Pre_GmlpfIdeal m →
    (∀ c : Dev Cert.GmlpfIdeal.nD,
      m' ((c.tc : Thread Cert.GmlpfRefIdeal.nD Cert.GmlpfRefIdeal.τ).loc Cert.GmlpfRefIdeal.main_arg0) = m ((c.tc : Thread Cert.GmlpfIdeal.nD Cert.GmlpfIdeal.τ).loc Cert.GmlpfIdeal.main_arg0)
      ∧ m' ((c.tc : Thread Cert.GmlpfRefIdeal.nD Cert.GmlpfRefIdeal.τ).loc Cert.GmlpfRefIdeal.main_arg1) = m ((c.tc : Thread Cert.GmlpfIdeal.nD Cert.GmlpfIdeal.τ).loc Cert.GmlpfIdeal.main_arg1)
      ∧ m' ((c.tc : Thread Cert.GmlpfRefIdeal.nD Cert.GmlpfRefIdeal.τ).loc Cert.GmlpfRefIdeal.main_arg2) = m ((c.tc : Thread Cert.GmlpfIdeal.nD Cert.GmlpfIdeal.τ).loc Cert.GmlpfIdeal.main_arg2)
      ∧ m' ((c.tc : Thread Cert.GmlpfRefIdeal.nD Cert.GmlpfRefIdeal.τ).loc Cert.GmlpfRefIdeal.main_arg3) = m ((c.tc : Thread Cert.GmlpfIdeal.nD Cert.GmlpfIdeal.τ).loc Cert.GmlpfIdeal.main_arg3)
      ∧ m' ((c.tc : Thread Cert.GmlpfRefIdeal.nD Cert.GmlpfRefIdeal.τ).loc Cert.GmlpfRefIdeal.main_arg4) = m ((c.tc : Thread Cert.GmlpfIdeal.nD Cert.GmlpfIdeal.τ).loc Cert.GmlpfIdeal.main_arg4)) →
    ∃ (v0 : (c : Dev Cert.GmlpfIdeal.nD) → Buf (Elt Ideal) ((c.tc : Thread Cert.GmlpfIdeal.nD Cert.GmlpfIdeal.τ).loc Cert.GmlpfIdeal.main_v11)),
      θ_run (Cert.GmlpfIdeal.defs (F := Ideal)) (onTc (τ := Cert.GmlpfIdeal.τ) (Cert.GmlpfIdeal.main (F := Ideal))) ⟨m, fun _ => 0, g⟩ (fun r => ∀ c : Dev Cert.GmlpfIdeal.nD,
          r.2.mem ((c.tc : Thread Cert.GmlpfIdeal.nD Cert.GmlpfIdeal.τ).loc Cert.GmlpfIdeal.main_v11) = v0 c
          ∧ r.2.mem ((c.tc : Thread Cert.GmlpfIdeal.nD Cert.GmlpfIdeal.τ).loc Cert.GmlpfIdeal.main_arg0) = m ((c.tc : Thread Cert.GmlpfIdeal.nD Cert.GmlpfIdeal.τ).loc Cert.GmlpfIdeal.main_arg0)
          ∧ r.2.mem ((c.tc : Thread Cert.GmlpfIdeal.nD Cert.GmlpfIdeal.τ).loc Cert.GmlpfIdeal.main_arg1) = m ((c.tc : Thread Cert.GmlpfIdeal.nD Cert.GmlpfIdeal.τ).loc Cert.GmlpfIdeal.main_arg1)
          ∧ r.2.mem ((c.tc : Thread Cert.GmlpfIdeal.nD Cert.GmlpfIdeal.τ).loc Cert.GmlpfIdeal.main_arg2) = m ((c.tc : Thread Cert.GmlpfIdeal.nD Cert.GmlpfIdeal.τ).loc Cert.GmlpfIdeal.main_arg2)
          ∧ r.2.mem ((c.tc : Thread Cert.GmlpfIdeal.nD Cert.GmlpfIdeal.τ).loc Cert.GmlpfIdeal.main_arg3) = m ((c.tc : Thread Cert.GmlpfIdeal.nD Cert.GmlpfIdeal.τ).loc Cert.GmlpfIdeal.main_arg3)
          ∧ r.2.mem ((c.tc : Thread Cert.GmlpfIdeal.nD Cert.GmlpfIdeal.τ).loc Cert.GmlpfIdeal.main_arg4) = m ((c.tc : Thread Cert.GmlpfIdeal.nD Cert.GmlpfIdeal.τ).loc Cert.GmlpfIdeal.main_arg4))
      ∧ θ_run (Cert.GmlpfRefIdeal.defs (F := Ideal)) (onTc (τ := Cert.GmlpfRefIdeal.τ) (Cert.GmlpfRefIdeal.main (F := Ideal))) ⟨m', fun _ => 0, g'⟩ (fun r => ∀ c : Dev Cert.GmlpfRefIdeal.nD,
          r.2.mem ((c.tc : Thread Cert.GmlpfRefIdeal.nD Cert.GmlpfRefIdeal.τ).loc Cert.GmlpfRefIdeal.main_v53) = v0 c
          ∧ r.2.mem ((c.tc : Thread Cert.GmlpfRefIdeal.nD Cert.GmlpfRefIdeal.τ).loc Cert.GmlpfRefIdeal.main_arg0) = m' ((c.tc : Thread Cert.GmlpfRefIdeal.nD Cert.GmlpfRefIdeal.τ).loc Cert.GmlpfRefIdeal.main_arg0)
          ∧ r.2.mem ((c.tc : Thread Cert.GmlpfRefIdeal.nD Cert.GmlpfRefIdeal.τ).loc Cert.GmlpfRefIdeal.main_arg1) = m' ((c.tc : Thread Cert.GmlpfRefIdeal.nD Cert.GmlpfRefIdeal.τ).loc Cert.GmlpfRefIdeal.main_arg1)
          ∧ r.2.mem ((c.tc : Thread Cert.GmlpfRefIdeal.nD Cert.GmlpfRefIdeal.τ).loc Cert.GmlpfRefIdeal.main_arg2) = m' ((c.tc : Thread Cert.GmlpfRefIdeal.nD Cert.GmlpfRefIdeal.τ).loc Cert.GmlpfRefIdeal.main_arg2)
          ∧ r.2.mem ((c.tc : Thread Cert.GmlpfRefIdeal.nD Cert.GmlpfRefIdeal.τ).loc Cert.GmlpfRefIdeal.main_arg3) = m' ((c.tc : Thread Cert.GmlpfRefIdeal.nD Cert.GmlpfRefIdeal.τ).loc Cert.GmlpfRefIdeal.main_arg3)
          ∧ r.2.mem ((c.tc : Thread Cert.GmlpfRefIdeal.nD Cert.GmlpfRefIdeal.τ).loc Cert.GmlpfRefIdeal.main_arg4) = m' ((c.tc : Thread Cert.GmlpfRefIdeal.nD Cert.GmlpfRefIdeal.τ).loc Cert.GmlpfRefIdeal.main_arg4))

def preserves_Attnf_AttnfIdeal : Prop :=
  IdealRules.named_const.Statement Cert.AttnfIdeal.κ "mask" .f32 0xF149F2CA#32 ⊥

def algebraic_AttnfIdeal_AttnfRefIdeal_pre_attnf_finite [hAttnfIdeal : Cert.AttnfIdeal.Facts] [hAttnfRefIdeal : Cert.AttnfRefIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal_attnf_finite m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)
      ∧ m' ((c.tc : Thread Cert.AttnfRefIdeal.nD Cert.AttnfRefIdeal.τ).loc Cert.AttnfRefIdeal.main_arg2) = m ((c.tc : Thread Cert.AttnfIdeal.nD Cert.AttnfIdeal.τ).loc Cert.AttnfIdeal.main_arg2)
      ∧ m' ((c.tc : Thread Cert.AttnfRefIdeal.nD Cert.AttnfRefIdeal.τ).loc Cert.AttnfRefIdeal.main_arg3) = m ((c.tc : Thread Cert.AttnfIdeal.nD Cert.AttnfIdeal.τ).loc Cert.AttnfIdeal.main_arg3)
      ∧ m' ((c.tc : Thread Cert.AttnfRefIdeal.nD Cert.AttnfRefIdeal.τ).loc Cert.AttnfRefIdeal.main_arg4) = m ((c.tc : Thread Cert.AttnfIdeal.nD Cert.AttnfIdeal.τ).loc Cert.AttnfIdeal.main_arg4)) →
    ∃ (v0 : (c : Dev Cert.AttnfIdeal.nD) → Buf (Elt Ideal) ((c.tc : Thread Cert.AttnfIdeal.nD Cert.AttnfIdeal.τ).loc Cert.AttnfIdeal.main_v29)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v29) = v0 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
          ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2)
          ∧ r.2.mem ((c.tc : Thread Cert.AttnfIdeal.nD Cert.AttnfIdeal.τ).loc Cert.AttnfIdeal.main_arg3) = m ((c.tc : Thread Cert.AttnfIdeal.nD Cert.AttnfIdeal.τ).loc Cert.AttnfIdeal.main_arg3)
          ∧ r.2.mem ((c.tc : Thread Cert.AttnfIdeal.nD Cert.AttnfIdeal.τ).loc Cert.AttnfIdeal.main_arg4) = m ((c.tc : Thread Cert.AttnfIdeal.nD Cert.AttnfIdeal.τ).loc Cert.AttnfIdeal.main_arg4))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v151) = v0 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1)
          ∧ r.2.mem ((c.tc : Thread Cert.AttnfRefIdeal.nD Cert.AttnfRefIdeal.τ).loc Cert.AttnfRefIdeal.main_arg2) = m' ((c.tc : Thread Cert.AttnfRefIdeal.nD Cert.AttnfRefIdeal.τ).loc Cert.AttnfRefIdeal.main_arg2)
          ∧ r.2.mem ((c.tc : Thread Cert.AttnfRefIdeal.nD Cert.AttnfRefIdeal.τ).loc Cert.AttnfRefIdeal.main_arg3) = m' ((c.tc : Thread Cert.AttnfRefIdeal.nD Cert.AttnfRefIdeal.τ).loc Cert.AttnfRefIdeal.main_arg3)
          ∧ r.2.mem ((c.tc : Thread Cert.AttnfRefIdeal.nD Cert.AttnfRefIdeal.τ).loc Cert.AttnfRefIdeal.main_arg4) = m' ((c.tc : Thread Cert.AttnfRefIdeal.nD Cert.AttnfRefIdeal.τ).loc Cert.AttnfRefIdeal.main_arg4))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v1)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v1) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v4) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v16_0)) (v1 : (c : Dev Cert.RopeIdeal.nD) → Buf (Elt Ideal) ((c.tc : Thread Cert.RopeIdeal.nD Cert.RopeIdeal.τ).loc Cert.RopeIdeal.main_v16_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v16_0) = v0 c
          ∧ r.2.mem ((c.tc : Thread Cert.RopeIdeal.nD Cert.RopeIdeal.τ).loc Cert.RopeIdeal.main_v16_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v22) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hLoss : Cert.Loss.Facts) (hLossIdeal : Cert.LossIdeal.Facts) (hLossRefIdeal : Cert.LossRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPle : Cert.Ple.Facts) (hPleIdeal : Cert.PleIdeal.Facts) (hPleRefIdeal : Cert.PleRefIdeal.Facts) (hMlp : Cert.Mlp.Facts) (hMlpIdeal : Cert.MlpIdeal.Facts) (hMlpRefIdeal : Cert.MlpRefIdeal.Facts) (hGmlp : Cert.Gmlp.Facts) (hGmlpIdeal : Cert.GmlpIdeal.Facts) (hGmlpRefIdeal : Cert.GmlpRefIdeal.Facts) (hInprojf : Cert.Inprojf.Facts) (hInprojfIdeal : Cert.InprojfIdeal.Facts) (hInprojfRefIdeal : Cert.InprojfRefIdeal.Facts) (hPlef : Cert.Plef.Facts) (hPlefIdeal : Cert.PlefIdeal.Facts) (hPlefRefIdeal : Cert.PlefRefIdeal.Facts) (hMergef : Cert.Mergef.Facts) (hMergefIdeal : Cert.MergefIdeal.Facts) (hMergefRefIdeal : Cert.MergefRefIdeal.Facts) (hMlpf : Cert.Mlpf.Facts) (hMlpfIdeal : Cert.MlpfIdeal.Facts) (hMlpfRefIdeal : Cert.MlpfRefIdeal.Facts) (hSsmp : Cert.Ssmp.Facts) (hSsmpIdeal : Cert.SsmpIdeal.Facts) (hSsmpRefIdeal : Cert.SsmpRefIdeal.Facts) (hGmlpf : Cert.Gmlpf.Facts) (hGmlpfIdeal : Cert.GmlpfIdeal.Facts) (hGmlpfRefIdeal : Cert.GmlpfRefIdeal.Facts) (hAttnf : Cert.Attnf.Facts) (hAttnfIdeal : Cert.AttnfIdeal.Facts) (hAttnfRefIdeal : Cert.AttnfRefIdeal.Facts) (hTn : Cert.Tn.Facts) (hTnIdeal : Cert.TnIdeal.Facts) (hTnRefIdeal : Cert.TnRefIdeal.Facts) (hAdam : Cert.Adam.Facts) (hAdamIdeal : Cert.AdamIdeal.Facts) (hAdamRefIdeal : Cert.AdamRefIdeal.Facts) (hRope : Cert.Rope.Facts) (hRopeIdeal : Cert.RopeIdeal.Facts) (hRopeRefIdeal : Cert.RopeRefIdeal.Facts) (hPre_merge_finite : Cert.Pre_merge_finite.Facts) (hPre_inproj_finite : Cert.Pre_inproj_finite.Facts) (hPre_ple_finite : Cert.Pre_ple_finite.Facts) (hPre_mlp_finite : Cert.Pre_mlp_finite.Facts) (hPre_gmlp_finite : Cert.Pre_gmlp_finite.Facts) (hPre_param_finite : Cert.Pre_param_finite.Facts) (hPre_attnf_finite : Cert.Pre_attnf_finite.Facts),
    quiescent_Loss (hLoss := hLoss)
    ∧ quiescent_LossIdeal (hLossIdeal := hLossIdeal)
    ∧ quiescent_LossRefIdeal (hLossRefIdeal := hLossRefIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Gmlp (hGmlp := hGmlp)
    ∧ quiescent_GmlpIdeal (hGmlpIdeal := hGmlpIdeal)
    ∧ quiescent_GmlpIdeal_pre_gmlp_finite (hGmlpIdeal := hGmlpIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_Inprojf (hInprojf := hInprojf)
    ∧ quiescent_InprojfIdeal (hInprojfIdeal := hInprojfIdeal)
    ∧ quiescent_InprojfRefIdeal (hInprojfRefIdeal := hInprojfRefIdeal)
    ∧ quiescent_Plef (hPlef := hPlef)
    ∧ quiescent_PlefIdeal (hPlefIdeal := hPlefIdeal)
    ∧ quiescent_PlefRefIdeal (hPlefRefIdeal := hPlefRefIdeal)
    ∧ quiescent_Mergef (hMergef := hMergef)
    ∧ quiescent_MergefIdeal (hMergefIdeal := hMergefIdeal)
    ∧ quiescent_MergefRefIdeal (hMergefRefIdeal := hMergefRefIdeal)
    ∧ quiescent_Mlpf (hMlpf := hMlpf)
    ∧ quiescent_MlpfIdeal (hMlpfIdeal := hMlpfIdeal)
    ∧ quiescent_MlpfRefIdeal (hMlpfRefIdeal := hMlpfRefIdeal)
    ∧ quiescent_Ssmp (hSsmp := hSsmp)
    ∧ quiescent_SsmpIdeal (hSsmpIdeal := hSsmpIdeal)
    ∧ quiescent_SsmpIdeal_pre_param_finite (hSsmpIdeal := hSsmpIdeal) (hPre_param_finite := hPre_param_finite)
    ∧ quiescent_SsmpRefIdeal (hSsmpRefIdeal := hSsmpRefIdeal)
    ∧ quiescent_SsmpRefIdeal_pre_param_finite (hSsmpRefIdeal := hSsmpRefIdeal) (hPre_param_finite := hPre_param_finite)
    ∧ quiescent_Gmlpf (hGmlpf := hGmlpf)
    ∧ quiescent_GmlpfIdeal (hGmlpfIdeal := hGmlpfIdeal)
    ∧ quiescent_GmlpfRefIdeal (hGmlpfRefIdeal := hGmlpfRefIdeal)
    ∧ quiescent_Attnf (hAttnf := hAttnf)
    ∧ quiescent_AttnfIdeal (hAttnfIdeal := hAttnfIdeal)
    ∧ quiescent_AttnfIdeal_pre_attnf_finite (hAttnfIdeal := hAttnfIdeal) (hPre_attnf_finite := hPre_attnf_finite)
    ∧ quiescent_AttnfRefIdeal (hAttnfRefIdeal := hAttnfRefIdeal)
    ∧ quiescent_AttnfRefIdeal_pre_attnf_finite (hAttnfRefIdeal := hAttnfRefIdeal) (hPre_attnf_finite := hPre_attnf_finite)
    ∧ quiescent_Tn (hTn := hTn)
    ∧ quiescent_TnIdeal (hTnIdeal := hTnIdeal)
    ∧ quiescent_TnRefIdeal (hTnRefIdeal := hTnRefIdeal)
    ∧ quiescent_Adam (hAdam := hAdam)
    ∧ quiescent_AdamIdeal (hAdamIdeal := hAdamIdeal)
    ∧ quiescent_AdamRefIdeal (hAdamRefIdeal := hAdamRefIdeal)
    ∧ quiescent_Rope (hRope := hRope)
    ∧ quiescent_RopeIdeal (hRopeIdeal := hRopeIdeal)
    ∧ quiescent_RopeRefIdeal (hRopeRefIdeal := hRopeRefIdeal)
    ∧ preserves_Loss_LossIdeal
    ∧ algebraic_LossIdeal_LossRefIdeal (hLossIdeal := hLossIdeal) (hLossRefIdeal := hLossRefIdeal)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Gmlp_GmlpIdeal
    ∧ algebraic_GmlpIdeal_GmlpRefIdeal_pre_gmlp_finite (hGmlpIdeal := hGmlpIdeal) (hGmlpRefIdeal := hGmlpRefIdeal) (hPre_gmlp_finite := hPre_gmlp_finite)
    ∧ preserves_Inprojf_InprojfIdeal
    ∧ algebraic_InprojfIdeal_InprojfRefIdeal (hInprojfIdeal := hInprojfIdeal) (hInprojfRefIdeal := hInprojfRefIdeal)
    ∧ preserves_Plef_PlefIdeal
    ∧ algebraic_PlefIdeal_PlefRefIdeal (hPlefIdeal := hPlefIdeal) (hPlefRefIdeal := hPlefRefIdeal)
    ∧ preserves_Mergef_MergefIdeal
    ∧ algebraic_MergefIdeal_MergefRefIdeal (hMergefIdeal := hMergefIdeal) (hMergefRefIdeal := hMergefRefIdeal)
    ∧ preserves_Mlpf_MlpfIdeal
    ∧ algebraic_MlpfIdeal_MlpfRefIdeal (hMlpfIdeal := hMlpfIdeal) (hMlpfRefIdeal := hMlpfRefIdeal)
    ∧ preserves_Ssmp_SsmpIdeal
    ∧ algebraic_SsmpIdeal_SsmpRefIdeal_pre_param_finite (hSsmpIdeal := hSsmpIdeal) (hSsmpRefIdeal := hSsmpRefIdeal) (hPre_param_finite := hPre_param_finite)
    ∧ preserves_Gmlpf_GmlpfIdeal
    ∧ algebraic_GmlpfIdeal_GmlpfRefIdeal (hGmlpfIdeal := hGmlpfIdeal) (hGmlpfRefIdeal := hGmlpfRefIdeal)
    ∧ preserves_Attnf_AttnfIdeal
    ∧ algebraic_AttnfIdeal_AttnfRefIdeal_pre_attnf_finite (hAttnfIdeal := hAttnfIdeal) (hAttnfRefIdeal := hAttnfRefIdeal) (hPre_attnf_finite := hPre_attnf_finite)
    ∧ preserves_Tn_TnIdeal
    ∧ algebraic_TnIdeal_TnRefIdeal (hTnIdeal := hTnIdeal) (hTnRefIdeal := hTnRefIdeal)
    ∧ preserves_Adam_AdamIdeal
    ∧ algebraic_AdamIdeal_AdamRefIdeal (hAdamIdeal := hAdamIdeal) (hAdamRefIdeal := hAdamRefIdeal)
    ∧ preserves_Rope_RopeIdeal
    ∧ algebraic_RopeIdeal_RopeRefIdeal (hRopeIdeal := hRopeIdeal) (hRopeRefIdeal := hRopeRefIdeal)
-- ==== Pre_attnf_finite.lean ====
abbrev S8192x1536 : Shape := ⟨2, ![8192, 1536]⟩
abbrev S8192 : Shape := ⟨1, ![8192]⟩
abbrev S64 : Shape := ⟨1, ![64]⟩
abbrev S8 : Shape := ⟨1, ![8]⟩
abbrev S8192x640 : Shape := ⟨2, ![8192, 640]⟩
abbrev S_ : Shape := ⟨0, ![]⟩

class Facts : Prop where
  slices_S8192x1536_S8192x640_0_512 : S8192x1536.Slices ![0, 512] S8192x640
  bcast_S_S8192x640 : S_.BroadcastsInDim S8192x640 (![] : Fin 0 → Fin S8192x640.rank)
  bcast_S_S64 : S_.BroadcastsInDim S64 (![] : Fin 0 → Fin S64.rank)
  bcast_S_S8 : S_.BroadcastsInDim S8 (![] : Fin 0 → Fin S8.rank)

variable [Facts]

def fn {F : FTy → Type} [FloatOps F] (main_arg0 : FVec F S8192x1536 .f32) (main_arg1 : IVec S8192 32) (main_arg2 : FVec F S64 .f32) (main_arg3 : FVec F S64 .f32) (main_arg4 : FVec F S8 .f32) : IVec S8192x640 1 × IVec S64 1 × IVec S64 1 × IVec S8 1 :=
  let main_v0 : FVec F S8192x640 .f32 := (extractStridedSlice S8192x640 ![0, 512] · slices_S8192x1536_S8192x640_0_512) main_arg0
  let main_v1 : FVec F S8192x640 .f32 := Host.absf main_v0
  let main_cst : FVec F S_ .f32 := constant S_ .f32 0x7F800000#32
  let main_v2 : FVec F S8192x640 .f32 := broadcastInDim S8192x640 ![] bcast_S_S8192x640 main_cst
  let main_v3 : IVec S8192x640 1 := cmpf .olt main_v1 main_v2
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg3
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S8 .f32 := Host.absf main_arg4
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  (main_v3, main_v6, main_v9, main_v12)
-- ==== Pre_gmlp_finite.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩

class Facts : Prop where
  bcast_S_S8192x1536 : S_.BroadcastsInDim S8192x1536 (![] : Fin 0 → Fin S8192x1536.rank)
  bcast_S_S4x64 : S_.BroadcastsInDim S4x64 (![] : Fin 0 → Fin S4x64.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S8192x256 : S_.BroadcastsInDim S8192x256 (![] : Fin 0 → Fin S8192x256.rank)

variable [Facts]

def fn {F : FTy → Type} [FloatOps F] (main_arg0 : FVec F S8192x1536 .f32) (main_arg1 : FVec F S4x64 .f32) (main_arg2 : FVec F S4x64 .f32) (main_arg3 : FVec F S4x128x128 .f32) (main_arg4 : FVec F S4x128 .f32) (main_arg5 : FVec F S8192x256 .f32) : IVec S8192x1536 1 × IVec S4x64 1 × IVec S4x64 1 × IVec S4x128x128 1 × IVec S4x128 1 × IVec S8192x256 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  let main_v6 : FVec F S4x64 .f32 := Host.absf main_arg2
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== Pre_inproj_finite.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x128 : Shape := ⟨2, ![8192, 128]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S8192x256 : S_.BroadcastsInDim S8192x256 (![] : Fin 0 → Fin S8192x256.rank)

variable [Facts]

def fn_part1 {F : FTy → Type} [FloatOps F] (main_arg7 : FVec F S8192x128 .f32) (main_arg8 : FVec F S8192x256 .f32) (main_v2 : IVec S8192x1024 1) (main_v5 : IVec S1024 1) (main_v8 : IVec S1024x1536 1) (main_v11 : IVec S8192x512 1) (main_v14 : IVec S8192x512 1) (main_v17 : IVec S8192x128 1) : IVec S8192x1024 1 × IVec S1024 1 × IVec S1024x1536 1 × IVec S8192x512 1 × IVec S8192x512 1 × IVec S8192x128 1 × IVec S8192x128 1 × IVec S8192x256 1 :=
  let main_v18 : FVec F S8192x128 .f32 := Host.absf main_arg7
  let main_cst_5 : FVec F S_ .f32 := constant S_ .f32 0x7F800000#32
  let main_v19 : FVec F S8192x128 .f32 := broadcastInDim S8192x128 ![] bcast_S_S8192x128 main_cst_5
  let main_v20 : IVec S8192x128 1 := cmpf .olt main_v18 main_v19
  let main_v21 : FVec F S8192x256 .f32 := Host.absf main_arg8
  let main_cst_6 : FVec F S_ .f32 := constant S_ .f32 0x7F800000#32
  let main_v22 : FVec F S8192x256 .f32 := broadcastInDim S8192x256 ![] bcast_S_S8192x256 main_cst_6
  let main_v23 : IVec S8192x256 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024x1536 .f32) (main_arg3 : FVec F S8192x1024 .f32) (main_arg4 : FVec F S8192x512 .f32) (main_arg5 : FVec F S8192x512 .f32) (main_arg6 : FVec F S8192x128 .f32) (main_arg7 : FVec F S8192x128 .f32) (main_arg8 : FVec F S8192x256 .f32) : IVec S8192x1024 1 × IVec S1024 1 × IVec S1024x1536 1 × IVec S8192x512 1 × IVec S8192x512 1 × IVec S8192x128 1 × IVec S8192x128 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S8192x512 .f32 := Host.absf main_arg4
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg5
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x128 .f32 := Host.absf main_arg6
  let main_cst_4 : FVec F S_ .f32 := constant S_ .f32 0x7F800000#32
  let main_v16 : FVec F S8192x128 .f32 := broadcastInDim S8192x128 ![] bcast_S_S8192x128 main_cst_4
  let main_v17 : IVec S8192x128 1 := cmpf .olt main_v15 main_v16
  fn_part1 (F := F) main_arg7 main_arg8 main_v2 main_v5 main_v8 main_v11 main_v14 main_v17
-- ==== Pre_merge_finite.lean ====
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S1024 : S_.BroadcastsInDim S1024 (![] : Fin 0 → Fin S1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x256 .f32) (main_arg1 : FVec F S8192x512 .f32) (main_arg2 : FVec F S8192x256 .f32) (main_arg3 : FVec F S1024 .f32) (main_arg4 : FVec F S1024x1024 .f32) (main_arg5 : FVec F S8192x1024 .f32) : IVec S8192x256 1 × IVec S8192x512 1 × IVec S8192x256 1 × IVec S1024 1 × IVec S1024x1024 1 × IVec S8192x1024 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_mlp_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S1024 .f32) (main_arg2 : FVec F S1024x4096 .f32) (main_arg3 : FVec F S4096x1024 .f32) (main_arg4 : FVec F S8192x1024 .f32) : IVec S8192x1024 1 × IVec S1024 1 × IVec S1024x4096 1 × IVec S4096x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_param_finite.lean ====
abbrev S16x64 : Shape := ⟨2, ![16, 64]⟩
abbrev S16 : Shape := ⟨1, ![16]⟩
abbrev S16x64x16 : Shape := ⟨3, ![16, 64, 16]⟩
abbrev S256x2048 : Shape := ⟨2, ![256, 2048]⟩
abbrev S256x1024 : Shape := ⟨2, ![256, 1024]⟩
abbrev S_ : Shape := ⟨0, ![]⟩

class Facts : Prop where
  bcast_S_S16x64 : S_.BroadcastsInDim S16x64 (![] : Fin 0 → Fin S16x64.rank)
  bcast_S_S16 : S_.BroadcastsInDim S16 (![] : Fin 0 → Fin S16.rank)
  bcast_S_S16x64x16 : S_.BroadcastsInDim S16x64x16 (![] : Fin 0 → Fin S16x64x16.rank)
  bcast_S_S256x2048 : S_.BroadcastsInDim S256x2048 (![] : Fin 0 → Fin S256x2048.rank)

variable [Facts]

def fn_part1 {F : FTy → Type} [FloatOps F] (main_arg0 : FVec F S16x64 .f32) (main_arg1 : FVec F S16x64 .f32) (main_arg6 : FVec F S16x64 .f32) (main_arg7 : FVec F S256x2048 .f32) (main_v2 : IVec S16x64 1) (main_v5 : IVec S16x64 1) (main_v8 : IVec S16 1) (main_v11 : IVec S16x64x16 1) (main_v14 : IVec S16x64x16 1) (main_v17 : IVec S16x64 1) : IVec S16x64 1 × IVec S16x64 1 × IVec S16 1 × IVec S16x64x16 1 × IVec S16x64x16 1 × IVec S16x64 1 × IVec S16x64 1 × IVec S256x2048 1 × IVec S16x64 1 :=
  let main_v18 : FVec F S16x64 .f32 := Host.absf main_arg6
  let main_cst_5 : FVec F S_ .f32 := constant S_ .f32 0x7F800000#32
  let main_v19 : FVec F S16x64 .f32 := broadcastInDim S16x64 ![] bcast_S_S16x64 main_cst_5
  let main_v20 : IVec S16x64 1 := cmpf .olt main_v18 main_v19
  let main_v21 : FVec F S256x2048 .f32 := Host.absf main_arg7
  let main_cst_6 : FVec F S_ .f32 := constant S_ .f32 0x7F800000#32
  let main_v22 : FVec F S256x2048 .f32 := broadcastInDim S256x2048 ![] bcast_S_S256x2048 main_cst_6
  let main_v23 : IVec S256x2048 1 := cmpf .olt main_v21 main_v22
  let main_v24 : FVec F S16x64 .f32 := mulf main_arg0 main_arg0
  let main_v25 : FVec F S16x64 .f32 := mulf main_arg1 main_arg1
  let main_v26 : FVec F S16x64 .f32 := addf main_v24 main_v25
  let main_cst_7 : FVec F S_ .f32 := constant S_ .f32 0x00000000#32
  let main_v27 : FVec F S16x64 .f32 := broadcastInDim S16x64 ![] bcast_S_S16x64 main_cst_7
  let main_v28 : IVec S16x64 1 := cmpf .ogt main_v26 main_v27
  (main_v2, main_v5, main_v8, main_v11, main_v14, main_v17, main_v20, main_v23, main_v28)

def fn {F : FTy → Type} [FloatOps F] (main_arg0 : FVec F S16x64 .f32) (main_arg1 : FVec F S16x64 .f32) (main_arg2 : FVec F S16 .f32) (main_arg3 : FVec F S16x64x16 .f32) (main_arg4 : FVec F S16x64x16 .f32) (main_arg5 : FVec F S16x64 .f32) (main_arg6 : FVec F S16x64 .f32) (main_arg7 : FVec F S256x2048 .f32) (main_arg8 : FVec F S256x1024 .f32) (main_arg9 : FVec F S256x1024 .f32) : IVec S16x64 1 × IVec S16x64 1 × IVec S16 1 × IVec S16x64x16 1 × IVec S16x64x16 1 × IVec S16x64 1 × IVec S16x64 1 × IVec S256x2048 1 × IVec S16x64 1 :=
  let main_v0 : FVec F S16x64 .f32 := Host.absf main_arg0
  let main_cst : FVec F S_ .f32 := constant S_ .f32 0x7F800000#32
  let main_v1 : FVec F S16x64 .f32 := broadcastInDim S16x64 ![] bcast_S_S16x64 main_cst
  let main_v2 : IVec S16x64 1 := cmpf .olt main_v0 main_v1
  let main_v3 : FVec F S16x64 .f32 := Host.absf main_arg1
  let main_cst_0 : FVec F S_ .f32 := constant S_ .f32 0x7F800000#32
  let main_v4 : FVec F S16x64 .f32 := broadcastInDim S16x64 ![] bcast_S_S16x64 main_cst_0
  let main_v5 : IVec S16x64 1 := cmpf .olt main_v3 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  let main_v9 : FVec F S16x64x16 .f32 := Host.absf main_arg3
  let main_cst_2 : FVec F S_ .f32 := constant S_ .f32 0x7F800000#32
  let main_v10 : FVec F S16x64x16 .f32 := broadcastInDim S16x64x16 ![] bcast_S_S16x64x16 main_cst_2
  let main_v11 : IVec S16x64x16 1 := cmpf .olt main_v9 main_v10
  let main_v12 : FVec F S16x64x16 .f32 := Host.absf main_arg4
  let main_cst_3 : FVec F S_ .f32 := constant S_ .f32 0x7F800000#32
  let main_v13 : FVec F S16x64x16 .f32 := broadcastInDim S16x64x16 ![] bcast_S_S16x64x16 main_cst_3
  let main_v14 : IVec S16x64x16 1 := cmpf .olt main_v12 main_v13
  let main_v15 : FVec F S16x64 .f32 := Host.absf main_arg5
  let main_cst_4 : FVec F S_ .f32 := constant S_ .f32 0x7F800000#32
  let main_v16 : FVec F S16x64 .f32 := broadcastInDim S16x64 ![] bcast_S_S16x64 main_cst_4
  let main_v17 : IVec S16x64 1 := cmpf .olt main_v15 main_v16
  fn_part1 (F := F) main_arg0 main_arg1 main_arg6 main_arg7 main_v2 main_v5 main_v8 main_v11 main_v14 main_v17
-- ==== Pre_ple_finite.lean ====
abbrev S8192x1024 : Shape := ⟨2, ![8192, 1024]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S4x8192x256 : S_.BroadcastsInDim S4x8192x256 (![] : Fin 0 → Fin S4x8192x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S8192x1024 .f32) (main_arg1 : FVec F S4x8192x256 .f32) (main_arg2 : FVec F S1024 .f32) (main_arg3 : FVec F S1024x1024 .f32) (main_arg4 : FVec F S256x1024 .f32) (main_arg5 : FVec F S8192x1024 .f32) : IVec S8192x1024 1 × IVec S4x8192x256 1 × IVec S1024 1 × IVec S1024x1024 1 × IVec S256x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x8192x256 .f32 := Host.absf main_arg1
  let main_cst_0 : FVec F S_ .f32 := constant S_ .f32 0x7F800000#32
  let main_v4 : FVec F S4x8192x256 .f32 := broadcastInDim S4x8192x256 ![] bcast_S_S4x8192x256 main_cst_0
  let main_v5 : IVec S4x8192x256 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Loss.lean ====
abbrev S8192x1024 : Shape := ⟨2, ![8192, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Merge.lean ====
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256 : Shape := ⟨1, ![256]⟩
abbrev S1x512 : Shape := ⟨2, ![1, 512]⟩

abbrev nBuf : Space → Nat
  | .hbm => 13
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S1024x1024, .bf16⟩
  | .hbm, ⟨8, _⟩ => ⟨S8192x256, .f32⟩
  | .hbm, ⟨9, _⟩ => ⟨S8192x512, .f32⟩
  | .hbm, ⟨10, _⟩ => ⟨S8192x256, .f32⟩
  | .hbm, ⟨11, _⟩ => ⟨S1024x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v124 : BitVec 1 := Scalar.cmpi .eq arg0 c15_i32
  let v125 : BitVec 32 := Scalar.extui v124
  let c0_i32_47 : BitVec 32 := 0#32
  let v126 : BitVec 1 := Scalar.cmpi .ne v125 c0_i32_47
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeRefIdeal.lean ====
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S8192x1024 : Shape := ⟨2, ![8192, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩

abbrev nBuf : Space → Nat
  | .hbm => 162
  | .vmem => 0
  | .smem => 0
  | _ => 0

abbrev hbmTy0_0 (i : Nat) : BufTy := match i % 128 with
  | 0 => ⟨S8192x256, .f32⟩
  | 1 => ⟨S8192x512, .f32⟩
  | 2 => ⟨S8192x256, .f32⟩
  | 3 => ⟨S1024, .f32⟩
  | 4 => ⟨S1024x1024, .f32⟩
  | 5 => ⟨S8192x1024, .f32⟩
  | 6 => ⟨S256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S1x256, .f32⟩
  | 25 => ⟨S8192x256, .f32⟩
  | 26 => ⟨S8192x256, .f32⟩
  | 27 => ⟨S512, .f32⟩
  | 28 => ⟨S8192x512, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S256, .f32⟩
  | 49 => ⟨S8192x256, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x1024, .f32⟩
  | 70 => ⟨S8192x1024, .f32⟩
  | 71 => ⟨S1024x1024, .f32⟩
  | 72 => ⟨S1024x1024, .f32⟩
  | 73 => ⟨S8192x1024, .f32⟩
  | 74 => ⟨S8192x256, .f32⟩
  | 75 => ⟨S8192x512, .f32⟩
  | 76 => ⟨S8192x256, .f32⟩
  | 77 => ⟨S8192x256, .f32⟩
  | 78 => ⟨S_, .f32⟩
  | 79 => ⟨S256, .f32⟩
  | 80 => ⟨S1x256, .f32⟩
  | 81 => ⟨S8192x256, .f32⟩
  | 82 => ⟨S8192x256, .f32⟩
  | 83 => ⟨S_, .f32⟩
  | 84 => ⟨S256, .f32⟩
  | 85 => ⟨S8192x256, .f32⟩
  | 86 => ⟨S_, .f32⟩
  | 87 => ⟨S8192, .f32⟩
  | 88 => ⟨S8192x1, .f32⟩
  | 89 => ⟨S8192x256, .f32⟩
  | 90 => ⟨S8192x256, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S_, .f32⟩
  | 103 => ⟨S1024, .f32⟩
  | 104 => ⟨S8192x512, .f32⟩
  | 105 => ⟨S_, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S512, .f32⟩
  | 112 => ⟨S8192x512, .f32⟩
  | 113 => ⟨S_, .f32⟩
  | 114 => ⟨S8192, .f32⟩
  | 115 => ⟨S8192x1, .f32⟩
  | 116 => ⟨S8192x512, .f32⟩
  | 117 => ⟨S8192x512, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x512, .f32⟩
  | 125 => ⟨S8192x512, .f32⟩
  | 126 => ⟨S8192x512, .f32⟩
  | 127 => ⟨S8192x512, .f32⟩
  | _ => ⟨S8192x256, .f32⟩

abbrev hbmTy0_1 (i : Nat) : BufTy := match i % 128 with
  | 0 => ⟨S8192x512, .f32⟩
  | 1 => ⟨S_, .f32⟩
  | 2 => ⟨S1024, .f32⟩
  | 3 => ⟨S1024, .f32⟩
  | 4 => ⟨S8192x256, .f32⟩
  | 5 => ⟨S_, .f32⟩
  | 6 => ⟨S256, .f32⟩
  | 7 => ⟨S1x256, .f32⟩
  | 8 => ⟨S8192x256, .f32⟩
  | 9 => ⟨S8192x256, .f32⟩
  | 10 => ⟨S_, .f32⟩
  | 11 => ⟨S256, .f32⟩
  | 12 => ⟨S8192x256, .f32⟩
  | 13 => ⟨S_, .f32⟩
  | 14 => ⟨S8192, .f32⟩
  | 15 => ⟨S8192x1, .f32⟩
  | 16 => ⟨S8192x256, .f32⟩
  | 17 => ⟨S8192x256, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S1024, .f32⟩
  | 31 => ⟨S1024, .f32⟩
  | 32 => ⟨S1024x1024, .bf16⟩
  | 33 => ⟨S1x1024, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_cst_17 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_18 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_cst_25 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_26 : Ref sig .tc := ⟨.hbm, 147, rfl⟩
abbrev main_v114 : Ref sig .tc := ⟨.hbm, 148, rfl⟩
abbrev main_v115 : Ref sig .tc := ⟨.hbm, 149, rfl⟩
abbrev main_cst_27 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_28 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩

abbrev nD : Nat := 1
abbrev τ : Topo := Topo.v7x

variable {F : FTy → Type} [FloatOps F]
-- ==== Inproj.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x128 : Shape := ⟨2, ![8192, 128]⟩
abbrev S8192x256 : Shape := ⟨2, ![8192, 256]⟩
abbrev S1x1024 : Shape := ⟨2, ![1, 1024]⟩
abbrev S8x1024x192 : Shape := ⟨3, ![8, 1024, 192]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩
abbrev S1024x192 : Shape := ⟨2, ![1024, 192]⟩
abbrev S1x1024x192 : Shape := ⟨3, ![1, 1024, 192]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S1x1024, .f32⟩
  | .hbm, ⟨10, _⟩ => ⟨S1024x1536, .bf16⟩
  | .hbm, ⟨11, _⟩ => ⟨S8192x1024, .f32⟩
  | .hbm, ⟨12, _⟩ => ⟨S8x1024x192, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1536, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x256, .f32⟩
  | .local _ .vmem, ⟨16, _⟩ => ⟨S512x1024, .f32⟩
  | .local _ .vmem, ⟨17, _⟩ => ⟨S512x1024, .f32⟩
  | .local _ .vmem, ⟨18, _⟩ => ⟨S8x1024x192, .bf16⟩
  | .local _ .vmem, ⟨19, _⟩ => ⟨S1x1024, .f32⟩
  | .local _ .vmem, ⟨20, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojRefIdeal.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x128 : Shape := ⟨2, ![8192, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S1536x1024 : Shape := ⟨2, ![1536, 1024]⟩
abbrev S1024x192 : Shape := ⟨2, ![1024, 192]⟩
abbrev S1x1024x192 : Shape := ⟨3, ![1, 1024, 192]⟩
abbrev S8x1024x192 : Shape := ⟨3, ![8, 1024, 192]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1536, .f32⟩
  | .hbm, ⟨30, _⟩ => ⟨S8192x512, .f32⟩
  | .hbm, ⟨31, _⟩ => ⟨S8192x512, .f32⟩
  | .hbm, ⟨32, _⟩ => ⟨S8192x128, .f32⟩
  | .hbm, ⟨33, _⟩ => ⟨S8192x128, .f32⟩
  | .hbm, ⟨34, _⟩ => ⟨S8192x256, .f32⟩
  | .hbm, ⟨35, _⟩ => ⟨S8192x1536, .f32⟩
  | .hbm, ⟨36, _⟩ => ⟨S1536x1024, .f32⟩
  | .hbm, ⟨37, _⟩ => ⟨S1024x1536, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1024x1536, .bf16⟩
  | .hbm, ⟨66, _⟩ => ⟨S1024x192, .bf16⟩
  | .hbm, ⟨67, _⟩ => ⟨S1024x192, .bf16⟩
  | .hbm, ⟨68, _⟩ => ⟨S1024x192, .bf16⟩
  | .hbm, ⟨69, _⟩ => ⟨S1024x192, .bf16⟩
  | .hbm, ⟨70, _⟩ => ⟨S1024x192, .bf16⟩
  | .hbm, ⟨71, _⟩ => ⟨S1024x192, .bf16⟩
  | .hbm, ⟨72, _⟩ => ⟨S1024x192, .bf16⟩
  | .hbm, ⟨73, _⟩ => ⟨S1024x192, .bf16⟩
  | .hbm, ⟨74, _⟩ => ⟨S1x1024x192, .bf16⟩
  | .hbm, ⟨75, _⟩ => ⟨S1x1024x192, .bf16⟩
  | .hbm, ⟨76, _⟩ => ⟨S1x1024x192, .bf16⟩
  | .hbm, ⟨77, _⟩ => ⟨S1x1024x192, .bf16⟩
  | .hbm, ⟨78, _⟩ => ⟨S1x1024x192, .bf16⟩
  | .hbm, ⟨79, _⟩ => ⟨S1x1024x192, .bf16⟩
  | .hbm, ⟨80, _⟩ => ⟨S1x1024x192, .bf16⟩
  | .hbm, ⟨81, _⟩ => ⟨S1x1024x192, .bf16⟩
  | .hbm, ⟨82, _⟩ => ⟨S8x1024x192, .bf16⟩
  | .hbm, ⟨83, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Ple.lean ====
abbrev S8192x1024 : Shape := ⟨2, ![8192, 1024]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩
abbrev S8x256x128 : Shape := ⟨3, ![8, 256, 128]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S256x128 : Shape := ⟨2, ![256, 128]⟩
abbrev S1x256x128 : Shape := ⟨3, ![1, 256, 128]⟩

abbrev nBuf : Space → Nat
  | .hbm => 34
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x8192x256, .f32⟩
  | .hbm, ⟨25, _⟩ => ⟨S8192x256, .f32⟩
  | .hbm, ⟨26, _⟩ => ⟨S8192x1024, .f32⟩
  | .hbm, ⟨27, _⟩ => ⟨S8192x1024, .bf16⟩
  | .hbm, ⟨28, _⟩ => ⟨S1x1024, .f32⟩
  | .hbm, ⟨29, _⟩ => ⟨S1024x1024, .bf16⟩
  | .hbm, ⟨30, _⟩ => ⟨S8192x1024, .f32⟩
  | .hbm, ⟨31, _⟩ => ⟨S1024x1024, .bf16⟩
  | .hbm, ⟨32, _⟩ => ⟨S8x256x128, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S8x256x128, .bf16⟩
  | .local _ .vmem, ⟨16, _⟩ => ⟨S1x1024, .f32⟩
  | .local _ .vmem, ⟨17, _⟩ => ⟨S1024x1024, .f32⟩
  | .local _ .vmem, ⟨18, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v83 : BitVec 1 := Scalar.cmpi .eq arg0 c15_i32
  let v84 : BitVec 32 := Scalar.extui v83
  let c0_i32_41 : BitVec 32 := 0#32
  let v85 : BitVec 1 := Scalar.cmpi .ne v84 c0_i32_41
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRefIdeal.lean ====
abbrev S8192x1024 : Shape := ⟨2, ![8192, 1024]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S1x8192x256 : Shape := ⟨3, ![1, 8192, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S256x128 : Shape := ⟨2, ![256, 128]⟩
abbrev S1x256x128 : Shape := ⟨3, ![1, 256, 128]⟩
abbrev S8x256x128 : Shape := ⟨3, ![8, 256, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S1x8192x256, .f32⟩
  | .hbm, ⟨7, _⟩ => ⟨S8192x256, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x256, .f32⟩
  | .hbm, ⟨48, _⟩ => ⟨S256x1024, .f32⟩
  | .hbm, ⟨49, _⟩ => ⟨S8192x1024, .f32⟩
  | .hbm, ⟨50, _⟩ => ⟨S1024x1024, .f32⟩
  | .hbm, ⟨51, _⟩ => ⟨S1024x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024x1024, .bf16⟩
  | .hbm, ⟨80, _⟩ => ⟨S256x1024, .bf16⟩
  | .hbm, ⟨81, _⟩ => ⟨S256x128, .bf16⟩
  | .hbm, ⟨82, _⟩ => ⟨S256x128, .bf16⟩
  | .hbm, ⟨83, _⟩ => ⟨S256x128, .bf16⟩
  | .hbm, ⟨84, _⟩ => ⟨S256x128, .bf16⟩
  | .hbm, ⟨85, _⟩ => ⟨S256x128, .bf16⟩
  | .hbm, ⟨86, _⟩ => ⟨S256x128, .bf16⟩
  | .hbm, ⟨87, _⟩ => ⟨S256x128, .bf16⟩
  | .hbm, ⟨88, _⟩ => ⟨S256x128, .bf16⟩
  | .hbm, ⟨89, _⟩ => ⟨S1x256x128, .bf16⟩
  | .hbm, ⟨90, _⟩ => ⟨S1x256x128, .bf16⟩
  | .hbm, ⟨91, _⟩ => ⟨S1x256x128, .bf16⟩
  | .hbm, ⟨92, _⟩ => ⟨S1x256x128, .bf16⟩
  | .hbm, ⟨93, _⟩ => ⟨S1x256x128, .bf16⟩
  | .hbm, ⟨94, _⟩ => ⟨S1x256x128, .bf16⟩
  | .hbm, ⟨95, _⟩ => ⟨S1x256x128, .bf16⟩
  | .hbm, ⟨96, _⟩ => ⟨S1x256x128, .bf16⟩
  | .hbm, ⟨97, _⟩ => ⟨S8x256x128, .bf16⟩
  | .hbm, ⟨98, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S9 : Shape := ⟨1, ![9]⟩
abbrev S1 : Shape := ⟨1, ![1]⟩
abbrev S1024x512 : Shape := ⟨2, ![1024, 512]⟩
abbrev S1x1024x512 : Shape := ⟨3, ![1, 1024, 512]⟩
abbrev S1024x1024 : Shape := ⟨2, ![1024, 1024]⟩
abbrev S512 : Shape := ⟨1, ![512]⟩
abbrev S512x1 : Shape := ⟨2, ![512, 1]⟩

abbrev nBuf : Space → Nat
  | .hbm => 36
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | .hbm, ⟨31, _⟩ => ⟨S1x1024, .f32⟩
  | .hbm, ⟨32, _⟩ => ⟨S8192x1024, .f32⟩
  | .hbm, ⟨33, _⟩ => ⟨S8192x1024, .bf16⟩
  | .hbm, ⟨34, _⟩ => ⟨S8192x4096, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x4096, .bf16⟩
  | .hbm, ⟨78, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Gmlp.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S4x1x64 : Shape := ⟨3, ![4, 1, 64]⟩
abbrev S4x2x64 : Shape := ⟨3, ![4, 2, 64]⟩
abbrev S1x512 : Shape := ⟨2, ![1, 512]⟩
abbrev S4x128x1 : Shape := ⟨3, ![4, 128, 1]⟩
abbrev S8192x512 : Shape := ⟨2, ![8192, 512]⟩
abbrev S512x512 : Shape := ⟨2, ![512, 512]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 23
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S_, .f32⟩
  | .hbm, ⟨7, _⟩ => ⟨S4x64, .f32⟩
  | .hbm, ⟨8, _⟩ => ⟨S4x1x64, .f32⟩
  | .hbm, ⟨9, _⟩ => ⟨S4x1x64, .f32⟩
  | .hbm, ⟨10, _⟩ => ⟨S4x2x64, .f32⟩
  | .hbm, ⟨11, _⟩ => ⟨S1x512, .f32⟩
  | .hbm, ⟨12, _⟩ => ⟨S4x1x64, .f32⟩
  | .hbm, ⟨13, _⟩ => ⟨S4x1x64, .f32⟩
  | .hbm, ⟨14, _⟩ => ⟨S4x2x64, .f32⟩
  | .hbm, ⟨15, _⟩ => ⟨S1x512, .f32⟩
  | .hbm, ⟨16, _⟩ => ⟨S4x128x1, .f32⟩
  | .hbm, ⟨17, _⟩ => ⟨S4x128x128, .f32⟩
  | .hbm, ⟨18, _⟩ => ⟨S8192x512, .f32⟩
  | .hbm, ⟨19, _⟩ => ⟨S4x128x128, .f32⟩
  | .hbm, ⟨20, _⟩ => ⟨S4x128x128, .f32⟩
  | .hbm, ⟨21, _⟩ => ⟨S1x512, .f32⟩
  | .hbm, ⟨22, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x128, .f32⟩
  | .local _ .vmem, ⟨8, _⟩ => ⟨S512x512, .f32⟩
  | .local _ .vmem, ⟨9, _⟩ => ⟨S512x512, .f32⟩
  | .local _ .vmem, ⟨10, _⟩ => ⟨S4x128x128, .f32⟩
  | .local _ .vmem, ⟨11, _⟩ => ⟨S4x128x128, .f32⟩
  | .local _ .vmem, ⟨12, _⟩ => ⟨S1x512, .f32⟩
  | .local _ .vmem, ⟨13, _⟩ => ⟨S1x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GmlpRefIdeal.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S8192x256 : Shape := ⟨2, ![8192, 256]⟩
abbrev S8192x512 : Shape := ⟨2, ![8192, 512]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4x64 : Shape := ⟨5, ![1, 64, 128, 4, 64]⟩
abbrev S1x64x128x4 : Shape := ⟨4, ![1, 64, 128, 4]⟩
abbrev S1x64x128x4x1 : Shape := ⟨5, ![1, 64, 128, 4, 1]⟩
abbrev S1x1x1x4x64 : Shape := ⟨5, ![1, 1, 1, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x8192x256 : Shape := ⟨3, ![1, 8192, 256]⟩
abbrev S1x128x4 : Shape := ⟨3, ![1, 128, 4]⟩
abbrev S1x4x64 : Shape := ⟨3, ![1, 4, 64]⟩
abbrev S64x128x4 : Shape := ⟨3, ![64, 128, 4]⟩
abbrev S4x128x1 : Shape := ⟨3, ![4, 128, 1]⟩
abbrev S4x1x64 : Shape := ⟨3, ![4, 1, 64]⟩
abbrev S4x2x64 : Shape := ⟨3, ![4, 2, 64]⟩
abbrev S1x512 : Shape := ⟨2, ![1, 512]⟩

abbrev nBuf : Space → Nat
  | .hbm => 189
  | .vmem => 0
  | .smem => 0
  | _ => 0

abbrev hbmTy0_0 (i : Nat) : BufTy := match i % 128 with
  | 0 => ⟨S8192x1536, .f32⟩
  | 1 => ⟨S4x64, .f32⟩
  | 2 => ⟨S4x64, .f32⟩
  | 3 => ⟨S4x128x128, .f32⟩
  | 4 => ⟨S4x128, .f32⟩
  | 5 => ⟨S8192x256, .f32⟩
  | 6 => ⟨S8192x512, .f32⟩
  | 7 => ⟨S1x8192x512, .f32⟩
  | 8 => ⟨S_, .f32⟩
  | 9 => ⟨S1x8192x512, .f32⟩
  | 10 => ⟨S_, .f32⟩
  | 11 => ⟨S1x8192x512, .f32⟩
  | 12 => ⟨S1x8192x512, .f32⟩
  | 13 => ⟨S1x8192x512, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S1x8192x512, .f32⟩
  | 20 => ⟨S1x8192x512, .f32⟩
  | 21 => ⟨S_, .f32⟩
  | 22 => ⟨S1x8192x512, .f32⟩
  | 23 => ⟨S1x8192x512, .f32⟩
  | 24 => ⟨S1x8192x512, .f32⟩
  | 25 => ⟨S_, .f32⟩
  | 26 => ⟨S1x8192x512, .f32⟩
  | 27 => ⟨S1x8192x512, .f32⟩
  | 28 => ⟨S_, .f32⟩
  | 29 => ⟨S1x8192x512, .f32⟩
  | 30 => ⟨S1x8192x512, .f32⟩
  | 31 => ⟨S1x8192x512, .f32⟩
  | 32 => ⟨S_, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S1x8192x512, .f32⟩
  | 39 => ⟨S1x64x128x4x128, .f32⟩
  | 40 => ⟨S1x64x128x4x64, .f32⟩
  | 41 => ⟨S1x64x128x4x64, .f32⟩
  | 42 => ⟨S_, .f32⟩
  | 43 => ⟨S1x64x128x4, .f32⟩
  | 44 => ⟨S1x64x128x4x1, .f32⟩
  | 45 => ⟨S_, .f32⟩
  | 46 => ⟨S1x64x128x4x1, .f32⟩
  | 47 => ⟨S1x64x128x4x1, .f32⟩
  | 48 => ⟨S1x64x128x4x64, .f32⟩
  | 49 => ⟨S1x64x128x4x64, .f32⟩
  | 50 => ⟨S1x64x128x4x64, .f32⟩
  | 51 => ⟨S_, .f32⟩
  | 52 => ⟨S1x64x128x4, .f32⟩
  | 53 => ⟨S1x64x128x4x1, .f32⟩
  | 54 => ⟨S_, .f32⟩
  | 55 => ⟨S1x64x128x4x1, .f32⟩
  | 56 => ⟨S1x64x128x4x1, .f32⟩
  | 57 => ⟨S_, .f32⟩
  | 58 => ⟨S1x64x128x4x1, .f32⟩
  | 59 => ⟨S1x64x128x4x1, .f32⟩
  | 60 => ⟨S1x64x128x4x1, .f32⟩
  | 61 => ⟨S1x64x128x4x1, .f32⟩
  | 62 => ⟨S_, .f32⟩
  | 63 => ⟨S1x64x128x4x1, .f32⟩
  | 64 => ⟨S1x64x128x4x1, .f32⟩
  | 65 => ⟨S1x64x128x4x64, .f32⟩
  | 66 => ⟨S1x64x128x4x64, .f32⟩
  | 67 => ⟨S1x1x1x4x64, .f32⟩
  | 68 => ⟨S1x64x128x4x64, .f32⟩
  | 69 => ⟨S1x64x128x4x64, .f32⟩
  | 70 => ⟨S1x1x1x4x64, .f32⟩
  | 71 => ⟨S1x64x128x4x64, .f32⟩
  | 72 => ⟨S1x64x128x4x64, .f32⟩
  | 73 => ⟨S_, .i1⟩
  | 74 => ⟨S128x128, .i1⟩
  | 75 => ⟨S128x128, .i32⟩
  | 76 => ⟨S_, .i32⟩
  | 77 => ⟨S128x128, .i32⟩
  | 78 => ⟨S128x128, .i32⟩
  | 79 => ⟨S128x128, .i32⟩
  | 80 => ⟨S128x128, .i1⟩
  | 81 => ⟨S_, .i1⟩
  | 82 => ⟨S128x128, .i1⟩
  | 83 => ⟨S128x128, .i1⟩
  | 84 => ⟨S_, .f32⟩
  | 85 => ⟨S_, .f32⟩
  | 86 => ⟨S4x128x128, .i1⟩
  | 87 => ⟨S4x128x128, .f32⟩
  | 88 => ⟨S4x128x128, .f32⟩
  | 89 => ⟨S_, .f32⟩
  | 90 => ⟨S4x128x128, .f32⟩
  | 91 => ⟨S4x1x64x64x128, .f32⟩
  | 92 => ⟨S1x64x128x4x64, .f32⟩
  | 93 => ⟨S128x4, .f32⟩
  | 94 => ⟨S1x1x128x4x1, .f32⟩
  | 95 => ⟨S1x64x128x4x64, .f32⟩
  | 96 => ⟨S1x64x128x4x64, .f32⟩
  | 97 => ⟨S1x64x128x4x64, .f32⟩
  | 98 => ⟨S1x8192x256, .f32⟩
  | 99 => ⟨S8192x256, .f32⟩
  | 100 => ⟨S1x8192x256, .f32⟩
  | 101 => ⟨S1x64x128x4x64, .f32⟩
  | 102 => ⟨S1x64x128x4x64, .f32⟩
  | 103 => ⟨S1x64x128x4x64, .f32⟩
  | 104 => ⟨S_, .f32⟩
  | 105 => ⟨S1x128x4, .f32⟩
  | 106 => ⟨S1x1x128x4x1, .f32⟩
  | 107 => ⟨S_, .f32⟩
  | 108 => ⟨S128x4, .f32⟩
  | 109 => ⟨S4x128, .f32⟩
  | 110 => ⟨S4x1x64x64x128, .f32⟩
  | 111 => ⟨S4x128x128, .f32⟩
  | 112 => ⟨S4x1x64x64x128, .f32⟩
  | 113 => ⟨S1x64x128x4x64, .f32⟩
  | 114 => ⟨S_, .f32⟩
  | 115 => ⟨S4x128x128, .f32⟩
  | 116 => ⟨S4x128x128, .f32⟩
  | 117 => ⟨S_, .f32⟩
  | 118 => ⟨S1x4x64, .f32⟩
  | 119 => ⟨S1x1x1x4x64, .f32⟩
  | 120 => ⟨S_, .f32⟩
  | 121 => ⟨S4x64, .f32⟩
  | 122 => ⟨S1x64x128x4x64, .f32⟩
  | 123 => ⟨S_, .f32⟩
  | 124 => ⟨S1x4x64, .f32⟩
  | 125 => ⟨S1x1x1x4x64, .f32⟩
  | 126 => ⟨S1x64x128x4x64, .f32⟩
  | 127 => ⟨S1x64x128x4x64, .f32⟩
  | _ => ⟨S8192x1536, .f32⟩

abbrev hbmTy0_1 (i : Nat) : BufTy := match i % 128 with
  | 0 => ⟨S_, .f32⟩
  | 1 => ⟨S4x64, .f32⟩
  | 2 => ⟨S1x64x128x4x64, .f32⟩
  | 3 => ⟨S_, .f32⟩
  | 4 => ⟨S1x64x128x4, .f32⟩
  | 5 => ⟨S1x64x128x4x1, .f32⟩
  | 6 => ⟨S1x64x128x4x64, .f32⟩
  | 7 => ⟨S1x64x128x4x64, .f32⟩
  | 8 => ⟨S1x64x128x4x1, .f32⟩
  | 9 => ⟨S_, .f32⟩
  | 10 => ⟨S1x64x128x4x1, .f32⟩
  | 11 => ⟨S1x64x128x4x1, .f32⟩
  | 12 => ⟨S_, .f32⟩
  | 13 => ⟨S64x128x4, .f32⟩
  | 14 => ⟨S1x64x128x4, .f32⟩
  | 15 => ⟨S1x64x128x4x64, .f32⟩
  | 16 => ⟨S1x64x128x4x64, .f32⟩
  | 17 => ⟨S1x64x128x4x64, .f32⟩
  | 18 => ⟨S1x64x128x4x64, .f32⟩
  | 19 => ⟨S1x64x128x4x64, .f32⟩
  | 20 => ⟨S1x64x128x4x64, .f32⟩
  | 21 => ⟨S_, .f32⟩
  | 22 => ⟨S1x64x128x4, .f32⟩
  | 23 => ⟨S1x64x128x4x1, .f32⟩
  | 24 => ⟨S_, .f32⟩
  | 25 => ⟨S1x64x128x4x1, .f32⟩
  | 26 => ⟨S1x64x128x4x1, .f32⟩
  | 27 => ⟨S_, .f32⟩
  | 28 => ⟨S64x128x4, .f32⟩
  | 29 => ⟨S1x64x128x4, .f32⟩
  | 30 => ⟨S1x64x128x4x64, .f32⟩
  | 31 => ⟨S1x64x128x4x64, .f32⟩
  | 32 => ⟨S1x64x128x4x128, .f32⟩
  | 33 => ⟨S1x8192x512, .f32⟩
  | 34 => ⟨S1x8192x512, .f32⟩
  | 35 => ⟨S1x8192x512, .f32⟩
  | 36 => ⟨S_, .f32⟩
  | 37 => ⟨S1x8192x512, .f32⟩
  | 38 => ⟨S1x8192x512, .f32⟩
  | 39 => ⟨S1x8192x512, .f32⟩
  | 40 => ⟨S_, .f32⟩
  | 41 => ⟨S1x8192x512, .f32⟩
  | 42 => ⟨S1x8192x512, .f32⟩
  | 43 => ⟨S1x8192x512, .f32⟩
  | 44 => ⟨S1x8192x512, .f32⟩
  | 45 => ⟨S1x8192x512, .f32⟩
  | 46 => ⟨S1x8192x512, .f32⟩
  | 47 => ⟨S_, .f32⟩
  | 48 => ⟨S8192x512, .f32⟩
  | 49 => ⟨S_, .f32⟩
  | 50 => ⟨S4x64, .f32⟩
  | 51 => ⟨S4x128x1, .f32⟩
  | 52 => ⟨S4x128x128, .f32⟩
  | 53 => ⟨S4x1x64, .f32⟩
  | 54 => ⟨S4x1x64, .f32⟩
  | 55 => ⟨S4x2x64, .f32⟩
  | 56 => ⟨S1x512, .f32⟩
  | 57 => ⟨S4x1x64, .f32⟩
  | 58 => ⟨S4x1x64, .f32⟩
  | 59 => ⟨S4x2x64, .f32⟩
  | 60 => ⟨S1x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_v53 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v54 : Ref sig .tc := ⟨.hbm, 83, rfl⟩
abbrev main_cst_13 : Ref sig .tc := ⟨.hbm, 84, rfl⟩
abbrev main_call1_v0 : Ref sig .tc := ⟨.hbm, 85, rfl⟩
abbrev main_v55_1 : Ref sig .tc := ⟨.hbm, 86, rfl⟩
abbrev main_call1_v2 : Ref sig .tc := ⟨.hbm, 87, rfl⟩
abbrev main_v55_0 : Ref sig .tc := ⟨.hbm, 88, rfl⟩
abbrev main_call1_cst : Ref sig .tc := ⟨.hbm, 89, rfl⟩
abbrev main_v55_2 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_cst : Ref sig .tc := ⟨.hbm, 114, rfl⟩
abbrev main_call2_v0 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_cst_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_cst_25 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_28 : Ref sig .tc := ⟨.hbm, 175, rfl⟩
abbrev main_v124 : Ref sig .tc := ⟨.hbm, 176, rfl⟩
abbrev main_cst_29 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩

abbrev nD : Nat := 1
abbrev τ : Topo := Topo.v7x

variable {F : FTy → Type} [FloatOps F]
-- ==== Inprojf.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojfRefIdeal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Plef.lean ====
abbrev S8192x1024 : Shape := ⟨2, ![8192, 1024]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlefRefIdeal.lean ====
abbrev S8192x1024 : Shape := ⟨2, ![8192, 1024]⟩
abbrev S4x8192x256 : Shape := ⟨3, ![4, 8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x8192x256, .f32⟩
  | .hbm, ⟨23, _⟩ => ⟨S8192x256, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Mergef.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergefRefIdeal.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S256, .f32⟩
  | .hbm, ⟨41, _⟩ => ⟨S8192x256, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x256, .f32⟩
  | .hbm, ⟨53, _⟩ => ⟨S8192x256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Mlpf.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S9 : Shape := ⟨1, ![9]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S1x1024, .f32⟩
  | .hbm, ⟨8, _⟩ => ⟨S4096x1024, .bf16⟩
  | .hbm, ⟨9, _⟩ => ⟨S8192x1024, .f32⟩
  | .hbm, ⟨10, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpfRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Ssmp.lean ====
abbrev S16x64 : Shape := ⟨2, ![16, 64]⟩
abbrev S16 : Shape := ⟨1, ![16]⟩
abbrev S16x64x16 : Shape := ⟨3, ![16, 64, 16]⟩
abbrev S256x2048 : Shape := ⟨2, ![256, 2048]⟩
abbrev S256x1024 : Shape := ⟨2, ![256, 1024]⟩
abbrev S16x1 : Shape := ⟨2, ![16, 1]⟩
abbrev S16x16x64 : Shape := ⟨3, ![16, 16, 64]⟩
abbrev S256x64 : Shape := ⟨2, ![256, 64]⟩
abbrev S16x128 : Shape := ⟨2, ![16, 128]⟩

abbrev nBuf : Space → Nat
  | .hbm => 29
  | .vmem => 20
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x64, .f32⟩
  | .hbm, ⟨6, _⟩ => ⟨S16x64, .f32⟩
  | .hbm, ⟨7, _⟩ => ⟨S256x2048, .f32⟩
  | .hbm, ⟨8, _⟩ => ⟨S256x1024, .f32⟩
  | .hbm, ⟨9, _⟩ => ⟨S256x1024, .f32⟩
  | .hbm, ⟨10, _⟩ => ⟨S16x1, .f32⟩
  | .hbm, ⟨11, _⟩ => ⟨S16x64, .f32⟩
  | .hbm, ⟨12, _⟩ => ⟨S16x16x64, .f32⟩
  | .hbm, ⟨13, _⟩ => ⟨S256x64, .f32⟩
  | .hbm, ⟨14, _⟩ => ⟨S16x16x64, .f32⟩
  | .hbm, ⟨15, _⟩ => ⟨S256x64, .f32⟩
  | .hbm, ⟨16, _⟩ => ⟨S16x16x64, .f32⟩
  | .hbm, ⟨17, _⟩ => ⟨S256x64, .f32⟩
  | .hbm, ⟨18, _⟩ => ⟨S16x16x64, .f32⟩
  | .hbm, ⟨19, _⟩ => ⟨S256x64, .f32⟩
  | .hbm, ⟨20, _⟩ => ⟨S16x16x64, .f32⟩
  | .hbm, ⟨21, _⟩ => ⟨S256x64, .f32⟩
  | .hbm, ⟨22, _⟩ => ⟨S16x64, .f32⟩
  | .hbm, ⟨23, _⟩ => ⟨S16x64, .f32⟩
  | .hbm, ⟨24, _⟩ => ⟨S16x128, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S256x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S16x64, .f32⟩
  | .local _ .vmem, ⟨9, _⟩ => ⟨S16x64, .f32⟩
  | .local _ .vmem, ⟨10, _⟩ => ⟨S256x2048, .f32⟩
  | .local _ .vmem, ⟨11, _⟩ => ⟨S256x1024, .f32⟩
  | .local _ .vmem, ⟨12, _⟩ => ⟨S256x1024, .f32⟩
  | .local _ .vmem, ⟨13, _⟩ => ⟨S16x64, .f32⟩
  | .local _ .vmem, ⟨14, _⟩ => ⟨S16x64, .f32⟩
  | .local _ .vmem, ⟨15, _⟩ => ⟨S16x128, .f32⟩
  | .local _ .vmem, ⟨16, _⟩ => ⟨S256x64, .f32⟩
  | .local _ .vmem, ⟨17, _⟩ => ⟨S256x64, .f32⟩
  | .local _ .vmem, ⟨18, _⟩ => ⟨S256x64, .f32⟩
  | .local _ .vmem, ⟨19, _⟩ => ⟨S256x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== SsmpRefIdeal.lean ====
abbrev S16x64 : Shape := ⟨2, ![16, 64]⟩
abbrev S16 : Shape := ⟨1, ![16]⟩
abbrev S16x64x16 : Shape := ⟨3, ![16, 64, 16]⟩
abbrev S256x2048 : Shape := ⟨2, ![256, 2048]⟩
abbrev S256x1024 : Shape := ⟨2, ![256, 1024]⟩
abbrev S16x1 : Shape := ⟨2, ![16, 1]⟩
abbrev S_ : Shape := ⟨0, ![]⟩
abbrev S16x64x1 : Shape := ⟨3, ![16, 64, 1]⟩
abbrev S16x16x16x64 : Shape := ⟨4, ![16, 16, 16, 64]⟩
abbrev S16x16x64 : Shape := ⟨3, ![16, 16, 64]⟩
abbrev S16x128 : Shape := ⟨2, ![16, 128]⟩
abbrev S256x64 : Shape := ⟨2, ![256, 64]⟩

abbrev nBuf : Space → Nat
  | .hbm => 218
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x64, .f32⟩
  | 6 => ⟨S16x64, .f32⟩
  | 7 => ⟨S256x2048, .f32⟩
  | 8 => ⟨S256x1024, .f32⟩
  | 9 => ⟨S256x1024, .f32⟩
  | 10 => ⟨S16, .f32⟩
  | 11 => ⟨S16x1, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S_, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64, .f32⟩
  | 36 => ⟨S_, .f32⟩
  | 37 => ⟨S16x64, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64, .f32⟩
  | 44 => ⟨S_, .f32⟩
  | 45 => ⟨S16x64, .f32⟩
  | 46 => ⟨S16x64, .f32⟩
  | 47 => ⟨S16x64x1, .f32⟩
  | 48 => ⟨S16x64x16, .f32⟩
  | 49 => ⟨S16x64x16, .f32⟩
  | 50 => ⟨S16x64x1, .f32⟩
  | 51 => ⟨S16x64x16, .f32⟩
  | 52 => ⟨S16x64x16, .f32⟩
  | 53 => ⟨S16x64x16, .f32⟩
  | 54 => ⟨S16x64x1, .f32⟩
  | 55 => ⟨S16x64x16, .f32⟩
  | 56 => ⟨S16x64x16, .f32⟩
  | 57 => ⟨S16x64x1, .f32⟩
  | 58 => ⟨S16x64x16, .f32⟩
  | 59 => ⟨S16x64x16, .f32⟩
  | 60 => ⟨S16x64x16, .f32⟩
  | 61 => ⟨S256x1024, .f32⟩
  | 62 => ⟨S16x16x16x64, .f32⟩
  | 63 => ⟨S16x16x16x64, .i32⟩
  | 64 => ⟨S16x16x16x64, .i32⟩
  | 65 => ⟨S16x16x16x64, .i1⟩
  | 66 => ⟨S_, .f32⟩
  | 67 => ⟨S_, .f32⟩
  | 68 => ⟨S16x16x16x64, .f32⟩
  | 69 => ⟨S16x16x16x64, .f32⟩
  | 70 => ⟨S_, .f32⟩
  | 71 => ⟨S16x16x64, .f32⟩
  | 72 => ⟨S16x64x16, .f32⟩
  | 73 => ⟨S256x1024, .f32⟩
  | 74 => ⟨S16x16x16x64, .f32⟩
  | 75 => ⟨S16x16x16x64, .i32⟩
  | 76 => ⟨S16x16x16x64, .i32⟩
  | 77 => ⟨S16x16x16x64, .i1⟩
  | 78 => ⟨S_, .f32⟩
  | 79 => ⟨S_, .f32⟩
  | 80 => ⟨S16x16x16x64, .f32⟩
  | 81 => ⟨S16x16x16x64, .f32⟩
  | 82 => ⟨S_, .f32⟩
  | 83 => ⟨S16x16x64, .f32⟩
  | 84 => ⟨S16x64x16, .f32⟩
  | 85 => ⟨S16x64x16, .f32⟩
  | 86 => ⟨S16x64x16, .f32⟩
  | 87 => ⟨S16x64x16, .f32⟩
  | 88 => ⟨S_, .f32⟩
  | 89 => ⟨S16x64, .f32⟩
  | 90 => ⟨S16x64x1, .f32⟩
  | 91 => ⟨S_, .f32⟩
  | 92 => ⟨S16x64, .f32⟩
  | 93 => ⟨S16x64x16, .f32⟩
  | 94 => ⟨S16x64x16, .f32⟩
  | 95 => ⟨S16x64x16, .f32⟩
  | 96 => ⟨S_, .f32⟩
  | 97 => ⟨S16x64, .f32⟩
  | 98 => ⟨S16x64x1, .f32⟩
  | 99 => ⟨S_, .f32⟩
  | 100 => ⟨S16x64, .f32⟩
  | 101 => ⟨S16x64x16, .f32⟩
  | 102 => ⟨S16x64x16, .f32⟩
  | 103 => ⟨S16x64x16, .f32⟩
  | 104 => ⟨S16x64x16, .f32⟩
  | 105 => ⟨S16x64x16, .f32⟩
  | 106 => ⟨S_, .f32⟩
  | 107 => ⟨S16x64, .f32⟩
  | 108 => ⟨S16x64x1, .f32⟩
  | 109 => ⟨S_, .f32⟩
  | 110 => ⟨S16x64, .f32⟩
  | 111 => ⟨S16x64, .f32⟩
  | 112 => ⟨S16x64x16, .f32⟩
  | 113 => ⟨S16x64x16, .f32⟩
  | 114 => ⟨S16x64x16, .f32⟩
  | 115 => ⟨S16x64x16, .f32⟩
  | 116 => ⟨S_, .f32⟩
  | 117 => ⟨S16x64, .f32⟩
  | 118 => ⟨S16x64x1, .f32⟩
  | 119 => ⟨S_, .f32⟩
  | 120 => ⟨S16x64, .f32⟩
  | 121 => ⟨S16x64, .f32⟩
  | 122 => ⟨S16x64, .f32⟩
  | 123 => ⟨S16x64, .f32⟩
  | 124 => ⟨S16x64, .f32⟩
  | 125 => ⟨S16x64, .f32⟩
  | 126 => ⟨S16x64, .f32⟩
  | 127 => ⟨S16x64, .f32⟩
  | _ => ⟨S16x64, .f32⟩

abbrev hbmTy0_1 (i : Nat) : BufTy := match i % 128 with
  | 0 => ⟨S16x64, .f32⟩
  | 1 => ⟨S16x64, .f32⟩
  | 2 => ⟨S16x64, .f32⟩
  | 3 => ⟨S16x64, .f32⟩
  | 4 => ⟨S16x64, .f32⟩
  | 5 => ⟨S16x64, .f32⟩
  | 6 => ⟨S16x64, .f32⟩
  | 7 => ⟨S16x64, .f32⟩
  | 8 => ⟨S16x64, .f32⟩
  | 9 => ⟨S16x64, .f32⟩
  | 10 => ⟨S16x64, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S_, .f32⟩
  | 31 => ⟨S16, .f32⟩
  | 32 => ⟨S16x1, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S16x64, .f32⟩
  | 42 => ⟨S_, .f32⟩
  | 43 => ⟨S16, .f32⟩
  | 44 => ⟨S16x1, .f32⟩
  | 45 => ⟨S16x1, .f32⟩
  | 46 => ⟨S16x64, .f32⟩
  | 47 => ⟨S16x64, .f32⟩
  | 48 => ⟨S16x64, .f32⟩
  | 49 => ⟨S16x64, .f32⟩
  | 50 => ⟨S16x64, .f32⟩
  | 51 => ⟨S_, .f32⟩
  | 52 => ⟨S16, .f32⟩
  | 53 => ⟨S16x1, .f32⟩
  | 54 => ⟨S16x1, .f32⟩
  | 55 => ⟨S16x64, .f32⟩
  | 56 => ⟨S16x64, .f32⟩
  | 57 => ⟨S16x64, .f32⟩
  | 58 => ⟨S_, .f32⟩
  | 59 => ⟨S16, .f32⟩
  | 60 => ⟨S16, .f32⟩
  | 61 => ⟨S16x1, .f32⟩
  | 62 => ⟨S16x128, .f32⟩
  | 63 => ⟨S16x16x64, .f32⟩
  | 64 => ⟨S256x64, .f32⟩
  | 65 => ⟨S16x16x64, .f32⟩
  | 66 => ⟨S256x64, .f32⟩
  | 67 => ⟨S16x16x16x64, .f32⟩
  | 68 => ⟨S16x16x16x64, .i32⟩
  | 69 => ⟨S16x16x16x64, .i32⟩
  | 70 => ⟨S16x16x16x64, .i1⟩
  | 71 => ⟨S_, .f32⟩
  | 72 => ⟨S_, .f32⟩
  | 73 => ⟨S16x16x16x64, .f32⟩
  | 74 => ⟨S16x16x16x64, .f32⟩
  | 75 => ⟨S_, .f32⟩
  | 76 => ⟨S16x16x64, .f32⟩
  | 77 => ⟨S256x64, .f32⟩
  | 78 => ⟨S16x16x16x64, .f32⟩
  | 79 => ⟨S16x16x16x64, .i32⟩
  | 80 => ⟨S16x16x16x64, .i32⟩
  | 81 => ⟨S16x16x16x64, .i1⟩
  | 82 => ⟨S_, .f32⟩
  | 83 => ⟨S_, .f32⟩
  | 84 => ⟨S16x16x16x64, .f32⟩
  | 85 => ⟨S16x16x16x64, .f32⟩
  | 86 => ⟨S_, .f32⟩
  | 87 => ⟨S16x16x64, .f32⟩
  | 88 => ⟨S256x64, .f32⟩
  | 89 => ⟨S256x64, .f32⟩
  | _ => ⟨S16x64, .f32⟩

abbrev hbmTy (i : Nat) : BufTy := match i / 128 with
  | 0 => hbmTy0_0 i
  | 1 => hbmTy0_1 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_4 : Ref sig .tc := ⟨.hbm, 78, rfl⟩
abbrev main_call1_v0 : Ref sig .tc := ⟨.hbm, 79, rfl⟩
abbrev main_call1_v1 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_cst_7 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_10 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_cst_13 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_14 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_15 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_16 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_17 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_18 : Ref sig .tc := ⟨.hbm, 199, rfl⟩
abbrev main_call2_v0 : Ref sig .tc := ⟨.hbm, 200, rfl⟩
abbrev main_call2_v1 : Ref sig .tc := ⟨.hbm, 201, rfl⟩
abbrev main_v166 : Ref sig .tc := ⟨.hbm, 202, rfl⟩
abbrev main_cst_19 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_20 : Ref sig .tc := ⟨.hbm, 210, rfl⟩
abbrev main_call3_v0 : Ref sig .tc := ⟨.hbm, 211, rfl⟩
abbrev main_call3_v1 : Ref sig .tc := ⟨.hbm, 212, rfl⟩
abbrev main_v173 : Ref sig .tc := ⟨.hbm, 213, rfl⟩
abbrev main_cst_21 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩

abbrev nD : Nat := 1
abbrev τ : Topo := Topo.v7x

variable {F : FTy → Type} [FloatOps F]
-- ==== Gmlpf.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩
abbrev S4x1x64 : Shape := ⟨3, ![4, 1, 64]⟩
abbrev S4x2x64 : Shape := ⟨3, ![4, 2, 64]⟩
abbrev S1x512 : Shape := ⟨2, ![1, 512]⟩
abbrev S4x128x1 : Shape := ⟨3, ![4, 128, 1]⟩
abbrev S8192x256 : Shape := ⟨2, ![8192, 256]⟩
abbrev S512x512 : Shape := ⟨2, ![512, 512]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 18
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S_, .f32⟩
  | .hbm, ⟨6, _⟩ => ⟨S4x64, .f32⟩
  | .hbm, ⟨7, _⟩ => ⟨S4x1x64, .f32⟩
  | .hbm, ⟨8, _⟩ => ⟨S4x1x64, .f32⟩
  | .hbm, ⟨9, _⟩ => ⟨S4x2x64, .f32⟩
  | .hbm, ⟨10, _⟩ => ⟨S1x512, .f32⟩
  | .hbm, ⟨11, _⟩ => ⟨S4x1x64, .f32⟩
  | .hbm, ⟨12, _⟩ => ⟨S4x1x64, .f32⟩
  | .hbm, ⟨13, _⟩ => ⟨S4x2x64, .f32⟩
  | .hbm, ⟨14, _⟩ => ⟨S1x512, .f32⟩
  | .hbm, ⟨15, _⟩ => ⟨S4x128x1, .f32⟩
  | .hbm, ⟨16, _⟩ => ⟨S4x128x128, .f32⟩
  | .hbm, ⟨17, _⟩ => ⟨S8192x256, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S4x128x128, .f32⟩
  | .local _ .vmem, ⟨6, _⟩ => ⟨S512x256, .f32⟩
  | .local _ .vmem, ⟨7, _⟩ => ⟨S512x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpfIdeal.lean ====
variable {F : FTy → Type} [FloatOps F] [Named F]
def κ : String → Option EReal := fun
  | "gelu_a" => some ((8943 / 200000 : ℝ) : EReal)
  | _ => none
-- ==== GmlpfRefIdeal.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S8192x512 : Shape := ⟨2, ![8192, 512]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4x64 : Shape := ⟨5, ![1, 64, 128, 4, 64]⟩
abbrev S1x64x128x4 : Shape := ⟨4, ![1, 64, 128, 4]⟩
abbrev S1x64x128x4x1 : Shape := ⟨5, ![1, 64, 128, 4, 1]⟩
abbrev S1x1x1x4x64 : Shape := ⟨5, ![1, 1, 1, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x8192x256 : Shape := ⟨3, ![1, 8192, 256]⟩
abbrev S8192x256 : Shape := ⟨2, ![8192, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S8192x512, .f32⟩
  | .hbm, ⟨6, _⟩ => ⟨S1x8192x512, .f32⟩
  | .hbm, ⟨7, _⟩ => ⟨S_, .f32⟩
  | .hbm, ⟨8, _⟩ => ⟨S1x8192x512, .f32⟩
  | .hbm, ⟨9, _⟩ => ⟨S_, .f32⟩
  | .hbm, ⟨10, _⟩ => ⟨S1x8192x512, .f32⟩
  | .hbm, ⟨11, _⟩ => ⟨S1x8192x512, .f32⟩
  | .hbm, ⟨12, _⟩ => ⟨S1x8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S_, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S_, .f32⟩
  | .hbm, ⟨21, _⟩ => ⟨S1x8192x512, .f32⟩
  | .hbm, ⟨22, _⟩ => ⟨S1x8192x512, .f32⟩
  | .hbm, ⟨23, _⟩ => ⟨S_, .f32⟩
  | .hbm, ⟨24, _⟩ => ⟨S1x8192x512, .f32⟩
  | .hbm, ⟨25, _⟩ => ⟨S1x8192x512, .f32⟩
  | .hbm, ⟨26, _⟩ => ⟨S1x8192x512, .f32⟩
  | .hbm, ⟨27, _⟩ => ⟨S1x64x128x4x128, .f32⟩
  | .hbm, ⟨28, _⟩ => ⟨S1x64x128x4x64, .f32⟩
  | .hbm, ⟨29, _⟩ => ⟨S1x64x128x4x64, .f32⟩
  | .hbm, ⟨30, _⟩ => ⟨S_, .f32⟩
  | .hbm, ⟨31, _⟩ => ⟨S1x64x128x4, .f32⟩
  | .hbm, ⟨32, _⟩ => ⟨S1x64x128x4x1, .f32⟩
  | .hbm, ⟨33, _⟩ => ⟨S_, .f32⟩
  | .hbm, ⟨34, _⟩ => ⟨S1x64x128x4x1, .f32⟩
  | .hbm, ⟨35, _⟩ => ⟨S1x64x128x4x1, .f32⟩
  | .hbm, ⟨36, _⟩ => ⟨S1x64x128x4x64, .f32⟩
  | .hbm, ⟨37, _⟩ => ⟨S1x64x128x4x64, .f32⟩
  | .hbm, ⟨38, _⟩ => ⟨S1x64x128x4x64, .f32⟩
  | .hbm, ⟨39, _⟩ => ⟨S_, .f32⟩
  | .hbm, ⟨40, _⟩ => ⟨S1x64x128x4, .f32⟩
  | .hbm, ⟨41, _⟩ => ⟨S1x64x128x4x1, .f32⟩
  | .hbm, ⟨42, _⟩ => ⟨S_, .f32⟩
  | .hbm, ⟨43, _⟩ => ⟨S1x64x128x4x1, .f32⟩
  | .hbm, ⟨44, _⟩ => ⟨S1x64x128x4x1, .f32⟩
  | .hbm, ⟨45, _⟩ => ⟨S_, .f32⟩
  | .hbm, ⟨46, _⟩ => ⟨S1x64x128x4x1, .f32⟩
  | .hbm, ⟨47, _⟩ => ⟨S1x64x128x4x1, .f32⟩
  | .hbm, ⟨48, _⟩ => ⟨S1x64x128x4x1, .f32⟩
  | .hbm, ⟨49, _⟩ => ⟨S1x64x128x4x64, .f32⟩
  | .hbm, ⟨50, _⟩ => ⟨S1x64x128x4x64, .f32⟩
  | .hbm, ⟨51, _⟩ => ⟨S1x1x1x4x64, .f32⟩
  | .hbm, ⟨52, _⟩ => ⟨S1x64x128x4x64, .f32⟩
  | .hbm, ⟨53, _⟩ => ⟨S1x64x128x4x64, .f32⟩
  | .hbm, ⟨54, _⟩ => ⟨S1x1x1x4x64, .f32⟩
  | .hbm, ⟨55, _⟩ => ⟨S1x64x128x4x64, .f32⟩
  | .hbm, ⟨56, _⟩ => ⟨S1x64x128x4x64, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S_, .f32⟩
  | .hbm, ⟨69, _⟩ => ⟨S_, .f32⟩
  | .hbm, ⟨70, _⟩ => ⟨S4x128x128, .i1⟩
  | .hbm, ⟨71, _⟩ => ⟨S4x128x128, .f32⟩
  | .hbm, ⟨72, _⟩ => ⟨S4x128x128, .f32⟩
  | .hbm, ⟨73, _⟩ => ⟨S4x1x64x64x128, .f32⟩
  | .hbm, ⟨74, _⟩ => ⟨S1x64x128x4x64, .f32⟩
  | .hbm, ⟨75, _⟩ => ⟨S128x4, .f32⟩
  | .hbm, ⟨76, _⟩ => ⟨S1x1x128x4x1, .f32⟩
  | .hbm, ⟨77, _⟩ => ⟨S1x64x128x4x64, .f32⟩
  | .hbm, ⟨78, _⟩ => ⟨S1x64x128x4x64, .f32⟩
  | .hbm, ⟨79, _⟩ => ⟨S1x64x128x4x64, .f32⟩
  | .hbm, ⟨80, _⟩ => ⟨S1x8192x256, .f32⟩
  | .hbm, ⟨81, _⟩ => ⟨S8192x256, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v43 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Attnf.lean ====
abbrev S8192x1536 : Shape := ⟨2, ![8192, 1536]⟩
abbrev S8192 : Shape := ⟨1, ![8192]⟩
abbrev S64 : Shape := ⟨1, ![64]⟩
abbrev S8 : Shape := ⟨1, ![8]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S8192x512 : Shape := ⟨2, ![8192, 512]⟩
abbrev S1024x512 : Shape := ⟨2, ![1024, 512]⟩
abbrev S1024x128 : Shape := ⟨2, ![1024, 128]⟩
abbrev S128x128 : Shape := ⟨2, ![128, 128]⟩
abbrev S1152x128 : Shape := ⟨2, ![1152, 128]⟩
abbrev S1152 : Shape := ⟨1, ![1152]⟩
abbrev S1152x1 : Shape := ⟨2, ![1152, 1]⟩
abbrev S1024 : Shape := ⟨1, ![1024]⟩
abbrev S1024x1 : Shape := ⟨2, ![1024, 1]⟩
abbrev S128x256 : Shape := ⟨2, ![128, 256]⟩
abbrev S1x1 : Shape := ⟨2, ![1, 1]⟩
abbrev S128x1 : Shape := ⟨2, ![128, 1]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S4x128x256 : Shape := ⟨3, ![4, 128, 256]⟩
abbrev S1x128x256 : Shape := ⟨3, ![1, 128, 256]⟩
abbrev S512 : Shape := ⟨1, ![512]⟩

abbrev nBuf : Space → Nat
  | .hbm => 40
  | .vmem => 23
  | .smem => 0
  | _ => 0

abbrev bufTy : (tb : Table) → Fin (tcTables nBuf tb) → BufTy
  | .hbm, ⟨0, _⟩ => ⟨S8192x1536, .f32⟩
  | .hbm, ⟨1, _⟩ => ⟨S8192, .i32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8192, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x128, .f32⟩
  | .hbm, ⟨30, _⟩ => ⟨S8192x32, .f32⟩
  | .hbm, ⟨31, _⟩ => ⟨S8192x32, .f32⟩
  | .hbm, ⟨32, _⟩ => ⟨S8192x128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S8x1, .f32⟩
  | .hbm, ⟨38, _⟩ => ⟨S8x128, .f32⟩
  | .hbm, ⟨39, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S8x128, .f32⟩
  | .local _ .vmem, ⟨21, _⟩ => ⟨S1024x512, .f32⟩
  | .local _ .vmem, ⟨22, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let c0_i32_1 : BitVec 32 := 0#32
  ![v2.toNat, c8_i32_0.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnfIdeal.lean ====
variable {F : FTy → Type} [FloatOps F] [Named F]
def κ : String → Option EReal := fun
  | "mask" => some ⊥
  | _ => none
-- ==== AttnfRefIdeal.lean ====
abbrev S8192x1536 : Shape := ⟨2, ![8192, 1536]⟩
abbrev S8192 : Shape := ⟨1, ![8192]⟩
abbrev S64 : Shape := ⟨1, ![64]⟩
abbrev S8 : Shape := ⟨1, ![8]⟩
abbrev S8192x512 : Shape := ⟨2, ![8192, 512]⟩
abbrev S8192x128 : Shape := ⟨2, ![8192, 128]⟩
abbrev S1x8192 : Shape := ⟨2, ![1, 8192]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x8x64 : Shape := ⟨4, ![1, 8192, 8, 64]⟩
abbrev S1x8192x2x64 : Shape := ⟨4, ![1, 8192, 2, 64]⟩
abbrev S1x8192x8 : Shape := ⟨3, ![1, 8192, 8]⟩
abbrev S1x8192x8x1 : Shape := ⟨4, ![1, 8192, 8, 1]⟩
abbrev S1x1x1x64 : Shape := ⟨4, ![1, 1, 1, 64]⟩
abbrev S1x8192x8x32 : Shape := ⟨4, ![1, 8192, 8, 32]⟩
abbrev S1x8192x1x32 : Shape := ⟨4, ![1, 8192, 1, 32]⟩
abbrev S1x8192x2 : Shape := ⟨3, ![1, 8192, 2]⟩
abbrev S1x8192x2x1 : Shape := ⟨4, ![1, 8192, 2, 1]⟩
abbrev S1x8192x2x32 : Shape := ⟨4, ![1, 8192, 2, 32]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x8192x512 : Shape := ⟨3, ![1, 8192, 512]⟩

abbrev nBuf : Space → Nat
  | .hbm => 179
  | .vmem => 0
  | .smem => 0
  | _ => 0

abbrev hbmTy0_0 (i : Nat) : BufTy := match i % 128 with
  | 0 => ⟨S8192x1536, .f32⟩
  | 1 => ⟨S8192, .i32⟩
  | 2 => ⟨S64, .f32⟩
  | 3 => ⟨S64, .f32⟩
  | 4 => ⟨S8, .f32⟩
  | 5 => ⟨S8192x512, .f32⟩
  | 6 => ⟨S8192x128, .f32⟩
  | 7 => ⟨S8192x128, .f32⟩
  | 8 => ⟨S1x8192, .i32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S1x8192, .f32⟩
  | 26 => ⟨S1x8192x1, .f32⟩
  | 27 => ⟨S1x1x32, .f32⟩
  | 28 => ⟨S1x8192x32, .f32⟩
  | 29 => ⟨S1x8192x32, .f32⟩
  | 30 => ⟨S1x8192x32, .f32⟩
  | 31 => ⟨S1x8192x32, .f32⟩
  | 32 => ⟨S1x8192x32, .f32⟩
  | 33 => ⟨S1x8192x8x64, .f32⟩
  | 34 => ⟨S1x8192x2x64, .f32⟩
  | 35 => ⟨S1x8192x2x64, .f32⟩
  | 36 => ⟨S1x8192x8x64, .f32⟩
  | 37 => ⟨S_, .f32⟩
  | 38 => ⟨S1x8192x8, .f32⟩
  | 39 => ⟨S1x8192x8x1, .f32⟩
  | 40 => ⟨S_, .f32⟩
  | 41 => ⟨S1x8192x8x1, .f32⟩
  | 42 => ⟨S1x8192x8x1, .f32⟩
  | 43 => ⟨S_, .f32⟩
  | 44 => ⟨S1x8192x8x1, .f32⟩
  | 45 => ⟨S1x8192x8x1, .f32⟩
  | 46 => ⟨S1x8192x8x1, .f32⟩
  | 47 => ⟨S1x8192x8x64, .f32⟩
  | 48 => ⟨S1x8192x8x64, .f32⟩
  | 49 => ⟨S1x1x1x64, .f32⟩
  | 50 => ⟨S1x8192x8x64, .f32⟩
  | 51 => ⟨S1x8192x8x64, .f32⟩
  | 52 => ⟨S1x8192x8x32, .f32⟩
  | 53 => ⟨S1x8192x8x32, .f32⟩
  | 54 => ⟨S1x8192x1x32, .f32⟩
  | 55 => ⟨S1x8192x1x32, .f32⟩
  | 56 => ⟨S1x8192x8x32, .f32⟩
  | 57 => ⟨S1x8192x8x32, .f32⟩
  | 58 => ⟨S1x8192x8x32, .f32⟩
  | 59 => ⟨S1x8192x8x32, .f32⟩
  | 60 => ⟨S1x8192x8x32, .f32⟩
  | 61 => ⟨S1x8192x8x32, .f32⟩
  | 62 => ⟨S1x8192x8x32, .f32⟩
  | 63 => ⟨S1x8192x8x32, .f32⟩
  | 64 => ⟨S1x8192x8x32, .f32⟩
  | 65 => ⟨S1x8192x8x32, .f32⟩
  | 66 => ⟨S1x8192x8x64, .f32⟩
  | 67 => ⟨S1x8192x2x64, .f32⟩
  | 68 => ⟨S_, .f32⟩
  | 69 => ⟨S1x8192x2, .f32⟩
  | 70 => ⟨S1x8192x2x1, .f32⟩
  | 71 => ⟨S_, .f32⟩
  | 72 => ⟨S1x8192x2x1, .f32⟩
  | 73 => ⟨S1x8192x2x1, .f32⟩
  | 74 => ⟨S_, .f32⟩
  | 75 => ⟨S1x8192x2x1, .f32⟩
  | 76 => ⟨S1x8192x2x1, .f32⟩
  | 77 => ⟨S1x8192x2x1, .f32⟩
  | 78 => ⟨S1x8192x2x64, .f32⟩
  | 79 => ⟨S1x8192x2x64, .f32⟩
  | 80 => ⟨S1x1x1x64, .f32⟩
  | 81 => ⟨S1x8192x2x64, .f32⟩
  | 82 => ⟨S1x8192x2x64, .f32⟩
  | 83 => ⟨S1x8192x2x32, .f32⟩
  | 84 => ⟨S1x8192x2x32, .f32⟩
  | 85 => ⟨S1x8192x1x32, .f32⟩
  | 86 => ⟨S1x8192x1x32, .f32⟩
  | 87 => ⟨S1x8192x2x32, .f32⟩
  | 88 => ⟨S1x8192x2x32, .f32⟩
  | 89 => ⟨S1x8192x2x32, .f32⟩
  | 90 => ⟨S1x8192x2x32, .f32⟩
  | 91 => ⟨S1x8192x2x32, .f32⟩
  | 92 => ⟨S1x8192x2x32, .f32⟩
  | 93 => ⟨S1x8192x2x32, .f32⟩
  | 94 => ⟨S1x8192x2x32, .f32⟩
  | 95 => ⟨S1x8192x2x32, .f32⟩
  | 96 => ⟨S1x8192x2x32, .f32⟩
  | 97 => ⟨S1x8192x2x64, .f32⟩
  | 98 => ⟨S1x64x128x2x4x64, .f32⟩
  | 99 => ⟨S1x64x128x2x64, .f32⟩
  | 100 => ⟨S1x1x128x2x64, .f32⟩
  | 101 => ⟨S_, .f32⟩
  | 102 => ⟨S1x1x128x2x64, .f32⟩
  | 103 => ⟨S1x63x128x2x64, .f32⟩
  | 104 => ⟨S1x64x128x2x64, .f32⟩
  | 105 => ⟨S1x64x256x2x64, .f32⟩
  | 106 => ⟨S1x64x128x2x64, .f32⟩
  | 107 => ⟨S1x1x128x2x64, .f32⟩
  | 108 => ⟨S_, .f32⟩
  | 109 => ⟨S1x1x128x2x64, .f32⟩
  | 110 => ⟨S1x63x128x2x64, .f32⟩
  | 111 => ⟨S1x64x128x2x64, .f32⟩
  | 112 => ⟨S1x64x256x2x64, .f32⟩
  | 113 => ⟨S1x64x2x256x128x4, .f32⟩
  | 114 => ⟨S1x64x2x4x128x256, .f32⟩
  | 115 => ⟨S_, .f32⟩
  | 116 => ⟨S1x64x2x4x128x256, .f32⟩
  | 117 => ⟨S1x64x2x4x128x256, .f32⟩
  | 118 => ⟨S128, .i32⟩
  | 119 => ⟨S128x1, .i32⟩
  | 120 => ⟨S_, .i32⟩
  | 121 => ⟨S128x1, .i32⟩
  | 122 => ⟨S128x1, .i32⟩
  | 123 => ⟨S256, .i32⟩
  | 124 => ⟨S1x256, .i32⟩
  | 125 => ⟨S128x256, .i32⟩
  | 126 => ⟨S128x256, .i32⟩
  | 127 => ⟨S128x256, .i32⟩
  | _ => ⟨S8192x1536, .f32⟩

abbrev hbmTy0_1 (i : Nat) : BufTy := match i % 128 with
  | 0 => ⟨S_, .i32⟩
  | 1 => ⟨S128x256, .i32⟩
  | 2 => ⟨S128x256, .i1⟩
  | 3 => ⟨S_, .i32⟩
  | 4 => ⟨S128x256, .i32⟩
  | 5 => ⟨S128x256, .i1⟩
  | 6 => ⟨S128x256, .i1⟩
  | 7 => ⟨S64, .i32⟩
  | 8 => ⟨S64x1x1, .i32⟩
  | 9 => ⟨S_, .i32⟩
  | 10 => ⟨S64x1x1, .i32⟩
  | 11 => ⟨S64x1x1, .i1⟩
  | 12 => ⟨S1x128x256, .i1⟩
  | 13 => ⟨S_, .i32⟩
  | 14 => ⟨S1x256, .i32⟩
  | 15 => ⟨S1x256, .i1⟩
  | 16 => ⟨S1x1x256, .i1⟩
  | 17 => ⟨S64x1x256, .i1⟩
  | 18 => ⟨S64x1x256, .i1⟩
  | 19 => ⟨S64x1x256, .i1⟩
  | 20 => ⟨S64x128x256, .i1⟩
  | 21 => ⟨S64x128x256, .i1⟩
  | 22 => ⟨S64x128x256, .i1⟩
  | 23 => ⟨S1x64x1x1x128x256, .i1⟩
  | 24 => ⟨S1x64x2x4x128x256, .i1⟩
  | 25 => ⟨S_, .f32⟩
  | 26 => ⟨S1x64x2x4x128x256, .f32⟩
  | 27 => ⟨S1x64x2x4x128x256, .f32⟩
  | 28 => ⟨S2x4, .f32⟩
  | 29 => ⟨S1x1x2x4x1x1, .f32⟩
  | 30 => ⟨S_, .f32⟩
  | 31 => ⟨S1x64x2x4x128, .f32⟩
  | 32 => ⟨S1x64x2x4x128x1, .f32⟩
  | 33 => ⟨S1x64x2x4x128x1, .f32⟩
  | 34 => ⟨S1x64x2x4x128x1, .f32⟩
  | 35 => ⟨S1x64x2x4x128x256, .f32⟩
  | 36 => ⟨S1x64x2x4x128x256, .f32⟩
  | 37 => ⟨S1x64x2x4x128x256, .f32⟩
  | 38 => ⟨S_, .f32⟩
  | 39 => ⟨S1x64x2x4x128, .f32⟩
  | 40 => ⟨S1x64x2x4x128x1, .f32⟩
  | 41 => ⟨S1x64x2x4x128x1, .f32⟩
  | 42 => ⟨S1x64x2x4x128x1, .f32⟩
  | 43 => ⟨S1x64x2x4x128x1, .f32⟩
  | 44 => ⟨S1x64x2x4x128x1, .f32⟩
  | 45 => ⟨S1x64x2x4x128x256, .f32⟩
  | 46 => ⟨S1x64x2x4x128x256, .f32⟩
  | 47 => ⟨S1x64x2x64x4x128, .f32⟩
  | 48 => ⟨S1x64x128x2x4x64, .f32⟩
  | 49 => ⟨S1x8192x512, .f32⟩
  | 50 => ⟨S8192x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_10 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_c : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c_13 : Ref sig .tc := ⟨.hbm, 128, rfl⟩
abbrev main_v108 : Ref sig .tc := ⟨.hbm, 129, rfl⟩
abbrev main_v109 : Ref sig .tc := ⟨.hbm, 130, rfl⟩
abbrev main_c_14 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_c_15 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_c_16 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_17 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_19 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩

abbrev nD : Nat := 1
abbrev τ : Topo := Topo.v7x

variable {F : FTy → Type} [FloatOps F]
-- ==== Tn.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Rope.lean ====
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 24
  | .vmem => 7
  | .smem => 0
  | _ => 0

abbrev bufTy : (tb : Table) → Fin (tcTables nBuf tb) → BufTy
  | .hbm, ⟨0, _⟩ => ⟨S8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192x1, .i32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S8192x128, .f32⟩
  | .hbm, ⟨23, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x128, .f32⟩
  | .hbm, ⟨26, _⟩ => ⟨S8192x32, .f32⟩
  | .hbm, ⟨27, _⟩ => ⟨S8192x32, .f32⟩
  | .hbm, ⟨28, _⟩ => ⟨S8192x128, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Reals.lean ====
/- Facts about the extended reals and about sums cut into tiles, used by every value proof of this certificate. -/
module

public import Idealize.ShloMosaic.Lib.Pointwise
public import Idealize.ShloMosaic.PureOps.Ideal

@[expose] public section

namespace Cert.Reals

open Idealize.ShloMosaic

/-- A nonnegative real constant goes through a finite sum of extended reals. -/
theorem coe_mul_sum {ι : Type*} (c : ℝ) (hc : 0 ≤ c) (s : Finset ι) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, EReal.left_distrib_of_nonneg_of_ne_top (by exact_mod_cast hc) (EReal.coe_ne_top c), ih]

/-- A sum over `n * k` terms is the sum over `n` tiles of `k` terms each. -/
theorem sum_tiles {M : Type*} [AddCommMonoid M] (n k N : ℕ) (h : N = n * k) (f : Fin N → M) :
    ∑ r : Fin N, f r = ∑ t : Fin n, ∑ r : Fin k, f ⟨t.val * k + r.val, by
      have := t.isLt; have := r.isLt; subst h
      calc t.val * k + r.val < t.val * k + k := by omega
        _ = (t.val + 1) * k := by ring
        _ ≤ n * k := Nat.mul_le_mul_right k (by omega)⟩ := by
  subst h
  rw [← Fintype.sum_prod_type' (f := fun (t : Fin n) (r : Fin k) => f ⟨t.val * k + r.val, _⟩)]
  refine (Fintype.sum_equiv finProdFinEquiv _ _ fun p => ?_).symm
  congr 1
  apply Fin.ext
  simp only [finProdFinEquiv_apply_val]
  ring

/-! The float words of the programs as real numbers. -/

theorem word_1024 : Ideal.ofBits .f32 0x44800000#32 = ((1024 : ℝ) : EReal) := by
  simp [Ideal.ofBits, Ideal.ieee, -EReal.coe_mul]; norm_num

theorem word_inv_1024 : Ideal.ofBits .f32 0x3A800000#32 = ((1 / 1024 : ℝ) : EReal) := by
  simp [Ideal.ofBits, Ideal.ieee, -EReal.coe_mul]; norm_num

theorem word_zero : Ideal.ofBits .f32 0x00000000#32 = 0 := by
  simp [Ideal.ofBits, Ideal.ieee]

theorem word_half : Ideal.ofBits .f32 0x3F000000#32 = ((1 / 2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- Division by 1024 is multiplication by its inverse. -/
theorem div_1024 (x : EReal) : Ideal.div x ((1024 : ℝ) : EReal) = ((1 / 1024 : ℝ) : EReal) * x := by
  rw [Ideal.div_coe (by norm_num), mul_comm]

end Cert.Reals

end
-- ==== Proof.LossKernel.lean ====
/- The loss kernel over the extended reals: block `t` of the gradient, the accumulated loss, and the two arrays that
   the launch leaves. -/
module

public import proofs.«01_k».proof.Proof.Gen.LossIdeal.Value
public import proofs.«01_k».proof.Proof.Reals
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen Cert.Reals

variable (m : (ℓ : Loc nD τ sig) → Buf (Elt Ideal) ℓ) (ρ : Dev nD → PrngReg)

theorem hz : (![0, 0] : Fin 2 → Nat) = fun _ => 0 := funext fun a => by fin_cases a <;> rfl

section
variable {F : FTy → Type} [FloatOps F]
variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1024x1024 .f32) (h3 : a3.IsWhole)
  (a4 : Memref sig .tc .vmem S8x128 .f32) (h4 : a4.IsWhole)

theorem out_A_2 (hc : cond0_0 i) (x y : Vec F S1024x1024 .f32) :
    out0_A_2 c i a1 h1 a2 h2 a3 h3 a4 h4 hc x y = k0_pay3 x y := by
  unfold out0_A_2
  rw [View.read_writes_eq_canon _ _ _ (cover0_A_2 c i a1 h1 a2 h2 a3 h3 a4 h4 hc x y)]
  unfold kernelRun0_A
  dsimp only
  rw [View.canon_unit_zero hz]
  simp only [View.readAt_eq_ld, h1.read_unread, h2.read_unread, View.ld_unit_zero (S := S1024x1024) hz]

theorem out_B_2 (hc : ¬cond0_0 i) (x y : Vec F S1024x1024 .f32) (l : Vec F S8x128 .f32) :
    out0_B_2 c i a1 h1 a2 h2 a3 h3 a4 h4 hc x y l = k0_pay3 x y := by
  unfold out0_B_2
  rw [View.read_writes_eq_canon _ _ _ (cover0_B_2 c i a1 h1 a2 h2 a3 h3 a4 h4 hc x y l)]
  unfold kernelRun0_B
  dsimp only
  rw [View.canon_unit_zero hz]
  simp only [View.readAt_eq_ld, h1.read_unread, h2.read_unread, View.ld_unit_zero (S := S1024x1024) hz]

theorem out_A_3 (hc : cond0_0 i) (x y : Vec F S1024x1024 .f32) :
    out0_A_3 c i a1 h1 a2 h2 a3 h3 a4 h4 hc x y = k0_pay4 x y k0_pay1 := by
  unfold out0_A_3
  rw [View.read_writes_eq_canon _ _ _ (cover0_A_3 c i a1 h1 a2 h2 a3 h3 a4 h4 hc x y)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S1024x1024) hz]

theorem out_B_3 (hc : ¬cond0_0 i) (x y : Vec F S1024x1024 .f32) (l : Vec F S8x128 .f32) :
    out0_B_3 c i a1 h1 a2 h2 a3 h3 a4 h4 hc x y l = k0_pay4 x y l := by
  unfold out0_B_3
  rw [View.read_writes_eq_canon _ _ _ (cover0_B_3 c i a1 h1 a2 h2 a3 h3 a4 h4 hc x y l)]
  unfold kernelRun0_B
  dsimp only
  rw [View.canon_unit_zero hz]
  simp only [View.readAt_eq_ld, h1.read_unread, h2.read_unread, h4.read_unread, View.ld_unit_zero (S := S1024x1024) hz,
    View.ld_unit_zero (S := S8x128) hz]

end

/-- The row part of the loss: half the mean square error of one row. -/
def rowLoss (x y : Fin 1024 → EReal) : EReal := ((1 / 1024 : ℝ) : EReal) * ∑ k : Fin 1024, (x k - y k) * (x k - y k)

theorem pay3_apply (x y : Vec Ideal S1024x1024 .f32) (r k : Fin 1024) :
    k0_pay3 x y (ix2 r k) = (x (ix2 r k) - y (ix2 r k)) * ((1 / 1024 : ℝ) : EReal) := by
  pointwise [k0_pay3, k0_pay2]
  rw [word_inv_1024]

theorem pay4_apply (x y : Vec Ideal S1024x1024 .f32) (l : Vec Ideal S8x128 .f32) (j : S8x128.Idx) :
    k0_pay4 x y l j = l j + ((1 / 2 : ℝ) : EReal) * ∑ r : Fin 1024, rowLoss (fun k => x (ix2 r k)) (fun k => y (ix2 r k)) := by
  pointwise [k0_pay4, k0_pay2]
  simp only [word_half, word_1024, div_1024, rowLoss, Fin.sum_univ_one, Finset.univ_unique, Finset.sum_singleton]

theorem pay1_apply (j : S8x128.Idx) : k0_pay1 (F := Ideal) j = 0 := by
  pointwise [k0_pay1]

/-- The two argument arrays. -/
abbrev H (c : Dev nD) : Vec Ideal S8192x1024 .f32 := m ((c : Thread nD τ).loc main_arg0)
abbrev T (c : Dev nD) : Vec Ideal S8192x1024 .f32 := m ((c : Thread nD τ).loc main_arg1)

/-- Row `r` of tile `t`. -/
def row (t : ℕ) (ht : t < 8) (r : Fin 1024) : Fin 8192 := ⟨t * 1024 + r.val, by omega⟩

theorem idx_facts : ∀ t : Fin cfg0.N, win0_0.index t 0 = t.val ∧ win0_0.index t 1 = 0 ∧ win0_1.index t 0 = t.val
    ∧ win0_1.index t 1 = 0 ∧ win0_2.index t 0 = t.val ∧ win0_2.index t 1 = 0 ∧ win0_3.index t 0 = 0 ∧ win0_3.index t 1 = 0 :=
  (by decide +kernel : ∀ t : Fin grid0.N, win0_0.index t 0 = t.val ∧ win0_0.index t 1 = 0 ∧ win0_1.index t 0 = t.val
    ∧ win0_1.index t 1 = 0 ∧ win0_2.index t 0 = t.val ∧ win0_2.index t 1 = 0 ∧ win0_3.index t 0 = 0 ∧ win0_3.index t 1 = 0)

theorem lt8 (t : Fin cfg0.N) : t.val < 8 := by have h : cfg0.N = 8 := N_0; have := t.isLt; omega

theorem blk0_apply (c : Dev nD) (t : Fin cfg0.N) (r k : Fin 1024) :
    (iblk m c 0 t : Vec Ideal S1024x1024 .f32) (ix2 r k) = H m c (ix2 (row t.val (lt8 t) r) k) := by
  have hi := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * k.val = k.val; rw [hi.2.1]; omega

theorem blk1_apply (c : Dev nD) (t : Fin cfg0.N) (r k : Fin 1024) :
    (iblk m c 1 t : Vec Ideal S1024x1024 .f32) (ix2 r k) = T m c (ix2 (row t.val (lt8 t) r) k) := by
  have hi := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = t.val * 1024 + r.val; rw [hi.2.2.1]; omega
  | ⟨1, _⟩ => show win0_1.index t 1 * 1024 + 1 * k.val = k.val; rw [hi.2.2.2.1]; omega

/-- The gradient array. -/
def gradArr (c : Dev nD) : Vec Ideal S8192x1024 .f32 := fun i => (H m c i - T m c i) * ((1 / 1024 : ℝ) : EReal)

/-- The part of the loss of tile `t`. -/
def tileLoss (c : Dev nD) (t : ℕ) (ht : t < 8) : EReal :=
  ((1 / 2 : ℝ) : EReal) * ∑ r : Fin 1024, rowLoss (fun k => H m c (ix2 (row t ht r) k)) (fun k => T m c (ix2 (row t ht r) k))

/-- The parts of the tiles up to `n`, added in order. -/
def partLoss (c : Dev nD) : (n : ℕ) → n < 8 → EReal
  | 0, h => 0 + tileLoss m c 0 h
  | n + 1, h => partLoss c n (by omega) + tileLoss m c (n + 1) h

theorem out2_eq (c : Dev nD) (t : Fin cfg0.N) : (outsAt0 m c t.val t.isLt).1 = k0_pay3 (iblk m c 0 t) (iblk m c 1 t) := by
  by_cases h : t.val % 8 = 0
  · rw [outsAt0_A m c t h, out_A_2]
  · rw [outsAt0_B m c t h, out_B_2]

theorem out3_A (c : Dev nD) (t : Fin cfg0.N) (h : t.val % 8 = 0) :
    (outsAt0 m c t.val t.isLt).2 = k0_pay4 (iblk m c 0 t) (iblk m c 1 t) (k0_pay1 (F := Ideal)) := by
  rw [outsAt0_A m c t h, out_A_3]

theorem out3_B (c : Dev nD) (t : Fin cfg0.N) (h : ¬t.val % 8 = 0) : (outsAt0 m c t.val t.isLt).2
    = k0_pay4 (iblk m c 0 t) (iblk m c 1 t) (outsAt0 m c (t.val - 1) (Nat.lt_of_le_of_lt (Nat.sub_le _ _) t.isLt)).2 := by
  rw [outsAt0_B m c t h, out_B_3]

theorem out3_apply (c : Dev nD) (j : S8x128.Idx) : ∀ (n : ℕ) (h : n < cfg0.N) (h8 : n < 8), (outsAt0 m c n h).2 j = partLoss m c n h8
  | 0, h, h8 => by
    refine (congrFun (out3_A m c ⟨0, h⟩ rfl) j).trans ?_
    rw [pay4_apply, pay1_apply]
    simp only [partLoss, tileLoss, blk0_apply, blk1_apply]
  | n + 1, h, h8 => by
    have hB : ¬(⟨n + 1, h⟩ : Fin cfg0.N).val % 8 = 0 := by dsimp only; omega
    refine (congrFun (out3_B m c ⟨n + 1, h⟩ hB) j).trans ?_
    rw [pay4_apply]
    simp only [partLoss, tileLoss, blk0_apply, blk1_apply]
    congr 1
    exact out3_apply c j n _ (by omega)

theorem flush2 (c : Dev nD) (t : Fin cfg0.N) :
    (dats m 0 c).flushed 2 t = ((cfg0.win 2).blk t).view.read (Elt Ideal) (gradArr m c) := by
  rw [Value.flushed2, out2_eq]
  have hi := idx_facts t
  funext j
  obtain ⟨r, k, rfl⟩ : ∃ (r : Fin 1024) (k : Fin 1024), j = ix2 r k := ⟨j 0, j 1, eq_ix2 j⟩
  rw [View.read_apply]
  refine (pay3_apply _ _ r k).trans ?_
  rw [blk0_apply, blk1_apply]
  have e : ((cfg0.win 2).blk t).view.emb (ix2 r k) = ix2 (row t.val (lt8 t) r) k := by
    funext a
    apply Fin.ext
    match a with
    | ⟨0, _⟩ => show win0_2.index t 0 * 1024 + 1 * r.val = t.val * 1024 + r.val; rw [hi.2.2.2.2.1]; omega
    | ⟨1, _⟩ => show win0_2.index t 1 * 1024 + 1 * k.val = k.val; rw [hi.2.2.2.2.2.1]; omega
  rw [e]; rfl

theorem cover2 (i : S8192x1024.Idx) : ∃ t : Fin cfg0.N, (cfg0.win 2).flush t = true ∧ i ∈ ((cfg0.win 2).blk t).view.set := by
  have h0 : (i 0 : Nat) < 8192 := (i 0).isLt
  have h1 : (i 1 : Nat) < 1024 := (i 1).isLt
  have hN : cfg0.N = 8 := N_0
  have ht : (i 0 : Nat) / 1024 < cfg0.N := by omega
  have hi := idx_facts ⟨_, ht⟩
  refine ⟨⟨_, ht⟩, flush0_2 _, ?_⟩
  show i ∈ ((View.whole main_v0_0).slice (win0_2.rect ⟨_, ht⟩)).set
  rw [View.set_slice_whole, Rect.mem_set_unit]
  intro a
  match a with
  | ⟨0, _⟩ => show win0_2.index _ 0 * 1024 ≤ (i 0 : Nat) ∧ (i 0 : Nat) < win0_2.index _ 0 * 1024 + 1024
              rw [hi.2.2.2.2.1]; dsimp only; omega
  | ⟨1, _⟩ => show win0_2.index _ 1 * 1024 ≤ (i 1 : Nat) ∧ (i 1 : Nat) < win0_2.index _ 1 * 1024 + 1024
              rw [hi.2.2.2.2.2.1]; omega

theorem final2 (c : Dev nD) : (dats m 0 c).arrAt 2 cfg0.N = gradArr m c :=
  (dats m 0 c).arrAt_eq_of_cover 2 (gradArr m c) (fun t _ => flush2 m c t) cover2

/-- The array that carries the loss in every element. -/
def lossArr (c : Dev nD) : Vec Ideal S8x128 .f32 := fun _ => partLoss m c 7 (by omega)

theorem flush3 (c : Dev nD) (t : Fin cfg0.N) (hf : (cfg0.win 3).flush t = true) :
    (dats m 0 c).flushed 3 t = ((cfg0.win 3).blk t).view.read (Elt Ideal) (lossArr m c) := by
  rw [Value.flushed3]
  have h7 : t.val = 7 := by have := (flush0_3 t).mp hf; have := lt8 t; omega
  funext j
  rw [View.read_apply]
  refine (out3_apply m c j t.val t.isLt (lt8 t)).trans ?_
  unfold lossArr
  congr 1

theorem cover3 (i : S8x128.Idx) : ∃ t : Fin cfg0.N, (cfg0.win 3).flush t = true ∧ i ∈ ((cfg0.win 3).blk t).view.set := by
  have h0 : (i 0 : Nat) < 8 := (i 0).isLt
  have h1 : (i 1 : Nat) < 128 := (i 1).isLt
  have hN : cfg0.N = 8 := N_0
  have ht : 7 < cfg0.N := by omega
  have hi := idx_facts ⟨7, ht⟩
  refine ⟨⟨7, ht⟩, (flush0_3 _).mpr rfl, ?_⟩
  show i ∈ ((View.whole main_v0_1).slice (win0_3.rect ⟨7, ht⟩)).set
  rw [View.set_slice_whole, Rect.mem_set_unit]
  intro a
  match a with
  | ⟨0, _⟩ => show win0_3.index _ 0 * 8 ≤ (i 0 : Nat) ∧ (i 0 : Nat) < win0_3.index _ 0 * 8 + 8
              rw [hi.2.2.2.2.2.2.1]; omega
  | ⟨1, _⟩ => show win0_3.index _ 1 * 128 ≤ (i 1 : Nat) ∧ (i 1 : Nat) < win0_3.index _ 1 * 128 + 128
              rw [hi.2.2.2.2.2.2.2]; omega

theorem final3 (c : Dev nD) : (dats m 0 c).arrAt 3 cfg0.N = lossArr m c :=
  (dats m 0 c).arrAt_eq_of_cover 3 (lossArr m c) (flush3 m c) cover3

/-- The run: the gradient array, the loss array, the arguments unchanged. -/
theorem run : θ_run defs (onTc (τ := τ) (main (F := Ideal))) ⟨m, fun _ => 0, ρ⟩ fun r => ∀ c : Dev nD,
      r.2.mem ((c : Thread nD τ).loc main_v0_0) = gradArr m c
      ∧ r.2.mem ((c : Thread nD τ).loc main_v0_1) = lossArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2.1.trans (final3 m c), (h c).2.2.1, (h c).2.2.2⟩)
    (Value.run_blocks m ρ)

end Cert.LossIdeal.Hand

end
-- ==== Proof.Loss.lean ====
/- The loss: the reference over the extended reals, and the equation with the kernel. -/
module

public import proofs.«01_k».proof.Defs
public import proofs.«01_k».proof.Proof.LossKernel
public import proofs.«01_k».proof.Proof.Gen.LossRefIdeal.Run
public import proofs.«01_k».proof.Proof.Gen.Loss.Frame
public import Idealize.ShloMosaic.Lib.Claim

@[expose] public section

set_option maxRecDepth 16384

noncomputable section

open Idealize.ShloMosaic Idealize.ShloMosaic.TcCoe Idealize.SL.Sem

namespace Cert.Proof.Loss

open Cert.LossRefIdeal Cert.LossRefIdeal.Gen Cert.Reals

/-- The reference's loss as a number: half the sum over the rows of the mean square. -/
def total (x y : Vec Ideal S8192x1024 .f32) : EReal :=
  ((1 / 2 : ℝ) : EReal) * ∑ r : Fin 8192, LossIdeal.Hand.rowLoss (fun k => x (ix2 r k)) (fun k => y (ix2 r k))

theorem ref_grad (x y : Vec Ideal S8192x1024 .f32) :
    mulf (F := Ideal) (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192
      (constant S_ .f32 0x44800000#32)))) (mulf (broadcastInDim S8192x1024 ![] bcast_S_S8192x1024
      (constant S_ .f32 0x40000000#32)) (subf x y)) = fun i => (x i - y i) * ((1 / 1024 : ℝ) : EReal) := by
  funext i
  obtain ⟨r, k, rfl⟩ : ∃ (r : Fin 8192) (k : Fin 1024), i = ix2 r k := ⟨i 0, i 1, eq_ix2 i⟩
  pointwise
  rw [word_half, word_1024, word_two, Ideal.div_coe (by norm_num)]
  rw [← mul_assoc, ← EReal.coe_mul, ← EReal.coe_mul, mul_comm]
  norm_num

theorem ref_loss (x y : Vec Ideal S8192x1024 .f32) :
    broadcastInDim S8x128 ![] bcast_S_S8x128 (mulf (F := Ideal) (constant S_ .f32 0x3F000000#32) (Host.reduceAdd (Host.divf
      (Host.reduceAdd (mulf (subf x y) (subf x y)) (constant S_ .f32 0x00000000#32) reducesTo_S8192x1024_S8192_d1 h_S_)
      (broadcastInDim S8192 ![] bcast_S_S8192 (constant S_ .f32 0x44800000#32))) (constant S_ .f32 0x00000000#32)
      reducesTo_S8192_S_d0 h_S_)) = fun _ => total x y := by
  funext i
  pointwise
  simp only [word_half, word_1024, div_1024, total, LossIdeal.Hand.rowLoss, zero_add]

/-- The tiles' parts add up to the whole. -/
theorem total_tiles (m : (ℓ : Loc Cert.LossIdeal.nD Cert.LossIdeal.τ Cert.LossIdeal.sig) → Buf (Elt Ideal) ℓ) (c : Dev Cert.LossIdeal.nD) :
    LossIdeal.Hand.partLoss m c 7 (by omega) = total (LossIdeal.Hand.H m c) (LossIdeal.Hand.T m c) := by
  unfold total
  rw [sum_tiles 8 1024 8192 rfl, coe_mul_sum _ (by norm_num), Fin.sum_univ_eight]
  simp only [LossIdeal.Hand.partLoss, LossIdeal.Hand.tileLoss, zero_add]
  rfl

theorem frame : Cert.quiescent_Loss := fun m ρ _ => Cert.Loss.Gen.frame m ρ
theorem frame_ideal : Cert.quiescent_LossIdeal := fun m ρ _ => Cert.LossIdeal.Gen.frame m ρ
theorem frame_ref : Cert.quiescent_LossRefIdeal := fun m ρ _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m ρ)

theorem algebraic : Cert.algebraic_LossIdeal_LossRefIdeal := by
  intro m g m' g' _ h
  refine ⟨fun c => LossIdeal.Hand.gradArr m c, fun c => LossIdeal.Hand.lossArr m c, LossIdeal.Hand.run m g, ?_⟩
  refine (θ_run Cert.LossRefIdeal.defs _ _).mono (fun r hr c => ?_) (Cert.LossRefIdeal.Value.run (F := Ideal) m' g')
  obtain ⟨h1, h2, h3⟩ := hr c
  refine ⟨h1.trans ?_, h2.trans ?_, h3⟩
  · rw [(h c).1, (h c).2]
    exact ref_grad _ _
  · rw [(h c).1, (h c).2]
    refine (ref_loss _ _).trans ?_
    funext i
    exact (total_tiles m c).symm

end Cert.Proof.Loss

end
-- ==== Proof.Rms.lean ====
/- The gradient of a root-mean-square norm, of one row: the form that the kernels write out and the form that the derivative
   of the forward lines takes are the same number on finite rows. -/
module

public import Idealize.ShloMosaic.Lib.Pointwise
public import Idealize.ShloMosaic.PureOps.Ideal

@[expose] public section

noncomputable section

namespace Cert.Rms

open Idealize.ShloMosaic

/-! Finite extended reals. -/

/-- The value is a real number. -/
def IsReal (a : EReal) : Prop := ∃ r : ℝ, a = (r : EReal)

theorem IsReal.coe (r : ℝ) : IsReal (r : EReal) := ⟨r, rfl⟩

theorem IsReal.mul {a b : EReal} : IsReal a → IsReal b → IsReal (a * b) := by
  rintro ⟨r, rfl⟩ ⟨s, rfl⟩; exact ⟨r * s, by push_cast; rfl⟩

theorem IsReal.add {a b : EReal} : IsReal a → IsReal b → IsReal (a + b) := by
  rintro ⟨r, rfl⟩ ⟨s, rfl⟩; exact ⟨r + s, by push_cast; rfl⟩

theorem IsReal.sub {a b : EReal} : IsReal a → IsReal b → IsReal (a - b) := by
  rintro ⟨r, rfl⟩ ⟨s, rfl⟩; exact ⟨r - s, by push_cast; rfl⟩

theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ k, IsReal (f k)) : IsReal (∑ k ∈ s, f k) := by
  choose g hg using h
  exact ⟨∑ k ∈ s, g k, by rw [← coe_sum]; exact Finset.sum_congr rfl fun k _ => hg k⟩

theorem div_coe_coe (a : ℝ) {b : ℝ} (h : b ≠ 0) : Ideal.div (a : EReal) (b : EReal) = ((a / b : ℝ) : EReal) := by
  rw [Ideal.div_coe h, ← EReal.coe_mul]; congr 1; ring

theorem IsReal.div {a b : EReal} (hb : ∃ r : ℝ, r ≠ 0 ∧ b = r) : IsReal a → IsReal (Ideal.div a b) := by
  rintro ⟨r, rfl⟩; obtain ⟨s, hs, rfl⟩ := hb; exact ⟨r / s, div_coe_coe r hs⟩

/-- A value whose absolute value compares below infinity is finite. -/
theorem real_of_abs_lt {a : EReal} (h : max a (-a) < ⊤) : IsReal a := by
  induction a using EReal.rec with
  | bot => simp at h
  | top => simp at h
  | coe r => exact ⟨r, rfl⟩

variable {n : ℕ}

/-- The inverse root mean square of a row `x`: `w` the width, `e` the term that keeps it from zero. -/
def rinv (w e : EReal) (x : Fin n → EReal) : EReal := Ideal.rsqrt (Ideal.div (∑ k, x k * x k) w + e)

theorem rinv_coe {w e : ℝ} (hw : 0 < w) (he : 0 < e) (x : Fin n → ℝ) : 0 < (∑ k, x k * x k) / w + e ∧
    rinv (w : EReal) (e : EReal) (fun k => (x k : EReal)) = (((√((∑ k, x k * x k) / w + e))⁻¹ : ℝ) : EReal) := by
  have hv : 0 < (∑ k, x k * x k) / w + e := by
    have := Finset.sum_nonneg (s := Finset.univ) fun k _ => mul_self_nonneg (x k)
    positivity
  refine ⟨hv, ?_⟩
  unfold rinv
  simp only [← EReal.coe_mul, coe_sum, div_coe_coe _ hw.ne', ← EReal.coe_add]
  rw [Ideal.rsqrt_coe, if_neg (not_lt.mpr hv.le), if_neg hv.ne']

theorem real_rinv {w e : ℝ} (hw : 0 < w) (he : 0 < e) {x : Fin n → EReal} (hx : ∀ k, IsReal (x k)) :
    IsReal (rinv (w : EReal) (e : EReal) x) := by
  choose x' hx' using hx
  obtain rfl : x = fun k => (x' k : EReal) := funext hx'
  exact ⟨_, (rinv_coe hw he x').2⟩

/-- The gradient of the norm in the kernels' form: `u` the cotangent times the gain. -/
def dx (w e : EReal) (x u : Fin n → EReal) (k : Fin n) : EReal :=
  rinv w e x * (u k - x k * rinv w e x * Ideal.div (∑ j, u j * (x j * rinv w e x)) w)

/-- The derivative's form: the factor `h` is minus a half, and each of the two factors of the square adds its part. -/
def dxRef (w e h : EReal) (x u : Fin n → EReal) (k : Fin n) : EReal :=
  u k * rinv w e x
    + x k * Ideal.div ((∑ j, x j * u j) * (h * Ideal.div (rinv w e x) (Ideal.div (∑ k, x k * x k) w + e))) w
    + Ideal.div ((∑ j, x j * u j) * (h * Ideal.div (rinv w e x) (Ideal.div (∑ k, x k * x k) w + e))) w * x k

theorem dx_eq {w e : ℝ} (hw : 0 < w) (he : 0 < e) {x u : Fin n → EReal} (hx : ∀ k, IsReal (x k)) (hu : ∀ k, IsReal (u k))
    (k : Fin n) : dx (w : EReal) (e : EReal) x u k = dxRef (w : EReal) (e : EReal) ((-(1 / 2) : ℝ) : EReal) x u k := by
  choose x' hx' using hx
  choose u' hu' using hu
  obtain rfl : x = fun k => (x' k : EReal) := funext hx'
  obtain rfl : u = fun k => (u' k : EReal) := funext hu'
  obtain ⟨hv, hr⟩ := rinv_coe hw he x'
  unfold dx dxRef
  rw [hr]
  simp only [← EReal.coe_mul, coe_sum, div_coe_coe _ hw.ne', ← EReal.coe_add, ← EReal.coe_sub]
  rw [div_coe_coe _ hv.ne']
  simp only [← EReal.coe_mul, coe_sum, div_coe_coe _ hw.ne', ← EReal.coe_add, ← EReal.coe_sub]
  congr 1
  generalize hV : (∑ k, x' k * x' k) / w + e = v at hv
  have hs : √v * √v = v := Real.mul_self_sqrt hv.le
  have hp : 0 < √v := Real.sqrt_pos.mpr hv
  have e1 : ∑ j, u' j * (x' j * (√v)⁻¹) = (∑ j, x' j * u' j) * (√v)⁻¹ := by
    rw [Finset.sum_mul]; exact Finset.sum_congr rfl fun j _ => by ring
  rw [e1]
  generalize ∑ j, x' j * u' j = s
  generalize √v = q at hp hs
  subst hs
  field_simp
  ring

theorem real_dx {w e : ℝ} (hw : 0 < w) (he : 0 < e) {x u : Fin n → EReal} (hx : ∀ k, IsReal (x k)) (hu : ∀ k, IsReal (u k))
    (k : Fin n) : IsReal (dx (w : EReal) (e : EReal) x u k) :=
  (real_rinv hw he hx).mul ((hu k).sub (((hx k).mul (real_rinv hw he hx)).mul
    (IsReal.div ⟨w, hw.ne', rfl⟩ (IsReal.sum _ fun j => (hu j).mul ((hx j).mul (real_rinv hw he hx))))))

/-! The words of the norms. -/

/-- The term that keeps the root mean square from zero. -/
def eps : ℝ := 8796093 / 8796093022208

theorem eps_pos : 0 < eps := by unfold eps; norm_num

theorem word_eps : Ideal.ofBits .f32 0x358637BD#32 = (eps : EReal) := by
  unfold eps
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_512 : Ideal.ofBits .f32 0x44000000#32 = ((512 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

/-- What the precondition's comparison says of a number. -/
theorem real_of_word {a : EReal} (h : BitVec.ofBool (decide (FloatOps.absf (F := Ideal) (φ := .f32) a < Ideal.ofBits .f32 0x7F800000#32)) = 1#1) :
    IsReal a := by
  have h' : FloatOps.absf (F := Ideal) (φ := .f32) a < Ideal.ofBits .f32 0x7F800000#32 := by
    by_contra hn
    simp [hn] at h
  have e : Ideal.ofBits .f32 0x7F800000#32 = ⊤ := by simp [Ideal.ofBits, Ideal.ieee]
  rw [e] at h'
  exact real_of_abs_lt h'

theorem dx_eq_256 {x u : Fin n → EReal} (hx : ∀ k, IsReal (x k)) (hu : ∀ k, IsReal (u k)) (k : Fin n) :
    dx (Ideal.ofBits .f32 0x43800000#32) (Ideal.ofBits .f32 0x358637BD#32) x u k
      = dxRef (Ideal.ofBits .f32 0x43800000#32) (Ideal.ofBits .f32 0x358637BD#32) (Ideal.ofBits .f32 0xBF000000#32) x u k := by
  rw [word_256, word_eps, word_neg_half]
  exact dx_eq (by norm_num) eps_pos hx hu k

theorem dx_eq_512 {x u : Fin n → EReal} (hx : ∀ k, IsReal (x k)) (hu : ∀ k, IsReal (u k)) (k : Fin n) :
    dx (Ideal.ofBits .f32 0x44000000#32) (Ideal.ofBits .f32 0x358637BD#32) x u k
      = dxRef (Ideal.ofBits .f32 0x44000000#32) (Ideal.ofBits .f32 0x358637BD#32) (Ideal.ofBits .f32 0xBF000000#32) x u k := by
  rw [word_512, word_eps, word_neg_half]
  exact dx_eq (by norm_num) eps_pos hx hu k

theorem dx_eq_1024 {x u : Fin n → EReal} (hx : ∀ k, IsReal (x k)) (hu : ∀ k, IsReal (u k)) (k : Fin n) :
    dx (Ideal.ofBits .f32 0x44800000#32) (Ideal.ofBits .f32 0x358637BD#32) x u k
      = dxRef (Ideal.ofBits .f32 0x44800000#32) (Ideal.ofBits .f32 0x358637BD#32) (Ideal.ofBits .f32 0xBF000000#32) x u k := by
  rw [word_1024, word_eps, word_neg_half]
  exact dx_eq (by norm_num) eps_pos hx hu k

end Cert.Rms

end
-- ==== Proof.MergeKernel.lean ====
module

public import proofs.«01_k».proof.Proof.Gen.MergeIdeal.Value
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The argument arrays. -/
abbrev Ya (c : Dev nD) : Vec Ideal S8192x256 .f32 := m ((c : Thread nD τ).loc main_arg0)
abbrev Yb (c : Dev nD) : Vec Ideal S8192x512 .f32 := m ((c : Thread nD τ).loc main_arg1)
abbrev Yc (c : Dev nD) : Vec Ideal S8192x256 .f32 := m ((c : Thread nD τ).loc main_arg2)
abbrev G (c : Dev nD) : Vec Ideal S1024 .f32 := m ((c : Thread nD τ).loc main_arg3)
abbrev W (c : Dev nD) : Vec Ideal S1024x1024 .f32 := m ((c : Thread nD τ).loc main_arg4)
abbrev Ct (c : Dev nD) : Vec Ideal S8192x1024 .f32 := m ((c : Thread nD τ).loc main_arg5)

/-- The cotangent of the norms' output. -/
def dY (c : Dev nD) (r : Fin 8192) (j : Fin 1024) : EReal := ∑ x : Fin 1024, Ct m c (ix2 r x) * W m c (ix2 j x)

abbrev w256 : EReal := Ideal.ofBits .f32 0x43800000#32
abbrev w512 : EReal := Ideal.ofBits .f32 0x44000000#32
abbrev weps : EReal := Ideal.ofBits .f32 0x358637BD#32

def daArr (c : Dev nD) : Vec Ideal S8192x256 .f32 := fun i =>
  Rms.dx w256 weps (fun j : Fin 256 => Ya m c (ix2 (i 0) j)) (fun j : Fin 256 => dY m c (i 0) ⟨j.val, by omega⟩ * G m c (ix1 ⟨j.val, by omega⟩)) (i 1)
def dbArr (c : Dev nD) : Vec Ideal S8192x512 .f32 := fun i =>
  Rms.dx w512 weps (fun j : Fin 512 => Yb m c (ix2 (i 0) j)) (fun j : Fin 512 => dY m c (i 0) ⟨256 + j.val, by omega⟩ * G m c (ix1 ⟨256 + j.val, by omega⟩)) (i 1)
def dcArr (c : Dev nD) : Vec Ideal S8192x256 .f32 := fun i =>
  Rms.dx w256 weps (fun j : Fin 256 => Yc m c (ix2 (i 0) j)) (fun j : Fin 256 => dY m c (i 0) ⟨768 + j.val, by omega⟩ * G m c (ix1 ⟨768 + j.val, by omega⟩)) (i 1)

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = Ct m c (ix2 (row t.val (lt16 t) r) k) := by
  unfold row; blk_ext [iblk, V_main_arg5, idx t]

theorem blk1 (c : Dev nD) (t : Fin cfg0.N) (r : Fin 512) (k : Fin 256) :
    (iblk m c 1 t : Vec Ideal S512x256 .f32) (ix2 r k) = Ya m c (ix2 (row t.val (lt16 t) r) k) := by
  unfold row; blk_ext [iblk, V_main_arg0, idx t]

theorem blk2 (c : Dev nD) (t : Fin cfg0.N) (r : Fin 512) (k : Fin 512) :
    (iblk m c 2 t : Vec Ideal S512x512 .f32) (ix2 r k) = Yb m c (ix2 (row t.val (lt16 t) r) k) := by
  unfold row; blk_ext [iblk, V_main_arg1, idx t]

theorem blk3 (c : Dev nD) (t : Fin cfg0.N) (r : Fin 512) (k : Fin 256) :
    (iblk m c 3 t : Vec Ideal S512x256 .f32) (ix2 r k) = Yc m c (ix2 (row t.val (lt16 t) r) k) := by
  unfold row; blk_ext [iblk, V_main_arg2, idx t]

theorem blk4 (c : Dev nD) (t : Fin cfg0.N) (k : Fin 1024) :
    (iblk m c 4 t : Vec Ideal S1x1024 .f32) (ix2 0 k) = G m c (ix1 k) := by
  have e : ((cfg0.win 4).blk t).view.emb (ix2 0 k) = ix2 0 k := by blk_ext [idx t]
  unfold iblk
  rw [View.read_apply]
  refine (congrArg (V m c main_v0) e).trans ?_
  unfold V
  entry_read
  pointwise

theorem blk5 (c : Dev nD) (t : Fin cfg0.N) (r k : Fin 1024) :
    (iblk m c 5 t : Vec Ideal S1024x1024 .bf16) (ix2 r k) = W m c (ix2 r k) := by
  blk_ext [iblk, V, idx t]

theorem pay10_apply (ct : Vec Ideal S512x1024 .f32) (w : Vec Ideal S1024x1024 .bf16) (x : Vec Ideal S512x256 .f32) (g : Vec Ideal S1x256 .f32)
    (r : Fin 512) (k : Fin 256) : k0_pay10 ct w x g (ix2 r k) = Rms.dx w256 weps (fun j : Fin 256 => x (ix2 r j))
      (fun j : Fin 256 => (∑ z : Fin 1024, ct (ix2 r z) * w (ix2 ⟨j.val, by omega⟩ z)) * g (ix2 0 j)) k := by
  pointwise [k0_pay10, k0_pay9, k0_pay8, k0_pay7, k0_pay6, k0_pay5]
  rfl

theorem final6 (c : Dev nD) : (dats m 0 c).arrAt 6 cfg0.N = daArr m c := by
  refine (dats m 0 c).arrAt_eq_of_covers 6 _ (by decide +kernel) fun t hf y => ?_
  blk_simp
  rw [after0_6]
  have hN := lt16 t
  have e : (outsAt0 m c t.val t.isLt).1 = k0_pay10 (iblk m c 0 t) (iblk m c 5 t) (iblk m c 1 t)
      (View.ld (iblk m c 4 t) (Rect.unit ![0, 0] ![1, 256] inb_S1x1024_S1x256_0_0)) := by
    by_cases h0 : t.val % 16 = 0 <;> by_cases h1 : t.val % 16 = 15
    · omega
    · rw [outsAt0_A m c t h0 h1]; frame_out; rfl
    · rw [outsAt0_C m c t h0 h1]; frame_out; rfl
    · rw [outsAt0_B m c t h0 h1]; frame_out; rfl
  rw [e]
  obtain ⟨r, k, rfl⟩ : ∃ (r : Fin 512) (k : Fin 256), y = ix2 r k := ⟨y 0, y 1, eq_ix2 y⟩
  have ey : ((View.whole main_v2_0).slice (win0_6.rect t)).emb (ix2 r k) = ix2 (row t.val (lt16 t) r) k := by
    unfold row; blk_ext [idx t]
  rw [ey]
  refine (pay10_apply _ _ _ _ r k).trans ?_
  pointwise
  simp only [blk0, blk1, blk4, blk5, daArr, dY]
  rfl

theorem pay17_apply (ct : Vec Ideal S512x1024 .f32) (w : Vec Ideal S1024x1024 .bf16) (x : Vec Ideal S512x512 .f32) (g : Vec Ideal S1x512 .f32)
    (r : Fin 512) (k : Fin 512) :
    k0_pay17 (k0_pay5 ct w) x g (ix2 r k) = Rms.dx w512 weps (fun j : Fin 512 => x (ix2 r j))
      (fun j : Fin 512 => (∑ z : Fin 1024, ct (ix2 r z) * w (ix2 ⟨256 + j.val, by omega⟩ z)) * g (ix2 0 j)) k := by
  unfold_payloads
  pointwise
  rfl

theorem pay26_apply (ct : Vec Ideal S512x1024 .f32) (w : Vec Ideal S1024x1024 .bf16) (x : Vec Ideal S512x256 .f32) (g : Vec Ideal S1x256 .f32)
    (r : Fin 512) (k : Fin 256) :
    k0_pay26 (k0_pay5 ct w) x (k0_pay20 x) k0_pay21 g (ix2 r k) = Rms.dx w256 weps (fun j : Fin 256 => x (ix2 r j))
      (fun j : Fin 256 => (∑ z : Fin 1024, ct (ix2 r z) * w (ix2 ⟨768 + j.val, by omega⟩ z)) * g (ix2 0 j)) k := by
  unfold_payloads
  pointwise
  rfl

theorem final7 (c : Dev nD) : (dats m 0 c).arrAt 7 cfg0.N = dbArr m c := by
  refine (dats m 0 c).arrAt_eq_of_covers 7 _ (by decide +kernel) fun t hf y => ?_
  blk_simp
  rw [after0_7]
  have hN := lt16 t
  have e : (outsAt0 m c t.val t.isLt).2.1 = k0_pay17 (k0_pay5 (iblk m c 0 t) (iblk m c 5 t)) (iblk m c 2 t)
      (View.ld (iblk m c 4 t) (Rect.unit ![0, 256] ![1, 512] inb_S1x1024_S1x512_0_256)) := by
    by_cases h0 : t.val % 16 = 0 <;> by_cases h1 : t.val % 16 = 15
    · omega
    · rw [outsAt0_A m c t h0 h1]; frame_out; rfl
    · rw [outsAt0_C m c t h0 h1]; frame_out; rfl
    · rw [outsAt0_B m c t h0 h1]; frame_out; rfl
  rw [e]
  obtain ⟨r, k, rfl⟩ : ∃ (r : Fin 512) (k : Fin 512), y = ix2 r k := ⟨y 0, y 1, eq_ix2 y⟩
  have ey : ((View.whole main_v2_1).slice (win0_7.rect t)).emb (ix2 r k) = ix2 (row t.val (lt16 t) r) k := by
    unfold row; blk_ext [idx t]
  rw [ey]
  refine (pay17_apply _ _ _ _ r k).trans ?_
  pointwise
  simp only [blk0, blk2, blk4, blk5, dbArr, dY]
  rfl

theorem final8 (c : Dev nD) : (dats m 0 c).arrAt 8 cfg0.N = dcArr m c := by
  refine (dats m 0 c).arrAt_eq_of_covers 8 _ (by decide +kernel) fun t hf y => ?_
  blk_simp
  rw [after0_8]
  have hN := lt16 t
  have e : (outsAt0 m c t.val t.isLt).2.2.1 = k0_pay26 (k0_pay5 (iblk m c 0 t) (iblk m c 5 t)) (iblk m c 3 t) (k0_pay20 (iblk m c 3 t)) k0_pay21
      (View.ld (iblk m c 4 t) (Rect.unit ![0, 768] ![1, 256] inb_S1x1024_S1x256_0_768)) := by
    by_cases h0 : t.val % 16 = 0 <;> by_cases h1 : t.val % 16 = 15
    · omega
    · rw [outsAt0_A m c t h0 h1]; frame_out; rfl
    · rw [outsAt0_C m c t h0 h1]; frame_out; rfl
    · rw [outsAt0_B m c t h0 h1]; frame_out; rfl
  rw [e]
  obtain ⟨r, k, rfl⟩ : ∃ (r : Fin 512) (k : Fin 256), y = ix2 r k := ⟨y 0, y 1, eq_ix2 y⟩
  have ey : ((View.whole main_v2_2).slice (win0_8.rect t)).emb (ix2 r k) = ix2 (row t.val (lt16 t) r) k := by
    unfold row; blk_ext [idx t]
  rw [ey]
  refine (pay26_apply _ _ _ _ r k).trans ?_
  pointwise
  simp only [blk0, blk3, blk4, blk5, dcArr, dY]
  rfl

/-- The rows of the three parts, each divided by its root mean square, side by side. -/
def xhat (c : Dev nD) (R : Fin 8192) (k : Fin 1024) : EReal :=
  if h : k.val < 256 then Ya m c (ix2 R ⟨k.val, h⟩) * Rms.rinv w256 weps fun j : Fin 256 => Ya m c (ix2 R j)
  else if h' : k.val - 256 < 512 then Yb m c (ix2 R ⟨k.val - 256, h'⟩) * Rms.rinv w512 weps fun j : Fin 512 => Yb m c (ix2 R j)
  else Yc m c (ix2 R ⟨k.val - 256 - 512, by omega⟩) * Rms.rinv w256 weps fun j : Fin 256 => Yc m c (ix2 R j)

/-- The gradient of the norms' weight. -/
def dgArr (c : Dev nD) : Vec Ideal S1x1024 .f32 := fun i => ∑ R : Fin 8192, dY m c R (i 1) * xhat m c R (i 1)

/-- The gradient of the product's weight. -/
def dwArr (c : Dev nD) : Vec Ideal S1024x1024 .bf16 := fun i => ∑ R : Fin 8192, xhat m c R (i 0) * G m c (ix1 (i 0)) * Ct m c (ix2 R (i 1))

/-- One tile's part of the norms' weight gradient. -/
def dgTerm (c : Dev nD) (t : Fin cfg0.N) (k : Fin 1024) : EReal :=
  ∑ r : Fin 512, dY m c (row t.val (lt16 t) r) k * xhat m c (row t.val (lt16 t) r) k

/-- One tile's part of the product's weight gradient. -/
def dwTerm (c : Dev nD) (t : Fin cfg0.N) (i k : Fin 1024) : EReal :=
  ∑ r : Fin 512, xhat m c (row t.val (lt16 t) r) i * G m c (ix1 i) * Ct m c (ix2 (row t.val (lt16 t) r) k)

theorem pay27_apply (c : Dev nD) (t : Fin cfg0.N) (acc : Vec Ideal S1x1024 .f32) (k : Fin 1024) :
    k0_pay27 (k0_pay5 (iblk m c 0 t) (iblk m c 5 t)) (k0_pay11 (iblk m c 0 t) (iblk m c 5 t) (iblk m c 1 t))
      (k0_pay18 (k0_pay5 (iblk m c 0 t) (iblk m c 5 t)) (iblk m c 2 t)) (iblk m c 3 t) (k0_pay20 (iblk m c 3 t)) k0_pay21 acc (ix2 0 k)
      = acc (ix2 0 k) + dgTerm m c t k := by
  have h : ∀ (ct : Vec Ideal S512x1024 .f32) (w : Vec Ideal S1024x1024 .bf16) (x1 : Vec Ideal S512x256 .f32) (x2 : Vec Ideal S512x512 .f32)
      (x3 : Vec Ideal S512x256 .f32), k0_pay27 (k0_pay5 ct w) (k0_pay11 ct w x1) (k0_pay18 (k0_pay5 ct w) x2) x3 (k0_pay20 x3) k0_pay21 acc (ix2 0 k)
      = acc (ix2 0 k) + if h : k.val < 256 then ∑ r : Fin 512, (∑ z : Fin 1024, ct (ix2 r z) * w (ix2 k z))
            * (x1 (ix2 r ⟨k.val, h⟩) * Rms.rinv w256 weps fun j : Fin 256 => x1 (ix2 r j))
          else if h' : k.val - 256 < 512 then ∑ r : Fin 512, (∑ z : Fin 1024, ct (ix2 r z) * w (ix2 ⟨256 + (k.val - 256), by omega⟩ z))
            * (x2 (ix2 r ⟨k.val - 256, h'⟩) * Rms.rinv w512 weps fun j : Fin 512 => x2 (ix2 r j))
          else ∑ r : Fin 512, (∑ z : Fin 1024, ct (ix2 r z) * w (ix2 ⟨768 + (k.val - 256 - 512), by omega⟩ z))
            * (x3 (ix2 r ⟨k.val - 256 - 512, by omega⟩) * Rms.rinv w256 weps fun j : Fin 256 => x3 (ix2 r j)) := by
    intro ct w x1 x2 x3
    unfold_payloads
    pointwise
    rfl
  rw [h]
  congr 1
  simp only [blk0, blk1, blk2, blk3, blk5]
  unfold dgTerm xhat dY
  split_ifs with h1 h2
  · rfl
  · have e : (⟨256 + (k.val - 256), by omega⟩ : Fin 1024) = k := Fin.ext (by dsimp only; omega)
    simp only [e]
  · have e : (⟨768 + (k.val - 256 - 512), by omega⟩ : Fin 1024) = k := Fin.ext (by dsimp only; omega)
    simp only [e]

/-- One tile's step of the accumulator of the product's weight gradient. -/
def stepDw (c : Dev nD) (t : Fin cfg0.N) (acc : Vec Ideal S1024x1024 .f32) : Vec Ideal S1024x1024 .f32 :=
  k0_pay1 (k0_pay28 (iblk m c 0 t) (k0_pay12 (iblk m c 1 t) (k0_pay6 (iblk m c 1 t))
      (k0_pay7 (View.ld (iblk m c 4 t) (Rect.unit ![0, 0] ![1, 256] inb_S1x1024_S1x256_0_0))))
    (k0_pay19 (iblk m c 2 t) (View.ld (iblk m c 4 t) (Rect.unit ![0, 256] ![1, 512] inb_S1x1024_S1x512_0_256)))
    (iblk m c 3 t) (k0_pay20 (iblk m c 3 t)) k0_pay21
    (View.ld (iblk m c 4 t) (Rect.unit ![0, 768] ![1, 256] inb_S1x1024_S1x256_0_768)) acc)

theorem stepDw_apply (c : Dev nD) (t : Fin cfg0.N) (acc : Vec Ideal S1024x1024 .f32) (i k : Fin 1024) :
    stepDw m c t acc (ix2 i k) = acc (ix2 i k) + dwTerm m c t i k := by
  have h : ∀ (ct : Vec Ideal S512x1024 .f32) (x1 : Vec Ideal S512x256 .f32) (x2 : Vec Ideal S512x512 .f32) (x3 : Vec Ideal S512x256 .f32)
      (g1 : Vec Ideal S1x256 .f32) (g2 : Vec Ideal S1x512 .f32) (g3 : Vec Ideal S1x256 .f32),
      k0_pay1 (k0_pay28 ct (k0_pay12 x1 (k0_pay6 x1) (k0_pay7 g1)) (k0_pay19 x2 g2) x3 (k0_pay20 x3) k0_pay21 g3 acc) (ix2 i k)
      = acc (ix2 i k) + ∑ r : Fin 512, (if h : i.val < 256 then
            (x1 (ix2 r ⟨i.val, h⟩) * Rms.rinv w256 weps fun j : Fin 256 => x1 (ix2 r j)) * g1 (ix2 0 ⟨i.val, h⟩)
          else if h' : i.val - 256 < 512 then
            (x2 (ix2 r ⟨i.val - 256, h'⟩) * Rms.rinv w512 weps fun j : Fin 512 => x2 (ix2 r j)) * g2 (ix2 0 ⟨i.val - 256, h'⟩)
          else (x3 (ix2 r ⟨i.val - 256 - 512, by omega⟩) * Rms.rinv w256 weps fun j : Fin 256 => x3 (ix2 r j))
            * g3 (ix2 0 ⟨i.val - 256 - 512, by omega⟩)) * ct (ix2 r k) := by
    intro ct x1 x2 x3 g1 g2 g3
    unfold_payloads
    pointwise
    rfl
  refine (h _ _ _ _ _ _ _).trans ?_
  congr 1
  unfold dwTerm xhat
  refine Finset.sum_congr rfl fun r _ => ?_
  simp only [blk0, blk1, blk2, blk3]
  congr 1
  split_ifs with h1 h2
  · pointwise
    simp only [blk4]
  · have e : (⟨256 + (i.val - 256), by omega⟩ : Fin 1024) = i := Fin.ext (by dsimp only; omega)
    pointwise
    simp only [blk4, e]
  · have e : (⟨768 + (i.val - 256 - 512), by omega⟩ : Fin 1024) = i := Fin.ext (by dsimp only; omega)
    pointwise
    simp only [blk4, e]

theorem dg_reset (c : Dev nD) (t : Fin cfg0.N) (h0 : t.val % 16 = 0) (k : Fin 1024) :
    (outsAt0 m c t.val t.isLt).2.2.2.2.1 (ix2 0 k) = 0 + dgTerm m c t k := by
  rw [outsAt0_A m c t h0 (by omega)]
  frame_out
  refine (pay27_apply m c t _ k).trans ?_
  congr 1
  pointwise [k0_pay3]

theorem dg_step (c : Dev nD) (t : Fin cfg0.N) (h0 : ¬t.val % 16 = 0) (k : Fin 1024) :
    (outsAt0 m c t.val t.isLt).2.2.2.2.1 (ix2 0 k)
      = (outsAt0 m c (t.val - 1) (Nat.lt_of_le_of_lt (Nat.sub_le _ _) t.isLt)).2.2.2.2.1 (ix2 0 k) + dgTerm m c t k := by
  by_cases h1 : t.val % 16 = 15
  · rw [outsAt0_C m c t h0 h1]
    frame_out
    exact pay27_apply m c t _ k
  · rw [outsAt0_B m c t h0 h1]
    frame_out
    exact pay27_apply m c t _ k

theorem dw_reset (c : Dev nD) (t : Fin cfg0.N) (h0 : t.val % 16 = 0) (i k : Fin 1024) :
    (outsAt0 m c t.val t.isLt).2.2.2.2.2 (ix2 i k) = 0 + dwTerm m c t i k := by
  rw [outsAt0_A m c t h0 (by omega)]
  frame_out
  refine (stepDw_apply m c t _ i k).trans ?_
  congr 1
  pointwise [k0_pay4]

theorem dw_step (c : Dev nD) (t : Fin cfg0.N) (h0 : ¬t.val % 16 = 0) (i k : Fin 1024) :
    (outsAt0 m c t.val t.isLt).2.2.2.2.2 (ix2 i k)
      = (outsAt0 m c (t.val - 1) (Nat.lt_of_le_of_lt (Nat.sub_le _ _) t.isLt)).2.2.2.2.2 (ix2 i k) + dwTerm m c t i k := by
  by_cases h1 : t.val % 16 = 15
  · rw [outsAt0_C m c t h0 h1]
    frame_out
    refine (stepDw_apply m c t _ i k).trans ?_
    simp only [read_unread_whole]
  · rw [outsAt0_B m c t h0 h1]
    frame_out
    refine (stepDw_apply m c t _ i k).trans ?_
    simp only [read_unread_whole]

theorem dg_last (c : Dev nD) (k : Fin 1024) :
    (outsAt0 m c t0_15.val t0_15.isLt).2.2.2.2.1 (ix2 0 k) = 0 + ∑ p : Fin cfg0.N, dgTerm m c p k :=
  Pipeline.eq_sum_fin_of_reset_step_apply_last (N := cfg0.N) (fun n h (k : Fin 1024) => (outsAt0 m c n h).2.2.2.2.1 (ix2 0 k)) 16 (fun _ => 0)
    (dgTerm m c) (fun t h k => dg_reset m c t h k) (fun t h k => dg_step m c t h k) (by decide) t0_15 rfl k

theorem dw_last (c : Dev nD) (i k : Fin 1024) :
    (outsAt0 m c t0_15.val t0_15.isLt).2.2.2.2.2 (ix2 i k) = 0 + ∑ p : Fin cfg0.N, dwTerm m c p i k :=
  Pipeline.eq_sum_fin_of_reset_step_apply_last (N := cfg0.N) (fun n h (j : Fin 1024 × Fin 1024) => (outsAt0 m c n h).2.2.2.2.2 (ix2 j.1 j.2)) 16
    (fun _ => 0) (fun p j => dwTerm m c p j.1 j.2) (fun t h j => dw_reset m c t h j.1 j.2) (fun t h j => dw_step m c t h j.1 j.2) (by decide)
    t0_15 rfl (i, k)

theorem final10 (c : Dev nD) : (dats m 0 c).arrAt 10 cfg0.N = dgArr m c := by
  refine (dats m 0 c).arrAt_eq_of_after_last 10 t0_15 (by decide +kernel) _ fun j => ?_
  blk_simp
  rw [after0_10]
  obtain ⟨r, k, rfl⟩ : ∃ (r : Fin 1) (k : Fin 1024), j = ix2 r k := ⟨j 0, j 1, eq_ix2 j⟩
  obtain rfl : r = 0 := Subsingleton.elim _ _
  refine (dg_last m c k).trans ?_
  rw [zero_add]
  refine Eq.trans ?_ (sum_tiles 16 512 8192 rfl (fun R => dY m c R k * xhat m c R k)).symm
  rfl

theorem final9 (c : Dev nD) : (dats m 0 c).arrAt 9 cfg0.N = dwArr m c := by
  refine (dats m 0 c).arrAt_eq_of_after_last 9 t0_15 (by decide +kernel) _ fun j => ?_
  blk_simp
  rw [after0_9]
  obtain ⟨i, k, rfl⟩ : ∃ (i : Fin 1024) (k : Fin 1024), j = ix2 i k := ⟨j 0, j 1, eq_ix2 j⟩
  have e : (outsAt0 m c t0_15.val t0_15.isLt).2.2.2.1 (ix2 i k) = (outsAt0 m c t0_15.val t0_15.isLt).2.2.2.2.2 (ix2 i k) := by
    rw [outsAt0_C m c t0_15 (by decide) (by decide)]
    frame_out
    pointwise [k0_pay2]
  refine e.trans ((dw_last m c i k).trans ?_)
  rw [zero_add]
  refine Eq.trans ?_ (sum_tiles 16 512 8192 rfl (fun R => xhat m c R i * G m c (ix1 i) * Ct m c (ix2 R k))).symm
  rfl

/-- The run: the five gradients, the arguments unchanged. -/
theorem run : θ_run defs (onTc (τ := τ) (main (F := Ideal))) ⟨m, fun _ => 0, ρ⟩ fun r => ∀ c : Dev nD,
      r.2.mem ((c : Thread nD τ).loc main_v2_0) = daArr m c
      ∧ r.2.mem ((c : Thread nD τ).loc main_v2_1) = dbArr m c
      ∧ r.2.mem ((c : Thread nD τ).loc main_v2_2) = dcArr m c
      ∧ r.2.mem ((c : Thread nD τ).loc main_v2_3) = dwArr m c
      ∧ r.2.mem ((c : Thread nD τ).loc main_v2_4) = dgArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
      (h c).2.2.2.1.trans (final9 m c), (h c).2.2.2.2.1.trans (final10 m c), (h c).2.2.2.2.2⟩)
    (Value.run_blocks m ρ)

end Cert.MergeIdeal.Hand

end
-- ==== Proof.Merge.lean ====
module

public import proofs.«01_k».proof.Defs
public import proofs.«01_k».proof.Proof.Gen.Merge.Frame
public import proofs.«01_k».proof.Proof.Gen.MergeRefIdeal.Run
public import proofs.«01_k».proof.Proof.MergeKernel

@[expose] public section

set_option maxRecDepth 16384

noncomputable section

open Idealize.ShloMosaic Idealize.ShloMosaic.TcCoe Idealize.SL.Sem

namespace Cert.Proof.Merge

open Cert.MergeRefIdeal Cert.MergeRefIdeal.Gen Cert.MergeRefIdeal.Value Cert.Reals Cert.Rms

/-- The side conditions of the precondition's function. -/
instance pre_facts : Cert.Pre_merge_finite.Facts := by constructor <;> decide

variable (m : (ℓ : Loc Cert.MergeIdeal.nD Cert.MergeIdeal.τ Cert.MergeIdeal.sig) → Buf (Elt Ideal) ℓ)
  (m' : (ℓ : Loc nD τ sig) → Buf (Elt Ideal) ℓ)

/-- The arguments of the precondition are numbers. -/
structure Real (c : Dev nD) : Prop where
  ya : ∀ r k, IsReal (MergeIdeal.Hand.Ya m c (ix2 r k))
  yb : ∀ r k, IsReal (MergeIdeal.Hand.Yb m c (ix2 r k))
  yc : ∀ r k, IsReal (MergeIdeal.Hand.Yc m c (ix2 r k))
  g : ∀ k, IsReal (MergeIdeal.Hand.G m c (ix1 k))
  w : ∀ r k, IsReal (MergeIdeal.Hand.W m c (ix2 r k))
  ct : ∀ r k, IsReal (MergeIdeal.Hand.Ct m c (ix2 r k))

theorem real_of_pre (h : Cert.Pre_MergeIdeal_merge_finite m) (c : Dev nD) : Real m c := by
  obtain ⟨h0, h1, h2, h3, h4, h5⟩ := h c
  dsimp only [Cert.Pre_merge_finite.fn] at h0 h1 h2 h3 h4 h5
  refine ⟨fun r k => ?_, fun r k => ?_, fun r k => ?_, fun k => ?_, fun r k => ?_, fun r k => ?_⟩
  · have := congrFun h0 (ix2 r k); revert this; pointwise; exact real_of_word
  · have := congrFun h1 (ix2 r k); revert this; pointwise; exact real_of_word
  · have := congrFun h2 (ix2 r k); revert this; pointwise; exact real_of_word
  · have := congrFun h3 (ix1 k); revert this; pointwise; exact real_of_word
  · have := congrFun h4 (ix2 r k); revert this; pointwise; exact real_of_word
  · have := congrFun h5 (ix2 r k); revert this; pointwise; exact real_of_word

theorem frame : Cert.quiescent_Merge := fun m ρ _ => Cert.Merge.Gen.frame m ρ
theorem frame_ideal : Cert.quiescent_MergeIdeal := fun m ρ _ => Cert.MergeIdeal.Gen.frame m ρ
theorem frame_ideal_pre : Cert.quiescent_MergeIdeal_pre_merge_finite := fun m ρ _ => Cert.MergeIdeal.Gen.frame m ρ
theorem frame_ref : Cert.quiescent_MergeRefIdeal := fun m ρ _ =>
  (θ_run Cert.MergeRefIdeal.defs _ _).mono (fun r h => ⟨fun c => (h c).2.2.2.2.2,
      Idealize.ShloMosaic.sem_eq_zero_of_no_sems (by decide) r.2⟩)
    (Cert.MergeRefIdeal.Value.run (F := Ideal) m ρ)
theorem frame_ref_pre : Cert.quiescent_MergeRefIdeal_pre_merge_finite := fun m ρ _ => frame_ref m ρ trivial

theorem xhat_a (c : Dev nD) (R : Fin 8192) (k : Fin 1024) (h : k.val < 256) : MergeIdeal.Hand.xhat m c R k
    = MergeIdeal.Hand.Ya m c (ix2 R ⟨k.val, h⟩) * rinv MergeIdeal.Hand.w256 MergeIdeal.Hand.weps fun j : Fin 256 => MergeIdeal.Hand.Ya m c (ix2 R j) :=
  dif_pos h

theorem xhat_b (c : Dev nD) (R : Fin 8192) (k : Fin 1024) (h : ¬k.val < 256) (h' : k.val - 256 < 512) : MergeIdeal.Hand.xhat m c R k
    = MergeIdeal.Hand.Yb m c (ix2 R ⟨k.val - 256, h'⟩) * rinv MergeIdeal.Hand.w512 MergeIdeal.Hand.weps fun j : Fin 512 => MergeIdeal.Hand.Yb m c (ix2 R j) :=
  (dif_neg h).trans (dif_pos h')

theorem xhat_c (c : Dev nD) (R : Fin 8192) (k : Fin 1024) (h : ¬k.val < 256) (h' : ¬k.val - 256 < 512) : MergeIdeal.Hand.xhat m c R k
    = MergeIdeal.Hand.Yc m c (ix2 R ⟨k.val - 256 - 512, by omega⟩)
      * rinv MergeIdeal.Hand.w256 MergeIdeal.Hand.weps fun j : Fin 256 => MergeIdeal.Hand.Yc m c (ix2 R j) :=
  (dif_neg h).trans (dif_neg h')

set_option maxHeartbeats 1000000 in
theorem algebraic : Cert.algebraic_MergeIdeal_MergeRefIdeal_pre_merge_finite := by
  intro m g m' g' hp h
  refine ⟨fun c => MergeIdeal.Hand.daArr m c, fun c => MergeIdeal.Hand.dbArr m c, fun c => MergeIdeal.Hand.dcArr m c,
    fun c => MergeIdeal.Hand.dwArr m c, fun c => MergeIdeal.Hand.dgArr m c, MergeIdeal.Hand.run m g, ?_⟩
  refine (θ_run Cert.MergeRefIdeal.defs _ _).mono (fun r hr c => ?_) (Cert.MergeRefIdeal.Value.run (F := Ideal) m' g')
  obtain ⟨h1, h2, h3, h4, h5, h6⟩ := hr c
  obtain ⟨e0, e1, e2, e3, e4, e5⟩ := h c
  have hR := real_of_pre m hp c
  have hU : ∀ r j j', IsReal (MergeIdeal.Hand.dY m c r j * MergeIdeal.Hand.G m c (ix1 j')) := fun r j j' =>
    (IsReal.sum _ fun x => (hR.ct r x).mul (hR.w j x)).mul (hR.g j')
  refine ⟨h1.trans ?_, h2.trans ?_, h3.trans ?_, h4.trans ?_, h5.trans ?_, h6⟩
  · funext i
    obtain ⟨r, k, rfl⟩ : ∃ (r : Fin 8192) (k : Fin 256), i = ix2 r k := ⟨i 0, i 1, eq_ix2 i⟩
    pointwise [res_main_v121]
    simp only [e0, e1, e2, e3, e4, e5, Fin.sum_univ_one]
    exact (dx_eq_256 (x := fun j : Fin 256 => MergeIdeal.Hand.Ya m c (ix2 r j))
      (u := fun j : Fin 256 => MergeIdeal.Hand.dY m c r ⟨j.val, by omega⟩ * MergeIdeal.Hand.G m c (ix1 ⟨j.val, by omega⟩))
      (fun j => hR.ya r j) (fun j => hU r _ _) k).symm
  · funext i
    obtain ⟨r, k, rfl⟩ : ∃ (r : Fin 8192) (k : Fin 512), i = ix2 r k := ⟨i 0, i 1, eq_ix2 i⟩
    pointwise [res_main_v99]
    simp only [e0, e1, e2, e3, e4, e5, Fin.sum_univ_one]
    exact (dx_eq_512 (x := fun j : Fin 512 => MergeIdeal.Hand.Yb m c (ix2 r j))
      (u := fun j : Fin 512 => MergeIdeal.Hand.dY m c r ⟨256 + j.val, by omega⟩ * MergeIdeal.Hand.G m c (ix1 ⟨256 + j.val, by omega⟩))
      (fun j => hR.yb r j) (fun j => hU r _ _) k).symm
  · funext i
    obtain ⟨r, k, rfl⟩ : ∃ (r : Fin 8192) (k : Fin 256), i = ix2 r k := ⟨i 0, i 1, eq_ix2 i⟩
    pointwise [res_main_v78]
    simp only [e0, e1, e2, e3, e4, e5, Fin.sum_univ_one]
    exact (dx_eq_256 (x := fun j : Fin 256 => MergeIdeal.Hand.Yc m c (ix2 r j))
      (u := fun j : Fin 256 => MergeIdeal.Hand.dY m c r ⟨768 + j.val, by omega⟩ * MergeIdeal.Hand.G m c (ix1 ⟨768 + j.val, by omega⟩))
      (fun j => hR.yc r j) (fun j => hU r _ _) k).symm
  · funext i
    obtain ⟨r, k, rfl⟩ : ∃ (r : Fin 1024) (k : Fin 1024), i = ix2 r k := ⟨i 0, i 1, eq_ix2 i⟩
    pointwise
    simp only [e0, e1, e2, e3, e4, e5, Fin.sum_univ_one]
    refine Finset.sum_congr rfl fun x _ => ?_
    rw [mul_comm]
    show _ = MergeIdeal.Hand.xhat m c x r * MergeIdeal.Hand.G m c (ix1 r) * _
    refine congrArg (· * _) ?_
    by_cases q1 : r.val < 256
    · exact (dif_pos q1).trans (congrArg (· * _) (xhat_a m c x r q1).symm)
    · refine (dif_neg q1).trans ?_
      by_cases q2 : r.val - 256 < 512
      · have e : (⟨256 + (r.val - 256), by omega⟩ : Fin 1024) = r := Fin.ext (by dsimp only; omega)
        rw [xhat_b m c x r q1 q2, ← congrArg (fun z => MergeIdeal.Hand.G m c (ix1 z)) e]
        exact dif_pos q2
      · have e : (⟨768 + (r.val - 256 - 512), by omega⟩ : Fin 1024) = r := Fin.ext (by dsimp only; omega)
        rw [xhat_c m c x r q1 q2, ← congrArg (fun z => MergeIdeal.Hand.G m c (ix1 z)) e]
        exact dif_neg q2
  · funext i
    obtain ⟨r, k, rfl⟩ : ∃ (r : Fin 1) (k : Fin 1024), i = ix2 r k := ⟨i 0, i 1, eq_ix2 i⟩
    pointwise
    simp only [e0, e1, e2, e3, e4, e5, Fin.sum_univ_one]
    show _ = ∑ x : Fin 8192, MergeIdeal.Hand.dY m c x k * MergeIdeal.Hand.xhat m c x k
    have hk := k.isLt
    by_cases q1 : k.val < 256
    · rw [dif_neg (by omega), dif_neg (by omega), dif_pos q1, zero_add, zero_add]
      refine Finset.sum_congr rfl fun x _ => ?_
      rw [mul_comm, xhat_a m c x k q1]
      rfl
    · by_cases q2 : k.val - 256 < 512
      · rw [dif_neg (by omega), dif_pos ⟨by omega, q2⟩, dif_neg q1, zero_add, add_zero]
        refine Finset.sum_congr rfl fun x _ => ?_
        have e : (⟨256 + (k.val - 256), by omega⟩ : Fin 1024) = k := Fin.ext (by dsimp only; omega)
        rw [mul_comm, e, xhat_b m c x k q1 q2]
        rfl
      · rw [dif_pos ⟨by omega, by omega⟩, dif_neg (by omega), dif_neg q1, add_zero, add_zero]
        refine Finset.sum_congr rfl fun x _ => ?_
        have e : (⟨768 + (k.val - 768), by omega⟩ : Fin 1024) = k := Fin.ext (by dsimp only; omega)
        have e' : (⟨k.val - 256 - 512, by omega⟩ : Fin 256) = ⟨k.val - 768, by omega⟩ := Fin.ext (by dsimp only; omega)
        rw [mul_comm, e, xhat_c m c x k q1 q2, e']
        rfl

end Cert.Proof.Merge

end
-- ==== Proof.InprojKernel.lean ====
module

public import proofs.«01_k».proof.Proof.Gen.InprojIdeal.Value
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.InprojIdeal.Hand

open Cert.InprojIdeal Cert.InprojIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The argument arrays. -/
abbrev H (c : Dev nD) : Vec Ideal S8192x1024 .f32 := m ((c : Thread nD τ).loc main_arg0)
abbrev G (c : Dev nD) : Vec Ideal S1024 .f32 := m ((c : Thread nD τ).loc main_arg1)
abbrev W (c : Dev nD) : Vec Ideal S1024x1536 .f32 := m ((c : Thread nD τ).loc main_arg2)
abbrev Res (c : Dev nD) : Vec Ideal S8192x1024 .f32 := m ((c : Thread nD τ).loc main_arg3)
abbrev Za (c : Dev nD) : Vec Ideal S8192x512 .f32 := m ((c : Thread nD τ).loc main_arg4)
abbrev Zq (c : Dev nD) : Vec Ideal S8192x512 .f32 := m ((c : Thread nD τ).loc main_arg5)
abbrev Zk (c : Dev nD) : Vec Ideal S8192x128 .f32 := m ((c : Thread nD τ).loc main_arg6)
abbrev Zv (c : Dev nD) : Vec Ideal S8192x128 .f32 := m ((c : Thread nD τ).loc main_arg7)
abbrev Zc (c : Dev nD) : Vec Ideal S8192x256 .f32 := m ((c : Thread nD τ).loc main_arg8)

/-- Five rows side by side. -/
def side (a b : Fin 512 → EReal) (k v : Fin 128 → EReal) (z : Fin 256 → EReal) (x : Fin 1536) : EReal :=
  if h : x.val < 512 then a ⟨x.val, h⟩
  else if h1 : x.val - 512 < 512 then b ⟨x.val - 512, h1⟩
  else if h2 : x.val - 512 - 512 < 128 then k ⟨x.val - 512 - 512, h2⟩
  else if h3 : x.val - 512 - 512 - 128 < 128 then v ⟨x.val - 512 - 512 - 128, h3⟩
  else z ⟨x.val - 512 - 512 - 128 - 128, by omega⟩

/-- The cotangent of the product's output. -/
def dz (c : Dev nD) (r : Fin 8192) : Fin 1536 → EReal :=
  side (fun j => Za m c (ix2 r j)) (fun j => Zq m c (ix2 r j)) (fun j => Zk m c (ix2 r j)) (fun j => Zv m c (ix2 r j)) fun j => Zc m c (ix2 r j)

/-- The cotangent of the norm's output. -/
def dxn (c : Dev nD) (r : Fin 8192) (j : Fin 1024) : EReal := ∑ x : Fin 1536, dz m c r x * W m c (ix2 j x)

abbrev w1024 : EReal := Ideal.ofBits .f32 0x44800000#32
abbrev weps : EReal := Ideal.ofBits .f32 0x358637BD#32

/-- A row divided by its root mean square. -/
def xhat (c : Dev nD) (r : Fin 8192) (k : Fin 1024) : EReal := H m c (ix2 r k) * Rms.rinv w1024 weps fun j : Fin 1024 => H m c (ix2 r j)

/-- The gradient of the residual stream. -/
def dhArr (c : Dev nD) : Vec Ideal S8192x1024 .f32 := fun i => Res m c i
  + Rms.dx w1024 weps (fun j : Fin 1024 => H m c (ix2 (i 0) j)) (fun j : Fin 1024 => dxn m c (i 0) j * G m c (ix1 j)) (i 1)

/-- A column of the weight, from its shard and its place there. -/
def col (d : Fin 8) (k : Fin 192) : Fin 1536 := ⟨192 * d.val + k.val, by omega⟩

/-- The gradient of the product's weight, cut into eight shards of columns. -/
def dwArr (c : Dev nD) : Vec Ideal S8x1024x192 .bf16 := fun i => ∑ R : Fin 8192, xhat m c R (i 1) * G m c (ix1 (i 1)) * dz m c R (col (i 0) (i 2))

/-- The gradient of the norm's weight. -/
def dgArr (c : Dev nD) : Vec Ideal S1x1024 .f32 := fun i => ∑ R : Fin 8192, dxn m c R (i 1) * xhat m c R (i 1)

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = Res m c (ix2 (row t.val (lt16 t) r) k) := by
  unfold row; blk_ext [iblk, V_main_arg3, idx t]

theorem blk1 (c : Dev nD) (t : Fin cfg0.N) (r : Fin 512) (k : Fin 1024) :
    (iblk m c 1 t : Vec Ideal S512x1024 .f32) (ix2 r k) = H m c (ix2 (row t.val (lt16 t) r) k) := by
  unfold row; blk_ext [iblk, V_main_arg0, idx t]

theorem blk2 (c : Dev nD) (t : Fin cfg0.N) (k : Fin 1024) :
    (iblk m c 2 t : Vec Ideal S1x1024 .f32) (ix2 0 k) = G m c (ix1 k) := by
  have e : ((cfg0.win 2).blk t).view.emb (ix2 0 k) = ix2 0 k := by blk_ext [idx t]
  unfold iblk
  rw [View.read_apply]
  refine (congrArg (V m c main_v0) e).trans ?_
  unfold V
  entry_read
  pointwise

theorem blk3 (c : Dev nD) (t : Fin cfg0.N) (r : Fin 1024) (k : Fin 1536) :
    (iblk m c 3 t : Vec Ideal S1024x1536 .bf16) (ix2 r k) = W m c (ix2 r k) := by
  blk_ext [iblk, V, idx t]

theorem blk4 (c : Dev nD) (t : Fin cfg0.N) (r : Fin 512) (k : Fin 512) :
    (iblk m c 4 t : Vec Ideal S512x512 .f32) (ix2 r k) = Za m c (ix2 (row t.val (lt16 t) r) k) := by
  unfold row; blk_ext [iblk, V_main_arg4, idx t]

theorem blk5 (c : Dev nD) (t : Fin cfg0.N) (r : Fin 512) (k : Fin 512) :
    (iblk m c 5 t : Vec Ideal S512x512 .f32) (ix2 r k) = Zq m c (ix2 (row t.val (lt16 t) r) k) := by
  unfold row; blk_ext [iblk, V_main_arg5, idx t]

theorem blk6 (c : Dev nD) (t : Fin cfg0.N) (r : Fin 512) (k : Fin 128) :
    (iblk m c 6 t : Vec Ideal S512x128 .f32) (ix2 r k) = Zk m c (ix2 (row t.val (lt16 t) r) k) := by
  unfold row; blk_ext [iblk, V_main_arg6, idx t]

theorem blk7 (c : Dev nD) (t : Fin cfg0.N) (r : Fin 512) (k : Fin 128) :
    (iblk m c 7 t : Vec Ideal S512x128 .f32) (ix2 r k) = Zv m c (ix2 (row t.val (lt16 t) r) k) := by
  unfold row; blk_ext [iblk, V_main_arg7, idx t]

theorem blk8 (c : Dev nD) (t : Fin cfg0.N) (r : Fin 512) (k : Fin 256) :
    (iblk m c 8 t : Vec Ideal S512x256 .f32) (ix2 r k) = Zc m c (ix2 (row t.val (lt16 t) r) k) := by
  unfold row; blk_ext [iblk, V_main_arg8, idx t]

/-! What one point computes, from its blocks. -/

section
variable (h : Vec Ideal S512x1024 .f32) (g : Vec Ideal S1x1024 .f32) (a b : Vec Ideal S512x512 .f32) (kk v : Vec Ideal S512x128 .f32)
  (z : Vec Ideal S512x256 .f32) (w : Vec Ideal S1024x1536 .bf16)

theorem pay17_apply (r : Fin 512) (x : Fin 1536) : k0_pay17 a b kk v z (ix2 r x)
    = side (fun j => a (ix2 r j)) (fun j => b (ix2 r j)) (fun j => kk (ix2 r j)) (fun j => v (ix2 r j)) (fun j => z (ix2 r j)) x := by
  unfold_payloads
  pointwise
  rfl

theorem pay18_apply (r : Fin 512) (k : Fin 1024) : k0_pay18 a b kk v z w (ix2 r k)
    = ∑ x : Fin 1536, k0_pay17 a b kk v z (ix2 r x) * w (ix2 k x) := by
  unfold k0_pay18
  pointwise

theorem pay19_apply (r : Fin 512) (k : Fin 1024) :
    k0_pay19 h (ix2 r k) = h (ix2 r k) * Rms.rinv w1024 weps fun j : Fin 1024 => h (ix2 r j) := by
  unfold_payloads
  pointwise
  rfl

theorem pay1_apply (d : Vec Ideal S512x1024 .f32) (gr : Vec Ideal S512x1024 .f32) (hd : k0_pay18 a b kk v z w = d) (r : Fin 512) (k : Fin 1024) :
    k0_pay1 (k0_pay15 h) (k0_pay19 h) (k0_pay20 g a b kk v z w) (k0_pay21 h g a b kk v z w) gr (ix2 r k)
      = gr (ix2 r k) + Rms.dx w1024 weps (fun j : Fin 1024 => h (ix2 r j)) (fun j : Fin 1024 => d (ix2 r j) * g (ix2 0 j)) k := by
  unfold k0_pay1 k0_pay21 k0_pay20 k0_pay19 k0_pay16 k0_pay15
  rw [hd]
  pointwise
  rfl

theorem pay2_apply (d e acc) (k : Fin 1024) : k0_pay2 (F := Ideal) d e acc (ix2 0 k) = acc (ix2 0 k) + ∑ r : Fin 512, d (ix2 r k) * e (ix2 r k) := by
  unfold_payloads
  pointwise

theorem pay3_apply (d : Vec Ideal S512x1536 .f32) (acc : Vec Ideal S1024x1536 .f32) (i : Fin 1024) (x : Fin 1536) :
    k0_pay3 h (k0_pay15 h) (k0_pay16 g) d acc (ix2 i x)
      = acc (ix2 i x) + ∑ r : Fin 512, (h (ix2 r i) * Rms.rinv w1024 weps fun j : Fin 1024 => h (ix2 r j)) * g (ix2 0 i) * d (ix2 r x) := by
  unfold_payloads
  pointwise
  rfl
end

/-- The cotangent's block of a tile. -/
theorem dz_apply (c : Dev nD) (t : Fin cfg0.N) (r : Fin 512) (x : Fin 1536) :
    k0_pay17 (iblk m c 4 t) (iblk m c 5 t) (iblk m c 6 t) (iblk m c 7 t) (iblk m c 8 t) (ix2 r x) = dz m c (row t.val (lt16 t) r) x := by
  refine (pay17_apply _ _ _ _ _ r x).trans ?_
  simp only [blk4, blk5, blk6, blk7, blk8]
  rfl

theorem dxn_apply (c : Dev nD) (t : Fin cfg0.N) (r : Fin 512) (k : Fin 1024) :
    k0_pay18 (iblk m c 4 t) (iblk m c 5 t) (iblk m c 6 t) (iblk m c 7 t) (iblk m c 8 t) (iblk m c 3 t) (ix2 r k) = dxn m c (row t.val (lt16 t) r) k := by
  refine (pay18_apply _ _ _ _ _ _ r k).trans ?_
  simp only [blk3, dz_apply]
  rfl

theorem final9 (c : Dev nD) : (dats m 0 c).arrAt 9 cfg0.N = dhArr m c := by
  refine (dats m 0 c).arrAt_eq_of_covers 9 _ (by decide +kernel) fun t hf y => ?_
  blk_simp
  rw [after0_9]
  have hN := lt16 t
  have e : (outsAt0 m c t.val t.isLt).1 = k0_pay1 (k0_pay15 (iblk m c 1 t)) (k0_pay19 (iblk m c 1 t))
      (k0_pay20 (iblk m c 2 t) (iblk m c 4 t) (iblk m c 5 t) (iblk m c 6 t) (iblk m c 7 t) (iblk m c 8 t) (iblk m c 3 t))
      (k0_pay21 (iblk m c 1 t) (iblk m c 2 t) (iblk m c 4 t) (iblk m c 5 t) (iblk m c 6 t) (iblk m c 7 t) (iblk m c 8 t) (iblk m c 3 t)) (iblk m c 0 t) := by
    by_cases h0 : t.val % 16 = 0 <;> by_cases h1 : t.val % 16 = 15
    · omega
    · rw [outsAt0_A m c t h0 h1]; frame_out
    · rw [outsAt0_C m c t h0 h1]; frame_out
    · rw [outsAt0_B m c t h0 h1]; frame_out
  rw [e]
  obtain ⟨r, k, rfl⟩ : ∃ (r : Fin 512) (k : Fin 1024), y = ix2 r k := ⟨y 0, y 1, eq_ix2 y⟩
  have ey : ((View.whole main_v2_0).slice (win0_9.rect t)).emb (ix2 r k) = ix2 (row t.val (lt16 t) r) k := by
    unfold row; blk_ext [idx t]
  rw [ey]
  refine (pay1_apply _ _ _ _ _ _ _ _ _ _ rfl r k).trans ?_
  simp only [dxn_apply, blk0, blk1, blk2, dhArr]
  rfl

/-- One tile's part of the norm's weight gradient. -/
def dgTerm (c : Dev nD) (t : Fin cfg0.N) (k : Fin 1024) : EReal :=
  ∑ r : Fin 512, dxn m c (row t.val (lt16 t) r) k * xhat m c (row t.val (lt16 t) r) k

/-- One tile's part of the product's weight gradient. -/
def dwTerm (c : Dev nD) (t : Fin cfg0.N) (i : Fin 1024) (x : Fin 1536) : EReal :=
  ∑ r : Fin 512, xhat m c (row t.val (lt16 t) r) i * G m c (ix1 i) * dz m c (row t.val (lt16 t) r) x

theorem stepDg_apply (c : Dev nD) (t : Fin cfg0.N) (acc : Vec Ideal S1x1024 .f32) (k : Fin 1024) :
    k0_pay2 (k0_pay18 (iblk m c 4 t) (iblk m c 5 t) (iblk m c 6 t) (iblk m c 7 t) (iblk m c 8 t) (iblk m c 3 t)) (k0_pay19 (iblk m c 1 t)) acc (ix2 0 k)
      = acc (ix2 0 k) + dgTerm m c t k := by
  refine (pay2_apply _ _ _ k).trans ?_
  simp only [dxn_apply, pay19_apply, blk1]
  rfl

theorem stepDw_apply (c : Dev nD) (t : Fin cfg0.N) (acc : Vec Ideal S1024x1536 .f32) (i : Fin 1024) (x : Fin 1536) :
    k0_pay3 (iblk m c 1 t) (k0_pay15 (iblk m c 1 t)) (k0_pay16 (iblk m c 2 t))
      (k0_pay17 (iblk m c 4 t) (iblk m c 5 t) (iblk m c 6 t) (iblk m c 7 t) (iblk m c 8 t)) acc (ix2 i x) = acc (ix2 i x) + dwTerm m c t i x := by
  refine (pay3_apply _ _ _ _ i x).trans ?_
  simp only [dz_apply, blk1, blk2]
  rfl

theorem dg_reset (c : Dev nD) (t : Fin cfg0.N) (h0 : t.val % 16 = 0) (k : Fin 1024) :
    (outsAt0 m c t.val t.isLt).2.2.1 (ix2 0 k) = 0 + dgTerm m c t k := by
  rw [outsAt0_A m c t h0 (by omega)]
  frame_out
  refine (stepDg_apply m c t _ k).trans ?_
  congr 1
  pointwise [k0_pay13]

theorem dg_step (c : Dev nD) (t : Fin cfg0.N) (h0 : ¬t.val % 16 = 0) (k : Fin 1024) :
    (outsAt0 m c t.val t.isLt).2.2.1 (ix2 0 k)
      = (outsAt0 m c (t.val - 1) (Nat.lt_of_le_of_lt (Nat.sub_le _ _) t.isLt)).2.2.1 (ix2 0 k) + dgTerm m c t k := by
  by_cases h1 : t.val % 16 = 15
  · rw [outsAt0_C m c t h0 h1]
    frame_out
    exact stepDg_apply m c t _ k
  · rw [outsAt0_B m c t h0 h1]
    frame_out
    exact stepDg_apply m c t _ k

theorem dw_reset (c : Dev nD) (t : Fin cfg0.N) (h0 : t.val % 16 = 0) (i : Fin 1024) (k : Fin 1536) :
    (outsAt0 m c t.val t.isLt).2.2.2 (ix2 i k) = 0 + dwTerm m c t i k := by
  rw [outsAt0_A m c t h0 (by omega)]
  frame_out
  refine (stepDw_apply m c t _ i k).trans ?_
  congr 1
  pointwise [k0_pay14]

theorem dw_step (c : Dev nD) (t : Fin cfg0.N) (h0 : ¬t.val % 16 = 0) (i : Fin 1024) (k : Fin 1536) :
    (outsAt0 m c t.val t.isLt).2.2.2 (ix2 i k)
      = (outsAt0 m c (t.val - 1) (Nat.lt_of_le_of_lt (Nat.sub_le _ _) t.isLt)).2.2.2 (ix2 i k) + dwTerm m c t i k := by
  by_cases h1 : t.val % 16 = 15
  · rw [outsAt0_C m c t h0 h1]
    frame_out
    refine (stepDw_apply m c t _ i k).trans ?_
    simp only [read_unread_whole]
  · rw [outsAt0_B m c t h0 h1]
    frame_out
    refine (stepDw_apply m c t _ i k).trans ?_
    simp only [read_unread_whole]

theorem dg_last (c : Dev nD) (k : Fin 1024) :
    (outsAt0 m c t0_15.val t0_15.isLt).2.2.1 (ix2 0 k) = 0 + ∑ p : Fin cfg0.N, dgTerm m c p k :=
  Pipeline.eq_sum_fin_of_reset_step_apply_last (N := cfg0.N) (fun n h (k : Fin 1024) => (outsAt0 m c n h).2.2.1 (ix2 0 k)) 16 (fun _ => 0)
    (dgTerm m c) (fun t h k => dg_reset m c t h k) (fun t h k => dg_step m c t h k) (by decide) t0_15 rfl k

theorem dw_last (c : Dev nD) (i : Fin 1024) (k : Fin 1536) :
    (outsAt0 m c t0_15.val t0_15.isLt).2.2.2 (ix2 i k) = 0 + ∑ p : Fin cfg0.N, dwTerm m c p i k :=
  Pipeline.eq_sum_fin_of_reset_step_apply_last (N := cfg0.N) (fun n h (j : Fin 1024 × Fin 1536) => (outsAt0 m c n h).2.2.2 (ix2 j.1 j.2)) 16
    (fun _ => 0) (fun p j => dwTerm m c p j.1 j.2) (fun t h j => dw_reset m c t h j.1 j.2) (fun t h j => dw_step m c t h j.1 j.2) (by decide)
    t0_15 rfl (i, k)

theorem final11 (c : Dev nD) : (dats m 0 c).arrAt 11 cfg0.N = dgArr m c := by
  refine (dats m 0 c).arrAt_eq_of_after_last 11 t0_15 (by decide +kernel) _ fun j => ?_
  blk_simp
  rw [after0_11]
  obtain ⟨r, k, rfl⟩ : ∃ (r : Fin 1) (k : Fin 1024), j = ix2 r k := ⟨j 0, j 1, eq_ix2 j⟩
  obtain rfl : r = 0 := Subsingleton.elim _ _
  refine (dg_last m c k).trans ?_
  rw [zero_add]
  refine Eq.trans ?_ (sum_tiles 16 512 8192 rfl (fun R => dxn m c R k * xhat m c R k)).symm
  rfl

/-- A shard's columns of the accumulator, loaded after its last store. -/
theorem acc_load (X : Vec Ideal S1024x1536 .f32) (i b : Fin 1024) (x : Fin 1536) (k : Fin 192) (o : ℕ)
    (inb : ∀ q, (![0, o] : Fin 2 → ℕ) q + S1024x192.size q ≤ S1024x1536.size q) (h1 : i.val = b.val) (h2 : x.val = o + k.val) :
    (View.whole cc0_scratch0).readCov (Val := Elt Ideal) [⟨Rect.unit ![0, 0] ![1024, 1536] inb_S1024x1536_S1024x1536_0_0, X⟩]
      (Rect.unit (s := S1024x1536) ![0, o] S1024x192.size inb).toLoadRect (ix2 b k : S1024x192.Idx) = X (ix2 i x) := by
  refine (congrFun (View.readCov_eq_canon' _ _ _) _).trans
    ((congrFun (View.canon_cons_unit_lit' (S := S1024x1536) inb_S1024x1536_S1024x1536_0_0 X [] (by decide)) _).trans ?_)
  refine congrArg X (funext fun q => Fin.ext ?_)
  refine (Rect.idx_unit_val _ _ _ (ix2 b k) q).trans ?_
  fin_cases q
  · show 0 + b.val = i.val
    omega
  · exact h2.symm

set_option maxHeartbeats 1000000 in
theorem shard_last (c : Dev nD) (d : Fin 8) (i : Fin 1024) (k : Fin 192) :
    (outsAt0 m c t0_15.val t0_15.isLt).2.1 (ix3 d i k) = (outsAt0 m c t0_15.val t0_15.isLt).2.2.2 (ix2 i (col d k)) := by
  rw [outsAt0_C m c t0_15 (by decide) (by decide)]
  frame_out
  generalize k0_pay3 (iblk m c 1 t0_15) _ _ _ _ = X
  canon_tiles x hx
  all_goals
    obtain ⟨a, b, k', rfl⟩ : ∃ (a : Fin 1) (b : Fin 1024) (k' : Fin 192), x = ix3 a b k' := ⟨x 0, x 1, x 2, eq_ix3 x⟩
    unfold_payloads
    pointwise
  all_goals
    change d.val = _ at hx0
    have q2 : k.val = k'.val := hx2
    exact acc_load X i b (col d k) k' _ _ hx1 (by show 192 * d.val + k.val = _; omega)

theorem final10 (c : Dev nD) : (dats m 0 c).arrAt 10 cfg0.N = dwArr m c := by
  refine (dats m 0 c).arrAt_eq_of_after_last 10 t0_15 (by decide +kernel) _ fun j => ?_
  blk_simp
  rw [after0_10]
  obtain ⟨d, i, k, rfl⟩ : ∃ (d : Fin 8) (i : Fin 1024) (k : Fin 192), j = ix3 d i k := ⟨j 0, j 1, j 2, eq_ix3 j⟩
  refine (shard_last m c d i k).trans ((dw_last m c i _).trans ?_)
  rw [zero_add]
  refine Eq.trans ?_ (sum_tiles 16 512 8192 rfl (fun R => xhat m c R i * G m c (ix1 i) * dz m c R (col d k))).symm
  rfl

/-- The run: the three gradients, the arguments unchanged. -/
theorem run : θ_run defs (onTc (τ := τ) (main (F := Ideal))) ⟨m, fun _ => 0, ρ⟩ fun r => ∀ c : Dev nD,
      r.2.mem ((c : Thread nD τ).loc main_v2_0) = dhArr m c
      ∧ r.2.mem ((c : Thread nD τ).loc main_v2_1) = dwArr m c
      ∧ r.2.mem ((c : Thread nD τ).loc main_v2_2) = dgArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2.1.trans (final10 m c), (h c).2.2.1.trans (final11 m c), (h c).2.2.2⟩)
    (Value.run_blocks m ρ)

end Cert.InprojIdeal.Hand

end
-- ==== Proof.Inproj.lean ====
module

public import proofs.«01_k».proof.Defs
public import proofs.«01_k».proof.Proof.Gen.Inproj.Frame
public import proofs.«01_k».proof.Proof.Gen.InprojRefIdeal.Run
public import proofs.«01_k».proof.Proof.InprojKernel

@[expose] public section

set_option maxRecDepth 16384

noncomputable section

open Idealize.ShloMosaic Idealize.ShloMosaic.TcCoe Idealize.SL.Sem

namespace Cert.Proof.Inproj

open Cert.InprojRefIdeal Cert.InprojRefIdeal.Gen Cert.InprojRefIdeal.Value Cert.Reals Cert.Rms
open Cert.InprojIdeal.Hand (H G W Res Za Zq Zk Zv Zc side dz dxn xhat col)

/-- The side conditions of the precondition's function. -/
instance pre_facts : Cert.Pre_inproj_finite.Facts := by constructor <;> decide

variable (m : (ℓ : Loc Cert.InprojIdeal.nD Cert.InprojIdeal.τ Cert.InprojIdeal.sig) → Buf (Elt Ideal) ℓ)
  (m' : (ℓ : Loc nD τ sig) → Buf (Elt Ideal) ℓ)

/-- The arguments of the precondition are numbers. -/
structure Real (c : Dev nD) : Prop where
  h : ∀ r k, IsReal (H m c (ix2 r k))
  g : ∀ k, IsReal (G m c (ix1 k))
  w : ∀ r k, IsReal (W m c (ix2 r k))
  za : ∀ r k, IsReal (Za m c (ix2 r k))
  zq : ∀ r k, IsReal (Zq m c (ix2 r k))
  zk : ∀ r k, IsReal (Zk m c (ix2 r k))
  zv : ∀ r k, IsReal (Zv m c (ix2 r k))
  zc : ∀ r k, IsReal (Zc m c (ix2 r k))

theorem real_of_pre (h : Cert.Pre_InprojIdeal_inproj_finite m) (c : Dev nD) : Real m c := by
  obtain ⟨h0, h1, h2, h3, h4, h5, h6, h7⟩ := h c
  dsimp only [Cert.Pre_inproj_finite.fn] at h0 h1 h2 h3 h4 h5 h6 h7
  refine ⟨fun r k => ?_, fun k => ?_, fun r k => ?_, fun r k => ?_, fun r k => ?_, fun r k => ?_, fun r k => ?_, fun r k => ?_⟩
  · have := congrFun h0 (ix2 r k); revert this; pointwise; exact real_of_word
  · have := congrFun h1 (ix1 k); revert this; pointwise; exact real_of_word
  · have := congrFun h2 (ix2 r k); revert this; pointwise; exact real_of_word
  · have := congrFun h3 (ix2 r k); revert this; pointwise; exact real_of_word
  · have := congrFun h4 (ix2 r k); revert this; pointwise; exact real_of_word
  · have := congrFun h5 (ix2 r k); revert this; pointwise; exact real_of_word
  · have := congrFun h6 (ix2 r k); revert this; pointwise; exact real_of_word
  · have := congrFun h7 (ix2 r k); revert this; pointwise; exact real_of_word

theorem frame : Cert.quiescent_Inproj := fun m ρ _ => Cert.Inproj.Gen.frame m ρ
theorem frame_ideal : Cert.quiescent_InprojIdeal := fun m ρ _ => Cert.InprojIdeal.Gen.frame m ρ
theorem frame_ideal_pre : Cert.quiescent_InprojIdeal_pre_inproj_finite := fun m ρ _ => Cert.InprojIdeal.Gen.frame m ρ
theorem frame_ref : Cert.quiescent_InprojRefIdeal := fun m ρ _ =>
  (θ_run Cert.InprojRefIdeal.defs _ _).mono (fun r h => ⟨fun c => (h c).2.2.2,
      Idealize.ShloMosaic.sem_eq_zero_of_no_sems (by decide) r.2⟩)
    (Cert.InprojRefIdeal.Value.run (F := Ideal) m ρ)
theorem frame_ref_pre : Cert.quiescent_InprojRefIdeal_pre_inproj_finite := fun m ρ _ => frame_ref m ρ trivial

theorem real_side {a b : Fin 512 → EReal} {k v : Fin 128 → EReal} {z : Fin 256 → EReal} (ha : ∀ j, IsReal (a j)) (hb : ∀ j, IsReal (b j))
    (hk : ∀ j, IsReal (k j)) (hv : ∀ j, IsReal (v j)) (hz : ∀ j, IsReal (z j)) (x : Fin 1536) : IsReal (side a b k v z x) := by
  unfold side
  split_ifs
  · exact ha _
  · exact hb _
  · exact hk _
  · exact hv _
  · exact hz _

set_option maxHeartbeats 1000000 in
theorem algebraic : Cert.algebraic_InprojIdeal_InprojRefIdeal_pre_inproj_finite := by
  intro m g m' g' hp h
  refine ⟨fun c => InprojIdeal.Hand.dhArr m c, fun c => InprojIdeal.Hand.dwArr m c, fun c => InprojIdeal.Hand.dgArr m c,
    InprojIdeal.Hand.run m g, ?_⟩
  refine (θ_run Cert.InprojRefIdeal.defs _ _).mono (fun r hr c => ?_) (Cert.InprojRefIdeal.Value.run (F := Ideal) m' g')
  obtain ⟨h1, h2, h3, h4⟩ := hr c
  obtain ⟨e0, e1, e2, e3, e4, e5, e6, e7, e8⟩ := h c
  have hR := real_of_pre m hp c
  have hU : ∀ r j, IsReal (dxn m c r j * G m c (ix1 j)) := fun r j => (IsReal.sum _ fun x => (real_side (hR.za r) (hR.zq r)
    (hR.zk r) (hR.zv r) (hR.zc r) x).mul (hR.w j x)).mul (hR.g j)
  refine ⟨h1.trans ?_, h2.trans ?_, h3.trans ?_, h4⟩
  · funext i
    obtain ⟨r, k, rfl⟩ : ∃ (r : Fin 8192) (k : Fin 1024), i = ix2 r k := ⟨i 0, i 1, eq_ix2 i⟩
    pointwise [res_main_v46]
    simp only [e0, e1, e2, e3, e4, e5, e6, e7, e8, Fin.sum_univ_one]
    rw [add_assoc, add_assoc]
    refine congrArg (Res m c (ix2 r k) + ·) ?_
    rw [← add_assoc]
    exact (dx_eq_1024 (x := fun j : Fin 1024 => H m c (ix2 r j)) (u := fun j : Fin 1024 => dxn m c r j * G m c (ix1 j))
      (fun j => hR.h r j) (fun j => hU r j) k).symm
  · funext i
    obtain ⟨d, r, k, rfl⟩ : ∃ (d : Fin 8) (r : Fin 1024) (k : Fin 192), i = ix3 d r k := ⟨i 0, i 1, i 2, eq_ix3 i⟩
    fin_cases d
    all_goals
      pointwise [res_main_v64]
      simp only [e0, e1, e2, e3, e4, e5, e6, e7, e8, Fin.sum_univ_one]
      show _ = ∑ x : Fin 8192, xhat m c x r * G m c (ix1 r) * dz m c x (col _ k)
      refine Finset.sum_congr rfl fun x _ => ?_
      rw [mul_comm]
    · have e : col 0 k = ⟨k.val, by omega⟩ := Fin.ext (by simp [col])
      show _ = xhat m c x r * G m c (ix1 r) * dz m c x (col 0 k)
      rw [e]
      rfl
    all_goals rfl
  · funext i
    obtain ⟨r, k, rfl⟩ : ∃ (r : Fin 1) (k : Fin 1024), i = ix2 r k := ⟨i 0, i 1, eq_ix2 i⟩
    pointwise
    simp only [e0, e1, e2, e3, e4, e5, e6, e7, e8, Fin.sum_univ_one]
    refine Finset.sum_congr rfl fun x _ => ?_
    rw [mul_comm]
    rfl

end Cert.Proof.Inproj

end
-- ==== Proof.PleKernel.lean ====
module

public import proofs.«01_k».proof.Proof.Gen.PleIdeal.Value
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![3, t.val, 0]
    ∧ win0_3.index t = ![0, 0] ∧ win0_4.index t = ![t.val, 0] ∧ win0_5.index t = ![t.val, 0] ∧ win0_6.index t = ![0, 0]
    ∧ win0_7.index t = ![t.val, 0] :=
  (by decide +kernel : ∀ t : Fin grid0.N, _)

/-- The argument arrays. -/
abbrev H (c : Dev nD) : Vec Ideal S8192x1024 .f32 := m ((c : Thread nD τ).loc main_arg0)
abbrev P (c : Dev nD) : Vec Ideal S4x8192x256 .f32 := m ((c : Thread nD τ).loc main_arg1)
abbrev G (c : Dev nD) : Vec Ideal S1024 .f32 := m ((c : Thread nD τ).loc main_arg2)
abbrev Wg (c : Dev nD) : Vec Ideal S1024x1024 .f32 := m ((c : Thread nD τ).loc main_arg3)
abbrev Wp (c : Dev nD) : Vec Ideal S256x1024 .f32 := m ((c : Thread nD τ).loc main_arg4)
abbrev Ct (c : Dev nD) : Vec Ideal S8192x1024 .f32 := m ((c : Thread nD τ).loc main_arg5)

abbrev w1024 : EReal := Ideal.ofBits .f32 0x44800000#32
abbrev weps : EReal := Ideal.ofBits .f32 0x358637BD#32

/-- The logistic function as the programs write it. -/
def gate (x : EReal) : EReal := Ideal.div 1 (1 + Ideal.exp (-x))

/-- A row divided by its root mean square. -/
def xhat (c : Dev nD) (r : Fin 8192) (k : Fin 1024) : EReal := H m c (ix2 r k) * Rms.rinv w1024 weps fun j : Fin 1024 => H m c (ix2 r j)

/-- The gate before the logistic function, and the projected embedding. -/
def gp (c : Dev nD) (r : Fin 8192) (k : Fin 1024) : EReal := ∑ x : Fin 1024, xhat m c r x * G m c (ix1 x) * Wg m c (ix2 x k)
def emb (c : Dev nD) (r : Fin 8192) (k : Fin 1024) : EReal := ∑ x : Fin 256, P m c (ix3 3 r x) * Wp m c (ix2 x k)

/-- The cotangent of the gate before the logistic function. -/
def dgp (c : Dev nD) (r : Fin 8192) (k : Fin 1024) : EReal :=
  Ct m c (ix2 r k) * emb m c r k * (gate (gp m c r k) * (1 - gate (gp m c r k)))

/-- The cotangent of the norm's output. -/
def dhn (c : Dev nD) (r : Fin 8192) (j : Fin 1024) : EReal := ∑ x : Fin 1024, dgp m c r x * Wg m c (ix2 j x)

/-- The gradient of the residual stream. -/
def dhArr (c : Dev nD) : Vec Ideal S8192x1024 .f32 := fun i => Ct m c i
  + Rms.dx w1024 weps (fun j : Fin 1024 => H m c (ix2 (i 0) j)) (fun j : Fin 1024 => dhn m c (i 0) j * G m c (ix1 j)) (i 1)

/-- A column of the projection's weight, from its shard and its place there. -/
def col (d : Fin 8) (k : Fin 128) : Fin 1024 := ⟨128 * d.val + k.val, by omega⟩

/-- The gradients of the two weights, the second cut into eight shards of columns, and of the norm's weight. -/
def dwgArr (c : Dev nD) : Vec Ideal S1024x1024 .bf16 := fun i => ∑ R : Fin 8192, xhat m c R (i 0) * G m c (ix1 (i 0)) * dgp m c R (i 1)
def dwpArr (c : Dev nD) : Vec Ideal S8x256x128 .bf16 := fun i =>
  ∑ R : Fin 8192, P m c (ix3 3 R (i 1)) * (Ct m c (ix2 R (col (i 0) (i 2))) * gate (gp m c R (col (i 0) (i 2))))
def dgArr (c : Dev nD) : Vec Ideal S1x1024 .f32 := fun i => ∑ R : Fin 8192, dhn m c R (i 1) * xhat m c R (i 1)

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = Ct m c (ix2 (row t.val (lt16 t) r) k) := by
  unfold row; blk_ext [iblk, V_main_arg5, idx t]

theorem blk1 (c : Dev nD) (t : Fin cfg0.N) (r : Fin 512) (k : Fin 1024) :
    (iblk m c 1 t : Vec Ideal S512x1024 .f32) (ix2 r k) = H m c (ix2 (row t.val (lt16 t) r) k) := by
  unfold row; blk_ext [iblk, V_main_arg0, idx t]

theorem blk2 (c : Dev nD) (t : Fin cfg0.N) (r : Fin 512) (k : Fin 256) :
    (iblk m c 2 t : Vec Ideal S1x512x256 .f32) (ix3 0 r k) = P m c (ix3 3 (row t.val (lt16 t) r) k) := by
  unfold row; blk_ext [iblk, V_main_arg1, idx t]

theorem blk3 (c : Dev nD) (t : Fin cfg0.N) (k : Fin 1024) :
    (iblk m c 3 t : Vec Ideal S1x1024 .f32) (ix2 0 k) = G m c (ix1 k) := by
  have e : ((cfg0.win 3).blk t).view.emb (ix2 0 k) = ix2 0 k := by blk_ext [idx t]
  unfold iblk
  rw [View.read_apply]
  refine (congrArg (V m c main_v19) e).trans ?_
  unfold V
  entry_read
  pointwise

theorem blk4 (c : Dev nD) (t : Fin cfg0.N) (r : Fin 512) (k : Fin 1024) :
    (iblk m c 4 t : Vec Ideal S512x1024 .bf16) (ix2 r k) = gp m c (row t.val (lt16 t) r) k := by
  have e : ((cfg0.win 4).blk t).view.emb (ix2 r k) = ix2 (row t.val (lt16 t) r) k := by unfold row; blk_ext [idx t]
  unfold iblk
  rw [View.read_apply]
  refine (congrArg (V m c main_v14) e).trans ?_
  unfold V
  entry_read
  pointwise
  rfl

theorem blk5 (c : Dev nD) (t : Fin cfg0.N) (r : Fin 512) (k : Fin 1024) :
    (iblk m c 5 t : Vec Ideal S512x1024 .bf16) (ix2 r k) = emb m c (row t.val (lt16 t) r) k := by
  have e : ((cfg0.win 5).blk t).view.emb (ix2 r k) = ix2 (row t.val (lt16 t) r) k := by unfold row; blk_ext [idx t]
  unfold iblk
  rw [View.read_apply]
  refine (congrArg (V m c main_v18) e).trans ?_
  unfold V
  entry_read
  pointwise
  rfl

theorem blk6 (c : Dev nD) (t : Fin cfg0.N) (r : Fin 1024) (k : Fin 1024) :
    (iblk m c 6 t : Vec Ideal S1024x1024 .bf16) (ix2 r k) = Wg m c (ix2 r k) := by
  blk_ext [iblk, V, idx t]

/-! What one point computes, from its blocks. -/

section
variable (h : Vec Ideal S512x1024 .f32) (g : Vec Ideal S1x1024 .f32) (gpb e : Vec Ideal S512x1024 .bf16) (p : Vec Ideal S1x512x256 .f32)
  (gr : Vec Ideal S512x1024 .f32) (w : Vec Ideal S1024x1024 .bf16)

theorem pay18_apply (r : Fin 512) (k : Fin 1024) : k0_pay18 gpb (ix2 r k) = gate (gpb (ix2 r k)) := by
  unfold_payloads
  pointwise
  unfold gate
  simp only [zero_sub]

theorem pay21_apply (a b : Vec Ideal S512x1024 .f32) (r : Fin 512) (k : Fin 1024) :
    k0_pay21 a b (FloatOps.ofBits (F := Ideal) .f32 0x3F800000#32) (ix2 r k) = b (ix2 r k) * (1 - a (ix2 r k)) := by
  unfold_payloads
  pointwise

theorem pay20_apply (r : Fin 512) (k : Fin 1024) : k0_pay20 gpb e gr (ix2 r k) = gr (ix2 r k) * e (ix2 r k) * k0_pay18 gpb (ix2 r k) := by
  unfold k0_pay20
  pointwise

theorem pay22_apply (a b : Vec Ideal S512x1024 .f32) (o : EReal) (r : Fin 512) (k : Fin 1024) :
    k0_pay22 (F := Ideal) a b o w (ix2 r k) = ∑ x : Fin 1024, k0_pay21 (F := Ideal) a b o (ix2 r x) * w (ix2 k x) := by
  unfold k0_pay22
  pointwise

theorem pay23_apply (r : Fin 512) (k : Fin 1024) :
    k0_pay23 h (k0_pay15 h) (ix2 r k) = h (ix2 r k) * Rms.rinv w1024 weps fun j : Fin 1024 => h (ix2 r j) := by
  unfold_payloads
  pointwise
  rfl

theorem pay24_apply (a b : Vec Ideal S512x1024 .f32) (o : EReal) (d : Vec Ideal S512x1024 .f32) (hd : k0_pay22 (F := Ideal) a b o w = d)
    (r : Fin 512) (k : Fin 1024) :
    k0_pay24 h (k0_pay15 h) (k0_pay16 g) a gr b o w (ix2 r k)
      = gr (ix2 r k) + Rms.dx w1024 weps (fun j : Fin 1024 => h (ix2 r j)) (fun j : Fin 1024 => d (ix2 r j) * g (ix2 0 j)) k := by
  unfold k0_pay24 k0_pay23 k0_pay16 k0_pay15
  rw [hd]
  pointwise
  rfl

theorem pay25_apply (a b : Vec Ideal S512x1024 .f32) (o : EReal) (acc : Vec Ideal S1x1024 .f32) (k : Fin 1024) :
    k0_pay25 (F := Ideal) h (k0_pay15 h) a b o w acc (ix2 0 k)
      = acc (ix2 0 k) + ∑ r : Fin 512, k0_pay22 (F := Ideal) a b o w (ix2 r k) * k0_pay23 (F := Ideal) h (k0_pay15 h) (ix2 r k) := by
  unfold k0_pay25
  pointwise

theorem pay26_apply (a b : Vec Ideal S512x1024 .f32) (o : EReal) (acc : Vec Ideal S1024x1024 .f32) (i x : Fin 1024) :
    k0_pay26 (F := Ideal) (k0_pay17 h g) a b o acc (ix2 i x)
      = acc (ix2 i x) + ∑ r : Fin 512, (h (ix2 r i) * Rms.rinv w1024 weps fun j : Fin 1024 => h (ix2 r j)) * g (ix2 0 i) * k0_pay21 (F := Ideal) a b o (ix2 r x) := by
  unfold k0_pay26 k0_pay17 k0_pay16 k0_pay15
  pointwise
  rfl

theorem pay1_apply (a : Vec Ideal S512x1024 .f32) (acc : Vec Ideal S256x1024 .f32) (i : Fin 256) (x : Fin 1024) :
    k0_pay1 (F := Ideal) a (k0_pay19 p) gr acc (ix2 i x)
      = acc (ix2 i x) + ∑ r : Fin 512, p (ix3 0 r i) * (gr (ix2 r x) * a (ix2 r x)) := by
  unfold_payloads
  pointwise
end

/-- The cotangent of the gate on a tile. -/
theorem dgp_apply (c : Dev nD) (t : Fin cfg0.N) (r : Fin 512) (k : Fin 1024) :
    k0_pay21 (k0_pay18 (iblk m c 4 t)) (k0_pay20 (iblk m c 4 t) (iblk m c 5 t) (iblk m c 0 t)) (FloatOps.ofBits (F := Ideal) .f32 0x3F800000#32) (ix2 r k)
      = dgp m c (row t.val (lt16 t) r) k := by
  refine (pay21_apply _ _ r k).trans ?_
  rw [pay20_apply, pay18_apply, blk0, blk4, blk5, mul_assoc]
  rfl

theorem dhn_apply (c : Dev nD) (t : Fin cfg0.N) (r : Fin 512) (k : Fin 1024) :
    k0_pay22 (k0_pay18 (iblk m c 4 t)) (k0_pay20 (iblk m c 4 t) (iblk m c 5 t) (iblk m c 0 t)) (FloatOps.ofBits (F := Ideal) .f32 0x3F800000#32)
      (iblk m c 6 t) (ix2 r k) = dhn m c (row t.val (lt16 t) r) k := by
  refine (pay22_apply _ _ _ _ r k).trans ?_
  simp only [dgp_apply, blk6]
  rfl

theorem final7 (c : Dev nD) : (dats m 0 c).arrAt 7 cfg0.N = dhArr m c := by
  refine (dats m 0 c).arrAt_eq_of_covers 7 _ (by decide +kernel) fun t hf y => ?_
  blk_simp
  rw [after0_7]
  have hN := lt16 t
  have e : (outsAt0 m c t.val t.isLt).1 = k0_pay24 (iblk m c 1 t) (k0_pay15 (iblk m c 1 t)) (k0_pay16 (iblk m c 3 t)) (k0_pay18 (iblk m c 4 t))
      (iblk m c 0 t) (k0_pay20 (iblk m c 4 t) (iblk m c 5 t) (iblk m c 0 t)) (FloatOps.ofBits (F := Ideal) .f32 0x3F800000#32) (iblk m c 6 t) := by
    by_cases h0 : t.val % 16 = 0 <;> by_cases h1 : t.val % 16 = 15
    · omega
    · rw [outsAt0_A m c t h0 h1]; frame_out
    · rw [outsAt0_C m c t h0 h1]; frame_out
    · rw [outsAt0_B m c t h0 h1]; frame_out
  rw [e]
  obtain ⟨r, k, rfl⟩ : ∃ (r : Fin 512) (k : Fin 1024), y = ix2 r k := ⟨y 0, y 1, eq_ix2 y⟩
  have ey : ((View.whole main_v21_0).slice (win0_7.rect t)).emb (ix2 r k) = ix2 (row t.val (lt16 t) r) k := by
    unfold row; blk_ext [idx t]
  rw [ey]
  refine (pay24_apply _ _ _ _ _ _ _ _ rfl r k).trans ?_
  simp only [dhn_apply, blk0, blk1, blk3, dhArr]
  rfl

/-- One tile's parts of the three weight gradients. -/
def dgTerm (c : Dev nD) (t : Fin cfg0.N) (k : Fin 1024) : EReal :=
  ∑ r : Fin 512, dhn m c (row t.val (lt16 t) r) k * xhat m c (row t.val (lt16 t) r) k
def dwgTerm (c : Dev nD) (t : Fin cfg0.N) (i x : Fin 1024) : EReal :=
  ∑ r : Fin 512, xhat m c (row t.val (lt16 t) r) i * G m c (ix1 i) * dgp m c (row t.val (lt16 t) r) x
def dwpTerm (c : Dev nD) (t : Fin cfg0.N) (i : Fin 256) (x : Fin 1024) : EReal :=
  ∑ r : Fin 512, P m c (ix3 3 (row t.val (lt16 t) r) i) * (Ct m c (ix2 (row t.val (lt16 t) r) x) * gate (gp m c (row t.val (lt16 t) r) x))

theorem stepDg_apply (c : Dev nD) (t : Fin cfg0.N) (acc : Vec Ideal S1x1024 .f32) (k : Fin 1024) :
    k0_pay25 (iblk m c 1 t) (k0_pay15 (iblk m c 1 t)) (k0_pay18 (iblk m c 4 t)) (k0_pay20 (iblk m c 4 t) (iblk m c 5 t) (iblk m c 0 t))
      (FloatOps.ofBits (F := Ideal) .f32 0x3F800000#32) (iblk m c 6 t) acc (ix2 0 k) = acc (ix2 0 k) + dgTerm m c t k := by
  refine (pay25_apply _ _ _ _ _ _ k).trans ?_
  simp only [dhn_apply, pay23_apply, blk1]
  rfl

theorem stepDwg_apply (c : Dev nD) (t : Fin cfg0.N) (acc : Vec Ideal S1024x1024 .f32) (i x : Fin 1024) :
    k0_pay26 (k0_pay17 (iblk m c 1 t) (iblk m c 3 t)) (k0_pay18 (iblk m c 4 t)) (k0_pay20 (iblk m c 4 t) (iblk m c 5 t) (iblk m c 0 t))
      (FloatOps.ofBits (F := Ideal) .f32 0x3F800000#32) acc (ix2 i x) = acc (ix2 i x) + dwgTerm m c t i x := by
  refine (pay26_apply _ _ _ _ _ _ i x).trans ?_
  simp only [dgp_apply, blk1, blk3]
  rfl

theorem stepDwp_apply (c : Dev nD) (t : Fin cfg0.N) (acc : Vec Ideal S256x1024 .f32) (i : Fin 256) (x : Fin 1024) :
    k0_pay1 (k0_pay18 (iblk m c 4 t)) (k0_pay19 (iblk m c 2 t)) (iblk m c 0 t) acc (ix2 i x) = acc (ix2 i x) + dwpTerm m c t i x := by
  refine (pay1_apply _ _ _ _ i x).trans ?_
  simp only [pay18_apply, blk0, blk2, blk4]
  rfl

theorem dg_reset (c : Dev nD) (t : Fin cfg0.N) (h0 : t.val % 16 = 0) (k : Fin 1024) :
    (outsAt0 m c t.val t.isLt).2.2.2.1 (ix2 0 k) = 0 + dgTerm m c t k := by
  rw [outsAt0_A m c t h0 (by omega)]
  frame_out
  refine (stepDg_apply m c t _ k).trans ?_
  congr 1
  pointwise [k0_pay12]

theorem dg_step (c : Dev nD) (t : Fin cfg0.N) (h0 : ¬t.val % 16 = 0) (k : Fin 1024) :
    (outsAt0 m c t.val t.isLt).2.2.2.1 (ix2 0 k)
      = (outsAt0 m c (t.val - 1) (Nat.lt_of_le_of_lt (Nat.sub_le _ _) t.isLt)).2.2.2.1 (ix2 0 k) + dgTerm m c t k := by
  by_cases h1 : t.val % 16 = 15
  · rw [outsAt0_C m c t h0 h1]
    frame_out
    exact stepDg_apply m c t _ k
  · rw [outsAt0_B m c t h0 h1]
    frame_out
    exact stepDg_apply m c t _ k

theorem dwg_reset (c : Dev nD) (t : Fin cfg0.N) (h0 : t.val % 16 = 0) (i k : Fin 1024) :
    (outsAt0 m c t.val t.isLt).2.2.2.2.1 (ix2 i k) = 0 + dwgTerm m c t i k := by
  rw [outsAt0_A m c t h0 (by omega)]
  frame_out
  refine (stepDwg_apply m c t _ i k).trans ?_
  congr 1
  pointwise [k0_pay13]

theorem dwg_step (c : Dev nD) (t : Fin cfg0.N) (h0 : ¬t.val % 16 = 0) (i k : Fin 1024) :
    (outsAt0 m c t.val t.isLt).2.2.2.2.1 (ix2 i k)
      = (outsAt0 m c (t.val - 1) (Nat.lt_of_le_of_lt (Nat.sub_le _ _) t.isLt)).2.2.2.2.1 (ix2 i k) + dwgTerm m c t i k := by
  by_cases h1 : t.val % 16 = 15
  · rw [outsAt0_C m c t h0 h1]
    frame_out
    refine (stepDwg_apply m c t _ i k).trans ?_
    simp only [read_unread_whole]
  · rw [outsAt0_B m c t h0 h1]
    frame_out
    refine (stepDwg_apply m c t _ i k).trans ?_
    simp only [read_unread_whole]

theorem dwp_reset (c : Dev nD) (t : Fin cfg0.N) (h0 : t.val % 16 = 0) (i : Fin 256) (k : Fin 1024) :
    (outsAt0 m c t.val t.isLt).2.2.2.2.2 (ix2 i k) = 0 + dwpTerm m c t i k := by
  rw [outsAt0_A m c t h0 (by omega)]
  frame_out
  refine (stepDwp_apply m c t _ i k).trans ?_
  congr 1
  pointwise [k0_pay14]

theorem dwp_step (c : Dev nD) (t : Fin cfg0.N) (h0 : ¬t.val % 16 = 0) (i : Fin 256) (k : Fin 1024) :
    (outsAt0 m c t.val t.isLt).2.2.2.2.2 (ix2 i k)
      = (outsAt0 m c (t.val - 1) (Nat.lt_of_le_of_lt (Nat.sub_le _ _) t.isLt)).2.2.2.2.2 (ix2 i k) + dwpTerm m c t i k := by
  by_cases h1 : t.val % 16 = 15
  · rw [outsAt0_C m c t h0 h1]
    frame_out
    refine (stepDwp_apply m c t _ i k).trans ?_
    simp only [read_unread_whole]
  · rw [outsAt0_B m c t h0 h1]
    frame_out
    refine (stepDwp_apply m c t _ i k).trans ?_
    simp only [read_unread_whole]

theorem dg_last (c : Dev nD) (k : Fin 1024) :
    (outsAt0 m c t0_15.val t0_15.isLt).2.2.2.1 (ix2 0 k) = 0 + ∑ p : Fin cfg0.N, dgTerm m c p k :=
  Pipeline.eq_sum_fin_of_reset_step_apply_last (N := cfg0.N) (fun n h (k : Fin 1024) => (outsAt0 m c n h).2.2.2.1 (ix2 0 k)) 16 (fun _ => 0)
    (dgTerm m c) (fun t h k => dg_reset m c t h k) (fun t h k => dg_step m c t h k) (by decide) t0_15 rfl k

theorem dwg_last (c : Dev nD) (i k : Fin 1024) :
    (outsAt0 m c t0_15.val t0_15.isLt).2.2.2.2.1 (ix2 i k) = 0 + ∑ p : Fin cfg0.N, dwgTerm m c p i k :=
  Pipeline.eq_sum_fin_of_reset_step_apply_last (N := cfg0.N) (fun n h (j : Fin 1024 × Fin 1024) => (outsAt0 m c n h).2.2.2.2.1 (ix2 j.1 j.2)) 16
    (fun _ => 0) (fun p j => dwgTerm m c p j.1 j.2) (fun t h j => dwg_reset m c t h j.1 j.2) (fun t h j => dwg_step m c t h j.1 j.2) (by decide)
    t0_15 rfl (i, k)

theorem dwp_last (c : Dev nD) (i : Fin 256) (k : Fin 1024) :
    (outsAt0 m c t0_15.val t0_15.isLt).2.2.2.2.2 (ix2 i k) = 0 + ∑ p : Fin cfg0.N, dwpTerm m c p i k :=
  Pipeline.eq_sum_fin_of_reset_step_apply_last (N := cfg0.N) (fun n h (j : Fin 256 × Fin 1024) => (outsAt0 m c n h).2.2.2.2.2 (ix2 j.1 j.2)) 16
    (fun _ => 0) (fun p j => dwpTerm m c p j.1 j.2) (fun t h j => dwp_reset m c t h j.1 j.2) (fun t h j => dwp_step m c t h j.1 j.2) (by decide)
    t0_15 rfl (i, k)

theorem final10 (c : Dev nD) : (dats m 0 c).arrAt 10 cfg0.N = dgArr m c := by
  refine (dats m 0 c).arrAt_eq_of_after_last 10 t0_15 (by decide +kernel) _ fun j => ?_
  blk_simp
  rw [after0_10]
  obtain ⟨r, k, rfl⟩ : ∃ (r : Fin 1) (k : Fin 1024), j = ix2 r k := ⟨j 0, j 1, eq_ix2 j⟩
  obtain rfl : r = 0 := Subsingleton.elim _ _
  refine (dg_last m c k).trans ?_
  rw [zero_add]
  refine Eq.trans ?_ (sum_tiles 16 512 8192 rfl (fun R => dhn m c R k * xhat m c R k)).symm
  rfl

theorem final8 (c : Dev nD) : (dats m 0 c).arrAt 8 cfg0.N = dwgArr m c := by
  refine (dats m 0 c).arrAt_eq_of_after_last 8 t0_15 (by decide +kernel) _ fun j => ?_
  blk_simp
  rw [after0_8]
  obtain ⟨i, k, rfl⟩ : ∃ (i : Fin 1024) (k : Fin 1024), j = ix2 i k := ⟨j 0, j 1, eq_ix2 j⟩
  have e : (outsAt0 m c t0_15.val t0_15.isLt).2.1 (ix2 i k) = (outsAt0 m c t0_15.val t0_15.isLt).2.2.2.2.1 (ix2 i k) := by
    rw [outsAt0_C m c t0_15 (by decide) (by decide)]
    frame_out
    pointwise [k0_pay6]
  refine e.trans ((dwg_last m c i k).trans ?_)
  rw [zero_add]
  refine Eq.trans ?_ (sum_tiles 16 512 8192 rfl (fun R => xhat m c R i * G m c (ix1 i) * dgp m c R k)).symm
  rfl

/-- A shard's columns of the accumulator, loaded after its last store. -/
theorem acc_load (X : Vec Ideal S256x1024 .f32) (i b : Fin 256) (x : Fin 1024) (k : Fin 128) (o : ℕ)
    (inb : ∀ q, (![0, o] : Fin 2 → ℕ) q + S256x128.size q ≤ S256x1024.size q) (h1 : i.val = b.val) (h2 : x.val = o + k.val) :
    (View.whole cc0_scratch1).readCov (Val := Elt Ideal) [⟨Rect.unit ![0, 0] ![256, 1024] inb_S256x1024_S256x1024_0_0, X⟩]
      (Rect.unit (s := S256x1024) ![0, o] S256x128.size inb).toLoadRect (ix2 b k : S256x128.Idx) = X (ix2 i x) := by
  refine (congrFun (View.readCov_eq_canon' _ _ _) _).trans
    ((congrFun (View.canon_cons_unit_lit' (S := S256x1024) inb_S256x1024_S256x1024_0_0 X [] (by decide)) _).trans ?_)
  refine congrArg X (funext fun q => Fin.ext ?_)
  refine (Rect.idx_unit_val _ _ _ (ix2 b k) q).trans ?_
  fin_cases q
  · show 0 + b.val = i.val
    omega
  · exact h2.symm

set_option maxHeartbeats 1000000 in
theorem shard_last (c : Dev nD) (d : Fin 8) (i : Fin 256) (k : Fin 128) :
    (outsAt0 m c t0_15.val t0_15.isLt).2.2.1 (ix3 d i k) = (outsAt0 m c t0_15.val t0_15.isLt).2.2.2.2.2 (ix2 i (col d k)) := by
  rw [outsAt0_C m c t0_15 (by decide) (by decide)]
  frame_out
  generalize k0_pay1 _ _ (iblk m c 0 t0_15) _ = X
  canon_tiles x hx
  all_goals
    obtain ⟨a, b, k', rfl⟩ : ∃ (a : Fin 1) (b : Fin 256) (k' : Fin 128), x = ix3 a b k' := ⟨x 0, x 1, x 2, eq_ix3 x⟩
    unfold_payloads
    pointwise
  all_goals
    change d.val = _ at hx0
    have q2 : k.val = k'.val := hx2
    exact acc_load X i b (col d k) k' _ _ hx1 (by show 128 * d.val + k.val = _; omega)

theorem final9 (c : Dev nD) : (dats m 0 c).arrAt 9 cfg0.N = dwpArr m c := by
  refine (dats m 0 c).arrAt_eq_of_after_last 9 t0_15 (by decide +kernel) _ fun j => ?_
  blk_simp
  rw [after0_9]
  obtain ⟨d, i, k, rfl⟩ : ∃ (d : Fin 8) (i : Fin 256) (k : Fin 128), j = ix3 d i k := ⟨j 0, j 1, j 2, eq_ix3 j⟩
  refine (shard_last m c d i k).trans ((dwp_last m c i _).trans ?_)
  rw [zero_add]
  refine Eq.trans ?_ (sum_tiles 16 512 8192 rfl (fun R => P m c (ix3 3 R i) * (Ct m c (ix2 R (col d k)) * gate (gp m c R (col d k))))).symm
  rfl

/-- The run: the four gradients, the arguments unchanged. -/
theorem run : θ_run defs (onTc (τ := τ) (main (F := Ideal))) ⟨m, fun _ => 0, ρ⟩ fun r => ∀ c : Dev nD,
      r.2.mem ((c : Thread nD τ).loc main_v21_0) = dhArr m c
      ∧ r.2.mem ((c : Thread nD τ).loc main_v21_1) = dwgArr m c
      ∧ r.2.mem ((c : Thread nD τ).loc main_v21_2) = dwpArr m c
      ∧ r.2.mem ((c : Thread nD τ).loc main_v21_3) = dgArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final7 m c), (h c).2.1.trans (final8 m c), (h c).2.2.1.trans (final9 m c),
      (h c).2.2.2.1.trans (final10 m c), (h c).2.2.2.2⟩)
    (Value.run_blocks m ρ)

end Cert.PleIdeal.Hand

end
-- ==== Proof.Ple.lean ====
module

public import proofs.«01_k».proof.Defs
public import proofs.«01_k».proof.Proof.Gen.Ple.Frame
public import proofs.«01_k».proof.Proof.Gen.PleRefIdeal.Run
public import proofs.«01_k».proof.Proof.PleKernel

@[expose] public section

set_option maxRecDepth 16384

noncomputable section

open Idealize.ShloMosaic Idealize.ShloMosaic.TcCoe Idealize.SL.Sem

namespace Cert.Proof.Ple

open Cert.PleRefIdeal Cert.PleRefIdeal.Gen Cert.PleRefIdeal.Value Cert.Reals Cert.Rms
open Cert.PleIdeal.Hand (H P G Wg Wp Ct gate gp emb dgp dhn xhat col)

/-- The side conditions of the precondition's function. -/
instance pre_facts : Cert.Pre_ple_finite.Facts := by constructor <;> decide

variable (m : (ℓ : Loc Cert.PleIdeal.nD Cert.PleIdeal.τ Cert.PleIdeal.sig) → Buf (Elt Ideal) ℓ)
  (m' : (ℓ : Loc nD τ sig) → Buf (Elt Ideal) ℓ)

/-- The arguments of the precondition are numbers. -/
structure Real (c : Dev nD) : Prop where
  h : ∀ r k, IsReal (H m c (ix2 r k))
  p : ∀ l r k, IsReal (P m c (ix3 l r k))
  g : ∀ k, IsReal (G m c (ix1 k))
  wg : ∀ r k, IsReal (Wg m c (ix2 r k))
  wp : ∀ r k, IsReal (Wp m c (ix2 r k))
  ct : ∀ r k, IsReal (Ct m c (ix2 r k))

theorem real_of_pre (h : Cert.Pre_PleIdeal_ple_finite m) (c : Dev nD) : Real m c := by
  obtain ⟨h0, h1, h2, h3, h4, h5⟩ := h c
  dsimp only [Cert.Pre_ple_finite.fn] at h0 h1 h2 h3 h4 h5
  refine ⟨fun r k => ?_, fun l r k => ?_, fun k => ?_, fun r k => ?_, fun r k => ?_, fun r k => ?_⟩
  · have := congrFun h0 (ix2 r k); revert this; pointwise; exact real_of_word
  · have := congrFun h1 (ix3 l r k); revert this; pointwise; exact real_of_word
  · have := congrFun h2 (ix1 k); revert this; pointwise; exact real_of_word
  · have := congrFun h3 (ix2 r k); revert this; pointwise; exact real_of_word
  · have := congrFun h4 (ix2 r k); revert this; pointwise; exact real_of_word
  · have := congrFun h5 (ix2 r k); revert this; pointwise; exact real_of_word

theorem frame : Cert.quiescent_Ple := fun m ρ _ => Cert.Ple.Gen.frame m ρ
theorem frame_ideal : Cert.quiescent_PleIdeal := fun m ρ _ => Cert.PleIdeal.Gen.frame m ρ
theorem frame_ideal_pre : Cert.quiescent_PleIdeal_pre_ple_finite := fun m ρ _ => Cert.PleIdeal.Gen.frame m ρ
theorem frame_ref : Cert.quiescent_PleRefIdeal := fun m ρ _ =>
  (θ_run Cert.PleRefIdeal.defs _ _).mono (fun r h => ⟨fun c => (h c).2.2.2.2,
      Idealize.ShloMosaic.sem_eq_zero_of_no_sems (by decide) r.2⟩)
    (Cert.PleRefIdeal.Value.run (F := Ideal) m ρ)
theorem frame_ref_pre : Cert.quiescent_PleRefIdeal_pre_ple_finite := fun m ρ _ => frame_ref m ρ trivial

/-- The logistic function of a number is a number. -/
theorem real_gate {x : EReal} (h : IsReal x) : IsReal (gate x) := by
  obtain ⟨r, rfl⟩ := h
  unfold gate
  rw [← EReal.coe_one, ← EReal.coe_neg, Ideal.exp_coe, ← EReal.coe_add]
  exact IsReal.div ⟨_, by positivity, rfl⟩ ⟨1, rfl⟩

/-- The gate's cotangent on finite arguments is a number. -/
theorem real_dgp {c : Dev nD} (hR : Real m c) (r : Fin 8192) (k : Fin 1024) : IsReal (dgp m c r k) := by
  have hr : IsReal (rinv (Ideal.ofBits .f32 0x44800000#32) (Ideal.ofBits .f32 0x358637BD#32) fun j : Fin 1024 => H m c (ix2 r j)) := by
    rw [Rms.word_1024, word_eps]
    exact real_rinv (by norm_num) eps_pos fun j => hR.h r j
  have hs : IsReal (gate (gp m c r k)) := real_gate (IsReal.sum _ fun x => (((hR.h r x).mul hr).mul (hR.g x)).mul (hR.wg x k))
  exact ((hR.ct r k).mul (IsReal.sum _ fun x => (hR.p 3 r x).mul (hR.wp x k))).mul (hs.mul (IsReal.sub ⟨1, rfl⟩ hs))

set_option maxHeartbeats 1000000 in
theorem algebraic : Cert.algebraic_PleIdeal_PleRefIdeal_pre_ple_finite := by
  intro m g m' g' hp h
  refine ⟨fun c => PleIdeal.Hand.dhArr m c, fun c => PleIdeal.Hand.dwgArr m c, fun c => PleIdeal.Hand.dwpArr m c,
    fun c => PleIdeal.Hand.dgArr m c, PleIdeal.Hand.run m g, ?_⟩
  refine (θ_run Cert.PleRefIdeal.defs _ _).mono (fun r hr c => ?_) (Cert.PleRefIdeal.Value.run (F := Ideal) m' g')
  obtain ⟨h1, h2, h3, h4, h5⟩ := hr c
  obtain ⟨e0, e1, e2, e3, e4, e5⟩ := h c
  have hR := real_of_pre m hp c
  have hU : ∀ r j, IsReal (dhn m c r j * G m c (ix1 j)) := fun r j =>
    (IsReal.sum _ fun x => (real_dgp m hR r x).mul (hR.wg j x)).mul (hR.g j)
  refine ⟨h1.trans ?_, h2.trans ?_, h3.trans ?_, h4.trans ?_, h5⟩
  · funext i
    obtain ⟨r, k, rfl⟩ : ∃ (r : Fin 8192) (k : Fin 1024), i = ix2 r k := ⟨i 0, i 1, eq_ix2 i⟩
    pointwise [res_main_v60]
    simp only [e0, e1, e2, e3, e4, e5, Fin.sum_univ_one]
    rw [add_assoc, add_assoc]
    refine congrArg (Ct m c (ix2 r k) + ·) ?_
    rw [← add_assoc]
    exact (dx_eq_1024 (x := fun j : Fin 1024 => H m c (ix2 r j)) (u := fun j : Fin 1024 => dhn m c r j * G m c (ix1 j))
      (fun j => hR.h r j) (fun j => hU r j) k).symm
  · funext i
    obtain ⟨r, k, rfl⟩ : ∃ (r : Fin 1024) (k : Fin 1024), i = ix2 r k := ⟨i 0, i 1, eq_ix2 i⟩
    pointwise
    simp only [e0, e1, e2, e3, e4, e5, Fin.sum_univ_one]
    show _ = ∑ x : Fin 8192, xhat m c x r * G m c (ix1 r) * dgp m c x k
    refine Finset.sum_congr rfl fun x _ => ?_
    rw [mul_comm]
    rfl
  · funext i
    obtain ⟨d, r, k, rfl⟩ : ∃ (d : Fin 8) (r : Fin 256) (k : Fin 128), i = ix3 d r k := ⟨i 0, i 1, i 2, eq_ix3 i⟩
    fin_cases d
    all_goals
      pointwise [res_main_v79]
      simp only [e0, e1, e2, e3, e4, e5, Fin.sum_univ_one]
      show _ = ∑ x : Fin 8192, P m c (ix3 3 x r) * (Ct m c (ix2 x (col _ k)) * gate (gp m c x (col _ k)))
      refine Finset.sum_congr rfl fun x _ => ?_
      rw [mul_comm, mul_comm (Ct m c _)]
    · have e : col 0 k = ⟨k.val, by omega⟩ := Fin.ext (by simp [col])
      show _ = P m c (ix3 3 x r) * (gate (gp m c x (col 0 k)) * Ct m c (ix2 x (col 0 k)))
      rw [e]
      rfl
    all_goals rfl
  · funext i
    obtain ⟨r, k, rfl⟩ : ∃ (r : Fin 1) (k : Fin 1024), i = ix2 r k := ⟨i 0, i 1, eq_ix2 i⟩
    pointwise
    simp only [e0, e1, e2, e3, e4, e5, Fin.sum_univ_one]
    refine Finset.sum_congr rfl fun x _ => ?_
    rw [mul_comm]
    rfl

end Cert.Proof.Ple

end
-- ==== Proof.MlpBody.lean ====
module

public import proofs.«01_k».proof.Proof.Gen.MlpIdeal.Frame.Runs
public import Idealize.ShloMosaic.Lib.Pipeline.ValueKit
public import Idealize.ShloMosaic.Lib.Pointwise

@[expose] public section

-- membership in a rectangle of production extents (`View.cover_of_tiled`): the elaborator's structural look
-- recurses once per coordinate of the long axes
set_option maxRecDepth 16384

noncomputable section

namespace Cert.MlpIdeal.Hand

open Cert.MlpIdeal Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one grid point computes

The four chunks of 1024 hidden columns in turn: a chunk's cotangent from the rows of `W2`, and its contribution to the cotangent of
the normed input from the columns of `W1`. -/

/-- 1024 rows of the second weight, from row `o`. -/
abbrev rows (W2 : Vec F S4096x1024 .bf16) (o : ℕ) (h : ∀ a, (![o, 0] : Fin 2 → ℕ) a + S1024x1024.size a ≤ S4096x1024.size a) : Vec F S1024x1024 .bf16 :=
  View.ld W2 (Rect.unit (s := S4096x1024) ![o, 0] S1024x1024.size h)
/-- 1024 columns of the first weight, from column `o`. -/
abbrev cols (W1 : Vec F S1024x4096 .bf16) (o : ℕ) (h : ∀ a, (![0, o] : Fin 2 → ℕ) a + S1024x1024.size a ≤ S1024x4096.size a) : Vec F S1024x1024 .bf16 :=
  View.ld W1 (Rect.unit (s := S1024x4096) ![0, o] S1024x1024.size h)
/-- 1024 columns of a block of saved activations, from column `o`. -/
abbrev acts (R : Vec F S512x4096 .bf16) (o : ℕ) (h : ∀ a, (![0, o] : Fin 2 → ℕ) a + S512x1024.size a ≤ S512x4096.size a) : Vec F S512x1024 .bf16 :=
  View.ld R (Rect.unit (s := S512x4096) ![0, o] S512x1024.size h)

section Out
variable (x0 x1 : Vec F S512x1024 .f32) (x2 g : Vec F S1x1024 .f32) (x3 : Vec F S512x4096 .bf16)
  (W1 : Vec F S1024x4096 .bf16) (W2 : Vec F S4096x1024 .bf16)

/-- The cotangent of the normed input, after the first three chunks. -/
abbrev dhn3 : FVec F S512x1024 .f32 :=
  k0_pay8 (k0_pay2 x0)
    (k0_pay4 x0 (rows W2 0 inb_S4096x1024_S1024x1024_0_0) (acts x3 0 inb_S512x4096_S512x1024_0_0) (cols W1 0 inb_S1024x4096_S1024x1024_0_0))
    (k0_pay5 x0 (rows W2 1024 inb_S4096x1024_S1024x1024_1024_0) (acts x3 1024 inb_S512x4096_S512x1024_0_1024))
    (cols W1 1024 inb_S1024x4096_S1024x1024_0_1024)
    (rows W2 2048 inb_S4096x1024_S1024x1024_2048_0) (acts x3 2048 inb_S512x4096_S512x1024_0_2048) (cols W1 2048 inb_S1024x4096_S1024x1024_0_2048)
/-- The last chunk's hidden cotangent. -/
abbrev da3 : FVec F S512x1024 .bf16 :=
  k0_pay9 (k0_pay2 x0) (rows W2 3072 inb_S4096x1024_S1024x1024_3072_0) (acts x3 3072 inb_S512x4096_S512x1024_0_3072)
/-- The block of the input's cotangent. -/
def dhOut : Vec F S512x1024 .f32 := k0_pay14 x0 (dhn3 x0 x3 W1 W2) (da3 x0 x3 W2) (cols W1 3072 inb_S1024x4096_S1024x1024_0_3072) x1 x2
/-- The block of the normed input. -/
def hnOut : Vec F S512x1024 .bf16 := k0_pay16 x1 x2
/-- The block of the hidden cotangent, chunk by chunk. -/
def daOut : Vec F S512x4096 .bf16 := View.canon
  [⟨Rect.unit ![0, 3072] S512x1024.size inb_S512x4096_S512x1024_0_3072, da3 x0 x3 W2⟩,
    ⟨Rect.unit ![0, 2048] S512x1024.size inb_S512x4096_S512x1024_0_2048,
      k0_pay7 (k0_pay2 x0) (rows W2 2048 inb_S4096x1024_S1024x1024_2048_0) (acts x3 2048 inb_S512x4096_S512x1024_0_2048)⟩,
    ⟨Rect.unit ![0, 1024] S512x1024.size inb_S512x4096_S512x1024_0_1024,
      k0_pay6 (k0_pay5 x0 (rows W2 1024 inb_S4096x1024_S1024x1024_1024_0) (acts x3 1024 inb_S512x4096_S512x1024_0_1024))⟩,
    ⟨Rect.unit ![0, 0] S512x1024.size inb_S512x4096_S512x1024_0_0,
      k0_pay3 x0 (rows W2 0 inb_S4096x1024_S1024x1024_0_0) (acts x3 0 inb_S512x4096_S512x1024_0_0)⟩]
/-- The gain's gradient so far, from what it was before. -/
def dgOut : Vec F S1x1024 .f32 := k0_pay15 (dhn3 x0 x3 W1 W2) (da3 x0 x3 W2) (cols W1 3072 inb_S1024x4096_S1024x1024_0_3072) x1 g
end Out

/-! ## What the copies of the first point leave in the two weight buffers -/

/-- Shard `k` of the first weight, as the copy reads it. -/
abbrev shard {c : Dev nD} (f : HbBuf0 (F := F) c hbM0_0) (k : ℕ) (h : ∀ a, (![k, 0, 0] : Fin 3 → ℕ) a + S1x1024x512.size a ≤ S8x1024x512.size a) :
    S1024x512.Idx → Elt F .bf16 :=
  View.read (Elt F) (((Memref.whole main_v2).slice (Rect.unit (s := S8x1024x512) ![k, 0, 0] S1x1024x512.size h) (fun _ => rfl)).squeeze
    S1024x512 squeezes_S1x1024x512_S1024x512).view f

/-- The first weight as its eight column shards lie side by side. -/
def w1Of {c : Dev nD} (f : HbBuf0 (F := F) c hbM0_0) : Vec F S1024x4096 .bf16 := View.canon
    [⟨Rect.unit ![0, 3584] S1024x512.size inb_S1024x4096_S1024x512_0_3584, ReadAs.same.apply (shard f 7 inb_S8x1024x512_S1x1024x512_7_0_0)⟩,
      ⟨Rect.unit ![0, 3072] S1024x512.size inb_S1024x4096_S1024x512_0_3072, ReadAs.same.apply (shard f 6 inb_S8x1024x512_S1x1024x512_6_0_0)⟩,
      ⟨Rect.unit ![0, 2560] S1024x512.size inb_S1024x4096_S1024x512_0_2560, ReadAs.same.apply (shard f 5 inb_S8x1024x512_S1x1024x512_5_0_0)⟩,
      ⟨Rect.unit ![0, 2048] S1024x512.size inb_S1024x4096_S1024x512_0_2048, ReadAs.same.apply (shard f 4 inb_S8x1024x512_S1x1024x512_4_0_0)⟩,
      ⟨Rect.unit ![0, 1536] S1024x512.size inb_S1024x4096_S1024x512_0_1536, ReadAs.same.apply (shard f 3 inb_S8x1024x512_S1x1024x512_3_0_0)⟩,
      ⟨Rect.unit ![0, 1024] S1024x512.size inb_S1024x4096_S1024x512_0_1024, ReadAs.same.apply (shard f 2 inb_S8x1024x512_S1x1024x512_2_0_0)⟩,
      ⟨Rect.unit ![0, 512] S1024x512.size inb_S1024x4096_S1024x512_0_512, ReadAs.same.apply (shard f 1 inb_S8x1024x512_S1x1024x512_1_0_0)⟩,
      ⟨Rect.unit ![0, 0] S1024x512.size inb_S1024x4096_S1024x512_0_0, ReadAs.same.apply (shard f 0 inb_S8x1024x512_S1x1024x512_0_0_0)⟩]
/-- The second weight, copied whole. -/
def w2Of {c : Dev nD} (f : HbBuf0 (F := F) c hbM0_1) : Vec F S4096x1024 .bf16 := View.read (Elt F) (Memref.whole main_v3).view f

theorem canon_whole (w : Vec F S4096x1024 .bf16) : View.canon [(⟨Rect.whole S4096x1024, w⟩ : View.Piece (Elt F) S4096x1024 .bf16)] = w :=
  View.canon_cons_unit_zero rfl _ _ _

/-! ## The first weight's array held as one read token for each copy -/

/-- The read token of the copy that completes on cell `i`. -/
abbrev tok (c : Dev nD) (i : ℕ) (f : HbBuf0 (F := F) c hbM0_0) : sProp 𝕄 :=
  hbM0_0.view.loc (c : Thread nD τ) ↦{Transfers.shareTokN fullShare i} f

/-- What is left of the array beside the eight tokens. -/
def tokRest (c : Dev nD) (f : HbBuf0 (F := F) c hbM0_0) : sProp 𝕄 :=
  iprop((hbM0_0.view.loc (c : Thread nD τ) ↦{Transfers.shareDrop fullShare 22} f) ∗ BI.bigSep (Finset.range 14) (fun i => tok c i f))

/-- The last of a range of assertions, split off. -/
theorem range_peel (P : ℕ → sProp 𝕄) (n : ℕ) : BI.bigSep (Finset.range (n + 1)) P = iprop(P n ∗ BI.bigSep (Finset.range n) P) := by
  rw [Finset.range_add_one, BI.bigSep_insert Finset.notMem_range_self]
  rfl

/-- The array whole is the eight tokens and the rest. -/
theorem toks (c : Dev nD) (f : HbBuf0 (F := F) c hbM0_0) :
    (hbPt0 c hbM0_0 f : sProp 𝕄) ⊣⊢ iprop(tokRest c f ∗ tok c 14 f ∗ tok c 15 f ∗ tok c 16 f ∗ tok c 17 f ∗ tok c 18 f ∗ tok c 19 f ∗ tok c 20 f ∗ tok c 21 f) := by
  refine (Transfers.pointsTo_toks_range fullShare 22).trans ?_
  unfold tokRest
  rw [range_peel _ 21, range_peel _ 20, range_peel _ 19, range_peel _ 18, range_peel _ 17, range_peel _ 16, range_peel _ 15, range_peel _ 14]
  constructor
  · iintro ⟨D, T7, T6, T5, T4, T3, T2, T1, T0, R⟩
    isplitl [D R]
    · isplitl [D]; · iexact D
      iexact R
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  · iintro ⟨⟨D, R⟩, T0, T1, T2, T3, T4, T5, T6, T7⟩
    isplitl [D]; · iexact D
    isplitl [T7]; · iexact T7
    isplitl [T6]; · iexact T6
    isplitl [T5]; · iexact T5
    isplitl [T4]; · iexact T4
    isplitl [T3]; · iexact T3
    isplitl [T2]; · iexact T2
    isplitl [T1]; · iexact T1
    isplitl [T0]; · iexact T0
    iexact R

section Run
variable (c : Dev nD) (i : grid0.Coords) (arg1 : Memref sig .tc .vmem S512x1024 .f32) (harg1 : arg1.IsWhole) (arg2 : Memref sig .tc .vmem S512x1024 .f32) (harg2 : arg2.IsWhole)
  (arg3 : Memref sig .tc .vmem S1x1024 .f32) (harg3 : arg3.IsWhole) (arg4 : Memref sig .tc .vmem S512x4096 .bf16) (harg4 : arg4.IsWhole)
  (arg7 : Memref sig .tc .vmem S512x1024 .f32) (harg7 : arg7.IsWhole) (arg8 : Memref sig .tc .vmem S512x1024 .bf16) (harg8 : arg8.IsWhole)
  (arg9 : Memref sig .tc .vmem S512x4096 .bf16) (harg9 : arg9.IsWhole) (arg10 : Memref sig .tc .vmem S1x1024 .f32) (harg10 : arg10.IsWhole)
  (arg11 : Memref sig .tc .vmem S1024x4096 .bf16) (harg11 : arg11.IsWhole) (arg12 : Memref sig .tc .vmem S4096x1024 .bf16) (harg12 : arg12.IsWhole)
  (x0 x1 : Vec F S512x1024 .f32) (x2 : Vec F S1x1024 .f32) (x3 : Vec F S512x4096 .bf16)

/-- What a grid point leaves: the inputs as they were, each output at its block, the gain's gradient advanced from `g`, the weight
    buffers at `W1` and `W2`. -/
def left (g : Vec F S1x1024 .f32) (W1 : Vec F S1024x4096 .bf16) (W2 : Vec F S4096x1024 .bf16) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (dhOut x0 x1 x2 x3 W1 W2) ∗ owns (c : Thread nD τ) arg8 fullShare (hnOut x1 x2) ∗ owns (c : Thread nD τ) arg9 fullShare (daOut x0 x3 W2)
    ∗ owns (c : Thread nD τ) arg10 fullShare (dgOut x0 x1 g x3 W1 W2) ∗ owns (c : Thread nD τ) arg11 fullShare W1 ∗ owns (c : Thread nD τ) arg12 fullShare W2)

set_option maxHeartbeats 1000000 in
/-- A point after the first: the weight buffers hold `W1`, `W2`. -/
theorem later (hc0 : ¬cond0_0 i) (hc1 : ¬cond0_1 i) (g : Vec F S1x1024 .f32) (W1 : Vec F S1024x4096 .bf16) (W2 : Vec F S4096x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare g ∗ owns (c : Thread nD τ) arg11 fullShare W1 ∗ owns (c : Thread nD τ) arg12 fullShare W2
        ∗ (left c arg1 arg2 arg3 arg4 arg7 arg8 arg9 arg10 arg11 arg12 x0 x1 x2 x3 g W1 W2 -∗ K ⟨⟩))
      ⊢ wp frame (wpE (defs₀ (F := F)) Variants.none c none) Set.univ (cc0_mlp_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 cc0_scratch2) K := by
  simp only [cc0_mlp_bwd_eq_skeleton]; unfold cc0_mlp_bwd_skel
  simp only [k0_part4_eq_skeleton, k0_part5_eq_skeleton, k0_part6_eq_skeleton]
  unfold left owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg10.eq_unread hf7; obtain rfl := harg11.eq_unread hfs0; obtain rfl := harg12.eq_unread hfs1
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]
  · iexists _; isplitr; swap; · iexact H4
    ipureintro; funext y
    refine (View.read_writes_apply_eq_canon _ _ y _ (View.cover_of_tiledL _ S512x1024.size (by sl_kernel_rfl) y)).trans (congrFun ?_ y)
    frame_out
    rfl
  isplitl [H5]
  · iexists _; isplitr; swap; · iexact H5
    ipureintro; funext y
    refine (View.read_writes_apply_eq_canon _ _ y _ (View.cover_of_tiledL _ S512x1024.size (by sl_kernel_rfl) y)).trans (congrFun ?_ y)
    frame_out
    rfl
  isplitl [H6]
  · iexists _; isplitr; swap; · iexact H6
    ipureintro; funext y
    refine (View.read_writes_apply_eq_canon _ _ y _ (View.cover_of_tiledL (s := S512x4096) _ ![512, 1024] (by sl_kernel_rfl) y)).trans (congrFun ?_ y)
    frame_out
  isplitl [H7]
  · iexists _; isplitr; swap; · iexact H7
    ipureintro; funext y
    refine (View.read_writes_apply_eq_canon _ _ y _ (View.cover_of_tiledL _ S1x1024.size (by sl_kernel_rfl) y)).trans (congrFun ?_ y)
    frame_out
    rfl
  isplitl [HS0]; · iexists _; isplitr; · ipureintro; exact harg11.read_unread _
                   iexact HS0
  iexists _; isplitr; · ipureintro; exact harg12.read_unread _
  iexact HS1

set_option maxHeartbeats 2000000 in
set_option sl_exec.dmaWindow true in
set_option sl_exec.dmaWindowSet true in
/-- The first point: the nine copies fill the weight buffers, all in flight at once; the gain's gradient starts from zero. -/
theorem first (hc0 : cond0_0 i) (hc1 : cond0_1 i) (f : HbBuf0 (F := F) c hbM0_0) (f' : HbBuf0 (F := F) c hbM0_1) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ hbPt0 c hbM0_0 f ∗ hbPt0 c hbM0_1 f' ∗ owes (c : Thread nD τ) 0 W
        ∗ (iprop(left c arg1 arg2 arg3 arg4 arg7 arg8 arg9 arg10 arg11 arg12 x0 x1 x2 x3 (k0_pay1 (F := F)) (w1Of f) (w2Of f')
            ∗ (semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ hbPt0 c hbM0_0 f ∗ hbPt0 c hbM0_1 f' ∗ (∃ W', owes (c : Thread nD τ) 0 W')) -∗ K ⟨⟩))
      ⊢ wp frame (wpE (defs₀ (F := F)) Variants.none c none) Set.univ (cc0_mlp_bwd i arg1 harg1 arg2 harg2 arg3 harg3 arg4 harg4 (Memref.whole main_v2) (Memref.isWhole_whole _) (Memref.whole main_v3) (Memref.isWhole_whole _) arg7 harg7 arg8 harg8 arg9 harg9 arg10 harg10 arg11 harg11 arg12 harg12 cc0_scratch2) K := by
  simp only [cc0_mlp_bwd_eq_skeleton]; unfold cc0_mlp_bwd_skel
  simp only [k0_part4_eq_skeleton, k0_part1_eq_skeleton, k0_part2_eq_skeleton, k0_part3_eq_skeleton, k0_part5_eq_skeleton, k0_part6_eq_skeleton]
  unfold left owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨Hq0, Hq1, Hq2, Hq3, Hq4, Hq5, Hq6, Hq7, Hq8⟩, Hh0, Hh1, HW, Hk⟩
  obtain rfl := harg1.eq_unread hf0; obtain rfl := harg2.eq_unread hf1; obtain rfl := harg3.eq_unread hf2; obtain rfl := harg4.eq_unread hf3
  ihave HT := (toks c f).1 $$ Hh0
  icases HT with ⟨TR, T0, T1, T2, T3, T4, T5, T6, T7⟩
  sl_exec (disch := first | sl_exact hc0 | sl_exact hc1)
  sl_step
  iapply Hk
  isplitl [H0 H1 H2 H3 H4 H5 H6 H7 HS0 HS1]
  · isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]
    · iexists _; isplitr; swap; · iexact H4
      ipureintro; funext y
      refine (View.read_writes_apply_eq_canon _ _ y _ (View.cover_of_tiledL _ S512x1024.size (by sl_kernel_rfl) y)).trans (congrFun ?_ y)
      frame_out [View.readCov_eq_canon', canon_whole]
      rfl
    isplitl [H5]
    · iexists _; isplitr; swap; · iexact H5
      ipureintro; funext y
      refine (View.read_writes_apply_eq_canon _ _ y _ (View.cover_of_tiledL _ S512x1024.size (by sl_kernel_rfl) y)).trans (congrFun ?_ y)
      frame_out
      rfl
    isplitl [H6]
    · iexists _; isplitr; swap; · iexact H6
      ipureintro; funext y
      refine (View.read_writes_apply_eq_canon _ _ y _ (View.cover_of_tiledL (s := S512x4096) _ ![512, 1024] (by sl_kernel_rfl) y)).trans (congrFun ?_ y)
      frame_out [View.readCov_eq_canon', canon_whole]
      rfl
    isplitl [H7]
    · iexists _; isplitr; swap; · iexact H7
      ipureintro; funext y
      refine (View.read_writes_apply_eq_canon _ _ y _ (View.cover_of_tiledL _ S1x1024.size (by sl_kernel_rfl) y)).trans (congrFun ?_ y)
      frame_out [View.readCov_eq_canon', canon_whole]
      rfl
    isplitl [HS0]
    · iexists _; isplitr; swap; · iexact HS0
      ipureintro; funext y
      refine (View.read_writes_apply_eq_canon _ _ y _ (View.cover_of_tiledL (s := S1024x4096) _ ![1024, 512] (by sl_kernel_rfl) y)).trans (congrFun ?_ y)
      rfl
    · iexists _; isplitr; swap; · iexact HS1
      ipureintro; funext y
      refine (View.read_writes_apply_eq_canon _ _ y _ (View.cover_of_tiledL _ S4096x1024.size (by sl_kernel_rfl) y)).trans (congrFun ?_ y)
      exact canon_whole _
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [TR T0 T1 T2 T3 T4 T5 T6 T7]
  · iapply (toks c f).2
    isplitl [TR]; · iexact TR
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [Hh1]; · iexact Hh1
  iexists _; iexact HW

end Run

end Cert.MlpIdeal.Hand

end
-- ==== Proof.MlpFrame.lean ====
module

public import proofs.«01_k».proof.Proof.MlpBody

@[expose] public section

set_option maxRecDepth 16384

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point leaves -/

/-- The first weight in its buffer, after the first point. -/
abbrev W1 (c : Dev nD) : Vec F S1024x4096 .bf16 := w1Of (c := c) (V m c main_v2)
/-- The second weight in its buffer, after the first point. -/
abbrev W2 (c : Dev nD) : Vec F S4096x1024 .bf16 := w2Of (c := c) (V m c main_v3)

/-- The gain's gradient advanced by point `t`. -/
abbrev dgStep (c : Dev nD) (t : Fin cfg0.N) (g : Vec F S1x1024 .f32) : Vec F S1x1024 .f32 :=
  dgOut (iblk m c 0 t) (iblk m c 1 t) g (iblk m c 3 t) (W1 m c) (W2 m c)

/-- The gain's gradient after point `n`. -/
def dgAt (c : Dev nD) : (n : ℕ) → n < cfg0.N → Vec F S1x1024 .f32
  | 0, h => dgStep m c ⟨0, h⟩ (k0_pay1 (F := F))
  | n + 1, h => dgStep m c ⟨n + 1, h⟩ (dgAt c n (Nat.lt_of_succ_lt h))

theorem dgAt_first (c : Dev nD) (t : Fin cfg0.N) (hz : t.val = 0) : dgAt m c t.val t.isLt = dgStep m c t (k0_pay1 (F := F)) := by
  obtain ⟨n, hn⟩ := t
  obtain rfl : n = 0 := hz
  rfl

theorem dgAt_later (c : Dev nD) (t : Fin cfg0.N) (hz : t.val ≠ 0) :
    dgAt m c t.val t.isLt = dgStep m c t (dgAt m c (t.val - 1) (Nat.lt_of_le_of_lt (Nat.sub_le _ _) t.isLt)) := by
  obtain ⟨n, hn⟩ := t
  cases n with
  | zero => exact absurd rfl hz
  | succ n => rfl

/-- The cells of the copies, at zero. -/
abbrev cells (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0)

/-- Between points: the two weights in their buffers, the generator register, the cells at zero, the arrays the copies read. -/
def Loaded (c : Dev nD) : sProp 𝕄 :=
  iprop((owns (c : Thread nD τ) scM0_0 fullShare (W1 m c) ∗ owns (c : Thread nD τ) scM0_1 fullShare (W2 m c)) ∗ (∃ r, prngReg c r) ∗ cells c
    ∗ (hbPt0 c hbM0_0 (V m c main_v2) ∗ hbPt0 c hbM0_1 (V m c main_v3)))

/-- Before position `n`: at the first the launch's invariant, afterwards `Loaded`. -/
def Inv (c : Dev nD) : (n : ℕ) → n ≤ cfg0.N → sProp 𝕄
  | 0, _ => Pipeline.ΦD osem0 spec0 H0 (V m) c
  | _ + 1, _ => Loaded m c

theorem Inv_first (c : Dev nD) (n : ℕ) (h : n ≤ cfg0.N) (hz : n = 0) : Inv m c n h = Pipeline.ΦD osem0 spec0 H0 (V m) c := by
  subst hz; rfl

theorem Inv_later (c : Dev nD) (n : ℕ) (h : n ≤ cfg0.N) (hz : n ≠ 0) : Inv m c n h = Loaded m c := by
  cases n with
  | zero => exact absurd rfl hz
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dhOut (iblk m c 0 t) (iblk m c 1 t) (iblk m c 2 t) (iblk m c 3 t) (W1 m c) (W2 m c)
    | ⟨5, _⟩ => hnOut (iblk m c 1 t) (iblk m c 2 t)
    | ⟨6, _⟩ => daOut (iblk m c 0 t) (iblk m c 3 t) (W2 m c)
    | ⟨7, _⟩ => dgAt m c t.val t.isLt
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = dhOut (iblk m c 0 t) (iblk m c 1 t) (iblk m c 2 t) (iblk m c 3 t) (W1 m c) (W2 m c) := by
  dsimp only [dats]
theorem left5 (c : Dev nD) (t : Fin cfg0.N) : (dats m 0 c).after 5 t = hnOut (iblk m c 1 t) (iblk m c 2 t) := by dsimp only [dats]
theorem left6 (c : Dev nD) (t : Fin cfg0.N) : (dats m 0 c).after 6 t = daOut (iblk m c 0 t) (iblk m c 3 t) (W2 m c) := by dsimp only [dats]
theorem left7 (c : Dev nD) (t : Fin cfg0.N) : (dats m 0 c).after 7 t = dgAt m c t.val t.isLt := by dsimp only [dats]

theorem found0 (c : Dev nD) (t : Fin cfg0.N) (d) : (dats m 0 c).before 0 t d = iblk m c 0 t := before0_0_of m (dats m 0 c) (A_eq m c 0) (left0 m c) t d
theorem found1 (c : Dev nD) (t : Fin cfg0.N) (d) : (dats m 0 c).before 1 t d = iblk m c 1 t := before0_1_of m (dats m 0 c) (A_eq m c 1) (left1 m c) t d
theorem found2 (c : Dev nD) (t : Fin cfg0.N) (d) : (dats m 0 c).before 2 t d = iblk m c 2 t := before0_2_of m (dats m 0 c) (A_eq m c 2) (left2 m c) t d
theorem found3 (c : Dev nD) (t : Fin cfg0.N) (d) : (dats m 0 c).before 3 t d = iblk m c 3 t := before0_3_of m (dats m 0 c) (A_eq m c 3) (left3 m c) t d

/-- After the first point the gain's buffer holds what the point before left. -/
theorem found7 (c : Dev nD) (t : Fin cfg0.N) (hz : t.val ≠ 0) (d) :
    (dats m 0 c).before 7 t d = dgAt m c (t.val - 1) (Nat.lt_of_le_of_lt (Nat.sub_le _ _) t.isLt) := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body at a point -/

/-- What the body is called with, window by window. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 3200000 in
theorem body (c : Dev nD) (t : Fin cfg0.N) :
    given m c t ⊢ wp frame (wpE (defs₀ (F := F)) Variants.none c none) Set.univ (bodyAt0 t) (fun _ => returned m c t) := by
  unfold given returned bodyAt0
  simp only [found0, found1, found2, found3]
  rw [show (dats m 0 c).Φ t.succ = Loaded m c from rfl, left0, left1, left2, left3, left4, left5, left6, left7, Inv_castSucc m c t]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · rw [Inv_first m c _ _ hz, PhiD0_eq, dgAt_first m c t hz]
    unfold Loaded
    iintro ⟨⟨⟨HS0, HS1⟩, Hg, Hq, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ _ _ (iblk m c 0 t) (iblk m c 1 t) (iblk m c 2 t) (iblk m c 3 t)
      ((hcond0_0 t).mpr (by omega)) ((hcond0_1 t).mpr (by omega)) (V m c main_v2) (V m c main_v3) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [Hq]; · iexact Hq
    isplitl [Hh0]; · iexact Hh0
    isplitl [Hh1]; · iexact Hh1
    isplitl [HW]; · iexact HW
    unfold left
    iintro ⟨⟨H0, H1, H2, H3, H4, H5, H6, H7, HS0, HS1⟩, Hq, Hh0, Hh1, ⟨%W', HW'⟩⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Inv_later m c _ _ hz, dgAt_later m c t hz]
    simp only [found7 m c t hz]
    unfold Loaded
    iintro ⟨⟨⟨HS0, HS1⟩, HR⟩, HW, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ _ _ (iblk m c 0 t) (iblk m c 1 t) (iblk m c 2 t) (iblk m c 3 t)
      (fun h => absurd ((hcond0_0 t).mp h) (by omega)) (fun h => absurd ((hcond0_1 t).mp h) (by omega)) _ (W1 m c) (W2 m c) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [HS0]; · iexact HS0
    isplitl [HS1]; · iexact HS1
    unfold left
    iintro ⟨H0, H1, H2, H3, H4, H5, H6, H7, HS0, HS1⟩
    isplitl [HS0 HS1 HR]
    · isplitl [HS0 HS1]
      · isplitl [HS0]; · iexact HS0
        iexact HS1
      iexact HR
    isplitl [HW]
    · icases HW with ⟨%W, -, HW⟩
      iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem entered (c : Dev nD) : Pipeline.ΦD osem0 spec0 H0 (V m) c ⊢ (dats m 0 c).Φ 0 := by
  rw [show (dats m 0 c).Φ 0 = Inv m c 0 (Nat.zero_le _) from rfl, Inv_first m c 0 _ rfl]

theorem exited (c : Dev nD) : (dats m 0 c).Φ (Fin.last cfg0.N) ⊢ Pipeline.ΦD osem0 spec0 H0 (V m) c := by
  rw [show (dats m 0 c).Φ (Fin.last cfg0.N) = Loaded m c from rfl, PhiD0_eq]
  unfold Loaded
  iintro ⟨⟨HS0, HS1⟩, HR⟩
  isplitl [HS0 HS1]
  · isplitl [HS0]
    · iexists _; iexact HS0
    iexists _; iexact HS1
  iexact HR

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := entered m) (hout := exited m)

theorem run_arrays : θ_run defs (onTc (τ := τ) (main (F := F))) (s₀ m ρ) (Pipeline.FramePost cfgs (dats m) 0 (V m)) :=
  (θ_run defs _ _).mono (fun _ h => h.1) (run_quiet m ρ)

/-- The frame: the run ends, the arguments unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiet m ρ))

end Cert.MlpIdeal.Hand

end
-- ==== Proof.MlpKernel.lean ====
/- The gradient of the feed-forward layer, kernel side: what the four arrays hold after the sixteen points. -/
module

public import proofs.«01_k».proof.Proof.MlpFrame
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The argument arrays. -/
abbrev H (c : Dev nD) : Vec Ideal S8192x1024 .f32 := m ((c : Thread nD τ).loc main_arg0)
abbrev G (c : Dev nD) : Vec Ideal S1024 .f32 := m ((c : Thread nD τ).loc main_arg1)
abbrev Wu (c : Dev nD) : Vec Ideal S1024x4096 .f32 := m ((c : Thread nD τ).loc main_arg2)
abbrev Wd (c : Dev nD) : Vec Ideal S4096x1024 .f32 := m ((c : Thread nD τ).loc main_arg3)
abbrev Ct (c : Dev nD) : Vec Ideal S8192x1024 .f32 := m ((c : Thread nD τ).loc main_arg4)

abbrev w2 : EReal := Ideal.ofBits .f32 0x40000000#32
abbrev w1024 : EReal := Ideal.ofBits .f32 0x44800000#32
abbrev weps : EReal := Ideal.ofBits .f32 0x358637BD#32

/-- A row divided by its root mean square. -/
def xhat (c : Dev nD) (r : Fin 8192) (k : Fin 1024) : EReal := H m c (ix2 r k) * Rms.rinv w1024 weps fun j : Fin 1024 => H m c (ix2 r j)

/-- The hidden layer before its activation. -/
def hid (c : Dev nD) (r : Fin 8192) (j : Fin 4096) : EReal := ∑ x : Fin 1024, xhat m c r x * G m c (ix1 x) * Wu m c (ix2 x j)

/-- The cotangent of the hidden layer, as the kernel takes it from the saved squares. -/
def da (c : Dev nD) (r : Fin 8192) (j : Fin 4096) : EReal :=
  (∑ k : Fin 1024, Ct m c (ix2 r k) * Wd m c (ix2 j k)) * (w2 * Ideal.sqrt (max (hid m c r j) 0 * max (hid m c r j) 0))

/-- The cotangent of the norm's output. -/
def dhn (c : Dev nD) (r : Fin 8192) (k : Fin 1024) : EReal := ∑ j : Fin 4096, da m c r j * Wu m c (ix2 k j)

/-- The four results. -/
def dhArr (c : Dev nD) : Vec Ideal S8192x1024 .f32 := fun i => Ct m c i
  + Rms.dx w1024 weps (fun j : Fin 1024 => H m c (ix2 (i 0) j)) (fun j : Fin 1024 => dhn m c (i 0) j * G m c (ix1 j)) (i 1)
def hnArr (c : Dev nD) : Vec Ideal S8192x1024 .bf16 := fun i => xhat m c (i 0) (i 1) * G m c (ix1 (i 1))
def daArr (c : Dev nD) : Vec Ideal S8192x4096 .bf16 := fun i => da m c (i 0) (i 1)
def dgArr (c : Dev nD) : Vec Ideal S1x1024 .f32 := fun i => ∑ R : Fin 8192, dhn m c R (i 1) * xhat m c R (i 1)

theorem lt16 (t : Fin cfg0.grid.N) : t.val < 16 := by have h : cfg0.grid.N = 16 := N_0; have := t.isLt; omega

/-- Row `r` of tile `t`. -/
def tileRow (t : ℕ) (ht : t < 16) (r : Fin 512) : Fin 8192 := ⟨t * 512 + r.val, by omega⟩

/-- Column `k` of chunk `d` of the hidden layer. -/
def hcol (d : Fin 4) (k : Fin 1024) : Fin 4096 := ⟨d.val * 1024 + k.val, by omega⟩

theorem blk0 (c : Dev nD) (t : Fin cfg0.N) (r : Fin 512) (k : Fin 1024) :
    (iblk m c 0 t : Vec Ideal S512x1024 .f32) (ix2 r k) = Ct m c (ix2 (tileRow t.val (lt16 t) r) k) := by
  unfold tileRow; blk_ext [iblk, V_main_arg4, idx t]

theorem blk1 (c : Dev nD) (t : Fin cfg0.N) (r : Fin 512) (k : Fin 1024) :
    (iblk m c 1 t : Vec Ideal S512x1024 .f32) (ix2 r k) = H m c (ix2 (tileRow t.val (lt16 t) r) k) := by
  unfold tileRow; blk_ext [iblk, V_main_arg0, idx t]

theorem blk2 (c : Dev nD) (t : Fin cfg0.N) (k : Fin 1024) :
    (iblk m c 2 t : Vec Ideal S1x1024 .f32) (ix2 0 k) = G m c (ix1 k) := by
  have e : ((cfg0.win 2).blk t).view.emb (ix2 0 k) = ix2 0 k := by blk_ext [idx t]
  unfold iblk
  rw [View.read_apply]
  refine (congrArg (V m c main_v21) e).trans ?_
  unfold V
  simp only [hostOps0, hostOps0_1, hostOps0_2, List.flatten_cons, List.flatten_nil, List.append_nil, List.cons_append, List.nil_append]
  entry_read
  pointwise

theorem blk3 (c : Dev nD) (t : Fin cfg0.N) (r : Fin 512) (k : Fin 4096) :
    (iblk m c 3 t : Vec Ideal S512x4096 .bf16) (ix2 r k)
      = max (hid m c (tileRow t.val (lt16 t) r) k) 0 * max (hid m c (tileRow t.val (lt16 t) r) k) 0 := by
  have e : ((cfg0.win 3).blk t).view.emb (ix2 r k) = ix2 (tileRow t.val (lt16 t) r) k := by unfold tileRow; blk_ext [idx t]
  unfold iblk
  rw [View.read_apply]
  refine (congrArg (V m c main_v20) e).trans ?_
  unfold V
  simp only [hostOps0, hostOps0_1, hostOps0_2, List.flatten_cons, List.flatten_nil, List.append_nil, List.cons_append, List.nil_append]
  entry_read
  simp only [StableHlo.TRef.toBuf, StableHlo.TRef.ofBuf, cast_eq]
  pointwise
  rfl

/-- The second weight in its buffer. -/
theorem W2_apply (c : Dev nD) (j : Fin 4096) (k : Fin 1024) : W2 m c (ix2 j k) = Wd m c (ix2 j k) := by
  unfold W2 w2Of
  show V m c main_v3 (ix2 j k) = _
  unfold V
  simp only [hostOps0, hostOps0_1, hostOps0_2, List.flatten_cons, List.flatten_nil, List.append_nil, List.cons_append, List.nil_append]
  entry_read
  pointwise

/-- The first weight's eight column shards, as the host lays them out. -/
theorem V2_apply (c : Dev nD) (d : Fin 8) (i : Fin 1024) (k : Fin 512) :
    V m c main_v2 (ix3 d i k) = Wu m c (ix2 i ⟨d.val * 512 + k.val, by omega⟩) := by
  unfold V
  simp only [hostOps0, hostOps0_1, hostOps0_2, List.flatten_cons, List.flatten_nil, List.append_nil, List.cons_append, List.nil_append]
  entry_read
  pointwise

/-- The leading axis of one element dropped. -/
theorem drop_lead (g : Vec Ideal S1x1024x512 .bf16) (hc : S1x1024x512.ShapeCasts S1024x512) (i : Fin 1024) (k : Fin 512) :
    shapeCast S1024x512 g hc (ix2 i k) = g (ix3 0 i k) := by pointwise

/-- A shard as a copy reads it. -/
theorem shard_read {c : Dev nD} (f : HbBuf0 (F := Ideal) c hbM0_0) (d : Fin 8) (o : ℕ) (ho : o = d.val)
    (h : ∀ a, (![o, 0, 0] : Fin 3 → ℕ) a + S1x1024x512.size a ≤ S8x1024x512.size a) (i : Fin 1024) (k : Fin 512) :
    shard f o h (ix2 i k) = (f : Vec Ideal S8x1024x512 .bf16) (ix3 d i k) := by
  subst ho
  have hc : S1x1024x512.ShapeCasts S1024x512 := by decide
  refine (congrFun (Memref.read_squeeze_slice (Memref.whole main_v2) _ _ _ hc f) (ix2 i k)).trans ?_
  refine (drop_lead _ hc i k).trans ?_
  refine congrArg f (funext fun q => Fin.ext ?_)
  refine (Rect.idx_unit_val _ _ _ _ q).trans ?_
  fin_cases q <;> simp

/-- Shard `d` of the first weight, as a copy reads it. -/
theorem shard_apply (c : Dev nD) (d : Fin 8) (o : ℕ) (ho : o = d.val) (h : ∀ a, (![o, 0, 0] : Fin 3 → ℕ) a + S1x1024x512.size a ≤ S8x1024x512.size a)
    (i : Fin 1024) (k : Fin 512) : shard (c := c) (V m c main_v2) o h (ix2 i k) = Wu m c (ix2 i ⟨d.val * 512 + k.val, by omega⟩) :=
  (shard_read _ d o ho h i k).trans (V2_apply m c d i k)

theorem W1_apply (c : Dev nD) (i : Fin 1024) (j : Fin 4096) : W1 m c (ix2 i j) = Wu m c (ix2 i j) := by
  have at_ (d : Fin 8) (o : ℕ) (ho : o = d.val) (h) (x : S1024x512.Idx) (h0 : i.val = (x 0).val) (h1 : j.val = o * 512 + (x 1).val) :
      (ReadAs.same : ReadAs (Elt Ideal) S1024x512 .bf16 S1024x512 .bf16).apply (shard (c := c) (V m c main_v2) o h) x = Wu m c (ix2 i j) := by
    obtain ⟨a, b, rfl⟩ : ∃ (a : Fin 1024) (b : Fin 512), x = ix2 a b := ⟨x 0, x 1, eq_ix2 x⟩
    subst ho
    refine (shard_apply m c d _ rfl h a b).trans (congrArg (Wu m c) ?_)
    exact congrArg₂ (fun (a : Fin 1024) (b : Fin 4096) => ix2 a b) (Fin.ext (by exact h0.symm)) (Fin.ext (by exact h1.symm))
  unfold W1 w1Of
  canon_tiles x hx
  · exact at_ 7 7 rfl _ x hx0 hx1
  · exact at_ 6 6 rfl _ x hx0 hx1
  · exact at_ 5 5 rfl _ x hx0 hx1
  · exact at_ 4 4 rfl _ x hx0 hx1
  · exact at_ 3 3 rfl _ x hx0 hx1
  · exact at_ 2 2 rfl _ x hx0 hx1
  · exact at_ 1 1 rfl _ x hx0 hx1
  · exact at_ 0 0 rfl _ x hx0 (hx1.trans (by simp))

/-! What one point computes, from its blocks. -/

section
variable (x0 x1 : Vec Ideal S512x1024 .f32) (x2 g : Vec Ideal S1x1024 .f32) (x3 : Vec Ideal S512x4096 .bf16)
  (U : Vec Ideal S1024x4096 .bf16) (D : Vec Ideal S4096x1024 .bf16)

/-- One entry of the hidden cotangent. -/
def hidden (r : Fin 512) (j : Fin 4096) : EReal := (∑ k : Fin 1024, x0 (ix2 r k) * D (ix2 j k)) * (w2 * Ideal.sqrt (x3 (ix2 r j)))

theorem rows_apply (d : Fin 4) (o : ℕ) (ho : o = d.val * 1024) (h) (i k : Fin 1024) : rows D o h (ix2 i k) = D (ix2 (hcol d i) k) := by
  subst ho
  refine congrArg D (funext fun q => Fin.ext ?_)
  refine (Rect.idx_unit_val _ _ _ _ q).trans ?_
  fin_cases q
  · simp [hcol]
  · simp [hcol]
theorem cols_apply (d : Fin 4) (o : ℕ) (ho : o = d.val * 1024) (h) (i k : Fin 1024) : cols U o h (ix2 i k) = U (ix2 i (hcol d k)) := by
  subst ho
  refine congrArg U (funext fun q => Fin.ext ?_)
  refine (Rect.idx_unit_val _ _ _ _ q).trans ?_
  fin_cases q
  · simp [hcol]
  · simp [hcol]
theorem acts_apply (d : Fin 4) (o : ℕ) (ho : o = d.val * 1024) (h) (i : Fin 512) (k : Fin 1024) : acts x3 o h (ix2 i k) = x3 (ix2 i (hcol d k)) := by
  subst ho
  refine congrArg x3 (funext fun q => Fin.ext ?_)
  refine (Rect.idx_unit_val _ _ _ _ q).trans ?_
  fin_cases q
  · simp [hcol]
  · simp [hcol]

theorem pay3_apply (v9 : Vec Ideal S1024x1024 .bf16) (v11 : Vec Ideal S512x1024 .bf16) (r : Fin 512) (k : Fin 1024) :
    k0_pay3 x0 v9 v11 (ix2 r k) = (∑ x : Fin 1024, x0 (ix2 r x) * v9 (ix2 k x)) * (w2 * Ideal.sqrt (v11 (ix2 r k))) := by
  unfold_payloads; pointwise
theorem pay6_apply (v9 : Vec Ideal S1024x1024 .bf16) (v11 : Vec Ideal S512x1024 .bf16) (r : Fin 512) (k : Fin 1024) :
    k0_pay6 (k0_pay5 x0 v9 v11) (ix2 r k) = (∑ x : Fin 1024, x0 (ix2 r x) * v9 (ix2 k x)) * (w2 * Ideal.sqrt (v11 (ix2 r k))) := by
  unfold_payloads; pointwise
theorem pay7_apply (v9 : Vec Ideal S1024x1024 .bf16) (v11 : Vec Ideal S512x1024 .bf16) (r : Fin 512) (k : Fin 1024) :
    k0_pay7 (k0_pay2 x0) v9 v11 (ix2 r k) = (∑ x : Fin 1024, x0 (ix2 r x) * v9 (ix2 k x)) * (w2 * Ideal.sqrt (v11 (ix2 r k))) := by
  unfold_payloads; pointwise
theorem pay9_apply (v9 : Vec Ideal S1024x1024 .bf16) (v11 : Vec Ideal S512x1024 .bf16) (r : Fin 512) (k : Fin 1024) :
    k0_pay9 (k0_pay2 x0) v9 v11 (ix2 r k) = (∑ x : Fin 1024, x0 (ix2 r x) * v9 (ix2 k x)) * (w2 * Ideal.sqrt (v11 (ix2 r k))) := by
  unfold_payloads; pointwise

theorem pay10_apply (a : Vec Ideal S512x1024 .f32) (b : Vec Ideal S512x1024 .bf16) (v : Vec Ideal S1024x1024 .bf16) (r : Fin 512) (k : Fin 1024) :
    k0_pay10 a b v (ix2 r k) = a (ix2 r k) + ∑ j : Fin 1024, b (ix2 r j) * v (ix2 k j) := by
  unfold k0_pay10; pointwise

theorem pay8_apply (a : Vec Ideal S512x1024 .f32) (b : FVec Ideal S512x1024 .f32) (v v' w : Vec Ideal S1024x1024 .bf16)
    (y : Vec Ideal S512x1024 .bf16) (e : Vec Ideal S512x1024 .bf16) (he : k0_pay7 (k0_pay2 x0) v' y = e) (r : Fin 512) (k : Fin 1024) :
    k0_pay8 (k0_pay2 x0) a b v v' y w (ix2 r k)
      = a (ix2 r k) + ∑ j : Fin 1024, k0_pay6 (F := Ideal) b (ix2 r j) * v (ix2 k j) + ∑ j : Fin 1024, e (ix2 r j) * w (ix2 k j) := by
  unfold k0_pay8; rw [he]; generalize k0_pay6 b = b'; pointwise

theorem pay4_apply (v9 w : Vec Ideal S1024x1024 .bf16) (v11 : Vec Ideal S512x1024 .bf16) (r : Fin 512) (k : Fin 1024) :
    k0_pay4 x0 v9 v11 w (ix2 r k) = ∑ j : Fin 1024, k0_pay3 x0 v9 v11 (ix2 r j) * w (ix2 k j) := by
  unfold k0_pay4; generalize k0_pay3 x0 v9 v11 = b'; pointwise

theorem dhn_block (r : Fin 512) (k : Fin 1024) :
    k0_pay10 (dhn3 x0 x3 U D) (da3 x0 x3 D) (cols U 3072 inb_S1024x4096_S1024x1024_0_3072) (ix2 r k)
      = ∑ j : Fin 4096, hidden x0 x3 D r j * U (ix2 k j) := by
  refine (pay10_apply _ _ _ r k).trans ?_
  rw [show dhn3 x0 x3 U D (ix2 r k) = _ from pay8_apply x0 _ _ _ _ _ _ _ rfl r k, pay4_apply]
  simp only [pay3_apply, pay6_apply, pay7_apply, pay9_apply, rows_apply D 0 0 rfl, rows_apply D 1 1024 rfl, rows_apply D 2 2048 rfl,
    rows_apply D 3 3072 rfl, cols_apply U 0 0 rfl, cols_apply U 1 1024 rfl, cols_apply U 2 2048 rfl, cols_apply U 3 3072 rfl,
    acts_apply x3 0 0 rfl, acts_apply x3 1 1024 rfl, acts_apply x3 2 2048 rfl, acts_apply x3 3 3072 rfl]
  refine Eq.trans ?_ (sum_tiles 4 1024 4096 rfl (fun j => hidden x0 x3 D r j * U (ix2 k j))).symm
  rw [Fin.sum_univ_four]
  rfl

theorem dh_block (d : Vec Ideal S512x1024 .f32)
    (hd : k0_pay10 (dhn3 x0 x3 U D) (da3 x0 x3 D) (cols U 3072 inb_S1024x4096_S1024x1024_0_3072) = d) (r : Fin 512) (k : Fin 1024) :
    dhOut x0 x1 x2 x3 U D (ix2 r k)
      = x0 (ix2 r k) + Rms.dx w1024 weps (fun j : Fin 1024 => x1 (ix2 r j)) (fun j : Fin 1024 => d (ix2 r j) * x2 (ix2 0 j)) k := by
  unfold dhOut k0_pay14 k0_pay13 k0_pay12 k0_pay11
  rw [hd]
  pointwise
  rfl

theorem dg_block (d : Vec Ideal S512x1024 .f32)
    (hd : k0_pay10 (dhn3 x0 x3 U D) (da3 x0 x3 D) (cols U 3072 inb_S1024x4096_S1024x1024_0_3072) = d) (k : Fin 1024) :
    dgOut x0 x1 g x3 U D (ix2 0 k)
      = g (ix2 0 k) + ∑ r : Fin 512, d (ix2 r k) * (x1 (ix2 r k) * Rms.rinv w1024 weps fun j : Fin 1024 => x1 (ix2 r j)) := by
  unfold dgOut k0_pay15 k0_pay13 k0_pay11
  rw [hd]
  pointwise
  rfl

theorem hn_block (r : Fin 512) (k : Fin 1024) :
    hnOut x1 x2 (ix2 r k) = (x1 (ix2 r k) * Rms.rinv w1024 weps fun j : Fin 1024 => x1 (ix2 r j)) * x2 (ix2 0 k) := by
  unfold hnOut
  unfold_payloads
  pointwise
  rfl

theorem da_block (r : Fin 512) (j : Fin 4096) : daOut x0 x3 D (ix2 r j) = hidden x0 x3 D r j := by
  have at_ (d : Fin 4) (x : S512x1024.Idx) (p : EReal) (h0 : r.val = (x 0).val) (h1 : j.val = d.val * 1024 + (x 1).val)
      (hp : ∀ (a : Fin 512) (b : Fin 1024), x = ix2 a b → p = hidden x0 x3 D a (hcol d b)) : p = hidden x0 x3 D r j := by
    refine (hp (x 0) (x 1) (eq_ix2 x)).trans ?_
    congr 1
    · exact Fin.ext h0.symm
    · exact Fin.ext h1.symm
  unfold daOut
  canon_tiles x hx
  · refine at_ 3 x _ hx0 hx1 ?_
    rintro a b rfl
    refine (pay9_apply _ _ _ a b).trans ?_
    simp only [rows_apply D 3 3072 rfl, acts_apply x3 3 3072 rfl]
    rfl
  · refine at_ 2 x _ hx0 hx1 ?_
    rintro a b rfl
    refine (pay7_apply _ _ _ a b).trans ?_
    simp only [rows_apply D 2 2048 rfl, acts_apply x3 2 2048 rfl]
    rfl
  · refine at_ 1 x _ hx0 hx1 ?_
    rintro a b rfl
    refine (pay6_apply _ _ _ a b).trans ?_
    simp only [rows_apply D 1 1024 rfl, acts_apply x3 1 1024 rfl]
    rfl
  · refine at_ 0 x _ hx0 (hx1.trans (by simp)) ?_
    rintro a b rfl
    refine (pay3_apply _ _ _ a b).trans ?_
    simp only [rows_apply D 0 0 rfl, acts_apply x3 0 0 rfl]
    rfl
end

/-- A tile's hidden cotangent. -/
theorem hidden_tile (c : Dev nD) (t : Fin cfg0.N) (r : Fin 512) (j : Fin 4096) :
    hidden (iblk m c 0 t) (iblk m c 3 t) (W2 m c) r j = da m c (tileRow t.val (lt16 t) r) j := by
  unfold hidden
  simp only [blk0, blk3, W2_apply]
  rfl

/-- A tile's cotangent of the norm's output. -/
theorem dhn_tile (c : Dev nD) (t : Fin cfg0.N) (r : Fin 512) (k : Fin 1024) :
    k0_pay10 (dhn3 (iblk m c 0 t) (iblk m c 3 t) (W1 m c) (W2 m c)) (da3 (iblk m c 0 t) (iblk m c 3 t) (W2 m c))
      (cols (W1 m c) 3072 inb_S1024x4096_S1024x1024_0_3072) (ix2 r k) = dhn m c (tileRow t.val (lt16 t) r) k := by
  refine (dhn_block _ _ _ _ r k).trans ?_
  show _ = ∑ j : Fin 4096, da m c (tileRow t.val (lt16 t) r) j * Wu m c (ix2 k j)
  exact Finset.sum_congr rfl fun j _ => congrArg₂ (fun a b : EReal => a * b) (hidden_tile m c t r j) (W1_apply m c k j)

theorem final4 (c : Dev nD) : (dats m 0 c).arrAt 4 cfg0.N = dhArr m c := by
  refine (dats m 0 c).arrAt_eq_of_covers 4 _ (by decide +kernel) fun t hf y => ?_
  blk_simp
  rw [left4]
  obtain ⟨r, k, rfl⟩ : ∃ (r : Fin 512) (k : Fin 1024), y = ix2 r k := ⟨y 0, y 1, eq_ix2 y⟩
  have ey : ((View.whole main_v22_0).slice (win0_4.rect t)).emb (ix2 r k) = ix2 (tileRow t.val (lt16 t) r) k := by
    unfold tileRow; blk_ext [idx t]
  rw [ey]
  refine (dh_block _ _ _ _ _ _ _ rfl r k).trans ?_
  simp only [dhn_tile, blk0, blk1, blk2, dhArr]
  rfl

theorem final5 (c : Dev nD) : (dats m 0 c).arrAt 5 cfg0.N = hnArr m c := by
  refine (dats m 0 c).arrAt_eq_of_covers 5 _ (by decide +kernel) fun t hf y => ?_
  blk_simp
  rw [left5]
  obtain ⟨r, k, rfl⟩ : ∃ (r : Fin 512) (k : Fin 1024), y = ix2 r k := ⟨y 0, y 1, eq_ix2 y⟩
  have ey : ((View.whole main_v22_1).slice (win0_5.rect t)).emb (ix2 r k) = ix2 (tileRow t.val (lt16 t) r) k := by
    unfold tileRow; blk_ext [idx t]
  rw [ey]
  refine (hn_block _ _ r k).trans ?_
  simp only [blk1, blk2, hnArr]
  rfl

theorem final6 (c : Dev nD) : (dats m 0 c).arrAt 6 cfg0.N = daArr m c := by
  refine (dats m 0 c).arrAt_eq_of_covers 6 _ (by decide +kernel) fun t hf y => ?_
  blk_simp
  rw [left6]
  obtain ⟨r, k, rfl⟩ : ∃ (r : Fin 512) (k : Fin 4096), y = ix2 r k := ⟨y 0, y 1, eq_ix2 y⟩
  have ey : ((View.whole main_v22_2).slice (win0_6.rect t)).emb (ix2 r k) = ix2 (tileRow t.val (lt16 t) r) k := by
    unfold tileRow; blk_ext [idx t]
  rw [ey]
  exact (da_block _ _ _ r k).trans (hidden_tile m c t r k)

/-- One tile's part of the gain's gradient. -/
def dgTerm (c : Dev nD) (t : Fin cfg0.N) (k : Fin 1024) : EReal :=
  ∑ r : Fin 512, dhn m c (tileRow t.val (lt16 t) r) k * xhat m c (tileRow t.val (lt16 t) r) k

theorem dgStep_apply (c : Dev nD) (t : Fin cfg0.N) (acc : Vec Ideal S1x1024 .f32) (k : Fin 1024) :
    dgStep m c t acc (ix2 0 k) = acc (ix2 0 k) + dgTerm m c t k := by
  refine (dg_block _ _ _ _ _ _ _ rfl k).trans ?_
  simp only [dhn_tile, blk1]
  rfl

theorem dg_last (c : Dev nD) (k : Fin 1024) :
    dgAt m c t0_15.val t0_15.isLt (ix2 0 k) = 0 + ∑ p : Fin cfg0.N, dgTerm m c p k := by
  refine Pipeline.eq_sum_fin_of_reset_step_apply_last (N := cfg0.N) (fun n h (k : Fin 1024) => dgAt m c n h (ix2 0 k)) 16 (fun _ => 0)
    (dgTerm m c) (fun t h k => ?_) (fun t h k => ?_) (by decide) t0_15 rfl k
  · have := lt16 t
    refine (congrFun (dgAt_first m c t (by omega)) _).trans ((dgStep_apply m c t _ k).trans ?_)
    congr 1
    unfold_payloads
    pointwise
  · exact (congrFun (dgAt_later m c t (by omega)) _).trans (dgStep_apply m c t _ k)

theorem final7 (c : Dev nD) : (dats m 0 c).arrAt 7 cfg0.N = dgArr m c := by
  refine (dats m 0 c).arrAt_eq_of_after_last 7 t0_15 (by decide +kernel) _ fun j => ?_
  blk_simp
  rw [left7]
  obtain ⟨r, k, rfl⟩ : ∃ (r : Fin 1) (k : Fin 1024), j = ix2 r k := ⟨j 0, j 1, eq_ix2 j⟩
  obtain rfl : r = 0 := Subsingleton.elim _ _
  refine (dg_last m c k).trans ?_
  rw [zero_add]
  refine Eq.trans ?_ (sum_tiles 16 512 8192 rfl (fun R => dhn m c R k * xhat m c R k)).symm
  rfl

/-- The run: the three arrays and the gain's gradient, the arguments unchanged. -/
theorem run : θ_run defs (onTc (τ := τ) (main (F := Ideal))) ⟨m, fun _ => 0, ρ⟩ fun r => ∀ c : Dev nD,
      r.2.mem ((c : Thread nD τ).loc main_v22_0) = dhArr m c
      ∧ r.2.mem ((c : Thread nD τ).loc main_v22_1) = hnArr m c
      ∧ r.2.mem ((c : Thread nD τ).loc main_v22_2) = daArr m c
      ∧ r.2.mem ((c : Thread nD τ).loc main_v22_3) = dgArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 4).trans (final4 m c), ((h.1 c).1 5).trans (final5 m c), ((h.1 c).1 6).trans (final6 m c),
      ((h.1 c).1 7).trans (final7 m c), h.2.1 c⟩)
    (θ_run_and (run_arrays m ρ) (frame_main m ρ))

end Cert.MlpIdeal.Hand

end
-- ==== Proof.Mlp.lean ====
module

public import proofs.«01_k».proof.Defs
public import proofs.«01_k».proof.Proof.Gen.Mlp
public import proofs.«01_k».proof.Proof.Gen.MlpRefIdeal.Run
public import proofs.«01_k».proof.Proof.MlpKernel

@[expose] public section

set_option maxRecDepth 16384

noncomputable section

open Idealize.ShloMosaic Idealize.ShloMosaic.TcCoe Idealize.SL.Sem

namespace Cert.Proof.Mlp

open Cert.MlpRefIdeal Cert.MlpRefIdeal.Gen Cert.MlpRefIdeal.Value Cert.Reals Cert.Rms
open Cert.MlpIdeal.Hand (H G Wu Wd Ct hid dhn xhat)

/-- The side conditions of the precondition's function. -/
instance pre_facts : Cert.Pre_mlp_finite.Facts := by constructor <;> decide

variable (m : (ℓ : Loc Cert.MlpIdeal.nD Cert.MlpIdeal.τ Cert.MlpIdeal.sig) → Buf (Elt Ideal) ℓ)
  (m' : (ℓ : Loc nD τ sig) → Buf (Elt Ideal) ℓ)

/-- The arguments of the precondition are numbers. -/
structure Real (c : Dev nD) : Prop where
  h : ∀ r k, IsReal (H m c (ix2 r k))
  g : ∀ k, IsReal (G m c (ix1 k))
  wu : ∀ r k, IsReal (Wu m c (ix2 r k))
  wd : ∀ r k, IsReal (Wd m c (ix2 r k))
  ct : ∀ r k, IsReal (Ct m c (ix2 r k))

theorem real_of_pre (h : Cert.Pre_MlpIdeal_mlp_finite m) (c : Dev nD) : Real m c := by
  obtain ⟨h0, h1, h2, h3, h4⟩ := h c
  dsimp only [Cert.Pre_mlp_finite.fn] at h0 h1 h2 h3 h4
  refine ⟨fun r k => ?_, fun k => ?_, fun r k => ?_, fun r k => ?_, fun r k => ?_⟩
  · have := congrFun h0 (ix2 r k); revert this; pointwise; exact real_of_word
  · have := congrFun h1 (ix1 k); revert this; pointwise; exact real_of_word
  · have := congrFun h2 (ix2 r k); revert this; pointwise; exact real_of_word
  · have := congrFun h3 (ix2 r k); revert this; pointwise; exact real_of_word
  · have := congrFun h4 (ix2 r k); revert this; pointwise; exact real_of_word

/-- The kernel over the words has the text of the kernel over the extended reals. -/
theorem frame : Cert.quiescent_Mlp := fun m ρ _ => Eq.mp (by sl_kernel_rfl) (Cert.MlpIdeal.Hand.frame_main (F := Bits) m ρ)
theorem frame_ideal : Cert.quiescent_MlpIdeal := fun m ρ _ => Cert.MlpIdeal.Hand.frame_main m ρ
theorem frame_ideal_pre : Cert.quiescent_MlpIdeal_pre_mlp_finite := fun m ρ _ => Cert.MlpIdeal.Hand.frame_main m ρ
theorem frame_ref : Cert.quiescent_MlpRefIdeal := fun m ρ _ =>
  (θ_run Cert.MlpRefIdeal.defs _ _).mono (fun r h => ⟨fun c => (h c).2.2.2.2,
      Idealize.ShloMosaic.sem_eq_zero_of_no_sems (by decide) r.2⟩)
    (Cert.MlpRefIdeal.Value.run (F := Ideal) m ρ)
theorem frame_ref_pre : Cert.quiescent_MlpRefIdeal_pre_mlp_finite := fun m ρ _ => frame_ref m ρ trivial

/-- The square root of a square of a nonnegative number. -/
theorem sqrt_sq {a : EReal} (h : IsReal a) : Ideal.sqrt (max a 0 * max a 0) = max a 0 := by
  obtain ⟨r, rfl⟩ := h
  rw [← EReal.coe_zero, ← EReal.coe_strictMono.monotone.map_max, ← EReal.coe_mul, Ideal.sqrt_coe]
  have : √(max r 0 * max r 0) = max r 0 := Real.sqrt_mul_self (le_max_right r 0)
  rw [if_neg (not_lt.mpr (mul_self_nonneg _)), this]

/-- The hidden cotangent as the derivative writes it. -/
def daRef (c : Dev nD) (r : Fin 8192) (j : Fin 4096) : EReal :=
  if 0 < hid m c r j then (∑ k : Fin 1024, Ct m c (ix2 r k) * Wd m c (ix2 j k)) * (MlpIdeal.Hand.w2 * max (hid m c r j) 0) else 0

theorem real_hid {c : Dev nD} (hR : Real m c) (r : Fin 8192) (j : Fin 4096) : IsReal (hid m c r j) := by
  have hr : IsReal (rinv (Ideal.ofBits .f32 0x44800000#32) (Ideal.ofBits .f32 0x358637BD#32) fun j : Fin 1024 => H m c (ix2 r j)) := by
    rw [Rms.word_1024, word_eps]
    exact real_rinv (by norm_num) eps_pos fun j => hR.h r j
  exact IsReal.sum _ fun x => (((hR.h r x).mul hr).mul (hR.g x)).mul (hR.wu x j)

theorem da_eq {c : Dev nD} (hR : Real m c) (r : Fin 8192) (j : Fin 4096) : daRef m c r j = MlpIdeal.Hand.da m c r j := by
  unfold daRef MlpIdeal.Hand.da
  rw [sqrt_sq (real_hid m hR r j)]
  split
  · rfl
  · rw [max_eq_right (not_lt.mp ‹_›), mul_zero, mul_zero]

theorem real_da {c : Dev nD} (hR : Real m c) (r : Fin 8192) (j : Fin 4096) : IsReal (MlpIdeal.Hand.da m c r j) := by
  unfold MlpIdeal.Hand.da
  rw [sqrt_sq (real_hid m hR r j)]
  have hm : IsReal (max (hid m c r j) 0) := by
    rcases max_choice (hid m c r j) 0 with h | h <;> rw [h]
    · exact real_hid m hR r j
    · exact ⟨0, rfl⟩
  exact (IsReal.sum _ fun k => (hR.ct r k).mul (hR.wd j k)).mul (IsReal.mul ⟨2, word_two⟩ hm)

/-- The cotangent of the norm's output, from the derivative's hidden cotangent. -/
theorem dhn_eq {c : Dev nD} (hR : Real m c) (r : Fin 8192) (k : Fin 1024) :
    ∑ j : Fin 4096, daRef m c r j * Wu m c (ix2 k j) = dhn m c r k := by
  simp only [da_eq m hR]
  rfl

set_option maxHeartbeats 1000000 in
theorem algebraic : Cert.algebraic_MlpIdeal_MlpRefIdeal_pre_mlp_finite := by
  intro m g m' g' hp h
  refine ⟨fun c => MlpIdeal.Hand.dhArr m c, fun c => MlpIdeal.Hand.hnArr m c, fun c => MlpIdeal.Hand.daArr m c,
    fun c => MlpIdeal.Hand.dgArr m c, MlpIdeal.Hand.run m g, ?_⟩
  refine (θ_run Cert.MlpRefIdeal.defs _ _).mono (fun r hr c => ?_) (Cert.MlpRefIdeal.Value.run (F := Ideal) m' g')
  obtain ⟨h1, h2, h3, h4, h5⟩ := hr c
  obtain ⟨e0, e1, e2, e3, e4⟩ := h c
  have hR := real_of_pre m hp c
  have hU : ∀ r j, IsReal (dhn m c r j * G m c (ix1 j)) := fun r j =>
    (IsReal.sum _ fun x => (real_da m hR r x).mul (hR.wu j x)).mul (hR.g j)
  refine ⟨h1.trans ?_, h2.trans ?_, h3.trans ?_, h4.trans ?_, h5⟩
  · funext i
    obtain ⟨r, k, rfl⟩ : ∃ (r : Fin 8192) (k : Fin 1024), i = ix2 r k := ⟨i 0, i 1, eq_ix2 i⟩
    pointwise [res_main_v54]
    simp only [e0, e1, e2, e3, e4, Fin.sum_univ_one]
    refine congrArg (Ct m c (ix2 r k) + ·) ?_
    show _ = Rms.dx _ _ (fun j : Fin 1024 => H m c (ix2 r j)) (fun j : Fin 1024 => dhn m c r j * G m c (ix1 j)) k
    rw [dx_eq_1024 (x := fun j : Fin 1024 => H m c (ix2 r j)) (u := fun j : Fin 1024 => dhn m c r j * G m c (ix1 j))
      (fun j => hR.h r j) (fun j => hU r j) k]
    simp only [← dhn_eq m hR]
    rfl
  · funext i
    obtain ⟨r, k, rfl⟩ : ∃ (r : Fin 8192) (k : Fin 1024), i = ix2 r k := ⟨i 0, i 1, eq_ix2 i⟩
    pointwise
    simp only [e0, e1, e2, e3, e4, Fin.sum_univ_one]
    rfl
  · funext i
    obtain ⟨r, k, rfl⟩ : ∃ (r : Fin 8192) (k : Fin 4096), i = ix2 r k := ⟨i 0, i 1, eq_ix2 i⟩
    pointwise
    simp only [e0, e1, e2, e3, e4, Fin.sum_univ_one]
    exact da_eq m hR r k
  · funext i
    obtain ⟨r, k, rfl⟩ : ∃ (r : Fin 1) (k : Fin 1024), i = ix2 r k := ⟨i 0, i 1, eq_ix2 i⟩
    pointwise
    simp only [e0, e1, e2, e3, e4, Fin.sum_univ_one]
    show _ = ∑ R : Fin 8192, dhn m c R k * xhat m c R k
    refine Finset.sum_congr rfl fun x _ => ?_
    rw [mul_comm, ← dhn_eq m hR]
    rfl

end Cert.Proof.Mlp

end
-- ==== Proof.GmlpKernel.lean ====
/- The gradient of the gated mixing of chunks, kernel side: what the five arrays hold after the sixteen points. -/
module

public import proofs.«01_k».proof.Proof.Gen.GmlpIdeal.Value
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.GmlpIdeal.Hand

open Cert.GmlpIdeal Cert.GmlpIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![0, 0, 0] ∧ win0_8.index t = ![0, 0, 0] ∧ win0_9.index t = ![0, 0] ∧ win0_10.index t = ![0, 0] :=
  (by decide +kernel : ∀ t : Fin grid0.N, _)

/-! One head's share of a tile, as the body computes it: `zs` and `gs` are the head's 128 lanes of the activation and of its derivative (lanes
below 64 the gate's side, the others the side that is normalised and mixed), `g`, `b` the norm's rows, `w` the mixing matrix, `bs` its bias,
`dy` the cotangent in the lanes below 64. -/

abbrev hiMask : IVec S512x128 1 := cmpi .sge (iota .tc S512x128 32 [1] iota_S512x128_d1_w32) (broadcast S512x128 64#32)
abbrev loMask : IVec S512x128 1 := cmpi .slt (iota .tc S512x128 32 [1] iota_S512x128_d1_w32) (broadcast S512x128 64#32)
abbrev zero512 : FVec Ideal S512x128 .f32 := broadcast S512x128 (Scalar.ofBits .f32 0x00000000#32)
abbrev zero128 : FVec Ideal S128x128 .f32 := broadcast S128x128 (Scalar.ofBits .f32 0x00000000#32)
abbrev inv64 : FVec Ideal S512x1 .f32 := broadcast S512x1 (Scalar.ofBits .f32 0x3C800000#32)

/-- A row's sum over its lanes. -/
abbrev laneSum (x : FVec Ideal S512x128 .f32) : FVec Ideal S512x1 .f32 :=
  shapeCast S512x1 (multiReduction .add [1] S512 x 0x00000000#32 reduces_S512x128_S512 (.inl rfl) rfl) shapeCasts_S512_S512x1
/-- A column's sum over the tile's rows. -/
abbrev rowSum (x : FVec Ideal S512x128 .f32) : FVec Ideal S1x128 .f32 :=
  shapeCast S1x128 (multiReduction .add [0] S128 x 0x00000000#32 reduces_S512x128_S128 (.inl rfl) rfl) shapeCasts_S128_S1x128
abbrev wide (x : FVec Ideal S512x1 .f32) : FVec Ideal S512x128 .f32 := broadcastTo S512x128 x broadcasts_S512x1_S512x128
abbrev tall (x : FVec Ideal S1x128 .f32) : FVec Ideal S512x128 .f32 := broadcastTo S512x128 x broadcasts_S1x128_S512x128
abbrev row1 (g : Vec Ideal S1x128 .f32) : FVec Ideal S1x128 .f32 := shapeCast S1x128 g shapeCasts_S1x128_S1x128
abbrev mat1 (w : Vec Ideal S1x128x128 .f32) : FVec Ideal S128x128 .f32 := shapeCast S128x128 w shapeCasts_S1x128x128_S128x128
abbrev swap (x : FVec Ideal S512x128 .f32) : FVec Ideal S512x128 .f32 := dynamicRotate 1 64#32 none x rotates_S512x128_d1
abbrev ch0 (x : FVec Ideal S512x128 .f32) : FVec Ideal S128x128 .f32 := extractStridedSlice S128x128 ![0, 0] x slices_S512x128_o0_0_S128x128
abbrev ch1 (x : FVec Ideal S512x128 .f32) : FVec Ideal S128x128 .f32 := extractStridedSlice S128x128 ![128, 0] x slices_S512x128_o128_0_S128x128
abbrev ch2 (x : FVec Ideal S512x128 .f32) : FVec Ideal S128x128 .f32 := extractStridedSlice S128x128 ![256, 0] x slices_S512x128_o256_0_S128x128
abbrev ch3 (x : FVec Ideal S512x128 .f32) : FVec Ideal S128x128 .f32 := extractStridedSlice S128x128 ![384, 0] x slices_S512x128_o384_0_S128x128
abbrev zeroMat : FVec Ideal S128x128 .f32 := constant S128x128 .f32 0x00000000#32
abbrev half (x : FVec Ideal S128x128 .f32) : FVec Ideal S128x128 .bf16 := truncf .bf16 x bitsLt_bf16_f32
abbrev cat (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0
abbrev mm (a b : FVec Ideal S128x128 .f32) : FVec Ideal S128x128 .f32 :=
  matmul dot_S128x128_S128x128_S128x128_1_0_0_1_n_n none (half a) (half b) zeroMat
abbrev mmNt (a b : FVec Ideal S128x128 .f32) : FVec Ideal S128x128 .f32 :=
  matmul dot_S128x128_S128x128_S128x128_1_1_0_0_n_n none (half a) (half b) zeroMat
abbrev mmTn (a b : FVec Ideal S128x128 .f32) : FVec Ideal S128x128 .f32 :=
  matmul dot_S128x128_S128x128_S128x128_0_0_1_1_n_n none (half a) (half b) zeroMat
/-- A square matrix on and below its diagonal. -/
abbrev lower (x : FVec Ideal S128x128 .f32) : FVec Ideal S128x128 .f32 :=
  select (cmpi .sge (iota .tc S128x128 32 [0] iota_S128x128_d0_w32) (iota .tc S128x128 32 [1] iota_S128x128_d1_w32)) x zero128

section
variable (zs gs : FVec Ideal S512x128 .f32) (g b : Vec Ideal S1x128 .f32) (w bs : Vec Ideal S1x128x128 .f32) (dy : FVec Ideal S512x128 .f32)
  (pair : Vec Ideal S512x128 .f32)

/-- The cotangent of an even head, and of an odd one. -/
def dyEven : FVec Ideal S512x128 .f32 := select loMask pair zero512
def dyOdd : FVec Ideal S512x128 .f32 := select loMask (swap pair) zero512

/-- The centred side, its reciprocal deviation, the normalised and the scaled side. -/
def xc : FVec Ideal S512x128 .f32 := select hiMask (subf zs (wide (mulf (laneSum (select hiMask zs zero512)) inv64))) zero512
def rstd : FVec Ideal S512x1 .f32 :=
  rsqrt (addf (mulf (laneSum (mulf (xc zs) (xc zs))) inv64) (broadcast S512x1 (Scalar.ofBits .f32 0x358637BD#32)))
def vhat : FVec Ideal S512x128 .f32 := mulf (xc zs) (wide (rstd zs))
def vn : FVec Ideal S512x128 .f32 := addf (mulf (vhat zs) (tall (row1 g))) (tall (row1 b))
def wm : FVec Ideal S128x128 .f32 := lower (mat1 w)
/-- The mixed side, the cotangent of it, and what it sends back through the mixing. -/
def sv : FVec Ideal S512x128 .f32 := cat (addf (mm (wm w) (ch0 (vn zs g b))) (mat1 bs)) (addf (mm (wm w) (ch1 (vn zs g b))) (mat1 bs))
  (addf (mm (wm w) (ch2 (vn zs g b))) (mat1 bs)) (addf (mm (wm w) (ch3 (vn zs g b))) (mat1 bs))
def dsv : FVec Ideal S512x128 .f32 := swap (mulf dy zs)
def dvn : FVec Ideal S512x128 .f32 :=
  cat (mmTn (wm w) (ch0 (dsv zs dy))) (mmTn (wm w) (ch1 (dsv zs dy))) (mmTn (wm w) (ch2 (dsv zs dy))) (mmTn (wm w) (ch3 (dsv zs dy)))
/-- The tile's parts of the gradients of the mixing matrix, of its bias, of the norm's scale and of its shift. -/
def dwPart : FVec Ideal S128x128 .f32 := addf (addf (addf (addf zero128 (mmNt (ch0 (dsv zs dy)) (ch0 (vn zs g b))))
  (mmNt (ch1 (dsv zs dy)) (ch1 (vn zs g b)))) (mmNt (ch2 (dsv zs dy)) (ch2 (vn zs g b)))) (mmNt (ch3 (dsv zs dy)) (ch3 (vn zs g b)))
abbrev sum128 (x : FVec Ideal S128x128 .f32) : FVec Ideal S128x1 .f32 :=
  shapeCast S128x1 (multiReduction .add [1] S128 x 0x00000000#32 reduces_S128x128_S128 (.inl rfl) rfl) shapeCasts_S128_S128x1
def dbsPart : FVec Ideal S128x1 .f32 := addf (addf (addf (addf (broadcast S128x1 (Scalar.ofBits .f32 0x00000000#32)) (sum128 (ch0 (dsv zs dy))))
  (sum128 (ch1 (dsv zs dy)))) (sum128 (ch2 (dsv zs dy)))) (sum128 (ch3 (dsv zs dy)))
/-- The four accumulations. -/
def dwAcc (acc : Vec Ideal S1x128x128 .f32) : FVec Ideal S1x128x128 .f32 :=
  shapeCast S1x128x128 (addf (mat1 acc) (lower (dwPart zs g b dy))) shapeCasts_S128x128_S1x128x128
def dbsAcc (acc : Vec Ideal S1x128x128 .f32) : FVec Ideal S1x128x128 .f32 :=
  shapeCast S1x128x128 (addf (mat1 acc) (broadcastTo S128x128 (shapeCast S128x1 (dbsPart zs dy) shapeCasts_S128x1_S128x1)
    broadcasts_S128x1_S128x128)) shapeCasts_S128x128_S1x128x128
def dgAcc (acc : Vec Ideal S1x128 .f32) : FVec Ideal S1x128 .f32 := addf (row1 acc) (rowSum (mulf (dvn zs w dy) (vhat zs)))
def dbAcc (acc : Vec Ideal S1x128 .f32) : FVec Ideal S1x128 .f32 := addf (row1 acc) (rowSum (dvn zs w dy))
/-- The gradient of the head's lanes. -/
def dvh : FVec Ideal S512x128 .f32 := mulf (dvn zs w dy) (tall (row1 g))
def dza : FVec Ideal S512x128 .f32 := mulf (addf (mulf dy (swap (sv zs g b w bs)))
  (select loMask zero512 (mulf (wide (rstd zs)) (subf (subf (dvh zs g w dy) (wide (mulf (laneSum (dvh zs g w dy)) inv64)))
    (mulf (vhat zs) (wide (mulf (laneSum (mulf (dvh zs g w dy) (vhat zs))) inv64))))))) gs

end

/-! A head's part of the blocks. -/

def slN : Fin 4 → FVec Ideal S512x512 .f32 → FVec Ideal S512x128 .f32
  | 0, x => extractStridedSlice S512x128 ![0, 0] x slices_S512x512_o0_0_S512x128
  | 1, x => extractStridedSlice S512x128 ![0, 128] x slices_S512x512_o0_128_S512x128
  | 2, x => extractStridedSlice S512x128 ![0, 256] x slices_S512x512_o0_256_S512x128
  | 3, x => extractStridedSlice S512x128 ![0, 384] x slices_S512x512_o0_384_S512x128

def rowN : Fin 4 → Vec Ideal S1x512 .f32 → Vec Ideal S1x128 .f32
  | 0, x => View.ld x (Rect.unit ![0, 0] ![1, 128] inb_S1x512_S1x128_0_0)
  | 1, x => View.ld x (Rect.unit ![0, 128] ![1, 128] inb_S1x512_S1x128_0_128)
  | 2, x => View.ld x (Rect.unit ![0, 256] ![1, 128] inb_S1x512_S1x128_0_256)
  | 3, x => View.ld x (Rect.unit ![0, 384] ![1, 128] inb_S1x512_S1x128_0_384)

def matN : Fin 4 → Vec Ideal S4x128x128 .f32 → Vec Ideal S1x128x128 .f32
  | 0, x => View.ld x (Rect.unit ![0, 0, 0] ![1, 128, 128] inb_S4x128x128_S1x128x128_0_0_0)
  | 1, x => View.ld x (Rect.unit ![1, 0, 0] ![1, 128, 128] inb_S4x128x128_S1x128x128_1_0_0)
  | 2, x => View.ld x (Rect.unit ![2, 0, 0] ![1, 128, 128] inb_S4x128x128_S1x128x128_2_0_0)
  | 3, x => View.ld x (Rect.unit ![3, 0, 0] ![1, 128, 128] inb_S4x128x128_S1x128x128_3_0_0)

def dyN : Fin 4 → Vec Ideal S512x256 .f32 → FVec Ideal S512x128 .f32
  | 0, x => dyEven (View.ld x (Rect.unit ![0, 0] ![512, 128] inb_S512x256_S512x128_0_0))
  | 1, x => dyOdd (View.ld x (Rect.unit ![0, 0] ![512, 128] inb_S512x256_S512x128_0_0))
  | 2, x => dyEven (View.ld x (Rect.unit ![0, 128] ![512, 128] inb_S512x256_S512x128_0_128))
  | 3, x => dyOdd (View.ld x (Rect.unit ![0, 128] ![512, 128] inb_S512x256_S512x128_0_128))

/-- A lane of a head among the 512 lanes; the lanes of its two sides. -/
def hcol (d : Fin 4) (l : Fin 128) : Fin 512 := ⟨128 * d.val + l.val, by omega⟩
def lo (e : Fin 64) : Fin 128 := ⟨e.val, by omega⟩
def hi (e : Fin 64) : Fin 128 := ⟨64 + e.val, by omega⟩
/-- A head's lane of the cotangent. -/
def ycol (d : Fin 4) (e : Fin 64) : Fin 256 := ⟨64 * d.val + e.val, by omega⟩
/-- Row `s` of chunk `n` of a tile. -/
def rw4 (n : Fin 4) (s : Fin 128) : Fin 512 := ⟨128 * n.val + s.val, by omega⟩

theorem slN_apply (d : Fin 4) (x : FVec Ideal S512x512 .f32) (r : Fin 512) (l : Fin 128) : slN d x (ix2 r l) = x (ix2 r (hcol d l)) := by
  fin_cases d <;> (unfold slN hcol; pointwise)

theorem rowN_apply (d : Fin 4) (x : Vec Ideal S1x512 .f32) (l : Fin 128) : rowN d x (ix2 0 l) = x (ix2 0 (hcol d l)) := by
  fin_cases d
  all_goals
    refine congrArg x (funext fun q => Fin.ext ?_)
    refine (Rect.idx_unit_val _ _ _ (ix2 (0 : Fin 1) l) q).trans ?_
    fin_cases q <;> simp [hcol]

theorem matN_apply (d : Fin 4) (x : Vec Ideal S4x128x128 .f32) (i k : Fin 128) : matN d x (ix3 0 i k) = x (ix3 d i k) := by
  fin_cases d
  all_goals
    refine congrArg x (funext fun q => Fin.ext ?_)
    refine (Rect.idx_unit_val _ _ _ (ix3 (0 : Fin 1) i k) q).trans ?_
    fin_cases q <;> simp

theorem ld_pair (x : Vec Ideal S512x256 .f32) (o : ℕ) (inb : ∀ q, (![0, o] : Fin 2 → ℕ) q + (![512, 128] : Fin 2 → ℕ) q ≤ S512x256.size q)
    (r : Fin 512) (l : Fin 128) (j : Fin 256) (h : j.val = o + l.val) :
    View.ld x (Rect.unit ![0, o] ![512, 128] inb) (ix2 r l) = x (ix2 r j) := by
  refine congrArg x (funext fun q => Fin.ext ?_)
  refine (Rect.idx_unit_val _ _ _ (ix2 r l) q).trans ?_
  fin_cases q <;> simp [h]

theorem swap_lo (x : FVec Ideal S512x128 .f32) (r : Fin 512) (e : Fin 64) : swap x (ix2 r (lo e)) = x (ix2 r (hi e)) := by
  pointwise
  refine congrArg x (congrArg (ix2 r) (Fin.ext ?_))
  simp only [lo, hi]; omega

theorem swap_hi (x : FVec Ideal S512x128 .f32) (r : Fin 512) (e : Fin 64) : swap x (ix2 r (hi e)) = x (ix2 r (lo e)) := by
  pointwise
  refine congrArg x (congrArg (ix2 r) (Fin.ext ?_))
  simp only [lo, hi]; omega

theorem sel_lo (x y : FVec Ideal S512x128 .f32) (r : Fin 512) (l : Fin 128) :
    select loMask x y (ix2 r l) = if l.val < 64 then x (ix2 r l) else y (ix2 r l) := by
  have h : ∀ l : Fin 128, (cmpi .slt (iota .tc S512x128 32 [1] iota_S512x128_d1_w32) (broadcast S512x128 64#32) : IVec S512x128 1) (ix2 r l)
      = if l.val < 64 then 1#1 else 0#1 := by
    intro l
    pointwise
    revert l; decide +kernel
  unfold select loMask
  rw [h]
  by_cases hl : l.val < 64
  · rw [if_pos hl, if_pos hl]; rfl
  · rw [if_neg hl, if_neg hl]; rfl

theorem sel_hi (x y : FVec Ideal S512x128 .f32) (r : Fin 512) (l : Fin 128) :
    select hiMask x y (ix2 r l) = if l.val < 64 then y (ix2 r l) else x (ix2 r l) := by
  have h : ∀ l : Fin 128, (cmpi .sge (iota .tc S512x128 32 [1] iota_S512x128_d1_w32) (broadcast S512x128 64#32) : IVec S512x128 1) (ix2 r l)
      = if l.val < 64 then 0#1 else 1#1 := by
    intro l
    pointwise
    revert l; decide +kernel
  unfold select hiMask
  rw [h]
  by_cases hl : l.val < 64
  · rw [if_pos hl, if_pos hl]; rfl
  · rw [if_neg hl, if_neg hl]; rfl

theorem lower_apply (x : FVec Ideal S128x128 .f32) (i k : Fin 128) : lower x (ix2 i k) = if k.val ≤ i.val then x (ix2 i k) else 0 := by
  have h : (cmpi .sge (iota .tc S128x128 32 [0] iota_S128x128_d0_w32) (iota .tc S128x128 32 [1] iota_S128x128_d1_w32) : IVec S128x128 1) (ix2 i k)
      = if k.val ≤ i.val then 1#1 else 0#1 := by
    pointwise
    revert i k; decide +kernel
  have hz : zero128 (ix2 i k) = 0 := by pointwise
  unfold lower select
  rw [h, hz]
  by_cases hl : k.val ≤ i.val
  · rw [if_pos hl, if_pos hl]; rfl
  · rw [if_neg hl, if_neg hl]; rfl

theorem zero512_apply (r : Fin 512) (l : Fin 128) : zero512 (ix2 r l) = 0 := by pointwise

/-- A sum over the lanes is one over each of the two sides. -/
theorem sum_sides (f : Fin 128 → EReal) : ∑ l : Fin 128, f l = ∑ e : Fin 64, f (lo e) + ∑ e : Fin 64, f (hi e) :=
  Fin.sum_univ_add (a := 64) (b := 64) f

theorem lo_lt (e : Fin 64) : (lo e).val < 64 := e.isLt
theorem hi_ge (e : Fin 64) : ¬ (hi e).val < 64 := by simp [hi]

theorem dyN_lo (d : Fin 4) (x : Vec Ideal S512x256 .f32) (r : Fin 512) (e : Fin 64) : dyN d x (ix2 r (lo e)) = x (ix2 r (ycol d e)) := by
  fin_cases d
  all_goals
    unfold dyN
    first | unfold dyEven | unfold dyOdd
    refine (sel_lo _ _ _ _).trans ((if_pos (lo_lt e)).trans ?_)
    first | refine (swap_lo _ r e).trans ?_ | skip
    refine ld_pair x _ _ r _ _ ?_
    simp [ycol, lo, hi] <;> omega

theorem dyN_hi (d : Fin 4) (x : Vec Ideal S512x256 .f32) (r : Fin 512) (e : Fin 64) : dyN d x (ix2 r (hi e)) = 0 := by
  fin_cases d
  all_goals
    unfold dyN
    first | unfold dyEven | unfold dyOdd
    exact (sel_lo _ _ _ _).trans ((if_neg (hi_ge e)).trans (zero512_apply _ _))

/-! One head's functions at an index. -/

abbrev wi64 : EReal := Ideal.ofBits .f32 0x3C800000#32
abbrev weps : EReal := Ideal.ofBits .f32 0x358637BD#32

/-- The norm of 64 lanes: centred, its reciprocal deviation, normalised, scaled; and its gradient. -/
def xcF (v : Fin 64 → EReal) (e : Fin 64) : EReal := v e - (∑ j, v j) * wi64
def rsF (v : Fin 64 → EReal) : EReal := Ideal.rsqrt ((∑ j, xcF v j * xcF v j) * wi64 + weps)
def vhF (v : Fin 64 → EReal) (e : Fin 64) : EReal := xcF v e * rsF v
def dxF (v u : Fin 64 → EReal) (e : Fin 64) : EReal := rsF v * (u e - (∑ j, u j) * wi64 - vhF v e * ((∑ j, u j * vhF v j) * wi64))

section
variable (zs gs : FVec Ideal S512x128 .f32) (g b : Vec Ideal S1x128 .f32) (w bs : Vec Ideal S1x128x128 .f32) (dy : FVec Ideal S512x128 .f32)

theorem laneSum_apply (x : FVec Ideal S512x128 .f32) (r : Fin 512) : laneSum x (ix2 r 0) = ∑ l : Fin 128, x (ix2 r l) := by
  pointwise

theorem rowSum_apply (x : FVec Ideal S512x128 .f32) (l : Fin 128) : rowSum x (ix2 0 l) = ∑ r : Fin 512, x (ix2 r l) := by
  pointwise

theorem wide_apply (x : FVec Ideal S512x1 .f32) (r : Fin 512) (l : Fin 128) : wide x (ix2 r l) = x (ix2 r 0) := by pointwise
theorem tall_apply (x : FVec Ideal S1x128 .f32) (r : Fin 512) (l : Fin 128) : tall x (ix2 r l) = x (ix2 0 l) := by pointwise
theorem row1_apply (x : Vec Ideal S1x128 .f32) (l : Fin 128) : row1 x (ix2 0 l) = x (ix2 0 l) := by pointwise
theorem mat1_apply (x : Vec Ideal S1x128x128 .f32) (i k : Fin 128) : mat1 x (ix2 i k) = x (ix3 0 i k) := by pointwise
theorem inv64_apply (r : Fin 512) : inv64 (ix2 r 0) = wi64 := by pointwise
theorem mm_apply (a b : FVec Ideal S128x128 .f32) (i k : Fin 128) : mm a b (ix2 i k) = ∑ s : Fin 128, a (ix2 i s) * b (ix2 s k) := by pointwise
theorem mmNt_apply (a b : FVec Ideal S128x128 .f32) (i k : Fin 128) : mmNt a b (ix2 i k) = ∑ s : Fin 128, a (ix2 i s) * b (ix2 k s) := by pointwise
theorem mmTn_apply (a b : FVec Ideal S128x128 .f32) (i k : Fin 128) : mmTn a b (ix2 i k) = ∑ s : Fin 128, a (ix2 s i) * b (ix2 s k) := by pointwise
theorem sum128_apply (x : FVec Ideal S128x128 .f32) (i : Fin 128) : sum128 x (ix2 i 0) = ∑ k : Fin 128, x (ix2 i k) := by pointwise

/-- The four chunks of a tile. -/
def chN : Fin 4 → FVec Ideal S512x128 .f32 → FVec Ideal S128x128 .f32
  | 0 => ch0
  | 1 => ch1
  | 2 => ch2
  | 3 => ch3

theorem chN_apply (n : Fin 4) (x : FVec Ideal S512x128 .f32) (s l : Fin 128) : chN n x (ix2 s l) = x (ix2 (rw4 n s) l) := by
  fin_cases n <;> (unfold chN rw4; pointwise)

theorem cat_apply (f : Fin 4 → FVec Ideal S128x128 .f32) (n : Fin 4) (s l : Fin 128) :
    cat (f 0) (f 1) (f 2) (f 3) (ix2 (rw4 n s) l) = f n (ix2 s l) := by
  fin_cases n
  all_goals
    unfold cat rw4
    pointwise
  · rw [dif_neg (by omega), dif_neg (by omega), dif_pos (by omega)]
    exact congrArg (fun x => f 2 (ix2 x l)) (Fin.ext (by simp only; omega))
  · rw [dif_neg (by omega), dif_neg (by omega), dif_neg (by omega)]
    exact congrArg (fun x => f 3 (ix2 x l)) (Fin.ext (by simp only; omega))

theorem xc_hi (r : Fin 512) (e : Fin 64) : xc zs (ix2 r (hi e)) = xcF (fun j => zs (ix2 r (hi j))) e := by
  refine (sel_hi _ _ r (hi e)).trans ((if_neg (hi_ge e)).trans ?_)
  show zs (ix2 r (hi e)) - wide _ (ix2 r (hi e)) = _
  rw [wide_apply]
  show _ - laneSum _ (ix2 r 0) * inv64 (ix2 r 0) = _
  rw [laneSum_apply, inv64_apply, sum_sides]
  simp only [sel_hi, lo_lt, hi_ge, if_true, if_false, zero512_apply, Finset.sum_const_zero, zero_add]
  rfl

theorem xc_lo (r : Fin 512) (e : Fin 64) : xc zs (ix2 r (lo e)) = 0 :=
  (sel_hi _ _ r (lo e)).trans ((if_pos (lo_lt e)).trans (zero512_apply _ _))

theorem rstd_apply (r : Fin 512) : rstd zs (ix2 r 0) = rsF (fun j => zs (ix2 r (hi j))) := by
  show Ideal.rsqrt (laneSum _ (ix2 r 0) * inv64 (ix2 r 0) + weps) = _
  rw [laneSum_apply, inv64_apply, sum_sides]
  show Ideal.rsqrt ((∑ e, xc zs (ix2 r (lo e)) * xc zs (ix2 r (lo e)) + ∑ e, xc zs (ix2 r (hi e)) * xc zs (ix2 r (hi e))) * wi64 + weps) = _
  simp only [xc_lo, xc_hi, zero_mul, Finset.sum_const_zero, zero_add]
  rfl

theorem vhat_hi (r : Fin 512) (e : Fin 64) : vhat zs (ix2 r (hi e)) = vhF (fun j => zs (ix2 r (hi j))) e := by
  show xc zs (ix2 r (hi e)) * wide (rstd zs) (ix2 r (hi e)) = _
  rw [wide_apply, rstd_apply, xc_hi]
  rfl

theorem vhat_lo (r : Fin 512) (e : Fin 64) : vhat zs (ix2 r (lo e)) = 0 := by
  show xc zs (ix2 r (lo e)) * wide (rstd zs) (ix2 r (lo e)) = _
  rw [xc_lo, zero_mul]

theorem vn_hi (r : Fin 512) (e : Fin 64) : vn zs g b (ix2 r (hi e)) = vhF (fun j => zs (ix2 r (hi j))) e * g (ix2 0 (hi e)) + b (ix2 0 (hi e)) := by
  show vhat zs (ix2 r (hi e)) * tall (row1 g) (ix2 r (hi e)) + tall (row1 b) (ix2 r (hi e)) = _
  rw [tall_apply, tall_apply, row1_apply, row1_apply, vhat_hi]

theorem wm_apply (i k : Fin 128) : wm w (ix2 i k) = if k.val ≤ i.val then w (ix3 0 i k) else 0 :=
  (lower_apply _ i k).trans (by rw [mat1_apply])

theorem sv_apply (n : Fin 4) (i l : Fin 128) : sv zs g b w bs (ix2 (rw4 n i) l)
    = ∑ s : Fin 128, wm w (ix2 i s) * vn zs g b (ix2 (rw4 n s) l) + bs (ix3 0 i l) := by
  refine (cat_apply (fun n => addf (mm (wm w) (chN n (vn zs g b))) (mat1 bs)) n i l).trans ?_
  show mm _ _ (ix2 i l) + mat1 bs (ix2 i l) = _
  rw [mm_apply, mat1_apply]
  simp only [chN_apply]

theorem dsv_hi (r : Fin 512) (e : Fin 64) : dsv zs dy (ix2 r (hi e)) = dy (ix2 r (lo e)) * zs (ix2 r (lo e)) := swap_hi (mulf dy zs) r e
theorem dsv_lo (hd : ∀ r e, dy (ix2 r (hi e)) = 0) (r : Fin 512) (e : Fin 64) : dsv zs dy (ix2 r (lo e)) = 0 :=
  (swap_lo (mulf dy zs) r e).trans (by show dy (ix2 r (hi e)) * zs (ix2 r (hi e)) = 0; rw [hd, zero_mul])

theorem dvn_apply (n : Fin 4) (i l : Fin 128) : dvn zs w dy (ix2 (rw4 n i) l)
    = ∑ t : Fin 128, wm w (ix2 t i) * dsv zs dy (ix2 (rw4 n t) l) := by
  refine (cat_apply (fun n => mmTn (wm w) (chN n (dsv zs dy))) n i l).trans ?_
  show mmTn _ _ (ix2 i l) = _
  rw [mmTn_apply]
  simp only [chN_apply]

theorem dvn_lo (hd : ∀ r e, dy (ix2 r (hi e)) = 0) (n : Fin 4) (i : Fin 128) (e : Fin 64) : dvn zs w dy (ix2 (rw4 n i) (lo e)) = 0 := by
  rw [dvn_apply]
  simp only [dsv_lo zs dy hd, mul_zero, Finset.sum_const_zero]

theorem dwPart_apply (hd : ∀ r e, dy (ix2 r (hi e)) = 0) (i k : Fin 128) : dwPart zs g b dy (ix2 i k)
    = ∑ n : Fin 4, ∑ e : Fin 64, dsv zs dy (ix2 (rw4 n i) (hi e)) * vn zs g b (ix2 (rw4 n k) (hi e)) := by
  have h : ∀ n, mmNt (chN n (dsv zs dy)) (chN n (vn zs g b)) (ix2 i k)
      = ∑ e : Fin 64, dsv zs dy (ix2 (rw4 n i) (hi e)) * vn zs g b (ix2 (rw4 n k) (hi e)) := by
    intro n
    rw [mmNt_apply, sum_sides]
    simp only [chN_apply, dsv_lo zs dy hd, zero_mul, Finset.sum_const_zero, zero_add]
  have hz : zero128 (ix2 i k) = 0 := by pointwise
  rw [Fin.sum_univ_four, ← h 0, ← h 1, ← h 2, ← h 3]
  show zero128 (ix2 i k) + _ + _ + _ + _ = _
  rw [hz, zero_add]
  rfl

theorem dbsPart_apply (hd : ∀ r e, dy (ix2 r (hi e)) = 0) (i : Fin 128) : dbsPart zs dy (ix2 i 0)
    = ∑ n : Fin 4, ∑ e : Fin 64, dsv zs dy (ix2 (rw4 n i) (hi e)) := by
  have h : ∀ n, sum128 (chN n (dsv zs dy)) (ix2 i 0) = ∑ e : Fin 64, dsv zs dy (ix2 (rw4 n i) (hi e)) := by
    intro n
    rw [sum128_apply, sum_sides]
    simp only [chN_apply, dsv_lo zs dy hd, Finset.sum_const_zero, zero_add]
  have hz : (broadcast S128x1 (Scalar.ofBits .f32 0x00000000#32) : FVec Ideal S128x1 .f32) (ix2 i 0) = 0 := by pointwise
  rw [Fin.sum_univ_four, ← h 0, ← h 1, ← h 2, ← h 3]
  show (broadcast S128x1 (Scalar.ofBits .f32 0x00000000#32) : FVec Ideal S128x1 .f32) (ix2 i 0) + _ + _ + _ + _ = _
  rw [hz, zero_add]
  rfl

theorem dwAcc_apply (acc : Vec Ideal S1x128x128 .f32) (i k : Fin 128) : dwAcc zs g b dy acc (ix3 0 i k)
    = acc (ix3 0 i k) + if k.val ≤ i.val then dwPart zs g b dy (ix2 i k) else 0 := by
  unfold dwAcc
  rw [← lower_apply, ← mat1_apply acc]
  generalize lower _ = D
  generalize mat1 acc = A
  pointwise

theorem dbsAcc_apply (acc : Vec Ideal S1x128x128 .f32) (i k : Fin 128) : dbsAcc zs dy acc (ix3 0 i k)
    = acc (ix3 0 i k) + dbsPart zs dy (ix2 i 0) := by
  unfold dbsAcc
  rw [← mat1_apply acc]
  generalize dbsPart zs dy = D
  generalize mat1 acc = A
  pointwise

theorem dgAcc_apply (acc : Vec Ideal S1x128 .f32) (l : Fin 128) : dgAcc zs w dy acc (ix2 0 l)
    = acc (ix2 0 l) + ∑ r : Fin 512, dvn zs w dy (ix2 r l) * vhat zs (ix2 r l) := by
  show row1 acc (ix2 0 l) + rowSum _ (ix2 0 l) = _
  rw [row1_apply, rowSum_apply]
  rfl

theorem dbAcc_apply (acc : Vec Ideal S1x128 .f32) (l : Fin 128) : dbAcc zs w dy acc (ix2 0 l)
    = acc (ix2 0 l) + ∑ r : Fin 512, dvn zs w dy (ix2 r l) := by
  show row1 acc (ix2 0 l) + rowSum _ (ix2 0 l) = _
  rw [row1_apply, rowSum_apply]

theorem dvh_apply (r : Fin 512) (l : Fin 128) : dvh zs g w dy (ix2 r l) = dvn zs w dy (ix2 r l) * g (ix2 0 l) := by
  show dvn zs w dy (ix2 r l) * tall (row1 g) (ix2 r l) = _
  rw [tall_apply, row1_apply]

theorem dza_lo (n : Fin 4) (i : Fin 128) (e : Fin 64) : dza zs gs g b w bs dy (ix2 (rw4 n i) (lo e))
    = dy (ix2 (rw4 n i) (lo e)) * sv zs g b w bs (ix2 (rw4 n i) (hi e)) * gs (ix2 (rw4 n i) (lo e)) := by
  show (dy _ * swap _ _ + select loMask _ _ _) * gs _ = _
  rw [swap_lo, sel_lo, if_pos (lo_lt e), zero512_apply, add_zero]

theorem dza_hi (hd : ∀ r e, dy (ix2 r (hi e)) = 0) (n : Fin 4) (i : Fin 128) (e : Fin 64) : dza zs gs g b w bs dy (ix2 (rw4 n i) (hi e))
    = dxF (fun j => zs (ix2 (rw4 n i) (hi j))) (fun j => dvn zs w dy (ix2 (rw4 n i) (hi j)) * g (ix2 0 (hi j))) e * gs (ix2 (rw4 n i) (hi e)) := by
  show (dy _ * swap _ _ + select loMask _ _ _) * gs _ = _
  rw [hd, zero_mul, zero_add, sel_lo, if_neg (hi_ge e)]
  refine congrArg (· * gs _) ?_
  show wide _ _ * (dvh zs g w dy _ - wide _ _ - vhat zs _ * wide _ _) = _
  rw [wide_apply, wide_apply, wide_apply, rstd_apply, vhat_hi]
  show _ * (_ - laneSum _ (ix2 _ 0) * inv64 (ix2 _ 0) - _ * (laneSum _ (ix2 _ 0) * inv64 (ix2 _ 0))) = _
  rw [laneSum_apply, laneSum_apply, inv64_apply, sum_sides, sum_sides]
  show _ * (_ - _ * _ - _ * ((∑ e, dvh zs g w dy _ * vhat zs (ix2 (rw4 n i) (lo e)) + ∑ e, dvh zs g w dy _ * vhat zs (ix2 (rw4 n i) (hi e))) * _)) = _
  simp only [dvh_apply, dvn_lo zs w dy hd, vhat_hi, zero_mul, Finset.sum_const_zero, zero_add]
  rfl

end

/-! The arrays. -/

/-- The argument arrays. -/
abbrev Z (c : Dev nD) : Vec Ideal S8192x1536 .f32 := m ((c : Thread nD τ).loc main_arg0)
abbrev Ln (c : Dev nD) : Vec Ideal S4x64 .f32 := m ((c : Thread nD τ).loc main_arg1)
abbrev Lb (c : Dev nD) : Vec Ideal S4x64 .f32 := m ((c : Thread nD τ).loc main_arg2)
abbrev Ws (c : Dev nD) : Vec Ideal S4x128x128 .f32 := m ((c : Thread nD τ).loc main_arg3)
abbrev Bs (c : Dev nD) : Vec Ideal S4x128 .f32 := m ((c : Thread nD τ).loc main_arg4)
abbrev Ct (c : Dev nD) : Vec Ideal S8192x256 .f32 := m ((c : Thread nD τ).loc main_arg5)

/-- The activation and its derivative, as the body computes them. -/
def geluF (x : EReal) : EReal := Ideal.ofBits .f32 0x3F000000#32 * x * (1 + Ideal.tanh (Ideal.ofBits .f32 0x3F4C422A#32
  * (x + ((8943 / 200000 : ℝ) : EReal) * (x * x * x))))
def geluD (x : EReal) : EReal :=
  Ideal.ofBits .f32 0x3F000000#32 * (1 + Ideal.tanh (Ideal.ofBits .f32 0x3F4C422A#32 * (x + ((8943 / 200000 : ℝ) : EReal) * (x * x * x))))
  + Ideal.ofBits .f32 0x3F000000#32 * x * (1 - Ideal.tanh (Ideal.ofBits .f32 0x3F4C422A#32 * (x + ((8943 / 200000 : ℝ) : EReal) * (x * x * x)))
      * Ideal.tanh (Ideal.ofBits .f32 0x3F4C422A#32 * (x + ((8943 / 200000 : ℝ) : EReal) * (x * x * x))))
    * (Ideal.ofBits .f32 0x3F4C422A#32 * (1 + ((26829 / 200000 : ℝ) : EReal) * (x * x)))

theorem gelu_apply (z : Vec Ideal S512x512 .f32) (r k : Fin 512) : k0_pay6 z (ix2 r k) = geluF (z (ix2 r k)) := by
  unfold k0_pay6
  pointwise
  rfl

theorem geluD_apply (z : Vec Ideal S512x512 .f32) (r k : Fin 512) :
    k0_pay12 (k0_pay8 z) (k0_pay9 z) (k0_pay10 z) k0_pay11 (ix2 r k) = geluD (z (ix2 r k)) := by
  unfold_payloads
  pointwise
  rfl

theorem lt16 (t : Fin cfg0.N) : t.val < 16 := lt_of_lt_of_eq t.isLt N_0

/-- Row `r` of tile `t`. -/
def row (t : ℕ) (ht : t < 16) (r : Fin 512) : Fin 8192 := ⟨t * 512 + r.val, by omega⟩
/-- A column of the mixed lanes among the columns of `z`. -/
def zcol (k : Fin 512) : Fin 1536 := ⟨k.val, by omega⟩

theorem blk0 (c : Dev nD) (t : Fin cfg0.N) (r : Fin 512) (k : Fin 512) :
    (iblk m c 0 t : Vec Ideal S512x512 .f32) (ix2 r k) = Z m c (ix2 (row t.val (lt16 t) r) (zcol k)) := by
  unfold row zcol; blk_ext [iblk, V_main_arg0, idx t]

theorem blk1 (c : Dev nD) (t : Fin cfg0.N) (r : Fin 512) (k : Fin 256) :
    (iblk m c 1 t : Vec Ideal S512x256 .f32) (ix2 r k) = Ct m c (ix2 (row t.val (lt16 t) r) k) := by
  unfold row; blk_ext [iblk, V_main_arg5, idx t]

theorem stack_hi (x y : Vec Ideal S4x64 .f32) (d : Fin 4) (e : Fin 64) :
    shapeCast S1x512 (concatenate S4x2x64 1 [⟨S4x1x64, broadcastInDim S4x1x64 ![0, 2] bcast_S4x64_S4x1x64_0_2 x⟩,
      ⟨S4x1x64, broadcastInDim S4x1x64 ![0, 2] bcast_S4x64_S4x1x64_0_2 y⟩] concatenates_S4x1x64_S4x1x64_S4x2x64_d1)
      shapeCasts_S4x2x64_S1x512 (ix2 0 (hcol d (hi e))) = y (ix2 d e) := by
  unfold hcol hi
  fin_cases d
  all_goals
    pointwise
    rw [dif_neg (by omega)]
    exact congrArg (fun x => y (ix2 x e)) (Fin.ext (by simp only [Fin.isValue]; omega))

theorem blk2 (c : Dev nD) (t : Fin cfg0.N) (d : Fin 4) (e : Fin 64) :
    (iblk m c 2 t : Vec Ideal S1x512 .f32) (ix2 0 (hcol d (hi e))) = Ln m c (ix2 d e) := by
  have e' : ((cfg0.win 2).blk t).view.emb (ix2 0 (hcol d (hi e))) = ix2 0 (hcol d (hi e)) := by blk_ext [idx t]
  unfold iblk
  rw [View.read_apply]
  refine (congrArg (V m c main_v4) e').trans ?_
  unfold V
  entry_read
  exact stack_hi _ _ d e

theorem blk3 (c : Dev nD) (t : Fin cfg0.N) (d : Fin 4) (e : Fin 64) :
    (iblk m c 3 t : Vec Ideal S1x512 .f32) (ix2 0 (hcol d (hi e))) = Lb m c (ix2 d e) := by
  have e' : ((cfg0.win 3).blk t).view.emb (ix2 0 (hcol d (hi e))) = ix2 0 (hcol d (hi e)) := by blk_ext [idx t]
  unfold iblk
  rw [View.read_apply]
  refine (congrArg (V m c main_v8) e').trans ?_
  unfold V
  entry_read
  exact stack_hi _ _ d e

theorem blk4 (c : Dev nD) (t : Fin cfg0.N) (d : Fin 4) (i k : Fin 128) :
    (iblk m c 4 t : Vec Ideal S4x128x128 .f32) (ix3 d i k) = Ws m c (ix3 d i k) := by
  blk_ext [iblk, V_main_arg3, idx t]

theorem blk5 (c : Dev nD) (t : Fin cfg0.N) (d : Fin 4) (i k : Fin 128) :
    (iblk m c 5 t : Vec Ideal S4x128x128 .f32) (ix3 d i k) = Bs m c (ix2 d i) := by
  have e' : ((cfg0.win 5).blk t).view.emb (ix3 d i k) = ix3 d i k := by blk_ext [idx t]
  unfold iblk
  rw [View.read_apply]
  refine (congrArg (V m c main_v10) e').trans ?_
  unfold V
  entry_read
  pointwise

/-! What one point computes for one head, from its blocks. -/

abbrev zT (c : Dev nD) (t : Fin cfg0.N) (d : Fin 4) : FVec Ideal S512x128 .f32 := slN d (k0_pay6 (iblk m c 0 t))
abbrev gT (c : Dev nD) (t : Fin cfg0.N) (d : Fin 4) : FVec Ideal S512x128 .f32 :=
  slN d (k0_pay12 (k0_pay8 (iblk m c 0 t)) (k0_pay9 (iblk m c 0 t)) (k0_pay10 (iblk m c 0 t)) k0_pay11)
abbrev lnT (c : Dev nD) (t : Fin cfg0.N) (d : Fin 4) : Vec Ideal S1x128 .f32 := rowN d (iblk m c 2 t)
abbrev lbT (c : Dev nD) (t : Fin cfg0.N) (d : Fin 4) : Vec Ideal S1x128 .f32 := rowN d (iblk m c 3 t)
abbrev wT (c : Dev nD) (t : Fin cfg0.N) (d : Fin 4) : Vec Ideal S1x128x128 .f32 := matN d (iblk m c 4 t)
abbrev bT (c : Dev nD) (t : Fin cfg0.N) (d : Fin 4) : Vec Ideal S1x128x128 .f32 := matN d (iblk m c 5 t)
abbrev yT (c : Dev nD) (t : Fin cfg0.N) (d : Fin 4) : FVec Ideal S512x128 .f32 := dyN d (iblk m c 1 t)

abbrev dzaT (c : Dev nD) (t : Fin cfg0.N) (d : Fin 4) : FVec Ideal S512x128 .f32 :=
  dza (zT m c t d) (gT m c t d) (lnT m c t d) (lbT m c t d) (wT m c t d) (bT m c t d) (yT m c t d)

/-- A head's piece at a place of the whole block. -/
theorem at_head (f : Fin 4 → FVec Ideal S512x128 .f32) (d e : Fin 4) (r : Fin 512) (l : Fin 128) (x : S512x128.Idx) (hx0 : r.val = (x 0).val)
    (hx1 : (hcol d l).val = 128 * e.val + (x 1).val) : f e x = f d (ix2 r l) := by
  have h1 : (x 1).val < 128 := (x 1).isLt
  have hv : (hcol d l).val = 128 * d.val + l.val := rfl
  obtain rfl : e = d := Fin.ext (by omega)
  rw [eq_ix2 x]
  exact congrArg (f e) (by rw [show x 0 = r from Fin.ext hx0.symm, show x 1 = l from Fin.ext (by omega)])

set_option maxHeartbeats 1000000 in
theorem dza_t (c : Dev nD) (t : Fin cfg0.N) (d : Fin 4) (r : Fin 512) (l : Fin 128) :
    (outsAt0 m c t.val t.isLt).1 (ix2 r (hcol d l)) = dzaT m c t d (ix2 r l) := by
  by_cases h0 : t.val % 16 = 0
  · rw [outsAt0_A m c t h0]
    frame_out
    canon_tiles x hx
    · exact at_head (dzaT m c t) d 3 r l x hx0 hx1
    · exact at_head (dzaT m c t) d 2 r l x hx0 hx1
    · exact at_head (dzaT m c t) d 1 r l x hx0 hx1
    · exact at_head (dzaT m c t) d 0 r l x hx0 (hx1.trans (Nat.zero_add _).symm)
  · rw [outsAt0_B m c t h0]
    frame_out
    canon_tiles x hx
    · exact at_head (dzaT m c t) d 3 r l x hx0 hx1
    · exact at_head (dzaT m c t) d 2 r l x hx0 hx1
    · exact at_head (dzaT m c t) d 1 r l x hx0 hx1
    · exact at_head (dzaT m c t) d 0 r l x hx0 (hx1.trans (Nat.zero_add _).symm)

/-! The four accumulations: the first point starts from a fill with zeros, a later one from what the point before it left. -/

abbrev dwT (c : Dev nD) (t : Fin cfg0.N) (d : Fin 4) (acc : Vec Ideal S1x128x128 .f32) : FVec Ideal S1x128x128 .f32 :=
  dwAcc (zT m c t d) (lnT m c t d) (lbT m c t d) (yT m c t d) acc
abbrev dbsT (c : Dev nD) (t : Fin cfg0.N) (d : Fin 4) (acc : Vec Ideal S1x128x128 .f32) : FVec Ideal S1x128x128 .f32 :=
  dbsAcc (zT m c t d) (yT m c t d) acc
abbrev dgT (c : Dev nD) (t : Fin cfg0.N) (d : Fin 4) (acc : Vec Ideal S1x128 .f32) : FVec Ideal S1x128 .f32 :=
  dgAcc (zT m c t d) (wT m c t d) (yT m c t d) acc
abbrev dbT (c : Dev nD) (t : Fin cfg0.N) (d : Fin 4) (acc : Vec Ideal S1x128 .f32) : FVec Ideal S1x128 .f32 :=
  dbAcc (zT m c t d) (wT m c t d) (yT m c t d) acc

/-- A head's matrix, and a head's row, at a place of the whole block. -/
theorem at_mat (f : Fin 4 → Vec Ideal S1x128x128 .f32) (d e : Fin 4) (i k : Fin 128) (x : S1x128x128.Idx) (hx0 : d.val = e.val + (x 0).val)
    (hx1 : i.val = (x 1).val) (hx2 : k.val = (x 2).val) : f e x = f d (ix3 0 i k) := by
  have h1 : (x 0).val < 1 := (x 0).isLt
  obtain rfl : e = d := Fin.ext (by omega)
  rw [eq_ix3 x]
  exact congrArg (f e) (by rw [show x 0 = (0 : Fin 1) from Fin.ext (Nat.lt_one_iff.mp (x 0).isLt), show x 1 = i from Fin.ext hx1.symm,
    show x 2 = k from Fin.ext hx2.symm])
theorem at_row (f : Fin 4 → Vec Ideal S1x128 .f32) (d e : Fin 4) (l : Fin 128) (x : S1x128.Idx)
    (hx1 : (hcol d l).val = 128 * e.val + (x 1).val) : f e x = f d (ix2 0 l) := by
  have h0 : (x 0).val < 1 := (x 0).isLt
  have h1 : (x 1).val < 128 := (x 1).isLt
  have hv : (hcol d l).val = 128 * d.val + l.val := rfl
  obtain rfl : e = d := Fin.ext (by omega)
  rw [eq_ix2 x]
  exact congrArg (f e) (by rw [show x 0 = (0 : Fin 1) from Fin.ext (Nat.lt_one_iff.mp (x 0).isLt), show x 1 = l from Fin.ext (by omega)])

/-- The fills that the first point stores. -/
abbrev zMat : Vec Ideal S4x128x128 .f32 := k0_pay2 (F := Ideal)
abbrev zMat' : Vec Ideal S4x128x128 .f32 := k0_pay3 (F := Ideal)
abbrev zRow : Vec Ideal S1x512 .f32 := k0_pay4 (F := Ideal)
abbrev zRow' : Vec Ideal S1x512 .f32 := k0_pay5 (F := Ideal)

/-- Four pieces stored over anything, head 3 last, hold each head's own piece. -/
theorem canon_mat (g : Fin 4 → Vec Ideal S1x128x128 .f32) (L : List (View.Piece (Elt Ideal) S4x128x128 .f32)) (d : Fin 4) (i k : Fin 128) :
    View.canon ([⟨Rect.unit ![3, 0, 0] ![1, 128, 128] inb_S4x128x128_S1x128x128_3_0_0, g 3⟩,
      ⟨Rect.unit ![2, 0, 0] ![1, 128, 128] inb_S4x128x128_S1x128x128_2_0_0, g 2⟩,
      ⟨Rect.unit ![1, 0, 0] ![1, 128, 128] inb_S4x128x128_S1x128x128_1_0_0, g 1⟩,
      ⟨Rect.unit ![0, 0, 0] ![1, 128, 128] inb_S4x128x128_S1x128x128_0_0_0, g 0⟩] ++ L) (ix3 d i k) = g d (ix3 0 i k) := by
  refine View.canon_append_of_piecesOf (fun y : S4x128x128.Idx => g (y 0) (ix3 0 (y 1) (y 2))) L _ ?_ _ ?_
  · have key (e : Fin 4) (y : S4x128x128.Idx) (x : S1x128x128.Idx) (h0 : (y 0).val = e.val + (x 0).val) (h1 : (y 1).val = 0 + (x 1).val)
        (h2 : (y 2).val = 0 + (x 2).val) : g e x = g (y 0) (ix3 0 (y 1) (y 2)) :=
      at_mat g _ e _ _ x h0 (h1.trans (Nat.zero_add _)) (h2.trans (Nat.zero_add _))
    exact ⟨fun x => key 3 _ x (ValueKit.rect_emb_unit_val _ _ inb_S4x128x128_S1x128x128_3_0_0 x 0) (ValueKit.rect_emb_unit_val _ _ inb_S4x128x128_S1x128x128_3_0_0 x 1) (ValueKit.rect_emb_unit_val _ _ inb_S4x128x128_S1x128x128_3_0_0 x 2),
      fun x => key 2 _ x (ValueKit.rect_emb_unit_val _ _ inb_S4x128x128_S1x128x128_2_0_0 x 0) (ValueKit.rect_emb_unit_val _ _ inb_S4x128x128_S1x128x128_2_0_0 x 1) (ValueKit.rect_emb_unit_val _ _ inb_S4x128x128_S1x128x128_2_0_0 x 2),
      fun x => key 1 _ x (ValueKit.rect_emb_unit_val _ _ inb_S4x128x128_S1x128x128_1_0_0 x 0) (ValueKit.rect_emb_unit_val _ _ inb_S4x128x128_S1x128x128_1_0_0 x 1) (ValueKit.rect_emb_unit_val _ _ inb_S4x128x128_S1x128x128_1_0_0 x 2),
      fun x => key 0 _ x (ValueKit.rect_emb_unit_val _ _ inb_S4x128x128_S1x128x128_0_0_0 x 0) (ValueKit.rect_emb_unit_val _ _ inb_S4x128x128_S1x128x128_0_0_0 x 1) (ValueKit.rect_emb_unit_val _ _ inb_S4x128x128_S1x128x128_0_0_0 x 2), trivial⟩
  · fin_cases d <;> simp [Rect.mem_set_unit, Fin.forall_fin_succ]
theorem canon_row (g : Fin 4 → Vec Ideal S1x128 .f32) (L : List (View.Piece (Elt Ideal) S1x512 .f32)) (d : Fin 4) (l : Fin 128) :
    View.canon ([⟨Rect.unit ![0, 384] ![1, 128] inb_S1x512_S1x128_0_384, g 3⟩, ⟨Rect.unit ![0, 256] ![1, 128] inb_S1x512_S1x128_0_256, g 2⟩,
      ⟨Rect.unit ![0, 128] ![1, 128] inb_S1x512_S1x128_0_128, g 1⟩, ⟨Rect.unit ![0, 0] ![1, 128] inb_S1x512_S1x128_0_0, g 0⟩] ++ L)
      (ix2 0 (hcol d l)) = g d (ix2 0 l) := by
  have hh (y : S1x512.Idx) : (y 1).val / 128 < 4 := by have h : (y 1).val < 512 := (y 1).isLt; omega
  refine (View.canon_append_of_piecesOf (fun y : S1x512.Idx => g ⟨(y 1).val / 128, hh y⟩ (ix2 0 ⟨(y 1).val % 128, Nat.mod_lt _ (by omega)⟩)) L _ ?_ _ ?_).trans ?_
  · have key (e : Fin 4) (y : S1x512.Idx) (x : S1x128.Idx) (h1 : (y 1).val = 128 * e.val + (x 1).val) :
        g e x = g ⟨(y 1).val / 128, hh y⟩ (ix2 0 ⟨(y 1).val % 128, Nat.mod_lt _ (by omega)⟩) :=
      at_row g _ e _ x (by simp only [hcol]; omega)
    exact ⟨fun x => key 3 _ x (ValueKit.rect_emb_unit_val _ _ inb_S1x512_S1x128_0_384 x 1), fun x => key 2 _ x (ValueKit.rect_emb_unit_val _ _ inb_S1x512_S1x128_0_256 x 1),
      fun x => key 1 _ x (ValueKit.rect_emb_unit_val _ _ inb_S1x512_S1x128_0_128 x 1), fun x => key 0 _ x (ValueKit.rect_emb_unit_val _ _ inb_S1x512_S1x128_0_0 x 1), trivial⟩
  · have := l.isLt
    fin_cases d <;> simp [Rect.mem_set_unit, Fin.forall_fin_succ, hcol] <;> omega
  · exact at_row g d _ l _ (by have := l.isLt; simp only [hcol, ix2]; omega)

set_option maxHeartbeats 1000000 in
theorem dw_B (c : Dev nD) (t : Fin cfg0.N) (h0 : ¬t.val % 16 = 0) (d : Fin 4) (i k : Fin 128) :
    (outsAt0 m c t.val t.isLt).2.1 (ix3 d i k)
      = dwT m c t d (matN d (outsAt0 m c (t.val - 1) (Nat.lt_of_le_of_lt (Nat.sub_le _ 1) t.isLt)).2.1) (ix3 0 i k) := by
  rw [outsAt0_B m c t h0]
  frame_out
  exact canon_mat (fun e => dwT m c t e (matN e _)) [] d i k
set_option maxHeartbeats 1000000 in
theorem dw_A (c : Dev nD) (t : Fin cfg0.N) (h0 : t.val % 16 = 0) (d : Fin 4) (i k : Fin 128) :
    (outsAt0 m c t.val t.isLt).2.1 (ix3 d i k) = dwT m c t d (matN d zMat) (ix3 0 i k) := by
  rw [outsAt0_A m c t h0]
  frame_out
  simp (disch := decide) only [↓View.readCov_skip, ↓View.readCov_fill]
  exact canon_mat (fun e => dwT m c t e (matN e zMat)) _ d i k
set_option maxHeartbeats 1000000 in
theorem dbs_B (c : Dev nD) (t : Fin cfg0.N) (h0 : ¬t.val % 16 = 0) (d : Fin 4) (i k : Fin 128) :
    (outsAt0 m c t.val t.isLt).2.2.1 (ix3 d i k)
      = dbsT m c t d (matN d (outsAt0 m c (t.val - 1) (Nat.lt_of_le_of_lt (Nat.sub_le _ 1) t.isLt)).2.2.1) (ix3 0 i k) := by
  rw [outsAt0_B m c t h0]
  frame_out
  exact canon_mat (fun e => dbsT m c t e (matN e _)) [] d i k
set_option maxHeartbeats 1000000 in
theorem dbs_A (c : Dev nD) (t : Fin cfg0.N) (h0 : t.val % 16 = 0) (d : Fin 4) (i k : Fin 128) :
    (outsAt0 m c t.val t.isLt).2.2.1 (ix3 d i k) = dbsT m c t d (matN d zMat') (ix3 0 i k) := by
  rw [outsAt0_A m c t h0]
  frame_out
  simp (disch := decide) only [↓View.readCov_skip, ↓View.readCov_fill]
  exact canon_mat (fun e => dbsT m c t e (matN e zMat')) _ d i k
set_option maxHeartbeats 1000000 in
theorem dg_B (c : Dev nD) (t : Fin cfg0.N) (h0 : ¬t.val % 16 = 0) (d : Fin 4) (l : Fin 128) :
    (outsAt0 m c t.val t.isLt).2.2.2.1 (ix2 0 (hcol d l))
      = dgT m c t d (rowN d (outsAt0 m c (t.val - 1) (Nat.lt_of_le_of_lt (Nat.sub_le _ 1) t.isLt)).2.2.2.1) (ix2 0 l) := by
  rw [outsAt0_B m c t h0]
  frame_out
  exact canon_row (fun e => dgT m c t e (rowN e _)) [] d l
set_option maxHeartbeats 1000000 in
theorem dg_A (c : Dev nD) (t : Fin cfg0.N) (h0 : t.val % 16 = 0) (d : Fin 4) (l : Fin 128) :
    (outsAt0 m c t.val t.isLt).2.2.2.1 (ix2 0 (hcol d l)) = dgT m c t d (rowN d zRow) (ix2 0 l) := by
  rw [outsAt0_A m c t h0]
  frame_out
  simp (disch := decide) only [↓View.readCov_skip, ↓View.readCov_fill]
  exact canon_row (fun e => dgT m c t e (rowN e zRow)) _ d l
set_option maxHeartbeats 1000000 in
theorem db_B (c : Dev nD) (t : Fin cfg0.N) (h0 : ¬t.val % 16 = 0) (d : Fin 4) (l : Fin 128) :
    (outsAt0 m c t.val t.isLt).2.2.2.2 (ix2 0 (hcol d l))
      = dbT m c t d (rowN d (outsAt0 m c (t.val - 1) (Nat.lt_of_le_of_lt (Nat.sub_le _ 1) t.isLt)).2.2.2.2) (ix2 0 l) := by
  rw [outsAt0_B m c t h0]
  frame_out
  exact canon_row (fun e => dbT m c t e (rowN e _)) [] d l
set_option maxHeartbeats 1000000 in
theorem db_A (c : Dev nD) (t : Fin cfg0.N) (h0 : t.val % 16 = 0) (d : Fin 4) (l : Fin 128) :
    (outsAt0 m c t.val t.isLt).2.2.2.2 (ix2 0 (hcol d l)) = dbT m c t d (rowN d zRow') (ix2 0 l) := by
  rw [outsAt0_A m c t h0]
  frame_out
  simp (disch := decide) only [↓View.readCov_skip, ↓View.readCov_fill]
  exact canon_row (fun e => dbT m c t e (rowN e zRow')) _ d l

/-! The quantities of the whole arrays: chunk `C`, position `i` in it, head `d`, lane `e` of a side. -/

/-- Row `i` of chunk `C`; chunk `n` of tile `t`. -/
def cr (C : Fin 64) (i : Fin 128) : Fin 8192 := ⟨C.val * 128 + i.val, by omega⟩
def tc (t : ℕ) (ht : t < 16) (n : Fin 4) : Fin 64 := ⟨t * 4 + n.val, by omega⟩

abbrev Zl (c : Dev nD) (C : Fin 64) (i : Fin 128) (d : Fin 4) (e : Fin 64) : EReal := Z m c (ix2 (cr C i) (zcol (hcol d (lo e))))
abbrev Zh (c : Dev nD) (C : Fin 64) (i : Fin 128) (d : Fin 4) (e : Fin 64) : EReal := Z m c (ix2 (cr C i) (zcol (hcol d (hi e))))
def Ug (c : Dev nD) (C : Fin 64) (i : Fin 128) (d : Fin 4) (e : Fin 64) : EReal := geluF (Zl m c C i d e)
def Vg (c : Dev nD) (C : Fin 64) (i : Fin 128) (d : Fin 4) (e : Fin 64) : EReal := geluF (Zh m c C i d e)
def Dg (c : Dev nD) (C : Fin 64) (i : Fin 128) (d : Fin 4) (e : Fin 64) : EReal := Ct m c (ix2 (cr C i) (ycol d e))
def hatG (c : Dev nD) (C : Fin 64) (i : Fin 128) (d : Fin 4) (e : Fin 64) : EReal := vhF (Vg m c C i d) e
def vnG (c : Dev nD) (C : Fin 64) (i : Fin 128) (d : Fin 4) (e : Fin 64) : EReal := hatG m c C i d e * Ln m c (ix2 d e) + Lb m c (ix2 d e)
def wmG (c : Dev nD) (d : Fin 4) (i k : Fin 128) : EReal := if k.val ≤ i.val then Ws m c (ix3 d i k) else 0
def svG (c : Dev nD) (C : Fin 64) (i : Fin 128) (d : Fin 4) (e : Fin 64) : EReal :=
  ∑ s : Fin 128, wmG m c d i s * vnG m c C s d e + Bs m c (ix2 d i)
def dsG (c : Dev nD) (C : Fin 64) (i : Fin 128) (d : Fin 4) (e : Fin 64) : EReal := Dg m c C i d e * Ug m c C i d e
def dvnG (c : Dev nD) (C : Fin 64) (i : Fin 128) (d : Fin 4) (e : Fin 64) : EReal := ∑ t : Fin 128, wmG m c d t i * dsG m c C t d e

section
variable (c : Dev nD) (t : Fin cfg0.N) (d : Fin 4)

theorem row_rw4 (n : Fin 4) (i : Fin 128) : row t.val (lt16 t) (rw4 n i) = cr (tc t.val (lt16 t) n) i :=
  Fin.ext (by simp only [row, rw4, cr, tc]; omega)

theorem zT_apply (n : Fin 4) (i l : Fin 128) :
    zT m c t d (ix2 (rw4 n i) l) = geluF (Z m c (ix2 (cr (tc t.val (lt16 t) n) i) (zcol (hcol d l)))) := by
  refine (slN_apply d _ _ _).trans ((gelu_apply _ _ _).trans ?_)
  rw [blk0, row_rw4]
theorem gT_apply (n : Fin 4) (i l : Fin 128) :
    gT m c t d (ix2 (rw4 n i) l) = geluD (Z m c (ix2 (cr (tc t.val (lt16 t) n) i) (zcol (hcol d l)))) := by
  refine (slN_apply d _ _ _).trans ((geluD_apply _ _ _).trans ?_)
  rw [blk0, row_rw4]
theorem yT_lo (n : Fin 4) (i : Fin 128) (e : Fin 64) : yT m c t d (ix2 (rw4 n i) (lo e)) = Dg m c (tc t.val (lt16 t) n) i d e := by
  refine (dyN_lo d _ _ _).trans ?_
  rw [blk1, row_rw4]
  rfl
theorem yT_hi (r : Fin 512) (e : Fin 64) : yT m c t d (ix2 r (hi e)) = 0 := dyN_hi d _ r e
theorem lnT_hi (e : Fin 64) : lnT m c t d (ix2 0 (hi e)) = Ln m c (ix2 d e) := (rowN_apply d _ _).trans (blk2 m c t d e)
theorem lbT_hi (e : Fin 64) : lbT m c t d (ix2 0 (hi e)) = Lb m c (ix2 d e) := (rowN_apply d _ _).trans (blk3 m c t d e)
theorem wT_apply (i k : Fin 128) : wT m c t d (ix3 0 i k) = Ws m c (ix3 d i k) := (matN_apply d _ _ _).trans (blk4 m c t d i k)
theorem bT_apply (i k : Fin 128) : bT m c t d (ix3 0 i k) = Bs m c (ix2 d i) := (matN_apply d _ _ _).trans (blk5 m c t d i k)

theorem vhat_t (n : Fin 4) (i : Fin 128) (e : Fin 64) :
    vhat (zT m c t d) (ix2 (rw4 n i) (hi e)) = hatG m c (tc t.val (lt16 t) n) i d e := by
  rw [vhat_hi]
  simp only [zT_apply]
  rfl
theorem vn_t (n : Fin 4) (i : Fin 128) (e : Fin 64) :
    vn (zT m c t d) (lnT m c t d) (lbT m c t d) (ix2 (rw4 n i) (hi e)) = vnG m c (tc t.val (lt16 t) n) i d e := by
  rw [vn_hi, lnT_hi, lbT_hi, ← vhat_hi, vhat_t]
  rfl
theorem wm_t (i k : Fin 128) : wm (wT m c t d) (ix2 i k) = wmG m c d i k := by
  rw [wm_apply, wT_apply]
  rfl
theorem dsv_t (n : Fin 4) (i : Fin 128) (e : Fin 64) :
    dsv (zT m c t d) (yT m c t d) (ix2 (rw4 n i) (hi e)) = dsG m c (tc t.val (lt16 t) n) i d e := by
  rw [dsv_hi, zT_apply, yT_lo]
  rfl
theorem sv_t (n : Fin 4) (i : Fin 128) (e : Fin 64) :
    sv (zT m c t d) (lnT m c t d) (lbT m c t d) (wT m c t d) (bT m c t d) (ix2 (rw4 n i) (hi e)) = svG m c (tc t.val (lt16 t) n) i d e := by
  rw [sv_apply]
  simp only [wm_t, vn_t, bT_apply]
  rfl
theorem dvn_t (n : Fin 4) (i : Fin 128) (e : Fin 64) :
    dvn (zT m c t d) (wT m c t d) (yT m c t d) (ix2 (rw4 n i) (hi e)) = dvnG m c (tc t.val (lt16 t) n) i d e := by
  rw [dvn_apply]
  simp only [wm_t, dsv_t]
  rfl

/-- The sums over a tile's rows, by chunks. -/
theorem sum_rw4 (f : Fin 512 → EReal) : ∑ r : Fin 512, f r = ∑ n : Fin 4, ∑ i : Fin 128, f (rw4 n i) :=
  (sum_tiles 4 128 512 rfl f).trans (Finset.sum_congr rfl fun n _ => Finset.sum_congr rfl fun i _ =>
    congrArg f (Fin.ext (by simp only [rw4]; omega)))

theorem dwT_apply (acc : Vec Ideal S1x128x128 .f32) (i k : Fin 128) : dwT m c t d acc (ix3 0 i k) = acc (ix3 0 i k)
    + ∑ n : Fin 4, if k.val ≤ i.val then ∑ e : Fin 64, dsG m c (tc t.val (lt16 t) n) i d e * vnG m c (tc t.val (lt16 t) n) k d e else 0 := by
  rw [dwT, dwAcc_apply, dwPart_apply _ _ _ _ (yT_hi m c t d)]
  simp only [dsv_t, vn_t]
  split <;> simp
theorem dbsT_apply (acc : Vec Ideal S1x128x128 .f32) (i k : Fin 128) : dbsT m c t d acc (ix3 0 i k) = acc (ix3 0 i k)
    + ∑ n : Fin 4, ∑ e : Fin 64, dsG m c (tc t.val (lt16 t) n) i d e := by
  rw [dbsT, dbsAcc_apply, dbsPart_apply _ _ (yT_hi m c t d)]
  simp only [dsv_t]
theorem dgT_hi (acc : Vec Ideal S1x128 .f32) (e : Fin 64) : dgT m c t d acc (ix2 0 (hi e)) = acc (ix2 0 (hi e))
    + ∑ n : Fin 4, ∑ i : Fin 128, dvnG m c (tc t.val (lt16 t) n) i d e * hatG m c (tc t.val (lt16 t) n) i d e := by
  rw [dgT, dgAcc_apply, sum_rw4]
  simp only [dvn_t, vhat_t]
theorem dgT_lo (acc : Vec Ideal S1x128 .f32) (e : Fin 64) : dgT m c t d acc (ix2 0 (lo e)) = acc (ix2 0 (lo e))
    + ∑ n : Fin 4, ∑ _i : Fin 128, 0 := by
  rw [dgT, dgAcc_apply, sum_rw4]
  simp only [vhat_lo, mul_zero]
theorem dbT_hi (acc : Vec Ideal S1x128 .f32) (e : Fin 64) : dbT m c t d acc (ix2 0 (hi e)) = acc (ix2 0 (hi e))
    + ∑ n : Fin 4, ∑ i : Fin 128, dvnG m c (tc t.val (lt16 t) n) i d e := by
  rw [dbT, dbAcc_apply, sum_rw4]
  simp only [dvn_t]
theorem dbT_lo (acc : Vec Ideal S1x128 .f32) (e : Fin 64) : dbT m c t d acc (ix2 0 (lo e)) = acc (ix2 0 (lo e))
    + ∑ n : Fin 4, ∑ _i : Fin 128, 0 := by
  rw [dbT, dbAcc_apply, sum_rw4]
  simp only [dvn_lo _ _ _ (yT_hi m c t d)]

end

/-- A lane on either side. -/
def bySide (f g : Fin 64 → EReal) (l : Fin 128) : EReal := if h : l.val < 64 then f ⟨l.val, h⟩ else g ⟨l.val - 64, by omega⟩
theorem bySide_lo (f g : Fin 64 → EReal) (e : Fin 64) : bySide f g (lo e) = f e := dif_pos (lo_lt e)
theorem bySide_hi (f g : Fin 64 → EReal) (e : Fin 64) : bySide f g (hi e) = g e :=
  (dif_neg (hi_ge e)).trans (congrArg g (Fin.ext (by simp only [hi]; omega)))
theorem side (l : Fin 128) : (∃ e, l = lo e) ∨ ∃ e, l = hi e := by
  by_cases h : l.val < 64
  · exact .inl ⟨⟨l.val, h⟩, rfl⟩
  · exact .inr ⟨⟨l.val - 64, by omega⟩, Fin.ext (by simp only [hi]; omega)⟩

/-- One chunk's terms of the four sums. -/
def dwC (c : Dev nD) (d : Fin 4) (i k : Fin 128) (C : Fin 64) : EReal :=
  if k.val ≤ i.val then ∑ e : Fin 64, dsG m c C i d e * vnG m c C k d e else 0
def dbsC (c : Dev nD) (d : Fin 4) (i : Fin 128) (C : Fin 64) : EReal := ∑ e : Fin 64, dsG m c C i d e
def dgC (c : Dev nD) (d : Fin 4) (l : Fin 128) (C : Fin 64) : EReal :=
  ∑ i : Fin 128, bySide (fun _ => 0) (fun e => dvnG m c C i d e * hatG m c C i d e) l
def dbC (c : Dev nD) (d : Fin 4) (l : Fin 128) (C : Fin 64) : EReal := ∑ i : Fin 128, bySide (fun _ => 0) (dvnG m c C i d) l

/-- An array that starts from zero at point 0 and takes one chunk after another, four a point, ends as the sum over the chunks. -/
theorem sum_last {ι : Type} (out : ∀ n, n < cfg0.N → ι → EReal) (f : ι → Fin 64 → EReal)
    (reset : ∀ t : Fin cfg0.N, t.val % 16 = 0 → ∀ j, out t.val t.isLt j = 0 + ∑ n : Fin 4, f j (tc t.val (lt16 t) n))
    (step : ∀ t : Fin cfg0.N, ¬t.val % 16 = 0 → ∀ j, out t.val t.isLt j
      = out (t.val - 1) (Nat.lt_of_le_of_lt (Nat.sub_le _ 1) t.isLt) j + ∑ n : Fin 4, f j (tc t.val (lt16 t) n)) (j : ι) :
    out t0_15.val t0_15.isLt j = ∑ C : Fin 64, f j C :=
  (Pipeline.eq_sum_fin_of_reset_step_apply_last (N := cfg0.N) out 16 (fun _ => 0) (fun p j => ∑ n : Fin 4, f j (tc p.val (lt16 p) n))
    reset step (by decide) t0_15 rfl j).trans ((zero_add _).trans (sum_tiles 16 4 64 rfl (f j)).symm)

theorem dgT_eq (c : Dev nD) (t : Fin cfg0.N) (d : Fin 4) (acc : Vec Ideal S1x128 .f32) (l : Fin 128) :
    dgT m c t d acc (ix2 0 l) = acc (ix2 0 l) + ∑ n : Fin 4, dgC m c d l (tc t.val (lt16 t) n) := by
  unfold dgC
  obtain ⟨e, rfl⟩ | ⟨e, rfl⟩ := side l
  · rw [dgT_lo]; simp only [bySide_lo]
  · rw [dgT_hi]; simp only [bySide_hi]
theorem dbT_eq (c : Dev nD) (t : Fin cfg0.N) (d : Fin 4) (acc : Vec Ideal S1x128 .f32) (l : Fin 128) :
    dbT m c t d acc (ix2 0 l) = acc (ix2 0 l) + ∑ n : Fin 4, dbC m c d l (tc t.val (lt16 t) n) := by
  unfold dbC
  obtain ⟨e, rfl⟩ | ⟨e, rfl⟩ := side l
  · rw [dbT_lo]; simp only [bySide_lo]
  · rw [dbT_hi]; simp only [bySide_hi]

theorem zMat_apply (d : Fin 4) (i k : Fin 128) : zMat (ix3 d i k) = 0 := by unfold zMat k0_pay2; pointwise
theorem zMat'_apply (d : Fin 4) (i k : Fin 128) : zMat' (ix3 d i k) = 0 := by unfold zMat' k0_pay3; pointwise
theorem zRow_apply (k : Fin 512) : zRow (ix2 0 k) = 0 := by unfold zRow k0_pay4; pointwise
theorem zRow'_apply (k : Fin 512) : zRow' (ix2 0 k) = 0 := by unfold zRow' k0_pay5; pointwise

theorem dw_last (c : Dev nD) (d : Fin 4) (i k : Fin 128) :
    (outsAt0 m c t0_15.val t0_15.isLt).2.1 (ix3 d i k) = ∑ C : Fin 64, dwC m c d i k C :=
  sum_last (ι := Fin 4 × Fin 128 × Fin 128) (fun n h j => (outsAt0 m c n h).2.1 (ix3 j.1 j.2.1 j.2.2)) (fun j => dwC m c j.1 j.2.1 j.2.2)
    (fun t h j => (dw_A m c t h _ _ _).trans ((dwT_apply m c t _ _ _ _).trans (congrArg (· + _) ((matN_apply _ _ _ _).trans (zMat_apply _ _ _)))))
    (fun t h j => (dw_B m c t h _ _ _).trans ((dwT_apply m c t _ _ _ _).trans (congrArg (· + _) (matN_apply _ _ _ _)))) (d, i, k)
theorem dbs_last (c : Dev nD) (d : Fin 4) (i k : Fin 128) :
    (outsAt0 m c t0_15.val t0_15.isLt).2.2.1 (ix3 d i k) = ∑ C : Fin 64, dbsC m c d i C :=
  sum_last (ι := Fin 4 × Fin 128 × Fin 128) (fun n h j => (outsAt0 m c n h).2.2.1 (ix3 j.1 j.2.1 j.2.2)) (fun j => dbsC m c j.1 j.2.1)
    (fun t h j => (dbs_A m c t h _ _ _).trans ((dbsT_apply m c t _ _ _ _).trans (congrArg (· + _) ((matN_apply _ _ _ _).trans (zMat'_apply _ _ _)))))
    (fun t h j => (dbs_B m c t h _ _ _).trans ((dbsT_apply m c t _ _ _ _).trans (congrArg (· + _) (matN_apply _ _ _ _)))) (d, i, k)
theorem dg_last (c : Dev nD) (d : Fin 4) (l : Fin 128) :
    (outsAt0 m c t0_15.val t0_15.isLt).2.2.2.1 (ix2 0 (hcol d l)) = ∑ C : Fin 64, dgC m c d l C :=
  sum_last (ι := Fin 4 × Fin 128) (fun n h j => (outsAt0 m c n h).2.2.2.1 (ix2 0 (hcol j.1 j.2))) (fun j => dgC m c j.1 j.2)
    (fun t h j => (dg_A m c t h _ _).trans ((dgT_eq m c t _ _ _).trans (congrArg (· + _) ((rowN_apply _ _ _).trans (zRow_apply _)))))
    (fun t h j => (dg_B m c t h _ _).trans ((dgT_eq m c t _ _ _).trans (congrArg (· + _) (rowN_apply _ _ _)))) (d, l)
theorem db_last (c : Dev nD) (d : Fin 4) (l : Fin 128) :
    (outsAt0 m c t0_15.val t0_15.isLt).2.2.2.2 (ix2 0 (hcol d l)) = ∑ C : Fin 64, dbC m c d l C :=
  sum_last (ι := Fin 4 × Fin 128) (fun n h j => (outsAt0 m c n h).2.2.2.2 (ix2 0 (hcol j.1 j.2))) (fun j => dbC m c j.1 j.2)
    (fun t h j => (db_A m c t h _ _).trans ((dbT_eq m c t _ _ _).trans (congrArg (· + _) ((rowN_apply _ _ _).trans (zRow'_apply _)))))
    (fun t h j => (db_B m c t h _ _).trans ((dbT_eq m c t _ _ _).trans (congrArg (· + _) (rowN_apply _ _ _)))) (d, l)

/-- The gradient of the lanes. -/
def dzaC (c : Dev nD) (C : Fin 64) (i : Fin 128) (d : Fin 4) (l : Fin 128) : EReal :=
  bySide (fun e => Dg m c C i d e * svG m c C i d e * geluD (Zl m c C i d e))
    (fun e => dxF (Vg m c C i d) (fun j => dvnG m c C i d j * Ln m c (ix2 d j)) e * geluD (Zh m c C i d e)) l

theorem dzaT_apply (c : Dev nD) (t : Fin cfg0.N) (d : Fin 4) (n : Fin 4) (i l : Fin 128) :
    dzaT m c t d (ix2 (rw4 n i) l) = dzaC m c (tc t.val (lt16 t) n) i d l := by
  unfold dzaC
  obtain ⟨e, rfl⟩ | ⟨e, rfl⟩ := side l
  · rw [bySide_lo, dzaT, dza_lo, yT_lo, sv_t, gT_apply]
  · rw [bySide_hi, dzaT, dza_hi _ _ _ _ _ _ _ (yT_hi m c t d), gT_apply]
    simp only [dvn_t, lnT_hi, zT_apply]
    rfl

theorem ex_rw4 (r : Fin 512) : ∃ n i, r = rw4 n i := ⟨⟨r.val / 128, by omega⟩, ⟨r.val % 128, by omega⟩, Fin.ext (by simp only [rw4]; omega)⟩
theorem ex_hcol (r : Fin 512) : ∃ d l, r = hcol d l := ⟨⟨r.val / 128, by omega⟩, ⟨r.val % 128, by omega⟩, Fin.ext (by simp only [hcol]; omega)⟩
theorem ex_cr (r : Fin 8192) : ∃ C i, r = cr C i := ⟨⟨r.val / 128, by omega⟩, ⟨r.val % 128, by omega⟩, Fin.ext (by simp only [cr]; omega)⟩

def chunkOf (R : Fin 8192) : Fin 64 := ⟨R.val / 128, by omega⟩
def posOf (R : Fin 8192) : Fin 128 := ⟨R.val % 128, by omega⟩
def headOf (k : Fin 512) : Fin 4 := ⟨k.val / 128, by omega⟩
def laneOf (k : Fin 512) : Fin 128 := ⟨k.val % 128, by omega⟩
theorem headOf_hcol (d : Fin 4) (l : Fin 128) : headOf (hcol d l) = d := Fin.ext (by simp only [headOf, hcol]; omega)
theorem laneOf_hcol (d : Fin 4) (l : Fin 128) : laneOf (hcol d l) = l := Fin.ext (by simp only [laneOf, hcol]; omega)
theorem chunkOf_cr (C : Fin 64) (i : Fin 128) : chunkOf (cr C i) = C := Fin.ext (by simp only [chunkOf, cr]; omega)
theorem posOf_cr (C : Fin 64) (i : Fin 128) : posOf (cr C i) = i := Fin.ext (by simp only [posOf, cr]; omega)

/-- The five arrays. -/
def dzaArr (c : Dev nD) : Vec Ideal S8192x512 .f32 := fun x => dzaC m c (chunkOf (x 0)) (posOf (x 0)) (headOf (x 1)) (laneOf (x 1))
def dwsArr (c : Dev nD) : Vec Ideal S4x128x128 .f32 := fun x => ∑ C : Fin 64, dwC m c (x 0) (x 1) (x 2) C
def dbsArr (c : Dev nD) : Vec Ideal S4x128x128 .f32 := fun x => ∑ C : Fin 64, dbsC m c (x 0) (x 1) C
def dgArr (c : Dev nD) : Vec Ideal S1x512 .f32 := fun x => ∑ C : Fin 64, dgC m c (headOf (x 1)) (laneOf (x 1)) C
def dbArr (c : Dev nD) : Vec Ideal S1x512 .f32 := fun x => ∑ C : Fin 64, dbC m c (headOf (x 1)) (laneOf (x 1)) C

theorem dzaArr_apply (c : Dev nD) (C : Fin 64) (i : Fin 128) (d : Fin 4) (l : Fin 128) :
    dzaArr m c (ix2 (cr C i) (hcol d l)) = dzaC m c C i d l := by
  show dzaC m c (chunkOf (cr C i)) (posOf (cr C i)) (headOf (hcol d l)) (laneOf (hcol d l)) = _
  rw [headOf_hcol, laneOf_hcol, chunkOf_cr, posOf_cr]
theorem dgArr_apply (c : Dev nD) (d : Fin 4) (l : Fin 128) : dgArr m c (ix2 0 (hcol d l)) = ∑ C : Fin 64, dgC m c d l C := by
  show ∑ C, dgC m c (headOf (hcol d l)) (laneOf (hcol d l)) C = _
  rw [headOf_hcol, laneOf_hcol]
theorem dbArr_apply (c : Dev nD) (d : Fin 4) (l : Fin 128) : dbArr m c (ix2 0 (hcol d l)) = ∑ C : Fin 64, dbC m c d l C := by
  show ∑ C, dbC m c (headOf (hcol d l)) (laneOf (hcol d l)) C = _
  rw [headOf_hcol, laneOf_hcol]

theorem final6 (c : Dev nD) : (dats m 0 c).arrAt 6 cfg0.N = dzaArr m c := by
  refine (dats m 0 c).arrAt_eq_of_covers 6 _ (by decide +kernel) fun t hf y => ?_
  obtain ⟨r, k, rfl⟩ : ∃ (r : Fin 512) (k : Fin 512), y = ix2 r k := ⟨y 0, y 1, eq_ix2 y⟩
  obtain ⟨n, i, rfl⟩ := ex_rw4 r
  obtain ⟨d, l, rfl⟩ := ex_hcol k
  have e' : ((cfg0.win 6).blk t).view.emb (ix2 (rw4 n i) (hcol d l)) = ix2 (cr (tc t.val (lt16 t) n) i) (hcol d l) := by
    rw [← row_rw4]; unfold row; blk_ext [idx t]
  rw [e', dzaArr_apply]
  blk_simp
  rw [after0_6]
  exact (dza_t m c t d _ l).trans (dzaT_apply m c t d n i l)

theorem final7 (c : Dev nD) : (dats m 0 c).arrAt 7 cfg0.N = dwsArr m c := by
  refine (dats m 0 c).arrAt_eq_of_after_last 7 t0_15 (by decide +kernel) _ fun j => ?_
  blk_simp
  rw [after0_7]
  obtain ⟨d, i, k, rfl⟩ : ∃ (d : Fin 4) (i k : Fin 128), j = ix3 d i k := ⟨j 0, j 1, j 2, eq_ix3 j⟩
  exact dw_last m c d i k
theorem final8 (c : Dev nD) : (dats m 0 c).arrAt 8 cfg0.N = dbsArr m c := by
  refine (dats m 0 c).arrAt_eq_of_after_last 8 t0_15 (by decide +kernel) _ fun j => ?_
  blk_simp
  rw [after0_8]
  obtain ⟨d, i, k, rfl⟩ : ∃ (d : Fin 4) (i k : Fin 128), j = ix3 d i k := ⟨j 0, j 1, j 2, eq_ix3 j⟩
  exact dbs_last m c d i k
theorem final9 (c : Dev nD) : (dats m 0 c).arrAt 9 cfg0.N = dgArr m c := by
  refine (dats m 0 c).arrAt_eq_of_after_last 9 t0_15 (by decide +kernel) _ fun j => ?_
  blk_simp
  rw [after0_9]
  obtain ⟨r, k, rfl⟩ : ∃ (r : Fin 1) (k : Fin 512), j = ix2 r k := ⟨j 0, j 1, eq_ix2 j⟩
  obtain rfl : r = 0 := Subsingleton.elim _ _
  obtain ⟨d, l, rfl⟩ := ex_hcol k
  exact (dg_last m c d l).trans (dgArr_apply m c d l).symm
theorem final10 (c : Dev nD) : (dats m 0 c).arrAt 10 cfg0.N = dbArr m c := by
  refine (dats m 0 c).arrAt_eq_of_after_last 10 t0_15 (by decide +kernel) _ fun j => ?_
  blk_simp
  rw [after0_10]
  obtain ⟨r, k, rfl⟩ : ∃ (r : Fin 1) (k : Fin 512), j = ix2 r k := ⟨j 0, j 1, eq_ix2 j⟩
  obtain rfl : r = 0 := Subsingleton.elim _ _
  obtain ⟨d, l, rfl⟩ := ex_hcol k
  exact (db_last m c d l).trans (dbArr_apply m c d l).symm

/-- The run: the five arrays, the arguments unchanged. -/
theorem run : θ_run defs (onTc (τ := τ) (main (F := Ideal))) ⟨m, fun _ => 0, ρ⟩ fun r => ∀ c : Dev nD,
      r.2.mem ((c : Thread nD τ).loc main_v11_0) = dzaArr m c
      ∧ r.2.mem ((c : Thread nD τ).loc main_v11_1) = dwsArr m c
      ∧ r.2.mem ((c : Thread nD τ).loc main_v11_2) = dbsArr m c
      ∧ r.2.mem ((c : Thread nD τ).loc main_v11_3) = dgArr m c
      ∧ r.2.mem ((c : Thread nD τ).loc main_v11_4) = dbArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2⟩) (Value.run_blocks m ρ)

end Cert.GmlpIdeal.Hand

end
-- ==== Proof.Gmlp.lean ====
/- The gradient of the gated mixing of chunks: the reference's reading, the equations of the five arrays, the claims' parts. -/
module

public import proofs.«01_k».proof.Defs
public import proofs.«01_k».proof.Proof.Gen.Gmlp.Frame
public import proofs.«01_k».proof.Proof.Gen.GmlpRefIdeal.Run
public import proofs.«01_k».proof.Proof.GmlpKernel

@[expose] public section

set_option maxRecDepth 16384

noncomputable section

open Idealize.ShloMosaic Idealize.ShloMosaic.TcCoe Idealize.SL.Sem Idealize.ShloMosaic.StableHlo

namespace Cert.Proof.Gmlp

open Cert.GmlpRefIdeal Cert.GmlpRefIdeal.Gen Cert.GmlpRefIdeal.Value Cert.Reals Cert.Rms
open Cert.GmlpIdeal.Hand (Z Ln Lb Ws Bs Ct geluF geluD zcol hcol ycol lo hi cr wi64 weps xcF rsF vhF dxF Zl Zh Ug Vg Dg hatG vnG wmG svG dsG dvnG
  bySide bySide_lo bySide_hi side ex_cr ex_hcol)

/-- The side conditions of the precondition's function. -/
instance pre_facts : Cert.Pre_gmlp_finite.Facts := by constructor <;> decide

variable (m : (ℓ : Loc Cert.GmlpIdeal.nD Cert.GmlpIdeal.τ Cert.GmlpIdeal.sig) → Buf (Elt Ideal) ℓ)
  (m' : (ℓ : Loc nD τ sig) → Buf (Elt Ideal) ℓ)

theorem preserves : Cert.preserves_Gmlp_GmlpIdeal :=
  ⟨IdealRules.named_const.statement Cert.GmlpIdeal.κ "gelu_a" .f32 _ _ rfl, IdealRules.named_const.statement Cert.GmlpIdeal.κ "gelu_3a" .f32 _ _ rfl⟩

/-- The arguments of the precondition are numbers. -/
structure Real (c : Dev nD) : Prop where
  z : ∀ r k, IsReal (Z m c (ix2 r k))
  ln : ∀ r k, IsReal (Ln m c (ix2 r k))
  lb : ∀ r k, IsReal (Lb m c (ix2 r k))
  ws : ∀ d i k, IsReal (Ws m c (ix3 d i k))
  bs : ∀ r k, IsReal (Bs m c (ix2 r k))
  ct : ∀ r k, IsReal (Ct m c (ix2 r k))

theorem real_of_pre (h : Cert.Pre_GmlpIdeal_gmlp_finite m) (c : Dev nD) : Real m c := by
  obtain ⟨h0, h1, h2, h3, h4, h5⟩ := h c
  dsimp only [Cert.Pre_gmlp_finite.fn] at h0 h1 h2 h3 h4 h5
  refine ⟨fun r k => ?_, fun r k => ?_, fun r k => ?_, fun d r k => ?_, fun r k => ?_, fun r k => ?_⟩
  · have := congrFun h0 (ix2 r k); revert this; pointwise; exact real_of_word
  · have := congrFun h1 (ix2 r k); revert this; pointwise; exact real_of_word
  · have := congrFun h2 (ix2 r k); revert this; pointwise; exact real_of_word
  · have := congrFun h3 (ix3 d r k); revert this; pointwise; exact real_of_word
  · have := congrFun h4 (ix2 r k); revert this; pointwise; exact real_of_word
  · have := congrFun h5 (ix2 r k); revert this; pointwise; exact real_of_word

theorem frame : Cert.quiescent_Gmlp := fun m ρ _ => Cert.Gmlp.Gen.frame m ρ
theorem frame_ideal : Cert.quiescent_GmlpIdeal := fun m ρ _ => Cert.GmlpIdeal.Gen.frame m ρ
theorem frame_ideal_pre : Cert.quiescent_GmlpIdeal_pre_gmlp_finite := fun m ρ _ => Cert.GmlpIdeal.Gen.frame m ρ
theorem frame_ref : Cert.quiescent_GmlpRefIdeal := fun m ρ _ =>
  (θ_run Cert.GmlpRefIdeal.defs _ _).mono (fun r h => ⟨fun c => (h c).2.2.2.2.2,
      Idealize.ShloMosaic.sem_eq_zero_of_no_sems (by decide) r.2⟩)
    (Cert.GmlpRefIdeal.Value.run (F := Ideal) m ρ)
theorem frame_ref_pre : Cert.quiescent_GmlpRefIdeal_pre_gmlp_finite := fun m ρ _ => frame_ref m ρ trivial

/-! Sums over several axes of a rank-five array. -/

section
variable {n0 n1 n2 n3 n4 : ℕ} (v : (⟨5, ![n0, n1, n2, n3, n4]⟩ : Shape).Idx → EReal)

theorem red_04 (h : (⟨5, ![n0, n1, n2, n3, n4]⟩ : Shape).ReducesTo [0, 4] ⟨3, ![n1, n2, n3]⟩) (b : Fin n1) (c : Fin n2) (d : Fin n3) :
    Ideal.hostReduceAdd h v 0 (ix3 b c d) = ∑ k : Fin n0 × Fin n4, v (ix5 k.1 b c d k.2) := by
  refine (zero_add _).trans (Finset.sum_filter_eq_sum_of_fiber _ (fun k : Fin n0 × Fin n4 => (ix5 k.1 b c d k.2 : (⟨5, ![n0, n1, n2, n3, n4]⟩ : Shape).Idx))
    (fun _ _ e => Prod.ext (congrFun e 0) (congrFun e 4)) (fun i => ⟨fun e => ⟨(i 0, i 4), ?_⟩, ?_⟩) v)
  · funext a
    match a with
    | ⟨0, _⟩ => rfl
    | ⟨1, _⟩ => exact (congrFun e 0).symm
    | ⟨2, _⟩ => exact (congrFun e 1).symm
    | ⟨3, _⟩ => exact (congrFun e 2).symm
    | ⟨4, _⟩ => rfl
  · rintro ⟨k, rfl⟩
    funext a
    match a with
    | ⟨0, _⟩ => rfl
    | ⟨1, _⟩ => rfl
    | ⟨2, _⟩ => rfl
theorem red_14 (h : (⟨5, ![n0, n1, n2, n3, n4]⟩ : Shape).ReducesTo [1, 4] ⟨3, ![n0, n2, n3]⟩) (b : Fin n0) (c : Fin n2) (d : Fin n3) :
    Ideal.hostReduceAdd h v 0 (ix3 b c d) = ∑ k : Fin n1 × Fin n4, v (ix5 b k.1 c d k.2) := by
  refine (zero_add _).trans (Finset.sum_filter_eq_sum_of_fiber _ (fun k : Fin n1 × Fin n4 => (ix5 b k.1 c d k.2 : (⟨5, ![n0, n1, n2, n3, n4]⟩ : Shape).Idx))
    (fun _ _ e => Prod.ext (congrFun e 1) (congrFun e 4)) (fun i => ⟨fun e => ⟨(i 1, i 4), ?_⟩, ?_⟩) v)
  · funext a
    match a with
    | ⟨0, _⟩ => exact (congrFun e 0).symm
    | ⟨1, _⟩ => rfl
    | ⟨2, _⟩ => exact (congrFun e 1).symm
    | ⟨3, _⟩ => exact (congrFun e 2).symm
    | ⟨4, _⟩ => rfl
  · rintro ⟨k, rfl⟩
    funext a
    match a with
    | ⟨0, _⟩ => rfl
    | ⟨1, _⟩ => rfl
    | ⟨2, _⟩ => rfl
theorem red_12 (h : (⟨5, ![n0, n1, n2, n3, n4]⟩ : Shape).ReducesTo [1, 2] ⟨3, ![n0, n3, n4]⟩) (b : Fin n0) (c : Fin n3) (d : Fin n4) :
    Ideal.hostReduceAdd h v 0 (ix3 b c d) = ∑ k : Fin n1 × Fin n2, v (ix5 b k.1 k.2 c d) := by
  refine (zero_add _).trans (Finset.sum_filter_eq_sum_of_fiber _ (fun k : Fin n1 × Fin n2 => (ix5 b k.1 k.2 c d : (⟨5, ![n0, n1, n2, n3, n4]⟩ : Shape).Idx))
    (fun _ _ e => Prod.ext (congrFun e 1) (congrFun e 2)) (fun i => ⟨fun e => ⟨(i 1, i 2), ?_⟩, ?_⟩) v)
  · funext a
    match a with
    | ⟨0, _⟩ => exact (congrFun e 0).symm
    | ⟨1, _⟩ => rfl
    | ⟨2, _⟩ => rfl
    | ⟨3, _⟩ => exact (congrFun e 1).symm
    | ⟨4, _⟩ => exact (congrFun e 2).symm
  · rintro ⟨k, rfl⟩
    funext a
    match a with
    | ⟨0, _⟩ => rfl
    | ⟨1, _⟩ => rfl
    | ⟨2, _⟩ => rfl
theorem red_014 (h : (⟨5, ![n0, n1, n2, n3, n4]⟩ : Shape).ReducesTo [0, 1, 4] ⟨2, ![n2, n3]⟩) (c : Fin n2) (d : Fin n3) :
    Ideal.hostReduceAdd h v 0 (ix2 c d) = ∑ k : Fin n0 × Fin n1 × Fin n4, v (ix5 k.1 k.2.1 c d k.2.2) := by
  refine (zero_add _).trans (Finset.sum_filter_eq_sum_of_fiber _
    (fun k : Fin n0 × Fin n1 × Fin n4 => (ix5 k.1 k.2.1 c d k.2.2 : (⟨5, ![n0, n1, n2, n3, n4]⟩ : Shape).Idx))
    (fun _ _ e => Prod.ext (congrFun e 0) (Prod.ext (congrFun e 1) (congrFun e 4))) (fun i => ⟨fun e => ⟨(i 0, i 1, i 4), ?_⟩, ?_⟩) v)
  · funext a
    match a with
    | ⟨0, _⟩ => rfl
    | ⟨1, _⟩ => rfl
    | ⟨2, _⟩ => exact (congrFun e 0).symm
    | ⟨3, _⟩ => exact (congrFun e 1).symm
    | ⟨4, _⟩ => rfl
  · rintro ⟨k, rfl⟩
    funext a
    match a with
    | ⟨0, _⟩ => rfl
    | ⟨1, _⟩ => rfl
theorem red_012 (h : (⟨5, ![n0, n1, n2, n3, n4]⟩ : Shape).ReducesTo [0, 1, 2] ⟨2, ![n3, n4]⟩) (c : Fin n3) (d : Fin n4) :
    Ideal.hostReduceAdd h v 0 (ix2 c d) = ∑ k : Fin n0 × Fin n1 × Fin n2, v (ix5 k.1 k.2.1 k.2.2 c d) := by
  refine (zero_add _).trans (Finset.sum_filter_eq_sum_of_fiber _
    (fun k : Fin n0 × Fin n1 × Fin n2 => (ix5 k.1 k.2.1 k.2.2 c d : (⟨5, ![n0, n1, n2, n3, n4]⟩ : Shape).Idx))
    (fun _ _ e => Prod.ext (congrFun e 0) (Prod.ext (congrFun e 1) (congrFun e 2))) (fun i => ⟨fun e => ⟨(i 0, i 1, i 2), ?_⟩, ?_⟩) v)
  · funext a
    match a with
    | ⟨0, _⟩ => rfl
    | ⟨1, _⟩ => rfl
    | ⟨2, _⟩ => rfl
    | ⟨3, _⟩ => exact (congrFun e 0).symm
    | ⟨4, _⟩ => exact (congrFun e 1).symm
  · rintro ⟨k, rfl⟩
    funext a
    match a with
    | ⟨0, _⟩ => rfl
    | ⟨1, _⟩ => rfl

end
section
variable {n0 n1 n2 : ℕ} (v : (⟨3, ![n0, n1, n2]⟩ : Shape).Idx → EReal)
theorem red_0 (h : (⟨3, ![n0, n1, n2]⟩ : Shape).ReducesTo [0] ⟨2, ![n1, n2]⟩) (b : Fin n1) (c : Fin n2) :
    Ideal.hostReduceAdd h v 0 (ix2 b c) = ∑ k : Fin n0, v (ix3 k b c) := by
  refine (zero_add _).trans (Finset.sum_filter_eq_sum_of_fiber _ (fun k : Fin n0 => (ix3 k b c : (⟨3, ![n0, n1, n2]⟩ : Shape).Idx))
    (fun _ _ e => congrFun e 0) (fun i => ⟨fun e => ⟨i 0, ?_⟩, ?_⟩) v)
  · funext a
    match a with
    | ⟨0, _⟩ => rfl
    | ⟨1, _⟩ => exact (congrFun e 0).symm
    | ⟨2, _⟩ => exact (congrFun e 1).symm
  · rintro ⟨k, rfl⟩
    funext a
    match a with
    | ⟨0, _⟩ => rfl
    | ⟨1, _⟩ => rfl
end

/-! The reference's arrays at an index, the two programs' arguments being equal. -/

/-- The two launches have equal arguments on a device. -/
structure Same (c : Dev nD) : Prop where
  e0 : launchContents m' c (Proc.devRef .tc main_arg0) = Z m c
  e1 : launchContents m' c (Proc.devRef .tc main_arg1) = Ln m c
  e2 : launchContents m' c (Proc.devRef .tc main_arg2) = Lb m c
  e3 : launchContents m' c (Proc.devRef .tc main_arg3) = Ws m c
  e4 : launchContents m' c (Proc.devRef .tc main_arg4) = Bs m c
  e5 : launchContents m' c (Proc.devRef .tc main_arg5) = Ct m c

/-- The quotient that the reference writes is the kernel's named coefficient. -/
theorem coeff : Ideal.div (Ideal.ofBits .f32 0x472EAB00#32) (Ideal.ofBits .f32 0x49742400#32) = ((8943 / 200000 : ℝ) : EReal) := by
  have h1 : Ideal.ofBits .f32 0x472EAB00#32 = ((44715 : ℝ) : EReal) := by simp [Ideal.ofBits, Ideal.ieee, -EReal.coe_mul]; norm_num
  have h2 : Ideal.ofBits .f32 0x49742400#32 = ((1000000 : ℝ) : EReal) := by simp [Ideal.ofBits, Ideal.ieee, -EReal.coe_mul]; norm_num
  rw [h1, h2, div_coe_coe _ (by norm_num)]
  norm_num

theorem word_64 : Ideal.ofBits .f32 0x42800000#32 = ((64 : ℝ) : EReal) := by
  simp [Ideal.ofBits, Ideal.ieee, -EReal.coe_mul]; norm_num
theorem word_inv_64 : wi64 = ((1 / 64 : ℝ) : EReal) := by
  simp [wi64, Ideal.ofBits, Ideal.ieee, -EReal.coe_mul]; norm_num
/-- Division by 64 is multiplication by its inverse. -/
theorem div_64 (x : EReal) : Ideal.div x (Ideal.ofBits .f32 0x42800000#32) = x * wi64 := by
  rw [word_64, word_inv_64, Ideal.div_coe (by norm_num)]

section
variable {m m'} {c : Dev nD} (hs : Same m m' c)
include hs

theorem v1_apply (R : Fin 8192) (k : Fin 512) : res_main_v1 (launchContents m' c) (ix3 0 R k) = Z m c (ix2 R (zcol k)) := by
  have e := hs.e0
  unfold res_main_v1
  pointwise
  rw [e]
  rfl
theorem v47_apply (d : Fin 4) (e : Fin 64) : res_main_v47 (launchContents m' c) (ix5 0 0 0 d e) = Ln m c (ix2 d e) := by
  have e' := hs.e1
  unfold res_main_v47
  pointwise
  rw [e']
theorem v66_apply (C : Fin 64) (i : Fin 128) (d : Fin 4) (e : Fin 64) : res_main_v66 (launchContents m' c) (ix5 0 C i d e) = Dg m c C i d e := by
  have e' := hs.e5
  unfold res_main_v66
  pointwise
  rw [e']
  exact congrArg (fun x => Ct m c (ix2 (cr C i) x)) (Fin.ext (by simp only [ycol]; omega))
/-- The hyperbolic tangent inside the activation. -/
def th (x : EReal) : EReal := Ideal.tanh (Ideal.ofBits .f32 0x3F4C422A#32 * (x + ((8943 / 200000 : ℝ) : EReal) * (x * x * x)))
omit hs in
theorem v4_apply (R : Fin 8192) (k : Fin 512) :
    res_main_v4 (launchContents m' c) (ix3 0 R k) = (((8943 / 200000 : ℝ) : EReal) : Elt Ideal .f32) := by
  unfold res_main_v4
  pointwise
  exact coeff
theorem v14_apply (R : Fin 8192) (k : Fin 512) : res_main_v14 (launchContents m' c) (ix3 0 R k) = th (Z m c (ix2 R (zcol k))) := by
  unfold res_main_v14 th
  pointwise [v1_apply hs, v4_apply]
theorem v23_apply (R : Fin 8192) (k : Fin 512) : res_main_v23 (launchContents m' c) (ix3 0 R k)
    = Ideal.ofBits .f32 0x3F000000#32 * (1 + th (Z m c (ix2 R (zcol k)))) := by
  unfold res_main_v23
  pointwise [v14_apply hs]
theorem v25_apply (C : Fin 64) (i : Fin 128) (d : Fin 4) (l : Fin 128) : res_main_v25 (launchContents m' c) (ix5 0 C i d l)
    = geluF (Z m c (ix2 (cr C i) (zcol (hcol d l)))) := by
  unfold res_main_v25
  pointwise [v1_apply hs, v23_apply hs]
  rw [← mul_assoc, mul_comm (Z m c _)]
  have e : (⟨d.val * 128 + l.val, by omega⟩ : Fin 512) = hcol d l := Fin.ext (by simp only [hcol]; omega)
  rw [e]
  rfl
theorem v26_apply (C : Fin 64) (i : Fin 128) (d : Fin 4) (e : Fin 64) : res_main_v26 (launchContents m' c) (ix5 0 C i d e) = Ug m c C i d e := by
  unfold res_main_v26
  pointwise [v25_apply hs]
  rfl
theorem v27_apply (C : Fin 64) (i : Fin 128) (d : Fin 4) (e : Fin 64) : res_main_v27 (launchContents m' c) (ix5 0 C i d e) = Vg m c C i d e := by
  unfold res_main_v27
  pointwise [v25_apply hs]
  rfl
theorem v33_apply (C : Fin 64) (i : Fin 128) (d : Fin 4) (e : Fin 64) : res_main_v33 (launchContents m' c) (ix5 0 C i d e)
    = xcF (Vg m c C i d) e := by
  unfold res_main_v33
  pointwise [v27_apply hs, div_64]
  rfl
theorem v40_apply (C : Fin 64) (i : Fin 128) (d : Fin 4) : res_main_v40 (launchContents m' c) (ix5 0 C i d 0)
    = (∑ j, xcF (Vg m c C i d) j * xcF (Vg m c C i d) j) * wi64 + weps := by
  unfold res_main_v40
  pointwise [v33_apply hs, div_64]
theorem v41_apply (C : Fin 64) (i : Fin 128) (d : Fin 4) : res_main_v41 (launchContents m' c) (ix5 0 C i d 0) = rsF (Vg m c C i d) := by
  unfold res_main_v41
  pointwise [v40_apply hs]
  rfl
theorem v46_apply (C : Fin 64) (i : Fin 128) (d : Fin 4) (e : Fin 64) : res_main_v46 (launchContents m' c) (ix5 0 C i d e) = hatG m c C i d e := by
  unfold res_main_v46
  pointwise [v33_apply hs, v41_apply hs]
  rfl
theorem v52_apply (C : Fin 64) (i : Fin 128) (d : Fin 4) (e : Fin 64) : res_main_v52 (launchContents m' c) (ix5 0 C i d e) = vnG m c C i d e := by
  have e' := hs.e2
  unfold res_main_v52
  pointwise [v46_apply hs, v47_apply hs]
  rw [e']
  rfl
omit hs in
theorem v55_1_apply (d : Fin 4) (i k : Fin 128) : (res_main_v55_1 (F := Ideal) (launchContents m' c) (ix3 d i k) : BitVec 1)
    = BitVec.ofBool (decide (k.val ≤ i.val)) := by
  have h : (IntOp.cmpi .sge (IntOp.addi (BitVec.ofNat 32 i.val) 0#32) (BitVec.ofNat 32 k.val) : BitVec 1)
      = BitVec.ofBool (decide (k.val ≤ i.val)) := by
    have e : IntOp.addi (BitVec.ofNat 32 i.val) 0#32 = BitVec.ofNat 32 i.val := BitVec.add_zero _
    rw [e]
    have hi := i.isLt
    have hk := k.isLt
    exact WordCmp.cmpi_sge_ofNat (by omega) (by omega)
  unfold res_main_v55_1
  pointwise
  rw [h]
  by_cases hk : k.val ≤ i.val <;> simp [hk, Scalar.select]
theorem v55_apply (d : Fin 4) (i k : Fin 128) : res_main_v55_0 (launchContents m' c) (ix3 d i k) = wmG m c d i k := by
  have e' := hs.e3
  have hm := v55_1_apply (m' := m') (c := c) d i k
  have hz : (broadcastInDim S4x128x128 ![] bcast_S_S4x128x128 (id (constant (F := Ideal) S_ .f32 0x00000000#32)) : Vec Ideal S4x128x128 .f32)
      (ix3 d i k) = 0 := by pointwise; exact word_zero
  unfold res_main_v55_0
  show Scalar.select (res_main_v55_1 (F := Ideal) (launchContents m' c) (ix3 d i k)) (launchContents m' c (Proc.devRef .tc main_arg3) (ix3 d i k)) _ = _
  rw [hm, e', hz]
  unfold wmG
  by_cases hk : k.val ≤ i.val <;> simp [hk, Scalar.select]
theorem v61_apply (C : Fin 64) (i : Fin 128) (d : Fin 4) (e : Fin 64) : res_main_v61 (launchContents m' c) (ix5 0 C i d e) = svG m c C i d e := by
  have e' := hs.e4
  unfold res_main_v61
  pointwise [v52_apply hs, v55_apply hs]
  rw [e']
  simp only [mul_comm (vnG m c _ _ _ _)]
  rfl
theorem v67_apply (C : Fin 64) (i : Fin 128) (d : Fin 4) (e : Fin 64) : res_main_v67 (launchContents m' c) (ix5 0 C i d e) = dsG m c C i d e := by
  unfold res_main_v67
  pointwise [v26_apply hs, v66_apply hs]
  rw [mul_comm]
  rfl
theorem v73_apply (C : Fin 64) (i : Fin 128) (d : Fin 4) (e : Fin 64) : res_main_v73 (launchContents m' c) (ix5 d 0 C e i) = dsG m c C i d e := by
  unfold res_main_v73
  pointwise [v67_apply hs]
theorem v76_apply (C : Fin 64) (i : Fin 128) (d : Fin 4) (e : Fin 64) : res_main_v76 (launchContents m' c) (ix5 0 C i d e) = dvnG m c C i d e := by
  unfold res_main_v76
  pointwise [v73_apply hs, v55_apply hs]
  simp only [mul_comm (dsG m c _ _ _ _)]
  rfl
theorem v85_apply (C : Fin 64) (i : Fin 128) (d : Fin 4) (e : Fin 64) : res_main_v85 (launchContents m' c) (ix5 0 C i d e)
    = dvnG m c C i d e * Ln m c (ix2 d e) := by
  unfold res_main_v85
  pointwise [v76_apply hs, v47_apply hs]
end

/-! The two gradients, over numbers: the layer norm's, and the activation's. -/

section
variable {n : ℕ}

/-- The gradient of a layer norm as the derivative of its forward lines states it: through the product, through the variance twice, and through the
    mean. -/
def lnMid (v u : Fin 64 → EReal) (k : Fin 64) : EReal :=
  u k * rsF v + xcF v k * (((∑ j, xcF v j * u j) * (Ideal.ofBits .f32 0xBF000000#32
      * Ideal.div (rsF v) ((∑ j, xcF v j * xcF v j) * wi64 + weps))) * wi64)
    + ((∑ j, xcF v j * u j) * (Ideal.ofBits .f32 0xBF000000#32
      * Ideal.div (rsF v) ((∑ j, xcF v j * xcF v j) * wi64 + weps))) * wi64 * xcF v k
def lnRef (v u : Fin 64 → EReal) (k : Fin 64) : EReal := lnMid v u k + (∑ j, -lnMid v u j) * wi64

theorem xcF_coe (v : Fin 64 → ℝ) (k : Fin 64) : xcF (fun j => (v j : EReal)) k = ((v k - (∑ j, v j) * (1 / 64) : ℝ) : EReal) := by
  unfold xcF
  rw [word_inv_64, coe_sum, ← EReal.coe_mul, ← EReal.coe_sub]
theorem rsF_coe (v : Fin 64 → ℝ) : ∃ q s : ℝ, 0 < q ∧ s * s = 1 / q ∧ rsF (fun j => (v j : EReal)) = (s : EReal)
    ∧ (∑ j, xcF (fun j => (v j : EReal)) j * xcF (fun j => (v j : EReal)) j) * wi64 + weps = (q : EReal) := by
  have e : (∑ j, xcF (fun j => (v j : EReal)) j * xcF (fun j => (v j : EReal)) j) * wi64 + weps
      = (((∑ j, (v j - (∑ j, v j) * (1 / 64)) * (v j - (∑ j, v j) * (1 / 64))) * (1 / 64) + eps : ℝ) : EReal) := by
    simp only [xcF_coe, ← EReal.coe_mul, coe_sum]
    rw [word_inv_64, show weps = ((eps : ℝ) : EReal) from word_eps, ← EReal.coe_mul, ← EReal.coe_add]
  have hq : 0 < (∑ j, (v j - (∑ j, v j) * (1 / 64)) * (v j - (∑ j, v j) * (1 / 64))) * (1 / 64) + eps :=
    add_pos_of_nonneg_of_pos (mul_nonneg (Finset.sum_nonneg fun j _ => mul_self_nonneg _) (by norm_num)) eps_pos
  refine ⟨_, _, hq, ?_, (by unfold rsF; rw [e, Ideal.rsqrt_coe, if_neg (not_lt.mpr hq.le), if_neg hq.ne']), e⟩
  rw [← mul_inv, Real.mul_self_sqrt hq.le]
  exact (one_div _).symm

theorem ln_eq {v u : Fin 64 → EReal} (hv : ∀ k, IsReal (v k)) (hu : ∀ k, IsReal (u k)) (k : Fin 64) : lnRef v u k = dxF v u k := by
  choose v' hv' using hv
  choose u' hu' using hu
  obtain rfl : v = fun k => (v' k : EReal) := funext hv'
  obtain rfl : u = fun k => (u' k : EReal) := funext hu'
  obtain ⟨q, s, hq, hs, es, eq⟩ := rsF_coe v'
  unfold lnRef lnMid dxF vhF
  rw [es, eq, word_neg_half, word_inv_64, div_coe_coe _ hq.ne']
  simp only [xcF_coe, ← EReal.coe_mul, coe_sum, ← EReal.coe_add, ← EReal.coe_sub, ← EReal.coe_neg]
  congr 1
  have h0 : ∑ j, (v' j - (∑ i, v' i) * (1 / 64)) = 0 := by
    rw [Finset.sum_sub_distrib, Finset.sum_const, Finset.card_univ, Fintype.card_fin]
    simp only [nsmul_eq_mul]
    push_cast
    ring
  generalize hX : (fun j => v' j - (∑ i, v' i) * (1 / 64)) = X at *
  have hx : ∀ j, v' j - (∑ i, v' i) * (1 / 64) = X j := fun j => congrFun hX j
  simp only [hx] at h0 ⊢
  have hs' : s / q = s * (s * s) := by rw [hs]; ring
  rw [hs']
  have e1 : ∑ j, u' j * (X j * s) = (∑ j, X j * u' j) * s := by
    rw [Finset.sum_mul]; exact Finset.sum_congr rfl fun j _ => by ring
  have e2 : ∀ w : ℝ, ∑ j, -(u' j * s + X j * w + w * X j) = -(∑ j, u' j) * s - 2 * w * ∑ j, X j := fun w => by
    rw [Finset.mul_sum, ← Finset.sum_neg_distrib, Finset.sum_mul, ← Finset.sum_sub_distrib]
    exact Finset.sum_congr rfl fun j _ => by ring
  rw [e1, e2, h0]
  ring

theorem real_ln {v u : Fin 64 → EReal} (hv : ∀ k, IsReal (v k)) (hu : ∀ k, IsReal (u k)) (k : Fin 64) : IsReal (dxF v u k) := by
  choose v' hv' using hv
  choose u' hu' using hu
  obtain rfl : v = fun k => (v' k : EReal) := funext hv'
  obtain rfl : u = fun k => (u' k : EReal) := funext hu'
  obtain ⟨q, s, hq, hs, es, eq⟩ := rsF_coe v'
  unfold dxF vhF
  rw [es, word_inv_64]
  simp only [xcF_coe, ← EReal.coe_mul, coe_sum, ← EReal.coe_sub]
  exact .coe _
theorem real_vh {v : Fin 64 → EReal} (hv : ∀ k, IsReal (v k)) (k : Fin 64) : IsReal (vhF v k) := by
  choose v' hv' using hv
  obtain rfl : v = fun k => (v' k : EReal) := funext hv'
  obtain ⟨q, s, hq, hs, es, eq⟩ := rsF_coe v'
  unfold vhF
  rw [es, xcF_coe]
  exact IsReal.mul (.coe _) (.coe _)

theorem word_c : ∃ r : ℝ, Ideal.ofBits .f32 0x3F4C422A#32 = (r : EReal) := ⟨_, by simp [Ideal.ofBits, Ideal.ieee, -EReal.coe_mul]; rfl⟩
theorem word_three : Ideal.ofBits .f32 0x40400000#32 = ((3 : ℝ) : EReal) := by
  simp [Ideal.ofBits, Ideal.ieee, -EReal.coe_mul]; norm_num
theorem word_h : Ideal.ofBits .f32 0x3F000000#32 = ((1 / 2 : ℝ) : EReal) := by
  simp [Ideal.ofBits, Ideal.ieee, -EReal.coe_mul]; norm_num
theorem real_th {x : EReal} : IsReal x → IsReal (th x) := by
  rintro ⟨x, rfl⟩
  obtain ⟨r, hr⟩ := word_c
  unfold th
  rw [hr]
  simp only [← EReal.coe_mul, ← EReal.coe_add]
  exact ⟨_, Ideal.tanh_coe _⟩
theorem real_gelu {x : EReal} (h : IsReal x) : IsReal (geluF x) := by
  have e : geluF x = Ideal.ofBits .f32 0x3F000000#32 * x * (1 + th x) := rfl
  rw [e, word_h]
  exact ((IsReal.coe _).mul h).mul (IsReal.add ⟨1, rfl⟩ (real_th h))

/-- The gradient through the activation: the terms that its forward lines give one by one add to the closed derivative. -/
theorem gelu_eq {g z : EReal} (hg : IsReal g) (hz : IsReal z) :
    g * (Ideal.ofBits .f32 0x3F000000#32 * (1 + th z))
      + Ideal.ofBits .f32 0x3F4C422A#32 * (Ideal.ofBits .f32 0x3F000000#32 * (z * g) * ((1 + th z) * (1 - th z)))
      + ((8943 / 200000 : ℝ) : EReal) * (Ideal.ofBits .f32 0x3F4C422A#32 * (Ideal.ofBits .f32 0x3F000000#32 * (z * g) * ((1 + th z) * (1 - th z))))
        * (Ideal.ofBits .f32 0x40400000#32 * (z * z)) = g * geluD z := by
  obtain ⟨t, ht⟩ := real_th hz
  have e : geluD z = Ideal.ofBits .f32 0x3F000000#32 * (1 + th z) + Ideal.ofBits .f32 0x3F000000#32 * z * (1 - th z * th z)
    * (Ideal.ofBits .f32 0x3F4C422A#32 * (1 + ((26829 / 200000 : ℝ) : EReal) * (z * z))) := rfl
  rw [e, ht]
  obtain ⟨g, rfl⟩ := hg
  obtain ⟨z, rfl⟩ := hz
  obtain ⟨r, hr⟩ := word_c
  rw [hr, word_three, word_h, ← EReal.coe_one]
  simp only [← EReal.coe_mul, ← EReal.coe_add, ← EReal.coe_sub]
  congr 1
  ring

end

/-! The gradient of the activation's argument. -/

section
variable {m m'} {c : Dev nD} (hs : Same m m' c)
include hs

/-- The gradient of the normalised row. -/
abbrev uG (c : Dev nD) (C : Fin 64) (i : Fin 128) (d : Fin 4) (j : Fin 64) : EReal := dvnG m c C i d j * Ln m c (ix2 d j)

theorem v97_apply (C : Fin 64) (i : Fin 128) (d : Fin 4) (e : Fin 64) : res_main_v97 (launchContents m' c) (ix5 0 C i d e)
    = ((∑ j, xcF (Vg m c C i d) j * uG (m := m) c C i d j) * (Ideal.ofBits .f32 0xBF000000#32
      * Ideal.div (rsF (Vg m c C i d)) ((∑ j, xcF (Vg m c C i d) j * xcF (Vg m c C i d) j) * wi64 + weps))) * wi64 := by
  unfold res_main_v97
  pointwise [v33_apply hs, v85_apply hs, v40_apply hs, v41_apply hs, div_64]
  refine (red_04 _ _ C i d).trans ?_
  rw [Fintype.sum_prod_type, Fin.sum_univ_one, Fin.sum_univ_one]
  pointwise [v33_apply hs, v85_apply hs, v40_apply hs, v41_apply hs, div_64]
theorem v101_apply (C : Fin 64) (i : Fin 128) (d : Fin 4) (e : Fin 64) : res_main_v101 (launchContents m' c) (ix5 0 C i d e)
    = lnMid (Vg m c C i d) (uG (m := m) c C i d) e := by
  unfold res_main_v101
  pointwise [v33_apply hs, v85_apply hs, v41_apply hs, v97_apply hs]
  rfl
theorem v112_lo (C : Fin 64) (i : Fin 128) (d : Fin 4) (e : Fin 64) : res_main_v112 (launchContents m' c) (ix3 0 (cr C i) (hcol d (lo e)))
    = Dg m c C i d e * svG m c C i d e := by
  have h1 : (cr C i).val / 128 = C.val := by simp only [cr]; omega
  have h2 : (cr C i).val % 128 = i.val := by simp only [cr]; omega
  have h3 : (hcol d (lo e)).val / 128 = d.val := by simp only [hcol, lo]; omega
  have h4 : (hcol d (lo e)).val % 128 = e.val := by simp only [hcol, lo]; omega
  unfold res_main_v112
  pointwise
  simp only [h1, h2, h3, h4]
  rw [dif_pos e.isLt]
  pointwise [v66_apply hs, v61_apply hs]
theorem v112_hi (C : Fin 64) (i : Fin 128) (d : Fin 4) (e : Fin 64) : res_main_v112 (launchContents m' c) (ix3 0 (cr C i) (hcol d (hi e)))
    = lnRef (Vg m c C i d) (uG (m := m) c C i d) e := by
  have h1 : (cr C i).val / 128 = C.val := by simp only [cr]; omega
  have h2 : (cr C i).val % 128 = i.val := by simp only [cr]; omega
  have h3 : (hcol d (hi e)).val / 128 = d.val := by simp only [hcol, hi]; omega
  have h4 : (hcol d (hi e)).val % 128 = 64 + e.val := by simp only [hcol, hi]; omega
  unfold res_main_v112
  pointwise
  simp only [h1, h2, h3, h4]
  rw [dif_neg (by omega)]
  simp only [Nat.add_sub_cancel_left]
  refine congrArg₂ (· + ·) (v101_apply hs C i d e) ((red_04 _ _ C i d).trans ?_)
  rw [Fintype.sum_prod_type, Fin.sum_univ_one, Fin.sum_univ_one]
  pointwise [v101_apply hs, div_64]
theorem v119_apply (R : Fin 8192) (k : Fin 512) : res_main_v119 (launchContents m' c) (ix3 0 R k)
    = Ideal.ofBits .f32 0x3F4C422A#32 * (Ideal.ofBits .f32 0x3F000000#32 * (Z m c (ix2 R (zcol k)) * res_main_v112 (launchContents m' c) (ix3 0 R k))
      * ((1 + th (Z m c (ix2 R (zcol k)))) * (1 - th (Z m c (ix2 R (zcol k)))))) := by
  unfold res_main_v119
  pointwise [v1_apply hs, v14_apply hs]

omit hs in
theorem real_Vg (hR : Real m c) (C : Fin 64) (i : Fin 128) (d : Fin 4) (e : Fin 64) : IsReal (Vg m c C i d e) := real_gelu (hR.z _ _)
omit hs in
theorem real_wm (hR : Real m c) (d : Fin 4) (i k : Fin 128) : IsReal (wmG m c d i k) := by
  unfold wmG
  split
  · exact hR.ws d i k
  · exact ⟨0, rfl⟩
omit hs in
theorem real_sv (hR : Real m c) (C : Fin 64) (i : Fin 128) (d : Fin 4) (e : Fin 64) : IsReal (svG m c C i d e) :=
  (IsReal.sum _ fun s => (real_wm hR d i s).mul (((real_vh (real_Vg hR C s d) e).mul (hR.ln d e)).add (hR.lb d e))).add (hR.bs d i)
omit hs in
theorem real_u (hR : Real m c) (C : Fin 64) (i : Fin 128) (d : Fin 4) (e : Fin 64) : IsReal (uG (m := m) c C i d e) :=
  (IsReal.sum _ fun t => (real_wm hR d t i).mul ((hR.ct _ _).mul (real_gelu (hR.z _ _)))).mul (hR.ln d e)

/-- Two of the reference's arrays at an index, as extended reals. -/
def v112e (m' : (ℓ : Loc nD τ sig) → Buf (Elt Ideal) ℓ) (c : Dev nD) (R : Fin 8192) (k : Fin 512) : EReal := res_main_v112 (launchContents m' c) (ix3 0 R k)
def v119e (m' : (ℓ : Loc nD τ sig) → Buf (Elt Ideal) ℓ) (c : Dev nD) (R : Fin 8192) (k : Fin 512) : EReal := res_main_v119 (launchContents m' c) (ix3 0 R k)

theorem dza_eq (hR : Real m c) (R : Fin 8192) (k : Fin 512) (C : Fin 64) (i : Fin 128) (d : Fin 4) (l : Fin 128) (hr : R = cr C i) (hk : k = hcol d l) :
    v112e m' c R k * (Ideal.ofBits .f32 0x3F000000#32 * (1 + th (Z m c (ix2 R (zcol k)))))
      + v119e m' c R k
      + ((8943 / 200000 : ℝ) : EReal) * v119e m' c R k
        * (Ideal.ofBits .f32 0x40400000#32 * (Z m c (ix2 R (zcol k)) * Z m c (ix2 R (zcol k)))) = GmlpIdeal.Hand.dzaC m c C i d l := by
  subst hr hk
  unfold v119e v112e
  rw [v119_apply hs]
  unfold GmlpIdeal.Hand.dzaC
  rcases side l with ⟨e, rfl⟩ | ⟨e, rfl⟩
  · rw [bySide_lo, v112_lo hs]
    exact gelu_eq ((hR.ct _ _).mul (real_sv hR C i d e)) (hR.z _ _)
  · rw [bySide_hi, v112_hi hs, ln_eq (real_Vg hR C i d) (real_u hR C i d)]
    exact gelu_eq (real_ln (real_Vg hR C i d) (real_u hR C i d) e) (hR.z _ _)
end

/-! The spatial weights' gradient contracts three axes at once, the first of one entry. -/

section
variable {m m'} {c : Dev nD} (hs : Same m m' c)

/-- Its dimensions. -/
abbrev Dw : DotDims S4x1x64x64x128 S1x64x128x4x64 S4x128x128 := dot_S4x1x64x64x128_S1x64x128x4x64_S4x128x128_123_014_4_2_0_3

/-- The contracted index is a chunk and a lane. -/
def ctr : Dw.contr.Idx ≃ Fin 64 × Fin 64 where
  toFun k := (k (1 : Fin 3), k (2 : Fin 3))
  invFun p := fun a : Fin 3 => match a with
    | ⟨0, _⟩ => (0 : Fin 1)
    | ⟨1, _⟩ => p.1
    | ⟨2, _⟩ => p.2
  left_inv k := funext fun a : Fin 3 => match a with
    | ⟨0, _⟩ => (Subsingleton.elim (0 : Fin 1) (k (0 : Fin 3)))
    | ⟨1, _⟩ => rfl
    | ⟨2, _⟩ => rfl
  right_inv _ := rfl
theorem lhs_ctr (d : Fin 4) (i k : Fin 128) (p : Fin 64 × Fin 64) : Dw.lhsIdx (ix3 d i k) (ctr.symm p) = ix5 d 0 p.1 p.2 i := by
  funext a
  match a with
  | ⟨0, _⟩ => rfl
  | ⟨1, _⟩ => rfl
  | ⟨2, _⟩ => rfl
  | ⟨3, _⟩ => rfl
  | ⟨4, _⟩ => rfl
theorem rhs_ctr (d : Fin 4) (i k : Fin 128) (p : Fin 64 × Fin 64) : Dw.rhsIdx (ix3 d i k) (ctr.symm p) = ix5 0 p.1 k d p.2 := by
  funext a
  match a with
  | ⟨0, _⟩ => rfl
  | ⟨1, _⟩ => rfl
  | ⟨2, _⟩ => rfl
  | ⟨3, _⟩ => rfl
  | ⟨4, _⟩ => rfl

include hs
theorem dws_sum (d : Fin 4) (i k : Fin 128) : Ideal.matmul Dw (res_main_v73 (launchContents m' c)) (res_main_v52 (launchContents m' c)) (fun _ => 0)
    (ix3 d i k) = ∑ C : Fin 64, ∑ e : Fin 64, dsG m c C i d e * vnG m c C k d e := by
  refine (zero_add _).trans ((Equiv.sum_comp ctr.symm _).symm.trans ?_)
  simp only [lhs_ctr, rhs_ctr, v73_apply hs, v52_apply hs, Fintype.sum_prod_type]

theorem dws_eq : select (res_main_v55_1 (launchContents m' c)) (Host.dotGeneral (F := Ideal) (φ₁ := .f32) (φ₂ := .f32) dot_S4x1x64x64x128_S1x64x128x4x64_S4x128x128_123_014_4_2_0_3 none
    (res_main_v73 (launchContents m' c)) (res_main_v52 (launchContents m' c)))
      (broadcastInDim S4x128x128 ![] bcast_S_S4x128x128 (constant S_ .f32 0x00000000#32)) = GmlpIdeal.Hand.dwsArr m c := by
  funext x
  obtain ⟨d, i, k, rfl⟩ : ∃ (d : Fin 4) (i : Fin 128) (k : Fin 128), x = ix3 d i k := ⟨x 0, x 1, x 2, eq_ix3 x⟩
  show _ = ∑ C : Fin 64, GmlpIdeal.Hand.dwC m c d i k C
  unfold GmlpIdeal.Hand.dwC
  have hm := v55_1_apply (m' := m') (c := c) d i k
  pointwise
  simp only [hm]
  refine (congrArg (fun w => Scalar.select _ w _) (dws_sum hs d i k)).trans ?_
  by_cases hk : k.val ≤ i.val <;> simp [hk, Scalar.select]
end
theorem dza_arr {m m'} {c : Dev nD} (hs : Same m m' c) (hR : Real m c) : Host.reduceAdd (addf (addf (mulf (res_main_v112 (launchContents m' c)) (res_main_v23 (launchContents m' c))) (res_main_v119 (launchContents m' c)))
      (mulf (mulf (res_main_v4 (launchContents m' c)) (res_main_v119 (launchContents m' c))) (mulf (broadcastInDim S1x8192x512 ![] bcast_S_S1x8192x512
        (constant S_ .f32 0x40400000#32)) (mulf (res_main_v1 (launchContents m' c)) (res_main_v1 (launchContents m' c))))))
      (constant S_ .f32 0x00000000#32) reducesTo_S1x8192x512_S8192x512_d0 h_S_ = GmlpIdeal.Hand.dzaArr m c := by
  funext x
  obtain ⟨R, k, rfl⟩ : ∃ (R : Fin 8192) (k : Fin 512), x = ix2 R k := ⟨x 0, x 1, eq_ix2 x⟩
  obtain ⟨C, i, hr'⟩ := ex_cr R
  obtain ⟨d, l, hk'⟩ := ex_hcol k
  have e : GmlpIdeal.Hand.dzaArr m c (ix2 R k) = GmlpIdeal.Hand.dzaC m c C i d l := by
    rw [hr', hk']
    exact GmlpIdeal.Hand.dzaArr_apply m c C i d l
  rw [e]
  have h := dza_eq hs hR R k C i d l hr' hk'
  unfold v112e v119e at h
  refine (congrArg (fun z => Ideal.hostReduceAdd reducesTo_S1x8192x512_S8192x512_d0 _ z (ix2 R k)) word_zero).trans ((red_0 _ _ R k).trans ?_)
  rw [Fin.sum_univ_one]
  pointwise [v23_apply hs, v4_apply, v1_apply hs]
  exact h

set_option maxHeartbeats 1000000 in
theorem algebraic : Cert.algebraic_GmlpIdeal_GmlpRefIdeal_pre_gmlp_finite := by
  intro m g m' g' hp h
  refine ⟨fun c => GmlpIdeal.Hand.dzaArr m c, fun c => GmlpIdeal.Hand.dwsArr m c, fun c => GmlpIdeal.Hand.dbsArr m c,
    fun c => GmlpIdeal.Hand.dgArr m c, fun c => GmlpIdeal.Hand.dbArr m c, GmlpIdeal.Hand.run m g, ?_⟩
  refine (θ_run Cert.GmlpRefIdeal.defs _ _).mono (fun r hr c => ?_) (Cert.GmlpRefIdeal.Value.run (F := Ideal) m' g')
  obtain ⟨h1, h2, h3, h4, h5, h6⟩ := hr c
  obtain ⟨e0, e1, e2, e3, e4, e5⟩ := h c
  have hR := real_of_pre m hp c
  have hs : Same m m' c := ⟨e0, e1, e2, e3, e4, e5⟩
  refine ⟨h1.trans ?_, h2.trans ?_, h3.trans ?_, h4.trans ?_, h5.trans ?_, h6⟩
  · exact dza_arr hs hR
  · exact dws_eq hs
  · funext x
    obtain ⟨d, i, k, rfl⟩ : ∃ (d : Fin 4) (i : Fin 128) (k : Fin 128), x = ix3 d i k := ⟨x 0, x 1, x 2, eq_ix3 x⟩
    show _ = ∑ C : Fin 64, ∑ e : Fin 64, dsG m c C i d e
    pointwise
    refine (red_014 _ _ i d).trans ?_
    simp only [Fintype.sum_prod_type, Fin.sum_univ_one]
    pointwise
    refine (red_14 _ _ 0 i d).trans ?_
    simp only [Fintype.sum_prod_type, v67_apply hs]
  · funext x
    obtain ⟨r, k, rfl⟩ : ∃ (r : Fin 1) (k : Fin 512), x = ix2 r k := ⟨x 0, x 1, eq_ix2 x⟩
    obtain rfl : r = 0 := Subsingleton.elim _ _
    obtain ⟨d, l, rfl⟩ := ex_hcol k
    refine Eq.trans ?_ (GmlpIdeal.Hand.dgArr_apply m c d l).symm
    unfold GmlpIdeal.Hand.dgC
    rcases side l with ⟨e, rfl⟩ | ⟨e, rfl⟩
    · have h1 : (hcol d (lo e)).val / 64 % 2 < 1 := by simp only [hcol, lo]; omega
      simp only [bySide_lo, Finset.sum_const_zero]
      pointwise
      rw [dif_pos h1]
      unfold res_main_v125
      pointwise
    · have h1 : ¬(hcol d (hi e)).val / 64 % 2 < 1 := by simp only [hcol, hi]; omega
      have h2 : (hcol d (hi e)).val / 128 = d.val := by simp only [hcol, hi]; omega
      have h3 : (hcol d (hi e)).val % 64 = e.val := by simp only [hcol, hi]; omega
      simp only [bySide_hi]
      pointwise
      rw [dif_neg h1]
      simp only [h2, h3]
      refine (red_012 _ _ d e).trans ?_
      simp only [Fintype.sum_prod_type, Fin.sum_univ_one]
      pointwise
      refine (red_12 _ _ 0 d e).trans ?_
      simp only [Fintype.sum_prod_type]
      pointwise [v46_apply hs, v76_apply hs]
      simp only [mul_comm (hatG m c _ _ _ _)]
  · funext x
    obtain ⟨r, k, rfl⟩ : ∃ (r : Fin 1) (k : Fin 512), x = ix2 r k := ⟨x 0, x 1, eq_ix2 x⟩
    obtain rfl : r = 0 := Subsingleton.elim _ _
    obtain ⟨d, l, rfl⟩ := ex_hcol k
    refine Eq.trans ?_ (GmlpIdeal.Hand.dbArr_apply m c d l).symm
    unfold GmlpIdeal.Hand.dbC
    rcases side l with ⟨e, rfl⟩ | ⟨e, rfl⟩
    · have h1 : (hcol d (lo e)).val / 64 % 2 < 1 := by simp only [hcol, lo]; omega
      simp only [bySide_lo, Finset.sum_const_zero]
      pointwise
      rw [dif_pos h1]
      unfold res_main_v125
      pointwise
    · have h1 : ¬(hcol d (hi e)).val / 64 % 2 < 1 := by simp only [hcol, hi]; omega
      have h2 : (hcol d (hi e)).val / 128 = d.val := by simp only [hcol, hi]; omega
      have h3 : (hcol d (hi e)).val % 64 = e.val := by simp only [hcol, hi]; omega
      simp only [bySide_hi]
      pointwise
      rw [dif_neg h1]
      simp only [h2, h3]
      refine (red_012 _ _ d e).trans ?_
      simp only [Fintype.sum_prod_type, Fin.sum_univ_one]
      pointwise
      refine (red_12 _ _ 0 d e).trans ?_
      simp only [Fintype.sum_prod_type]
      pointwise [v76_apply hs]

end Cert.Proof.Gmlp

end
-- ==== Proof.InprojfKernel.lean ====
/- What the forward call of the input projection leaves: each row divided by its root mean square, times the norm's weight,
   times the projection's matrix. -/
module

public import proofs.«01_k».proof.Proof.Gen.InprojfIdeal.Value
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.InprojfIdeal.Hand

open Cert.InprojfIdeal Cert.InprojfIdeal.Gen

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The argument arrays. -/
abbrev H (c : Dev nD) : Vec Ideal S8192x1024 .f32 := m ((c : Thread nD τ).loc main_arg0)
abbrev G (c : Dev nD) : Vec Ideal S1024 .f32 := m ((c : Thread nD τ).loc main_arg1)
abbrev W (c : Dev nD) : Vec Ideal S1024x1536 .f32 := m ((c : Thread nD τ).loc main_arg2)

/-- The normed input. -/
def xn (c : Dev nD) (r : Fin 8192) (k : Fin 1024) : EReal :=
  H m c (ix2 r k) * Rms.rinv (Ideal.ofBits .f32 0x44800000#32) (Ideal.ofBits .f32 0x358637BD#32) (fun j : Fin 1024 => H m c (ix2 r j)) * G m c (ix1 k)

/-- The projection of the normed input. -/
def zArr (c : Dev nD) : Vec Ideal S8192x1536 .f32 := fun i => ∑ x : Fin 1024, xn m c (i 0) x * W m c (ix2 x (i 1))

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = H m c (ix2 (row t.val (lt16 t) r) k) := by
  unfold row; blk_ext [iblk, V_main_arg0, idx t]

theorem blk1 (c : Dev nD) (t : Fin cfg0.N) (k : Fin 1024) :
    (iblk m c 1 t : Vec Ideal S1x1024 .f32) (ix2 0 k) = G m c (ix1 k) := by
  have e : ((cfg0.win 1).blk t).view.emb (ix2 0 k) = ix2 0 k := by blk_ext [idx t]
  unfold iblk
  rw [View.read_apply]
  refine (congrArg (V m c main_v0) e).trans ?_
  unfold V
  entry_read
  pointwise

theorem blk2 (c : Dev nD) (t : Fin cfg0.N) (r : Fin 1024) (k : Fin 1536) :
    (iblk m c 2 t : Vec Ideal S1024x1536 .bf16) (ix2 r k) = W m c (ix2 r k) := by
  blk_ext [iblk, V, idx t]

/-- What one point computes, from its blocks. -/
theorem pay1_apply (h : Vec Ideal S512x1024 .f32) (g : Vec Ideal S1x1024 .f32) (w : Vec Ideal S1024x1536 .bf16) (r : Fin 512) (k : Fin 1536) :
    k0_pay1 h g w (ix2 r k) = ∑ x : Fin 1024, h (ix2 r x)
      * Rms.rinv (Ideal.ofBits .f32 0x44800000#32) (Ideal.ofBits .f32 0x358637BD#32) (fun j : Fin 1024 => h (ix2 r j)) * g (ix2 0 x) * w (ix2 x k) := by
  unfold_payloads
  pointwise
  rfl

theorem final3 (c : Dev nD) : (dats m 0 c).arrAt 3 cfg0.N = zArr m c := by
  refine (dats m 0 c).arrAt_eq_of_covers 3 _ (by decide +kernel) fun t hf y => ?_
  blk_simp
  rw [after0_3]
  unfold out0_3
  frame_out
  obtain ⟨r, k, rfl⟩ : ∃ (r : Fin 512) (k : Fin 1536), y = ix2 r k := ⟨y 0, y 1, eq_ix2 y⟩
  have ey : ((View.whole main_v2).slice (win0_3.rect t)).emb (ix2 r k) = ix2 (row t.val (lt16 t) r) k := by
    unfold row; blk_ext [idx t]
  rw [ey]
  refine (pay1_apply _ _ _ r k).trans ?_
  simp only [blk0, blk1, blk2]
  rfl

/-- The run: the projection, the arguments unchanged. -/
theorem run : θ_run defs (onTc (τ := τ) (main (F := Ideal))) ⟨m, fun _ => 0, ρ⟩ fun r => ∀ c : Dev nD,
      r.2.mem ((c : Thread nD τ).loc main_v2) = zArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.InprojfIdeal.Hand

end
-- ==== Proof.Inprojf.lean ====
/- The forward call of the input projection: its frames, and that it computes the projection of the normed input. -/
module

public import proofs.«01_k».proof.Defs
public import proofs.«01_k».proof.Proof.Gen.Inprojf.Frame
public import proofs.«01_k».proof.Proof.Gen.InprojfRefIdeal.Run
public import proofs.«01_k».proof.Proof.InprojfKernel

@[expose] public section

set_option maxRecDepth 16384

noncomputable section

open Idealize.ShloMosaic Idealize.ShloMosaic.TcCoe Idealize.SL.Sem

namespace Cert.Proof.Inprojf

open Cert.InprojfRefIdeal Cert.InprojfRefIdeal.Gen Cert.InprojfRefIdeal.Value

theorem frame : Cert.quiescent_Inprojf := fun m ρ _ => Cert.Inprojf.Gen.frame m ρ
theorem frame_ideal : Cert.quiescent_InprojfIdeal := fun m ρ _ => Cert.InprojfIdeal.Gen.frame m ρ
theorem frame_ref : Cert.quiescent_InprojfRefIdeal := fun m ρ _ =>
  (θ_run Cert.InprojfRefIdeal.defs _ _).mono (fun r h => ⟨fun c => (h c).2,
      Idealize.ShloMosaic.sem_eq_zero_of_no_sems (by decide) r.2⟩)
    (Cert.InprojfRefIdeal.Value.run (F := Ideal) m ρ)

theorem algebraic : Cert.algebraic_InprojfIdeal_InprojfRefIdeal := by
  intro m g m' g' _ h
  refine ⟨fun c => InprojfIdeal.Hand.zArr m c, InprojfIdeal.Hand.run m g, ?_⟩
  refine (θ_run Cert.InprojfRefIdeal.defs _ _).mono (fun r hr c => ?_) (Cert.InprojfRefIdeal.Value.run (F := Ideal) m' g')
  obtain ⟨h1, h5⟩ := hr c
  obtain ⟨e0, e1, e2⟩ := h c
  refine ⟨h1.trans ?_, h5⟩
  funext i
  obtain ⟨r, k, rfl⟩ : ∃ (r : Fin 8192) (k : Fin 1536), i = ix2 r k := ⟨i 0, i 1, eq_ix2 i⟩
  pointwise
  simp only [e0, e1, e2]
  rfl

end Cert.Proof.Inprojf

end
-- ==== Proof.PlefKernel.lean ====
/- What the forward call of the per-layer embedding leaves: the gate before the logistic function, the projected embedding, and
   the residual stream with the gated embedding added. -/
module

public import proofs.«01_k».proof.Proof.Gen.PlefIdeal.Value
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.PlefIdeal.Hand

open Cert.PlefIdeal Cert.PlefIdeal.Gen

variable (m : (ℓ : Loc nD τ sig) → Buf (Elt Ideal) ℓ) (ρ : Dev nD → PrngReg)

theorem idx : ∀ t : Fin cfg0.N, win0_0.index t = ![t.val, 0] ∧ win0_1.index t = ![3, t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The argument arrays. -/
abbrev H (c : Dev nD) : Vec Ideal S8192x1024 .f32 := m ((c : Thread nD τ).loc main_arg0)
abbrev P (c : Dev nD) : Vec Ideal S4x8192x256 .f32 := m ((c : Thread nD τ).loc main_arg1)
abbrev G (c : Dev nD) : Vec Ideal S1024 .f32 := m ((c : Thread nD τ).loc main_arg2)
abbrev Wg (c : Dev nD) : Vec Ideal S1024x1024 .f32 := m ((c : Thread nD τ).loc main_arg3)
abbrev Wp (c : Dev nD) : Vec Ideal S256x1024 .f32 := m ((c : Thread nD τ).loc main_arg4)

/-- The normed input. -/
def xn (c : Dev nD) (r : Fin 8192) (k : Fin 1024) : EReal :=
  H m c (ix2 r k) * Rms.rinv (Ideal.ofBits .f32 0x44800000#32) (Ideal.ofBits .f32 0x358637BD#32) (fun j : Fin 1024 => H m c (ix2 r j)) * G m c (ix1 k)

/-- The gate before the logistic function, the projected embedding, and the new residual stream. -/
def gpArr (c : Dev nD) : Vec Ideal S8192x1024 .bf16 := fun i => ∑ x : Fin 1024, xn m c (i 0) x * Wg m c (ix2 x (i 1))
def embArr (c : Dev nD) : Vec Ideal S8192x1024 .bf16 := fun i => ∑ x : Fin 256, P m c (ix3 3 (i 0) x) * Wp m c (ix2 x (i 1))
def hArr (c : Dev nD) : Vec Ideal S8192x1024 .f32 := fun i => H m c i + Ideal.div 1 (1 + Ideal.exp (-gpArr m c i)) * embArr m c i

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = H m c (ix2 (row t.val (lt16 t) r) k) := by
  unfold row; blk_ext [iblk, V_main_arg0, idx t]

theorem blk1 (c : Dev nD) (t : Fin cfg0.N) (r : Fin 512) (k : Fin 256) :
    (iblk m c 1 t : Vec Ideal S1x512x256 .f32) (ix3 0 r k) = P m c (ix3 3 (row t.val (lt16 t) r) k) := by
  unfold row; blk_ext [iblk, V_main_arg1, idx t]

theorem blk2 (c : Dev nD) (t : Fin cfg0.N) (k : Fin 1024) :
    (iblk m c 2 t : Vec Ideal S1x1024 .f32) (ix2 0 k) = G m c (ix1 k) := by
  have e : ((cfg0.win 2).blk t).view.emb (ix2 0 k) = ix2 0 k := by blk_ext [idx t]
  unfold iblk
  rw [View.read_apply]
  refine (congrArg (V m c main_v0) e).trans ?_
  unfold V
  entry_read
  pointwise

theorem blk3 (c : Dev nD) (t : Fin cfg0.N) (r k : Fin 1024) :
    (iblk m c 3 t : Vec Ideal S1024x1024 .bf16) (ix2 r k) = Wg m c (ix2 r k) := by
  blk_ext [iblk, V, idx t]

theorem blk4 (c : Dev nD) (t : Fin cfg0.N) (r : Fin 256) (k : Fin 1024) :
    (iblk m c 4 t : Vec Ideal S256x1024 .bf16) (ix2 r k) = Wp m c (ix2 r k) := by
  blk_ext [iblk, V, idx t]

/-! What one point computes, from its blocks. -/

theorem gp_apply (h : Vec Ideal S512x1024 .f32) (g : Vec Ideal S1x1024 .f32) (w : Vec Ideal S1024x1024 .bf16) (r : Fin 512) (k : Fin 1024) :
    k0_pay2 h g w (ix2 r k) = ∑ x : Fin 1024, h (ix2 r x)
      * Rms.rinv (Ideal.ofBits .f32 0x44800000#32) (Ideal.ofBits .f32 0x358637BD#32) (fun j : Fin 1024 => h (ix2 r j)) * g (ix2 0 x) * w (ix2 x k) := by
  unfold k0_pay2
  pointwise
  rfl

theorem emb_apply (p : Vec Ideal S1x512x256 .f32) (w : Vec Ideal S256x1024 .bf16) (r : Fin 512) (k : Fin 1024) :
    k0_pay3 p w (ix2 r k) = ∑ x : Fin 256, p (ix3 0 r x) * w (ix2 x k) := by
  unfold k0_pay3
  pointwise

theorem h_apply (h : Vec Ideal S512x1024 .f32) (g : Vec Ideal S1x1024 .f32) (w : Vec Ideal S1024x1024 .bf16) (p : Vec Ideal S1x512x256 .f32)
    (w' : Vec Ideal S256x1024 .bf16) (r : Fin 512) (k : Fin 1024) : k0_pay4 h g w p w' (ix2 r k)
      = h (ix2 r k) + Ideal.div 1 (1 + Ideal.exp (-k0_pay2 h g w (ix2 r k))) * k0_pay3 p w' (ix2 r k) := by
  unfold k0_pay4
  pointwise
  simp only [zero_sub]

/-- The tile of the gate, and of the projected embedding. -/
theorem gp_tile (c : Dev nD) (t : Fin cfg0.N) (r : Fin 512) (k : Fin 1024) :
    k0_pay2 (iblk m c 0 t) (iblk m c 2 t) (iblk m c 3 t) (ix2 r k) = gpArr m c (ix2 (row t.val (lt16 t) r) k) := by
  refine (gp_apply _ _ _ r k).trans ?_
  simp only [blk0, blk2, blk3]
  rfl

theorem emb_tile (c : Dev nD) (t : Fin cfg0.N) (r : Fin 512) (k : Fin 1024) :
    k0_pay3 (iblk m c 1 t) (iblk m c 4 t) (ix2 r k) = embArr m c (ix2 (row t.val (lt16 t) r) k) := by
  refine (emb_apply _ _ r k).trans ?_
  simp only [blk1, blk4]
  rfl

theorem final5 (c : Dev nD) : (dats m 0 c).arrAt 5 cfg0.N = hArr m c := by
  refine (dats m 0 c).arrAt_eq_of_covers 5 _ (by decide +kernel) fun t hf y => ?_
  blk_simp
  rw [after0_5]
  unfold out0_5
  frame_out
  obtain ⟨r, k, rfl⟩ : ∃ (r : Fin 512) (k : Fin 1024), y = ix2 r k := ⟨y 0, y 1, eq_ix2 y⟩
  have ey : ((View.whole main_v3_0).slice (win0_5.rect t)).emb (ix2 r k) = ix2 (row t.val (lt16 t) r) k := by
    unfold row; blk_ext [idx t]
  rw [ey]
  refine (h_apply _ _ _ _ _ r k).trans ?_
  simp only [gp_tile, emb_tile, blk0]
  rfl

theorem final6 (c : Dev nD) : (dats m 0 c).arrAt 6 cfg0.N = gpArr m c := by
  refine (dats m 0 c).arrAt_eq_of_covers 6 _ (by decide +kernel) fun t hf y => ?_
  blk_simp
  rw [after0_6]
  unfold out0_6
  frame_out
  obtain ⟨r, k, rfl⟩ : ∃ (r : Fin 512) (k : Fin 1024), y = ix2 r k := ⟨y 0, y 1, eq_ix2 y⟩
  have ey : ((View.whole main_v3_1).slice (win0_6.rect t)).emb (ix2 r k) = ix2 (row t.val (lt16 t) r) k := by
    unfold row; blk_ext [idx t]
  rw [ey]
  exact gp_tile m c t r k

theorem final7 (c : Dev nD) : (dats m 0 c).arrAt 7 cfg0.N = embArr m c := by
  refine (dats m 0 c).arrAt_eq_of_covers 7 _ (by decide +kernel) fun t hf y => ?_
  blk_simp
  rw [after0_7]
  unfold out0_7
  frame_out
  obtain ⟨r, k, rfl⟩ : ∃ (r : Fin 512) (k : Fin 1024), y = ix2 r k := ⟨y 0, y 1, eq_ix2 y⟩
  have ey : ((View.whole main_v3_2).slice (win0_7.rect t)).emb (ix2 r k) = ix2 (row t.val (lt16 t) r) k := by
    unfold row; blk_ext [idx t]
  rw [ey]
  exact emb_tile m c t r k

/-- The run: the results, the arguments unchanged. -/
theorem run : θ_run defs (onTc (τ := τ) (main (F := Ideal))) ⟨m, fun _ => 0, ρ⟩ fun r => ∀ c : Dev nD,
      r.2.mem ((c : Thread nD τ).loc main_v3_0) = hArr m c
      ∧ r.2.mem ((c : Thread nD τ).loc main_v3_1) = gpArr m c
      ∧ r.2.mem ((c : Thread nD τ).loc main_v3_2) = embArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩) (Value.run_blocks m ρ)

end Cert.PlefIdeal.Hand

end
-- ==== Proof.Plef.lean ====
/- The forward call of the per-layer embedding: its frames, and that it computes the forward lines. -/
module

public import proofs.«01_k».proof.Defs
public import proofs.«01_k».proof.Proof.Gen.Plef.Frame
public import proofs.«01_k».proof.Proof.Gen.PlefRefIdeal.Run
public import proofs.«01_k».proof.Proof.PlefKernel

@[expose] public section

set_option maxRecDepth 16384

noncomputable section

open Idealize.ShloMosaic Idealize.ShloMosaic.TcCoe Idealize.SL.Sem

namespace Cert.Proof.Plef

open Cert.PlefRefIdeal Cert.PlefRefIdeal.Gen Cert.PlefRefIdeal.Value

theorem frame : Cert.quiescent_Plef := fun m ρ _ => Cert.Plef.Gen.frame m ρ
theorem frame_ideal : Cert.quiescent_PlefIdeal := fun m ρ _ => Cert.PlefIdeal.Gen.frame m ρ
theorem frame_ref : Cert.quiescent_PlefRefIdeal := fun m ρ _ =>
  (θ_run Cert.PlefRefIdeal.defs _ _).mono (fun r h => ⟨fun c => (h c).2.2.2,
      Idealize.ShloMosaic.sem_eq_zero_of_no_sems (by decide) r.2⟩)
    (Cert.PlefRefIdeal.Value.run (F := Ideal) m ρ)

theorem algebraic : Cert.algebraic_PlefIdeal_PlefRefIdeal := by
  intro m g m' g' _ h
  refine ⟨fun c => PlefIdeal.Hand.hArr m c, fun c => PlefIdeal.Hand.gpArr m c, fun c => PlefIdeal.Hand.embArr m c, PlefIdeal.Hand.run m g, ?_⟩
  refine (θ_run Cert.PlefRefIdeal.defs _ _).mono (fun r hr c => ?_) (Cert.PlefRefIdeal.Value.run (F := Ideal) m' g')
  obtain ⟨h1, h2, h3, h5⟩ := hr c
  obtain ⟨e0, e1, e2, e3, e4⟩ := h c
  refine ⟨h1.trans ?_, h2.trans ?_, h3.trans ?_, h5⟩
  all_goals
    funext i
    obtain ⟨r, k, rfl⟩ : ∃ (r : Fin 8192) (k : Fin 1024), i = ix2 r k := ⟨i 0, i 1, eq_ix2 i⟩
    pointwise
    simp only [e0, e1, e2, e3, e4, Fin.sum_univ_one]
    rfl

end Cert.Proof.Plef

end
-- ==== Proof.MergefKernel.lean ====
/- What the forward call of the merge leaves: three mixers' outputs, each divided by its root mean square, side by side, times the
   norms' weight and the output matrix, added to the residual stream. -/
module

public import proofs.«01_k».proof.Proof.Gen.MergefIdeal.Value
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.MergefIdeal.Hand

open Cert.MergefIdeal Cert.MergefIdeal.Gen

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The argument arrays. -/
abbrev H (c : Dev nD) : Vec Ideal S8192x1024 .f32 := m ((c : Thread nD τ).loc main_arg0)
abbrev Ya (c : Dev nD) : Vec Ideal S8192x256 .f32 := m ((c : Thread nD τ).loc main_arg1)
abbrev Yb (c : Dev nD) : Vec Ideal S8192x512 .f32 := m ((c : Thread nD τ).loc main_arg2)
abbrev Yc (c : Dev nD) : Vec Ideal S8192x256 .f32 := m ((c : Thread nD τ).loc main_arg3)
abbrev G (c : Dev nD) : Vec Ideal S1024 .f32 := m ((c : Thread nD τ).loc main_arg4)
abbrev W (c : Dev nD) : Vec Ideal S1024x1024 .f32 := m ((c : Thread nD τ).loc main_arg5)

/-- Three rows side by side. -/
def side (a : Fin 256 → EReal) (b : Fin 512 → EReal) (z : Fin 256 → EReal) (x : Fin 1024) : EReal :=
  if h : x.val < 256 then a ⟨x.val, h⟩
  else if h1 : x.val - 256 < 512 then b ⟨x.val - 256, h1⟩
  else z ⟨x.val - 256 - 512, by omega⟩

/-- A row divided by its root mean square, `w` the word of its width. -/
def unit (w : BitVec 32) {n : ℕ} (x : Fin n → EReal) (k : Fin n) : EReal := x k * Rms.rinv (Ideal.ofBits .f32 w) (Ideal.ofBits .f32 0x358637BD#32) x

/-- The three normed outputs side by side. -/
def norms (a : Fin 256 → EReal) (b : Fin 512 → EReal) (z : Fin 256 → EReal) : Fin 1024 → EReal :=
  side (unit 0x43800000#32 a) (unit 0x44000000#32 b) (unit 0x43800000#32 z)

/-- The new residual stream. -/
def hArr (c : Dev nD) : Vec Ideal S8192x1024 .f32 := fun i => H m c i + ∑ x : Fin 1024,
  norms (fun j => Ya m c (ix2 (i 0) j)) (fun j => Yb m c (ix2 (i 0) j)) (fun j => Yc m c (ix2 (i 0) j)) x * G m c (ix1 x) * W m c (ix2 x (i 1))

theorem lt16 (t : Fin cfg0.grid.N) : t.val < 16 := by have h : cfg0.grid.N = 16 := N_0; have := t.isLt; omega

/-- Row `r` of tile `t`. -/
def row (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = H m c (ix2 (row t.val (lt16 t) r) k) := by
  unfold row; blk_ext [iblk, V_main_arg0, idx t]

theorem blk1 (c : Dev nD) (t : Fin cfg0.N) (r : Fin 512) (k : Fin 256) :
    (iblk m c 1 t : Vec Ideal S512x256 .f32) (ix2 r k) = Ya m c (ix2 (row t.val (lt16 t) r) k) := by
  unfold row; blk_ext [iblk, V_main_arg1, idx t]

theorem blk2 (c : Dev nD) (t : Fin cfg0.N) (r : Fin 512) (k : Fin 512) :
    (iblk m c 2 t : Vec Ideal S512x512 .f32) (ix2 r k) = Yb m c (ix2 (row t.val (lt16 t) r) k) := by
  unfold row; blk_ext [iblk, V_main_arg2, idx t]

theorem blk3 (c : Dev nD) (t : Fin cfg0.N) (r : Fin 512) (k : Fin 256) :
    (iblk m c 3 t : Vec Ideal S512x256 .f32) (ix2 r k) = Yc m c (ix2 (row t.val (lt16 t) r) k) := by
  unfold row; blk_ext [iblk, V_main_arg3, idx t]

theorem blk4 (c : Dev nD) (t : Fin cfg0.N) (k : Fin 1024) :
    (iblk m c 4 t : Vec Ideal S1x1024 .f32) (ix2 0 k) = G m c (ix1 k) := by
  have e : ((cfg0.win 4).blk t).view.emb (ix2 0 k) = ix2 0 k := by blk_ext [idx t]
  unfold iblk
  rw [View.read_apply]
  refine (congrArg (V m c main_v0) e).trans ?_
  unfold V
  entry_read
  pointwise

theorem blk5 (c : Dev nD) (t : Fin cfg0.N) (r k : Fin 1024) :
    (iblk m c 5 t : Vec Ideal S1024x1024 .bf16) (ix2 r k) = W m c (ix2 r k) := by
  blk_ext [iblk, V, idx t]

/-! What one point computes, from its blocks. -/

theorem pay2_apply (a : Vec Ideal S512x256 .f32) (b : Vec Ideal S512x512 .f32) (z : Vec Ideal S512x256 .f32) (g : Vec Ideal S1x1024 .f32)
    (r : Fin 512) (k : Fin 1024) :
    k0_pay2 a b z g (ix2 r k) = norms (fun j => a (ix2 r j)) (fun j => b (ix2 r j)) (fun j => z (ix2 r j)) k * g (ix2 0 k) := by
  unfold_payloads
  pointwise
  rfl

theorem pay1_apply (y : Vec Ideal S512x1024 .f32) (h : Vec Ideal S512x1024 .f32) (w : Vec Ideal S1024x1024 .bf16) (r : Fin 512) (k : Fin 1024) :
    k0_pay1 y h w (ix2 r k) = h (ix2 r k) + ∑ x : Fin 1024, y (ix2 r x) * w (ix2 x k) := by
  unfold_payloads
  pointwise

theorem final6 (c : Dev nD) : (dats m 0 c).arrAt 6 cfg0.N = hArr m c := by
  refine (dats m 0 c).arrAt_eq_of_covers 6 _ (by decide +kernel) fun t hf y => ?_
  blk_simp
  rw [after0_6]
  unfold out0_6
  frame_out
  obtain ⟨r, k, rfl⟩ : ∃ (r : Fin 512) (k : Fin 1024), y = ix2 r k := ⟨y 0, y 1, eq_ix2 y⟩
  have ey : ((View.whole main_v2).slice (win0_6.rect t)).emb (ix2 r k) = ix2 (row t.val (lt16 t) r) k := by
    unfold row; blk_ext [idx t]
  rw [ey]
  refine (pay1_apply _ _ _ r k).trans ?_
  simp only [pay2_apply, blk0, blk1, blk2, blk3, blk4, blk5]
  rfl

/-- The run: the results, the arguments unchanged. -/
theorem run : θ_run defs (onTc (τ := τ) (main (F := Ideal))) ⟨m, fun _ => 0, ρ⟩ fun r => ∀ c : Dev nD,
      r.2.mem ((c : Thread nD τ).loc main_v2) = hArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2⟩) (Value.run_blocks m ρ)

end Cert.MergefIdeal.Hand

end
-- ==== Proof.Mergef.lean ====
/- The forward call of the merge: its frames, and that it computes the forward lines. -/
module

public import proofs.«01_k».proof.Defs
public import proofs.«01_k».proof.Proof.Gen.Mergef.Frame
public import proofs.«01_k».proof.Proof.Gen.MergefRefIdeal.Run
public import proofs.«01_k».proof.Proof.MergefKernel

@[expose] public section

set_option maxRecDepth 16384

noncomputable section

open Idealize.ShloMosaic Idealize.ShloMosaic.TcCoe Idealize.SL.Sem

namespace Cert.Proof.Mergef

open Cert.MergefRefIdeal Cert.MergefRefIdeal.Gen Cert.MergefRefIdeal.Value

theorem frame : Cert.quiescent_Mergef := fun m ρ _ => Cert.Mergef.Gen.frame m ρ
theorem frame_ideal : Cert.quiescent_MergefIdeal := fun m ρ _ => Cert.MergefIdeal.Gen.frame m ρ
theorem frame_ref : Cert.quiescent_MergefRefIdeal := fun m ρ _ =>
  (θ_run Cert.MergefRefIdeal.defs _ _).mono (fun r h => ⟨fun c => (h c).2,
      Idealize.ShloMosaic.sem_eq_zero_of_no_sems (by decide) r.2⟩)
    (Cert.MergefRefIdeal.Value.run (F := Ideal) m ρ)

theorem algebraic : Cert.algebraic_MergefIdeal_MergefRefIdeal := by
  intro m g m' g' _ h
  refine ⟨fun c => MergefIdeal.Hand.hArr m c, MergefIdeal.Hand.run m g, ?_⟩
  refine (θ_run Cert.MergefRefIdeal.defs _ _).mono (fun r hr c => ?_) (Cert.MergefRefIdeal.Value.run (F := Ideal) m' g')
  obtain ⟨h1, h5⟩ := hr c
  obtain ⟨e0, e1, e2, e3, e4, e5⟩ := h c
  refine ⟨h1.trans ?_, h5⟩
  funext i
  obtain ⟨r, k, rfl⟩ : ∃ (r : Fin 8192) (k : Fin 1024), i = ix2 r k := ⟨i 0, i 1, eq_ix2 i⟩
  pointwise
  simp only [e0, e1, e2, e3, e4, e5, Fin.sum_univ_one]
  refine congrArg (MergefIdeal.Hand.H m c (ix2 r k) + ·) (Finset.sum_congr rfl fun x _ => congrArg (· * MergefIdeal.Hand.W m c (ix2 x k)) ?_)
  show _ = MergefIdeal.Hand.norms _ _ _ x * MergefIdeal.Hand.G m c (ix1 x)
  unfold MergefIdeal.Hand.norms MergefIdeal.Hand.side
  split_ifs with h1 h2
  all_goals
    first
    | rfl
    | (have e : ∀ h, (⟨256 + (x.val - 256), h⟩ : Fin 1024) = x := fun h => Fin.ext (by show 256 + (x.val - 256) = x.val; omega)
       rw [e]; rfl)
    | (have e : ∀ h, (⟨768 + (x.val - 256 - 512), h⟩ : Fin 1024) = x := fun h => Fin.ext (by show 768 + (x.val - 256 - 512) = x.val; omega)
       rw [e]; rfl)

end Cert.Proof.Mergef

end
-- ==== Proof.MlpfBody.lean ====
/- One grid point of the forward call of the feed-forward layer: at the first point nine copies bring the two weights into their
   buffers, all in flight at once; every point squares the rectified product with the first weight and adds its product with the
   second to the residual stream. -/
module

public import proofs.«01_k».proof.Proof.Gen.MlpfIdeal.Frame.Runs
public import Idealize.ShloMosaic.Lib.Pipeline.ValueKit
public import Idealize.ShloMosaic.Lib.Pointwise

@[expose] public section

-- membership in a rectangle of production extents (`View.cover_of_tiled`): the elaborator's structural look
-- recurses once per coordinate of the long axes
set_option maxRecDepth 16384

noncomputable section

namespace Cert.MlpfIdeal.Hand

open Cert.MlpfIdeal Cert.MlpfIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block of saved activations, and the block of the new residual stream. -/
abbrev actOut (x0 : Vec F S512x1024 .f32) (x1 : Vec F S1x1024 .f32) (W1 : Vec F S1024x4096 .bf16) : Vec F S512x4096 .bf16 := k0_pay1 x0 x1 W1
abbrev hOut (x0 : Vec F S512x1024 .f32) (x1 : Vec F S1x1024 .f32) (W1 : Vec F S1024x4096 .bf16) (W2 : Vec F S4096x1024 .bf16) : Vec F S512x1024 .f32 :=
  k0_pay2 x0 x1 W1 W2

/-! ## What the copies of the first point leave in the two weight buffers -/

/-- Shard `k` of the first weight, as the copy reads it. -/
abbrev shard {c : Dev nD} (f : HbBuf0 (F := F) c hbM0_0) (k : ℕ) (h : ∀ a, (![k, 0, 0] : Fin 3 → ℕ) a + S1x1024x512.size a ≤ S8x1024x512.size a) :
    S1024x512.Idx → Elt F .bf16 :=
  View.read (Elt F) (((Memref.whole main_v2).slice (Rect.unit (s := S8x1024x512) ![k, 0, 0] S1x1024x512.size h) (fun _ => rfl)).squeeze
    S1024x512 squeezes_S1x1024x512_S1024x512).view f

/-- The first weight as its eight column shards lie side by side. -/
def w1Of {c : Dev nD} (f : HbBuf0 (F := F) c hbM0_0) : Vec F S1024x4096 .bf16 := View.canon
    [⟨Rect.unit ![0, 3584] S1024x512.size inb_S1024x4096_S1024x512_0_3584, ReadAs.same.apply (shard f 7 inb_S8x1024x512_S1x1024x512_7_0_0)⟩,
      ⟨Rect.unit ![0, 3072] S1024x512.size inb_S1024x4096_S1024x512_0_3072, ReadAs.same.apply (shard f 6 inb_S8x1024x512_S1x1024x512_6_0_0)⟩,
      ⟨Rect.unit ![0, 2560] S1024x512.size inb_S1024x4096_S1024x512_0_2560, ReadAs.same.apply (shard f 5 inb_S8x1024x512_S1x1024x512_5_0_0)⟩,
      ⟨Rect.unit ![0, 2048] S1024x512.size inb_S1024x4096_S1024x512_0_2048, ReadAs.same.apply (shard f 4 inb_S8x1024x512_S1x1024x512_4_0_0)⟩,
      ⟨Rect.unit ![0, 1536] S1024x512.size inb_S1024x4096_S1024x512_0_1536, ReadAs.same.apply (shard f 3 inb_S8x1024x512_S1x1024x512_3_0_0)⟩,
      ⟨Rect.unit ![0, 1024] S1024x512.size inb_S1024x4096_S1024x512_0_1024, ReadAs.same.apply (shard f 2 inb_S8x1024x512_S1x1024x512_2_0_0)⟩,
      ⟨Rect.unit ![0, 512] S1024x512.size inb_S1024x4096_S1024x512_0_512, ReadAs.same.apply (shard f 1 inb_S8x1024x512_S1x1024x512_1_0_0)⟩,
      ⟨Rect.unit ![0, 0] S1024x512.size inb_S1024x4096_S1024x512_0_0, ReadAs.same.apply (shard f 0 inb_S8x1024x512_S1x1024x512_0_0_0)⟩]
/-- The second weight, copied whole. -/
def w2Of {c : Dev nD} (f : HbBuf0 (F := F) c hbM0_1) : Vec F S4096x1024 .bf16 := View.read (Elt F) (Memref.whole main_v4).view f

theorem canon_whole (w : Vec F S4096x1024 .bf16) : View.canon [(⟨Rect.whole S4096x1024, w⟩ : View.Piece (Elt F) S4096x1024 .bf16)] = w :=
  View.canon_cons_unit_zero rfl _ _ _

/-! ## The first weight's array held as one read token for each copy -/

/-- The read token of the copy that completes on cell `i`. -/
abbrev tok (c : Dev nD) (i : ℕ) (f : HbBuf0 (F := F) c hbM0_0) : sProp 𝕄 :=
  hbM0_0.view.loc (c : Thread nD τ) ↦{Transfers.shareTokN fullShare i} f

/-- What is left of the array beside the eight tokens. -/
def tokRest (c : Dev nD) (f : HbBuf0 (F := F) c hbM0_0) : sProp 𝕄 :=
  iprop((hbM0_0.view.loc (c : Thread nD τ) ↦{Transfers.shareDrop fullShare 15} f) ∗ BI.bigSep (Finset.range 7) (fun i => tok c i f))

/-- The last of a range of assertions, split off. -/
theorem range_peel (P : ℕ → sProp 𝕄) (n : ℕ) : BI.bigSep (Finset.range (n + 1)) P = iprop(P n ∗ BI.bigSep (Finset.range n) P) := by
  rw [Finset.range_add_one, BI.bigSep_insert Finset.notMem_range_self]
  rfl

/-- The array whole is the eight tokens and the rest. -/
theorem toks (c : Dev nD) (f : HbBuf0 (F := F) c hbM0_0) :
    (hbPt0 c hbM0_0 f : sProp 𝕄) ⊣⊢ iprop(tokRest c f ∗ tok c 7 f ∗ tok c 8 f ∗ tok c 9 f ∗ tok c 10 f ∗ tok c 11 f ∗ tok c 12 f ∗ tok c 13 f ∗ tok c 14 f) := by
  refine (Transfers.pointsTo_toks_range fullShare 15).trans ?_
  unfold tokRest
  rw [range_peel _ 14, range_peel _ 13, range_peel _ 12, range_peel _ 11, range_peel _ 10, range_peel _ 9, range_peel _ 8, range_peel _ 7]
  constructor
  · iintro ⟨D, T7, T6, T5, T4, T3, T2, T1, T0, R⟩
    isplitl [D R]
    · isplitl [D]; · iexact D
      iexact R
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  · iintro ⟨⟨D, R⟩, T0, T1, T2, T3, T4, T5, T6, T7⟩
    isplitl [D]; · iexact D
    isplitl [T7]; · iexact T7
    isplitl [T6]; · iexact T6
    isplitl [T5]; · iexact T5
    isplitl [T4]; · iexact T4
    isplitl [T3]; · iexact T3
    isplitl [T2]; · iexact T2
    isplitl [T1]; · iexact T1
    isplitl [T0]; · iexact T0
    iexact R

section Run
variable (c : Dev nD) (i : grid0.Coords) (arg1 : Memref sig .tc .vmem S512x1024 .f32) (harg1 : arg1.IsWhole) (arg2 : Memref sig .tc .vmem S1x1024 .f32) (harg2 : arg2.IsWhole)
  (arg5 : Memref sig .tc .vmem S512x1024 .f32) (harg5 : arg5.IsWhole) (arg6 : Memref sig .tc .vmem S512x4096 .bf16) (harg6 : arg6.IsWhole)
  (arg7 : Memref sig .tc .vmem S1024x4096 .bf16) (harg7 : arg7.IsWhole) (arg8 : Memref sig .tc .vmem S4096x1024 .bf16) (harg8 : arg8.IsWhole)
  (x0 : Vec F S512x1024 .f32) (x1 : Vec F S1x1024 .f32)

/-- What a grid point leaves: the inputs as they were, each output at its block, the weight buffers at `W1` and `W2`. -/
def left (W1 : Vec F S1024x4096 .bf16) (W2 : Vec F S4096x1024 .bf16) : sProp 𝕄 :=
  iprop(owns (c : Thread nD τ) arg1 fullShare x0 ∗ owns (c : Thread nD τ) arg2 fullShare x1 ∗ owns (c : Thread nD τ) arg5 fullShare (hOut x0 x1 W1 W2) ∗ owns (c : Thread nD τ) arg6 fullShare (actOut x0 x1 W1)
    ∗ owns (c : Thread nD τ) arg7 fullShare W1 ∗ owns (c : Thread nD τ) arg8 fullShare W2)

set_option maxHeartbeats 1000000 in
/-- A point after the first: the weight buffers hold `W1`, `W2`. -/
theorem later (hc0 : ¬cond0_0 i) (W1 : Vec F S1024x4096 .bf16) (W2 : Vec F S4096x1024 .bf16) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ owns (c : Thread nD τ) arg7 fullShare W1 ∗ owns (c : Thread nD τ) arg8 fullShare W2
        ∗ (left c arg1 arg2 arg5 arg6 arg7 arg8 x0 x1 W1 W2 -∗ K ⟨⟩))
      ⊢ wp frame (wpE (defs₀ (F := F)) Variants.none c none) Set.univ (cc0_mlp_fwd i arg1 harg1 arg2 harg2 (Memref.whole main_v2) (Memref.isWhole_whole _) (Memref.whole main_v4) (Memref.isWhole_whole _) arg5 harg5 arg6 harg6 arg7 harg7 arg8 harg8 cc0_scratch2) K := by
  simp only [cc0_mlp_fwd_eq_skeleton]; unfold cc0_mlp_fwd_skel
  unfold left owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1; obtain rfl := harg7.eq_unread hfs0; obtain rfl := harg8.eq_unread hfs1
  sl_exec (disch := first | sl_exact hc0)
  sl_step
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; · iexact H2
    ipureintro; funext y
    refine (View.read_writes_apply_eq_canon _ _ y _ (View.cover_of_tiledL _ S512x1024.size (by sl_kernel_rfl) y)).trans (congrFun ?_ y)
    frame_out
  isplitl [H3]
  · iexists _; isplitr; swap; · iexact H3
    ipureintro; funext y
    refine (View.read_writes_apply_eq_canon _ _ y _ (View.cover_of_tiledL _ S512x4096.size (by sl_kernel_rfl) y)).trans (congrFun ?_ y)
    frame_out
  isplitl [HS0]; · iexists _; isplitr; · ipureintro; exact harg7.read_unread _
                   iexact HS0
  iexists _; isplitr; · ipureintro; exact harg8.read_unread _
  iexact HS1

set_option maxHeartbeats 2000000 in
set_option sl_exec.dmaWindow true in
set_option sl_exec.dmaWindowSet true in
/-- The first point: the nine copies fill the weight buffers. -/
theorem first (hc0 : cond0_0 i) (f : HbBuf0 (F := F) c hbM0_0) (f' : HbBuf0 (F := F) c hbM0_1) (W : Waits sig Unit) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ hbPt0 c hbM0_0 f ∗ hbPt0 c hbM0_1 f' ∗ owes (c : Thread nD τ) 0 W
        ∗ (iprop(left c arg1 arg2 arg5 arg6 arg7 arg8 x0 x1 (w1Of f) (w2Of f') ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ hbPt0 c hbM0_0 f ∗ hbPt0 c hbM0_1 f' ∗ (∃ W', owes (c : Thread nD τ) 0 W')) -∗ K ⟨⟩))
      ⊢ wp frame (wpE (defs₀ (F := F)) Variants.none c none) Set.univ (cc0_mlp_fwd i arg1 harg1 arg2 harg2 (Memref.whole main_v2) (Memref.isWhole_whole _) (Memref.whole main_v4) (Memref.isWhole_whole _) arg5 harg5 arg6 harg6 arg7 harg7 arg8 harg8 cc0_scratch2) K := by
  simp only [cc0_mlp_fwd_eq_skeleton]; unfold cc0_mlp_fwd_skel
  simp only [k0_part1_eq_skeleton, k0_part2_eq_skeleton, k0_part3_eq_skeleton]
  unfold left owns
  iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨Hq0, Hq1, Hq2, Hq3, Hq4, Hq5, Hq6, Hq7, Hq8⟩, Hh0, Hh1, HW, Hk⟩
  obtain rfl := harg1.eq_unread hf0; obtain rfl := harg2.eq_unread hf1
  ihave HT := (toks c f).1 $$ Hh0
  icases HT with ⟨TR, T0, T1, T2, T3, T4, T5, T6, T7⟩
  sl_exec (disch := first | sl_exact hc0)
  sl_step
  iapply Hk
  isplitl [H0 H1 H2 H3 HS0 HS1]
  · isplitl [H0]; · iexists _; isplitr; · ipureintro; exact harg1.read_unread _
                    iexact H0
    isplitl [H1]; · iexists _; isplitr; · ipureintro; exact harg2.read_unread _
                    iexact H1
    isplitl [H2]
    · iexists _; isplitr; swap; · iexact H2
      ipureintro; funext y
      refine (View.read_writes_apply_eq_canon _ _ y _ (View.cover_of_tiledL _ S512x1024.size (by sl_kernel_rfl) y)).trans (congrFun ?_ y)
      frame_out [View.readCov_eq_canon', canon_whole]
      exact congrArg₂ (k0_pay2 x0 x1) (View.ld_unit_zero (by funext a; fin_cases a <;> rfl) _ (w1Of f)) (View.ld_unit_zero (by funext a; fin_cases a <;> rfl) _ (w2Of f'))
    isplitl [H3]
    · iexists _; isplitr; swap; · iexact H3
      ipureintro; funext y
      refine (View.read_writes_apply_eq_canon _ _ y _ (View.cover_of_tiledL _ S512x4096.size (by sl_kernel_rfl) y)).trans (congrFun ?_ y)
      frame_out [View.readCov_eq_canon', canon_whole]
      exact congrArg (k0_pay1 x0 x1) (View.ld_unit_zero (by funext a; fin_cases a <;> rfl) _ (w1Of f))
    isplitl [HS0]
    · iexists _; isplitr; swap; · iexact HS0
      ipureintro; funext y
      refine (View.read_writes_apply_eq_canon _ _ y _ (View.cover_of_tiledL (s := S1024x4096) _ ![1024, 512] (by sl_kernel_rfl) y)).trans (congrFun ?_ y)
      rfl
    · iexists _; isplitr; swap; · iexact HS1
      ipureintro; funext y
      refine (View.read_writes_apply_eq_canon _ _ y _ (View.cover_of_tiledL _ S4096x1024.size (by sl_kernel_rfl) y)).trans (congrFun ?_ y)
      exact canon_whole _
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [TR T0 T1 T2 T3 T4 T5 T6 T7]
  · iapply (toks c f).2
    isplitl [TR]; · iexact TR
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [Hh1]; · iexact Hh1
  iexists _; iexact HW

end Run

end Cert.MlpfIdeal.Hand

end
-- ==== Proof.MlpfFrame.lean ====
module

public import proofs.«01_k».proof.Proof.MlpfBody

@[expose] public section

set_option maxRecDepth 16384

noncomputable section

namespace Cert.MlpfIdeal.Hand

open Cert.MlpfIdeal Cert.MlpfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point leaves -/

/-- The first weight in its buffer, after the first point. -/
abbrev W1 (c : Dev nD) : Vec F S1024x4096 .bf16 := w1Of (c := c) (V m c main_v2)
/-- The second weight in its buffer, after the first point. -/
abbrev W2 (c : Dev nD) : Vec F S4096x1024 .bf16 := w2Of (c := c) (V m c main_v4)

/-- The cells of the copies, at zero. -/
abbrev cells (c : Dev nD) : sProp 𝕄 :=
  iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)

/-- Between points: the two weights in their buffers, the generator register, the cells at zero, the arrays the copies read. -/
def Loaded (c : Dev nD) : sProp 𝕄 :=
  iprop((owns (c : Thread nD τ) scM0_0 fullShare (W1 m c) ∗ owns (c : Thread nD τ) scM0_1 fullShare (W2 m c)) ∗ (∃ r, prngReg c r) ∗ cells c
    ∗ (hbPt0 c hbM0_0 (V m c main_v2) ∗ hbPt0 c hbM0_1 (V m c main_v4)))

/-- Before position `n`: at the first the launch's invariant, afterwards `Loaded`. -/
def Inv (c : Dev nD) : (n : ℕ) → n ≤ cfg0.N → sProp 𝕄
  | 0, _ => Pipeline.ΦD osem0 spec0 H0 (V m) c
  | _ + 1, _ => Loaded m c

theorem Inv_first (c : Dev nD) (n : ℕ) (h : n ≤ cfg0.N) (hz : n = 0) : Inv m c n h = Pipeline.ΦD osem0 spec0 H0 (V m) c := by
  subst hz; rfl

theorem Inv_later (c : Dev nD) (n : ℕ) (h : n ≤ cfg0.N) (hz : n ≠ 0) : Inv m c n h = Loaded m c := by
  cases n with
  | zero => exact absurd rfl hz
  | succ n => rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => hOut (iblk m c 0 t) (iblk m c 1 t) (W1 m c) (W2 m c)
    | ⟨3, _⟩ => actOut (iblk m c 0 t) (iblk m c 1 t) (W1 m c)
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = hOut (iblk m c 0 t) (iblk m c 1 t) (W1 m c) (W2 m c) := by dsimp only [dats]
theorem left3 (c : Dev nD) (t : Fin cfg0.N) : (dats m 0 c).after 3 t = actOut (iblk m c 0 t) (iblk m c 1 t) (W1 m c) := by dsimp only [dats]

theorem found0 (c : Dev nD) (t : Fin cfg0.N) (d) : (dats m 0 c).before 0 t d = iblk m c 0 t := before0_0_of m (dats m 0 c) (A_eq m c 0) (left0 m c) t d
theorem found1 (c : Dev nD) (t : Fin cfg0.N) (d) : (dats m 0 c).before 1 t d = iblk m c 1 t := before0_1_of m (dats m 0 c) (A_eq m c 1) (left1 m c) t d

/-! ## The body at a point -/

/-- What the body is called with, window by window. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
theorem body (c : Dev nD) (t : Fin cfg0.N) :
    given m c t ⊢ wp frame (wpE (defs₀ (F := F)) Variants.none c none) Set.univ (bodyAt0 t) (fun _ => returned m c t) := by
  unfold given returned bodyAt0
  simp only [found0, found1]
  rw [show (dats m 0 c).Φ t.succ = Loaded m c from rfl, left0, left1, left2, left3, Inv_castSucc m c t]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · rw [Inv_first m c _ _ hz, PhiD0_eq]
    unfold Loaded
    iintro ⟨⟨⟨HS0, HS1⟩, Hg, Hq, ⟨Hh0, Hh1⟩⟩, ⟨%W, -, HW⟩, ⟨%d0, H0⟩, ⟨%d1, H1⟩, ⟨%d2, H2⟩, ⟨%d3, H3⟩⟩
    iapply (first c (grid0.coords t) _ _ _ _ _ _ _ _ _ _ _ _ (iblk m c 0 t) (iblk m c 1 t)
      ((hcond0_0 t).mpr (by omega)) (V m c main_v2) (V m c main_v4) W _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [Hq]; · iexact Hq
    isplitl [Hh0]; · iexact Hh0
    isplitl [Hh1]; · iexact Hh1
    isplitl [HW]; · iexact HW
    unfold left
    iintro ⟨⟨H0, H1, H2, H3, HS0, HS1⟩, Hq, Hh0, Hh1, ⟨%W', HW'⟩⟩
    isplitl [HS0 HS1 Hg Hq Hh0 Hh1]
    · isplitl [HS0 HS1]
      · isplitl [HS0]; · iexact HS0
        iexact HS1
      isplitl [Hg]; · iexact Hg
      isplitl [Hq]; · iexact Hq
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · rw [Inv_later m c _ _ hz]
    unfold Loaded
    iintro ⟨⟨⟨HS0, HS1⟩, HR⟩, HW, ⟨%d0, H0⟩, ⟨%d1, H1⟩, ⟨%d2, H2⟩, ⟨%d3, H3⟩⟩
    iapply (later c (grid0.coords t) _ _ _ _ _ _ _ _ _ _ _ _ (iblk m c 0 t) (iblk m c 1 t)
      (fun h => absurd ((hcond0_0 t).mp h) (by omega)) (W1 m c) (W2 m c) _)
    isplitl [H0]; · iexact H0
    isplitl [H1]; · iexact H1
    isplitl [H2]; · iexists _; iexact H2
    isplitl [H3]; · iexists _; iexact H3
    isplitl [HS0]; · iexact HS0
    isplitl [HS1]; · iexact HS1
    unfold left
    iintro ⟨H0, H1, H2, H3, HS0, HS1⟩
    isplitl [HS0 HS1 HR]
    · isplitl [HS0 HS1]
      · isplitl [HS0]; · iexact HS0
        iexact HS1
      iexact HR
    isplitl [HW]
    · icases HW with ⟨%W, -, HW⟩
      iexists W; isplitr; · ipureintro; exact fun _ _ => Or.inl trivial
      iexact HW
    isplitl [H0]; · iexact H0
    isplitl [H1]; · iexact H1
    isplitl [H2]; · iexact H2
    iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem entered (c : Dev nD) : Pipeline.ΦD osem0 spec0 H0 (V m) c ⊢ (dats m 0 c).Φ 0 := by
  rw [show (dats m 0 c).Φ 0 = Inv m c 0 (Nat.zero_le _) from rfl, Inv_first m c 0 _ rfl]

theorem exited (c : Dev nD) : (dats m 0 c).Φ (Fin.last cfg0.N) ⊢ Pipeline.ΦD osem0 spec0 H0 (V m) c := by
  rw [show (dats m 0 c).Φ (Fin.last cfg0.N) = Loaded m c from rfl, PhiD0_eq]
  unfold Loaded
  iintro ⟨⟨HS0, HS1⟩, HR⟩
  isplitl [HS0 HS1]
  · isplitl [HS0]
    · iexists _; iexact HS0
    iexists _; iexact HS1
  iexact HR

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := entered m) (hout := exited m)

theorem run_arrays : θ_run defs (onTc (τ := τ) (main (F := F))) (s₀ m ρ) (Pipeline.FramePost cfgs (dats m) 0 (V m)) :=
  (θ_run defs _ _).mono (fun _ h => h.1) (run_quiet m ρ)

/-- The frame: the run ends, the arguments unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_quiet m ρ))

end Cert.MlpfIdeal.Hand

end
-- ==== Proof.MlpfKernel.lean ====
/- The forward call of the feed-forward layer, kernel side: what the two arrays hold after the sixteen points. -/
module

public import proofs.«01_k».proof.Proof.MlpfFrame
public import Idealize.ShloMosaic.Lib.Pipeline.ValueKit
public import Idealize.ShloMosaic.Lib.Pipeline.ReadBack
public import Idealize.ShloMosaic.Lib.Pointwise
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.MlpfIdeal.Hand

open Cert.MlpfIdeal Cert.MlpfIdeal.Gen Cert.Reals

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The argument arrays. -/
abbrev H (c : Dev nD) : Vec Ideal S8192x1024 .f32 := m ((c : Thread nD τ).loc main_arg0)
abbrev G (c : Dev nD) : Vec Ideal S1024 .f32 := m ((c : Thread nD τ).loc main_arg1)
abbrev Wu (c : Dev nD) : Vec Ideal S1024x4096 .f32 := m ((c : Thread nD τ).loc main_arg2)
abbrev Wd (c : Dev nD) : Vec Ideal S4096x1024 .f32 := m ((c : Thread nD τ).loc main_arg3)

abbrev w1024 : EReal := Ideal.ofBits .f32 0x44800000#32
abbrev weps : EReal := Ideal.ofBits .f32 0x358637BD#32

/-- The hidden layer before its activation: the normed row times the first weight. -/
def hid (c : Dev nD) (r : Fin 8192) (j : Fin 4096) : EReal :=
  ∑ x : Fin 1024, H m c (ix2 r x) * Rms.rinv w1024 weps (fun j : Fin 1024 => H m c (ix2 r j)) * G m c (ix1 x) * Wu m c (ix2 x j)

/-- The activation: the square of the positive part. -/
def act (c : Dev nD) (r : Fin 8192) (j : Fin 4096) : EReal := max (hid m c r j) 0 * max (hid m c r j) 0

/-- The two results. -/
def actArr (c : Dev nD) : Vec Ideal S8192x4096 .bf16 := fun i => act m c (i 0) (i 1)
def outArr (c : Dev nD) : Vec Ideal S8192x1024 .f32 := fun i => H m c i + ∑ j : Fin 4096, act m c (i 0) j * Wd m c (ix2 j (i 1))

theorem lt16 (t : Fin cfg0.grid.N) : t.val < 16 := by have h : cfg0.grid.N = 16 := N_0; have := t.isLt; omega

/-- Row `r` of tile `t`. -/
def tileRow (t : ℕ) (ht : t < 16) (r : Fin 512) : Fin 8192 := ⟨t * 512 + r.val, by omega⟩

theorem blk0 (c : Dev nD) (t : Fin cfg0.N) (r : Fin 512) (k : Fin 1024) :
    (iblk m c 0 t : Vec Ideal S512x1024 .f32) (ix2 r k) = H m c (ix2 (tileRow t.val (lt16 t) r) k) := by
  unfold tileRow; blk_ext [iblk, V_main_arg0, idx t]

theorem blk1 (c : Dev nD) (t : Fin cfg0.N) (k : Fin 1024) :
    (iblk m c 1 t : Vec Ideal S1x1024 .f32) (ix2 0 k) = G m c (ix1 k) := by
  have e : ((cfg0.win 1).blk t).view.emb (ix2 0 k) = ix2 0 k := by blk_ext [idx t]
  unfold iblk
  rw [View.read_apply]
  refine (congrArg (V m c main_v3) e).trans ?_
  unfold V
  simp only [hostOps0]
  entry_read
  pointwise

/-- The second weight in its buffer. -/
theorem W2_apply (c : Dev nD) (j : Fin 4096) (k : Fin 1024) : W2 m c (ix2 j k) = Wd m c (ix2 j k) := by
  unfold W2 w2Of
  show V m c main_v4 (ix2 j k) = _
  unfold V
  simp only [hostOps0]
  entry_read
  pointwise

/-- The first weight's eight column shards, as the host lays them out. -/
theorem V2_apply (c : Dev nD) (d : Fin 8) (i : Fin 1024) (k : Fin 512) :
    V m c main_v2 (ix3 d i k) = Wu m c (ix2 i ⟨d.val * 512 + k.val, by omega⟩) := by
  unfold V
  simp only [hostOps0]
  entry_read
  pointwise

/-- The leading axis of one element dropped. -/
theorem drop_lead (g : Vec Ideal S1x1024x512 .bf16) (hc : S1x1024x512.ShapeCasts S1024x512) (i : Fin 1024) (k : Fin 512) :
    shapeCast S1024x512 g hc (ix2 i k) = g (ix3 0 i k) := by pointwise

/-- A shard as a copy reads it. -/
theorem shard_read {c : Dev nD} (f : HbBuf0 (F := Ideal) c hbM0_0) (d : Fin 8) (o : ℕ) (ho : o = d.val)
    (h : ∀ a, (![o, 0, 0] : Fin 3 → ℕ) a + S1x1024x512.size a ≤ S8x1024x512.size a) (i : Fin 1024) (k : Fin 512) :
    shard f o h (ix2 i k) = (f : Vec Ideal S8x1024x512 .bf16) (ix3 d i k) := by
  subst ho
  have hc : S1x1024x512.ShapeCasts S1024x512 := by decide
  refine (congrFun (Memref.read_squeeze_slice (Memref.whole main_v2) _ _ _ hc f) (ix2 i k)).trans ?_
  refine (drop_lead _ hc i k).trans ?_
  refine congrArg f (funext fun q => Fin.ext ?_)
  refine (Rect.idx_unit_val _ _ _ _ q).trans ?_
  fin_cases q <;> simp

/-- Shard `d` of the first weight, as a copy reads it. -/
theorem shard_apply (c : Dev nD) (d : Fin 8) (o : ℕ) (ho : o = d.val) (h : ∀ a, (![o, 0, 0] : Fin 3 → ℕ) a + S1x1024x512.size a ≤ S8x1024x512.size a)
    (i : Fin 1024) (k : Fin 512) : shard (c := c) (V m c main_v2) o h (ix2 i k) = Wu m c (ix2 i ⟨d.val * 512 + k.val, by omega⟩) :=
  (shard_read _ d o ho h i k).trans (V2_apply m c d i k)

theorem W1_apply (c : Dev nD) (i : Fin 1024) (j : Fin 4096) : W1 m c (ix2 i j) = Wu m c (ix2 i j) := by
  have at_ (d : Fin 8) (o : ℕ) (ho : o = d.val) (h) (x : S1024x512.Idx) (h0 : i.val = (x 0).val) (h1 : j.val = o * 512 + (x 1).val) :
      (ReadAs.same : ReadAs (Elt Ideal) S1024x512 .bf16 S1024x512 .bf16).apply (shard (c := c) (V m c main_v2) o h) x = Wu m c (ix2 i j) := by
    obtain ⟨a, b, rfl⟩ : ∃ (a : Fin 1024) (b : Fin 512), x = ix2 a b := ⟨x 0, x 1, eq_ix2 x⟩
    subst ho
    refine (shard_apply m c d _ rfl h a b).trans (congrArg (Wu m c) ?_)
    exact congrArg₂ (fun (a : Fin 1024) (b : Fin 4096) => ix2 a b) (Fin.ext (by exact h0.symm)) (Fin.ext (by exact h1.symm))
  unfold W1 w1Of
  canon_tiles x hx
  · exact at_ 7 7 rfl _ x hx0 hx1
  · exact at_ 6 6 rfl _ x hx0 hx1
  · exact at_ 5 5 rfl _ x hx0 hx1
  · exact at_ 4 4 rfl _ x hx0 hx1
  · exact at_ 3 3 rfl _ x hx0 hx1
  · exact at_ 2 2 rfl _ x hx0 hx1
  · exact at_ 1 1 rfl _ x hx0 hx1
  · exact at_ 0 0 rfl _ x hx0 (hx1.trans (by simp))

/-! What one point computes, from its blocks. -/

section
variable (x0 : Vec Ideal S512x1024 .f32) (x1 : Vec Ideal S1x1024 .f32) (U : Vec Ideal S1024x4096 .bf16) (D : Vec Ideal S4096x1024 .bf16)

/-- One entry of the hidden layer. -/
def hidden (r : Fin 512) (j : Fin 4096) : EReal :=
  ∑ x : Fin 1024, x0 (ix2 r x) * Rms.rinv w1024 weps (fun j : Fin 1024 => x0 (ix2 r j)) * x1 (ix2 0 x) * U (ix2 x j)

theorem act_block (r : Fin 512) (j : Fin 4096) : k0_pay1 x0 x1 U (ix2 r j) = max (hidden x0 x1 U r j) 0 * max (hidden x0 x1 U r j) 0 := by
  unfold k0_pay1
  pointwise
  rfl

theorem out_block (a : Vec Ideal S512x4096 .bf16) (ha : k0_pay1 x0 x1 U = a) (r : Fin 512) (k : Fin 1024) :
    k0_pay2 x0 x1 U D (ix2 r k) = x0 (ix2 r k) + ∑ j : Fin 4096, a (ix2 r j) * D (ix2 j k) := by
  unfold k0_pay2
  rw [ha]
  pointwise
end

/-- A tile's hidden layer. -/
theorem hidden_tile (c : Dev nD) (t : Fin cfg0.N) (r : Fin 512) (j : Fin 4096) :
    hidden (iblk m c 0 t) (iblk m c 1 t) (W1 m c) r j = hid m c (tileRow t.val (lt16 t) r) j := by
  have e : (fun k : Fin 1024 => (iblk m c 0 t : Vec Ideal S512x1024 .f32) (ix2 r k)) = fun k => H m c (ix2 (tileRow t.val (lt16 t) r) k) :=
    funext fun k => blk0 m c t r k
  unfold hidden hid
  rw [e]
  refine Finset.sum_congr rfl fun x _ => ?_
  rw [blk0, blk1, W1_apply]

/-- A tile's activation. -/
theorem act_tile (c : Dev nD) (t : Fin cfg0.N) (r : Fin 512) (j : Fin 4096) :
    k0_pay1 (iblk m c 0 t) (iblk m c 1 t) (W1 m c) (ix2 r j) = act m c (tileRow t.val (lt16 t) r) j := by
  refine (act_block _ _ _ r j).trans ?_
  rw [hidden_tile]
  rfl

theorem final2 (c : Dev nD) : (dats m 0 c).arrAt 2 cfg0.N = outArr m c := by
  refine (dats m 0 c).arrAt_eq_of_covers 2 _ (by decide +kernel) fun t hf y => ?_
  blk_simp
  rw [left2]
  obtain ⟨r, k, rfl⟩ : ∃ (r : Fin 512) (k : Fin 1024), y = ix2 r k := ⟨y 0, y 1, eq_ix2 y⟩
  have ey : ((View.whole main_v5_0).slice (win0_2.rect t)).emb (ix2 r k) = ix2 (tileRow t.val (lt16 t) r) k := by
    unfold tileRow; blk_ext [idx t]
  rw [ey]
  refine (out_block _ _ _ _ _ rfl r k).trans ?_
  show _ = H m c (ix2 (tileRow t.val (lt16 t) r) k) + ∑ j : Fin 4096, act m c (tileRow t.val (lt16 t) r) j * Wd m c (ix2 j k)
  exact congrArg₂ (fun a b : EReal => a + b) (blk0 m c t r k)
    (Finset.sum_congr rfl fun j _ => congrArg₂ (fun a b : EReal => a * b) (act_tile m c t r j) (W2_apply m c j k))

theorem final3 (c : Dev nD) : (dats m 0 c).arrAt 3 cfg0.N = actArr m c := by
  refine (dats m 0 c).arrAt_eq_of_covers 3 _ (by decide +kernel) fun t hf y => ?_
  blk_simp
  rw [left3]
  obtain ⟨r, k, rfl⟩ : ∃ (r : Fin 512) (k : Fin 4096), y = ix2 r k := ⟨y 0, y 1, eq_ix2 y⟩
  have ey : ((View.whole main_v5_1).slice (win0_3.rect t)).emb (ix2 r k) = ix2 (tileRow t.val (lt16 t) r) k := by
    unfold tileRow; blk_ext [idx t]
  rw [ey]
  exact act_tile m c t r k

/-- The run: the two results, the arguments unchanged. -/
theorem run : θ_run defs (onTc (τ := τ) (main (F := Ideal))) ⟨m, fun _ => 0, ρ⟩ fun r => ∀ c : Dev nD,
      r.2.mem ((c : Thread nD τ).loc main_v5_0) = outArr m c
      ∧ r.2.mem ((c : Thread nD τ).loc main_v5_1) = actArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 2).trans (final2 m c), ((h.1 c).1 3).trans (final3 m c), h.2.1 c⟩)
    (θ_run_and (run_arrays m ρ) (frame_main m ρ))

end Cert.MlpfIdeal.Hand

end
-- ==== Proof.Mlpf.lean ====
/- The forward call of the feed-forward layer: its frames, and that it computes the forward lines. -/
module

public import proofs.«01_k».proof.Defs
public import proofs.«01_k».proof.Proof.Gen.Mlpf
public import proofs.«01_k».proof.Proof.Gen.MlpfRefIdeal.Run
public import proofs.«01_k».proof.Proof.MlpfKernel

@[expose] public section

set_option maxRecDepth 16384

noncomputable section

open Idealize.ShloMosaic Idealize.ShloMosaic.TcCoe Idealize.SL.Sem

namespace Cert.Proof.Mlpf

open Cert.MlpfRefIdeal Cert.MlpfRefIdeal.Gen Cert.MlpfRefIdeal.Value

/-- The kernel over the words has the text of the kernel over the extended reals. -/
theorem frame : Cert.quiescent_Mlpf := fun m ρ _ => Eq.mp (by sl_kernel_rfl) (Cert.MlpfIdeal.Hand.frame_main (F := Bits) m ρ)
theorem frame_ideal : Cert.quiescent_MlpfIdeal := fun m ρ _ => Cert.MlpfIdeal.Hand.frame_main m ρ
theorem frame_ref : Cert.quiescent_MlpfRefIdeal := fun m ρ _ =>
  (θ_run Cert.MlpfRefIdeal.defs _ _).mono (fun r h => ⟨fun c => (h c).2.2,
      Idealize.ShloMosaic.sem_eq_zero_of_no_sems (by decide) r.2⟩)
    (Cert.MlpfRefIdeal.Value.run (F := Ideal) m ρ)

theorem algebraic : Cert.algebraic_MlpfIdeal_MlpfRefIdeal := by
  intro m g m' g' _ h
  refine ⟨fun c => MlpfIdeal.Hand.outArr m c, fun c => MlpfIdeal.Hand.actArr m c, MlpfIdeal.Hand.run m g, ?_⟩
  refine (θ_run Cert.MlpfRefIdeal.defs _ _).mono (fun r hr c => ?_) (Cert.MlpfRefIdeal.Value.run (F := Ideal) m' g')
  obtain ⟨h1, h2, h5⟩ := hr c
  obtain ⟨e0, e1, e2, e3⟩ := h c
  refine ⟨h1.trans ?_, h2.trans ?_, h5⟩
  · funext i
    obtain ⟨r, k, rfl⟩ : ∃ (r : Fin 8192) (k : Fin 1024), i = ix2 r k := ⟨i 0, i 1, eq_ix2 i⟩
    pointwise
    simp only [e0, e1, e2, e3]
    rfl
  · funext i
    obtain ⟨r, k, rfl⟩ : ∃ (r : Fin 8192) (k : Fin 4096), i = ix2 r k := ⟨i 0, i 1, eq_ix2 i⟩
    pointwise
    simp only [e0, e1, e2, e3]
    rfl

end Cert.Proof.Mlpf

end
-- ==== Proof.SsmpFold.lean ====
/- The gradient of the scan's parameters: the diagonal blocks of a block matrix, folded. -/
module

public import proofs.«01_k».proof.Proof.Gen.SsmpIdeal.Frame
public import Idealize.ShloMosaic.Lib.Pointwise
public import proofs.«01_k».proof.Proof.Reals

@[expose] public section

set_option maxRecDepth 16384

noncomputable section

open Idealize.ShloMosaic Idealize.ShloMosaic.TcCoe Idealize.SL.Sem

namespace Cert.SsmpIdeal.Hand

open Cert.SsmpIdeal Cert.SsmpIdeal.Gen Cert.Reals

/-- The group of row `r`. -/
def grp (r : Fin 256) : Fin 16 := ⟨r.val / 16, by omega⟩

/-- Column `k` of group `g`. -/
def gcol (g : Fin 16) (k : Fin 64) : Fin 1024 := ⟨g.val * 64 + k.val, by omega⟩

/-- The group's word, as the kernel divides the row's index. -/
theorem word15 (r : Fin 256) (k : Fin 64) :
    k0_pay15 (iota .tc S256x64 32 [0] iota_S256x64_d0_w32) 16#32 k0_pay12 k0_pay13 k0_pay14 (ix2 r k) = BitVec.ofNat 32 (grp r).val := by
  unfold_payloads
  pointwise
  revert r
  decide +kernel

theorem word25 (r : Fin 256) (k : Fin 64) : k0_pay25 k0_pay21 k0_pay22 k0_pay23 k0_pay24 (ix2 r k) = BitVec.ofNat 32 (grp r).val := by
  unfold_payloads
  pointwise
  revert r
  decide +kernel

theorem word71 (r : Fin 256) (k : Fin 64) : k0_pay71 (ix2 r k) = BitVec.ofNat 32 (grp r).val := by
  unfold_payloads
  pointwise
  revert r
  decide +kernel

theorem word79 (r : Fin 256) (k : Fin 64) :
    k0_pay79 (iota .tc S256x64 32 [0] iota_S256x64_d0_w32) 16#32 k0_pay77 k0_pay78 (ix2 r k) = BitVec.ofNat 32 (grp r).val := by
  unfold_payloads
  pointwise
  revert r
  decide +kernel

/-- Of sixteen values, each kept where the row's group is its own, the sum is the group's value. -/
theorem pick (g : Fin 16) (f : Fin 16 → EReal) (z : EReal) (hz : z = f 0) :
    Scalar.select (IntOp.cmpi .eq (BitVec.ofNat 32 g.val) 0#32) z 0 + Scalar.select (IntOp.cmpi .eq (BitVec.ofNat 32 g.val) 1#32) (f 1) 0 + Scalar.select (IntOp.cmpi .eq (BitVec.ofNat 32 g.val) 2#32) (f 2) 0 + Scalar.select (IntOp.cmpi .eq (BitVec.ofNat 32 g.val) 3#32) (f 3) 0 + Scalar.select (IntOp.cmpi .eq (BitVec.ofNat 32 g.val) 4#32) (f 4) 0 + Scalar.select (IntOp.cmpi .eq (BitVec.ofNat 32 g.val) 5#32) (f 5) 0 + Scalar.select (IntOp.cmpi .eq (BitVec.ofNat 32 g.val) 6#32) (f 6) 0 + Scalar.select (IntOp.cmpi .eq (BitVec.ofNat 32 g.val) 7#32) (f 7) 0 + Scalar.select (IntOp.cmpi .eq (BitVec.ofNat 32 g.val) 8#32) (f 8) 0 + Scalar.select (IntOp.cmpi .eq (BitVec.ofNat 32 g.val) 9#32) (f 9) 0 + Scalar.select (IntOp.cmpi .eq (BitVec.ofNat 32 g.val) 10#32) (f 10) 0 + Scalar.select (IntOp.cmpi .eq (BitVec.ofNat 32 g.val) 11#32) (f 11) 0 + Scalar.select (IntOp.cmpi .eq (BitVec.ofNat 32 g.val) 12#32) (f 12) 0 + Scalar.select (IntOp.cmpi .eq (BitVec.ofNat 32 g.val) 13#32) (f 13) 0 + Scalar.select (IntOp.cmpi .eq (BitVec.ofNat 32 g.val) 14#32) (f 14) 0 + Scalar.select (IntOp.cmpi .eq (BitVec.ofNat 32 g.val) 15#32) (f 15) 0 = f g := by
  subst hz
  fin_cases g <;> simp [Scalar.select, IntOp.cmpi]

/-- The first group's columns are the first ones. -/
theorem gcol_zero (k : Fin 64) (h : k.val < 1024) : (⟨k.val, h⟩ : Fin 1024) = gcol 0 k := Fin.ext (by simp [gcol])

theorem fold1 (v : Vec Ideal S256x1024 .f32) (r : Fin 256) (k : Fin 64)
    (w : IVec S256x64 32) (hw : k0_pay15 (iota .tc S256x64 32 [0] iota_S256x64_d0_w32) 16#32 k0_pay12 k0_pay13 k0_pay14 = w) :
    k0_pay20 v w (k0_pay19 v w (k0_pay16 v (iota .tc S256x64 32 [0] iota_S256x64_d0_w32) 16#32 k0_pay12 k0_pay13 k0_pay14)
      (k0_pay17 (iota .tc S256x64 32 [0] iota_S256x64_d0_w32) 16#32 k0_pay12 k0_pay13 k0_pay14) (k0_pay18 v) (Scalar.ofBits .f32 0x00000000#32)) 12#32 (ix2 r k)
      = v (ix2 r (gcol (grp r) k)) := by
  have hg : w (ix2 r k) = BitVec.ofNat 32 (grp r).val := hw ▸ word15 r k
  unfold k0_pay20 k0_pay19 k0_pay16 k0_pay17 k0_pay18
  rw [hw]
  pointwise
  rw [hg]
  exact pick (grp r) (fun j => v (ix2 r (gcol j k))) _ (congrArg (fun t => v (ix2 r t)) (gcol_zero k _))

theorem fold2 (v : Vec Ideal S256x1024 .f32) (r : Fin 256) (k : Fin 64)
    (w : IVec S256x64 32) (hw : k0_pay25 k0_pay21 k0_pay22 k0_pay23 k0_pay24 = w) :
    k0_pay30 v w (k0_pay29 v w (k0_pay26 v k0_pay21 k0_pay22 k0_pay23 k0_pay24) (k0_pay27 k0_pay21 k0_pay22 k0_pay23 k0_pay24) (k0_pay28 v)) (ix2 r k)
      = v (ix2 r (gcol (grp r) k)) := by
  have hg : w (ix2 r k) = BitVec.ofNat 32 (grp r).val := hw ▸ word25 r k
  unfold k0_pay30 k0_pay29 k0_pay26 k0_pay27 k0_pay28
  rw [hw]
  pointwise
  rw [hg]
  exact pick (grp r) (fun j => v (ix2 r (gcol j k))) _ (congrArg (fun t => v (ix2 r t)) (gcol_zero k _))

theorem fold3 (v : Vec Ideal S256x1024 .f32) (r : Fin 256) (k : Fin 64) (w : IVec S256x64 32) (hw : k0_pay71 = w) :
    k0_pay76 v w (k0_pay74 v w (k0_pay72 v) (k0_pay73 v)) (k0_pay75 w) (ix2 r k) = v (ix2 r (gcol (grp r) k)) := by
  have hg : w (ix2 r k) = BitVec.ofNat 32 (grp r).val := hw ▸ word71 r k
  unfold k0_pay76 k0_pay74 k0_pay72 k0_pay73 k0_pay75
  rw [hw]
  pointwise
  rw [hg]
  exact pick (grp r) (fun j => v (ix2 r (gcol j k))) _ (congrArg (fun t => v (ix2 r t)) (gcol_zero k _))

theorem fold4 (v : Vec Ideal S256x1024 .f32) (r : Fin 256) (k : Fin 64)
    (w : IVec S256x64 32) (hw : k0_pay79 (iota .tc S256x64 32 [0] iota_S256x64_d0_w32) 16#32 k0_pay77 k0_pay78 = w) :
    k0_pay1 v w (k0_pay82 v w (k0_pay80 v (iota .tc S256x64 32 [0] iota_S256x64_d0_w32) 16#32 k0_pay77 k0_pay78) k0_pay81) (k0_pay83 w)
      (k0_pay84 v) (k0_pay85 (F := Ideal)) (ix2 r k) = -v (ix2 r (gcol (grp r) k)) := by
  have hg : w (ix2 r k) = BitVec.ofNat 32 (grp r).val := hw ▸ word79 r k
  unfold k0_pay1 k0_pay82 k0_pay80 k0_pay81 k0_pay83 k0_pay84 k0_pay85
  rw [hw]
  pointwise
  rw [hg, zero_sub]
  exact congrArg (fun a : EReal => -a) (pick (grp r) (fun j => v (ix2 r (gcol j k))) _ (congrArg (fun t => v (ix2 r t)) (gcol_zero k _)))

end Cert.SsmpIdeal.Hand

end
-- ==== Proof.SsmpReal.lean ====
module

public import proofs.«01_k».proof.Proof.Rms

/-!
# The derivative of one state's discretisation, over the reals

For one group and state, `a + b·i` is the pole, `t` the step, `M = exp (a·t)`, `C` and `S` the cosine and sine of `b·t`
and `d = a² + b²`. The decay's cotangent is `x + y·i`, and `p + q·i` gathers the cotangent of the scaled input matrix
against the input matrix. The three gradients are linear in `x, y, p, q`; so the part of the decay and the parts of the
sixteen input columns may be added.
-/

@[expose] public section

namespace Cert.SsmpReal

section
variable (a b t M C S d x y p q : ℝ)

/-- The decay's whole cotangent, its real and its imaginary part. -/
noncomputable def gX : ℝ := x + (p * a - q * b) / d
noncomputable def gY : ℝ := y + (p * b + q * a) / d
/-- The cotangent of `d`. -/
noncomputable def gW : ℝ := -(p * ((M * C - 1) * a + M * S * b) + q * (M * S * a - (M * C - 1) * b)) / (d * d)
/-- The gradients of the pole's real part, of its imaginary part and of the logarithm of the step. -/
noncomputable def gA : ℝ :=
  ((M * C - 1) * p + M * S * q) / d + 2 * a * gW a b M C S d p q + (gX a b d x p q * C + gY a b d y p q * S) * M * t
noncomputable def gB : ℝ :=
  (M * S * p - (M * C - 1) * q) / d + 2 * b * gW a b M C S d p q + (gY a b d y p q * C - gX a b d x p q * S) * M * t
noncomputable def gL : ℝ :=
  (a * (gX a b d x p q * C + gY a b d y p q * S) * M + b * (gY a b d y p q * C - gX a b d x p q * S) * M) * t

end

section
variable {n : ℕ} (a b t M C S d x y : ℝ) (p q : Fin n → ℝ)

/-- A function linear in its two arguments takes sums to sums. -/
theorem sum_lin {f : ℝ → ℝ → ℝ} (h : ∀ u v, f u v = u * f 1 0 + v * f 0 1) : ∑ i, f (p i) (q i) = f (∑ i, p i) (∑ i, q i) := by
  rw [h (∑ i, p i), Finset.sum_mul, Finset.sum_mul, ← Finset.sum_add_distrib]
  exact Finset.sum_congr rfl fun i _ => h _ _

theorem sum_gA : gA a b t M C S d x y 0 0 + ∑ i, gA a b t M C S d 0 0 (p i) (q i) = gA a b t M C S d x y (∑ i, p i) (∑ i, q i) := by
  rw [sum_lin p q (f := gA a b t M C S d 0 0) fun u v => by unfold gA gX gY gW; ring]
  unfold gA gX gY gW; ring

theorem sum_gB : gB a b t M C S d x y 0 0 + ∑ i, gB a b t M C S d 0 0 (p i) (q i) = gB a b t M C S d x y (∑ i, p i) (∑ i, q i) := by
  rw [sum_lin p q (f := gB a b t M C S d 0 0) fun u v => by unfold gB gX gY gW; ring]
  unfold gB gX gY gW; ring

theorem sum_gL : gL a b t M C S d x y 0 0 + ∑ i, gL a b t M C S d 0 0 (p i) (q i) = gL a b t M C S d x y (∑ i, p i) (∑ i, q i) := by
  rw [sum_lin p q (f := gL a b t M C S d 0 0) fun u v => by unfold gL gX gY; ring]
  unfold gL gX gY; ring

end

/-- The call's arguments, all real: the pole, the step's logarithm, the input matrix, the cotangent of the decay and the
    matrix whose diagonal blocks are the cotangent of the scaled input matrix. -/
structure Data where
  a : Fin 16 → Fin 64 → ℝ
  b : Fin 16 → Fin 64 → ℝ
  l : Fin 16 → ℝ
  br : Fin 16 → Fin 64 → Fin 16 → ℝ
  bi : Fin 16 → Fin 64 → Fin 16 → ℝ
  x : Fin 16 → Fin 64 → ℝ
  y : Fin 16 → Fin 64 → ℝ
  D : Fin 256 → Fin 2048 → ℝ
  pos : ∀ g k, a g k * a g k + b g k * b g k ≠ 0

/-- The row of an input column of a group. -/
def row (g i : Fin 16) : Fin 256 := ⟨g.val * 16 + i.val, by omega⟩
/-- A group's lane in the left and in the right half. -/
def left (g : Fin 16) (k : Fin 64) : Fin 2048 := ⟨g.val * 64 + k.val, by omega⟩
def right (g : Fin 16) (k : Fin 64) : Fin 2048 := ⟨1024 + (g.val * 64 + k.val), by omega⟩

namespace Data

variable (A : Data) (g : Fin 16) (k : Fin 64) (i : Fin 16)

noncomputable def t : ℝ := Real.exp (A.l g)
noncomputable def M : ℝ := Real.exp (A.a g k * A.t g)
noncomputable def C : ℝ := Real.cos (A.b g k * A.t g)
noncomputable def S : ℝ := Real.sin (A.b g k * A.t g)
noncomputable def d : ℝ := A.a g k * A.a g k + A.b g k * A.b g k
/-- The cotangent of the scaled input matrix. -/
noncomputable def u : ℝ := A.D (row g i) (left g k)
noncomputable def v : ℝ := A.D (row g i) (right g k)
noncomputable def p : ℝ := A.u g k i * A.br g k i + A.v g k i * A.bi g k i
noncomputable def q : ℝ := A.v g k i * A.br g k i - A.u g k i * A.bi g k i
/-- The gradients. -/
noncomputable def dA : ℝ := gA (A.a g k) (A.b g k) (A.t g) (A.M g k) (A.C g k) (A.S g k) (A.d g k) (A.x g k) (A.y g k) (∑ i, A.p g k i) (∑ i, A.q g k i)
noncomputable def dB : ℝ := gB (A.a g k) (A.b g k) (A.t g) (A.M g k) (A.C g k) (A.S g k) (A.d g k) (A.x g k) (A.y g k) (∑ i, A.p g k i) (∑ i, A.q g k i)
noncomputable def dL : ℝ := gL (A.a g k) (A.b g k) (A.t g) (A.M g k) (A.C g k) (A.S g k) (A.d g k) (A.x g k) (A.y g k) (∑ i, A.p g k i) (∑ i, A.q g k i)
noncomputable def dBr : ℝ := ((A.M g k * A.C g k - 1) * A.a g k + A.M g k * A.S g k * A.b g k) / A.d g k * A.u g k i
  + (A.M g k * A.S g k * A.a g k - (A.M g k * A.C g k - 1) * A.b g k) / A.d g k * A.v g k i
noncomputable def dBi : ℝ := ((A.M g k * A.C g k - 1) * A.a g k + A.M g k * A.S g k * A.b g k) / A.d g k * A.v g k i
  - (A.M g k * A.S g k * A.a g k - (A.M g k * A.C g k - 1) * A.b g k) / A.d g k * A.u g k i

end Data

end Cert.SsmpReal

end
-- ==== Proof.SsmpRow.lean ====
/- The gradient of the scan's parameters: what one row of the kernel's body adds to each gradient. -/
module

public import proofs.«01_k».proof.Proof.SsmpFold
public import proofs.«01_k».proof.Proof.SsmpReal

@[expose] public section

set_option maxRecDepth 16384

noncomputable section

open Idealize.ShloMosaic Idealize.ShloMosaic.TcCoe Idealize.SL.Sem

namespace Cert.SsmpIdeal.Hand

open Cert.SsmpIdeal Cert.SsmpIdeal.Gen Cert.Reals Cert.Rms Cert.SsmpReal

/-- What the body holds in a row's lane: the cotangents `u, v` of the scaled input matrix, the pole `a, b`, the input matrix
    `br, bi`, the step `t` and what is computed of them. -/
structure Row (v91 v97 v98 v99 v100 v101 v102 v103 v104 v105 v106 v107 v108 v109 v110 v111 v112 v113 v114 : FVec Ideal S256x64 .f32)
    (i : S256x64.Idx) (u v a b br bi t M C S d : ℝ) : Prop where
  hd : d ≠ 0
  e91 : v91 i = (u : EReal)
  e97 : v97 i = (v : EReal)
  e98 : v98 i = (a : EReal)
  e99 : v99 i = (b : EReal)
  e100 : v100 i = (br : EReal)
  e101 : v101 i = (bi : EReal)
  e102 : v102 i = (t : EReal)
  e103 : v103 i = (M : EReal)
  e104 : v104 i = (C : EReal)
  e105 : v105 i = (S : EReal)
  e106 : v106 i = (S : EReal)
  e107 : v107 i = (C : EReal)
  e108 : v108 i = ((M * S : ℝ) : EReal)
  e109 : v109 i = (d : EReal)
  e110 : v110 i = ((M * C - 1 : ℝ) : EReal)
  e111 : v111 i = (((M * C - 1) * a + M * S * b : ℝ) : EReal)
  e112 : v112 i = ((((M * C - 1) * a + M * S * b) / d : ℝ) : EReal)
  e113 : v113 i = ((d * d : ℝ) : EReal)
  e114 : v114 i = ((1 : ℝ) : EReal)

variable {v91 v97 v98 v99 v100 v101 v102 v103 v104 v105 v106 v107 v108 v109 v110 v111 v112 v113 v114 : FVec Ideal S256x64 .f32}
  {i : S256x64.Idx} {u v a b br bi t M C S d : ℝ}
  (h : Row v91 v97 v98 v99 v100 v101 v102 v103 v104 v105 v106 v107 v108 v109 v110 v111 v112 v113 v114 i u v a b br bi t M C S d)

include h

/-- The row's part of the gradient of the pole's real part. -/
theorem row_a : addf (k0_pay64 v91 v97 v98 v99 v100 v101 v108 v109 v110 v111 v113 v114)
    (mulf (k0_pay67 v103 v104 v106 (k0_pay61 v91 v97 v98 v99 v100 v101 v109) (k0_pay62 v91 v97 v98 v99 v100 v101 v109)) v102) i
      = (gA a b t M C S d 0 0 (u * br + v * bi) (v * br - u * bi) : EReal) := by
  have hdd : d * d ≠ 0 := mul_ne_zero h.hd h.hd
  unfold_payloads
  pointwise [h.e91, h.e97, h.e98, h.e99, h.e100, h.e101, h.e102, h.e103, h.e104, h.e106, h.e108, h.e109, h.e110, h.e111, h.e113, h.e114]
  simp only [zero_sub, ← EReal.coe_one, ← EReal.coe_mul, ← EReal.coe_add, ← EReal.coe_sub, ← EReal.coe_neg, div_coe_coe _ h.hd, div_coe_coe _ hdd]
  refine congrArg _ ?_
  unfold gA gX gY gW
  ring

/-- The row's part of the gradient of the pole's imaginary part. -/
theorem row_b : addf (addf (k0_pay63 v91 v97 v98 v99 v100 v101 v108 v109 v110 v111 v113 v114)
    (mulf (k0_pay65 v103 v107 (k0_pay61 v91 v97 v98 v99 v100 v101 v109)) v102))
    (mulf (k0_pay66 v103 v105 (k0_pay62 v91 v97 v98 v99 v100 v101 v109)) v102) i
      = (gB a b t M C S d 0 0 (u * br + v * bi) (v * br - u * bi) : EReal) := by
  have hdd : d * d ≠ 0 := mul_ne_zero h.hd h.hd
  unfold_payloads
  pointwise [h.e91, h.e97, h.e98, h.e99, h.e100, h.e101, h.e102, h.e103, h.e105, h.e107, h.e108, h.e109, h.e110, h.e111, h.e113, h.e114]
  simp only [zero_sub, ← EReal.coe_one, ← EReal.coe_mul, ← EReal.coe_add, ← EReal.coe_sub, ← EReal.coe_neg, div_coe_coe _ h.hd, div_coe_coe _ hdd]
  refine congrArg _ ?_
  unfold gB gX gY gW
  ring

/-- The row's part of the gradient of the step's logarithm. -/
theorem row_l : mulf (addf (addf (mulf v99 (k0_pay65 v103 v107 (k0_pay61 v91 v97 v98 v99 v100 v101 v109)))
    (mulf v99 (k0_pay66 v103 v105 (k0_pay62 v91 v97 v98 v99 v100 v101 v109))))
    (mulf v98 (k0_pay67 v103 v104 v106 (k0_pay61 v91 v97 v98 v99 v100 v101 v109) (k0_pay62 v91 v97 v98 v99 v100 v101 v109)))) v102 i
      = (gL a b t M C S d 0 0 (u * br + v * bi) (v * br - u * bi) : EReal) := by
  unfold_payloads
  pointwise [h.e91, h.e97, h.e98, h.e99, h.e100, h.e101, h.e102, h.e103, h.e104, h.e105, h.e106, h.e107, h.e109]
  simp only [zero_sub, ← EReal.coe_mul, ← EReal.coe_add, ← EReal.coe_sub, ← EReal.coe_neg, div_coe_coe _ h.hd]
  refine congrArg _ ?_
  unfold gL gX gY
  ring

/-- The gradients of the input matrix: the real part … -/
theorem row_br : k0_pay55 v91 v97 v98 v99 v108 v109 v110 v112 i
    = ((((M * C - 1) * a + M * S * b) / d * u + (M * S * a - (M * C - 1) * b) / d * v : ℝ) : EReal) := by
  unfold_payloads
  pointwise [h.e91, h.e97, h.e98, h.e99, h.e108, h.e109, h.e110, h.e112]
  simp only [← EReal.coe_mul, ← EReal.coe_add, ← EReal.coe_sub, div_coe_coe _ h.hd]
  refine congrArg _ ?_
  ring

/-- … and the imaginary part. -/
theorem row_bi : k0_pay53 v91 v97 v98 v99 v108 v109 v110 v112 i
    = ((((M * C - 1) * a + M * S * b) / d * v - (M * S * a - (M * C - 1) * b) / d * u : ℝ) : EReal) := by
  unfold_payloads
  pointwise [h.e91, h.e97, h.e98, h.e99, h.e108, h.e109, h.e110, h.e112]
  simp only [zero_sub, ← EReal.coe_mul, ← EReal.coe_add, ← EReal.coe_sub, ← EReal.coe_neg, div_coe_coe _ h.hd]
  refine congrArg _ ?_
  ring

end Cert.SsmpIdeal.Hand

end
-- ==== Proof.SsmpKernel.lean ====
/- The gradient of the scan's parameters: what the kernel's body writes, of real arguments. -/
module

public import proofs.«01_k».proof.Proof.SsmpRow
public import proofs.«01_k».proof.Proof.Gen.SsmpIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SsmpIdeal.Hand

open Cert.SsmpIdeal Cert.SsmpIdeal.Gen Cert.Reals Cert.Rms Cert.SsmpReal

/-- The body's blocks hold the arguments: the pole, the step and the input matrix once more per row. -/
structure Body (A : Data) (x0 x1 x2 : Vec Ideal S16x64 .f32) (x3 x4 x5 x6 x7 : Vec Ideal S256x64 .f32) (x8 x9 : Vec Ideal S16x64 .f32)
    (x10 : Vec Ideal S256x2048 .f32) : Prop where
  e0 : ∀ g k, x0 (ix2 g k) = (A.a g k : EReal)
  e1 : ∀ g k, x1 (ix2 g k) = (A.b g k : EReal)
  e2 : ∀ g k, x2 (ix2 g k) = (A.l g : EReal)
  e3 : ∀ g i k, x3 (ix2 (row g i) k) = (A.a g k : EReal)
  e4 : ∀ g i k, x4 (ix2 (row g i) k) = (A.b g k : EReal)
  e5 : ∀ g i k, x5 (ix2 (row g i) k) = (A.l g : EReal)
  e6 : ∀ g i k, x6 (ix2 (row g i) k) = (A.br g k i : EReal)
  e7 : ∀ g i k, x7 (ix2 (row g i) k) = (A.bi g k i : EReal)
  e8 : ∀ g k, x8 (ix2 g k) = (A.x g k : EReal)
  e9 : ∀ g k, x9 (ix2 g k) = (A.y g k : EReal)
  e10 : ∀ r j, x10 (ix2 r j) = (A.D r j : EReal)

theorem grp_row (g i : Fin 16) : grp (row g i) = g := Fin.ext (by simp only [grp, row]; omega)

variable {A : Data} {x0 x1 x2 : Vec Ideal S16x64 .f32} {x3 x4 x5 x6 x7 : Vec Ideal S256x64 .f32} {x8 x9 : Vec Ideal S16x64 .f32}
  {x10 : Vec Ideal S256x2048 .f32} (x11 x12 : Vec Ideal S256x1024 .f32) (h : Body A x0 x1 x2 x3 x4 x5 x6 x7 x8 x9 x10)

include h

/-- The decay's own part of the three gradients. -/
theorem head_a (g : Fin 16) (k : Fin 64) : k0_pay10 x0 x1 x2 x8 x9 (ix2 g k)
    = (gA (A.a g k) (A.b g k) (A.t g) (A.M g k) (A.C g k) (A.S g k) (A.d g k) (A.x g k) (A.y g k) 0 0 : EReal) := by
  unfold_payloads
  pointwise [h.e0, h.e1, h.e2, h.e8, h.e9]
  simp only [← EReal.coe_mul, ← EReal.coe_add, Ideal.exp_coe, Ideal.sin_coe, Ideal.cos_coe]
  refine congrArg _ ?_
  unfold gA gX gY gW Data.M Data.C Data.S Data.t
  ring

theorem head_b (g : Fin 16) (k : Fin 64) : k0_pay8 x0 x1 x2 x8 x9 (ix2 g k)
    = (gB (A.a g k) (A.b g k) (A.t g) (A.M g k) (A.C g k) (A.S g k) (A.d g k) (A.x g k) (A.y g k) 0 0 : EReal) := by
  unfold_payloads
  pointwise [h.e0, h.e1, h.e2, h.e8, h.e9]
  simp only [zero_sub, ← EReal.coe_mul, ← EReal.coe_neg, ← EReal.coe_add, Ideal.exp_coe, Ideal.sin_coe, Ideal.cos_coe]
  refine congrArg _ ?_
  unfold gB gX gY gW Data.M Data.C Data.S Data.t
  ring

theorem head_l (g : Fin 16) (k : Fin 64) : k0_pay11 x0 x1 x2 x8 x9 (ix2 g k)
    = (gL (A.a g k) (A.b g k) (A.t g) (A.M g k) (A.C g k) (A.S g k) (A.d g k) (A.x g k) (A.y g k) 0 0 : EReal) := by
  unfold_payloads
  pointwise [h.e0, h.e1, h.e2, h.e8, h.e9]
  simp only [zero_sub, ← EReal.coe_mul, ← EReal.coe_neg, ← EReal.coe_add, Ideal.exp_coe, Ideal.sin_coe, Ideal.cos_coe]
  refine congrArg _ ?_
  unfold gL gX gY Data.M Data.C Data.S Data.t
  ring

/-- What the body holds in a row. -/
theorem body_row (g i : Fin 16) (k : Fin 64) :
    Row (k0_pay91 x0 x1 x2 x3 x4 x5 x6 x7 x8 x9 x10 x11 x12) (k0_pay97 x0 x1 x2 x3 x4 x5 x6 x7 x8 x9 x10 x11 x12)
      (k0_pay98 x0 x1 x2 x3 x4 x5 x6 x7 x8 x9 x10 x11 x12) (k0_pay99 x0 x1 x2 x3 x4 x5 x6 x7 x8 x9 x10 x11 x12)
      (k0_pay100 x0 x1 x2 x3 x4 x5 x6 x7 x8 x9 x10 x11 x12) (k0_pay101 x0 x1 x2 x3 x4 x5 x6 x7 x8 x9 x10 x11 x12)
      (k0_pay102 x0 x1 x2 x3 x4 x5 x6 x7 x8 x9 x10 x11 x12) (k0_pay103 x0 x1 x2 x3 x4 x5 x6 x7 x8 x9 x10 x11 x12)
      (k0_pay104 x0 x1 x2 x3 x4 x5 x6 x7 x8 x9 x10 x11 x12) (k0_pay105 x0 x1 x2 x3 x4 x5 x6 x7 x8 x9 x10 x11 x12)
      (k0_pay106 x0 x1 x2 x3 x4 x5 x6 x7 x8 x9 x10 x11 x12) (k0_pay107 x0 x1 x2 x3 x4 x5 x6 x7 x8 x9 x10 x11 x12)
      (k0_pay108 x0 x1 x2 x3 x4 x5 x6 x7 x8 x9 x10 x11 x12) (k0_pay109 x0 x1 x2 x3 x4 x5 x6 x7 x8 x9 x10 x11 x12)
      (k0_pay110 x0 x1 x2 x3 x4 x5 x6 x7 x8 x9 x10 x11 x12) (k0_pay111 x0 x1 x2 x3 x4 x5 x6 x7 x8 x9 x10 x11 x12)
      (k0_pay112 x0 x1 x2 x3 x4 x5 x6 x7 x8 x9 x10 x11 x12) (k0_pay113 x0 x1 x2 x3 x4 x5 x6 x7 x8 x9 x10 x11 x12)
      (k0_pay114 x0 x1 x2 x3 x4 x5 x6 x7 x8 x9 x10 x11 x12)
      (ix2 (row g i) k) (A.u g k i) (A.v g k i) (A.a g k) (A.b g k) (A.br g k i) (A.bi g k i) (A.t g) (A.M g k) (A.C g k) (A.S g k) (A.d g k) where
  hd := A.pos g k
  e91 := by
    unfold k0_pay91
    refine (fold1 _ _ _ _ rfl).trans ?_
    rw [grp_row]
    refine Eq.trans ?_ (h.e10 (row g i) (left g k))
    pointwise
    rfl
  e97 := by
    unfold k0_pay97
    refine (fold2 _ _ _ _ rfl).trans ?_
    rw [grp_row]
    refine Eq.trans ?_ (h.e10 (row g i) (right g k))
    pointwise
    rfl
  e98 := by unfold k0_pay98 k0_pay31; pointwise [h.e3]
  e99 := by unfold k0_pay99 k0_pay32; pointwise [h.e4]
  e100 := by unfold k0_pay100 k0_pay33; pointwise [h.e6]
  e101 := by unfold k0_pay101 k0_pay34; pointwise [h.e7]
  e102 := by unfold k0_pay102 k0_pay35; pointwise [h.e5]; rfl
  e103 := by unfold k0_pay103; unfold_payloads; pointwise [h.e3, h.e5]; rfl
  e104 := by unfold k0_pay104; unfold_payloads; pointwise [h.e4, h.e5]; rfl
  e105 := by unfold k0_pay105; unfold_payloads; pointwise [h.e4, h.e5]; rfl
  e106 := by unfold k0_pay106; unfold_payloads; pointwise [h.e4, h.e5]; rfl
  e107 := by unfold k0_pay107; unfold_payloads; pointwise [h.e4, h.e5]; rfl
  e108 := by unfold k0_pay108; unfold_payloads; pointwise [h.e3, h.e4, h.e5]; rfl
  e109 := by unfold k0_pay109; unfold_payloads; pointwise [h.e3, h.e4]; rfl
  e110 := by unfold k0_pay110; unfold_payloads; pointwise [h.e3, h.e4, h.e5]; rfl
  e111 := by unfold k0_pay111; unfold_payloads; pointwise [h.e3, h.e4, h.e5]; rfl
  e112 := by
    unfold k0_pay112; unfold_payloads; pointwise [h.e3, h.e4, h.e5]
    exact div_coe_coe _ (A.pos g k)
  e113 := by unfold k0_pay113; unfold_payloads; pointwise [h.e3, h.e4]; rfl
  e114 := by unfold k0_pay114; unfold_payloads; pointwise; rfl

/-- The six windows that are written of these values. -/
theorem out_a (g : Fin 16) (k : Fin 64) : out0_13 x0 x1 x2 x3 x4 x5 x6 x7 x8 x9 x10 x11 x12 (ix2 g k) = (A.dA g k : EReal) := by
  unfold out0_13
  frame_out
  unfold k0_pay68 k0_pay115 k0_pay116
  pointwise [head_a h]
  refine (congrArg (_ + ·) ((Finset.sum_congr rfl fun i _ => row_a (body_row x11 x12 h g i k)).trans (coe_sum _ _))).trans ?_
  rw [← EReal.coe_add]
  exact congrArg _ (sum_gA _ _ _ _ _ _ _ _ _ _ _)

theorem out_b (g : Fin 16) (k : Fin 64) : out0_14 x0 x1 x2 x3 x4 x5 x6 x7 x8 x9 x10 x11 x12 (ix2 g k) = (A.dB g k : EReal) := by
  unfold out0_14
  frame_out
  unfold k0_pay69 k0_pay115 k0_pay116
  pointwise [head_b h]
  refine (congrArg (_ + ·) ((Finset.sum_congr rfl fun i _ => row_b (body_row x11 x12 h g i k)).trans (coe_sum _ _))).trans ?_
  rw [← EReal.coe_add]
  exact congrArg _ (sum_gB _ _ _ _ _ _ _ _ _ _ _)

theorem out_l (g : Fin 16) (j : Fin 128) : out0_15 x0 x1 x2 x3 x4 x5 x6 x7 x8 x9 x10 x11 x12 (ix2 g j) = ((∑ k, A.dL g k : ℝ) : EReal) := by
  unfold out0_15
  frame_out
  unfold k0_pay70 k0_pay115 k0_pay116
  pointwise [head_l h]
  refine (Finset.sum_congr rfl fun k _ => ?_).trans (coe_sum _ _)
  refine (congrArg (_ + ·) ((Finset.sum_congr rfl fun i _ => row_l (body_row x11 x12 h g i k)).trans (coe_sum _ _))).trans ?_
  rw [← EReal.coe_add]
  exact congrArg _ (sum_gL _ _ _ _ _ _ _ _ _ _ _)

theorem out_br (g i : Fin 16) (k : Fin 64) : out0_16 x0 x1 x2 x3 x4 x5 x6 x7 x8 x9 x10 x11 x12 (ix2 (row g i) k) = (A.dBr g k i : EReal) := by
  unfold out0_16
  frame_out
  exact row_br (body_row x11 x12 h g i k)

theorem out_bi (g i : Fin 16) (k : Fin 64) : out0_17 x0 x1 x2 x3 x4 x5 x6 x7 x8 x9 x10 x11 x12 (ix2 (row g i) k) = (A.dBi g k i : EReal) := by
  unfold out0_17
  frame_out
  exact row_bi (body_row x11 x12 h g i k)

omit h

/-- The two windows of the output matrix: the diagonal blocks, the imaginary part with its sign changed. -/
theorem out_cr (r : Fin 256) (k : Fin 64) : out0_18 x0 x1 x2 x3 x4 x5 x6 x7 x8 x9 x10 x11 x12 (ix2 r k) = x11 (ix2 r (gcol (grp r) k)) := by
  unfold out0_18
  frame_out
  exact fold3 _ r k _ rfl

theorem out_ci (r : Fin 256) (k : Fin 64) : out0_19 x0 x1 x2 x3 x4 x5 x6 x7 x8 x9 x10 x11 x12 (ix2 r k) = -x12 (ix2 r (gcol (grp r) k)) := by
  unfold out0_19
  frame_out
  exact fold4 _ r k _ rfl

end Cert.SsmpIdeal.Hand

end
-- ==== Proof.SsmpRun.lean ====
/- The gradient of the scan's parameters: the kernel's run on real arguments. -/
module

public import proofs.«01_k».proof.Proof.SsmpKernel
public import Idealize.ShloMosaic.Lib.Pointwise

@[expose] public section

set_option maxRecDepth 16384

noncomputable section

open Idealize.ShloMosaic Idealize.ShloMosaic.TcCoe Idealize.SL.Sem

namespace Cert.SsmpIdeal.Hand

open Cert.SsmpIdeal Cert.SsmpIdeal.Gen Cert.Reals Cert.Rms Cert.SsmpReal

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] :=
  (by decide +kernel : ∀ t : Fin grid0.N, _)

/-- A row's column of the input matrix. -/
def sub (r : Fin 256) : Fin 16 := ⟨r.val % 16, by omega⟩

theorem row_grp (r : Fin 256) : row (grp r) (sub r) = r := Fin.ext (by simp only [grp, row, sub]; omega)

theorem sub_row (g i : Fin 16) : sub (row g i) = i := Fin.ext (by simp only [sub, row]; omega)

/-- The argument arrays hold these real numbers. -/
structure Holds (A : Data) (a b x y : Vec Ideal S16x64 .f32) (l : Vec Ideal S16 .f32) (br bi : Vec Ideal S16x64x16 .f32)
    (D : Vec Ideal S256x2048 .f32) : Prop where
  ea : ∀ g k, a (ix2 g k) = (A.a g k : EReal)
  eb : ∀ g k, b (ix2 g k) = (A.b g k : EReal)
  ex : ∀ g k, x (ix2 g k) = (A.x g k : EReal)
  ey : ∀ g k, y (ix2 g k) = (A.y g k : EReal)
  el : ∀ g, l (ix1 g) = (A.l g : EReal)
  er : ∀ g k i, br (ix3 g k i) = (A.br g k i : EReal)
  ei : ∀ g k i, bi (ix3 g k i) = (A.bi g k i : EReal)
  eD : ∀ r j, D (ix2 r j) = (A.D r j : EReal)

variable {A : Data} (c : Dev nD)
  (h : Holds A (m ((c : Thread nD τ).loc main_arg0)) (m ((c : Thread nD τ).loc main_arg1)) (m ((c : Thread nD τ).loc main_arg5))
    (m ((c : Thread nD τ).loc main_arg6)) (m ((c : Thread nD τ).loc main_arg2)) (m ((c : Thread nD τ).loc main_arg3))
    (m ((c : Thread nD τ).loc main_arg4)) (m ((c : Thread nD τ).loc main_arg7)))

theorem blk2 (t : Fin cfg0.N) (g : Fin 16) (k : Fin 64) : (iblk m c 2 t : Vec Ideal S16x64 .f32) (ix2 g k) = m ((c : Thread nD τ).loc main_arg2) (ix1 g) := by
  have e : ((cfg0.win 2).blk t).view.emb (ix2 g k) = ix2 g k := by blk_ext [idx t]
  unfold iblk
  rw [View.read_apply]
  refine (congrArg (V m c main_v1) e).trans ?_
  unfold V
  simp only [hostOps0]
  entry_read
  pointwise

theorem blk3 (t : Fin cfg0.N) (g i : Fin 16) (k : Fin 64) : (iblk m c 3 t : Vec Ideal S256x64 .f32) (ix2 (row g i) k) = m ((c : Thread nD τ).loc main_arg0) (ix2 g k) := by
  have e : ((cfg0.win 3).blk t).view.emb (ix2 (row g i) k) = ix2 (row g i) k := by blk_ext [idx t]
  unfold iblk
  rw [View.read_apply]
  refine (congrArg (V m c main_v3) e).trans ?_
  unfold V
  simp only [hostOps0]
  entry_read
  unfold row
  pointwise

theorem blk4 (t : Fin cfg0.N) (g i : Fin 16) (k : Fin 64) : (iblk m c 4 t : Vec Ideal S256x64 .f32) (ix2 (row g i) k) = m ((c : Thread nD τ).loc main_arg1) (ix2 g k) := by
  have e : ((cfg0.win 4).blk t).view.emb (ix2 (row g i) k) = ix2 (row g i) k := by blk_ext [idx t]
  unfold iblk
  rw [View.read_apply]
  refine (congrArg (V m c main_v5) e).trans ?_
  unfold V
  simp only [hostOps0]
  entry_read
  unfold row
  pointwise

theorem blk5 (t : Fin cfg0.N) (g i : Fin 16) (k : Fin 64) : (iblk m c 5 t : Vec Ideal S256x64 .f32) (ix2 (row g i) k) = m ((c : Thread nD τ).loc main_arg2) (ix1 g) := by
  have e : ((cfg0.win 5).blk t).view.emb (ix2 (row g i) k) = ix2 (row g i) k := by blk_ext [idx t]
  unfold iblk
  rw [View.read_apply]
  refine (congrArg (V m c main_v7) e).trans ?_
  unfold V
  simp only [hostOps0]
  entry_read
  unfold row
  pointwise

theorem blk6 (t : Fin cfg0.N) (g i : Fin 16) (k : Fin 64) : (iblk m c 6 t : Vec Ideal S256x64 .f32) (ix2 (row g i) k) = m ((c : Thread nD τ).loc main_arg3) (ix3 g k i) := by
  have e : ((cfg0.win 6).blk t).view.emb (ix2 (row g i) k) = ix2 (row g i) k := by blk_ext [idx t]
  unfold iblk
  rw [View.read_apply]
  refine (congrArg (V m c main_v9) e).trans ?_
  unfold V
  simp only [hostOps0]
  entry_read
  unfold row
  pointwise

theorem blk7 (t : Fin cfg0.N) (g i : Fin 16) (k : Fin 64) : (iblk m c 7 t : Vec Ideal S256x64 .f32) (ix2 (row g i) k) = m ((c : Thread nD τ).loc main_arg4) (ix3 g k i) := by
  have e : ((cfg0.win 7).blk t).view.emb (ix2 (row g i) k) = ix2 (row g i) k := by blk_ext [idx t]
  unfold iblk
  rw [View.read_apply]
  refine (congrArg (V m c main_v11) e).trans ?_
  unfold V
  simp only [hostOps0]
  entry_read
  unfold row
  pointwise

include h

theorem blocks (t : Fin cfg0.N) : Body A (iblk m c 0 t) (iblk m c 1 t) (iblk m c 2 t) (iblk m c 3 t) (iblk m c 4 t) (iblk m c 5 t)
    (iblk m c 6 t) (iblk m c 7 t) (iblk m c 8 t) (iblk m c 9 t) (iblk m c 10 t) where
  e0 g k := by refine Eq.trans ?_ (h.ea g k); blk_ext [iblk, V_main_arg0, idx t]
  e1 g k := by refine Eq.trans ?_ (h.eb g k); blk_ext [iblk, V_main_arg1, idx t]
  e2 g k := (blk2 m c t g k).trans (h.el g)
  e3 g i k := (blk3 m c t g i k).trans (h.ea g k)
  e4 g i k := (blk4 m c t g i k).trans (h.eb g k)
  e5 g i k := (blk5 m c t g i k).trans (h.el g)
  e6 g i k := (blk6 m c t g i k).trans (h.er g k i)
  e7 g i k := (blk7 m c t g i k).trans (h.ei g k i)
  e8 g k := by refine Eq.trans ?_ (h.ex g k); blk_ext [iblk, V_main_arg5, idx t]
  e9 g k := by refine Eq.trans ?_ (h.ey g k); blk_ext [iblk, V_main_arg6, idx t]
  e10 r j := by refine Eq.trans ?_ (h.eD r j); blk_ext [iblk, V_main_arg7, idx t]

/-- The gradient of the pole's real part. -/
theorem final13 : (dats m 0 c).arrAt 13 cfg0.N = fun i : S16x64.Idx => (A.dA (i 0) (i 1) : EReal) := by
  refine (dats m 0 c).arrAt_eq_of_covers 13 _ (by decide +kernel) fun t hf y => ?_
  blk_simp
  rw [after0_13]
  obtain ⟨r, k, rfl⟩ : ∃ (r : Fin 16) (k : Fin 64), y = ix2 r k := ⟨y 0, y 1, eq_ix2 y⟩
  have ey : ((View.whole main_v12_0).slice (win0_13.rect t)).emb (ix2 r k) = ix2 r k := by blk_ext [idx t]
  rw [ey]
  exact out_a _ _ (blocks m c h t) r k

/-- The gradient of the pole's imaginary part. -/
theorem final14 : (dats m 0 c).arrAt 14 cfg0.N = fun i : S16x64.Idx => (A.dB (i 0) (i 1) : EReal) := by
  refine (dats m 0 c).arrAt_eq_of_covers 14 _ (by decide +kernel) fun t hf y => ?_
  blk_simp
  rw [after0_14]
  obtain ⟨r, k, rfl⟩ : ∃ (r : Fin 16) (k : Fin 64), y = ix2 r k := ⟨y 0, y 1, eq_ix2 y⟩
  have ey : ((View.whole main_v12_1).slice (win0_14.rect t)).emb (ix2 r k) = ix2 r k := by blk_ext [idx t]
  rw [ey]
  exact out_b _ _ (blocks m c h t) r k

/-- The gradient of the step's logarithm, along a row. -/
theorem final15 : (dats m 0 c).arrAt 15 cfg0.N = fun i : S16x128.Idx => ((∑ k, A.dL (i 0) k : ℝ) : EReal) := by
  refine (dats m 0 c).arrAt_eq_of_covers 15 _ (by decide +kernel) fun t hf y => ?_
  blk_simp
  rw [after0_15]
  obtain ⟨r, k, rfl⟩ : ∃ (r : Fin 16) (k : Fin 128), y = ix2 r k := ⟨y 0, y 1, eq_ix2 y⟩
  have ey : ((View.whole main_v12_2).slice (win0_15.rect t)).emb (ix2 r k) = ix2 r k := by blk_ext [idx t]
  rw [ey]
  exact out_l _ _ (blocks m c h t) r k

/-- The gradient of the input matrix' real part. -/
theorem final16 : (dats m 0 c).arrAt 16 cfg0.N = fun i : S256x64.Idx => (A.dBr (grp (i 0)) (i 1) (sub (i 0)) : EReal) := by
  refine (dats m 0 c).arrAt_eq_of_covers 16 _ (by decide +kernel) fun t hf y => ?_
  blk_simp
  rw [after0_16]
  obtain ⟨r, k, rfl⟩ : ∃ (r : Fin 256) (k : Fin 64), y = ix2 r k := ⟨y 0, y 1, eq_ix2 y⟩
  have ey : ((View.whole main_v12_3).slice (win0_16.rect t)).emb (ix2 r k) = ix2 r k := by blk_ext [idx t]
  rw [ey]
  obtain ⟨g, n, rfl⟩ : ∃ g n, r = row g n := ⟨grp r, sub r, (row_grp r).symm⟩
  refine (out_br _ _ (blocks m c h t) g n k).trans ?_
  show _ = (A.dBr (grp (row g n)) k (sub (row g n)) : EReal)
  rw [grp_row, sub_row]

/-- The gradient of its imaginary part. -/
theorem final17 : (dats m 0 c).arrAt 17 cfg0.N = fun i : S256x64.Idx => (A.dBi (grp (i 0)) (i 1) (sub (i 0)) : EReal) := by
  refine (dats m 0 c).arrAt_eq_of_covers 17 _ (by decide +kernel) fun t hf y => ?_
  blk_simp
  rw [after0_17]
  obtain ⟨r, k, rfl⟩ : ∃ (r : Fin 256) (k : Fin 64), y = ix2 r k := ⟨y 0, y 1, eq_ix2 y⟩
  have ey : ((View.whole main_v12_4).slice (win0_17.rect t)).emb (ix2 r k) = ix2 r k := by blk_ext [idx t]
  rw [ey]
  obtain ⟨g, n, rfl⟩ : ∃ g n, r = row g n := ⟨grp r, sub r, (row_grp r).symm⟩
  refine (out_bi _ _ (blocks m c h t) g n k).trans ?_
  show _ = (A.dBi (grp (row g n)) k (sub (row g n)) : EReal)
  rw [grp_row, sub_row]

omit h

theorem blk11 (t : Fin cfg0.N) (r : Fin 256) (j : Fin 1024) : (iblk m c 11 t : Vec Ideal S256x1024 .f32) (ix2 r j) = m ((c : Thread nD τ).loc main_arg8) (ix2 r j) := by
  blk_ext [iblk, V_main_arg8, idx t]

theorem blk12 (t : Fin cfg0.N) (r : Fin 256) (j : Fin 1024) : (iblk m c 12 t : Vec Ideal S256x1024 .f32) (ix2 r j) = m ((c : Thread nD τ).loc main_arg9) (ix2 r j) := by
  blk_ext [iblk, V_main_arg9, idx t]

/-- The diagonal blocks of the output matrix' gradient. -/
def diag (v : Vec Ideal S256x1024 .f32) (i : S256x64.Idx) : EReal := v (ix2 (i 0) (gcol (grp (i 0)) (i 1)))

/-- The real part … -/
theorem final18 : (dats m 0 c).arrAt 18 cfg0.N = diag (m ((c : Thread nD τ).loc main_arg8)) := by
  refine (dats m 0 c).arrAt_eq_of_covers 18 _ (by decide +kernel) fun t hf y => ?_
  blk_simp
  rw [after0_18]
  obtain ⟨r, k, rfl⟩ : ∃ (r : Fin 256) (k : Fin 64), y = ix2 r k := ⟨y 0, y 1, eq_ix2 y⟩
  have ey : ((View.whole main_v12_5).slice (win0_18.rect t)).emb (ix2 r k) = ix2 r k := by blk_ext [idx t]
  rw [ey]
  refine (out_cr _ _ r k).trans ?_
  exact blk11 m c t r _

/-- … and the imaginary part. -/
theorem final19 : (dats m 0 c).arrAt 19 cfg0.N = fun i => -diag (m ((c : Thread nD τ).loc main_arg9)) i := by
  refine (dats m 0 c).arrAt_eq_of_covers 19 _ (by decide +kernel) fun t hf y => ?_
  blk_simp
  rw [after0_19]
  obtain ⟨r, k, rfl⟩ : ∃ (r : Fin 256) (k : Fin 64), y = ix2 r k := ⟨y 0, y 1, eq_ix2 y⟩
  have ey : ((View.whole main_v12_6).slice (win0_19.rect t)).emb (ix2 r k) = ix2 r k := by blk_ext [idx t]
  rw [ey]
  refine (out_ci _ _ r k).trans ?_
  exact congrArg (fun a : EReal => -a) (blk12 m c t r _)

/-- The run: the results, the arguments unchanged. -/
theorem run (A : Dev nD → Data)
    (h : ∀ c : Dev nD, Holds (A c) (m ((c : Thread nD τ).loc main_arg0)) (m ((c : Thread nD τ).loc main_arg1)) (m ((c : Thread nD τ).loc main_arg5))
      (m ((c : Thread nD τ).loc main_arg6)) (m ((c : Thread nD τ).loc main_arg2)) (m ((c : Thread nD τ).loc main_arg3))
      (m ((c : Thread nD τ).loc main_arg4)) (m ((c : Thread nD τ).loc main_arg7))) :
    θ_run defs (onTc (τ := τ) (main (F := Ideal))) ⟨m, fun _ => 0, ρ⟩ fun r => ∀ c : Dev nD,
      r.2.mem ((c : Thread nD τ).loc main_v12_0) = (fun i : S16x64.Idx => ((A c).dA (i 0) (i 1) : EReal))
      ∧ r.2.mem ((c : Thread nD τ).loc main_v12_1) = (fun i : S16x64.Idx => ((A c).dB (i 0) (i 1) : EReal))
      ∧ r.2.mem ((c : Thread nD τ).loc main_v12_2) = (fun i : S16x128.Idx => ((∑ k, (A c).dL (i 0) k : ℝ) : EReal))
      ∧ r.2.mem ((c : Thread nD τ).loc main_v12_3) = (fun i : S256x64.Idx => ((A c).dBr (grp (i 0)) (i 1) (sub (i 0)) : EReal))
      ∧ r.2.mem ((c : Thread nD τ).loc main_v12_4) = (fun i : S256x64.Idx => ((A c).dBi (grp (i 0)) (i 1) (sub (i 0)) : EReal))
      ∧ r.2.mem ((c : Thread nD τ).loc main_v12_5) = diag (m ((c : Thread nD τ).loc main_arg8))
      ∧ r.2.mem ((c : Thread nD τ).loc main_v12_6) = (fun i => -diag (m ((c : Thread nD τ).loc main_arg9)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ hr c => ⟨(hr c).1.trans (final13 m c (h c)), (hr c).2.1.trans (final14 m c (h c)),
    (hr c).2.2.1.trans (final15 m c (h c)), (hr c).2.2.2.1.trans (final16 m c (h c)), (hr c).2.2.2.2.1.trans (final17 m c (h c)),
    (hr c).2.2.2.2.2.1.trans (final18 m c), (hr c).2.2.2.2.2.2.1.trans (final19 m c), (hr c).2.2.2.2.2.2.2⟩) (Value.run_blocks m ρ)

end Cert.SsmpIdeal.Hand

end
-- ==== Proof.SsmpRef.lean ====
/- The gradient of the scan's parameters: what the reference computes of real arguments. -/
module

public import proofs.«01_k».proof.Proof.Gen.SsmpRefIdeal.Run
public import proofs.«01_k».proof.Proof.SsmpRun

@[expose] public section

set_option maxRecDepth 16384

noncomputable section

open Idealize.ShloMosaic Idealize.ShloMosaic.TcCoe Idealize.SL.Sem

namespace Cert.SsmpRefIdeal.Hand

open Cert.SsmpRefIdeal Cert.SsmpRefIdeal.Gen Cert.SsmpRefIdeal.Value Cert.Reals Cert.Rms Cert.SsmpReal Cert.SsmpIdeal.Hand

variable (V : Valuation τ sig (Elt Ideal)) {A : Data}
  (h : Holds A (V (Proc.devRef .tc main_arg0)) (V (Proc.devRef .tc main_arg1)) (V (Proc.devRef .tc main_arg5)) (V (Proc.devRef .tc main_arg6))
    (V (Proc.devRef .tc main_arg2)) (V (Proc.devRef .tc main_arg3)) (V (Proc.devRef .tc main_arg4)) (V (Proc.devRef .tc main_arg7)))

/-- Of sixteen blocks, each kept where it is a row's own, the sum is that one. -/
theorem diag_sum (g : Fin 16) (f : Fin 16 → EReal) :
    ∑ x : Fin 16, Scalar.select (IntOp.cmpi .eq (BitVec.ofNat 32 g.val) (BitVec.ofNat 32 x.val)) (f x) 0 = f g := by
  rw [Finset.sum_eq_single g]
  · simp [Scalar.select, IntOp.cmpi]
  · intro x _ hx
    have hg := g.isLt
    have hx' := x.isLt
    have e : BitVec.ofNat 32 g.val ≠ BitVec.ofNat 32 x.val := fun e => hx (Fin.ext (by
      have := congrArg BitVec.toNat e
      simp only [BitVec.toNat_ofNat] at this
      omega))
    have e' : (BitVec.ofNat 32 g.val == BitVec.ofNat 32 x.val) = false := beq_eq_false_iff_ne.2 e
    simp [Scalar.select, IntOp.cmpi, e']
  · exact fun n => absurd (Finset.mem_univ g) n

include h

theorem v0 (g : Fin 16) : res_main_v0 V (ix1 g) = (A.t g : EReal) := by
  unfold res_main_v0; pointwise [h.el]; rfl

theorem v1 (g : Fin 16) : res_main_v1 V (ix2 g 0) = (A.t g : EReal) := by
  unfold res_main_v1; pointwise [v0 V h]

theorem v4 (g : Fin 16) (k : Fin 64) : res_main_v4 V (ix2 g k) = (A.M g k : EReal) := by
  unfold res_main_v4; pointwise [v1 V h, h.ea]; rfl

theorem v6 (g : Fin 16) (k : Fin 64) : res_main_v6 V (ix2 g k) = ((A.b g k * A.t g : ℝ) : EReal) := by
  unfold res_main_v6; pointwise [v1 V h, h.eb]; rfl

theorem v7 (g : Fin 16) (k : Fin 64) : res_main_v7 V (ix2 g k) = (A.C g k : EReal) := by
  unfold res_main_v7; pointwise [v6 V h]; rfl

theorem v11 (g : Fin 16) (k : Fin 64) : res_main_v11 V (ix2 g k) = ((A.b g k * A.t g : ℝ) : EReal) := by
  unfold res_main_v11; pointwise [v1 V h, h.eb]; rfl

theorem v12 (g : Fin 16) (k : Fin 64) : res_main_v12 V (ix2 g k) = (A.S g k : EReal) := by
  unfold res_main_v12; pointwise [v11 V h]; rfl

theorem v14 (g : Fin 16) (k : Fin 64) : res_main_v14 V (ix2 g k) = ((A.M g k * A.S g k : ℝ) : EReal) := by
  unfold res_main_v14; pointwise [v4 V h, v12 V h]; rfl

theorem v16 (g : Fin 16) (k : Fin 64) : res_main_v16 V (ix2 g k) = ((A.M g k * A.C g k - 1 : ℝ) : EReal) := by
  unfold res_main_v16; pointwise [v4 V h, v7 V h]; rfl

theorem v19 (g : Fin 16) (k : Fin 64) : res_main_v19 V (ix2 g k) = (A.d g k : EReal) := by
  unfold res_main_v19; pointwise [h.ea, h.eb]; rfl

theorem v22 (g : Fin 16) (k : Fin 64) : res_main_v22 V (ix2 g k)
    = (((A.M g k * A.C g k - 1) * A.a g k + A.M g k * A.S g k * A.b g k : ℝ) : EReal) := by
  unfold res_main_v22; pointwise [v16 V h, v14 V h, h.ea, h.eb]; rfl

theorem v23 (g : Fin 16) (k : Fin 64) : res_main_v23 V (ix2 g k)
    = ((((A.M g k * A.C g k - 1) * A.a g k + A.M g k * A.S g k * A.b g k) / A.d g k : ℝ) : EReal) := by
  unfold res_main_v23; pointwise [v22 V h, v19 V h]; exact div_coe_coe _ (A.pos g k)

theorem v29 (g : Fin 16) (k : Fin 64) : res_main_v29 V (ix2 g k)
    = ((A.M g k * A.S g k * A.a g k - (A.M g k * A.C g k - 1) * A.b g k : ℝ) : EReal) := by
  unfold res_main_v29; pointwise [v16 V h, v14 V h, h.ea, h.eb]; rfl

theorem v30 (g : Fin 16) (k : Fin 64) : res_main_v30 V (ix2 g k)
    = (((A.M g k * A.S g k * A.a g k - (A.M g k * A.C g k - 1) * A.b g k) / A.d g k : ℝ) : EReal) := by
  unfold res_main_v30; pointwise [v29 V h, v19 V h]; exact div_coe_coe _ (A.pos g k)

theorem v55 (g : Fin 16) (k : Fin 64) (i : Fin 16) : res_main_v55 V (ix3 g k i) = (A.u g k i : EReal) := by
  unfold res_main_v55
  pointwise [id, h.eD]
  refine (diag_sum g fun x => (A.D (row g i) (left x k) : EReal)).trans ?_
  rfl

theorem v63 (g : Fin 16) (k : Fin 64) (i : Fin 16) : res_main_v63 V (ix3 g k i) = (A.v g k i : EReal) := by
  unfold res_main_v63
  pointwise [id, h.eD]
  refine (diag_sum g fun x => (A.D (row g i) (right x k) : EReal)).trans ?_
  rfl

theorem v76 (g : Fin 16) (k : Fin 64) (i : Fin 16) : res_main_v76 V (ix3 g k i) = ((-A.u g k i : ℝ) : EReal) := by
  unfold res_main_v76; pointwise [v55 V h]; rfl

theorem v84 (g : Fin 16) (k : Fin 64) : res_main_v84 V (ix2 g k) = ((∑ i, A.q g k i : ℝ) : EReal) := by
  unfold res_main_v84
  pointwise [v63 V h, v76 V h, h.er, h.ei]
  simp only [Fin.sum_univ_one, ← EReal.coe_mul, coe_sum, ← EReal.coe_add, ← Finset.sum_add_distrib]
  refine congrArg _ (Finset.sum_congr rfl fun i _ => ?_)
  unfold Data.q
  ring

theorem v92 (g : Fin 16) (k : Fin 64) : res_main_v92 V (ix2 g k) = ((∑ i, A.p g k i : ℝ) : EReal) := by
  unfold res_main_v92
  pointwise [v63 V h, v55 V h, h.er, h.ei]
  simp only [Fin.sum_univ_one, ← EReal.coe_mul, coe_sum, ← EReal.coe_add, ← Finset.sum_add_distrib]
  refine congrArg _ (Finset.sum_congr rfl fun i _ => ?_)
  unfold Data.p
  ring

theorem v96 (g : Fin 16) (k : Fin 64) : res_main_v96 V (ix2 g k) = (((∑ i, A.q g k i) / A.d g k : ℝ) : EReal) := by
  unfold res_main_v96; pointwise [v84 V h, v19 V h]; exact div_coe_coe _ (A.pos g k)

theorem v97 (g : Fin 16) (k : Fin 64) : res_main_v97 V (ix2 g k) = ((-((∑ i, A.q g k i) / A.d g k) : ℝ) : EReal) := by
  unfold res_main_v97; pointwise [v96 V h]; rfl

theorem v108 (g : Fin 16) (k : Fin 64) : res_main_v108 V (ix2 g k) = (((∑ i, A.p g k i) / A.d g k : ℝ) : EReal) := by
  unfold res_main_v108; pointwise [v92 V h, v19 V h]; exact div_coe_coe _ (A.pos g k)

theorem v107 (g : Fin 16) (k : Fin 64) : res_main_v107 V (ix2 g k)
    = (gW (A.a g k) (A.b g k) (A.M g k) (A.C g k) (A.S g k) (A.d g k) (∑ i, A.p g k i) (∑ i, A.q g k i) : EReal) := by
  have hdd : A.d g k * A.d g k ≠ 0 := mul_ne_zero (A.pos g k) (A.pos g k)
  unfold res_main_v107
  pointwise [v84 V h, v92 V h, v19 V h, v29 V h, v22 V h]
  simp only [← EReal.coe_one, ← EReal.coe_mul, ← EReal.coe_add, ← EReal.coe_neg, div_coe_coe _ hdd]
  refine congrArg _ ?_
  unfold gW
  ring

theorem v112 (g : Fin 16) (k : Fin 64) : res_main_v112 V (ix2 g k) = (gY (A.a g k) (A.b g k) (A.d g k) (A.y g k) (∑ i, A.p g k i) (∑ i, A.q g k i) : EReal) := by
  unfold res_main_v112
  pointwise [v96 V h, v108 V h, h.ea, h.eb, h.ey]
  simp only [← EReal.coe_mul, ← EReal.coe_add]
  refine congrArg _ ?_
  unfold gY
  ring

theorem v116 (g : Fin 16) (k : Fin 64) : res_main_v116 V (ix2 g k) = (gX (A.a g k) (A.b g k) (A.d g k) (A.x g k) (∑ i, A.p g k i) (∑ i, A.q g k i) : EReal) := by
  unfold res_main_v116
  pointwise [v97 V h, v108 V h, h.ea, h.eb, h.ex]
  simp only [← EReal.coe_mul, ← EReal.coe_add]
  refine congrArg _ ?_
  unfold gX
  ring

theorem v127 (g : Fin 16) (k : Fin 64) : res_main_v127 V (ix2 g k) = ((A.M g k * gY (A.a g k) (A.b g k) (A.d g k) (A.y g k) (∑ i, A.p g k i) (∑ i, A.q g k i) * A.C g k : ℝ) : EReal) := by
  unfold res_main_v127; pointwise [v4 V h, v112 V h, v11 V h]; rfl

theorem v138 (g : Fin 16) (k : Fin 64) : res_main_v138 V (ix2 g k) = ((-(A.M g k * gX (A.a g k) (A.b g k) (A.d g k) (A.x g k) (∑ i, A.p g k i) (∑ i, A.q g k i)) * A.S g k : ℝ) : EReal) := by
  unfold res_main_v138; pointwise [v4 V h, v116 V h, v6 V h]; rfl

theorem v146 (g : Fin 16) (k : Fin 64) : res_main_v146 V (ix2 g k)
    = (((gY (A.a g k) (A.b g k) (A.d g k) (A.y g k) (∑ i, A.p g k i) (∑ i, A.q g k i) * A.S g k + gX (A.a g k) (A.b g k) (A.d g k) (A.x g k) (∑ i, A.p g k i) (∑ i, A.q g k i) * A.C g k) * A.M g k : ℝ) : EReal) := by
  unfold res_main_v146; pointwise [v4 V h, v112 V h, v116 V h, v12 V h, v7 V h]; rfl

end Cert.SsmpRefIdeal.Hand

end
-- ==== Proof.Ssmp.lean ====
/- The gradient of the scan's parameters: the claims. -/
module

public import proofs.«01_k».proof.Defs
public import proofs.«01_k».proof.Proof.Gen.Ssmp.Frame
public import proofs.«01_k».proof.Proof.SsmpRef

@[expose] public section

set_option maxRecDepth 16384

noncomputable section

open Idealize.ShloMosaic Idealize.ShloMosaic.TcCoe Idealize.SL.Sem

namespace Cert.Proof.Ssmp

open Cert.SsmpRefIdeal Cert.SsmpRefIdeal.Gen Cert.SsmpRefIdeal.Value Cert.Reals Cert.Rms Cert.SsmpReal Cert.SsmpIdeal.Hand Cert.SsmpRefIdeal.Hand

/-- The side conditions of the precondition's function. -/
instance pre_facts : Cert.Pre_param_finite.Facts := by constructor <;> decide

theorem pos_of_word {a : EReal} (h : BitVec.ofBool (decide (0 < a)) = 1#1) : 0 < a := by
  by_contra n
  rw [decide_eq_false n] at h
  exact absurd h (by decide)

/-- Under the precondition the arguments are real. -/
theorem holds_of_pre (m : (ℓ : Loc Cert.SsmpIdeal.nD Cert.SsmpIdeal.τ Cert.SsmpIdeal.sig) → Buf (Elt Ideal) ℓ)
    (hp : Cert.Pre_SsmpIdeal_param_finite m) (c : Dev Cert.SsmpIdeal.nD) : ∃ A : Data,
    Holds A (m ((c.tc : Thread Cert.SsmpIdeal.nD Cert.SsmpIdeal.τ).loc Cert.SsmpIdeal.main_arg0))
      (m ((c.tc : Thread Cert.SsmpIdeal.nD Cert.SsmpIdeal.τ).loc Cert.SsmpIdeal.main_arg1))
      (m ((c.tc : Thread Cert.SsmpIdeal.nD Cert.SsmpIdeal.τ).loc Cert.SsmpIdeal.main_arg5))
      (m ((c.tc : Thread Cert.SsmpIdeal.nD Cert.SsmpIdeal.τ).loc Cert.SsmpIdeal.main_arg6))
      (m ((c.tc : Thread Cert.SsmpIdeal.nD Cert.SsmpIdeal.τ).loc Cert.SsmpIdeal.main_arg2))
      (m ((c.tc : Thread Cert.SsmpIdeal.nD Cert.SsmpIdeal.τ).loc Cert.SsmpIdeal.main_arg3))
      (m ((c.tc : Thread Cert.SsmpIdeal.nD Cert.SsmpIdeal.τ).loc Cert.SsmpIdeal.main_arg4))
      (m ((c.tc : Thread Cert.SsmpIdeal.nD Cert.SsmpIdeal.τ).loc Cert.SsmpIdeal.main_arg7)) := by
  obtain ⟨h0, h1, h2, h3, h4, h5, h6, h7, h8⟩ := hp c
  dsimp only [Cert.Pre_param_finite.fn, Cert.Pre_param_finite.fn_part1] at h0 h1 h2 h3 h4 h5 h6 h7 h8
  choose a ea using fun g : Fin 16 => fun k : Fin 64 => (by have := congrFun h0 (ix2 g k); revert this; pointwise; exact real_of_word :
    IsReal (m ((c.tc : Thread Cert.SsmpIdeal.nD Cert.SsmpIdeal.τ).loc Cert.SsmpIdeal.main_arg0) (ix2 g k)))
  choose b eb using fun g : Fin 16 => fun k : Fin 64 => (by have := congrFun h1 (ix2 g k); revert this; pointwise; exact real_of_word :
    IsReal (m ((c.tc : Thread Cert.SsmpIdeal.nD Cert.SsmpIdeal.τ).loc Cert.SsmpIdeal.main_arg1) (ix2 g k)))
  choose l el using fun g : Fin 16 => (by have := congrFun h2 (ix1 g); revert this; pointwise; exact real_of_word :
    IsReal (m ((c.tc : Thread Cert.SsmpIdeal.nD Cert.SsmpIdeal.τ).loc Cert.SsmpIdeal.main_arg2) (ix1 g)))
  choose br er using fun g : Fin 16 => fun k : Fin 64 => fun i : Fin 16 => (by have := congrFun h3 (ix3 g k i); revert this; pointwise; exact real_of_word :
    IsReal (m ((c.tc : Thread Cert.SsmpIdeal.nD Cert.SsmpIdeal.τ).loc Cert.SsmpIdeal.main_arg3) (ix3 g k i)))
  choose bi ei using fun g : Fin 16 => fun k : Fin 64 => fun i : Fin 16 => (by have := congrFun h4 (ix3 g k i); revert this; pointwise; exact real_of_word :
    IsReal (m ((c.tc : Thread Cert.SsmpIdeal.nD Cert.SsmpIdeal.τ).loc Cert.SsmpIdeal.main_arg4) (ix3 g k i)))
  choose x ex using fun g : Fin 16 => fun k : Fin 64 => (by have := congrFun h5 (ix2 g k); revert this; pointwise; exact real_of_word :
    IsReal (m ((c.tc : Thread Cert.SsmpIdeal.nD Cert.SsmpIdeal.τ).loc Cert.SsmpIdeal.main_arg5) (ix2 g k)))
  choose y ey using fun g : Fin 16 => fun k : Fin 64 => (by have := congrFun h6 (ix2 g k); revert this; pointwise; exact real_of_word :
    IsReal (m ((c.tc : Thread Cert.SsmpIdeal.nD Cert.SsmpIdeal.τ).loc Cert.SsmpIdeal.main_arg6) (ix2 g k)))
  choose D eD using fun r : Fin 256 => fun j : Fin 2048 => (by have := congrFun h7 (ix2 r j); revert this; pointwise; exact real_of_word :
    IsReal (m ((c.tc : Thread Cert.SsmpIdeal.nD Cert.SsmpIdeal.τ).loc Cert.SsmpIdeal.main_arg7) (ix2 r j)))
  refine ⟨⟨a, b, l, br, bi, x, y, D, fun g k => ?_⟩, ea, eb, ex, ey, el, er, ei, eD⟩
  have := congrFun h8 (ix2 g k)
  revert this
  pointwise [ea g k, eb g k]
  intro q
  have q' := pos_of_word q
  simp only [← EReal.coe_mul, ← EReal.coe_add] at q'
  exact (EReal.coe_pos.1 q').ne'

theorem frame : Cert.quiescent_Ssmp := fun m ρ _ => Cert.Ssmp.Gen.frame m ρ
theorem frame_ideal : Cert.quiescent_SsmpIdeal := fun m ρ _ => Cert.SsmpIdeal.Gen.frame m ρ
theorem frame_ideal_pre : Cert.quiescent_SsmpIdeal_pre_param_finite := fun m ρ _ => Cert.SsmpIdeal.Gen.frame m ρ
theorem frame_ref : Cert.quiescent_SsmpRefIdeal := fun m ρ _ =>
  (θ_run Cert.SsmpRefIdeal.defs _ _).mono (fun r h => ⟨fun c => (h c).2.2.2.2.2.2.2,
      Idealize.ShloMosaic.sem_eq_zero_of_no_sems (by decide) r.2⟩)
    (Cert.SsmpRefIdeal.Value.run (F := Ideal) m ρ)
theorem frame_ref_pre : Cert.quiescent_SsmpRefIdeal_pre_param_finite := fun m ρ _ => frame_ref m ρ trivial

set_option maxHeartbeats 1000000 in
theorem algebraic : Cert.algebraic_SsmpIdeal_SsmpRefIdeal_pre_param_finite := by
  intro m g m' g' hp h
  choose A hA using holds_of_pre m hp
  refine ⟨fun c => fun i : S16x64.Idx => ((A c).dA (i 0) (i 1) : EReal), fun c => fun i : S16x64.Idx => ((A c).dB (i 0) (i 1) : EReal),
    fun c => fun i : S16x128.Idx => ((∑ k, (A c).dL (i 0) k : ℝ) : EReal),
    fun c => fun i : S256x64.Idx => ((A c).dBr (grp (i 0)) (i 1) (sub (i 0)) : EReal),
    fun c => fun i : S256x64.Idx => ((A c).dBi (grp (i 0)) (i 1) (sub (i 0)) : EReal),
    fun c => diag (m ((c.tc : Thread Cert.SsmpIdeal.nD Cert.SsmpIdeal.τ).loc Cert.SsmpIdeal.main_arg8)),
    fun c => fun i => -diag (m ((c.tc : Thread Cert.SsmpIdeal.nD Cert.SsmpIdeal.τ).loc Cert.SsmpIdeal.main_arg9)) i,
    Cert.SsmpIdeal.Hand.run m g A hA, ?_⟩
  refine (θ_run Cert.SsmpRefIdeal.defs _ _).mono (fun r hr c => ?_) (Cert.SsmpRefIdeal.Value.run (F := Ideal) m' g')
  obtain ⟨h1, h2, h3, h4, h5, h6, h7, h8⟩ := hr c
  obtain ⟨e0, e1, e2, e3, e4, e5, e6, e7, e8, e9⟩ := h c
  have H := hA c
  rw [← e0, ← e1, ← e2, ← e3, ← e4, ← e5, ← e6, ← e7] at H
  replace H : Holds (A c) (StableHlo.launchContents m' c (Proc.devRef .tc main_arg0)) (StableHlo.launchContents m' c (Proc.devRef .tc main_arg1)) (StableHlo.launchContents m' c (Proc.devRef .tc main_arg5)) (StableHlo.launchContents m' c (Proc.devRef .tc main_arg6))
      (StableHlo.launchContents m' c (Proc.devRef .tc main_arg2)) (StableHlo.launchContents m' c (Proc.devRef .tc main_arg3)) (StableHlo.launchContents m' c (Proc.devRef .tc main_arg4)) (StableHlo.launchContents m' c (Proc.devRef .tc main_arg7)) := H
  refine ⟨h1.trans ?_, h2.trans ?_, h3.trans ?_, h4.trans ?_, h5.trans ?_, h6.trans ?_, h7.trans ?_, h8⟩
  · funext i
    obtain ⟨g, k, rfl⟩ : ∃ (g : Fin 16) (k : Fin 64), i = ix2 g k := ⟨i 0, i 1, eq_ix2 i⟩
    pointwise [v14 _ H, v96 _ H, v16 _ H, v108 _ H, v107 _ H, v146 _ H, v1 _ H, H.ea]
    simp only [← EReal.coe_mul, ← EReal.coe_add]
    refine congrArg _ ?_
    unfold Data.dA gA
    ring
  · funext i
    obtain ⟨g, k, rfl⟩ : ∃ (g : Fin 16) (k : Fin 64), i = ix2 g k := ⟨i 0, i 1, eq_ix2 i⟩
    pointwise [v14 _ H, v97 _ H, v16 _ H, v108 _ H, v107 _ H, v127 _ H, v138 _ H, v1 _ H, H.eb]
    simp only [← EReal.coe_mul, ← EReal.coe_add]
    refine congrArg _ ?_
    unfold Data.dB gB
    ring
  · funext i
    obtain ⟨g, k, rfl⟩ : ∃ (g : Fin 16) (k : Fin 128), i = ix2 g k := ⟨i 0, i 1, eq_ix2 i⟩
    pointwise [v146 _ H, v127 _ H, v138 _ H, v0 _ H, H.ea, H.eb]
    simp only [Fin.sum_univ_one, ← EReal.coe_mul, coe_sum, ← EReal.coe_add, ← Finset.sum_add_distrib, Finset.sum_mul]
    refine congrArg _ (Finset.sum_congr rfl fun i _ => ?_)
    unfold Data.dL gL
    ring
  · funext i
    obtain ⟨r, k, rfl⟩ : ∃ (r : Fin 256) (k : Fin 64), i = ix2 r k := ⟨i 0, i 1, eq_ix2 i⟩
    unfold res_main_v44 res_main_v34
    pointwise [v63 _ H, v55 _ H, v23 _ H, v30 _ H]
    simp only [← EReal.coe_mul, ← EReal.coe_add]
    refine congrArg _ ?_
    unfold Data.dBr grp sub
    ring
  · funext i
    obtain ⟨r, k, rfl⟩ : ∃ (r : Fin 256) (k : Fin 64), i = ix2 r k := ⟨i 0, i 1, eq_ix2 i⟩
    unfold res_main_v41 res_main_v37
    pointwise [v63 _ H, v76 _ H, v23 _ H, v30 _ H]
    simp only [← EReal.coe_mul, ← EReal.coe_add]
    refine congrArg _ ?_
    unfold Data.dBi grp sub
    ring
  · funext i
    obtain ⟨r, k, rfl⟩ : ∃ (r : Fin 256) (k : Fin 64), i = ix2 r k := ⟨i 0, i 1, eq_ix2 i⟩
    pointwise [id]
    rw [← e8]
    exact diag_sum (grp r) fun x => StableHlo.launchContents m' c (Proc.devRef .tc main_arg8) (ix2 r (gcol x k))
  · funext i
    obtain ⟨r, k, rfl⟩ : ∃ (r : Fin 256) (k : Fin 64), i = ix2 r k := ⟨i 0, i 1, eq_ix2 i⟩
    pointwise [id]
    rw [← e9]
    exact congrArg (fun a : EReal => -a)
      (diag_sum (grp r) fun x => StableHlo.launchContents m' c (Proc.devRef .tc main_arg9) (ix2 r (gcol x k)))

end Cert.Proof.Ssmp

end
-- ==== Proof.GmlpfKernel.lean ====
/- The gated mixing of chunks, kernel side: what the array holds after the sixteen points. -/
module

public import proofs.«01_k».proof.Proof.Gen.GmlpfIdeal.Value
public import proofs.«01_k».proof.Proof.GmlpKernel

@[expose] public section

set_option maxRecDepth 16384

noncomputable section

open Idealize.ShloMosaic Idealize.ShloMosaic.TcCoe Idealize.SL.Sem
open Idealize.ShloMosaic.Pipeline (Dat)

namespace Cert.GmlpfIdeal.Hand

open Cert.GmlpfIdeal Cert.GmlpfIdeal.Gen Cert.Reals
open Cert.GmlpIdeal.Hand (slN rowN matN slN_apply rowN_apply matN_apply swap swap_lo swap_hi loMask sel_lo sv sv_apply vn vn_hi wm wm_apply vhF geluF hcol
  ycol zcol lo hi lo_lt hi_ge side rw4 ex_rw4 row cr tc row_rw4 stack_hi chunkOf posOf chunkOf_cr posOf_cr)

variable (m : (ℓ : Loc nD τ sig) → Buf (Elt Ideal) ℓ) (ρ : Dev nD → PrngReg)

/-! The result as a function of the arguments: chunk `C`, position `i` in it, head `d`, lane `e` of a side. -/

section
variable (z : Vec Ideal S8192x1536 .f32) (ln lb : Vec Ideal S4x64 .f32) (ws : Vec Ideal S4x128x128 .f32) (bs : Vec Ideal S4x128 .f32)

/-- The gate's side and the other, after the activation; the other normalised and scaled; the mixing matrix; the mixed side. -/
def uF (C : Fin 64) (i : Fin 128) (d : Fin 4) (e : Fin 64) : EReal := geluF (z (ix2 (cr C i) (zcol (hcol d (lo e)))))
def vF (C : Fin 64) (i : Fin 128) (d : Fin 4) (e : Fin 64) : EReal := geluF (z (ix2 (cr C i) (zcol (hcol d (hi e)))))
def vnF (C : Fin 64) (i : Fin 128) (d : Fin 4) (e : Fin 64) : EReal := vhF (vF z C i d) e * ln (ix2 d e) + lb (ix2 d e)
def wmF (d : Fin 4) (i k : Fin 128) : EReal := if k.val ≤ i.val then ws (ix3 d i k) else 0
def svF (C : Fin 64) (i : Fin 128) (d : Fin 4) (e : Fin 64) : EReal := ∑ s : Fin 128, wmF ws d i s * vnF z ln lb C s d e + bs (ix2 d i)
def mixF (C : Fin 64) (i : Fin 128) (d : Fin 4) (e : Fin 64) : EReal := uF z C i d e * svF z ln lb ws bs C i d e
def mixArr : Vec Ideal S8192x256 .f32 := fun x =>
  mixF z ln lb ws bs (chunkOf (x 0)) (posOf (x 0)) ⟨(x 1).val / 64, Nat.div_lt_of_lt_mul (x 1).isLt⟩ ⟨(x 1).val % 64, Nat.mod_lt _ (by decide)⟩

theorem mixArr_apply (C : Fin 64) (i : Fin 128) (d : Fin 4) (e : Fin 64) : mixArr z ln lb ws bs (ix2 (cr C i) (ycol d e)) = mixF z ln lb ws bs C i d e := by
  have hd : (⟨(ycol d e).val / 64, Nat.div_lt_of_lt_mul (ycol d e).isLt⟩ : Fin 4) = d := Fin.ext (by simp only [ycol]; omega)
  have he : (⟨(ycol d e).val % 64, Nat.mod_lt _ (by decide)⟩ : Fin 64) = e := Fin.ext (by simp only [ycol]; omega)
  show mixF z ln lb ws bs (chunkOf (cr C i)) (posOf (cr C i)) ⟨(ycol d e).val / 64, _⟩ ⟨(ycol d e).val % 64, _⟩ = _
  rw [chunkOf_cr, posOf_cr, hd, he]
theorem ex_ycol (k : Fin 256) : ∃ d e, k = ycol d e := ⟨⟨k.val / 64, by omega⟩, ⟨k.val % 64, by omega⟩, Fin.ext (by simp only [ycol]; omega)⟩

end

/-- The argument arrays. -/
abbrev Z (c : Dev nD) : Vec Ideal S8192x1536 .f32 := m ((c : Thread nD τ).loc main_arg0)
abbrev Ln (c : Dev nD) : Vec Ideal S4x64 .f32 := m ((c : Thread nD τ).loc main_arg1)
abbrev Lb (c : Dev nD) : Vec Ideal S4x64 .f32 := m ((c : Thread nD τ).loc main_arg2)
abbrev Ws (c : Dev nD) : Vec Ideal S4x128x128 .f32 := m ((c : Thread nD τ).loc main_arg3)
abbrev Bs (c : Dev nD) : Vec Ideal S4x128 .f32 := m ((c : Thread nD τ).loc main_arg4)

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] :=
  (by decide +kernel : ∀ t : Fin grid0.N, _)

theorem lt16 (t : Fin cfg0.N) : t.val < 16 := lt_of_lt_of_eq t.isLt N_0

theorem act_apply (z : Vec Ideal S512x512 .f32) (r k : Fin 512) : k0_pay3 z (ix2 r k) = geluF (z (ix2 r k)) := by
  unfold k0_pay3
  pointwise
  rfl

theorem blk0 (c : Dev nD) (t : Fin cfg0.N) (r : Fin 512) (k : Fin 512) :
    (iblk m c 0 t : Vec Ideal S512x512 .f32) (ix2 r k) = Z m c (ix2 (row t.val (lt16 t) r) (zcol k)) := by
  unfold row zcol; blk_ext [iblk, V_main_arg0, idx t]

theorem blk1 (c : Dev nD) (t : Fin cfg0.N) (d : Fin 4) (e : Fin 64) :
    (iblk m c 1 t : Vec Ideal S1x512 .f32) (ix2 0 (hcol d (hi e))) = Ln m c (ix2 d e) := by
  have e' : ((cfg0.win 1).blk t).view.emb (ix2 0 (hcol d (hi e))) = ix2 0 (hcol d (hi e)) := by blk_ext [idx t]
  unfold iblk
  rw [View.read_apply]
  refine (congrArg (V m c main_v4) e').trans ?_
  unfold V
  entry_read
  exact stack_hi _ _ d e

theorem blk2 (c : Dev nD) (t : Fin cfg0.N) (d : Fin 4) (e : Fin 64) :
    (iblk m c 2 t : Vec Ideal S1x512 .f32) (ix2 0 (hcol d (hi e))) = Lb m c (ix2 d e) := by
  have e' : ((cfg0.win 2).blk t).view.emb (ix2 0 (hcol d (hi e))) = ix2 0 (hcol d (hi e)) := by blk_ext [idx t]
  unfold iblk
  rw [View.read_apply]
  refine (congrArg (V m c main_v8) e').trans ?_
  unfold V
  entry_read
  exact stack_hi _ _ d e

theorem blk3 (c : Dev nD) (t : Fin cfg0.N) (d : Fin 4) (i k : Fin 128) :
    (iblk m c 3 t : Vec Ideal S4x128x128 .f32) (ix3 d i k) = Ws m c (ix3 d i k) := by
  blk_ext [iblk, V_main_arg3, idx t]

theorem blk4 (c : Dev nD) (t : Fin cfg0.N) (d : Fin 4) (i k : Fin 128) :
    (iblk m c 4 t : Vec Ideal S4x128x128 .f32) (ix3 d i k) = Bs m c (ix2 d i) := by
  have e' : ((cfg0.win 4).blk t).view.emb (ix3 d i k) = ix3 d i k := by blk_ext [idx t]
  unfold iblk
  rw [View.read_apply]
  refine (congrArg (V m c main_v10) e').trans ?_
  unfold V
  entry_read
  pointwise

/-! What one point computes for one head, from its blocks. -/

abbrev zT (c : Dev nD) (t : Fin cfg0.N) (d : Fin 4) : FVec Ideal S512x128 .f32 := slN d (k0_pay3 (iblk m c 0 t))
abbrev lnT (c : Dev nD) (t : Fin cfg0.N) (d : Fin 4) : Vec Ideal S1x128 .f32 := rowN d (iblk m c 1 t)
abbrev lbT (c : Dev nD) (t : Fin cfg0.N) (d : Fin 4) : Vec Ideal S1x128 .f32 := rowN d (iblk m c 2 t)
abbrev wT (c : Dev nD) (t : Fin cfg0.N) (d : Fin 4) : Vec Ideal S1x128x128 .f32 := matN d (iblk m c 3 t)
abbrev bT (c : Dev nD) (t : Fin cfg0.N) (d : Fin 4) : Vec Ideal S1x128x128 .f32 := matN d (iblk m c 4 t)
abbrev svT (c : Dev nD) (t : Fin cfg0.N) (d : Fin 4) : FVec Ideal S512x128 .f32 := sv (zT m c t d) (lnT m c t d) (lbT m c t d) (wT m c t d) (bT m c t d)
/-- A head's product, whose lanes below 64 count. -/
abbrev prodT (c : Dev nD) (t : Fin cfg0.N) (d : Fin 4) : FVec Ideal S512x128 .f32 := mulf (zT m c t d) (swap (svT m c t d))
/-- Two heads side by side. -/
abbrev pairT (c : Dev nD) (t : Fin cfg0.N) (d d' : Fin 4) : FVec Ideal S512x128 .f32 := select loMask (prodT m c t d) (swap (prodT m c t d'))

theorem zT_apply (c : Dev nD) (t : Fin cfg0.N) (d : Fin 4) (n : Fin 4) (i l : Fin 128) :
    zT m c t d (ix2 (rw4 n i) l) = geluF (Z m c (ix2 (cr (tc t.val (lt16 t) n) i) (zcol (hcol d l)))) := by
  refine (slN_apply d _ _ _).trans ((act_apply _ _ _).trans ?_)
  rw [blk0, row_rw4 t]

theorem svT_apply (c : Dev nD) (t : Fin cfg0.N) (d : Fin 4) (n : Fin 4) (i : Fin 128) (e : Fin 64) :
    svT m c t d (ix2 (rw4 n i) (hi e)) = svF (Z m c) (Ln m c) (Lb m c) (Ws m c) (Bs m c) (tc t.val (lt16 t) n) i d e := by
  have hb : bT m c t d (ix3 0 i (hi e)) = Bs m c (ix2 d i) := (matN_apply d _ _ _).trans (blk4 m c t d i _)
  have hw : ∀ k, wm (wT m c t d) (ix2 i k) = wmF (Ws m c) d i k := fun k => (wm_apply _ i k).trans (by
    rw [show wT m c t d (ix3 0 i k) = Ws m c (ix3 d i k) from (matN_apply d _ _ _).trans (blk3 m c t d i k)]; rfl)
  have hl : lnT m c t d (ix2 0 (hi e)) = Ln m c (ix2 d e) := (rowN_apply d _ _).trans (blk1 m c t d e)
  have hs : lbT m c t d (ix2 0 (hi e)) = Lb m c (ix2 d e) := (rowN_apply d _ _).trans (blk2 m c t d e)
  have hv : ∀ s, vn (zT m c t d) (lnT m c t d) (lbT m c t d) (ix2 (rw4 n s) (hi e)) = vnF (Z m c) (Ln m c) (Lb m c) (tc t.val (lt16 t) n) s d e := fun s => by
    rw [vn_hi, hl, hs]
    simp only [zT_apply]
    rfl
  rw [svT, sv_apply]
  simp only [hw, hv, hb]
  rfl

theorem prodT_apply (c : Dev nD) (t : Fin cfg0.N) (d : Fin 4) (n : Fin 4) (i : Fin 128) (e : Fin 64) :
    prodT m c t d (ix2 (rw4 n i) (lo e)) = mixF (Z m c) (Ln m c) (Lb m c) (Ws m c) (Bs m c) (tc t.val (lt16 t) n) i d e := by
  show zT m c t d (ix2 (rw4 n i) (lo e)) * swap (svT m c t d) (ix2 (rw4 n i) (lo e)) = _
  rw [swap_lo, svT_apply, zT_apply]
  rfl

theorem pairT_lo (c : Dev nD) (t : Fin cfg0.N) (d d' : Fin 4) (r : Fin 512) (e : Fin 64) : pairT m c t d d' (ix2 r (lo e)) = prodT m c t d (ix2 r (lo e)) :=
  (sel_lo _ _ r (lo e)).trans (if_pos (lo_lt e))
theorem pairT_hi (c : Dev nD) (t : Fin cfg0.N) (d d' : Fin 4) (r : Fin 512) (e : Fin 64) : pairT m c t d d' (ix2 r (hi e)) = prodT m c t d' (ix2 r (lo e)) :=
  ((sel_lo _ _ r (hi e)).trans (if_neg (hi_ge e))).trans (swap_hi _ r e)

/-- The two pairs of heads. -/
def halfT (c : Dev nD) (t : Fin cfg0.N) : Fin 2 → FVec Ideal S512x128 .f32
  | 0 => pairT m c t 0 1
  | 1 => pairT m c t 2 3

theorem halfT_apply (c : Dev nD) (t : Fin cfg0.N) (h : Fin 2) (n : Fin 4) (i : Fin 128) (l : Fin 128) (d : Fin 4) (e : Fin 64)
    (hc : 128 * h.val + l.val = (ycol d e).val) :
    halfT m c t h (ix2 (rw4 n i) l) = mixF (Z m c) (Ln m c) (Lb m c) (Ws m c) (Bs m c) (tc t.val (lt16 t) n) i d e := by
  have hy : (ycol d e).val = 64 * d.val + e.val := rfl
  fin_cases h
  all_goals
    obtain ⟨e', rfl⟩ | ⟨e', rfl⟩ := side l
    all_goals
      obtain rfl : e' = e := Fin.ext (by simp [lo, hi] at hc; omega)
  · obtain rfl : d = 0 := Fin.ext (by simp [lo, hi] at hc; simp; omega)
    exact (pairT_lo m c t 0 1 _ _).trans (prodT_apply m c t 0 n i _)
  · obtain rfl : d = 1 := Fin.ext (by simp [lo, hi] at hc; simp; omega)
    exact (pairT_hi m c t 0 1 _ _).trans (prodT_apply m c t 1 n i _)
  · obtain rfl : d = 2 := Fin.ext (by simp [lo, hi] at hc; simp; omega)
    exact (pairT_lo m c t 2 3 _ _).trans (prodT_apply m c t 2 n i _)
  · obtain rfl : d = 3 := Fin.ext (by simp [lo, hi] at hc; simp; omega)
    exact (pairT_hi m c t 2 3 _ _).trans (prodT_apply m c t 3 n i _)

/-- A pair at a place of the whole block. -/
theorem at_half (c : Dev nD) (t : Fin cfg0.N) (h : Fin 2) (n : Fin 4) (i : Fin 128) (d : Fin 4) (e : Fin 64) (x : S512x128.Idx)
    (hx0 : (rw4 n i).val = (x 0).val) (hx1 : (ycol d e).val = 128 * h.val + (x 1).val) :
    halfT m c t h x = mixF (Z m c) (Ln m c) (Lb m c) (Ws m c) (Bs m c) (tc t.val (lt16 t) n) i d e := by
  rw [eq_ix2 x, show x 0 = rw4 n i from Fin.ext hx0.symm]
  exact halfT_apply m c t h n i (x 1) d e hx1.symm

set_option maxHeartbeats 1000000 in
theorem out_t (c : Dev nD) (t : Fin cfg0.N) (n : Fin 4) (i : Fin 128) (d : Fin 4) (e : Fin 64) :
    out0_5 (iblk m c 0 t) (iblk m c 1 t) (iblk m c 2 t) (iblk m c 3 t) (iblk m c 4 t) (ix2 (rw4 n i) (ycol d e))
      = mixF (Z m c) (Ln m c) (Lb m c) (Ws m c) (Bs m c) (tc t.val (lt16 t) n) i d e := by
  unfold_out out0_5
  frame_out
  canon_tiles x hx
  · exact at_half m c t 1 n i d e x hx0 hx1
  · exact at_half m c t 0 n i d e x hx0 (hx1.trans (Nat.zero_add _).symm)

theorem final5 (c : Dev nD) : (dats m 0 c).arrAt 5 cfg0.N = mixArr (Z m c) (Ln m c) (Lb m c) (Ws m c) (Bs m c) := by
  refine (dats m 0 c).arrAt_eq_of_covers 5 _ (by decide +kernel) fun t hf y => ?_
  obtain ⟨r, k, rfl⟩ : ∃ (r : Fin 512) (k : Fin 256), y = ix2 r k := ⟨y 0, y 1, eq_ix2 y⟩
  obtain ⟨n, i, rfl⟩ := ex_rw4 r
  obtain ⟨d, e, rfl⟩ := ex_ycol k
  have e' : ((cfg0.win 5).blk t).view.emb (ix2 (rw4 n i) (ycol d e)) = ix2 (cr (tc t.val (lt16 t) n) i) (ycol d e) := by
    rw [← row_rw4 t]; unfold row; blk_ext [idx t]
  rw [e', mixArr_apply]
  blk_simp
  rw [after0_5]
  exact out_t m c t n i d e

theorem run : θ_run defs (onTc (τ := τ) (main (F := Ideal))) ⟨m, fun _ => 0, ρ⟩ fun r => ∀ c : Dev nD,
      r.2.mem ((c : Thread nD τ).loc main_v11) = mixArr (Z m c) (Ln m c) (Lb m c) (Ws m c) (Bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ hr c => ⟨(hr c).1.trans (final5 m c), (hr c).2⟩) (Value.run_blocks m ρ)

end Cert.GmlpfIdeal.Hand

end
-- ==== Proof.Gmlpf.lean ====
/- The gated mixing of chunks: the reference's reading and the claims' parts. -/
module

public import proofs.«01_k».proof.Defs
public import proofs.«01_k».proof.Proof.Gen.Gmlpf.Frame
public import proofs.«01_k».proof.Proof.Gen.GmlpfRefIdeal.Run
public import proofs.«01_k».proof.Proof.GmlpfKernel
public import proofs.«01_k».proof.Proof.Gmlp

@[expose] public section

set_option maxRecDepth 16384

noncomputable section

open Idealize.ShloMosaic Idealize.ShloMosaic.TcCoe Idealize.SL.Sem

namespace Cert.Proof.Gmlpf

open Cert.GmlpfRefIdeal Cert.GmlpfRefIdeal.Gen Cert.GmlpfRefIdeal.Value Cert.Reals Cert.Rms
open Cert.GmlpfIdeal.Hand (mixArr mixArr_apply mixF svF vnF vF uF wmF ex_ycol)
open Cert.GmlpIdeal.Hand (geluF zcol hcol ycol lo hi cr wi64 weps xcF rsF vhF ex_cr)
open Cert.Proof.Gmlp (coeff div_64)

theorem preserves : Cert.preserves_Gmlpf_GmlpfIdeal := IdealRules.named_const.statement Cert.GmlpfIdeal.κ "gelu_a" .f32 _ _ rfl

theorem frame : Cert.quiescent_Gmlpf := fun m ρ _ => Cert.Gmlpf.Gen.frame m ρ
theorem frame_ideal : Cert.quiescent_GmlpfIdeal := fun m ρ _ => Cert.GmlpfIdeal.Gen.frame m ρ
theorem frame_ref : Cert.quiescent_GmlpfRefIdeal := fun m ρ _ =>
  (θ_run Cert.GmlpfRefIdeal.defs _ _).mono (fun r h => ⟨fun c => (h c).2,
      Idealize.ShloMosaic.sem_eq_zero_of_no_sems (by decide) r.2⟩)
    (Cert.GmlpfRefIdeal.Value.run (F := Ideal) m ρ)

/-! The reference's arrays: the part of the projection that it reads, its activation, the centred second halves, their normalisation, the masked
    weights, the mixed chunks and the product. -/

section
variable (z : FVec Ideal S8192x1536 .f32) (ln lb : FVec Ideal S4x64 .f32) (ws : FVec Ideal S4x128x128 .f32) (bs : FVec Ideal S4x128 .f32)

def zR : FVec Ideal S1x8192x512 .f32 :=
  broadcastInDim S1x8192x512 ![1, 2] bcast_S8192x512_S1x8192x512_1_2 (extractStridedSlice S8192x512 ![0, 0] z slices_S8192x1536_S8192x512_0_0)
def factorR : FVec Ideal S1x8192x512 .f32 :=
  mulf (broadcastInDim S1x8192x512 ![] bcast_S_S1x8192x512 (constant S_ .f32 0x3F000000#32))
    (addf (broadcastInDim S1x8192x512 ![] bcast_S_S1x8192x512 (constant S_ .f32 0x3F800000#32))
      (Host.tanh (mulf (broadcastInDim S1x8192x512 ![] bcast_S_S1x8192x512 (constant S_ .f32 0x3F4C422A#32))
        (addf (zR z) (mulf (Host.divf (broadcastInDim S1x8192x512 ![] bcast_S_S1x8192x512 (constant S_ .f32 0x472EAB00#32))
          (broadcastInDim S1x8192x512 ![] bcast_S_S1x8192x512 (constant S_ .f32 0x49742400#32))) (mulf (mulf (zR z) (zR z)) (zR z)))))))
def actR : FVec Ideal S1x64x128x4x128 .f32 := shapeCast _ (mulf (zR z) (factorR z)) shapeCasts_S1x8192x512_S1x64x128x4x128
def xcR : FVec Ideal S1x64x128x4x64 .f32 :=
  subf (extractStridedSlice S1x64x128x4x64 ![0, 0, 0, 0, 64] (actR z) slices_S1x64x128x4x128_S1x64x128x4x64_0_0_0_0_64)
    (broadcastInDim S1x64x128x4x64 ![0, 1, 2, 3, 4] bcast_S1x64x128x4x1_S1x64x128x4x64_0_1_2_3_4
      (Host.divf (broadcastInDim S1x64x128x4x1 ![0, 1, 2, 3] bcast_S1x64x128x4_S1x64x128x4x1_0_1_2_3
        (Host.reduceAdd (extractStridedSlice S1x64x128x4x64 ![0, 0, 0, 0, 64] (actR z) slices_S1x64x128x4x128_S1x64x128x4x64_0_0_0_0_64)
          (constant S_ .f32 0x00000000#32) reducesTo_S1x64x128x4x64_S1x64x128x4_d4 h_S_))
        (broadcastInDim S1x64x128x4x1 ![] bcast_S_S1x64x128x4x1 (constant S_ .f32 0x42800000#32))))
def rsR : FVec Ideal S1x64x128x4x1 .f32 :=
  Host.rsqrt (addf (Host.divf (broadcastInDim S1x64x128x4x1 ![0, 1, 2, 3] bcast_S1x64x128x4_S1x64x128x4x1_0_1_2_3
    (Host.reduceAdd (mulf (xcR z) (xcR z)) (constant S_ .f32 0x00000000#32) reducesTo_S1x64x128x4x64_S1x64x128x4_d4 h_S_))
      (broadcastInDim S1x64x128x4x1 ![] bcast_S_S1x64x128x4x1 (constant S_ .f32 0x42800000#32)))
    (broadcastInDim S1x64x128x4x1 ![] bcast_S_S1x64x128x4x1 (constant S_ .f32 0x358637BD#32)))
def vnR : FVec Ideal S1x64x128x4x64 .f32 :=
  addf (mulf (mulf (xcR z) (broadcastInDim S1x64x128x4x64 ![0, 1, 2, 3, 4] bcast_S1x64x128x4x1_S1x64x128x4x64_0_1_2_3_4 (rsR z)))
      (broadcastInDim S1x64x128x4x64 ![0, 1, 2, 3, 4] bcast_S1x1x1x4x64_S1x64x128x4x64_0_1_2_3_4
        (broadcastInDim S1x1x1x4x64 ![3, 4] bcast_S4x64_S1x1x1x4x64_3_4 ln)))
    (broadcastInDim S1x64x128x4x64 ![0, 1, 2, 3, 4] bcast_S1x1x1x4x64_S1x64x128x4x64_0_1_2_3_4
      (broadcastInDim S1x1x1x4x64 ![3, 4] bcast_S4x64_S1x1x1x4x64_3_4 lb))
def belowR : IVec S4x128x128 1 :=
  broadcastInDim S4x128x128 ![1, 2] bcast_S128x128_S4x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))
def wmR : FVec Ideal S4x128x128 .f32 := select belowR ws (broadcastInDim S4x128x128 ![] bcast_S_S4x128x128 (id (constant S_ .f32 0x00000000#32)))
def svR : FVec Ideal S1x64x128x4x64 .f32 :=
  addf (transpose S1x64x128x4x64 [1, 2, 4, 0, 3]
      (Host.dotGeneral dot_S1x64x128x4x64_S4x128x128_S4x1x64x64x128_2_2_014_1_3_0 none (vnR z ln lb) (wmR ws)) transposes_S4x1x64x64x128_S1x64x128x4x64_1_2_4_0_3)
    (broadcastInDim S1x64x128x4x64 ![0, 1, 2, 3, 4] bcast_S1x1x128x4x1_S1x64x128x4x64_0_1_2_3_4
      (broadcastInDim S1x1x128x4x1 ![2, 3] bcast_S128x4_S1x1x128x4x1_2_3 (transpose S128x4 [1, 0] bs transposes_S4x128_S128x4_1_0)))
def mixR : FVec Ideal S8192x256 .f32 :=
  shapeCast _ (shapeCast _ (mulf (extractStridedSlice S1x64x128x4x64 ![0, 0, 0, 0, 0] (actR z) slices_S1x64x128x4x128_S1x64x128x4x64_0_0_0_0_0)
    (svR z ln lb ws bs)) shapeCasts_S1x64x128x4x64_S1x8192x256) shapeCasts_S1x8192x256_S8192x256

theorem zR_apply (R : Fin 8192) (k : Fin 512) : zR z (ix3 0 R k) = z (ix2 R (zcol k)) := by
  unfold zR
  pointwise
  rfl
theorem actR_apply (C : Fin 64) (i : Fin 128) (d : Fin 4) (l : Fin 128) : actR z (ix5 0 C i d l) = geluF (z (ix2 (cr C i) (zcol (hcol d l)))) := by
  unfold actR factorR
  pointwise [zR_apply, coeff]
  rw [← mul_assoc, mul_comm (z _)]
  have e : (⟨d.val * 128 + l.val, by omega⟩ : Fin 512) = hcol d l := Fin.ext (by simp only [hcol]; omega)
  rw [e]
  rfl
theorem xcR_apply (C : Fin 64) (i : Fin 128) (d : Fin 4) (e : Fin 64) : xcR z (ix5 0 C i d e) = xcF (vF z C i d) e := by
  unfold xcR
  pointwise [actR_apply, div_64]
  rfl
theorem rsR_apply (C : Fin 64) (i : Fin 128) (d : Fin 4) : rsR z (ix5 0 C i d 0) = rsF (vF z C i d) := by
  unfold rsR
  pointwise [xcR_apply, div_64]
  rfl
theorem vnR_apply (C : Fin 64) (i : Fin 128) (d : Fin 4) (e : Fin 64) : vnR z ln lb (ix5 0 C i d e) = vnF z ln lb C i d e := by
  unfold vnR
  pointwise [xcR_apply, rsR_apply]
  rfl
theorem belowR_apply (d : Fin 4) (i k : Fin 128) : (belowR (ix3 d i k) : BitVec 1) = BitVec.ofBool (decide (k.val ≤ i.val)) := by
  have h : (IntOp.cmpi .sge (IntOp.addi (BitVec.ofNat 32 i.val) 0#32) (BitVec.ofNat 32 k.val) : BitVec 1)
      = BitVec.ofBool (decide (k.val ≤ i.val)) := by
    have e : IntOp.addi (BitVec.ofNat 32 i.val) 0#32 = BitVec.ofNat 32 i.val := BitVec.add_zero _
    rw [e]
    have hi := i.isLt
    have hk := k.isLt
    exact WordCmp.cmpi_sge_ofNat (by omega) (by omega)
  unfold belowR
  pointwise
  rw [h]
  by_cases hk : k.val ≤ i.val <;> simp [hk, Scalar.select]
theorem wmR_apply (d : Fin 4) (i k : Fin 128) : wmR ws (ix3 d i k) = wmF ws d i k := by
  have hz : (broadcastInDim S4x128x128 ![] bcast_S_S4x128x128 (id (constant (F := Ideal) S_ .f32 0x00000000#32)) : Vec Ideal S4x128x128 .f32)
      (ix3 d i k) = 0 := by pointwise; exact word_zero
  show Scalar.select (belowR (ix3 d i k) : BitVec 1) (ws (ix3 d i k)) _ = _
  rw [belowR_apply, hz]
  unfold wmF
  by_cases hk : k.val ≤ i.val <;> simp [hk, Scalar.select]
theorem svR_apply (C : Fin 64) (i : Fin 128) (d : Fin 4) (e : Fin 64) : svR z ln lb ws bs (ix5 0 C i d e) = svF z ln lb ws bs C i d e := by
  unfold svR
  pointwise [vnR_apply, wmR_apply]
  simp only [mul_comm (vnF z ln lb _ _ _ _)]
  rfl
theorem mixR_apply (C : Fin 64) (i : Fin 128) (d : Fin 4) (e : Fin 64) : mixR z ln lb ws bs (ix2 (cr C i) (ycol d e)) = mixF z ln lb ws bs C i d e := by
  unfold mixR
  pointwise [actR_apply, svR_apply]
  have e1 : (⟨(cr C i).val / 128, by omega⟩ : Fin 64) = C := Fin.ext (by simp only [cr]; omega)
  have e2 : (⟨(cr C i).val % 128, by omega⟩ : Fin 128) = i := Fin.ext (by simp only [cr]; omega)
  have e3 : (⟨(ycol d e).val / 64, by omega⟩ : Fin 4) = d := Fin.ext (by simp only [ycol]; omega)
  rw [e1, e2, e3]
  have key : ∀ (l : Fin 128) (e' : Fin 64), l = lo e → e' = e
      → geluF (z (ix2 (cr C i) (zcol (hcol d l)))) * svF z ln lb ws bs C i d e' = mixF z ln lb ws bs C i d e := by
    rintro _ _ rfl rfl
    rfl
  exact key _ _ (Fin.ext (by simp only [ycol, lo]; omega)) (Fin.ext (by simp only [ycol]; omega))

end

theorem value (m : (ℓ : Loc nD τ sig) → Buf (Elt Ideal) ℓ) (c : Dev nD) : res_main_v53 m c
    = mixArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine Eq.trans (b := mixR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) rfl ?_
  funext x
  obtain ⟨r, k, rfl⟩ : ∃ (r : Fin 8192) (k : Fin 256), x = ix2 r k := ⟨x 0, x 1, eq_ix2 x⟩
  obtain ⟨C, i, rfl⟩ := ex_cr r
  obtain ⟨d, e, rfl⟩ := ex_ycol k
  rw [mixArr_apply, mixR_apply]

theorem algebraic : Cert.algebraic_GmlpfIdeal_GmlpfRefIdeal := by
  intro m g m' g' _ h
  refine ⟨_, Cert.GmlpfIdeal.Hand.run m g, ?_⟩
  refine (θ_run Cert.GmlpfRefIdeal.defs _ _).mono (fun r hr c => ?_) (Cert.GmlpfRefIdeal.Value.run (F := Ideal) m' g')
  obtain ⟨e0, e1, e2, e3, e4⟩ := h c
  refine ⟨(hr c).1.trans ((value m' c).trans ?_), (hr c).2⟩
  rw [e0, e1, e2, e3, e4]

end Cert.Proof.Gmlpf

end
-- ==== Proof.AttnfKernel.lean ====
/- The attention of the forward pass, kernel side: what one point computes. -/
module

public import proofs.«01_k».proof.Proof.Gen.AttnfIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnfIdeal.Hand

open Cert.AttnfIdeal Cert.AttnfIdeal.Gen

/-! The queries of a tile: two heads of 64 lanes side by side, each lane's row normalised over its head, scaled, rotated. -/

abbrev loQ : IVec S1024x128 1 := cmpi .slt (iota .tc S1024x128 32 [1] iota_S1024x128_d1_w32) (broadcast S1024x128 64#32)
abbrev zeroQ : FVec Ideal S1024x128 .f32 := broadcast S1024x128 (Scalar.ofBits .f32 0x00000000#32)
abbrev sumQ (x : FVec Ideal S1024x128 .f32) : FVec Ideal S1024x128 .f32 :=
  broadcastTo S1024x128 (shapeCast S1024x1 (shapeCast S1024x1 (multiReduction .add [1] S1024 x 0x00000000#32 reduces_S1024x128_S1024 (.inl rfl) rfl)
    shapeCasts_S1024_S1024x1) shapeCasts_S1024x1_S1024x1) broadcasts_S1024x1_S1024x128
abbrev sixtyfour : BitVec 32 := Scalar.select (Scalar.cmpi .eq 64#32 0#32) 1#32 64#32
abbrev modQ : IVec S1024x128 32 := remsi (iota .tc S1024x128 32 [1] iota_S1024x128_d1_w32) (broadcast S1024x128 sixtyfour)
/-- The lanes of the first half of a head. -/
abbrev firstQ : IVec S1024x128 1 :=
  cmpi .slt (select (andi (xori (cmpi .slt modQ (broadcast S1024x128 0#32))
      (broadcastTo S1024x128 (broadcast S1024x128 (Scalar.cmpi .slt sixtyfour 0#32)) broadcasts_S1024x128_S1024x128)) (cmpi .ne modQ (broadcast S1024x128 0#32)))
    (addi modQ (broadcast S1024x128 sixtyfour)) modQ) (broadcast S1024x128 32#32)
def normQ (x : Vec Ideal S1024x128 .f32) (g : Vec Ideal S1x128 .f32) : FVec Ideal S1024x128 .f32 :=
  mulf (mulf x (rsqrt (addf (mulf (select loQ (sumQ (select loQ (mulf x x) zeroQ)) (sumQ (select loQ zeroQ (mulf x x))))
      (broadcast S1024x128 (Scalar.ofBits .f32 0x3C800000#32))) (broadcast S1024x128 (Scalar.ofBits .f32 0x358637BD#32)))))
    (broadcastTo S1024x128 (shapeCast S1x128 g shapeCasts_S1x128_S1x128) broadcasts_S1x128_S1024x128)
def ropeQ (y : FVec Ideal S1024x128 .f32) (cs sn : Vec Ideal S1024x128 .f32) : FVec Ideal S1024x128 .f32 :=
  addf (mulf y (shapeCast S1024x128 cs shapeCasts_S1024x128_S1024x128))
    (mulf (select firstQ (dynamicRotate 1 96#32 none y rotates_S1024x128_d1) (dynamicRotate 1 32#32 none y rotates_S1024x128_d1))
      (shapeCast S1024x128 sn shapeCasts_S1024x128_S1024x128))
def queryT (x : Vec Ideal S1024x128 .f32) (g : Vec Ideal S1x128 .f32) (cs sn : Vec Ideal S1024x128 .f32) : FVec Ideal S1024x128 .f32 :=
  mulf (ropeQ (normQ x g) cs sn) (broadcast S1024x128 (Scalar.ofBits .f32 0x3E000000#32))

/-! The keys and values of a tile and of the block of 128 rows before it. -/

abbrev loK : IVec S1152x128 1 := cmpi .slt (iota .tc S1152x128 32 [1] iota_S1152x128_d1_w32) (broadcast S1152x128 64#32)
abbrev zeroK : FVec Ideal S1152x128 .f32 := broadcast S1152x128 (Scalar.ofBits .f32 0x00000000#32)
abbrev sumK (x : FVec Ideal S1152x128 .f32) : FVec Ideal S1152x128 .f32 :=
  broadcastTo S1152x128 (shapeCast S1152x1 (shapeCast S1152x1 (multiReduction .add [1] S1152 x 0x00000000#32 reduces_S1152x128_S1152 (.inl rfl) rfl)
    shapeCasts_S1152_S1152x1) shapeCasts_S1152x1_S1152x1) broadcasts_S1152x1_S1152x128
abbrev modK : IVec S1152x128 32 := remsi (iota .tc S1152x128 32 [1] iota_S1152x128_d1_w32) (broadcast S1152x128 sixtyfour)
abbrev firstK : IVec S1152x128 1 :=
  cmpi .slt (select (andi (xori (cmpi .slt modK (broadcast S1152x128 0#32))
      (broadcastTo S1152x128 (broadcast S1152x128 (Scalar.cmpi .slt sixtyfour 0#32)) broadcasts_S1152x128_S1152x128)) (cmpi .ne modK (broadcast S1152x128 0#32)))
    (addi modK (broadcast S1152x128 sixtyfour)) modK) (broadcast S1152x128 32#32)
abbrev after (x : Vec Ideal S128x128 .f32) (y : Vec Ideal S1024x128 .f32) : FVec Ideal S1152x128 .f32 :=
  concatenate S1152x128 0 [⟨S128x128, x⟩, ⟨S1024x128, y⟩] concatenates_S128x128_S1024x128_S1152x128_d0
def normK (x : FVec Ideal S1152x128 .f32) (g : Vec Ideal S1x128 .f32) : FVec Ideal S1152x128 .f32 :=
  mulf (mulf x (rsqrt (addf (mulf (select loK (sumK (select loK (mulf x x) zeroK)) (sumK (select loK zeroK (mulf x x))))
      (broadcast S1152x128 (Scalar.ofBits .f32 0x3C800000#32))) (broadcast S1152x128 (Scalar.ofBits .f32 0x358637BD#32)))))
    (broadcastTo S1152x128 (shapeCast S1x128 g shapeCasts_S1x128_S1x128) broadcasts_S1x128_S1152x128)
def ropeK (y cs sn : FVec Ideal S1152x128 .f32) : FVec Ideal S1152x128 .f32 :=
  addf (mulf y cs) (mulf (select firstK (dynamicRotate 1 96#32 none y rotates_S1152x128_d1) (dynamicRotate 1 32#32 none y rotates_S1152x128_d1)) sn)
/-- The rows of one of the two heads, in both halves of the lanes. -/
def dupK : Fin 2 → FVec Ideal S1152x128 .f32 → FVec Ideal S1152x128 .f32
  | 0, x => select loK x (dynamicRotate 1 64#32 none x rotates_S1152x128_d1)
  | 1, x => select loK (dynamicRotate 1 64#32 none x rotates_S1152x128_d1) x

/-! One block of 128 rows and one pair of heads: four heads' queries stacked, the scores of 256 rows, their softmax with the sink. -/

abbrev loB : IVec S128x128 1 := cmpi .slt (iota .tc S128x128 32 [1] iota_S128x128_d1_w32) (broadcast S128x128 64#32)
abbrev zeroB : FVec Ideal S128x128 .f32 := broadcast S128x128 (Scalar.ofBits .f32 0x00000000#32)
def stack4 (x y : FVec Ideal S128x128 .f32) : FVec Ideal S512x128 .f32 :=
  concatenate S512x128 0 [⟨S128x128, select loB x zeroB⟩, ⟨S128x128, select loB zeroB x⟩, ⟨S128x128, select loB y zeroB⟩,
    ⟨S128x128, select loB zeroB y⟩] concatenates_S128x128_S128x128_S128x128_S128x128_S512x128_d0
abbrev diffB : IVec S128x256 32 :=
  subi (addi (iota .tc S128x256 32 [0] iota_S128x256_d0_w32) (broadcast S128x256 128#32)) (iota .tc S128x256 32 [1] iota_S128x256_d1_w32)
def biasB (first : BitVec 1) : FVec Ideal S128x256 .f32 :=
  select (andi (andi (cmpi .sge diffB (broadcast S128x256 0#32)) (cmpi .slt diffB (broadcast S128x256 128#32)))
      (ori (cmpi .sge (iota .tc S128x256 32 [1] iota_S128x256_d1_w32) (broadcast S128x256 128#32)) (broadcast S128x256 (Scalar.xori first 1#1))))
    (broadcast S128x256 (Scalar.ofBits .f32 0x00000000#32)) (broadcast S128x256 (Named.named κ "mask" 0xF149F2CA#32))
def scores (q : FVec Ideal S512x128 .f32) (k : FVec Ideal S256x128 .f32) (bias : FVec Ideal S128x256 .f32) : FVec Ideal S512x256 .f32 :=
  shapeCast S512x256 (addf (shapeCast S4x128x256 (matmul dot_S512x128_S256x128_S512x256_1_1_0_0_n_n none (truncf .bf16 q bitsLt_bf16_f32)
      (truncf .bf16 k bitsLt_bf16_f32) (constant S512x256 .f32 0x00000000#32)) shapeCasts_S512x256_S4x128x256)
    (broadcastTo S4x128x256 (shapeCast S1x128x256 bias shapeCasts_S128x256_S1x128x256) broadcasts_S1x128x256_S4x128x256)) shapeCasts_S4x128x256_S512x256
def top (s : FVec Ideal S512x256 .f32) (sink : FVec Ideal S512x1 .f32) : FVec Ideal S512x1 .f32 :=
  maximumf (shapeCast S512x1 (multiReduction .maximumf [1] S512 s 0xFF800000#32 reduces_S512x256_S512 (.inl rfl) rfl) shapeCasts_S512_S512x1) sink
def expo (s : FVec Ideal S512x256 .f32) (sink : FVec Ideal S512x1 .f32) : FVec Ideal S512x256 .f32 :=
  exp (subf s (broadcastTo S512x256 (top s sink) broadcasts_S512x1_S512x256))
def probs (s : FVec Ideal S512x256 .f32) (sink : FVec Ideal S512x1 .f32) : FVec Ideal S512x256 .f32 :=
  mulf (expo s sink) (broadcastTo S512x256 (divf (broadcast S512x1 (Scalar.ofBits .f32 0x3F800000#32))
    (addf (shapeCast S512x1 (multiReduction .add [1] S512 (expo s sink) 0x00000000#32 reduces_S512x256_S512 (.inl rfl) rfl) shapeCasts_S512_S512x1)
      (exp (subf sink (top s sink))))) broadcasts_S512x1_S512x256)
def mixed (p : FVec Ideal S512x256 .f32) (v : FVec Ideal S256x128 .f32) : FVec Ideal S512x128 .f32 :=
  matmul dot_S512x256_S256x128_S512x128_1_0_0_1_n_n none (truncf .bf16 p bitsLt_bf16_f32) (truncf .bf16 v bitsLt_bf16_f32) (constant S512x128 .f32 0x00000000#32)
/-- Two of the four heads side by side. -/
def pick2 : Fin 2 → FVec Ideal S512x128 .f32 → FVec Ideal S128x128 .f32
  | 0, x => select loB (extractStridedSlice S128x128 ![0, 0] x slices_S512x128_o0_0_S128x128) (extractStridedSlice S128x128 ![128, 0] x slices_S512x128_o128_0_S128x128)
  | 1, x => select loB (extractStridedSlice S128x128 ![256, 0] x slices_S512x128_o256_0_S128x128) (extractStridedSlice S128x128 ![384, 0] x slices_S512x128_o384_0_S128x128)

/-! The parts of the blocks. -/

def rowsQ : Fin 8 → FVec Ideal S1024x128 .f32 → FVec Ideal S128x128 .f32
  | 0, x => extractStridedSlice S128x128 ![0, 0] x slices_S1024x128_o0_0_S128x128
  | 1, x => extractStridedSlice S128x128 ![128, 0] x slices_S1024x128_o128_0_S128x128
  | 2, x => extractStridedSlice S128x128 ![256, 0] x slices_S1024x128_o256_0_S128x128
  | 3, x => extractStridedSlice S128x128 ![384, 0] x slices_S1024x128_o384_0_S128x128
  | 4, x => extractStridedSlice S128x128 ![512, 0] x slices_S1024x128_o512_0_S128x128
  | 5, x => extractStridedSlice S128x128 ![640, 0] x slices_S1024x128_o640_0_S128x128
  | 6, x => extractStridedSlice S128x128 ![768, 0] x slices_S1024x128_o768_0_S128x128
  | 7, x => extractStridedSlice S128x128 ![896, 0] x slices_S1024x128_o896_0_S128x128
def rowsK : Fin 8 → FVec Ideal S1152x128 .f32 → FVec Ideal S256x128 .f32
  | 0, x => extractStridedSlice S256x128 ![0, 0] x slices_S1152x128_o0_0_S256x128
  | 1, x => extractStridedSlice S256x128 ![128, 0] x slices_S1152x128_o128_0_S256x128
  | 2, x => extractStridedSlice S256x128 ![256, 0] x slices_S1152x128_o256_0_S256x128
  | 3, x => extractStridedSlice S256x128 ![384, 0] x slices_S1152x128_o384_0_S256x128
  | 4, x => extractStridedSlice S256x128 ![512, 0] x slices_S1152x128_o512_0_S256x128
  | 5, x => extractStridedSlice S256x128 ![640, 0] x slices_S1152x128_o640_0_S256x128
  | 6, x => extractStridedSlice S256x128 ![768, 0] x slices_S1152x128_o768_0_S256x128
  | 7, x => extractStridedSlice S256x128 ![896, 0] x slices_S1152x128_o896_0_S256x128
def lanesQ : Fin 4 → Vec Ideal S1024x512 .f32 → Vec Ideal S1024x128 .f32
  | 0, x => View.ld x r0_3
  | 1, x => View.ld x r0_4
  | 2, x => View.ld x r0_5
  | 3, x => View.ld x r0_6
def sinkN : Fin 8 → Vec Ideal S8x128 .f32 → Vec Ideal S1x1 .f32
  | 0, x => View.ld x r0_7
  | 1, x => View.ld x r0_8
  | 2, x => View.ld x r0_9
  | 3, x => View.ld x r0_10
  | 4, x => View.ld x r0_27
  | 5, x => View.ld x r0_28
  | 6, x => View.ld x r0_29
  | 7, x => View.ld x r0_30
abbrev tall1 (x : Vec Ideal S1x1 .f32) : FVec Ideal S128x1 .f32 :=
  broadcastTo S128x1 (shapeCast S1x1 (shapeCast S1x1 x shapeCasts_S1x1_S1x1) shapeCasts_S1x1_S1x1) broadcasts_S1x1_S128x1
def sinkCol : Fin 2 → Vec Ideal S8x128 .f32 → FVec Ideal S512x1 .f32
  | 0, x => concatenate S512x1 0 [⟨S128x1, tall1 (sinkN 0 x)⟩, ⟨S128x1, tall1 (sinkN 1 x)⟩, ⟨S128x1, tall1 (sinkN 2 x)⟩, ⟨S128x1, tall1 (sinkN 3 x)⟩]
    concatenates_S128x1_S128x1_S128x1_S128x1_S512x1_d0
  | 1, x => concatenate S512x1 0 [⟨S128x1, tall1 (sinkN 4 x)⟩, ⟨S128x1, tall1 (sinkN 5 x)⟩, ⟨S128x1, tall1 (sinkN 6 x)⟩, ⟨S128x1, tall1 (sinkN 7 x)⟩]
    concatenates_S128x1_S128x1_S128x1_S128x1_S512x1_d0
/-- The lanes of the queries of a pair of heads. -/
def pairQ : Fin 2 → Fin 2 → Fin 4
  | 0, 0 => 0
  | 0, 1 => 1
  | 1, 0 => 2
  | 1, 1 => 3
def blockNo : Fin 8 → BitVec 32
  | 0 => 0#32
  | 1 => 1#32
  | 2 => 2#32
  | 3 => 3#32
  | 4 => 4#32
  | 5 => 5#32
  | 6 => 6#32
  | 7 => 7#32

section
variable (i : grid0.Coords) (x0 : Vec Ideal S1024x512 .f32) (x1 x2 : Vec Ideal S1024x128 .f32) (x3 x4 : Vec Ideal S128x128 .f32)
  (x5 x6 : Vec Ideal S1024x128 .f32) (x7 x8 : Vec Ideal S128x128 .f32) (x9 x10 : Vec Ideal S1x128 .f32) (x11 : Vec Ideal S8x128 .f32)

abbrev qT (p : Fin 4) : FVec Ideal S1024x128 .f32 := queryT (lanesQ p x0) (View.ld x9 r0_2) (View.ld x5 r0_0) (View.ld x6 r0_0)
abbrev kT : FVec Ideal S1152x128 .f32 := ropeK (normK (after (View.ld x3 r0_1) (View.ld x1 r0_0)) (View.ld x10 r0_2))
  (after (shapeCast S128x128 (View.ld x7 r0_1) shapeCasts_S128x128_S128x128) (shapeCast S1024x128 (View.ld x5 r0_0) shapeCasts_S1024x128_S1024x128))
  (after (shapeCast S128x128 (View.ld x8 r0_1) shapeCasts_S128x128_S128x128) (shapeCast S1024x128 (View.ld x6 r0_0) shapeCasts_S1024x128_S1024x128))
abbrev vT : FVec Ideal S1152x128 .f32 := after (View.ld x4 r0_1) (View.ld x2 r0_0)
abbrev firstT (b : Fin 8) : BitVec 1 := Scalar.cmpi .eq (Scalar.addi (Scalar.muli (BitVec.ofNat 32 (i 0).val) 8#32) (blockNo b)) 0#32
abbrev scoresT (g : Fin 2) (b : Fin 8) : FVec Ideal S512x256 .f32 :=
  scores (stack4 (rowsQ b (qT x0 x5 x6 x9 (pairQ g 0))) (rowsQ b (qT x0 x5 x6 x9 (pairQ g 1)))) (rowsK b (dupK g (kT x1 x3 x5 x6 x7 x8 x10))) (biasB (firstT i b))
abbrev mixedT (g : Fin 2) (b : Fin 8) : FVec Ideal S512x128 .f32 :=
  mixed (probs (scoresT i x0 x1 x3 x5 x6 x7 x8 x9 x10 g b) (sinkCol g x11)) (rowsK b (dupK g (vT x2 x4)))
abbrev pieceT (g : Fin 2) (b : Fin 8) (p : Fin 2) : FVec Ideal S128x128 .f32 := pick2 p (mixedT i x0 x1 x2 x3 x4 x5 x6 x7 x8 x9 x10 x11 g b)

set_option maxHeartbeats 4000000 in
/-- The block that one point writes, by its thirty-two parts. -/
theorem out_pieces : out0_12 i x0 x1 x2 x3 x4 x5 x6 x7 x8 x9 x10 x11 = View.canon [⟨r0_46, pieceT i x0 x1 x2 x3 x4 x5 x6 x7 x8 x9 x10 x11 1 7 1⟩,
    ⟨r0_45, pieceT i x0 x1 x2 x3 x4 x5 x6 x7 x8 x9 x10 x11 1 7 0⟩,
    ⟨r0_44, pieceT i x0 x1 x2 x3 x4 x5 x6 x7 x8 x9 x10 x11 1 6 1⟩,
    ⟨r0_43, pieceT i x0 x1 x2 x3 x4 x5 x6 x7 x8 x9 x10 x11 1 6 0⟩,
    ⟨r0_42, pieceT i x0 x1 x2 x3 x4 x5 x6 x7 x8 x9 x10 x11 1 5 1⟩,
    ⟨r0_41, pieceT i x0 x1 x2 x3 x4 x5 x6 x7 x8 x9 x10 x11 1 5 0⟩,
    ⟨r0_40, pieceT i x0 x1 x2 x3 x4 x5 x6 x7 x8 x9 x10 x11 1 4 1⟩,
    ⟨r0_39, pieceT i x0 x1 x2 x3 x4 x5 x6 x7 x8 x9 x10 x11 1 4 0⟩,
    ⟨r0_38, pieceT i x0 x1 x2 x3 x4 x5 x6 x7 x8 x9 x10 x11 1 3 1⟩,
    ⟨r0_37, pieceT i x0 x1 x2 x3 x4 x5 x6 x7 x8 x9 x10 x11 1 3 0⟩,
    ⟨r0_36, pieceT i x0 x1 x2 x3 x4 x5 x6 x7 x8 x9 x10 x11 1 2 1⟩,
    ⟨r0_35, pieceT i x0 x1 x2 x3 x4 x5 x6 x7 x8 x9 x10 x11 1 2 0⟩,
    ⟨r0_34, pieceT i x0 x1 x2 x3 x4 x5 x6 x7 x8 x9 x10 x11 1 1 1⟩,
    ⟨r0_33, pieceT i x0 x1 x2 x3 x4 x5 x6 x7 x8 x9 x10 x11 1 1 0⟩,
    ⟨r0_32, pieceT i x0 x1 x2 x3 x4 x5 x6 x7 x8 x9 x10 x11 1 0 1⟩,
    ⟨r0_31, pieceT i x0 x1 x2 x3 x4 x5 x6 x7 x8 x9 x10 x11 1 0 0⟩,
    ⟨r0_26, pieceT i x0 x1 x2 x3 x4 x5 x6 x7 x8 x9 x10 x11 0 7 1⟩,
    ⟨r0_25, pieceT i x0 x1 x2 x3 x4 x5 x6 x7 x8 x9 x10 x11 0 7 0⟩,
    ⟨r0_24, pieceT i x0 x1 x2 x3 x4 x5 x6 x7 x8 x9 x10 x11 0 6 1⟩,
    ⟨r0_23, pieceT i x0 x1 x2 x3 x4 x5 x6 x7 x8 x9 x10 x11 0 6 0⟩,
    ⟨r0_22, pieceT i x0 x1 x2 x3 x4 x5 x6 x7 x8 x9 x10 x11 0 5 1⟩,
    ⟨r0_21, pieceT i x0 x1 x2 x3 x4 x5 x6 x7 x8 x9 x10 x11 0 5 0⟩,
    ⟨r0_20, pieceT i x0 x1 x2 x3 x4 x5 x6 x7 x8 x9 x10 x11 0 4 1⟩,
    ⟨r0_19, pieceT i x0 x1 x2 x3 x4 x5 x6 x7 x8 x9 x10 x11 0 4 0⟩,
    ⟨r0_18, pieceT i x0 x1 x2 x3 x4 x5 x6 x7 x8 x9 x10 x11 0 3 1⟩,
    ⟨r0_17, pieceT i x0 x1 x2 x3 x4 x5 x6 x7 x8 x9 x10 x11 0 3 0⟩,
    ⟨r0_16, pieceT i x0 x1 x2 x3 x4 x5 x6 x7 x8 x9 x10 x11 0 2 1⟩,
    ⟨r0_15, pieceT i x0 x1 x2 x3 x4 x5 x6 x7 x8 x9 x10 x11 0 2 0⟩,
    ⟨r0_14, pieceT i x0 x1 x2 x3 x4 x5 x6 x7 x8 x9 x10 x11 0 1 1⟩,
    ⟨r0_13, pieceT i x0 x1 x2 x3 x4 x5 x6 x7 x8 x9 x10 x11 0 1 0⟩,
    ⟨r0_12, pieceT i x0 x1 x2 x3 x4 x5 x6 x7 x8 x9 x10 x11 0 0 1⟩,
    ⟨r0_11, pieceT i x0 x1 x2 x3 x4 x5 x6 x7 x8 x9 x10 x11 0 0 0⟩] := rfl

end

end Cert.AttnfIdeal.Hand

end
-- ==== Proof.AttnfRow.lean ====
/- The attention of the forward pass, kernel side: what a point's block holds, row by row. -/
module

public import proofs.«01_k».proof.Proof.AttnfKernel
public import proofs.«01_k».proof.Proof.Reals
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.AttnfIdeal.Hand

open Cert.AttnfIdeal Cert.AttnfIdeal.Gen Cert.Reals

/-- Lane `e` of the head on side `h`. -/
def ln (h : Fin 2) (e : Fin 64) : Fin 128 := ⟨64 * h.val + e.val, by omega⟩
/-- The lane which the rotation pairs with lane `e`. -/
def pe (e : Fin 64) : Fin 64 := ⟨(e.val + 32) % 64, Nat.mod_lt _ (by decide)⟩
/-- A lane of a head, normalised over the head and scaled. -/
def headF (x g : Fin 64 → EReal) (e : Fin 64) : EReal :=
  x e * Ideal.rsqrt ((∑ j, x j * x j) * Ideal.ofBits .f32 0x3C800000#32 + Ideal.ofBits .f32 0x358637BD#32) * g e

theorem sum_sides (f : Fin 128 → EReal) : ∑ l : Fin 128, f l = ∑ e : Fin 64, f (ln 0 e) + ∑ e : Fin 64, f (ln 1 e) :=
  (Fin.sum_univ_add (a := 64) (b := 64) f).trans (congrArg₂ (· + ·)
    (Finset.sum_congr rfl fun e _ => congrArg f (Fin.ext (by simp [ln]))) (Finset.sum_congr rfl fun e _ => congrArg f (Fin.ext (by simp [ln, Nat.add_comm]))))

theorem ex_ln (l : Fin 128) : ∃ h e, l = ln h e := ⟨⟨l.val / 64, by omega⟩, ⟨l.val % 64, by omega⟩, Fin.ext (by simp only [ln]; omega)⟩

theorem sel_loQ (x y : FVec Ideal S1024x128 .f32) (r : Fin 1024) (h : Fin 2) (e : Fin 64) :
    select loQ x y (ix2 r (ln h e)) = if h = 0 then x (ix2 r (ln h e)) else y (ix2 r (ln h e)) := by
  have hl : loQ (ix2 r (ln h e)) = if h = 0 then 1#1 else 0#1 := by
    pointwise
    revert h e; decide +kernel
  unfold select
  rw [hl]
  fin_cases h <;> rfl

theorem sumQ_apply (x : FVec Ideal S1024x128 .f32) (r : Fin 1024) (l : Fin 128) : sumQ x (ix2 r l) = ∑ k, x (ix2 r k) := by
  pointwise

theorem halfQ (s : FVec Ideal S1024x128 .f32) (r : Fin 1024) (h : Fin 2) (e : Fin 64) :
    select loQ (sumQ (select loQ s zeroQ)) (sumQ (select loQ zeroQ s)) (ix2 r (ln h e)) = ∑ j, s (ix2 r (ln h j)) := by
  have hz : ∀ l, zeroQ (ix2 r l) = 0 := fun l => by pointwise
  rw [sel_loQ, sumQ_apply, sumQ_apply, sum_sides, sum_sides]
  simp only [sel_loQ, hz]
  fin_cases h <;> simp

theorem normQ_apply (x : Vec Ideal S1024x128 .f32) (g : Vec Ideal S1x128 .f32) (r : Fin 1024) (h : Fin 2) (e : Fin 64) :
    normQ x g (ix2 r (ln h e)) = headF (fun j => x (ix2 r (ln h j))) (fun j => g (ix2 0 (ln h j))) e := by
  have hs := halfQ (mulf x x) r h e
  unfold normQ
  pointwise [hs]
  rfl

theorem firstQ_apply (r : Fin 1024) (h : Fin 2) (e : Fin 64) : firstQ (ix2 r (ln h e)) = if e.val < 32 then 1#1 else 0#1 := by
  pointwise
  revert h e; decide +kernel

theorem ropeQ_apply (y : FVec Ideal S1024x128 .f32) (cs sn : Vec Ideal S1024x128 .f32) (r : Fin 1024) (h : Fin 2) (e : Fin 64) :
    ropeQ y cs sn (ix2 r (ln h e)) = y (ix2 r (ln h e)) * cs (ix2 r (ln h e)) + y (ix2 r (ln h (pe e))) * sn (ix2 r (ln h e)) := by
  have hs : select firstQ (dynamicRotate 1 96#32 none y rotates_S1024x128_d1) (dynamicRotate 1 32#32 none y rotates_S1024x128_d1) (ix2 r (ln h e))
      = y (ix2 r (ln h (pe e))) := by
    unfold select
    rw [firstQ_apply]
    by_cases he : e.val < 32
    · rw [if_pos he]
      refine (show _ = dynamicRotate 1 96#32 none y rotates_S1024x128_d1 (ix2 r (ln h e)) from rfl).trans ?_
      pointwise
      refine congrArg y (congrArg (ix2 r) (Fin.ext ?_))
      simp only [ln, pe]; omega
    · rw [if_neg he]
      refine (show _ = dynamicRotate 1 32#32 none y rotates_S1024x128_d1 (ix2 r (ln h e)) from rfl).trans ?_
      pointwise
      refine congrArg y (congrArg (ix2 r) (Fin.ext ?_))
      simp only [ln, pe]; omega
  unfold ropeQ
  pointwise [hs]

theorem queryT_apply (x : Vec Ideal S1024x128 .f32) (g : Vec Ideal S1x128 .f32) (cs sn : Vec Ideal S1024x128 .f32) (r : Fin 1024) (h : Fin 2) (e : Fin 64) :
    queryT x g cs sn (ix2 r (ln h e)) = ropeQ (normQ x g) cs sn (ix2 r (ln h e)) * Ideal.ofBits .f32 0x3E000000#32 := by
  unfold queryT
  pointwise

theorem sel_loK (x y : FVec Ideal S1152x128 .f32) (r : Fin 1152) (h : Fin 2) (e : Fin 64) :
    select loK x y (ix2 r (ln h e)) = if h = 0 then x (ix2 r (ln h e)) else y (ix2 r (ln h e)) := by
  have hl : loK (ix2 r (ln h e)) = if h = 0 then 1#1 else 0#1 := by
    pointwise
    revert h e; decide +kernel
  unfold select
  rw [hl]
  fin_cases h <;> rfl

theorem sumK_apply (x : FVec Ideal S1152x128 .f32) (r : Fin 1152) (l : Fin 128) : sumK x (ix2 r l) = ∑ k, x (ix2 r k) := by
  pointwise

theorem halfK (s : FVec Ideal S1152x128 .f32) (r : Fin 1152) (h : Fin 2) (e : Fin 64) :
    select loK (sumK (select loK s zeroK)) (sumK (select loK zeroK s)) (ix2 r (ln h e)) = ∑ j, s (ix2 r (ln h j)) := by
  have hz : ∀ l, zeroK (ix2 r l) = 0 := fun l => by pointwise
  rw [sel_loK, sumK_apply, sumK_apply, sum_sides, sum_sides]
  simp only [sel_loK, hz]
  fin_cases h <;> simp

theorem normK_apply (x : FVec Ideal S1152x128 .f32) (g : Vec Ideal S1x128 .f32) (r : Fin 1152) (h : Fin 2) (e : Fin 64) :
    normK x g (ix2 r (ln h e)) = headF (fun j => x (ix2 r (ln h j))) (fun j => g (ix2 0 (ln h j))) e := by
  have hs := halfK (mulf x x) r h e
  unfold normK
  pointwise [hs]
  rfl

theorem firstK_apply (r : Fin 1152) (h : Fin 2) (e : Fin 64) : firstK (ix2 r (ln h e)) = if e.val < 32 then 1#1 else 0#1 := by
  pointwise
  revert h e; decide +kernel

theorem ropeK_apply (y : FVec Ideal S1152x128 .f32) (cs sn : FVec Ideal S1152x128 .f32) (r : Fin 1152) (h : Fin 2) (e : Fin 64) :
    ropeK y cs sn (ix2 r (ln h e)) = y (ix2 r (ln h e)) * cs (ix2 r (ln h e)) + y (ix2 r (ln h (pe e))) * sn (ix2 r (ln h e)) := by
  have hs : select firstK (dynamicRotate 1 96#32 none y rotates_S1152x128_d1) (dynamicRotate 1 32#32 none y rotates_S1152x128_d1) (ix2 r (ln h e))
      = y (ix2 r (ln h (pe e))) := by
    unfold select
    rw [firstK_apply]
    by_cases he : e.val < 32
    · rw [if_pos he]
      refine (show _ = dynamicRotate 1 96#32 none y rotates_S1152x128_d1 (ix2 r (ln h e)) from rfl).trans ?_
      pointwise
      refine congrArg y (congrArg (ix2 r) (Fin.ext ?_))
      simp only [ln, pe]; omega
    · rw [if_neg he]
      refine (show _ = dynamicRotate 1 32#32 none y rotates_S1152x128_d1 (ix2 r (ln h e)) from rfl).trans ?_
      pointwise
      refine congrArg y (congrArg (ix2 r) (Fin.ext ?_))
      simp only [ln, pe]; omega
  unfold ropeK
  pointwise [hs]

theorem dupK_apply (g : Fin 2) (x : FVec Ideal S1152x128 .f32) (r : Fin 1152) (h : Fin 2) (e : Fin 64) : dupK g x (ix2 r (ln h e)) = x (ix2 r (ln g e)) := by
  have hr : dynamicRotate 1 64#32 none x rotates_S1152x128_d1 (ix2 r (ln h e)) = x (ix2 r (ln (1 - h) e)) := by
    pointwise
    refine congrArg x (congrArg (ix2 r) (Fin.ext ?_))
    fin_cases h <;> simp [ln] <;> omega
  fin_cases g
  · refine (sel_loK _ _ r h e).trans ?_
    rw [hr]
    fin_cases h <;> rfl
  · refine (sel_loK _ _ r h e).trans ?_
    rw [hr]
    fin_cases h <;> rfl

/-! One block. -/

/-- Row `i` of the `a`-th of four heads stacked. -/
def row4 (a : Fin 4) (i : Fin 128) : Fin 512 := ⟨128 * a.val + i.val, by omega⟩
/-- The `h`-th head of the `p`-th pair. -/
def hd4 (p h : Fin 2) : Fin 4 := ⟨2 * p.val + h.val, by omega⟩

theorem sel_loB (x y : FVec Ideal S128x128 .f32) (r : Fin 128) (h : Fin 2) (e : Fin 64) :
    select loB x y (ix2 r (ln h e)) = if h = 0 then x (ix2 r (ln h e)) else y (ix2 r (ln h e)) := by
  have hl : loB (ix2 r (ln h e)) = if h = 0 then 1#1 else 0#1 := by
    pointwise
    revert h e; decide +kernel
  unfold select
  rw [hl]
  fin_cases h <;> rfl

theorem cat4 (x : Fin 4 → FVec Ideal S128x128 .f32) (a : Fin 4) (i l : Fin 128) :
    concatenate S512x128 0 [⟨S128x128, x 0⟩, ⟨S128x128, x 1⟩, ⟨S128x128, x 2⟩, ⟨S128x128, x 3⟩]
      concatenates_S128x128_S128x128_S128x128_S128x128_S512x128_d0 (ix2 (row4 a i) l) = x a (ix2 i l) := by
  pointwise
  have hr : (row4 a i).val = 128 * a.val + i.val := rfl
  generalize row4 a i = r at hr ⊢
  fin_cases a <;> dsimp only at hr
  · rw [dif_pos (by omega)]
    exact congrArg (x 0) (congrArg (ix2 · l) (Fin.ext (by dsimp only; omega)))
  · rw [dif_neg (by omega), dif_pos (by omega)]
    exact congrArg (x 1) (congrArg (ix2 · l) (Fin.ext (by dsimp only; omega)))
  · rw [dif_neg (by omega), dif_neg (by omega), dif_pos (by omega)]
    exact congrArg (x 2) (congrArg (ix2 · l) (Fin.ext (by dsimp only; omega)))
  · rw [dif_neg (by omega), dif_neg (by omega), dif_neg (by omega)]
    exact congrArg (x 3) (congrArg (ix2 · l) (Fin.ext (by dsimp only; omega)))

theorem stack4_apply (x y : FVec Ideal S128x128 .f32) (p h h' : Fin 2) (i : Fin 128) (e : Fin 64) :
    stack4 x y (ix2 (row4 (hd4 p h) i) (ln h' e)) = if h' = h then (if p = 0 then x else y) (ix2 i (ln h e)) else 0 := by
  have hz : ∀ l, zeroB (ix2 i l) = 0 := fun l => by pointwise
  refine (cat4 ![select loB x zeroB, select loB zeroB x, select loB y zeroB, select loB zeroB y] (hd4 p h) i (ln h' e)).trans ?_
  fin_cases p <;> fin_cases h
  · refine (sel_loB x zeroB i h' e).trans ?_
    rw [hz]; fin_cases h' <;> rfl
  · refine (sel_loB zeroB x i h' e).trans ?_
    rw [hz]; fin_cases h' <;> rfl
  · refine (sel_loB y zeroB i h' e).trans ?_
    rw [hz]; fin_cases h' <;> rfl
  · refine (sel_loB zeroB y i h' e).trans ?_
    rw [hz]; fin_cases h' <;> rfl

theorem reach_lo (i : Fin 128) (j : Fin 256) :
    IntOp.cmpi .sge (IntOp.subi (IntOp.addi (BitVec.ofNat 32 i.val) 128#32) (BitVec.ofNat 32 j.val)) 0#32 = if j.val ≤ i.val + 128 then 1#1 else 0#1 := by
  revert i j; decide +kernel

theorem reach_hi (i : Fin 128) (j : Fin 256) :
    IntOp.cmpi .slt (IntOp.subi (IntOp.addi (BitVec.ofNat 32 i.val) 128#32) (BitVec.ofNat 32 j.val)) 128#32 = if i.val < j.val then 1#1 else 0#1 := by
  revert i j; decide +kernel

theorem own_block (j : Fin 256) : IntOp.cmpi .sge (BitVec.ofNat 32 j.val) 128#32 = if 128 ≤ j.val then 1#1 else 0#1 := by
  revert j; decide +kernel

/-- Whether row `i` of a block sees row `j` of the 256 rows which end with the block. -/
def Sees (first : Prop) (i : Fin 128) (j : Fin 256) : Prop := (j.val ≤ i.val + 128 ∧ i.val < j.val) ∧ (128 ≤ j.val ∨ ¬ first)

open Classical in
theorem biasB_apply (w : BitVec 1) (i : Fin 128) (j : Fin 256) : biasB w (ix2 i j) = if Sees (w = 1#1) i j then 0 else ⊥ := by
  have hm : Named.named (F := Ideal) κ "mask" (φ := .f32) 0xF149F2CA#32 = (⊥ : EReal) := IdealRules.named_const.ideal_named_scalar _ _ _ _ rfl
  have hw : w = 0#1 ∨ w = 1#1 := by revert w; decide
  unfold biasB
  pointwise
  rw [reach_lo, reach_hi, own_block, hm]
  unfold Sees
  by_cases h1 : j.val ≤ i.val + 128 <;> by_cases h2 : i.val < j.val <;> by_cases h3 : 128 ≤ j.val <;> rcases hw with rfl | rfl <;>
    simp only [h1, h2, h3, if_true, if_false, true_and, and_true, false_and, and_false, true_or, false_or, not_true_eq_false] <;> first | rfl | (simp <;> rfl)

theorem scores_apply (q : FVec Ideal S512x128 .f32) (k : FVec Ideal S256x128 .f32) (bias : FVec Ideal S128x256 .f32) (a : Fin 4) (i : Fin 128) (j : Fin 256) :
    scores q k bias (ix2 (row4 a i) j) = ∑ l, q (ix2 (row4 a i) l) * k (ix2 j l) + bias (ix2 i j) := by
  unfold scores
  pointwise
  exact congrArg (_ + ·) (congrArg bias (congrArg (ix2 · j) (Fin.ext (by simp only [row4]; omega))))

/-- The share of row `j` in a softmax with a sink. -/
def softF {n : ℕ} (s : Fin n → EReal) (k : EReal) (j : Fin n) : EReal :=
  Ideal.exp (s j - max (Finset.fold max (Ideal.ofBits .f32 0xFF800000#32) s Finset.univ) k) *
    Ideal.div 1 (∑ x, Ideal.exp (s x - max (Finset.fold max (Ideal.ofBits .f32 0xFF800000#32) s Finset.univ) k) +
      Ideal.exp (k - max (Finset.fold max (Ideal.ofBits .f32 0xFF800000#32) s Finset.univ) k))

theorem probs_apply (s : FVec Ideal S512x256 .f32) (sink : FVec Ideal S512x1 .f32) (r : Fin 512) (j : Fin 256) :
    probs s sink (ix2 r j) = softF (fun j => s (ix2 r j)) (sink (ix2 r 0)) j := by
  unfold probs expo top
  pointwise
  rfl

theorem mixed_apply (p : FVec Ideal S512x256 .f32) (v : FVec Ideal S256x128 .f32) (r : Fin 512) (l : Fin 128) :
    mixed p v (ix2 r l) = ∑ j, p (ix2 r j) * v (ix2 j l) := by
  unfold mixed
  pointwise

theorem pick2_apply (p : Fin 2) (x : FVec Ideal S512x128 .f32) (i : Fin 128) (h : Fin 2) (e : Fin 64) :
    pick2 p x (ix2 i (ln h e)) = x (ix2 (row4 (hd4 p h) i) (ln h e)) := by
  have key : ∀ r : Fin 512, r = row4 (hd4 p h) i → x (ix2 r (ln h e)) = x (ix2 (row4 (hd4 p h) i) (ln h e)) := fun r hr => by rw [hr]
  fin_cases p
  · refine (sel_loB _ _ i h e).trans ?_
    pointwise
    fin_cases h
    · exact key _ (Fin.ext (by simp [row4, hd4]))
    · exact key _ (Fin.ext (by simp [row4, hd4]))
  · refine (sel_loB _ _ i h e).trans ?_
    pointwise
    fin_cases h
    · exact key _ (Fin.ext (by simp [row4, hd4]))
    · exact key _ (Fin.ext (by simp [row4, hd4]))

theorem rowsQ_apply (b : Fin 8) (x : FVec Ideal S1024x128 .f32) (i l : Fin 128) : rowsQ b x (ix2 i l) = x (ix2 ⟨128 * b.val + i.val, by omega⟩ l) := by
  fin_cases b <;> (unfold rowsQ; pointwise)

theorem rowsK_apply (b : Fin 8) (x : FVec Ideal S1152x128 .f32) (j : Fin 256) (l : Fin 128) : rowsK b x (ix2 j l) = x (ix2 ⟨128 * b.val + j.val, by omega⟩ l) := by
  fin_cases b <;> (unfold rowsK; pointwise)

theorem after_apply (x : Vec Ideal S128x128 .f32) (y : Vec Ideal S1024x128 .f32) (r : Fin 1152) (l : Fin 128) :
    after x y (ix2 r l) = if h : r.val < 128 then x (ix2 ⟨r.val, h⟩ l) else y (ix2 ⟨r.val - 128, by omega⟩ l) := by
  unfold after
  pointwise

theorem lanesQ_apply (p : Fin 4) (x : Vec Ideal S1024x512 .f32) (r : Fin 1024) (l : Fin 128) : lanesQ p x (ix2 r l) = x (ix2 r ⟨128 * p.val + l.val, by omega⟩) := by
  fin_cases p <;> (unfold lanesQ; pointwise)

theorem sinkN_apply (n : Fin 8) (x : Vec Ideal S8x128 .f32) : sinkN n x (ix2 0 0) = x (ix2 n 0) := by
  fin_cases n <;> (unfold sinkN; pointwise)

theorem sinkCol_apply (g : Fin 2) (x : Vec Ideal S8x128 .f32) (a : Fin 4) (i : Fin 128) :
    sinkCol g x (ix2 (row4 a i) 0) = x (ix2 ⟨4 * g.val + a.val, by omega⟩ 0) := by
  have ht : ∀ n, tall1 (sinkN n x) (ix2 i 0) = sinkN n x (ix2 0 0) := fun n => by pointwise
  have hr : (row4 a i).val = 128 * a.val + i.val := rfl
  generalize row4 a i = r at hr ⊢
  have key : ∀ n : Fin 8, n.val = 4 * g.val + a.val → sinkN n x (ix2 0 0) = x (ix2 ⟨4 * g.val + a.val, by omega⟩ 0) := fun n hn => by
    rw [sinkN_apply, show n = ⟨4 * g.val + a.val, by omega⟩ from Fin.ext hn]
  fin_cases g <;> fin_cases a <;> dsimp only at hr <;> unfold sinkCol <;> pointwise
  · rw [dif_pos (by omega)]; exact key 0 rfl
  · rw [dif_neg (by omega), dif_pos (by omega)]; exact key 1 rfl
  · rw [dif_neg (by omega), dif_neg (by omega), dif_pos (by omega)]; exact key 2 rfl
  · rw [dif_neg (by omega), dif_neg (by omega), dif_neg (by omega)]; exact key 3 rfl
  · rw [dif_pos (by omega)]; exact key 4 rfl
  · rw [dif_neg (by omega), dif_pos (by omega)]; exact key 5 rfl
  · rw [dif_neg (by omega), dif_neg (by omega), dif_pos (by omega)]; exact key 6 rfl
  · rw [dif_neg (by omega), dif_neg (by omega), dif_neg (by omega)]; exact key 7 rfl

end Cert.AttnfIdeal.Hand

end
-- ==== Proof.AttnfTile.lean ====
/- The attention of the forward pass, kernel side: the thirty-two parts of a point's block as one function of its rows. -/
module

public import proofs.«01_k».proof.Proof.AttnfRow

@[expose] public section

set_option maxRecDepth 16384

noncomputable section

open Idealize.ShloMosaic Idealize.ShloMosaic.TcCoe Idealize.SL.Sem
open Idealize.ShloMosaic.Pipeline (Dat)

namespace Cert.AttnfIdeal.Hand

open Cert.AttnfIdeal Cert.AttnfIdeal.Gen Cert.Reals

/-- A head's row, rotated. -/
def rotF (y c s : Fin 64 → EReal) (e : Fin 64) : EReal := y e * c e + y (pe e) * s e

section
variable (i : grid0.Coords) (x0 : Vec Ideal S1024x512 .f32) (x1 x2 : Vec Ideal S1024x128 .f32) (x3 x4 : Vec Ideal S128x128 .f32)
  (x5 x6 : Vec Ideal S1024x128 .f32) (x7 x8 : Vec Ideal S128x128 .f32) (x9 x10 : Vec Ideal S1x128 .f32) (x11 : Vec Ideal S8x128 .f32)

/-- Row `r` of the tile's rows with the 128 rows before them. -/
def tallF (x : Vec Ideal S128x128 .f32) (y : Vec Ideal S1024x128 .f32) (r : Fin 1152) (l : Fin 128) : EReal :=
  if h : r.val < 128 then x (ix2 ⟨r.val, h⟩ l) else y (ix2 ⟨r.val - 128, by omega⟩ l)

def qF (p : Fin 4) (r : Fin 1024) (h : Fin 2) : Fin 64 → EReal := fun e =>
  rotF (headF (fun j => x0 (ix2 r ⟨128 * p.val + (ln h j).val, by omega⟩)) (fun j => x9 (ix2 0 (ln h j)))) (fun j => x5 (ix2 r (ln h j)))
    (fun j => x6 (ix2 r (ln h j))) e * Ideal.ofBits .f32 0x3E000000#32

def kF (r : Fin 1152) (g : Fin 2) : Fin 64 → EReal :=
  rotF (headF (fun j => tallF x3 x1 r (ln g j)) (fun j => x10 (ix2 0 (ln g j)))) (fun j => tallF x7 x5 r (ln g j)) (fun j => tallF x8 x6 r (ln g j))

theorem qT_apply (p : Fin 4) (r : Fin 1024) (h : Fin 2) (e : Fin 64) : qT x0 x5 x6 x9 p (ix2 r (ln h e)) = qF x0 x5 x6 x9 p r h e := by
  unfold qT
  rw [queryT_apply, ropeQ_apply, normQ_apply, normQ_apply]
  simp only [lanesQ_apply]
  unfold qF rotF
  pointwise

theorem kT_apply (r : Fin 1152) (g : Fin 2) (e : Fin 64) : kT x1 x3 x5 x6 x7 x8 x10 (ix2 r (ln g e)) = kF x1 x3 x5 x6 x7 x8 x10 r g e := by
  have ld1 : ∀ (x : Vec Ideal S128x128 .f32) (y : Vec Ideal S1024x128 .f32) (l : Fin 128), after (View.ld x r0_1) (View.ld y r0_0) (ix2 r l) = tallF x y r l := fun x y l => by
    rw [after_apply]; unfold tallF; split <;> pointwise
  have ld3 : ∀ (x : Vec Ideal S128x128 .f32) (y : Vec Ideal S1024x128 .f32) (l : Fin 128),
      after (shapeCast S128x128 (View.ld x r0_1) shapeCasts_S128x128_S128x128) (shapeCast S1024x128 (View.ld y r0_0) shapeCasts_S1024x128_S1024x128) (ix2 r l)
        = tallF x y r l := fun x y l => by
    rw [after_apply]; unfold tallF; split <;> pointwise
  unfold kT
  rw [ropeK_apply, normK_apply, normK_apply]
  simp only [ld1, ld3]
  unfold kF rotF
  pointwise

theorem vT_apply (r : Fin 1152) (l : Fin 128) : vT x2 x4 (ix2 r l) = tallF x4 x2 r l := by
  rw [vT, after_apply]; unfold tallF; split <;> pointwise

open Classical in
/-- What a part of the block holds. -/
theorem pieceT_apply (g : Fin 2) (b : Fin 8) (p : Fin 2) (r : Fin 128) (h : Fin 2) (e : Fin 64) :
    pieceT i x0 x1 x2 x3 x4 x5 x6 x7 x8 x9 x10 x11 g b p (ix2 r (ln h e)) =
      ∑ j : Fin 256, softF (fun j : Fin 256 => ∑ e', qF x0 x5 x6 x9 (pairQ g p) ⟨128 * b.val + r.val, by omega⟩ h e' *
            kF x1 x3 x5 x6 x7 x8 x10 ⟨128 * b.val + j.val, by omega⟩ g e' + if Sees (firstT i b = 1#1) r j then 0 else ⊥)
          (x11 (ix2 ⟨4 * g.val + (hd4 p h).val, by omega⟩ 0)) j * tallF x4 x2 ⟨128 * b.val + j.val, by omega⟩ (ln g e) := by
  have hs : ∀ j : Fin 256, scoresT i x0 x1 x3 x5 x6 x7 x8 x9 x10 g b (ix2 (row4 (hd4 p h) r) j) =
      ∑ e', qF x0 x5 x6 x9 (pairQ g p) ⟨128 * b.val + r.val, by omega⟩ h e' *
            kF x1 x3 x5 x6 x7 x8 x10 ⟨128 * b.val + j.val, by omega⟩ g e' + if Sees (firstT i b = 1#1) r j then 0 else ⊥ := fun j => by
    have hq : ∀ e', (if p = 0 then rowsQ b (qT x0 x5 x6 x9 (pairQ g 0)) else rowsQ b (qT x0 x5 x6 x9 (pairQ g 1))) (ix2 r (ln h e'))
        = qF x0 x5 x6 x9 (pairQ g p) ⟨128 * b.val + r.val, by omega⟩ h e' := fun e' => by
      fin_cases p
      · exact (rowsQ_apply b _ r (ln h e')).trans (qT_apply x0 x5 x6 x9 _ _ h e')
      · exact (rowsQ_apply b _ r (ln h e')).trans (qT_apply x0 x5 x6 x9 _ _ h e')
    refine (scores_apply _ _ _ _ r j).trans ?_
    rw [biasB_apply, sum_sides]
    simp only [stack4_apply, rowsK_apply, dupK_apply, hq, kT_apply]
    fin_cases h <;> simp <;> exact congrArg (· + _) (Finset.sum_congr rfl fun x _ => congrArg (_ * ·) (kT_apply x1 x3 x5 x6 x7 x8 x10 _ g x))
  unfold pieceT
  rw [pick2_apply]
  refine (mixed_apply _ _ _ _).trans (Finset.sum_congr rfl fun j _ => ?_)
  rw [probs_apply, sinkCol_apply, rowsK_apply, dupK_apply, vT_apply]
  simp only [hs]

end

end Cert.AttnfIdeal.Hand

end
-- ==== Proof.AttnfHost.lean ====
/- The tables which the host code of the forward attention prepares. -/
module

public import proofs.«01_k».proof.Proof.Gen.AttnfIdeal.Frame
public import Idealize.ShloMosaic.Lib.StableHlo.RunRead
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.AttnfIdeal.Hand

open Cert.AttnfIdeal Cert.AttnfIdeal.Gen

variable (m : (ℓ : Loc nD τ sig) → Buf (Elt Ideal) ℓ)

/-- The rotation's angles. -/
def angles (pos : IVec S8192 32) : FVec Ideal S8192x32 .f32 :=
  mulf (broadcastInDim S8192x32 ![0, 1] bcast_S8192x1_S8192x32_0_1 (broadcastInDim S8192x1 ![0] bcast_S8192_S8192x1_0 (sitofp .f32 pos)))
    (broadcastInDim S8192x32 ![0, 1] bcast_S1x32_S8192x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32))
          (sitofp .f32 (iotaInDim S32 32 0)))) (broadcastInDim S32 ![] bcast_S_S32 (constant S_ .f32 0x42800000#32)))))))

theorem upto_cos (c : Dev nD) : StableHlo.upto hostOps0 (fun b => m (c, b)) 24 (Proc.devRef .tc main_v17) = Host.cos (angles (m ((c : Thread nD τ).loc main_arg1))) := by
  after_reads_simp
  rfl
theorem upto_sin (c : Dev nD) : StableHlo.upto hostOps0 (fun b => m (c, b)) 27 (Proc.devRef .tc main_v18) = Host.sin (angles (m ((c : Thread nD τ).loc main_arg1))) := by
  after_reads_simp
  rfl
theorem upto_neg (c : Dev nD) : StableHlo.upto hostOps0 (fun b => m (c, b)) 27 (Proc.devRef .tc main_v20) = Host.negf (Host.sin (angles (m ((c : Thread nD τ).loc main_arg1)))) := by
  after_reads_simp
  rfl
theorem upto_neg' (c : Dev nD) : StableHlo.upto hostOps0 (fun b => m (c, b)) 27 (Proc.devRef .tc main_v21) = Host.negf (Host.sin (angles (m ((c : Thread nD τ).loc main_arg1)))) := by
  after_reads_simp
  rfl

/-- Four tables of 32 lanes side by side. -/
def side4 (x : Fin 4 → FVec Ideal S8192x32 .f32) : FVec Ideal S8192x128 .f32 :=
  concatenate S8192x128 1 [⟨S8192x32, x 0⟩, ⟨S8192x32, x 1⟩, ⟨S8192x32, x 2⟩, ⟨S8192x32, x 3⟩] concatenates_S8192x32_S8192x32_S8192x32_S8192x32_S8192x128_d1

theorem V_cs (c : Dev nD) : V m c main_v19 = side4 fun _ => Host.cos (angles (m ((c : Thread nD τ).loc main_arg1))) := by
  have h : (fun _ : Fin 4 => StableHlo.upto hostOps0 (fun b => m (c, b)) 24 (Proc.devRef .tc main_v17)) = fun _ => Host.cos (angles (m ((c : Thread nD τ).loc main_arg1))) := funext fun _ => upto_cos m c
  unfold V
  after_reads_simp
  exact congrArg side4 h

theorem V_sn (c : Dev nD) : V m c main_v22 = side4 ![Host.negf (Host.sin (angles (m ((c : Thread nD τ).loc main_arg1)))), Host.sin (angles (m ((c : Thread nD τ).loc main_arg1))), Host.negf (Host.sin (angles (m ((c : Thread nD τ).loc main_arg1)))), Host.sin (angles (m ((c : Thread nD τ).loc main_arg1)))] := by
  have h : (![StableHlo.upto hostOps0 (fun b => m (c, b)) 27 (Proc.devRef .tc main_v20), StableHlo.upto hostOps0 (fun b => m (c, b)) 27 (Proc.devRef .tc main_v18),
      StableHlo.upto hostOps0 (fun b => m (c, b)) 27 (Proc.devRef .tc main_v21), StableHlo.upto hostOps0 (fun b => m (c, b)) 27 (Proc.devRef .tc main_v18)]
      : Fin 4 → FVec Ideal S8192x32 .f32) = ![Host.negf (Host.sin (angles (m ((c : Thread nD τ).loc main_arg1)))), Host.sin (angles (m ((c : Thread nD τ).loc main_arg1))), Host.negf (Host.sin (angles (m ((c : Thread nD τ).loc main_arg1)))), Host.sin (angles (m ((c : Thread nD τ).loc main_arg1)))] := by
    rw [upto_neg, upto_neg', upto_sin]
  unfold V
  after_reads_simp
  exact congrArg side4 h

end Cert.AttnfIdeal.Hand

end
-- ==== Proof.AttnfValue.lean ====
/- The attention of the forward pass, kernel side: the array after the run as one function of the arguments. -/
module

public import proofs.«01_k».proof.Proof.AttnfTile
public import proofs.«01_k».proof.Proof.AttnfHost
public import proofs.«01_k».proof.Proof.Gen.AttnfIdeal.Value

@[expose] public section

set_option maxRecDepth 16384

noncomputable section

open Idealize.ShloMosaic Idealize.ShloMosaic.TcCoe Idealize.SL.Sem
open Idealize.ShloMosaic.Pipeline (Dat)

namespace Cert.AttnfIdeal.Hand

open Cert.AttnfIdeal Cert.AttnfIdeal.Gen Cert.Reals

/-! The attention as a function of `z`, the rotation's angles, the gains and the sinks. -/

section
variable (z : Vec Ideal S8192x1536 .f32) (A : FVec Ideal S8192x32 .f32) (gq gk : Vec Ideal S64 .f32) (sk : Vec Ideal S8 .f32)

def cF (n : Fin 8192) (e : Fin 64) : EReal := Ideal.cos (A (ix2 n ⟨e.val % 32, Nat.mod_lt _ (by decide)⟩))
def sF (n : Fin 8192) (e : Fin 64) : EReal :=
  if e.val < 32 then -Ideal.sin (A (ix2 n ⟨e.val % 32, Nat.mod_lt _ (by decide)⟩)) else Ideal.sin (A (ix2 n ⟨e.val % 32, Nat.mod_lt _ (by decide)⟩))
/-- A head whose lanes start at column `o`, normalised and rotated. -/
def hF (g : Vec Ideal S64 .f32) (o : ℕ) (ho : o ≤ 1472) (n : Fin 8192) : Fin 64 → EReal :=
  rotF (headF (fun j => z (ix2 n ⟨o + j.val, by omega⟩)) (fun j => g (ix1 j))) (cF A n) (sF A n)
/-- Row `j` of the 256 rows which end with block `B`. -/
def krow (B : Fin 64) (j : Fin 256) : Fin 8192 := ⟨if j.val < 128 then 128 * (B.val - 1) + j.val else 128 * B.val + (j.val - 128), by split <;> omega⟩
def brow (B : Fin 64) (r : Fin 128) : Fin 8192 := ⟨128 * B.val + r.val, by omega⟩
def ocol (H : Fin 8) (e : Fin 64) : Fin 512 := ⟨64 * H.val + e.val, by omega⟩

open Classical in
def scF (B : Fin 64) (r : Fin 128) (H : Fin 8) (j : Fin 256) : EReal :=
  ∑ e', hF z A gq (512 + 64 * H.val) (by omega) (brow B r) e' * Ideal.ofBits .f32 0x3E000000#32 * hF z A gk (1024 + 64 * (H.val / 4)) (by omega) (krow B j) e'
    + if Sees (B = 0) r j then 0 else ⊥
def attnF (B : Fin 64) (r : Fin 128) (H : Fin 8) (e : Fin 64) : EReal :=
  ∑ j : Fin 256, softF (scF z A gq gk B r H) (sk (ix1 H)) j * z (ix2 (krow B j) ⟨1152 + 64 * (H.val / 4) + e.val, by omega⟩)
def attnArr : Vec Ideal S8192x512 .f32 := fun x => attnF z A gq gk sk ⟨(x 0).val / 128, by have : (x 0).val < 8192 := (x 0).isLt; omega⟩
  ⟨(x 0).val % 128, Nat.mod_lt _ (by decide)⟩ ⟨(x 1).val / 64, by have : (x 1).val < 512 := (x 1).isLt; omega⟩ ⟨(x 1).val % 64, Nat.mod_lt _ (by decide)⟩

theorem attnArr_apply (B : Fin 64) (r : Fin 128) (H : Fin 8) (e : Fin 64) : attnArr z A gq gk sk (ix2 (brow B r) (ocol H e)) = attnF z A gq gk sk B r H e := by
  have key : ∀ B' r' H' e', B' = B → r' = r → H' = H → e' = e → attnF z A gq gk sk B' r' H' e' = attnF z A gq gk sk B r H e := by
    rintro _ _ _ _ rfl rfl rfl rfl; rfl
  exact key _ _ _ _ (Fin.ext (by show (128 * B.val + r.val) / 128 = _; omega)) (Fin.ext (by show (128 * B.val + r.val) % 128 = _; omega))
    (Fin.ext (by show (64 * H.val + e.val) / 64 = _; omega)) (Fin.ext (by show (64 * H.val + e.val) % 64 = _; omega))

theorem ex_brow (n : Fin 8192) : ∃ B r, n = brow B r := ⟨⟨n.val / 128, by omega⟩, ⟨n.val % 128, by omega⟩, Fin.ext (by simp only [brow]; omega)⟩
theorem ex_ocol (k : Fin 512) : ∃ H e, k = ocol H e := ⟨⟨k.val / 64, by omega⟩, ⟨k.val % 64, by omega⟩, Fin.ext (by simp only [ocol]; omega)⟩

end

variable (m : (ℓ : Loc nD τ sig) → Buf (Elt Ideal) ℓ) (ρ : Dev nD → PrngReg)

abbrev Z (c : Dev nD) : Vec Ideal S8192x1536 .f32 := m ((c : Thread nD τ).loc main_arg0)
abbrev Pos (c : Dev nD) : IVec S8192 32 := m ((c : Thread nD τ).loc main_arg1)
abbrev Gq (c : Dev nD) : Vec Ideal S64 .f32 := m ((c : Thread nD τ).loc main_arg2)
abbrev Gk (c : Dev nD) : Vec Ideal S64 .f32 := m ((c : Thread nD τ).loc main_arg3)
abbrev Sk (c : Dev nD) : Vec Ideal S8 .f32 := m ((c : Thread nD τ).loc main_arg4)
abbrev An (c : Dev nD) : FVec Ideal S8192x32 .f32 := angles (Pos m c)

theorem lt8 (t : Fin cfg0.N) : t.val < 8 := lt_of_lt_of_eq t.isLt N_0
theorem idx : ∀ t : Fin cfg0.N, win0_0.index t = ![t.val, 1] ∧ win0_1.index t = ![t.val, 8] ∧ win0_2.index t = ![t.val, 9]
    ∧ win0_3.index t = ![8 * t.val - 1, 8] ∧ win0_4.index t = ![8 * t.val - 1, 9] ∧ win0_5.index t = ![t.val, 0] ∧ win0_6.index t = ![t.val, 0]
    ∧ win0_7.index t = ![8 * t.val - 1, 0] ∧ win0_8.index t = ![8 * t.val - 1, 0] ∧ win0_9.index t = ![0, 0] ∧ win0_10.index t = ![0, 0]
    ∧ win0_11.index t = ![0, 0] ∧ win0_12.index t = ![t.val, 0] :=
  (by decide +kernel : ∀ t : Fin grid0.N, _)

def rowT (t : ℕ) (ht : t < 8) (r : Fin 1024) : Fin 8192 := ⟨t * 1024 + r.val, by omega⟩
def prevT (t : ℕ) (ht : t < 8) (r : Fin 128) : Fin 8192 := ⟨(8 * t - 1) * 128 + r.val, by omega⟩

theorem blk0 (c : Dev nD) (t : Fin cfg0.N) (r : Fin 1024) (l : Fin 512) :
    (iblk m c 0 t : Vec Ideal S1024x512 .f32) (ix2 r l) = Z m c (ix2 (rowT t.val (lt8 t) r) ⟨512 + l.val, by omega⟩) := by
  unfold rowT; blk_ext [iblk, V_main_arg0, idx t]
theorem blk1 (c : Dev nD) (t : Fin cfg0.N) (r : Fin 1024) (l : Fin 128) :
    (iblk m c 1 t : Vec Ideal S1024x128 .f32) (ix2 r l) = Z m c (ix2 (rowT t.val (lt8 t) r) ⟨1024 + l.val, by omega⟩) := by
  unfold rowT; blk_ext [iblk, V_main_arg0, idx t]
theorem blk2 (c : Dev nD) (t : Fin cfg0.N) (r : Fin 1024) (l : Fin 128) :
    (iblk m c 2 t : Vec Ideal S1024x128 .f32) (ix2 r l) = Z m c (ix2 (rowT t.val (lt8 t) r) ⟨1152 + l.val, by omega⟩) := by
  unfold rowT; blk_ext [iblk, V_main_arg0, idx t]
theorem blk3 (c : Dev nD) (t : Fin cfg0.N) (r : Fin 128) (l : Fin 128) :
    (iblk m c 3 t : Vec Ideal S128x128 .f32) (ix2 r l) = Z m c (ix2 (prevT t.val (lt8 t) r) ⟨1024 + l.val, by omega⟩) := by
  unfold prevT; blk_ext [iblk, V_main_arg0, idx t]
theorem blk4 (c : Dev nD) (t : Fin cfg0.N) (r : Fin 128) (l : Fin 128) :
    (iblk m c 4 t : Vec Ideal S128x128 .f32) (ix2 r l) = Z m c (ix2 (prevT t.val (lt8 t) r) ⟨1152 + l.val, by omega⟩) := by
  unfold prevT; blk_ext [iblk, V_main_arg0, idx t]

/-! The tables which the host code prepares. -/

theorem mod32_lt (e : Fin 64) : e.val % 32 < 32 := Nat.mod_lt _ (by decide)

theorem quad (x : Fin 4 → FVec Ideal S8192x32 .f32) (n : Fin 8192) (h : Fin 2) (e : Fin 64) :
    side4 x (ix2 n (ln h e)) = x ⟨2 * h.val + e.val / 32, by omega⟩ (ix2 n ⟨e.val % 32, mod32_lt e⟩) := by
  have key : ∀ (a a' : Fin 4) (k k' : Fin 32), a = a' → k = k' → x a (ix2 n k) = x a' (ix2 n k') := by rintro _ _ _ _ rfl rfl; rfl
  have hl : (ln h e).val = 64 * h.val + e.val := rfl
  unfold side4
  pointwise
  generalize ln h e = l at hl ⊢
  split
  · exact key _ _ _ _ (Fin.ext (by simp; omega)) (Fin.ext (by simp; omega))
  split
  · exact key _ _ _ _ (Fin.ext (by simp; omega)) (Fin.ext (by simp; omega))
  split
  · exact key _ _ _ _ (Fin.ext (by simp; omega)) (Fin.ext (by simp; omega))
  · exact key _ _ _ _ (Fin.ext (by simp; omega)) (Fin.ext (by simp; omega))

theorem cs_apply (c : Dev nD) (n : Fin 8192) (h : Fin 2) (e : Fin 64) : V m c main_v19 (ix2 n (ln h e)) = cF (An m c) n e := by
  rw [V_cs]
  refine (quad _ n h e).trans ?_
  unfold cF
  pointwise

theorem sn_apply (c : Dev nD) (n : Fin 8192) (h : Fin 2) (e : Fin 64) : V m c main_v22 (ix2 n (ln h e)) = sF (An m c) n e := by
  have ha : ∀ a : Fin 4, ![Host.negf (Host.sin (An m c)), Host.sin (An m c), Host.negf (Host.sin (An m c)), Host.sin (An m c)] a
      = if a.val % 2 = 0 then Host.negf (Host.sin (An m c)) else Host.sin (An m c) := fun a => by fin_cases a <;> rfl
  rw [V_sn]
  refine (quad _ n h e).trans ?_
  rw [ha]
  unfold sF
  by_cases he : e.val < 32
  · rw [if_pos he, if_pos (by dsimp only; omega)]
    pointwise
  · rw [if_neg he, if_neg (by dsimp only; omega)]
    pointwise

theorem blk5 (c : Dev nD) (t : Fin cfg0.N) (r : Fin 1024) (h : Fin 2) (e : Fin 64) :
    (iblk m c 5 t : Vec Ideal S1024x128 .f32) (ix2 r (ln h e)) = cF (An m c) (rowT t.val (lt8 t) r) e := by
  have e' : ((cfg0.win 5).blk t).view.emb (ix2 r (ln h e)) = ix2 (rowT t.val (lt8 t) r) (ln h e) := by unfold rowT; blk_ext [idx t]
  unfold iblk
  rw [View.read_apply]
  exact (congrArg (V m c main_v19) e').trans (cs_apply m c _ h e)
theorem blk6 (c : Dev nD) (t : Fin cfg0.N) (r : Fin 1024) (h : Fin 2) (e : Fin 64) :
    (iblk m c 6 t : Vec Ideal S1024x128 .f32) (ix2 r (ln h e)) = sF (An m c) (rowT t.val (lt8 t) r) e := by
  have e' : ((cfg0.win 6).blk t).view.emb (ix2 r (ln h e)) = ix2 (rowT t.val (lt8 t) r) (ln h e) := by unfold rowT; blk_ext [idx t]
  unfold iblk
  rw [View.read_apply]
  exact (congrArg (V m c main_v22) e').trans (sn_apply m c _ h e)
theorem blk7 (c : Dev nD) (t : Fin cfg0.N) (r : Fin 128) (h : Fin 2) (e : Fin 64) :
    (iblk m c 7 t : Vec Ideal S128x128 .f32) (ix2 r (ln h e)) = cF (An m c) (prevT t.val (lt8 t) r) e := by
  have e' : ((cfg0.win 7).blk t).view.emb (ix2 r (ln h e)) = ix2 (prevT t.val (lt8 t) r) (ln h e) := by unfold prevT; blk_ext [idx t]
  unfold iblk
  rw [View.read_apply]
  exact (congrArg (V m c main_v19) e').trans (cs_apply m c _ h e)
theorem blk8 (c : Dev nD) (t : Fin cfg0.N) (r : Fin 128) (h : Fin 2) (e : Fin 64) :
    (iblk m c 8 t : Vec Ideal S128x128 .f32) (ix2 r (ln h e)) = sF (An m c) (prevT t.val (lt8 t) r) e := by
  have e' : ((cfg0.win 8).blk t).view.emb (ix2 r (ln h e)) = ix2 (prevT t.val (lt8 t) r) (ln h e) := by unfold prevT; blk_ext [idx t]
  unfold iblk
  rw [View.read_apply]
  exact (congrArg (V m c main_v22) e').trans (sn_apply m c _ h e)

theorem twice (x : Vec Ideal S64 .f32) (h : Fin 2) (e : Fin 64) :
    (shapeCast S1x128 (concatenate S128 0 [⟨S64, x⟩, ⟨S64, x⟩] concatenates_S64_S64_S128_d0) shapeCasts_S128_S1x128 : FVec Ideal S1x128 .f32) (ix2 0 (ln h e)) = x (ix1 e) := by
  have key : ∀ k : Fin 64, k = e → x (ix1 k) = x (ix1 e) := by rintro _ rfl; rfl
  have hl : (ln h e).val = 64 * h.val + e.val := rfl
  pointwise
  generalize ln h e = l at hl ⊢
  split
  · exact key _ (Fin.ext (by simp; omega))
  · exact key _ (Fin.ext (by simp; omega))

theorem blk9 (c : Dev nD) (t : Fin cfg0.N) (h : Fin 2) (e : Fin 64) : (iblk m c 9 t : Vec Ideal S1x128 .f32) (ix2 0 (ln h e)) = Gq m c (ix1 e) := by
  have e' : ((cfg0.win 9).blk t).view.emb (ix2 0 (ln h e)) = ix2 0 (ln h e) := by blk_ext [idx t]
  unfold iblk
  rw [View.read_apply]
  refine (congrArg (V m c main_v24) e').trans ?_
  unfold V
  entry_read
  exact twice _ h e
theorem blk10 (c : Dev nD) (t : Fin cfg0.N) (h : Fin 2) (e : Fin 64) : (iblk m c 10 t : Vec Ideal S1x128 .f32) (ix2 0 (ln h e)) = Gk m c (ix1 e) := by
  have e' : ((cfg0.win 10).blk t).view.emb (ix2 0 (ln h e)) = ix2 0 (ln h e) := by blk_ext [idx t]
  unfold iblk
  rw [View.read_apply]
  refine (congrArg (V m c main_v26) e').trans ?_
  unfold V
  entry_read
  exact twice _ h e
theorem blk11 (c : Dev nD) (t : Fin cfg0.N) (H : Fin 8) : (iblk m c 11 t : Vec Ideal S8x128 .f32) (ix2 H 0) = Sk m c (ix1 H) := by
  have e' : ((cfg0.win 11).blk t).view.emb (ix2 H 0) = ix2 H 0 := by blk_ext [idx t]
  unfold iblk
  rw [View.read_apply]
  refine (congrArg (V m c main_v28) e').trans ?_
  unfold V
  entry_read
  pointwise

/-! One point's block. -/

theorem first_iff (t : Fin cfg0.N) (b : Fin 8) : firstT (grid0.coords t) b = 1#1 ↔ 8 * t.val + b.val = 0 := by
  revert t b
  exact (by decide +kernel : ∀ (t : Fin grid0.N) (b : Fin 8), firstT (grid0.coords t) b = 1#1 ↔ 8 * t.val + b.val = 0)

variable (c : Dev nD) (t : Fin cfg0.N)

/-- The `b`-th block of 128 rows of tile `t`. -/
def bk (b : Fin 8) : Fin 64 := ⟨8 * t.val + b.val, by have := lt8 t; omega⟩

theorem tall_row {α : Type} (f : Fin 8192 → α) (b : Fin 8) (j : Fin 256) (x : Fin 128 → α) (y : Fin 1024 → α) (hx : ∀ r, x r = f (prevT t.val (lt8 t) r))
    (hy : ∀ r, y r = f (rowT t.val (lt8 t) r)) :
    (if h : 128 * b.val + j.val < 128 then x ⟨128 * b.val + j.val, h⟩ else y ⟨128 * b.val + j.val - 128, by omega⟩) = f (krow (bk t b) j) := by
  split
  · rw [hx]
    exact congrArg f (Fin.ext (by simp only [prevT, krow, bk]; split <;> omega))
  · rw [hy]
    exact congrArg f (Fin.ext (by simp only [rowT, krow, bk]; split <;> omega))

theorem kF_apply (b : Fin 8) (j : Fin 256) (g : Fin 2) : kF (iblk m c 1 t) (iblk m c 3 t) (iblk m c 5 t) (iblk m c 6 t) (iblk m c 7 t) (iblk m c 8 t) (iblk m c 10 t)
    ⟨128 * b.val + j.val, by omega⟩ g = hF (Z m c) (An m c) (Gk m c) (1024 + 64 * g.val) (by omega) (krow (bk t b) j) := by
  have hz : ∀ l, tallF (iblk m c 3 t) (iblk m c 1 t) ⟨128 * b.val + j.val, by omega⟩ l = Z m c (ix2 (krow (bk t b) j) ⟨1024 + l.val, by omega⟩) := fun l =>
    tall_row t (fun n => Z m c (ix2 n ⟨1024 + l.val, by omega⟩)) b j (fun r => (iblk m c 3 t : Vec Ideal S128x128 .f32) (ix2 r l))
      (fun r => (iblk m c 1 t : Vec Ideal S1024x128 .f32) (ix2 r l)) (fun r => blk3 m c t r l) (fun r => blk1 m c t r l)
  have hc : ∀ e, tallF (iblk m c 7 t) (iblk m c 5 t) ⟨128 * b.val + j.val, by omega⟩ (ln g e) = cF (An m c) (krow (bk t b) j) e := fun e =>
    tall_row t (fun n => cF (An m c) n e) b j (fun r => (iblk m c 7 t : Vec Ideal S128x128 .f32) (ix2 r (ln g e)))
      (fun r => (iblk m c 5 t : Vec Ideal S1024x128 .f32) (ix2 r (ln g e))) (fun r => blk7 m c t r g e) (fun r => blk5 m c t r g e)
  have hs : ∀ e, tallF (iblk m c 8 t) (iblk m c 6 t) ⟨128 * b.val + j.val, by omega⟩ (ln g e) = sF (An m c) (krow (bk t b) j) e := fun e =>
    tall_row t (fun n => sF (An m c) n e) b j (fun r => (iblk m c 8 t : Vec Ideal S128x128 .f32) (ix2 r (ln g e)))
      (fun r => (iblk m c 6 t : Vec Ideal S1024x128 .f32) (ix2 r (ln g e))) (fun r => blk8 m c t r g e) (fun r => blk6 m c t r g e)
  unfold kF hF
  simp only [hz, hc, hs, blk10]
  refine congrArg (fun f => rotF (headF f _) _ _) (funext fun k => congrArg (Z m c) (congrArg (ix2 _) (Fin.ext ?_)))
  simp only [ln]; omega

theorem qF_apply (p : Fin 4) (r : Fin 1024) (h : Fin 2) (e : Fin 64) (B : Fin 64) (r' : Fin 128) (H : Fin 8) (hr : t.val * 1024 + r.val = (brow B r').val)
    (hH : 2 * p.val + h.val = H.val) :
    qF (iblk m c 0 t) (iblk m c 5 t) (iblk m c 6 t) (iblk m c 9 t) p r h e
      = hF (Z m c) (An m c) (Gq m c) (512 + 64 * H.val) (by omega) (brow B r') e * Ideal.ofBits .f32 0x3E000000#32 := by
  have hrow : rowT t.val (lt8 t) r = brow B r' := Fin.ext hr
  unfold qF hF
  simp only [blk0, blk5, blk6, blk9, hrow]
  refine congrArg (· * _) (congrArg (fun f => rotF (headF f _) _ _ e) (funext fun k => congrArg (Z m c) (congrArg (ix2 _) (Fin.ext ?_))))
  simp only [ln]; omega

/-- The head at side `h` of pair `p` of group `g`. -/
def hd8 (g p h : Fin 2) : Fin 8 := ⟨4 * g.val + (hd4 p h).val, by omega⟩

theorem hF_off (z : Vec Ideal S8192x1536 .f32) (A : FVec Ideal S8192x32 .f32) (g : Vec Ideal S64 .f32) (o o' : ℕ) (ho : o ≤ 1472) (ho' : o' ≤ 1472) (h : o = o')
    (n : Fin 8192) (e : Fin 64) : hF z A g o ho n e = hF z A g o' ho' n e := by
  subst h; rfl

open Classical in
theorem piece_value (g : Fin 2) (b : Fin 8) (p : Fin 2) (r : Fin 128) (h : Fin 2) (e : Fin 64) :
    pieceT (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) g b p (ix2 r (ln h e))
      = attnF (Z m c) (An m c) (Gq m c) (Gk m c) (Sk m c) (bk t b) r (hd8 g p h) e := by
  have hg : (hd8 g p h).val / 4 = g.val := by simp only [hd8]; omega
  have hv : ∀ j : Fin 256, tallF (iblk m c 4 t) (iblk m c 2 t) ⟨128 * b.val + j.val, by omega⟩ (ln g e)
      = Z m c (ix2 (krow (bk t b) j) ⟨1152 + 64 * ((hd8 g p h).val / 4) + e.val, by omega⟩) := fun j =>
    (tall_row t (fun n => Z m c (ix2 n ⟨1152 + (ln g e).val, by omega⟩)) b j (fun r => (iblk m c 4 t : Vec Ideal S128x128 .f32) (ix2 r (ln g e)))
      (fun r => (iblk m c 2 t : Vec Ideal S1024x128 .f32) (ix2 r (ln g e))) (fun r => blk4 m c t r (ln g e)) (fun r => blk2 m c t r (ln g e))).trans
      (congrArg (Z m c) (congrArg (ix2 _) (Fin.ext (by simp only [ln]; omega))))
  have hq : ∀ e', qF (iblk m c 0 t) (iblk m c 5 t) (iblk m c 6 t) (iblk m c 9 t) (pairQ g p) ⟨128 * b.val + r.val, by omega⟩ h e'
      = hF (Z m c) (An m c) (Gq m c) (512 + 64 * (hd8 g p h).val) (by omega) (brow (bk t b) r) e' * Ideal.ofBits .f32 0x3E000000#32 := fun e' =>
    qF_apply m c t (pairQ g p) _ h e' (bk t b) r (hd8 g p h) (by simp only [brow, bk]; omega)
      (by simp only [hd8, hd4]; fin_cases g <;> fin_cases p <;> simp [pairQ] <;> omega)
  have hk : ∀ (j : Fin 256) (e' : Fin 64), kF (iblk m c 1 t) (iblk m c 3 t) (iblk m c 5 t) (iblk m c 6 t) (iblk m c 7 t) (iblk m c 8 t) (iblk m c 10 t)
      ⟨128 * b.val + j.val, by omega⟩ g e' = hF (Z m c) (An m c) (Gk m c) (1024 + 64 * ((hd8 g p h).val / 4)) (by omega) (krow (bk t b) j) e' := fun j e' =>
    (congrFun (kF_apply m c t b j g) e').trans (hF_off _ _ _ _ _ _ _ (by rw [hg]) _ _)
  have hsees : ∀ j, (Sees (firstT (grid0.coords t) b = 1#1) r j ↔ Sees (bk t b = 0) r j) := fun j => by
    unfold Sees
    rw [first_iff, Fin.ext_iff]
    rfl
  refine (pieceT_apply _ _ _ _ _ _ _ _ _ _ _ _ _ g b p r h e).trans (Finset.sum_congr rfl fun j _ => congrArg₂ (· * ·) ?_ (hv j))
  exact congrFun (congrArg₂ softF (funext fun j => congrArg₂ (· + ·) (Finset.sum_congr rfl fun e' _ => congrArg₂ (· * ·) (hq e') (hk j e'))
    (if_congr (hsees j) rfl rfl)) (blk11 m c t (hd8 g p h))) j

theorem at_piece (g : Fin 2) (b : Fin 8) (p : Fin 2) (B : Fin 64) (r : Fin 128) (H : Fin 8) (e : Fin 64) (n : Fin 1024) (hB : t.val * 1024 + n.val = (brow B r).val)
    (x : S128x128.Idx) (hx0 : n.val = 128 * b.val + (x 0).val) (hx1 : (ocol H e).val = 128 * (2 * g.val + p.val) + (x 1).val) :
    pieceT (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) g b p x = attnF (Z m c) (An m c) (Gq m c) (Gk m c) (Sk m c) B r H e := by
  obtain ⟨h, e', he⟩ := ex_ln (x 1)
  have hx1' : (x 1).val = 64 * h.val + e'.val := congrArg Fin.val he
  have hx0' : (x 0).val < 128 := (x 0).isLt
  simp only [ocol] at hx1
  simp only [brow] at hB
  obtain rfl : e' = e := Fin.ext (by omega)
  obtain rfl : B = bk t b := Fin.ext (by simp only [bk]; omega)
  obtain rfl : H = hd8 g p h := Fin.ext (by simp only [hd8, hd4]; omega)
  rw [eq_ix2 x, he, show x 0 = r from Fin.ext (by simp only [bk] at hB; omega)]
  exact piece_value m c t g b p r h e'

set_option maxHeartbeats 4000000 in
theorem out_t (B : Fin 64) (r : Fin 128) (H : Fin 8) (e : Fin 64) (n : Fin 1024) (hB : t.val * 1024 + n.val = (brow B r).val) :
    out0_12 (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 n (ocol H e)) = attnF (Z m c) (An m c) (Gq m c) (Gk m c) (Sk m c) B r H e := by
  rw [out_pieces]
  canon_tiles x hx
  · exact at_piece m c t 1 7 1 B r H e n hB x hx0 hx1
  · exact at_piece m c t 1 7 0 B r H e n hB x hx0 hx1
  · exact at_piece m c t 1 6 1 B r H e n hB x hx0 hx1
  · exact at_piece m c t 1 6 0 B r H e n hB x hx0 hx1
  · exact at_piece m c t 1 5 1 B r H e n hB x hx0 hx1
  · exact at_piece m c t 1 5 0 B r H e n hB x hx0 hx1
  · exact at_piece m c t 1 4 1 B r H e n hB x hx0 hx1
  · exact at_piece m c t 1 4 0 B r H e n hB x hx0 hx1
  · exact at_piece m c t 1 3 1 B r H e n hB x hx0 hx1
  · exact at_piece m c t 1 3 0 B r H e n hB x hx0 hx1
  · exact at_piece m c t 1 2 1 B r H e n hB x hx0 hx1
  · exact at_piece m c t 1 2 0 B r H e n hB x hx0 hx1
  · exact at_piece m c t 1 1 1 B r H e n hB x hx0 hx1
  · exact at_piece m c t 1 1 0 B r H e n hB x hx0 hx1
  · exact at_piece m c t 1 0 1 B r H e n hB x (hx0.trans (Nat.zero_add _).symm) hx1
  · exact at_piece m c t 1 0 0 B r H e n hB x (hx0.trans (Nat.zero_add _).symm) hx1
  · exact at_piece m c t 0 7 1 B r H e n hB x hx0 hx1
  · exact at_piece m c t 0 7 0 B r H e n hB x hx0 (hx1.trans (Nat.zero_add _).symm)
  · exact at_piece m c t 0 6 1 B r H e n hB x hx0 hx1
  · exact at_piece m c t 0 6 0 B r H e n hB x hx0 (hx1.trans (Nat.zero_add _).symm)
  · exact at_piece m c t 0 5 1 B r H e n hB x hx0 hx1
  · exact at_piece m c t 0 5 0 B r H e n hB x hx0 (hx1.trans (Nat.zero_add _).symm)
  · exact at_piece m c t 0 4 1 B r H e n hB x hx0 hx1
  · exact at_piece m c t 0 4 0 B r H e n hB x hx0 (hx1.trans (Nat.zero_add _).symm)
  · exact at_piece m c t 0 3 1 B r H e n hB x hx0 hx1
  · exact at_piece m c t 0 3 0 B r H e n hB x hx0 (hx1.trans (Nat.zero_add _).symm)
  · exact at_piece m c t 0 2 1 B r H e n hB x hx0 hx1
  · exact at_piece m c t 0 2 0 B r H e n hB x hx0 (hx1.trans (Nat.zero_add _).symm)
  · exact at_piece m c t 0 1 1 B r H e n hB x hx0 hx1
  · exact at_piece m c t 0 1 0 B r H e n hB x hx0 (hx1.trans (Nat.zero_add _).symm)
  · exact at_piece m c t 0 0 1 B r H e n hB x (hx0.trans (Nat.zero_add _).symm) hx1
  · exact at_piece m c t 0 0 0 B r H e n hB x (hx0.trans (Nat.zero_add _).symm) (hx1.trans (Nat.zero_add _).symm)

theorem final12 (c : Dev nD) : (dats m 0 c).arrAt 12 cfg0.N = attnArr (Z m c) (An m c) (Gq m c) (Gk m c) (Sk m c) := by
  refine (dats m 0 c).arrAt_eq_of_covers 12 _ (by decide +kernel) fun t hf y => ?_
  obtain ⟨n, k, rfl⟩ : ∃ (n : Fin 1024) (k : Fin 512), y = ix2 n k := ⟨y 0, y 1, eq_ix2 y⟩
  obtain ⟨H, e, rfl⟩ := ex_ocol k
  obtain ⟨B, r, hB⟩ := ex_brow (rowT t.val (lt8 t) n)
  have e' : ((cfg0.win 12).blk t).view.emb (ix2 n (ocol H e)) = ix2 (brow B r) (ocol H e) := by
    rw [← hB]; unfold rowT; blk_ext [idx t]
  rw [e', attnArr_apply]
  blk_simp
  rw [after0_12]
  exact out_t m c t B r H e n (congrArg Fin.val hB)

theorem run : θ_run defs (onTc (τ := τ) (main (F := Ideal))) ⟨m, fun _ => 0, ρ⟩ fun r => ∀ c : Dev nD,
      r.2.mem ((c : Thread nD τ).loc main_v29) = attnArr (Z m c) (An m c) (Gq m c) (Gk m c) (Sk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ hr c => ⟨(hr c).1.trans (final12 m c), (hr c).2⟩) (Value.run_blocks m ρ)

end Cert.AttnfIdeal.Hand

end
-- ==== Proof.AttnfEq.lean ====
/- The attention of the forward pass: where its scores are numbers, its weights are quotients. -/
module

public import proofs.«01_k».proof.Proof.AttnfValue
public import proofs.«01_k».proof.Proof.Rms

@[expose] public section

set_option maxRecDepth 16384

noncomputable section

open Idealize.ShloMosaic Idealize.ShloMosaic.TcCoe Idealize.SL.Sem

namespace Cert.Proof.Attnf

open Cert.Reals Cert.Rms
open Cert.AttnfIdeal.Hand (angles hF rotF headF cF sF pe krow brow ocol Sees attnF scF softF mod32_lt)

theorem word_64 : Ideal.ofBits .f32 0x42800000#32 = ((64 : ℝ) : EReal) := by
  simp [Ideal.ofBits, Ideal.ieee, -EReal.coe_mul]; norm_num
theorem word_inv_64 : Ideal.ofBits .f32 0x3C800000#32 = ((1 / 64 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num
theorem word_bot : Ideal.ofBits .f32 0xFF800000#32 = ⊥ := by
  simp [Ideal.ofBits, Ideal.ieee]
/-- Division by 64 is multiplication by its inverse. -/
theorem div_64 (x : EReal) : Ideal.div x (Ideal.ofBits .f32 0x42800000#32) = x * Ideal.ofBits .f32 0x3C800000#32 := by
  rw [word_64, word_inv_64, Ideal.div_coe (by norm_num)]

/-! The weights of a row whose scores are numbers or minus infinity. -/

theorem opt_max {a b : EReal} (ha : a = ⊥ ∨ IsReal a) (hb : b = ⊥ ∨ IsReal b) : max a b = ⊥ ∨ IsReal (max a b) := by
  rcases max_choice a b with h | h <;> rw [h] <;> assumption
theorem opt_fold {n : ℕ} {s : Fin n → EReal} (hs : ∀ j, s j = ⊥ ∨ IsReal (s j)) (t : Finset (Fin n)) :
    t.fold max ⊥ s = ⊥ ∨ IsReal (t.fold max ⊥ s) := by
  classical
  induction t using Finset.induction_on with
  | empty => exact Or.inl rfl
  | insert a t h ih => rw [Finset.fold_insert h]; exact opt_max (hs a) ih
theorem exp_nonneg (x : EReal) : 0 ≤ Ideal.exp x := by
  induction x with
  | bot => exact le_rfl
  | top => exact le_top
  | coe r => rw [Ideal.exp_coe]; exact EReal.coe_nonneg.2 (Real.exp_pos r).le

section
variable {n : ℕ} (s : Fin n → EReal) (k : EReal)

/-- The row's largest score, the sink's among them. -/
def topF : EReal := max (Finset.fold max (Ideal.ofBits .f32 0xFF800000#32) s Finset.univ) k
/-- The sum of the row's weights. -/
def denF : EReal := ∑ x, Ideal.exp (s x - topF s k) + Ideal.exp (k - topF s k)

variable {s k} (hs : ∀ j, s j = ⊥ ∨ IsReal (s j)) (hk : IsReal k)
include hs hk

theorem real_top : IsReal (topF s k) := by
  unfold topF
  rw [word_bot]
  rcases opt_fold hs Finset.univ with h | h
  · rw [h, max_eq_right bot_le]; exact hk
  · rcases max_choice (Finset.fold max ⊥ s Finset.univ) k with e | e <;> rw [e] <;> assumption
theorem den_ne : denF s k ≠ 0 := by
  obtain ⟨a, ha⟩ := real_top hs hk
  obtain ⟨b, hb⟩ := hk
  unfold denF
  rw [ha, hb, ← EReal.coe_sub, Ideal.exp_coe]
  have h : (0 : EReal) < (Real.exp (b - a) : EReal) := EReal.coe_pos.2 (Real.exp_pos _)
  exact ne_of_gt (lt_of_lt_of_le h (le_add_of_nonneg_left (Finset.sum_nonneg fun x _ => exp_nonneg _)))
theorem soft_eq (j : Fin n) : softF s k j = Ideal.div (Ideal.exp (s j - topF s k)) (denF s k) :=
  Ideal.mul_one_div (den_ne hs hk)
/-- A row which is not seen has no weight. -/
theorem soft_bot (j : Fin n) (h : s j = ⊥) : softF s k j = 0 := by
  unfold softF
  rw [h, EReal.bot_sub, Ideal.exp_bot, zero_mul]

end

/-- The columns of the queries and the keys. -/
def qkcol (k : Fin 640) : Fin 1536 := ⟨512 + k.val, by omega⟩

/-! The scores are numbers on the rows which are seen. -/

theorem real_head {x g : Fin 64 → EReal} (hx : ∀ j, IsReal (x j)) (hg : ∀ j, IsReal (g j)) (e : Fin 64) : IsReal (headF x g e) := by
  unfold headF
  rw [← div_64, word_64, word_eps]
  exact ((hx e).mul (real_rinv (by norm_num) eps_pos hx)).mul (hg e)
theorem IsReal.neg {a : EReal} : IsReal a → IsReal (-a) := by
  rintro ⟨r, rfl⟩; exact ⟨-r, (EReal.coe_neg r).symm⟩
theorem real_cos {a : EReal} : IsReal a → IsReal (Ideal.cos a) := by
  rintro ⟨r, rfl⟩; exact ⟨_, rfl⟩
theorem real_sin {a : EReal} : IsReal a → IsReal (Ideal.sin a) := by
  rintro ⟨r, rfl⟩; exact ⟨_, rfl⟩

theorem real_angles (pos : IVec ⟨1, ![8192]⟩ 32) (n : Fin 8192) (k : Fin 32) : IsReal (angles pos (ix2 n k)) := by
  unfold angles
  pointwise
  refine IsReal.mul ⟨_, rfl⟩ (IsReal.div ?_ ⟨1, rfl⟩)
  rw [word_10000, word_64, show Ideal.ofBits .f32 0x40000000#32 = ((2 : ℝ) : EReal) from word_two]
  rw [show (FloatOps.sitofp (F := Ideal) FTy.f32 (BitVec.ofNat 32 k.val) : EReal) = (((BitVec.ofNat 32 k.val).toInt : ℝ) : EReal) from rfl, ← EReal.coe_mul,
    div_coe_coe _ (by norm_num)]
  exact ⟨_, (Real.rpow_pos_of_pos (by norm_num) _).ne', rfl⟩

section
variable (z : Vec Ideal Cert.AttnfIdeal.S8192x1536 .f32) (A : FVec Ideal Cert.AttnfIdeal.S8192x32 .f32) (gq gk : Vec Ideal Cert.AttnfIdeal.S64 .f32)

theorem real_hF {g : Vec Ideal Cert.AttnfIdeal.S64 .f32} {o : ℕ} (ho : o ≤ 1472) (n : Fin 8192) (hz : ∀ j : Fin 64, IsReal (z (ix2 n ⟨o + j.val, by omega⟩)))
    (hg : ∀ j, IsReal (g (ix1 j))) (hA : ∀ k, IsReal (A (ix2 n k))) (e : Fin 64) : IsReal (hF z A g o ho n e) := by
  unfold hF rotF cF sF
  refine ((real_head hz hg _).mul (real_cos (hA _))).add ((real_head hz hg _).mul ?_)
  split
  · exact IsReal.neg (real_sin (hA _))
  · exact real_sin (hA _)

/-- The scale may be taken out of a product of two heads. -/
theorem scale_out (q k : Fin 64 → EReal) : ∑ e, q e * Ideal.ofBits .f32 0x3E000000#32 * k e = (∑ e, k e * q e) * Ideal.ofBits .f32 0x3E000000#32 := by
  rw [word_eighth, mul_comm, coe_mul_sum _ (by norm_num)]
  exact Finset.sum_congr rfl fun e _ => by rw [mul_comm (q e), mul_assoc, mul_comm (q e)]

theorem scF_seen {B : Fin 64} {r : Fin 128} {H : Fin 8} {j : Fin 256} (h : Sees (B = 0) r j) : scF z A gq gk B r H j
    = (∑ e, hF z A gk (1024 + 64 * (H.val / 4)) (by omega) (krow B j) e * hF z A gq (512 + 64 * H.val) (by omega) (brow B r) e) * Ideal.ofBits .f32 0x3E000000#32 := by
  unfold scF
  rw [if_pos h]
  exact (add_zero _).trans (scale_out (fun e => hF z A gq (512 + 64 * H.val) (by omega) (brow B r) e) (fun e => hF z A gk (1024 + 64 * (H.val / 4)) (by omega) (krow B j) e))
theorem scF_unseen {B : Fin 64} {r : Fin 128} {H : Fin 8} {j : Fin 256} (h : ¬ Sees (B = 0) r j) : scF z A gq gk B r H j = ⊥ := by
  unfold scF
  simp only [if_neg h]
  simp

variable (hz : ∀ n (k : Fin 640), IsReal (z (ix2 n (qkcol k)))) (hq : ∀ j, IsReal (gq (ix1 j))) (hk : ∀ j, IsReal (gk (ix1 j))) (hA : ∀ n k, IsReal (A (ix2 n k)))
include hz hq hk hA

theorem scF_opt (B : Fin 64) (r : Fin 128) (H : Fin 8) (j : Fin 256) : scF z A gq gk B r H j = ⊥ ∨ IsReal (scF z A gq gk B r H j) := by
  have hz' : ∀ n (k : Fin 1536), 512 ≤ k.val → k.val < 1152 → IsReal (z (ix2 n k)) := fun n k h1 h2 => by
    have e : k = qkcol ⟨k.val - 512, by omega⟩ := Fin.ext (by simp only [qkcol]; omega)
    rw [e]; exact hz n _
  by_cases h : Sees (B = 0) r j
  · refine Or.inr ?_
    rw [scF_seen z A gq gk h, word_eighth]
    refine (IsReal.sum _ fun e => (real_hF z A _ _ (fun i => hz' _ _ (by dsimp only; omega) (by dsimp only; omega)) hk (hA _) e).mul
      (real_hF z A _ _ (fun i => hz' _ _ (by dsimp only; omega) (by dsimp only; omega)) hq (hA _) e)).mul (IsReal.coe _)
  · exact Or.inl (scF_unseen z A gq gk h)

end

end Cert.Proof.Attnf

end
-- ==== Proof.AttnfRef.lean ====
/- The attention of the forward pass: the reference's arrays, read index by index. -/
module

public import proofs.«01_k».proof.Proof.Gen.AttnfRefIdeal.Run
public import proofs.«01_k».proof.Proof.AttnfEq

@[expose] public section

set_option maxRecDepth 16384

noncomputable section

open Idealize.ShloMosaic Idealize.ShloMosaic.TcCoe Idealize.SL.Sem

namespace Cert.Proof.Attnf

open Cert.AttnfRefIdeal Cert.AttnfRefIdeal.Gen Cert.AttnfRefIdeal.Value Cert.Reals
open Cert.AttnfIdeal.Hand (angles hF rotF headF cF sF pe krow brow ocol Sees attnF scF softF attnArr attnArr_apply ex_brow ex_ocol reach_lo reach_hi own_block mod32_lt)

abbrev S8192x32 : Shape := ⟨2, ![8192, 32]⟩

variable (V0 : Valuation τ sig (Elt Ideal))

abbrev z0 : Vec Ideal S8192x1536 .f32 := V0 (Proc.devRef .tc main_arg0)
abbrev an0 : FVec Ideal S8192x32 .f32 := angles (V0 (Proc.devRef .tc main_arg1))
abbrev gq0 : Vec Ideal S64 .f32 := V0 (Proc.devRef .tc main_arg2)
abbrev gk0 : Vec Ideal S64 .f32 := V0 (Proc.devRef .tc main_arg3)
abbrev sk0 : Vec Ideal S8 .f32 := V0 (Proc.devRef .tc main_arg4)

theorem z0_congr {n n' : Fin 8192} {k k' : Fin 1536} (hn : n.val = n'.val) (hk : k.val = k'.val) : z0 V0 (ix2 n k) = z0 V0 (ix2 n' k') := by
  rw [Fin.ext hn, Fin.ext hk]

theorem v20_apply (n : Fin 8192) (k : Fin 32) : res_main_v20 V0 (ix3 0 n k) = an0 V0 (ix2 n k) := by
  unfold res_main_v20 an0 angles
  pointwise

theorem v21_apply (n : Fin 8192) (k : Fin 32) : res_main_v21 V0 (ix3 0 n k) = Ideal.cos (an0 V0 (ix2 n k)) := by
  rw [← v20_apply]; rfl
theorem v22_apply (n : Fin 8192) (k : Fin 32) : res_main_v22 V0 (ix3 0 n k) = Ideal.sin (an0 V0 (ix2 n k)) := by
  rw [← v20_apply]; rfl

theorem v23_apply (n : Fin 8192) (H : Fin 8) (e : Fin 64) : res_main_v23 V0 (ix4 0 n H e) = z0 V0 (ix2 n ⟨512 + 64 * H.val + e.val, by omega⟩) := by
  unfold res_main_v23
  pointwise
  exact z0_congr V0 rfl (by dsimp only; omega)
theorem v24_apply (n : Fin 8192) (g : Fin 2) (e : Fin 64) : res_main_v24 V0 (ix4 0 n g e) = z0 V0 (ix2 n ⟨1024 + 64 * g.val + e.val, by omega⟩) := by
  unfold res_main_v24
  pointwise
  exact z0_congr V0 rfl (by dsimp only; omega)

theorem v38_apply (n : Fin 8192) (H : Fin 8) (e : Fin 64) : res_main_v38 V0 (ix4 0 n H e)
    = headF (fun j => z0 V0 (ix2 n ⟨512 + 64 * H.val + j.val, by omega⟩)) (fun j => gq0 V0 (ix1 j)) e := by
  unfold res_main_v38
  pointwise [v23_apply, div_64]
  rfl
theorem v66_apply (n : Fin 8192) (g : Fin 2) (e : Fin 64) : res_main_v66 V0 (ix4 0 n g e)
    = headF (fun j => z0 V0 (ix2 n ⟨1024 + 64 * g.val + j.val, by omega⟩)) (fun j => gk0 V0 (ix1 j)) e := by
  unfold res_main_v66
  pointwise [v24_apply, div_64]
  rfl

theorem v39_apply (n : Fin 8192) (H : Fin 8) (k : Fin 32) : res_main_v39 V0 (ix4 0 n H k) = res_main_v38 V0 (ix4 0 n H ⟨k.val, by omega⟩) := by
  unfold res_main_v39
  pointwise
theorem v40_apply (n : Fin 8192) (H : Fin 8) (k : Fin 32) : res_main_v40 V0 (ix4 0 n H k) = res_main_v38 V0 (ix4 0 n H ⟨32 + k.val, by omega⟩) := by
  unfold res_main_v40
  pointwise
theorem v67_apply (n : Fin 8192) (g : Fin 2) (k : Fin 32) : res_main_v67 V0 (ix4 0 n g k) = res_main_v66 V0 (ix4 0 n g ⟨k.val, by omega⟩) := by
  unfold res_main_v67
  pointwise
theorem v68_apply (n : Fin 8192) (g : Fin 2) (k : Fin 32) : res_main_v68 V0 (ix4 0 n g k) = res_main_v66 V0 (ix4 0 n g ⟨32 + k.val, by omega⟩) := by
  unfold res_main_v68
  pointwise
theorem v41_apply (n : Fin 8192) (k : Fin 32) : res_main_v41 V0 (ix4 0 n 0 k) = Ideal.cos (an0 V0 (ix2 n k)) := by
  unfold res_main_v41
  pointwise [v21_apply]
theorem v42_apply (n : Fin 8192) (k : Fin 32) : res_main_v42 V0 (ix4 0 n 0 k) = Ideal.sin (an0 V0 (ix2 n k)) := by
  unfold res_main_v42
  pointwise [v22_apply]
theorem v69_apply (n : Fin 8192) (k : Fin 32) : res_main_v69 V0 (ix4 0 n 0 k) = Ideal.cos (an0 V0 (ix2 n k)) := by
  unfold res_main_v69
  pointwise [v21_apply]
theorem v70_apply (n : Fin 8192) (k : Fin 32) : res_main_v70 V0 (ix4 0 n 0 k) = Ideal.sin (an0 V0 (ix2 n k)) := by
  unfold res_main_v70
  pointwise [v22_apply]

/-- A head's two halves, rotated against each other. -/
theorem rot_eq (y : Fin 64 → EReal) (n : Fin 8192) (e : Fin 64) (A : FVec Ideal S8192x32 .f32) :
    (if h : e.val < 32 then y ⟨(⟨e.val, h⟩ : Fin 32).val, by omega⟩ * Ideal.cos (A (ix2 n ⟨e.val, h⟩)) - y ⟨32 + (⟨e.val, h⟩ : Fin 32).val, by omega⟩ * Ideal.sin (A (ix2 n ⟨e.val, h⟩))
      else y ⟨32 + (⟨e.val - 32, by omega⟩ : Fin 32).val, by omega⟩ * Ideal.cos (A (ix2 n ⟨e.val - 32, by omega⟩)) + y ⟨(⟨e.val - 32, by omega⟩ : Fin 32).val, by omega⟩ * Ideal.sin (A (ix2 n ⟨e.val - 32, by omega⟩)))
      = rotF y (cF A n) (sF A n) e := by
  have hy : ∀ k k' : Fin 64, k.val = k'.val → y k = y k' := fun k k' h => congrArg y (Fin.ext h)
  have ha : ∀ k k' : Fin 32, k.val = k'.val → A (ix2 n k) = A (ix2 n k') := fun k k' h => congrArg A (congrArg (ix2 n) (Fin.ext h))
  unfold rotF cF sF
  split
  · next h =>
    rw [mul_neg, ← sub_eq_add_neg]
    exact congrArg₂ (· - ·) (congrArg₂ (· * ·) (hy _ _ rfl) (congrArg Ideal.cos (ha _ _ (Nat.mod_eq_of_lt h).symm)))
      (congrArg₂ (· * ·) (hy _ _ (by simp only [pe]; omega)) (congrArg Ideal.sin (ha _ _ (Nat.mod_eq_of_lt h).symm)))
  · next h =>
    exact congrArg₂ (· + ·) (congrArg₂ (· * ·) (hy _ _ (by dsimp only; omega)) (congrArg Ideal.cos (ha _ _ (by dsimp only; omega))))
      (congrArg₂ (· * ·) (hy _ _ (by simp only [pe]; omega)) (congrArg Ideal.sin (ha _ _ (by dsimp only; omega))))

def qR : FVec Ideal S1x8192x8x64 .f32 :=
  concatenate S1x8192x8x64 3 [⟨S1x8192x8x32, (subf (mulf (res_main_v39 V0) (broadcastInDim S1x8192x8x32 ![0, 1, 2, 3] bcast_S1x8192x1x32_S1x8192x8x32_0_1_2_3 (res_main_v41 V0))) (mulf (res_main_v40 V0) (broadcastInDim S1x8192x8x32 ![0, 1, 2, 3] bcast_S1x8192x1x32_S1x8192x8x32_0_1_2_3 (res_main_v42 V0))))⟩, ⟨S1x8192x8x32, (addf (mulf (res_main_v40 V0) (broadcastInDim S1x8192x8x32 ![0, 1, 2, 3] bcast_S1x8192x1x32_S1x8192x8x32_0_1_2_3 (res_main_v41 V0))) (mulf (res_main_v39 V0) (broadcastInDim S1x8192x8x32 ![0, 1, 2, 3] bcast_S1x8192x1x32_S1x8192x8x32_0_1_2_3 (res_main_v42 V0))))⟩] concatenates_S1x8192x8x32_S1x8192x8x32_S1x8192x8x64_d3
theorem qR_apply (n : Fin 8192) (H : Fin 8) (e : Fin 64) : qR V0 (ix4 0 n H e) = hF (z0 V0) (an0 V0) (gq0 V0) (512 + 64 * H.val) (by omega) n e := by
  unfold qR
  pointwise [v39_apply, v40_apply, v41_apply, v42_apply, v38_apply]
  exact rot_eq _ n e (an0 V0)

def kR : FVec Ideal S1x8192x2x64 .f32 :=
  concatenate S1x8192x2x64 3 [⟨S1x8192x2x32, (subf (mulf (res_main_v67 V0) (broadcastInDim S1x8192x2x32 ![0, 1, 2, 3] bcast_S1x8192x1x32_S1x8192x2x32_0_1_2_3 (res_main_v69 V0))) (mulf (res_main_v68 V0) (broadcastInDim S1x8192x2x32 ![0, 1, 2, 3] bcast_S1x8192x1x32_S1x8192x2x32_0_1_2_3 (res_main_v70 V0))))⟩, ⟨S1x8192x2x32, (addf (mulf (res_main_v68 V0) (broadcastInDim S1x8192x2x32 ![0, 1, 2, 3] bcast_S1x8192x1x32_S1x8192x2x32_0_1_2_3 (res_main_v69 V0))) (mulf (res_main_v67 V0) (broadcastInDim S1x8192x2x32 ![0, 1, 2, 3] bcast_S1x8192x1x32_S1x8192x2x32_0_1_2_3 (res_main_v70 V0))))⟩] concatenates_S1x8192x2x32_S1x8192x2x32_S1x8192x2x64_d3
theorem kR_apply (n : Fin 8192) (g : Fin 2) (e : Fin 64) : kR V0 (ix4 0 n g e) = hF (z0 V0) (an0 V0) (gk0 V0) (1024 + 64 * g.val) (by omega) n e := by
  unfold kR
  pointwise [v67_apply, v68_apply, v69_apply, v70_apply, v66_apply]
  exact rot_eq _ n e (an0 V0)

theorem v83_apply (B : Fin 64) (r : Fin 128) (g : Fin 2) (e : Fin 64) : res_main_v83 V0 (ix5 0 B r g e)
    = hF (z0 V0) (an0 V0) (gk0 V0) (1024 + 64 * g.val) (by omega) (brow B r) e := by
  rw [← kR_apply]
  show (shapeCast _ (kR V0) shapeCasts_S1x8192x2x64_S1x64x128x2x64 : FVec Ideal S1x64x128x2x64 .f32) (ix5 0 B r g e) = _
  pointwise
  exact congrArg (kR V0) (congrArg (ix4 0 · g e) (Fin.ext (by simp only [brow]; omega)))

theorem v89_apply (B : Fin 64) (r : Fin 128) (g : Fin 2) (e : Fin 64) : res_main_v89 V0 (ix5 0 B r g e) = z0 V0 (ix2 (brow B r) ⟨1152 + 64 * g.val + e.val, by omega⟩) := by
  unfold res_main_v89
  pointwise
  exact z0_congr V0 (by simp only [brow]; omega) (by dsimp only; omega)

/-- A block's rows after the rows of the block before it. -/
def bandR (x : FVec Ideal S1x64x128x2x64 .f32) : FVec Ideal S1x64x256x2x64 .f32 :=
  concatenate S1x64x256x2x64 2 [⟨S1x64x128x2x64, (concatenate S1x64x128x2x64 1 [⟨S1x1x128x2x64, (broadcastInDim S1x1x128x2x64 ![] bcast_S_S1x1x128x2x64 (constant S_ .f32 0x00000000#32))⟩, ⟨S1x63x128x2x64, (extractStridedSlice S1x63x128x2x64 ![0, 0, 0, 0, 0] x slices_S1x64x128x2x64_S1x63x128x2x64_0_0_0_0_0)⟩] concatenates_S1x1x128x2x64_S1x63x128x2x64_S1x64x128x2x64_d1)⟩, ⟨S1x64x128x2x64, x⟩] concatenates_S1x64x128x2x64_S1x64x128x2x64_S1x64x256x2x64_d2

theorem bandR_apply (x : FVec Ideal S1x64x128x2x64 .f32) (f : Fin 8192 → Fin 2 → Fin 64 → EReal) (hx : ∀ B r g e, x (ix5 0 B r g e) = f (brow B r) g e)
    (B : Fin 64) (j : Fin 256) (g : Fin 2) (e : Fin 64) : bandR x (ix5 0 B j g e) = if B = 0 ∧ j.val < 128 then 0 else f (krow B j) g e := by
  unfold bandR
  pointwise [hx]
  have hB : B = 0 ↔ B.val < 1 := by rw [Fin.ext_iff]; show B.val = 0 ↔ _; omega
  have hf : ∀ n n' : Fin 8192, n.val = n'.val → f n g e = f n' g e := fun n n' h => by rw [Fin.ext h]
  by_cases hj : j.val < 128
  · rw [dif_pos hj]
    by_cases h0 : B.val < 1
    · rw [dif_pos h0, if_pos ⟨hB.2 h0, hj⟩]
    · have hn : ¬ (B = 0 ∧ j.val < 128) := fun h => h0 (hB.1 h.1)
      rw [dif_neg h0, if_neg hn]
      exact hf _ _ (by simp only [brow, krow, if_pos hj])
  · have hn : ¬ (B = 0 ∧ j.val < 128) := fun h => hj h.2
    rw [dif_neg hj, if_neg hn]
    exact hf _ _ (by simp only [brow, krow, if_neg hj])

/-- The head of group `g` and place `a`. -/
def hd (g : Fin 2) (a : Fin 4) : Fin 8 := ⟨4 * g.val + a.val, by omega⟩
abbrev qRow (B : Fin 64) (r : Fin 128) (H : Fin 8) : Fin 64 → EReal := hF (z0 V0) (an0 V0) (gq0 V0) (512 + 64 * H.val) (by omega) (brow B r)
abbrev kRow (n : Fin 8192) (g : Fin 2) : Fin 64 → EReal := hF (z0 V0) (an0 V0) (gk0 V0) (1024 + 64 * g.val) (by omega) n

def qB : FVec Ideal S1x64x128x2x4x64 .f32 := shapeCast _ (qR V0) shapeCasts_S1x8192x8x64_S1x64x128x2x4x64
theorem qB_apply (B : Fin 64) (r : Fin 128) (g : Fin 2) (a : Fin 4) (e : Fin 64) : qB V0 (ix6 0 B r g a e) = qRow V0 B r (hd g a) e := by
  refine Eq.trans ?_ (qR_apply V0 (brow B r) (hd g a) e)
  unfold qB
  pointwise
  have key : ∀ n n' H H', n = n' → H = H' → qR V0 (ix4 0 n H e) = qR V0 (ix4 0 n' H' e) := by rintro _ _ _ _ rfl rfl; rfl
  exact key _ _ _ _ (Fin.ext (by simp only [brow]; omega)) (Fin.ext (by simp only [hd]; omega))

end Cert.Proof.Attnf

end
-- ==== Proof.AttnfScore.lean ====
/- The attention of the forward pass: the reference's scores and its rows. -/
module

public import proofs.«01_k».proof.Proof.Gen.AttnfRefIdeal.Run
public import proofs.«01_k».proof.Proof.AttnfValue
public import proofs.«01_k».proof.Proof.AttnfRef

@[expose] public section

set_option maxRecDepth 16384

noncomputable section

open Idealize.ShloMosaic Idealize.ShloMosaic.TcCoe Idealize.SL.Sem

namespace Cert.Proof.Attnf

open Cert.AttnfRefIdeal Cert.AttnfRefIdeal.Gen Cert.AttnfRefIdeal.Value Cert.Reals
open Cert.AttnfIdeal.Hand (angles hF rotF headF cF sF pe krow brow ocol Sees attnF scF softF attnArr attnArr_apply ex_brow ex_ocol reach_lo reach_hi own_block mod32_lt)

variable (V0 : Valuation τ sig (Elt Ideal))

/-- The products of a block's queries with the band's keys, scaled. -/
def prodR : FVec Ideal S1x64x2x4x128x256 .f32 :=
  mulf (transpose S1x64x2x4x128x256 [0, 1, 2, 5, 4, 3] (Host.dotGeneral (F := Ideal) dot_S1x64x256x2x64_S1x64x128x2x4x64_S1x64x2x256x128x4_4_5_2_24_013_013 none (bandR (res_main_v83 V0)) (qB V0) : FVec Ideal S1x64x2x256x128x4 .f32) transposes_S1x64x2x256x128x4_S1x64x2x4x128x256_0_1_2_5_4_3) (broadcastInDim S1x64x2x4x128x256 ![] bcast_S_S1x64x2x4x128x256 (constant S_ .f32 0x3E000000#32))
theorem prodR_apply (B : Fin 64) (g : Fin 2) (a : Fin 4) (r : Fin 128) (j : Fin 256) : prodR V0 (ix6 0 B g a r j)
    = (∑ e, (if B = 0 ∧ j.val < 128 then 0 else kRow V0 (krow B j) g e) * qRow V0 B r (hd g a) e) * Ideal.ofBits .f32 0x3E000000#32 := by
  unfold prodR
  pointwise [bandR_apply _ (fun n g e => kRow V0 n g e) (v83_apply V0), qB_apply]

/-- Which rows of the band a block's rows see. -/
def maskR : IVec S64x128x256 1 :=
  andi (broadcastInDim S64x128x256 ![0, 1, 2] bcast_S1x128x256_S64x128x256_0_1_2 (broadcastInDim S1x128x256 ![1, 2] bcast_S128x256_S1x128x256_1_2 (andi (cmpi .sge (res_main_v107 V0) (broadcastInDim S128x256 ![] bcast_S_S128x256 (constantI S_ 32 0#32))) (cmpi .slt (res_main_v107 V0) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (broadcastInDim S1x1x256 ![1, 2] bcast_S1x256_S1x1x256_1_2 (cmpi .sge (res_main_v104 V0) (broadcastInDim S1x256 ![] bcast_S_S1x256 (constantI S_ 32 128#32)))))))

theorem after_first (B : Fin 64) : IntOp.cmpi .sgt (BitVec.ofNat 32 B.val) 0#32 = if B = 0 then 0#1 else 1#1 := by
  revert B; decide +kernel

open Classical in
theorem maskR_apply (B : Fin 64) (r : Fin 128) (j : Fin 256) : maskR V0 (ix3 B r j) = if Sees (B = 0) r j then 1#1 else 0#1 := by
  unfold maskR res_main_v107 res_main_v104
  pointwise
  rw [reach_lo, reach_hi, own_block, after_first]
  unfold Sees
  by_cases h1 : j.val ≤ r.val + 128 <;> by_cases h2 : r.val < j.val <;> by_cases h3 : 128 ≤ j.val <;> by_cases h4 : B = 0 <;>
    simp only [h1, h2, h3, h4, if_true, if_false, true_and, and_true, false_and, and_false, true_or, false_or, not_true_eq_false, not_false_eq_true] <;> first | rfl | (simp <;> rfl)

theorem v130_eq : res_main_v130 V0 = select (broadcastInDim S1x64x2x4x128x256 ![0, 1, 2, 3, 4, 5] bcast_S1x64x1x1x128x256_S1x64x2x4x128x256_0_1_2_3_4_5 (broadcastInDim S1x64x1x1x128x256 ![1, 4, 5] bcast_S64x128x256_S1x64x1x1x128x256_1_4_5 (maskR V0)))
    (prodR V0) (broadcastInDim S1x64x2x4x128x256 ![] bcast_S_S1x64x2x4x128x256 (constant S_ .f32 0xFF800000#32)) := rfl

open Classical in
/-- A score of the reference: minus infinity on the rows which are not seen. -/
def sR (B : Fin 64) (r : Fin 128) (g : Fin 2) (a : Fin 4) (j : Fin 256) : EReal :=
  if Sees (B = 0) r j then (∑ e, (if B = 0 ∧ j.val < 128 then 0 else kRow V0 (krow B j) g e) * qRow V0 B r (hd g a) e) * Ideal.ofBits .f32 0x3E000000#32
  else ⊥
theorem v130_apply (B : Fin 64) (g : Fin 2) (a : Fin 4) (r : Fin 128) (j : Fin 256) : res_main_v130 V0 (ix6 0 B g a r j) = sR V0 B r g a j := by
  rw [v130_eq]
  pointwise [maskR_apply, prodR_apply, word_bot]
  unfold sR
  split <;> rfl

theorem v132_apply (g : Fin 2) (a : Fin 4) : res_main_v132 V0 (ix6 0 0 g a 0 0) = sk0 V0 (ix1 (hd g a)) := by
  unfold res_main_v132
  pointwise
  exact congrArg (sk0 V0) (congrArg ix1 (Fin.ext (by simp only [hd]; omega)))

/-! The last axis's rows: the largest and the sum. -/

theorem red : S1x64x2x4x128x256.Reduces [5] S1x64x2x4x128 := by decide
theorem red_lift (B : Fin 64) (g : Fin 2) (a : Fin 4) (r : Fin 128) (j : Fin 256) : red.lift (ix5 0 B g a r) j = ix6 0 B g a r j := by
  funext c
  fin_cases c <;> rfl

/-- The largest score of a row. -/
def topR : FVec Ideal S1x64x2x4x128 .f32 := Host.reduce FloatOps.maximumf (res_main_v130 V0) (constant S_ .f32 0xFF800000#32) reducesTo_S1x64x2x4x128x256_S1x64x2x4x128_d5 h_S_
theorem topR_apply (B : Fin 64) (g : Fin 2) (a : Fin 4) (r : Fin 128) :
    topR V0 (ix5 0 B g a r) = Finset.univ.fold max (Ideal.ofBits .f32 0xFF800000#32) (sR V0 B r g a) :=
  (Host.reduce_eq_fold_single (max : EReal → EReal → EReal) (res_main_v130 V0) _ reducesTo_S1x64x2x4x128x256_S1x64x2x4x128_d5 red h_S_ (ix5 0 B g a r)).trans
    (congrArg (fun f : Fin 256 → EReal => Finset.univ.fold max (Ideal.ofBits .f32 0xFF800000#32) f)
      (funext fun k => (congrArg (res_main_v130 V0) (red_lift B g a r k)).trans (v130_apply V0 B g a r k)))

def mR (B : Fin 64) (r : Fin 128) (g : Fin 2) (a : Fin 4) : EReal :=
  max (Finset.univ.fold max (Ideal.ofBits .f32 0xFF800000#32) (sR V0 B r g a)) (sk0 V0 (ix1 (hd g a)))
theorem max_rows (t : FVec Ideal S1x64x2x4x128 .f32) (u : FVec Ideal S1x1x2x4x1x1 .f32) (B : Fin 64) (g : Fin 2) (a : Fin 4) (r : Fin 128) :
    maximumf (broadcastInDim S1x64x2x4x128x1 ![0, 1, 2, 3, 4] bcast_S1x64x2x4x128_S1x64x2x4x128x1_0_1_2_3_4 t)
      (broadcastInDim S1x64x2x4x128x1 ![0, 1, 2, 3, 4, 5] bcast_S1x1x2x4x1x1_S1x64x2x4x128x1_0_1_2_3_4_5 u) (ix6 0 B g a r 0)
      = max (t (ix5 0 B g a r)) (u (ix6 0 0 g a 0 0)) := by
  pointwise
theorem v136_eq : res_main_v136 V0 = maximumf (broadcastInDim S1x64x2x4x128x1 ![0, 1, 2, 3, 4] bcast_S1x64x2x4x128_S1x64x2x4x128x1_0_1_2_3_4 (topR V0))
    (broadcastInDim S1x64x2x4x128x1 ![0, 1, 2, 3, 4, 5] bcast_S1x1x2x4x1x1_S1x64x2x4x128x1_0_1_2_3_4_5 (res_main_v132 V0)) := rfl
theorem v136_apply (B : Fin 64) (g : Fin 2) (a : Fin 4) (r : Fin 128) : res_main_v136 V0 (ix6 0 B g a r 0) = mR V0 B r g a := by
  rw [v136_eq, max_rows, topR_apply, v132_apply]
  unfold mR
  with_reducible rfl
theorem v139_apply (B : Fin 64) (g : Fin 2) (a : Fin 4) (r : Fin 128) (j : Fin 256) : res_main_v139 V0 (ix6 0 B g a r j) = Ideal.exp (sR V0 B r g a j - mR V0 B r g a) := by
  unfold res_main_v139
  pointwise [v130_apply, v136_apply]

theorem sum_last (x : FVec Ideal S1x64x2x4x128x256 .f32) (B : Fin 64) (g : Fin 2) (a : Fin 4) (r : Fin 128) :
    (Host.reduceAdd x (constant S_ .f32 0x00000000#32) reducesTo_S1x64x2x4x128x256_S1x64x2x4x128_d5 h_S_ : FVec Ideal S1x64x2x4x128 .f32) (ix5 0 B g a r)
      = ∑ j, x (ix6 0 B g a r j) :=
  (Ideal.hostReduceAdd_single _ red x _ (ix5 0 B g a r)).trans
    ((congrArg₂ (· + ·) word_zero (Finset.sum_congr rfl fun k _ => congrArg x (red_lift B g a r k))).trans (zero_add _))

/-- The sum of a row's weights. -/
def sumR : FVec Ideal S1x64x2x4x128 .f32 := Host.reduceAdd (res_main_v139 V0) (constant S_ .f32 0x00000000#32) reducesTo_S1x64x2x4x128x256_S1x64x2x4x128_d5 h_S_
theorem sumR_apply (B : Fin 64) (g : Fin 2) (a : Fin 4) (r : Fin 128) : sumR V0 (ix5 0 B g a r) = ∑ j, Ideal.exp (sR V0 B r g a j - mR V0 B r g a) :=
  (sum_last (res_main_v139 V0) B g a r).trans (Finset.sum_congr rfl fun j _ => v139_apply V0 B g a r j)

/-- The denominators. -/
def denR : FVec Ideal S1x64x2x4x128x1 .f32 :=
  addf (broadcastInDim S1x64x2x4x128x1 ![0, 1, 2, 3, 4] bcast_S1x64x2x4x128_S1x64x2x4x128x1_0_1_2_3_4 (sumR V0)) (Host.exp (subf (broadcastInDim S1x64x2x4x128x1 ![0, 1, 2, 3, 4, 5] bcast_S1x1x2x4x1x1_S1x64x2x4x128x1_0_1_2_3_4_5 (res_main_v132 V0)) (res_main_v136 V0)))
def dR (B : Fin 64) (r : Fin 128) (g : Fin 2) (a : Fin 4) : EReal :=
  ∑ x, Ideal.exp (sR V0 B r g a x - mR V0 B r g a) + Ideal.exp (sk0 V0 (ix1 (hd g a)) - mR V0 B r g a)
theorem denR_apply (B : Fin 64) (g : Fin 2) (a : Fin 4) (r : Fin 128) : denR V0 (ix6 0 B g a r 0) = dR V0 B r g a := by
  unfold denR
  pointwise [sumR_apply, v132_apply, v136_apply]
  rfl

def probR : FVec Ideal S1x64x2x4x128x256 .f32 :=
  Host.divf (res_main_v139 V0) (broadcastInDim S1x64x2x4x128x256 ![0, 1, 2, 3, 4, 5] bcast_S1x64x2x4x128x1_S1x64x2x4x128x256_0_1_2_3_4_5 (denR V0))
theorem probR_apply (B : Fin 64) (g : Fin 2) (a : Fin 4) (r : Fin 128) (j : Fin 256) : probR V0 (ix6 0 B g a r j)
    = Ideal.div (Ideal.exp (sR V0 B r g a j - mR V0 B r g a)) (dR V0 B r g a) := by
  unfold probR
  pointwise [v139_apply, denR_apply]

/-- The band's values, each row with its weight. -/
def mixR (v : FVec Ideal S1x64x256x2x64 .f32) (p : FVec Ideal S1x64x2x4x128x256 .f32) : FVec Ideal S1x64x2x64x4x128 .f32 :=
  Host.dotGeneral dot_S1x64x256x2x64_S1x64x2x4x128x256_S1x64x2x64x4x128_2_5_4_34_013_012 none v p
theorem mixR_apply (v : FVec Ideal S1x64x256x2x64 .f32) (p : FVec Ideal S1x64x2x4x128x256 .f32) (B : Fin 64) (g : Fin 2) (e : Fin 64) (a : Fin 4) (r : Fin 128) :
    mixR v p (ix6 0 B g e a r) = ∑ j : Fin 256, v (ix5 0 B j g e) * p (ix6 0 B g a r j) := by
  unfold mixR
  pointwise

/-- The heads of a row, one after the other. -/
def rowsR (y : FVec Ideal S1x64x2x64x4x128 .f32) : FVec Ideal S8192x512 .f32 :=
  shapeCast _ (shapeCast _ (transpose S1x64x128x2x4x64 [0, 1, 5, 2, 4, 3] y transposes_S1x64x2x64x4x128_S1x64x128x2x4x64_0_1_5_2_4_3) shapeCasts_S1x64x128x2x4x64_S1x8192x512) shapeCasts_S1x8192x512_S8192x512
theorem rowsR_apply (y : FVec Ideal S1x64x2x64x4x128 .f32) (B : Fin 64) (r : Fin 128) (g : Fin 2) (a : Fin 4) (e : Fin 64) :
    rowsR y (ix2 (brow B r) (ocol (hd g a) e)) = y (ix6 0 B g e a r) := by
  have key : ∀ B' r' g' a' e', B' = B → r' = r → g' = g → a' = a → e' = e → y (ix6 0 B' g' e' a' r') = y (ix6 0 B g e a r) := by
    rintro _ _ _ _ _ rfl rfl rfl rfl rfl; rfl
  unfold rowsR
  pointwise
  exact key _ _ _ _ _ (Fin.ext (by simp only [brow]; omega)) (Fin.ext (by simp only [brow]; omega)) (Fin.ext (by simp only [ocol, hd]; omega))
    (Fin.ext (by simp only [ocol, hd]; omega)) (Fin.ext (by simp only [ocol, hd]; omega))

/-- The attention's rows. -/
def attR : FVec Ideal S8192x512 .f32 := rowsR (mixR (bandR (res_main_v89 V0)) (probR V0))

theorem attR_apply (B : Fin 64) (r : Fin 128) (g : Fin 2) (a : Fin 4) (e : Fin 64) : attR V0 (ix2 (brow B r) (ocol (hd g a) e))
    = ∑ j : Fin 256, (if B = 0 ∧ j.val < 128 then 0 else z0 V0 (ix2 (krow B j) ⟨1152 + 64 * g.val + e.val, by omega⟩))
      * Ideal.div (Ideal.exp (sR V0 B r g a j - mR V0 B r g a)) (dR V0 B r g a) := by
  unfold attR
  rw [rowsR_apply, mixR_apply]
  refine Finset.sum_congr rfl fun j _ => ?_
  rw [bandR_apply _ (fun n g e => z0 V0 (ix2 n ⟨1152 + 64 * g.val + e.val, by omega⟩)) (v89_apply V0), probR_apply]

end Cert.Proof.Attnf

end
-- ==== Proof.Attnf.lean ====
/- The attention of the forward pass: its claims. -/
module

public import proofs.«01_k».proof.Defs
public import proofs.«01_k».proof.Proof.Gen.Attnf.Frame
public import proofs.«01_k».proof.Proof.AttnfScore

@[expose] public section

set_option maxRecDepth 16384

noncomputable section

open Idealize.ShloMosaic Idealize.ShloMosaic.TcCoe Idealize.SL.Sem

namespace Cert.Proof.Attnf

open Cert.AttnfRefIdeal Cert.AttnfRefIdeal.Gen Cert.AttnfRefIdeal.Value Cert.Reals Cert.Rms
open Cert.AttnfIdeal.Hand (angles hF brow krow ocol Sees attnF scF softF attnArr attnArr_apply ex_brow ex_ocol hF_off Z Pos Gq Gk Sk An)

/-- The side conditions of the precondition's function. -/
instance pre_facts : Cert.Pre_attnf_finite.Facts := by constructor <;> decide

theorem preserves : Cert.preserves_Attnf_AttnfIdeal := IdealRules.named_const.statement Cert.AttnfIdeal.κ "mask" .f32 _ _ rfl

theorem frame : Cert.quiescent_Attnf := fun m ρ _ => Cert.Attnf.Gen.frame m ρ
theorem frame_ideal : Cert.quiescent_AttnfIdeal := fun m ρ _ => Cert.AttnfIdeal.Gen.frame m ρ
theorem frame_ideal_pre : Cert.quiescent_AttnfIdeal_pre_attnf_finite := fun m ρ _ => Cert.AttnfIdeal.Gen.frame m ρ
theorem frame_ref : Cert.quiescent_AttnfRefIdeal := fun m ρ _ =>
  (θ_run Cert.AttnfRefIdeal.defs _ _).mono (fun r h => ⟨fun c => (h c).2,
      Idealize.ShloMosaic.sem_eq_zero_of_no_sems (by decide) r.2⟩)
    (Cert.AttnfRefIdeal.Value.run (F := Ideal) m ρ)
theorem frame_ref_pre : Cert.quiescent_AttnfRefIdeal_pre_attnf_finite := fun m ρ _ => frame_ref m ρ trivial

section
variable (V0 : Valuation τ sig (Elt Ideal))

theorem hd_div (g : Fin 2) (a : Fin 4) : (hd g a).val / 4 = g.val := by simp only [hd]; omega

/-- The reference's scores are the kernel's. -/
theorem sR_eq (B : Fin 64) (r : Fin 128) (g : Fin 2) (a : Fin 4) : sR V0 B r g a = scF (z0 V0) (an0 V0) (gq0 V0) (gk0 V0) B r (hd g a) := by
  funext j
  unfold sR
  by_cases h : Sees (B = 0) r j
  · have hn : ¬ (B = 0 ∧ j.val < 128) := fun hc => h.2.elim (fun h' => absurd hc.2 (not_lt.2 h')) (fun h' => h' hc.1)
    rw [if_pos h, scF_seen _ _ _ _ h]
    refine congrArg (· * Ideal.ofBits .f32 0x3E000000#32) (Finset.sum_congr rfl fun e _ => ?_)
    rw [if_neg hn]
    exact congrArg (· * qRow V0 B r (hd g a) e) (hF_off _ _ _ _ _ _ _ (by rw [hd_div]) _ _)
  · rw [if_neg h, scF_unseen _ _ _ _ h]

variable (hz : ∀ n (k : Fin 640), IsReal (z0 V0 (ix2 n (qkcol k)))) (hq : ∀ j, IsReal (gq0 V0 (ix1 j))) (hk : ∀ j, IsReal (gk0 V0 (ix1 j)))
  (hs : ∀ H, IsReal (sk0 V0 (ix1 H)))
include hz hq hk hs

theorem attR_eq : attR V0 = attnArr (z0 V0) (an0 V0) (gq0 V0) (gk0 V0) (sk0 V0) := by
  funext i
  obtain ⟨n, k, rfl⟩ : ∃ (n : Fin 8192) (k : Fin 512), i = ix2 n k := ⟨i 0, i 1, eq_ix2 i⟩
  obtain ⟨B, r, rfl⟩ := ex_brow n
  obtain ⟨H, e, rfl⟩ := ex_ocol k
  obtain ⟨g, a, rfl⟩ : ∃ g a, H = hd g a := ⟨⟨H.val / 4, by omega⟩, ⟨H.val % 4, by omega⟩, Fin.ext (by simp only [hd]; omega)⟩
  rw [attR_apply, attnArr_apply]
  unfold attnF
  have ho := scF_opt (z0 V0) (an0 V0) (gq0 V0) (gk0 V0) hz hq hk (fun n k => real_angles _ n k) B r (hd g a)
  have hm : mR V0 B r g a = topF (scF (z0 V0) (an0 V0) (gq0 V0) (gk0 V0) B r (hd g a)) (sk0 V0 (ix1 (hd g a))) := by
    unfold mR topF
    rw [sR_eq]
  have hd' : dR V0 B r g a = denF (scF (z0 V0) (an0 V0) (gq0 V0) (gk0 V0) B r (hd g a)) (sk0 V0 (ix1 (hd g a))) := by
    unfold dR denF
    rw [hm, sR_eq]
  refine Finset.sum_congr rfl fun j _ => ?_
  rw [hd', hm, sR_eq, ← soft_eq ho (hs _) j, mul_comm]
  by_cases hc : B = 0 ∧ j.val < 128
  · have hn : ¬ Sees (B = 0) r j := fun h => h.2.elim (fun h' => absurd hc.2 (not_lt.2 h')) (fun h' => h' hc.1)
    rw [soft_bot ho (hs _) j (scF_unseen _ _ _ _ hn), zero_mul, zero_mul]
  · rw [if_neg hc]
    exact congrArg (_ * ·) (z0_congr V0 rfl (by dsimp only; rw [hd_div]))

end

variable (m : (ℓ : Loc Cert.AttnfIdeal.nD Cert.AttnfIdeal.τ Cert.AttnfIdeal.sig) → Buf (Elt Ideal) ℓ)
  (m' : (ℓ : Loc nD τ sig) → Buf (Elt Ideal) ℓ)

/-- The arguments of the precondition are numbers. -/
structure Real (c : Dev nD) : Prop where
  z : ∀ n (k : Fin 640), IsReal (Z m c (ix2 n (qkcol k)))
  gq : ∀ k, IsReal (Gq m c (ix1 k))
  gk : ∀ k, IsReal (Gk m c (ix1 k))
  sk : ∀ k, IsReal (Sk m c (ix1 k))

theorem real_of_pre (h : Cert.Pre_AttnfIdeal_attnf_finite m) (c : Dev nD) : Real m c := by
  obtain ⟨h0, h1, h2, h3⟩ := h c
  dsimp only [Cert.Pre_attnf_finite.fn] at h0 h1 h2 h3
  refine ⟨fun r k => ?_, fun k => ?_, fun k => ?_, fun k => ?_⟩
  · have := congrFun h0 (ix2 r k); revert this; pointwise; exact real_of_word
  · have := congrFun h1 (ix1 k); revert this; pointwise; exact real_of_word
  · have := congrFun h2 (ix1 k); revert this; pointwise; exact real_of_word
  · have := congrFun h3 (ix1 k); revert this; pointwise; exact real_of_word

theorem algebraic : Cert.algebraic_AttnfIdeal_AttnfRefIdeal_pre_attnf_finite := by
  intro m g m' g' hp h
  refine ⟨_, Cert.AttnfIdeal.Hand.run m g, ?_⟩
  refine (θ_run Cert.AttnfRefIdeal.defs _ _).mono (fun r hr c => ?_) (Cert.AttnfRefIdeal.Value.run (F := Ideal) m' g')
  obtain ⟨e0, e1, e2, e3, e4⟩ := h c
  have hR := real_of_pre m hp c
  have e0' : z0 (StableHlo.launchContents m' c) = Z m c := e0
  have e1' : an0 (StableHlo.launchContents m' c) = An m c := congrArg angles e1
  have e2' : gq0 (StableHlo.launchContents m' c) = Gq m c := e2
  have e3' : gk0 (StableHlo.launchContents m' c) = Gk m c := e3
  have e4' : sk0 (StableHlo.launchContents m' c) = Sk m c := e4
  have key := attR_eq (StableHlo.launchContents m' c) (fun n k => by rw [e0']; exact hR.z n k) (fun k => by rw [e2']; exact hR.gq k)
    (fun k => by rw [e3']; exact hR.gk k) (fun k => by rw [e4']; exact hR.sk k)
  rw [e0', e1', e2', e3', e4'] at key
  have hv : r.2.mem ((c.tc : Thread nD τ).loc main_v151) = attR (StableHlo.launchContents m' c) := (hr c).1
  exact ⟨hv.trans key, (hr c).2⟩

end Cert.Proof.Attnf

end
-- ==== Proof.TnKernel.lean ====
/- The weight gradient's plain product: what the kernel leaves in its result. -/
module

public import proofs.«01_k».proof.Proof.Gen.TnIdeal.Value
public import Idealize.ShloMosaic.Lib.Pipeline.ValueKit
public import Idealize.ShloMosaic.Lib.Pipeline.ReadBack
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.TnIdeal.Hand

open Cert.TnIdeal Cert.TnIdeal.Gen Cert.Reals

variable (m : (ℓ : Loc nD τ sig) → Buf (Elt Ideal) ℓ) (ρ : Dev nD → PrngReg)

/-- Of the grid's points four in a row make a block of the result; each of the four takes another tile of rows. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The activation and the cotangent. -/
abbrev X (c : Dev nD) : Vec Ideal S8192x4096 .f32 := m ((c : Thread nD τ).loc main_arg0)
abbrev Y (c : Dev nD) : Vec Ideal S8192x1024 .f32 := m ((c : Thread nD τ).loc main_arg1)

/-- The product of the activation, transposed, and the cotangent. -/
def wArr (c : Dev nD) : Vec Ideal S4096x1024 .bf16 := fun i => ∑ R : Fin 8192, X m c (ix2 R (i 0)) * Y m c (ix2 R (i 1))

theorem lt16 (t : Fin cfg0.N) : t.val < 16 := by have h : cfg0.N = 16 := N_0; have := t.isLt; omega

/-- Row `r` of tile `t`. -/
def row (t : Fin 4) (r : Fin 2048) : Fin 8192 := ⟨t.val * 2048 + r.val, by omega⟩

/-- Column `i` of block `q`. -/
def col (q : ℕ) (hq : q < 4) (i : Fin 1024) : Fin 4096 := ⟨q * 1024 + i.val, by omega⟩

theorem div_lt (t : Fin cfg0.N) : t.val / 4 < 4 := by have := lt16 t; omega

abbrev tile (n : ℕ) : Fin 4 := ⟨n % 4, Nat.mod_lt _ (by decide)⟩

theorem blk0 (c : Dev nD) (t : Fin cfg0.N) (r : Fin 2048) (i : Fin 1024) :
    (iblk m c 0 t : Vec Ideal S2048x1024 .bf16) (ix2 r i) = X m c (ix2 (row (tile t.val) r) (col (t.val / 4) (div_lt t) i)) := by
  unfold row col; blk_ext [iblk, V, idx t]

theorem blk1 (c : Dev nD) (t : Fin cfg0.N) (r : Fin 2048) (k : Fin 1024) :
    (iblk m c 1 t : Vec Ideal S2048x1024 .f32) (ix2 r k) = Y m c (ix2 (row (tile t.val) r) k) := by
  unfold row; blk_ext [iblk, V_main_arg1, idx t]

theorem pay2_apply (acc : Vec Ideal S1024x1024 .f32) (x : Vec Ideal S2048x1024 .bf16) (y : Vec Ideal S2048x1024 .f32) (i k : Fin 1024) :
    k0_pay2 acc x y (ix2 i k) = acc (ix2 i k) + ∑ r : Fin 2048, x (ix2 r i) * y (ix2 r k) := by
  unfold k0_pay2
  pointwise

/-- One tile's part of an entry of a block. -/
def term (c : Dev nD) (n : ℕ) (j : Fin 1024 × Fin 1024) : EReal :=
  if h : n / 4 < 4 then ∑ r : Fin 2048, X m c (ix2 (row (tile n) r) (col (n / 4) h j.1)) * Y m c (ix2 (row (tile n) r) j.2) else 0

theorem step_apply (c : Dev nD) (t : Fin cfg0.N) (acc : Vec Ideal S1024x1024 .f32) (i k : Fin 1024) :
    k0_pay2 acc (iblk m c 0 t) (iblk m c 1 t) (ix2 i k) = acc (ix2 i k) + term m c t.val (i, k) := by
  refine (pay2_apply _ _ _ i k).trans ?_
  simp only [blk0, blk1]
  unfold term
  rw [dif_pos (div_lt t)]

theorem reset (c : Dev nD) (t : Fin cfg0.N) (h0 : t.val % 4 = 0) (i k : Fin 1024) :
    (outsAt0 m c t.val t.isLt).2 (ix2 i k) = 0 + term m c t.val (i, k) := by
  rw [outsAt0_A m c t h0 (by omega)]
  frame_out
  refine (step_apply m c t _ i k).trans ?_
  congr 1
  pointwise [k0_pay1]

theorem step (c : Dev nD) (t : Fin cfg0.N) (h0 : ¬t.val % 4 = 0) (i k : Fin 1024) :
    (outsAt0 m c t.val t.isLt).2 (ix2 i k)
      = (outsAt0 m c (t.val - 1) (Nat.lt_of_le_of_lt (Nat.sub_le _ _) t.isLt)).2 (ix2 i k) + term m c t.val (i, k) := by
  by_cases h1 : t.val % 4 = 3
  · rw [outsAt0_C m c t h0 h1]
    frame_out
    refine (step_apply m c t _ i k).trans ?_
    simp only [read_unread_whole]
  · rw [outsAt0_B m c t h0 h1]
    frame_out
    refine (step_apply m c t _ i k).trans ?_
    simp only [read_unread_whole]

/-- After the last tile of a block the accumulator holds the whole sum. -/
theorem last (c : Dev nD) (t : Fin cfg0.N) (h1 : t.val % 4 = 3) (i k : Fin 1024) :
    (outsAt0 m c t.val t.isLt).2 (ix2 i k) = ∑ R : Fin 8192, X m c (ix2 R (col (t.val / 4) (div_lt t) i)) * Y m c (ix2 R k) := by
  have hs := Pipeline.eq_sum_of_reset_step_apply_of_mod (N := cfg0.N) (fun n h (j : Fin 1024 × Fin 1024) => (outsAt0 m c n h).2 (ix2 j.1 j.2)) 4 (fun _ => 0)
    (term m c) (fun t h j => reset m c t h j.1 j.2) (fun t h j => step m c t h j.1 j.2) t h1 (i, k)
  refine hs.trans ?_
  rw [zero_add, Finset.sum_range (n := 3 + 1) (fun x => term m c (4 * (t.val / 4) + x) (i, k)), sum_tiles 4 2048 8192 rfl]
  refine Finset.sum_congr rfl fun s _ => ?_
  have hq := div_lt t
  have hd : (4 * (t.val / 4) + s.val) / 4 = t.val / 4 := by omega
  have ht : tile (4 * (t.val / 4) + s.val) = s := Fin.ext (by show (4 * (t.val / 4) + s.val) % 4 = s.val; omega)
  unfold term
  rw [dif_pos (by omega)]
  simp only [ht, hd]
  rfl

theorem out_C (c : Dev nD) (t : Fin cfg0.N) (h0 : ¬t.val % 4 = 0) (h1 : t.val % 4 = 3) (i k : Fin 1024) :
    (outsAt0 m c t.val t.isLt).1 (ix2 i k) = (outsAt0 m c t.val t.isLt).2 (ix2 i k) := by
  rw [outsAt0_C m c t h0 h1]
  frame_out
  pointwise [k0_pay3]

theorem final (c : Dev nD) : (dats m 0 c).arrAt 2 cfg0.N = wArr m c := by
  refine (dats m 0 c).arrAt_eq_of_covers 2 _ (by decide +kernel) fun t hf y => ?_
  blk_simp
  rw [after0_2]
  have h1 : t.val % 4 = 3 := (flush0_2 t).mp hf
  obtain ⟨i, k, rfl⟩ : ∃ (i k : Fin 1024), y = ix2 i k := ⟨y 0, y 1, eq_ix2 y⟩
  have ey : ((View.whole main_v1).slice (win0_2.rect t)).emb (ix2 i k) = ix2 (col (t.val / 4) (div_lt t) i) k := by
    unfold col; blk_ext [idx t]
  rw [ey]
  exact (out_C m c t (by omega) h1 i k).trans (last m c t h1 i k)

/-- The run: the product, the arguments unchanged. -/
theorem run : θ_run defs (onTc (τ := τ) (main (F := Ideal))) ⟨m, fun _ => 0, ρ⟩ fun r => ∀ c : Dev nD,
      r.2.mem ((c : Thread nD τ).loc main_v1) = wArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((Value.final2 m c).symm.trans (final m c)), (h c).2⟩) (Value.run m ρ)

end Cert.TnIdeal.Hand

end
-- ==== Proof.Tn.lean ====
/- The weight gradient's plain product: its frames, and that the kernel's tiles sum to the transpose of the linear map. -/
module

public import proofs.«01_k».proof.Defs
public import proofs.«01_k».proof.Proof.Gen.Tn.Frame
public import proofs.«01_k».proof.Proof.Gen.TnRefIdeal.Run
public import proofs.«01_k».proof.Proof.TnKernel

@[expose] public section

set_option maxRecDepth 16384

noncomputable section

open Idealize.ShloMosaic Idealize.ShloMosaic.TcCoe Idealize.SL.Sem

namespace Cert.Proof.Tn

open Cert.TnRefIdeal Cert.TnRefIdeal.Gen Cert.TnRefIdeal.Value

theorem frame : Cert.quiescent_Tn := fun m ρ _ => Cert.Tn.Gen.frame m ρ
theorem frame_ideal : Cert.quiescent_TnIdeal := fun m ρ _ => Cert.TnIdeal.Gen.frame m ρ
theorem frame_ref : Cert.quiescent_TnRefIdeal := fun m ρ _ =>
  (θ_run Cert.TnRefIdeal.defs _ _).mono (fun r h => ⟨fun c => (h c).2,
      Idealize.ShloMosaic.sem_eq_zero_of_no_sems (by decide) r.2⟩)
    (Cert.TnRefIdeal.Value.run (F := Ideal) m ρ)

theorem algebraic : Cert.algebraic_TnIdeal_TnRefIdeal := by
  intro m g m' g' _ h
  refine ⟨fun c => TnIdeal.Hand.wArr m c, TnIdeal.Hand.run m g, ?_⟩
  refine (θ_run Cert.TnRefIdeal.defs _ _).mono (fun _ hr c => ?_) (Cert.TnRefIdeal.Value.run (F := Ideal) m' g')
  obtain ⟨h1, h5⟩ := hr c
  obtain ⟨e0, e1⟩ := h c
  refine ⟨h1.trans ?_, h5⟩
  funext i
  obtain ⟨r, k, rfl⟩ : ∃ (r : Fin 4096) (k : Fin 1024), i = ix2 r k := ⟨i 0, i 1, eq_ix2 i⟩
  pointwise
  simp only [e0, e1]
  exact Finset.sum_congr rfl fun R _ => mul_comm _ _

end Cert.Proof.Tn

end
-- ==== Proof.AdamKernel.lean ====
/- The optimiser's update: what the kernel leaves in its four results. -/
module

public import proofs.«01_k».proof.Proof.Gen.AdamIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamIdeal.Hand

open Cert.AdamIdeal Cert.AdamIdeal.Gen

variable (m : (ℓ : Loc nD τ sig) → Buf (Elt Ideal) ℓ) (ρ : Dev nD → PrngReg)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient's parts, the weight and the two moments. -/
abbrev L (c : Dev nD) : Vec Ideal S8x2048x1024 .bf16 := m ((c : Thread nD τ).loc main_arg0)
abbrev W (c : Dev nD) : Vec Ideal S2048x1024 .f32 := m ((c : Thread nD τ).loc main_arg1)
abbrev M (c : Dev nD) : Vec Ideal S2048x1024 .f32 := m ((c : Thread nD τ).loc main_arg2)
abbrev V2 (c : Dev nD) : Vec Ideal S2048x1024 .f32 := m ((c : Thread nD τ).loc main_arg3)

/-- One entry's two moments and its step, from the gradient and what was there. -/
def newM (g a : EReal) : EReal := Ideal.ofBits .f32 0x3F666666#32 * a + Ideal.ofBits .f32 0x3DCCCCCD#32 * g
def newV (g b : EReal) : EReal := Ideal.ofBits .f32 0x3F7FBE77#32 * b + Ideal.ofBits .f32 0x3A83126F#32 * (g * g)
def delta (g w a b : EReal) : EReal :=
  Ideal.ofBits .f32 0xBA83126F#32 * (Ideal.div (newM g a) (Ideal.ofBits .f32 0x3F26BD02#32)
      |> fun x => Ideal.div x (Ideal.sqrt (Ideal.div (newV g b) (Ideal.ofBits .f32 0x3C231ACC#32)) + Ideal.ofBits .f32 0x322BCC77#32)
        + Ideal.ofBits .f32 0x3C23D70A#32 * w)

def gArr (c : Dev nD) : Vec Ideal S2048x1024 .f32 := fun i => ∑ s : Fin 8, L m c (ix3 s (i 0) (i 1))
def dArr (c : Dev nD) : Vec Ideal S2048x1024 .f32 := fun i => delta (gArr m c i) (W m c i) (M m c i) (V2 m c i)
def mArr (c : Dev nD) : Vec Ideal S2048x1024 .f32 := fun i => newM (gArr m c i) (M m c i)
def vArr (c : Dev nD) : Vec Ideal S2048x1024 .f32 := fun i => newV (gArr m c i) (V2 m c i)

theorem lt8 (t : Fin cfg0.N) : t.val < 8 := by have h : cfg0.N = 8 := N_0; have := t.isLt; omega

/-- Row `r` of tile `t`. -/
def row (t : ℕ) (ht : t < 8) (r : Fin 256) : Fin 2048 := ⟨t * 256 + r.val, by omega⟩

theorem blk0 (c : Dev nD) (t : Fin cfg0.N) (s : Fin 8) (r : Fin 256) (k : Fin 1024) :
    (iblk m c 0 t : Vec Ideal S8x256x1024 .bf16) (ix3 s r k) = L m c (ix3 s (row t.val (lt8 t) r) k) := by
  unfold row; blk_ext [iblk, V_main_arg0, idx t]
theorem blk1 (c : Dev nD) (t : Fin cfg0.N) (r : Fin 256) (k : Fin 1024) :
    (iblk m c 1 t : Vec Ideal S256x1024 .f32) (ix2 r k) = W m c (ix2 (row t.val (lt8 t) r) k) := by
  unfold row; blk_ext [iblk, V_main_arg1, idx t]
theorem blk2 (c : Dev nD) (t : Fin cfg0.N) (r : Fin 256) (k : Fin 1024) :
    (iblk m c 2 t : Vec Ideal S256x1024 .f32) (ix2 r k) = M m c (ix2 (row t.val (lt8 t) r) k) := by
  unfold row; blk_ext [iblk, V_main_arg2, idx t]
theorem blk3 (c : Dev nD) (t : Fin cfg0.N) (r : Fin 256) (k : Fin 1024) :
    (iblk m c 3 t : Vec Ideal S256x1024 .f32) (ix2 r k) = V2 m c (ix2 (row t.val (lt8 t) r) k) := by
  unfold row; blk_ext [iblk, V_main_arg3, idx t]

section
variable (x : Vec Ideal S8x256x1024 .bf16) (w a b : Vec Ideal S256x1024 .f32)

/-- The sum of the gradient's parts. -/
theorem sum_apply (r : Fin 256) (k : Fin 1024) : k0_pay5 x w a b (ix2 r k) = ∑ s : Fin 8, x (ix3 s r k) := by
  unfold k0_pay5 k0_pay4
  rw [Fin.sum_univ_eight]
  pointwise

theorem out4_apply (r : Fin 256) (k : Fin 1024) : out0_4 x w a b (ix2 r k) = ∑ s : Fin 8, x (ix3 s r k) := by
  refine Eq.trans ?_ (sum_apply x w a b r k)
  frame_out
  rfl

theorem out5_apply (r : Fin 256) (k : Fin 1024) :
    out0_5 x w a b (ix2 r k) = delta (∑ s : Fin 8, x (ix3 s r k)) (w (ix2 r k)) (a (ix2 r k)) (b (ix2 r k)) := by
  rw [← sum_apply x w a b r k]
  generalize hg : k0_pay5 x w a b = g
  frame_out
  rw [hg]
  unfold k0_pay3 k0_pay2 k0_pay1
  pointwise
  rfl

theorem out6_apply (r : Fin 256) (k : Fin 1024) :
    out0_6 x w a b (ix2 r k) = newM (∑ s : Fin 8, x (ix3 s r k)) (a (ix2 r k)) := by
  rw [← sum_apply x w a b r k]
  generalize hg : k0_pay5 x w a b = g
  frame_out
  rw [hg]
  unfold k0_pay1
  pointwise
  rfl

theorem out7_apply (r : Fin 256) (k : Fin 1024) :
    out0_7 x w a b (ix2 r k) = newV (∑ s : Fin 8, x (ix3 s r k)) (b (ix2 r k)) := by
  rw [← sum_apply x w a b r k]
  generalize hg : k0_pay5 x w a b = g
  frame_out
  rw [hg]
  unfold k0_pay2
  pointwise
  rfl
end

theorem final4 (c : Dev nD) : (dats m 0 c).arrAt 4 cfg0.N = gArr m c := by
  refine (dats m 0 c).arrAt_eq_of_covers 4 _ (by decide +kernel) fun t hf y => ?_
  blk_simp
  rw [after0_4]
  obtain ⟨r, k, rfl⟩ : ∃ (r : Fin 256) (k : Fin 1024), y = ix2 r k := ⟨y 0, y 1, eq_ix2 y⟩
  have ey : ((View.whole main_v0_0).slice (win0_4.rect t)).emb (ix2 r k) = ix2 (row t.val (lt8 t) r) k := by
    unfold row; blk_ext [idx t]
  rw [ey]
  refine (out4_apply _ _ _ _ r k).trans ?_
  simp only [blk0]
  rfl

theorem final5 (c : Dev nD) : (dats m 0 c).arrAt 5 cfg0.N = dArr m c := by
  refine (dats m 0 c).arrAt_eq_of_covers 5 _ (by decide +kernel) fun t hf y => ?_
  blk_simp
  rw [after0_5]
  obtain ⟨r, k, rfl⟩ : ∃ (r : Fin 256) (k : Fin 1024), y = ix2 r k := ⟨y 0, y 1, eq_ix2 y⟩
  have ey : ((View.whole main_v0_1).slice (win0_5.rect t)).emb (ix2 r k) = ix2 (row t.val (lt8 t) r) k := by
    unfold row; blk_ext [idx t]
  rw [ey]
  refine (out5_apply _ _ _ _ r k).trans ?_
  simp only [blk0, blk1, blk2, blk3]
  rfl

theorem final6 (c : Dev nD) : (dats m 0 c).arrAt 6 cfg0.N = mArr m c := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨y 0, y 1, eq_ix2 y⟩
  have ey : ((View.whole main_v0_2).slice (win0_6.rect t)).emb (ix2 r k) = ix2 (row t.val (lt8 t) r) k := by
    unfold row; blk_ext [idx t]
  rw [ey]
  refine (out6_apply _ _ _ _ r k).trans ?_
  simp only [blk0, blk2]
  rfl

theorem final7 (c : Dev nD) : (dats m 0 c).arrAt 7 cfg0.N = vArr m c := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨y 0, y 1, eq_ix2 y⟩
  have ey : ((View.whole main_v0_3).slice (win0_7.rect t)).emb (ix2 r k) = ix2 (row t.val (lt8 t) r) k := by
    unfold row; blk_ext [idx t]
  rw [ey]
  refine (out7_apply _ _ _ _ r k).trans ?_
  simp only [blk0, blk3]
  rfl

/-- The run: the gradient, the step and the two moments, the arguments unchanged. -/
theorem run : θ_run defs (onTc (τ := τ) (main (F := Ideal))) ⟨m, fun _ => 0, ρ⟩ fun r => ∀ c : Dev nD,
      r.2.mem ((c : Thread nD τ).loc main_v0_0) = gArr m c
      ∧ r.2.mem ((c : Thread nD τ).loc main_v0_1) = dArr m c
      ∧ r.2.mem ((c : Thread nD τ).loc main_v0_2) = mArr m c
      ∧ r.2.mem ((c : Thread nD τ).loc main_v0_3) = vArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h4, h5, h6, h7, ha⟩ := h c
    exact ⟨h4.trans (final4 m c), h5.trans (final5 m c), h6.trans (final6 m c), h7.trans (final7 m c), ha⟩) (Value.run_blocks m ρ)

end Cert.AdamIdeal.Hand

end
-- ==== Proof.Adam.lean ====
/- The optimiser's update: its frames, and that it computes AdamW's step from the sum of the gradient's parts. -/
module

public import proofs.«01_k».proof.Defs
public import proofs.«01_k».proof.Proof.Gen.Adam.Frame
public import proofs.«01_k».proof.Proof.Gen.AdamRefIdeal.Run
public import proofs.«01_k».proof.Proof.AdamKernel

@[expose] public section

set_option maxRecDepth 16384

noncomputable section

open Idealize.ShloMosaic Idealize.ShloMosaic.TcCoe Idealize.SL.Sem

namespace Cert.Proof.Adam

open Cert.AdamRefIdeal Cert.AdamRefIdeal.Gen Cert.AdamRefIdeal.Value
open Cert.AdamIdeal.Hand (gArr dArr mArr vArr delta newM newV)

theorem frame : Cert.quiescent_Adam := fun m ρ _ => Cert.Adam.Gen.frame m ρ
theorem frame_ideal : Cert.quiescent_AdamIdeal := fun m ρ _ => Cert.AdamIdeal.Gen.frame m ρ
theorem frame_ref : Cert.quiescent_AdamRefIdeal := fun m ρ _ =>
  (θ_run Cert.AdamRefIdeal.defs _ _).mono (fun r h => ⟨fun c => (h c).2.2.2.2,
      Idealize.ShloMosaic.sem_eq_zero_of_no_sems (by decide) r.2⟩)
    (Cert.AdamRefIdeal.Value.run (F := Ideal) m ρ)

/-- The reference's sum of the parts. -/
theorem sum_apply (x : FVec Ideal S8x2048x1024 .bf16) (r : Fin 2048) (k : Fin 1024) :
    Host.reduceAdd (extf .f32 x bitsLt_bf16_f32) (constant S_ .f32 0x00000000#32) reducesTo_S8x2048x1024_S2048x1024_d0 h_S_ (ix2 r k)
      = ∑ s : Fin 8, x (ix3 s r k) := by
  pointwise

theorem algebraic : Cert.algebraic_AdamIdeal_AdamRefIdeal := by
  intro m g m' g' _ h
  refine ⟨fun c => gArr m c, fun c => dArr m c, fun c => mArr m c, fun c => vArr m c, AdamIdeal.Hand.run m g, ?_⟩
  refine (θ_run Cert.AdamRefIdeal.defs _ _).mono (fun _ hr c => ?_) (Cert.AdamRefIdeal.Value.run (F := Ideal) m' g')
  obtain ⟨h1, h2, h3, h4, ha⟩ := hr c
  obtain ⟨e0, e1, e2, e3⟩ := h c
  refine ⟨h1.trans ?_, h2.trans ?_, h3.trans ?_, h4.trans ?_, ha⟩ <;> funext i <;>
    obtain ⟨r, k, rfl⟩ : ∃ (r : Fin 2048) (k : Fin 1024), i = ix2 r k := ⟨i 0, i 1, eq_ix2 i⟩
  · rw [e0]
    exact sum_apply _ r k
  · pointwise [sum_apply]
    simp only [e0, e1, e2, e3]
    rfl
  · pointwise [sum_apply]
    simp only [e0, e2]
    rfl
  · pointwise [sum_apply]
    simp only [e0, e3]
    rfl

end Cert.Proof.Adam

end
-- ==== Proof.RopeKernel.lean ====
/- The rotary tables: what the kernel leaves in its two results. -/
module

public import proofs.«01_k».proof.Proof.Gen.RopeIdeal.Frame
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopeIdeal.Hand

open Cert.RopeIdeal Cert.RopeIdeal.Gen

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The positions. -/
abbrev Pos (c : Dev nD) : IVec S8192 32 := m ((c : Thread nD τ).loc main_arg0)

/-- The rotation's 32 frequencies. -/
def freq : FVec Ideal S32 .f32 :=
  Host.divf (broadcastInDim S32 ![] bcast_S_S32 (constant S_ .f32 0x3F800000#32)) (Host.powf (broadcastInDim S32 ![] bcast_S_S32 (constant S_ .f32 0x461C4000#32))
    (Host.divf (addf (broadcastInDim S32 ![] bcast_S_S32 (constant S_ .f32 0x00000000#32)) (mulf (broadcastInDim S32 ![] bcast_S_S32 (constant S_ .f32 0x40000000#32))
      (sitofp .f32 (iotaInDim S32 32 0)))) (broadcastInDim S32 ![] bcast_S_S32 (constant S_ .f32 0x42800000#32))))

def lane32 (l : Fin 128) : Fin 32 := ⟨l.val % 32, Nat.mod_lt _ (by decide)⟩

/-- The angle of one position at one lane. -/
def ang (p : BitVec 32) (l : Fin 128) : EReal := ((p.toInt : ℝ) : EReal) * freq (ix1 (lane32 l))
/-- The sine's entry, negative in the first half of a head. -/
def sgn (p : BitVec 32) (l : Fin 128) : EReal := if l.val % 64 < 32 then -Ideal.sin (ang p l) else Ideal.sin (ang p l)

def cosArr (c : Dev nD) : Vec Ideal S8192x128 .f32 := fun i => Ideal.cos (ang (Pos m c (ix1 (i 0))) (i 1))
def sinArr (c : Dev nD) : Vec Ideal S8192x128 .f32 := fun i => sgn (Pos m c (ix1 (i 0))) (i 1)

theorem lt8 (t : Fin cfg0.N) : t.val < 8 := by have h : cfg0.N = 8 := N_0; have := t.isLt; omega

/-- Row `r` of tile `t`. -/
def row (t : ℕ) (ht : t < 8) (r : Fin 1024) : Fin 8192 := ⟨t * 1024 + r.val, by omega⟩

/-! The column of positions and the row of frequencies which the host code prepares. -/

theorem V_pos (c : Dev nD) : V m c main_v11 = shapeCast S8192x1 (Pos m c) shapeCasts_S8192_S8192x1 := by
  unfold V
  after_reads_simp
  rfl

theorem V_freq (c : Dev nD) : V m c main_v15 = shapeCast S1x128 (shapeCast S128 (broadcastInDim S4x32 ![0, 1] bcast_S1x32_S4x32_0_1
    (shapeCast S1x32 freq shapeCasts_S32_S1x32)) shapeCasts_S4x32_S128) shapeCasts_S128_S1x128 := by
  unfold V
  after_reads_simp
  rfl

theorem pos_apply (c : Dev nD) (n : Fin 8192) : (V m c main_v11 : IVec S8192x1 32) (ix2 n 0) = Pos m c (ix1 n) := by
  rw [V_pos]
  pointwise

theorem freq_apply (c : Dev nD) (l : Fin 128) : (V m c main_v15 : FVec Ideal S1x128 .f32) (ix2 0 l) = freq (ix1 (lane32 l)) := by
  rw [V_freq]
  generalize freq = q
  pointwise
  rfl

theorem blk0 (c : Dev nD) (t : Fin cfg0.N) (r : Fin 1024) :
    (iblk m c 0 t : Vec Ideal S1024x1 .i32) (ix2 r 0) = Pos m c (ix1 (row t.val (lt8 t) r)) := by
  refine Eq.trans ?_ (pos_apply m c _)
  unfold row; blk_ext [iblk, idx t]

theorem blk1 (c : Dev nD) (t : Fin cfg0.N) (l : Fin 128) :
    (iblk m c 1 t : Vec Ideal S1x128 .f32) (ix2 0 l) = freq (ix1 (lane32 l)) := by
  refine Eq.trans ?_ (freq_apply m c _)
  blk_ext [iblk, idx t]

section
variable (x : Vec Ideal S1024x1 .i32) (q : Vec Ideal S1x128 .f32)

theorem ang_apply (r : Fin 1024) (l : Fin 128) : k0_pay1 x q (ix2 r l) = (((x (ix2 r 0)).toInt : ℝ) : EReal) * q (ix2 0 l) := by
  unfold k0_pay1
  pointwise
  rfl

theorem out2_apply (r : Fin 1024) (l : Fin 128) :
    out0_2 x q (ix2 r l) = Ideal.cos ((((x (ix2 r 0)).toInt : ℝ) : EReal) * q (ix2 0 l)) := by
  rw [← ang_apply x q r l]
  frame_out
  rfl

abbrev sixtyfour : BitVec 32 := Scalar.select (Scalar.cmpi .eq 64#32 0#32) 1#32 64#32
abbrev lanes : IVec S1024x128 32 := remsi (iota .tc S1024x128 32 [1] iota_S1024x128_d1_w32) (broadcast S1024x128 sixtyfour)
/-- The lanes of the first half of a head. -/
abbrev first : IVec S1024x128 1 :=
  cmpi .slt (select (andi (xori (cmpi .slt lanes (broadcast S1024x128 0#32))
      (broadcastTo S1024x128 (broadcast S1024x128 (Scalar.cmpi .slt sixtyfour 0#32)) broadcasts_S1024x128_S1024x128)) (cmpi .ne lanes (broadcast S1024x128 0#32)))
    (addi lanes (broadcast S1024x128 sixtyfour)) lanes) (broadcast S1024x128 32#32)

theorem first_apply (r : Fin 1024) (l : Fin 128) : first (ix2 r l) = if l.val % 64 < 32 then 1#1 else 0#1 := by
  pointwise
  revert l; decide +kernel

theorem out3_apply (r : Fin 1024) (l : Fin 128) :
    out0_3 x q (ix2 r l) = if l.val % 64 < 32 then -Ideal.sin ((((x (ix2 r 0)).toInt : ℝ) : EReal) * q (ix2 0 l))
      else Ideal.sin ((((x (ix2 r 0)).toInt : ℝ) : EReal) * q (ix2 0 l)) := by
  have hs : k0_pay3 x q = select first (subf (broadcast S1024x128 (Scalar.ofBits .f32 0x00000000#32)) (sin (k0_pay1 x q))) (sin (k0_pay1 x q)) := rfl
  have hf := first_apply r l
  rw [← ang_apply x q r l]
  generalize hg : k0_pay1 x q = g at hs ⊢
  frame_out
  rw [hs]
  show (if first (ix2 r l) = 1#1 then _ else _) = _
  rw [hf]
  pointwise
  split <;> simp
end

theorem final2 (c : Dev nD) : (dats m 0 c).arrAt 2 cfg0.N = cosArr m c := by
  refine (dats m 0 c).arrAt_eq_of_covers 2 _ (by decide +kernel) fun t hf y => ?_
  blk_simp
  rw [after0_2]
  obtain ⟨r, k, rfl⟩ : ∃ (r : Fin 1024) (k : Fin 128), y = ix2 r k := ⟨y 0, y 1, eq_ix2 y⟩
  have ey : ((View.whole main_v16_0).slice (win0_2.rect t)).emb (ix2 r k) = ix2 (row t.val (lt8 t) r) k := by
    unfold row; blk_ext [idx t]
  rw [ey]
  refine (out2_apply _ _ r k).trans ?_
  rw [blk0, blk1]
  rfl

theorem final3 (c : Dev nD) : (dats m 0 c).arrAt 3 cfg0.N = sinArr m c := by
  refine (dats m 0 c).arrAt_eq_of_covers 3 _ (by decide +kernel) fun t hf y => ?_
  blk_simp
  rw [after0_3]
  obtain ⟨r, k, rfl⟩ : ∃ (r : Fin 1024) (k : Fin 128), y = ix2 r k := ⟨y 0, y 1, eq_ix2 y⟩
  have ey : ((View.whole main_v16_1).slice (win0_3.rect t)).emb (ix2 r k) = ix2 (row t.val (lt8 t) r) k := by
    unfold row; blk_ext [idx t]
  rw [ey]
  refine (out3_apply _ _ r k).trans ?_
  rw [blk0, blk1]
  rfl

/-- The run: the two tables, the argument unchanged. -/
theorem run : θ_run defs (onTc (τ := τ) (main (F := Ideal))) ⟨m, fun _ => 0, ρ⟩ fun r => ∀ c : Dev nD,
      r.2.mem ((c : Thread nD τ).loc main_v16_0) = cosArr m c
      ∧ r.2.mem ((c : Thread nD τ).loc main_v16_1) = sinArr m c
      ∧ r.2.mem ((c : Thread nD τ).loc main_arg0) = m ((c : Thread nD τ).loc main_arg0) :=
  (θ_run defs _ _).mono (fun _ h c => ⟨((h c).1 2).trans (final2 m c), ((h c).1 3).trans (final3 m c),
    ((h c).2 main_arg0 (Pipeline.mem_restRefs_of main_arg0 (by decide) (by decide))).trans (V_main_arg0 m c)⟩) (run_main m ρ)

end Cert.RopeIdeal.Hand

end
-- ==== Proof.Rope.lean ====
/- The rotary tables: the frames, and that the kernel computes the cosines and signed sines of the angles. -/
module

public import proofs.«01_k».proof.Defs
public import proofs.«01_k».proof.Proof.Gen.Rope.Frame
public import proofs.«01_k».proof.Proof.Gen.RopeRefIdeal.Run
public import proofs.«01_k».proof.Proof.RopeKernel

@[expose] public section

set_option maxRecDepth 16384

noncomputable section

open Idealize.ShloMosaic Idealize.ShloMosaic.TcCoe Idealize.SL.Sem

namespace Cert.Proof.Rope

open Cert.RopeRefIdeal Cert.RopeRefIdeal.Gen Cert.RopeRefIdeal.Value
open Cert.RopeIdeal.Hand (cosArr sinArr ang sgn freq lane32)

theorem frame : Cert.quiescent_Rope := fun m ρ _ => Cert.Rope.Gen.frame m ρ
theorem frame_ideal : Cert.quiescent_RopeIdeal := fun m ρ _ => Cert.RopeIdeal.Gen.frame m ρ
theorem frame_ref : Cert.quiescent_RopeRefIdeal := fun m ρ _ =>
  (θ_run Cert.RopeRefIdeal.defs _ _).mono (fun r h => ⟨fun c => (h c).2.2,
      Idealize.ShloMosaic.sem_eq_zero_of_no_sems (by decide) r.2⟩)
    (Cert.RopeRefIdeal.Value.run (F := Ideal) m ρ)

/-- The reference's angles, one row to a position. -/
def angs (pos : IVec S8192 32) : FVec Ideal S8192x32 .f32 :=
  mulf (broadcastInDim S8192x32 ![0, 1] bcast_S8192x1_S8192x32_0_1 (broadcastInDim S8192x1 ![0] bcast_S8192_S8192x1_0 (sitofp .f32 pos)))
    (broadcastInDim S8192x32 ![0, 1] bcast_S1x32_S8192x32_0_1 (broadcastInDim S1x32 ![1] bcast_S32_S1x32_1 freq))

theorem angs_apply (pos : IVec S8192 32) (n : Fin 8192) (l : Fin 128) : angs pos (ix2 n (lane32 l)) = ang (pos (ix1 n)) l := by
  unfold angs ang
  generalize freq = q
  pointwise
  rfl

/-- Four tables of 32 lanes side by side, read at a lane. -/
theorem side_apply (a b : FVec Ideal S8192x32 .f32) (n : Fin 8192) (l : Fin 128) :
    concatenate S8192x128 1 [⟨S8192x32, a⟩, ⟨S8192x32, b⟩, ⟨S8192x32, a⟩, ⟨S8192x32, b⟩]
      concatenates_S8192x32_S8192x32_S8192x32_S8192x32_S8192x128_d1 (ix2 n l)
      = if l.val % 64 < 32 then a (ix2 n (lane32 l)) else b (ix2 n (lane32 l)) := by
  have key : ∀ (x : FVec Ideal S8192x32 .f32) (k k' : Fin 32), k = k' → x (ix2 n k) = x (ix2 n k') := by rintro _ _ _ rfl; rfl
  unfold lane32
  pointwise
  split
  · exact (key _ _ _ (Fin.ext (by simp; omega))).trans (if_pos (by omega)).symm
  split
  · exact (key _ _ _ (Fin.ext (by simp; omega))).trans (if_neg (by omega)).symm
  split
  · exact (key _ _ _ (Fin.ext (by simp; omega))).trans (if_pos (by omega)).symm
  · exact (key _ _ _ (Fin.ext (by simp; omega))).trans (if_neg (by omega)).symm

theorem algebraic : Cert.algebraic_RopeIdeal_RopeRefIdeal := by
  intro m g m' g' _ h
  refine ⟨fun c => cosArr m c, fun c => sinArr m c, RopeIdeal.Hand.run m g, ?_⟩
  refine (θ_run Cert.RopeRefIdeal.defs _ _).mono (fun _ hr c => ?_) (Cert.RopeRefIdeal.Value.run (F := Ideal) m' g')
  obtain ⟨h1, h2, ha⟩ := hr c
  have e0 := h c
  refine ⟨h1.trans ?_, h2.trans ?_, ha⟩ <;> funext i <;>
    obtain ⟨n, l, rfl⟩ : ∃ (n : Fin 8192) (l : Fin 128), i = ix2 n l := ⟨i 0, i 1, eq_ix2 i⟩ <;> rw [e0]
  · have key := angs_apply (m ((c.tc : Thread Cert.RopeIdeal.nD Cert.RopeIdeal.τ).loc Cert.RopeIdeal.main_arg0)) n l
    refine (side_apply (Host.cos (angs _)) (Host.cos (angs _)) n l).trans ?_
    rw [ite_self]
    exact congrArg Ideal.cos key
  · have key := angs_apply (m ((c.tc : Thread Cert.RopeIdeal.nD Cert.RopeIdeal.τ).loc Cert.RopeIdeal.main_arg0)) n l
    refine (side_apply (Host.negf (Host.sin (angs _))) (Host.sin (angs _)) n l).trans ?_
    show _ = sgn (m ((c.tc : Thread Cert.RopeIdeal.nD Cert.RopeIdeal.τ).loc Cert.RopeIdeal.main_arg0) (ix1 n)) l
    unfold sgn
    rw [← key]
    rfl

end Cert.Proof.Rope

end
-- ==== Proof.lean ====
/- The claims of Defs.lean, put together from the modules of the single parts. -/
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Loss
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Merge
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Inproj
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Ple
public import proofs.«01_k».proof.Proof.Gen.Mlp
public import proofs.«01_k».proof.Proof.Gen.MlpIdeal
public import proofs.«01_k».proof.Proof.Gen.MlpRefIdeal
public import proofs.«01_k».proof.Proof.Gen.MlpRefIdeal.Run
public import proofs.«01_k».proof.Proof.Mlp
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gmlp
public import proofs.«01_k».proof.Proof.Gen.Inprojf
public import proofs.«01_k».proof.Proof.Gen.Inprojf.Frame
public import proofs.«01_k».proof.Proof.Gen.InprojfIdeal
public import proofs.«01_k».proof.Proof.Gen.InprojfIdeal.Frame
public import proofs.«01_k».proof.Proof.Gen.InprojfIdeal.Value
public import proofs.«01_k».proof.Proof.Gen.InprojfRefIdeal
public import proofs.«01_k».proof.Proof.Gen.InprojfRefIdeal.Run
public import proofs.«01_k».proof.Proof.Inprojf
public import proofs.«01_k».proof.Proof.Gen.Plef
public import proofs.«01_k».proof.Proof.Gen.Plef.Frame
public import proofs.«01_k».proof.Proof.Gen.PlefIdeal
public import proofs.«01_k».proof.Proof.Gen.PlefIdeal.Frame
public import proofs.«01_k».proof.Proof.Gen.PlefIdeal.Value
public import proofs.«01_k».proof.Proof.Gen.PlefRefIdeal
public import proofs.«01_k».proof.Proof.Gen.PlefRefIdeal.Run
public import proofs.«01_k».proof.Proof.Plef
public import proofs.«01_k».proof.Proof.Gen.Mergef
public import proofs.«01_k».proof.Proof.Gen.Mergef.Frame
public import proofs.«01_k».proof.Proof.Gen.MergefIdeal
public import proofs.«01_k».proof.Proof.Gen.MergefIdeal.Frame
public import proofs.«01_k».proof.Proof.Gen.MergefIdeal.Value
public import proofs.«01_k».proof.Proof.Gen.MergefRefIdeal
public import proofs.«01_k».proof.Proof.Gen.MergefRefIdeal.Run
public import proofs.«01_k».proof.Proof.Mergef
public import proofs.«01_k».proof.Proof.Gen.Mlpf
public import proofs.«01_k».proof.Proof.Gen.MlpfIdeal
public import proofs.«01_k».proof.Proof.Gen.MlpfRefIdeal
public import proofs.«01_k».proof.Proof.Gen.MlpfRefIdeal.Run
public import proofs.«01_k».proof.Proof.Mlpf
public import proofs.«01_k».proof.Proof.Gen.Ssmp
public import proofs.«01_k».proof.Proof.Gen.Ssmp.Frame
public import proofs.«01_k».proof.Proof.Gen.SsmpIdeal
public import proofs.«01_k».proof.Proof.Gen.SsmpIdeal.Frame
public import proofs.«01_k».proof.Proof.Gen.SsmpIdeal.Value
public import proofs.«01_k».proof.Proof.Gen.SsmpRefIdeal
public import proofs.«01_k».proof.Proof.Gen.SsmpRefIdeal.Run
public import proofs.«01_k».proof.Proof.Ssmp
public import proofs.«01_k».proof.Proof.Gen.Gmlpf
public import proofs.«01_k».proof.Proof.Gen.Gmlpf.Frame
public import proofs.«01_k».proof.Proof.Gen.GmlpfIdeal
public import proofs.«01_k».proof.Proof.Gen.GmlpfIdeal.Frame
public import proofs.«01_k».proof.Proof.Gen.GmlpfIdeal.Value
public import proofs.«01_k».proof.Proof.Gen.GmlpfRefIdeal
public import proofs.«01_k».proof.Proof.Gen.GmlpfRefIdeal.Run
public import proofs.«01_k».proof.Proof.Gmlpf
public import proofs.«01_k».proof.Proof.Gen.Attnf
public import proofs.«01_k».proof.Proof.Gen.Attnf.Frame
public import proofs.«01_k».proof.Proof.Gen.AttnfIdeal
public import proofs.«01_k».proof.Proof.Gen.AttnfIdeal.Frame
public import proofs.«01_k».proof.Proof.Gen.AttnfIdeal.Value
public import proofs.«01_k».proof.Proof.Gen.AttnfRefIdeal
public import proofs.«01_k».proof.Proof.Gen.AttnfRefIdeal.Run
public import proofs.«01_k».proof.Proof.Attnf
public import proofs.«01_k».proof.Proof.Gen.Tn
public import proofs.«01_k».proof.Proof.Gen.Tn.Frame
public import proofs.«01_k».proof.Proof.Gen.TnIdeal
public import proofs.«01_k».proof.Proof.Gen.TnIdeal.Frame
public import proofs.«01_k».proof.Proof.Gen.TnIdeal.Value
public import proofs.«01_k».proof.Proof.Gen.TnRefIdeal
public import proofs.«01_k».proof.Proof.Gen.TnRefIdeal.Run
public import proofs.«01_k».proof.Proof.Tn
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Adam
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeRefIdeal
public import proofs.«01_k».proof.Proof.Gen.RopeRefIdeal.Run
public import proofs.«01_k».proof.Proof.Rope
public import Idealize.ShloMosaic.Adequacy
public import Idealize.ShloMosaic.Init

@[expose] public section

noncomputable section

namespace Cert.Proof

theorem claim : Cert.Claim :=
  ⟨Cert.Loss.Gen.facts, Cert.LossIdeal.Gen.facts, Cert.LossRefIdeal.Gen.facts, Cert.Merge.Gen.facts, Cert.MergeIdeal.Gen.facts,
    Cert.MergeRefIdeal.Gen.facts, Cert.Inproj.Gen.facts, Cert.InprojIdeal.Gen.facts, Cert.InprojRefIdeal.Gen.facts, Cert.Ple.Gen.facts,
    Cert.PleIdeal.Gen.facts, Cert.PleRefIdeal.Gen.facts, Cert.Mlp.Gen.facts, Cert.MlpIdeal.Gen.facts, Cert.MlpRefIdeal.Gen.facts, Cert.Gmlp.Gen.facts,
    Cert.GmlpIdeal.Gen.facts, Cert.GmlpRefIdeal.Gen.facts, Cert.Inprojf.Gen.facts, Cert.InprojfIdeal.Gen.facts, Cert.InprojfRefIdeal.Gen.facts,
    Cert.Plef.Gen.facts, Cert.PlefIdeal.Gen.facts, Cert.PlefRefIdeal.Gen.facts, Cert.Mergef.Gen.facts, Cert.MergefIdeal.Gen.facts,
    Cert.MergefRefIdeal.Gen.facts, Cert.Mlpf.Gen.facts, Cert.MlpfIdeal.Gen.facts, Cert.MlpfRefIdeal.Gen.facts, Cert.Ssmp.Gen.facts,
    Cert.SsmpIdeal.Gen.facts, Cert.SsmpRefIdeal.Gen.facts, Cert.Gmlpf.Gen.facts, Cert.GmlpfIdeal.Gen.facts, Cert.GmlpfRefIdeal.Gen.facts,
    Cert.Attnf.Gen.facts, Cert.AttnfIdeal.Gen.facts, Cert.AttnfRefIdeal.Gen.facts, Cert.Tn.Gen.facts, Cert.TnIdeal.Gen.facts, Cert.TnRefIdeal.Gen.facts,
    Cert.Adam.Gen.facts, Cert.AdamIdeal.Gen.facts, Cert.AdamRefIdeal.Gen.facts, Cert.Rope.Gen.facts, Cert.RopeIdeal.Gen.facts,
    Cert.RopeRefIdeal.Gen.facts, Merge.pre_facts, Inproj.pre_facts, Ple.pre_facts, Mlp.pre_facts, Gmlp.pre_facts, Ssmp.pre_facts, Attnf.pre_facts,
    Loss.frame, Loss.frame_ideal, Loss.frame_ref, Merge.frame, Merge.frame_ideal, Merge.frame_ideal_pre, Merge.frame_ref, Merge.frame_ref_pre,
    Inproj.frame, Inproj.frame_ideal, Inproj.frame_ideal_pre, Inproj.frame_ref, Inproj.frame_ref_pre, Ple.frame, Ple.frame_ideal, Ple.frame_ideal_pre,
    Ple.frame_ref, Ple.frame_ref_pre, Mlp.frame, Mlp.frame_ideal, Mlp.frame_ideal_pre, Mlp.frame_ref, Mlp.frame_ref_pre, Gmlp.frame, Gmlp.frame_ideal,
    Gmlp.frame_ideal_pre, Gmlp.frame_ref, Gmlp.frame_ref_pre, Inprojf.frame, Inprojf.frame_ideal, Inprojf.frame_ref, Plef.frame, Plef.frame_ideal,
    Plef.frame_ref, Mergef.frame, Mergef.frame_ideal, Mergef.frame_ref, Mlpf.frame, Mlpf.frame_ideal, Mlpf.frame_ref, Ssmp.frame, Ssmp.frame_ideal,
    Ssmp.frame_ideal_pre, Ssmp.frame_ref, Ssmp.frame_ref_pre, Gmlpf.frame, Gmlpf.frame_ideal, Gmlpf.frame_ref, Attnf.frame, Attnf.frame_ideal,
    Attnf.frame_ideal_pre, Attnf.frame_ref, Attnf.frame_ref_pre, Tn.frame, Tn.frame_ideal, Tn.frame_ref, Adam.frame, Adam.frame_ideal, Adam.frame_ref,
    Rope.frame, Rope.frame_ideal, Rope.frame_ref, trivial, Loss.algebraic, trivial, Merge.algebraic, trivial, Inproj.algebraic, trivial, Ple.algebraic,
    trivial, Mlp.algebraic, Gmlp.preserves, Gmlp.algebraic, trivial, Inprojf.algebraic, trivial, Plef.algebraic, trivial, Mergef.algebraic, trivial,
    Mlpf.algebraic, trivial, Ssmp.algebraic, Gmlpf.preserves, Gmlpf.algebraic, Attnf.preserves, Attnf.algebraic, trivial, Tn.algebraic, trivial,
    Adam.algebraic, trivial, Rope.algebraic⟩

end Cert.Proof

end
